-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ExpertUp [hPre_expert_range : Cert.Pre_expert_range.Facts] (m : (ℓ : Loc Cert.ExpertUp.nD Cert.ExpertUp.τ Cert.ExpertUp.sig) → Buf (Elt Bits) ℓ) : Prop :=
  ∀ c : Dev Cert.ExpertUp.nD,
    (Cert.Pre_expert_range.fn (F := Bits) (m ((c.tc : Thread Cert.ExpertUp.nD Cert.ExpertUp.τ).loc Cert.ExpertUp.main_arg0)) (m ((c.tc : Thread Cert.ExpertUp.nD Cert.ExpertUp.τ).loc Cert.ExpertUp.main_arg1)) (m ((c.tc : Thread Cert.ExpertUp.nD Cert.ExpertUp.τ).loc Cert.ExpertUp.main_arg2)) (m ((c.tc : Thread Cert.ExpertUp.nD Cert.ExpertUp.τ).loc Cert.ExpertUp.main_arg3)) (m ((c.tc : Thread Cert.ExpertUp.nD Cert.ExpertUp.τ).loc Cert.ExpertUp.main_arg4))) = (fun _ => 1#1)

def Pre_ExpertUpIdeal [hPre_expert_range : Cert.Pre_expert_range.Facts] (m : (ℓ : Loc Cert.ExpertUpIdeal.nD Cert.ExpertUpIdeal.τ Cert.ExpertUpIdeal.sig) → Buf (Elt Ideal) ℓ) : Prop :=
  ∀ c : Dev Cert.ExpertUpIdeal.nD,
    (Cert.Pre_expert_range.fn (F := Ideal) (m ((c.tc : Thread Cert.ExpertUpIdeal.nD Cert.ExpertUpIdeal.τ).loc Cert.ExpertUpIdeal.main_arg0)) (m ((c.tc : Thread Cert.ExpertUpIdeal.nD Cert.ExpertUpIdeal.τ).loc Cert.ExpertUpIdeal.main_arg1)) (m ((c.tc : Thread Cert.ExpertUpIdeal.nD Cert.ExpertUpIdeal.τ).loc Cert.ExpertUpIdeal.main_arg2)) (m ((c.tc : Thread Cert.ExpertUpIdeal.nD Cert.ExpertUpIdeal.τ).loc Cert.ExpertUpIdeal.main_arg3)) (m ((c.tc : Thread Cert.ExpertUpIdeal.nD Cert.ExpertUpIdeal.τ).loc Cert.ExpertUpIdeal.main_arg4))) = (fun _ => 1#1)

def Pre_ExpertUpReferenceIdeal (m : (ℓ : Loc Cert.ExpertUpReferenceIdeal.nD Cert.ExpertUpReferenceIdeal.τ Cert.ExpertUpReferenceIdeal.sig) → Buf (Elt Ideal) ℓ) : Prop :=
  True

def Pre_ExpertUpReferenceIdeal_expert_range [hPre_expert_range : Cert.Pre_expert_range.Facts] (m : (ℓ : Loc Cert.ExpertUpReferenceIdeal.nD Cert.ExpertUpReferenceIdeal.τ Cert.ExpertUpReferenceIdeal.sig) → Buf (Elt Ideal) ℓ) : Prop :=
  ∀ c : Dev Cert.ExpertUpReferenceIdeal.nD,
    (Cert.Pre_expert_range.fn (F := Ideal) (m ((c.tc : Thread Cert.ExpertUpReferenceIdeal.nD Cert.ExpertUpReferenceIdeal.τ).loc Cert.ExpertUpReferenceIdeal.main_arg0)) (m ((c.tc : Thread Cert.ExpertUpReferenceIdeal.nD Cert.ExpertUpReferenceIdeal.τ).loc Cert.ExpertUpReferenceIdeal.main_arg1)) (m ((c.tc : Thread Cert.ExpertUpReferenceIdeal.nD Cert.ExpertUpReferenceIdeal.τ).loc Cert.ExpertUpReferenceIdeal.main_arg2)) (m ((c.tc : Thread Cert.ExpertUpReferenceIdeal.nD Cert.ExpertUpReferenceIdeal.τ).loc Cert.ExpertUpReferenceIdeal.main_arg3)) (m ((c.tc : Thread Cert.ExpertUpReferenceIdeal.nD Cert.ExpertUpReferenceIdeal.τ).loc Cert.ExpertUpReferenceIdeal.main_arg4))) = (fun _ => 1#1)

def Pre_ExpertDown [hPre_down_range : Cert.Pre_down_range.Facts] (m : (ℓ : Loc Cert.ExpertDown.nD Cert.ExpertDown.τ Cert.ExpertDown.sig) → Buf (Elt Bits) ℓ) : Prop :=
  ∀ c : Dev Cert.ExpertDown.nD,
    (Cert.Pre_down_range.fn (F := Bits) (m ((c.tc : Thread Cert.ExpertDown.nD Cert.ExpertDown.τ).loc Cert.ExpertDown.main_arg0)) (m ((c.tc : Thread Cert.ExpertDown.nD Cert.ExpertDown.τ).loc Cert.ExpertDown.main_arg1)) (m ((c.tc : Thread Cert.ExpertDown.nD Cert.ExpertDown.τ).loc Cert.ExpertDown.main_arg2)) (m ((c.tc : Thread Cert.ExpertDown.nD Cert.ExpertDown.τ).loc Cert.ExpertDown.main_arg3)) (m ((c.tc : Thread Cert.ExpertDown.nD Cert.ExpertDown.τ).loc Cert.ExpertDown.main_arg4))) = (fun _ => 1#1)

def Pre_ExpertDownIdeal [hPre_down_range : Cert.Pre_down_range.Facts] (m : (ℓ : Loc Cert.ExpertDownIdeal.nD Cert.ExpertDownIdeal.τ Cert.ExpertDownIdeal.sig) → Buf (Elt Ideal) ℓ) : Prop :=
  ∀ c : Dev Cert.ExpertDownIdeal.nD,
    (Cert.Pre_down_range.fn (F := Ideal) (m ((c.tc : Thread Cert.ExpertDownIdeal.nD Cert.ExpertDownIdeal.τ).loc Cert.ExpertDownIdeal.main_arg0)) (m ((c.tc : Thread Cert.ExpertDownIdeal.nD Cert.ExpertDownIdeal.τ).loc Cert.ExpertDownIdeal.main_arg1)) (m ((c.tc : Thread Cert.ExpertDownIdeal.nD Cert.ExpertDownIdeal.τ).loc Cert.ExpertDownIdeal.main_arg2)) (m ((c.tc : Thread Cert.ExpertDownIdeal.nD Cert.ExpertDownIdeal.τ).loc Cert.ExpertDownIdeal.main_arg3)) (m ((c.tc : Thread Cert.ExpertDownIdeal.nD Cert.ExpertDownIdeal.τ).loc Cert.ExpertDownIdeal.main_arg4))) = (fun _ => 1#1)

def Pre_ExpertDownReferenceIdeal (m : (ℓ : Loc Cert.ExpertDownReferenceIdeal.nD Cert.ExpertDownReferenceIdeal.τ Cert.ExpertDownReferenceIdeal.sig) → Buf (Elt Ideal) ℓ) : Prop :=
  True

def Pre_ExpertDownReferenceIdeal_down_range [hPre_down_range : Cert.Pre_down_range.Facts] (m : (ℓ : Loc Cert.ExpertDownReferenceIdeal.nD Cert.ExpertDownReferenceIdeal.τ Cert.ExpertDownReferenceIdeal.sig) → Buf (Elt Ideal) ℓ) : Prop :=
  ∀ c : Dev Cert.ExpertDownReferenceIdeal.nD,
    (Cert.Pre_down_range.fn (F := Ideal) (m ((c.tc : Thread Cert.ExpertDownReferenceIdeal.nD Cert.ExpertDownReferenceIdeal.τ).loc Cert.ExpertDownReferenceIdeal.main_arg0)) (m ((c.tc : Thread Cert.ExpertDownReferenceIdeal.nD Cert.ExpertDownReferenceIdeal.τ).loc Cert.ExpertDownReferenceIdeal.main_arg1)) (m ((c.tc : Thread Cert.ExpertDownReferenceIdeal.nD Cert.ExpertDownReferenceIdeal.τ).loc Cert.ExpertDownReferenceIdeal.main_arg2)) (m ((c.tc : Thread Cert.ExpertDownReferenceIdeal.nD Cert.ExpertDownReferenceIdeal.τ).loc Cert.ExpertDownReferenceIdeal.main_arg3)) (m ((c.tc : Thread Cert.ExpertDownReferenceIdeal.nD Cert.ExpertDownReferenceIdeal.τ).loc Cert.ExpertDownReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_WideProj (m : (ℓ : Loc Cert.WideProj.nD Cert.WideProj.τ Cert.WideProj.sig) → Buf (Elt Bits) ℓ) : Prop :=
  True

def Pre_WideProjIdeal (m : (ℓ : Loc Cert.WideProjIdeal.nD Cert.WideProjIdeal.τ Cert.WideProjIdeal.sig) → Buf (Elt Ideal) ℓ) : Prop :=
  True

def Pre_WideProjReferenceIdeal (m : (ℓ : Loc Cert.WideProjReferenceIdeal.nD Cert.WideProjReferenceIdeal.τ Cert.WideProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_HyenaOut (m : (ℓ : Loc Cert.HyenaOut.nD Cert.HyenaOut.τ Cert.HyenaOut.sig) → Buf (Elt Bits) ℓ) : Prop :=
  True

def Pre_HyenaOutIdeal (m : (ℓ : Loc Cert.HyenaOutIdeal.nD Cert.HyenaOutIdeal.τ Cert.HyenaOutIdeal.sig) → Buf (Elt Ideal) ℓ) : Prop :=
  True

def Pre_HyenaOutReferenceIdeal (m : (ℓ : Loc Cert.HyenaOutReferenceIdeal.nD Cert.HyenaOutReferenceIdeal.τ Cert.HyenaOutReferenceIdeal.sig) → Buf (Elt Ideal) ℓ) : Prop :=
  True

def Pre_RProj (m : (ℓ : Loc Cert.RProj.nD Cert.RProj.τ Cert.RProj.sig) → Buf (Elt Bits) ℓ) : Prop :=
  True

def Pre_RProjIdeal (m : (ℓ : Loc Cert.RProjIdeal.nD Cert.RProjIdeal.τ Cert.RProjIdeal.sig) → Buf (Elt Ideal) ℓ) : Prop :=
  True

def Pre_RProjReferenceIdeal (m : (ℓ : Loc Cert.RProjReferenceIdeal.nD Cert.RProjReferenceIdeal.τ Cert.RProjReferenceIdeal.sig) → Buf (Elt Ideal) ℓ) : Prop :=
  True

def Pre_KeyProj (m : (ℓ : Loc Cert.KeyProj.nD Cert.KeyProj.τ Cert.KeyProj.sig) → Buf (Elt Bits) ℓ) : Prop :=
  True

def Pre_KeyProjIdeal (m : (ℓ : Loc Cert.KeyProjIdeal.nD Cert.KeyProjIdeal.τ Cert.KeyProjIdeal.sig) → Buf (Elt Ideal) ℓ) : Prop :=
  True

def Pre_KeyProjReferenceIdeal (m : (ℓ : Loc Cert.KeyProjReferenceIdeal.nD Cert.KeyProjReferenceIdeal.τ Cert.KeyProjReferenceIdeal.sig) → Buf (Elt Ideal) ℓ) : Prop :=
  True

def Pre_ValProj (m : (ℓ : Loc Cert.ValProj.nD Cert.ValProj.τ Cert.ValProj.sig) → Buf (Elt Bits) ℓ) : Prop :=
  True

def Pre_ValProjIdeal (m : (ℓ : Loc Cert.ValProjIdeal.nD Cert.ValProjIdeal.τ Cert.ValProjIdeal.sig) → Buf (Elt Ideal) ℓ) : Prop :=
  True

def Pre_ValProjReferenceIdeal (m : (ℓ : Loc Cert.ValProjReferenceIdeal.nD Cert.ValProjReferenceIdeal.τ Cert.ValProjReferenceIdeal.sig) → Buf (Elt Ideal) ℓ) : Prop :=
  True

def Pre_LowProj (m : (ℓ : Loc Cert.LowProj.nD Cert.LowProj.τ Cert.LowProj.sig) → Buf (Elt Bits) ℓ) : Prop :=
  True

def Pre_LowProjIdeal (m : (ℓ : Loc Cert.LowProjIdeal.nD Cert.LowProjIdeal.τ Cert.LowProjIdeal.sig) → Buf (Elt Ideal) ℓ) : Prop :=
  True

def Pre_LowProjReferenceIdeal (m : (ℓ : Loc Cert.LowProjReferenceIdeal.nD Cert.LowProjReferenceIdeal.τ Cert.LowProjReferenceIdeal.sig) → Buf (Elt Ideal) ℓ) : Prop :=
  True

def Pre_GkProj (m : (ℓ : Loc Cert.GkProj.nD Cert.GkProj.τ Cert.GkProj.sig) → Buf (Elt Bits) ℓ) : Prop :=
  True

def Pre_GkProjIdeal (m : (ℓ : Loc Cert.GkProjIdeal.nD Cert.GkProjIdeal.τ Cert.GkProjIdeal.sig) → Buf (Elt Ideal) ℓ) : Prop :=
  True

def Pre_GkProjReferenceIdeal (m : (ℓ : Loc Cert.GkProjReferenceIdeal.nD Cert.GkProjReferenceIdeal.τ Cert.GkProjReferenceIdeal.sig) → Buf (Elt Ideal) ℓ) : Prop :=
  True

def Pre_GateIn (m : (ℓ : Loc Cert.GateIn.nD Cert.GateIn.τ Cert.GateIn.sig) → Buf (Elt Bits) ℓ) : Prop :=
  True

def Pre_GateInIdeal (m : (ℓ : Loc Cert.GateInIdeal.nD Cert.GateInIdeal.τ Cert.GateInIdeal.sig) → Buf (Elt Ideal) ℓ) : Prop :=
  True

def Pre_GateInReferenceIdeal (m : (ℓ : Loc Cert.GateInReferenceIdeal.nD Cert.GateInReferenceIdeal.τ Cert.GateInReferenceIdeal.sig) → Buf (Elt Ideal) ℓ) : Prop :=
  True

def Pre_GateOut (m : (ℓ : Loc Cert.GateOut.nD Cert.GateOut.τ Cert.GateOut.sig) → Buf (Elt Bits) ℓ) : Prop :=
  True

def Pre_GateOutIdeal (m : (ℓ : Loc Cert.GateOutIdeal.nD Cert.GateOutIdeal.τ Cert.GateOutIdeal.sig) → Buf (Elt Ideal) ℓ) : Prop :=
  True

def Pre_GateOutReferenceIdeal (m : (ℓ : Loc Cert.GateOutReferenceIdeal.nD Cert.GateOutReferenceIdeal.τ Cert.GateOutReferenceIdeal.sig) → Buf (Elt Ideal) ℓ) : Prop :=
  True

def Pre_DecayIn (m : (ℓ : Loc Cert.DecayIn.nD Cert.DecayIn.τ Cert.DecayIn.sig) → Buf (Elt Bits) ℓ) : Prop :=
  True

def Pre_DecayInIdeal (m : (ℓ : Loc Cert.DecayInIdeal.nD Cert.DecayInIdeal.τ Cert.DecayInIdeal.sig) → Buf (Elt Ideal) ℓ) : Prop :=
  True

def Pre_DecayInReferenceIdeal (m : (ℓ : Loc Cert.DecayInReferenceIdeal.nD Cert.DecayInReferenceIdeal.τ Cert.DecayInReferenceIdeal.sig) → Buf (Elt Ideal) ℓ) : Prop :=
  True

def Pre_RateIn (m : (ℓ : Loc Cert.RateIn.nD Cert.RateIn.τ Cert.RateIn.sig) → Buf (Elt Bits) ℓ) : Prop :=
  True

def Pre_RateInIdeal (m : (ℓ : Loc Cert.RateInIdeal.nD Cert.RateInIdeal.τ Cert.RateInIdeal.sig) → Buf (Elt Ideal) ℓ) : Prop :=
  True

def Pre_RateInReferenceIdeal (m : (ℓ : Loc Cert.RateInReferenceIdeal.nD Cert.RateInReferenceIdeal.τ Cert.RateInReferenceIdeal.sig) → Buf (Elt Ideal) ℓ) : Prop :=
  True

def Pre_RateOut (m : (ℓ : Loc Cert.RateOut.nD Cert.RateOut.τ Cert.RateOut.sig) → Buf (Elt Bits) ℓ) : Prop :=
  True

def Pre_RateOutIdeal (m : (ℓ : Loc Cert.RateOutIdeal.nD Cert.RateOutIdeal.τ Cert.RateOutIdeal.sig) → Buf (Elt Ideal) ℓ) : Prop :=
  True

def Pre_RateOutReferenceIdeal (m : (ℓ : Loc Cert.RateOutReferenceIdeal.nD Cert.RateOutReferenceIdeal.τ Cert.RateOutReferenceIdeal.sig) → Buf (Elt Ideal) ℓ) : Prop :=
  True

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptReferenceIdeal (m : (ℓ : Loc Cert.NormPromptReferenceIdeal.nD Cert.NormPromptReferenceIdeal.τ Cert.NormPromptReferenceIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleReferenceIdeal (m : (ℓ : Loc Cert.NormSampleReferenceIdeal.nD Cert.NormSampleReferenceIdeal.τ Cert.NormSampleReferenceIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModReferenceIdeal (m : (ℓ : Loc Cert.NormModReferenceIdeal.nD Cert.NormModReferenceIdeal.τ Cert.NormModReferenceIdeal.sig) → Buf (Elt Ideal) ℓ) : Prop :=
  True

def Pre_NormRw (m : (ℓ : Loc Cert.NormRw.nD Cert.NormRw.τ Cert.NormRw.sig) → Buf (Elt Bits) ℓ) : Prop :=
  True

def Pre_NormRwIdeal (m : (ℓ : Loc Cert.NormRwIdeal.nD Cert.NormRwIdeal.τ Cert.NormRwIdeal.sig) → Buf (Elt Ideal) ℓ) : Prop :=
  True

def Pre_NormRwReferenceIdeal (m : (ℓ : Loc Cert.NormRwReferenceIdeal.nD Cert.NormRwReferenceIdeal.τ Cert.NormRwReferenceIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnReferenceIdeal (m : (ℓ : Loc Cert.HgrnReferenceIdeal.nD Cert.HgrnReferenceIdeal.τ Cert.HgrnReferenceIdeal.sig) → Buf (Elt Ideal) ℓ) : Prop :=
  True

def Pre_HgrnBack (m : (ℓ : Loc Cert.HgrnBack.nD Cert.HgrnBack.τ Cert.HgrnBack.sig) → Buf (Elt Bits) ℓ) : Prop :=
  True

def Pre_HgrnBackIdeal (m : (ℓ : Loc Cert.HgrnBackIdeal.nD Cert.HgrnBackIdeal.τ Cert.HgrnBackIdeal.sig) → Buf (Elt Ideal) ℓ) : Prop :=
  True

def Pre_HgrnBackReferenceIdeal (m : (ℓ : Loc Cert.HgrnBackReferenceIdeal.nD Cert.HgrnBackReferenceIdeal.τ Cert.HgrnBackReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_ExpertUp [hExpertUp : Cert.ExpertUp.Facts] [hPre_expert_range : Cert.Pre_expert_range.Facts] : Prop :=
  ∀ (m : (ℓ : Loc Cert.ExpertUp.nD Cert.ExpertUp.τ Cert.ExpertUp.sig) → Buf (Elt Bits) ℓ) (g : Dev Cert.ExpertUp.nD → PrngReg), Pre_ExpertUp m →
    θ_run (Cert.ExpertUp.defs (F := Bits)) (onTc (τ := Cert.ExpertUp.τ) (Cert.ExpertUp.main (F := Bits))) ⟨m, fun _ => 0, g⟩ (fun r => (∀ c : Dev Cert.ExpertUp.nD,
      r.2.mem ((c.tc : Thread Cert.ExpertUp.nD Cert.ExpertUp.τ).loc Cert.ExpertUp.main_arg0) = m ((c.tc : Thread Cert.ExpertUp.nD Cert.ExpertUp.τ).loc Cert.ExpertUp.main_arg0)
      ∧ r.2.mem ((c.tc : Thread Cert.ExpertUp.nD Cert.ExpertUp.τ).loc Cert.ExpertUp.main_arg1) = m ((c.tc : Thread Cert.ExpertUp.nD Cert.ExpertUp.τ).loc Cert.ExpertUp.main_arg1)
      ∧ r.2.mem ((c.tc : Thread Cert.ExpertUp.nD Cert.ExpertUp.τ).loc Cert.ExpertUp.main_arg2) = m ((c.tc : Thread Cert.ExpertUp.nD Cert.ExpertUp.τ).loc Cert.ExpertUp.main_arg2)
      ∧ r.2.mem ((c.tc : Thread Cert.ExpertUp.nD Cert.ExpertUp.τ).loc Cert.ExpertUp.main_arg3) = m ((c.tc : Thread Cert.ExpertUp.nD Cert.ExpertUp.τ).loc Cert.ExpertUp.main_arg3)
      ∧ r.2.mem ((c.tc : Thread Cert.ExpertUp.nD Cert.ExpertUp.τ).loc Cert.ExpertUp.main_arg4) = m ((c.tc : Thread Cert.ExpertUp.nD Cert.ExpertUp.τ).loc Cert.ExpertUp.main_arg4))
      ∧ r.2.sem = fun _ => 0)

def quiescent_ExpertUpIdeal [hExpertUpIdeal : Cert.ExpertUpIdeal.Facts] [hPre_expert_range : Cert.Pre_expert_range.Facts] : Prop :=
  ∀ (m : (ℓ : Loc Cert.ExpertUpIdeal.nD Cert.ExpertUpIdeal.τ Cert.ExpertUpIdeal.sig) → Buf (Elt Ideal) ℓ) (g : Dev Cert.ExpertUpIdeal.nD → PrngReg), Pre_ExpertUpIdeal m →
    θ_run (Cert.ExpertUpIdeal.defs (F := Ideal)) (onTc (τ := Cert.ExpertUpIdeal.τ) (Cert.ExpertUpIdeal.main (F := Ideal))) ⟨m, fun _ => 0, g⟩ (fun r => (∀ c : Dev Cert.ExpertUpIdeal.nD,
      r.2.mem ((c.tc : Thread Cert.ExpertUpIdeal.nD Cert.ExpertUpIdeal.τ).loc Cert.ExpertUpIdeal.main_arg0) = m ((c.tc : Thread Cert.ExpertUpIdeal.nD Cert.ExpertUpIdeal.τ).loc Cert.ExpertUpIdeal.main_arg0)
      ∧ r.2.mem ((c.tc : Thread Cert.ExpertUpIdeal.nD Cert.ExpertUpIdeal.τ).loc Cert.ExpertUpIdeal.main_arg1) = m ((c.tc : Thread Cert.ExpertUpIdeal.nD Cert.ExpertUpIdeal.τ).loc Cert.ExpertUpIdeal.main_arg1)
      ∧ r.2.mem ((c.tc : Thread Cert.ExpertUpIdeal.nD Cert.ExpertUpIdeal.τ).loc Cert.ExpertUpIdeal.main_arg2) = m ((c.tc : Thread Cert.ExpertUpIdeal.nD Cert.ExpertUpIdeal.τ).loc Cert.ExpertUpIdeal.main_arg2)
      ∧ r.2.mem ((c.tc : Thread Cert.ExpertUpIdeal.nD Cert.ExpertUpIdeal.τ).loc Cert.ExpertUpIdeal.main_arg3) = m ((c.tc : Thread Cert.ExpertUpIdeal.nD Cert.ExpertUpIdeal.τ).loc Cert.ExpertUpIdeal.main_arg3)
      ∧ r.2.mem ((c.tc : Thread Cert.ExpertUpIdeal.nD Cert.ExpertUpIdeal.τ).loc Cert.ExpertUpIdeal.main_arg4) = m ((c.tc : Thread Cert.ExpertUpIdeal.nD Cert.ExpertUpIdeal.τ).loc Cert.ExpertUpIdeal.main_arg4))
      ∧ r.2.sem = fun _ => 0)

def quiescent_ExpertUpReferenceIdeal [hExpertUpReferenceIdeal : Cert.ExpertUpReferenceIdeal.Facts] : Prop :=
  ∀ (m : (ℓ : Loc Cert.ExpertUpReferenceIdeal.nD Cert.ExpertUpReferenceIdeal.τ Cert.ExpertUpReferenceIdeal.sig) → Buf (Elt Ideal) ℓ) (g : Dev Cert.ExpertUpReferenceIdeal.nD → PrngReg), Pre_ExpertUpReferenceIdeal m →
    θ_run (Cert.ExpertUpReferenceIdeal.defs (F := Ideal)) (onTc (τ := Cert.ExpertUpReferenceIdeal.τ) (Cert.ExpertUpReferenceIdeal.main (F := Ideal))) ⟨m, fun _ => 0, g⟩ (fun r => (∀ c : Dev Cert.ExpertUpReferenceIdeal.nD,
      r.2.mem ((c.tc : Thread Cert.ExpertUpReferenceIdeal.nD Cert.ExpertUpReferenceIdeal.τ).loc Cert.ExpertUpReferenceIdeal.main_arg0) = m ((c.tc : Thread Cert.ExpertUpReferenceIdeal.nD Cert.ExpertUpReferenceIdeal.τ).loc Cert.ExpertUpReferenceIdeal.main_arg0)
      ∧ r.2.mem ((c.tc : Thread Cert.ExpertUpReferenceIdeal.nD Cert.ExpertUpReferenceIdeal.τ).loc Cert.ExpertUpReferenceIdeal.main_arg1) = m ((c.tc : Thread Cert.ExpertUpReferenceIdeal.nD Cert.ExpertUpReferenceIdeal.τ).loc Cert.ExpertUpReferenceIdeal.main_arg1)
      ∧ r.2.mem ((c.tc : Thread Cert.ExpertUpReferenceIdeal.nD Cert.ExpertUpReferenceIdeal.τ).loc Cert.ExpertUpReferenceIdeal.main_arg2) = m ((c.tc : Thread Cert.ExpertUpReferenceIdeal.nD Cert.ExpertUpReferenceIdeal.τ).loc Cert.ExpertUpReferenceIdeal.main_arg2)
      ∧ r.2.mem ((c.tc : Thread Cert.ExpertUpReferenceIdeal.nD Cert.ExpertUpReferenceIdeal.τ).loc Cert.ExpertUpReferenceIdeal.main_arg3) = m ((c.tc : Thread Cert.ExpertUpReferenceIdeal.nD Cert.ExpertUpReferenceIdeal.τ).loc Cert.ExpertUpReferenceIdeal.main_arg3)
      ∧ r.2.mem ((c.tc : Thread Cert.ExpertUpReferenceIdeal.nD Cert.ExpertUpReferenceIdeal.τ).loc Cert.ExpertUpReferenceIdeal.main_arg4) = m ((c.tc : Thread Cert.ExpertUpReferenceIdeal.nD Cert.ExpertUpReferenceIdeal.τ).loc Cert.ExpertUpReferenceIdeal.main_arg4))
      ∧ r.2.sem = fun _ => 0)

def quiescent_ExpertUpReferenceIdeal_pre_expert_range [hExpertUpReferenceIdeal : Cert.ExpertUpReferenceIdeal.Facts] [hPre_expert_range : Cert.Pre_expert_range.Facts] : Prop :=
  ∀ (m : (ℓ : Loc Cert.ExpertUpReferenceIdeal.nD Cert.ExpertUpReferenceIdeal.τ Cert.ExpertUpReferenceIdeal.sig) → Buf (Elt Ideal) ℓ) (g : Dev Cert.ExpertUpReferenceIdeal.nD → PrngReg), Pre_ExpertUpReferenceIdeal_expert_range m →
    θ_run (Cert.ExpertUpReferenceIdeal.defs (F := Ideal)) (onTc (τ := Cert.ExpertUpReferenceIdeal.τ) (Cert.ExpertUpReferenceIdeal.main (F := Ideal))) ⟨m, fun _ => 0, g⟩ (fun r => (∀ c : Dev Cert.ExpertUpReferenceIdeal.nD,
      r.2.mem ((c.tc : Thread Cert.ExpertUpReferenceIdeal.nD Cert.ExpertUpReferenceIdeal.τ).loc Cert.ExpertUpReferenceIdeal.main_arg0) = m ((c.tc : Thread Cert.ExpertUpReferenceIdeal.nD Cert.ExpertUpReferenceIdeal.τ).loc Cert.ExpertUpReferenceIdeal.main_arg0)
      ∧ r.2.mem ((c.tc : Thread Cert.ExpertUpReferenceIdeal.nD Cert.ExpertUpReferenceIdeal.τ).loc Cert.ExpertUpReferenceIdeal.main_arg1) = m ((c.tc : Thread Cert.ExpertUpReferenceIdeal.nD Cert.ExpertUpReferenceIdeal.τ).loc Cert.ExpertUpReferenceIdeal.main_arg1)
      ∧ r.2.mem ((c.tc : Thread Cert.ExpertUpReferenceIdeal.nD Cert.ExpertUpReferenceIdeal.τ).loc Cert.ExpertUpReferenceIdeal.main_arg2) = m ((c.tc : Thread Cert.ExpertUpReferenceIdeal.nD Cert.ExpertUpReferenceIdeal.τ).loc Cert.ExpertUpReferenceIdeal.main_arg2)
      ∧ r.2.mem ((c.tc : Thread Cert.ExpertUpReferenceIdeal.nD Cert.ExpertUpReferenceIdeal.τ).loc Cert.ExpertUpReferenceIdeal.main_arg3) = m ((c.tc : Thread Cert.ExpertUpReferenceIdeal.nD Cert.ExpertUpReferenceIdeal.τ).loc Cert.ExpertUpReferenceIdeal.main_arg3)
      ∧ r.2.mem ((c.tc : Thread Cert.ExpertUpReferenceIdeal.nD Cert.ExpertUpReferenceIdeal.τ).loc Cert.ExpertUpReferenceIdeal.main_arg4) = m ((c.tc : Thread Cert.ExpertUpReferenceIdeal.nD Cert.ExpertUpReferenceIdeal.τ).loc Cert.ExpertUpReferenceIdeal.main_arg4))
      ∧ r.2.sem = fun _ => 0)

def quiescent_ExpertDown [hExpertDown : Cert.ExpertDown.Facts] [hPre_down_range : Cert.Pre_down_range.Facts] : Prop :=
  ∀ (m : (ℓ : Loc Cert.ExpertDown.nD Cert.ExpertDown.τ Cert.ExpertDown.sig) → Buf (Elt Bits) ℓ) (g : Dev Cert.ExpertDown.nD → PrngReg), Pre_ExpertDown m →
    θ_run (Cert.ExpertDown.defs (F := Bits)) (onTc (τ := Cert.ExpertDown.τ) (Cert.ExpertDown.main (F := Bits))) ⟨m, fun _ => 0, g⟩ (fun r => (∀ c : Dev Cert.ExpertDown.nD,
      r.2.mem ((c.tc : Thread Cert.ExpertDown.nD Cert.ExpertDown.τ).loc Cert.ExpertDown.main_arg0) = m ((c.tc : Thread Cert.ExpertDown.nD Cert.ExpertDown.τ).loc Cert.ExpertDown.main_arg0)
      ∧ r.2.mem ((c.tc : Thread Cert.ExpertDown.nD Cert.ExpertDown.τ).loc Cert.ExpertDown.main_arg1) = m ((c.tc : Thread Cert.ExpertDown.nD Cert.ExpertDown.τ).loc Cert.ExpertDown.main_arg1)
      ∧ r.2.mem ((c.tc : Thread Cert.ExpertDown.nD Cert.ExpertDown.τ).loc Cert.ExpertDown.main_arg2) = m ((c.tc : Thread Cert.ExpertDown.nD Cert.ExpertDown.τ).loc Cert.ExpertDown.main_arg2)
      ∧ r.2.mem ((c.tc : Thread Cert.ExpertDown.nD Cert.ExpertDown.τ).loc Cert.ExpertDown.main_arg3) = m ((c.tc : Thread Cert.ExpertDown.nD Cert.ExpertDown.τ).loc Cert.ExpertDown.main_arg3)
      ∧ r.2.mem ((c.tc : Thread Cert.ExpertDown.nD Cert.ExpertDown.τ).loc Cert.ExpertDown.main_arg4) = m ((c.tc : Thread Cert.ExpertDown.nD Cert.ExpertDown.τ).loc Cert.ExpertDown.main_arg4))
      ∧ r.2.sem = fun _ => 0)

def quiescent_ExpertDownIdeal [hExpertDownIdeal : Cert.ExpertDownIdeal.Facts] [hPre_down_range : Cert.Pre_down_range.Facts] : Prop :=
  ∀ (m : (ℓ : Loc Cert.ExpertDownIdeal.nD Cert.ExpertDownIdeal.τ Cert.ExpertDownIdeal.sig) → Buf (Elt Ideal) ℓ) (g : Dev Cert.ExpertDownIdeal.nD → PrngReg), Pre_ExpertDownIdeal m →
    θ_run (Cert.ExpertDownIdeal.defs (F := Ideal)) (onTc (τ := Cert.ExpertDownIdeal.τ) (Cert.ExpertDownIdeal.main (F := Ideal))) ⟨m, fun _ => 0, g⟩ (fun r => (∀ c : Dev Cert.ExpertDownIdeal.nD,
      r.2.mem ((c.tc : Thread Cert.ExpertDownIdeal.nD Cert.ExpertDownIdeal.τ).loc Cert.ExpertDownIdeal.main_arg0) = m ((c.tc : Thread Cert.ExpertDownIdeal.nD Cert.ExpertDownIdeal.τ).loc Cert.ExpertDownIdeal.main_arg0)
      ∧ r.2.mem ((c.tc : Thread Cert.ExpertDownIdeal.nD Cert.ExpertDownIdeal.τ).loc Cert.ExpertDownIdeal.main_arg1) = m ((c.tc : Thread Cert.ExpertDownIdeal.nD Cert.ExpertDownIdeal.τ).loc Cert.ExpertDownIdeal.main_arg1)
      ∧ r.2.mem ((c.tc : Thread Cert.ExpertDownIdeal.nD Cert.ExpertDownIdeal.τ).loc Cert.ExpertDownIdeal.main_arg2) = m ((c.tc : Thread Cert.ExpertDownIdeal.nD Cert.ExpertDownIdeal.τ).loc Cert.ExpertDownIdeal.main_arg2)
      ∧ r.2.mem ((c.tc : Thread Cert.ExpertDownIdeal.nD Cert.ExpertDownIdeal.τ).loc Cert.ExpertDownIdeal.main_arg3) = m ((c.tc : Thread Cert.ExpertDownIdeal.nD Cert.ExpertDownIdeal.τ).loc Cert.ExpertDownIdeal.main_arg3)
      ∧ r.2.mem ((c.tc : Thread Cert.ExpertDownIdeal.nD Cert.ExpertDownIdeal.τ).loc Cert.ExpertDownIdeal.main_arg4) = m ((c.tc : Thread Cert.ExpertDownIdeal.nD Cert.ExpertDownIdeal.τ).loc Cert.ExpertDownIdeal.main_arg4))
      ∧ r.2.sem = fun _ => 0)

def quiescent_ExpertDownReferenceIdeal [hExpertDownReferenceIdeal : Cert.ExpertDownReferenceIdeal.Facts] : Prop :=
  ∀ (m : (ℓ : Loc Cert.ExpertDownReferenceIdeal.nD Cert.ExpertDownReferenceIdeal.τ Cert.ExpertDownReferenceIdeal.sig) → Buf (Elt Ideal) ℓ) (g : Dev Cert.ExpertDownReferenceIdeal.nD → PrngReg), Pre_ExpertDownReferenceIdeal m →
    θ_run (Cert.ExpertDownReferenceIdeal.defs (F := Ideal)) (onTc (τ := Cert.ExpertDownReferenceIdeal.τ) (Cert.ExpertDownReferenceIdeal.main (F := Ideal))) ⟨m, fun _ => 0, g⟩ (fun r => (∀ c : Dev Cert.ExpertDownReferenceIdeal.nD,
      r.2.mem ((c.tc : Thread Cert.ExpertDownReferenceIdeal.nD Cert.ExpertDownReferenceIdeal.τ).loc Cert.ExpertDownReferenceIdeal.main_arg0) = m ((c.tc : Thread Cert.ExpertDownReferenceIdeal.nD Cert.ExpertDownReferenceIdeal.τ).loc Cert.ExpertDownReferenceIdeal.main_arg0)
      ∧ r.2.mem ((c.tc : Thread Cert.ExpertDownReferenceIdeal.nD Cert.ExpertDownReferenceIdeal.τ).loc Cert.ExpertDownReferenceIdeal.main_arg1) = m ((c.tc : Thread Cert.ExpertDownReferenceIdeal.nD Cert.ExpertDownReferenceIdeal.τ).loc Cert.ExpertDownReferenceIdeal.main_arg1)
      ∧ r.2.mem ((c.tc : Thread Cert.ExpertDownReferenceIdeal.nD Cert.ExpertDownReferenceIdeal.τ).loc Cert.ExpertDownReferenceIdeal.main_arg2) = m ((c.tc : Thread Cert.ExpertDownReferenceIdeal.nD Cert.ExpertDownReferenceIdeal.τ).loc Cert.ExpertDownReferenceIdeal.main_arg2)
      ∧ r.2.mem ((c.tc : Thread Cert.ExpertDownReferenceIdeal.nD Cert.ExpertDownReferenceIdeal.τ).loc Cert.ExpertDownReferenceIdeal.main_arg3) = m ((c.tc : Thread Cert.ExpertDownReferenceIdeal.nD Cert.ExpertDownReferenceIdeal.τ).loc Cert.ExpertDownReferenceIdeal.main_arg3)
      ∧ r.2.mem ((c.tc : Thread Cert.ExpertDownReferenceIdeal.nD Cert.ExpertDownReferenceIdeal.τ).loc Cert.ExpertDownReferenceIdeal.main_arg4) = m ((c.tc : Thread Cert.ExpertDownReferenceIdeal.nD Cert.ExpertDownReferenceIdeal.τ).loc Cert.ExpertDownReferenceIdeal.main_arg4))
      ∧ r.2.sem = fun _ => 0)

def quiescent_ExpertDownReferenceIdeal_pre_down_range [hExpertDownReferenceIdeal : Cert.ExpertDownReferenceIdeal.Facts] [hPre_down_range : Cert.Pre_down_range.Facts] : Prop :=
  ∀ (m : (ℓ : Loc Cert.ExpertDownReferenceIdeal.nD Cert.ExpertDownReferenceIdeal.τ Cert.ExpertDownReferenceIdeal.sig) → Buf (Elt Ideal) ℓ) (g : Dev Cert.ExpertDownReferenceIdeal.nD → PrngReg), Pre_ExpertDownReferenceIdeal_down_range m →
    θ_run (Cert.ExpertDownReferenceIdeal.defs (F := Ideal)) (onTc (τ := Cert.ExpertDownReferenceIdeal.τ) (Cert.ExpertDownReferenceIdeal.main (F := Ideal))) ⟨m, fun _ => 0, g⟩ (fun r => (∀ c : Dev Cert.ExpertDownReferenceIdeal.nD,
      r.2.mem ((c.tc : Thread Cert.ExpertDownReferenceIdeal.nD Cert.ExpertDownReferenceIdeal.τ).loc Cert.ExpertDownReferenceIdeal.main_arg0) = m ((c.tc : Thread Cert.ExpertDownReferenceIdeal.nD Cert.ExpertDownReferenceIdeal.τ).loc Cert.ExpertDownReferenceIdeal.main_arg0)
      ∧ r.2.mem ((c.tc : Thread Cert.ExpertDownReferenceIdeal.nD Cert.ExpertDownReferenceIdeal.τ).loc Cert.ExpertDownReferenceIdeal.main_arg1) = m ((c.tc : Thread Cert.ExpertDownReferenceIdeal.nD Cert.ExpertDownReferenceIdeal.τ).loc Cert.ExpertDownReferenceIdeal.main_arg1)
      ∧ r.2.mem ((c.tc : Thread Cert.ExpertDownReferenceIdeal.nD Cert.ExpertDownReferenceIdeal.τ).loc Cert.ExpertDownReferenceIdeal.main_arg2) = m ((c.tc : Thread Cert.ExpertDownReferenceIdeal.nD Cert.ExpertDownReferenceIdeal.τ).loc Cert.ExpertDownReferenceIdeal.main_arg2)
      ∧ r.2.mem ((c.tc : Thread Cert.ExpertDownReferenceIdeal.nD Cert.ExpertDownReferenceIdeal.τ).loc Cert.ExpertDownReferenceIdeal.main_arg3) = m ((c.tc : Thread Cert.ExpertDownReferenceIdeal.nD Cert.ExpertDownReferenceIdeal.τ).loc Cert.ExpertDownReferenceIdeal.main_arg3)
      ∧ r.2.mem ((c.tc : Thread Cert.ExpertDownReferenceIdeal.nD Cert.ExpertDownReferenceIdeal.τ).loc Cert.ExpertDownReferenceIdeal.main_arg4) = m ((c.tc : Thread Cert.ExpertDownReferenceIdeal.nD Cert.ExpertDownReferenceIdeal.τ).loc Cert.ExpertDownReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_WideProj [hWideProj : Cert.WideProj.Facts] : Prop :=
  ∀ (m : (ℓ : Loc Cert.WideProj.nD Cert.WideProj.τ Cert.WideProj.sig) → Buf (Elt Bits) ℓ) (g : Dev Cert.WideProj.nD → PrngReg), Pre_WideProj m →
    θ_run (Cert.WideProj.defs (F := Bits)) (onTc (τ := Cert.WideProj.τ) (Cert.WideProj.main (F := Bits))) ⟨m, fun _ => 0, g⟩ (fun r => (∀ c : Dev Cert.WideProj.nD,
      r.2.mem ((c.tc : Thread Cert.WideProj.nD Cert.WideProj.τ).loc Cert.WideProj.main_arg0) = m ((c.tc : Thread Cert.WideProj.nD Cert.WideProj.τ).loc Cert.WideProj.main_arg0)
      ∧ r.2.mem ((c.tc : Thread Cert.WideProj.nD Cert.WideProj.τ).loc Cert.WideProj.main_arg1) = m ((c.tc : Thread Cert.WideProj.nD Cert.WideProj.τ).loc Cert.WideProj.main_arg1))
      ∧ r.2.sem = fun _ => 0)

def quiescent_WideProjIdeal [hWideProjIdeal : Cert.WideProjIdeal.Facts] : Prop :=
  ∀ (m : (ℓ : Loc Cert.WideProjIdeal.nD Cert.WideProjIdeal.τ Cert.WideProjIdeal.sig) → Buf (Elt Ideal) ℓ) (g : Dev Cert.WideProjIdeal.nD → PrngReg), Pre_WideProjIdeal m →
    θ_run (Cert.WideProjIdeal.defs (F := Ideal)) (onTc (τ := Cert.WideProjIdeal.τ) (Cert.WideProjIdeal.main (F := Ideal))) ⟨m, fun _ => 0, g⟩ (fun r => (∀ c : Dev Cert.WideProjIdeal.nD,
      r.2.mem ((c.tc : Thread Cert.WideProjIdeal.nD Cert.WideProjIdeal.τ).loc Cert.WideProjIdeal.main_arg0) = m ((c.tc : Thread Cert.WideProjIdeal.nD Cert.WideProjIdeal.τ).loc Cert.WideProjIdeal.main_arg0)
      ∧ r.2.mem ((c.tc : Thread Cert.WideProjIdeal.nD Cert.WideProjIdeal.τ).loc Cert.WideProjIdeal.main_arg1) = m ((c.tc : Thread Cert.WideProjIdeal.nD Cert.WideProjIdeal.τ).loc Cert.WideProjIdeal.main_arg1))
      ∧ r.2.sem = fun _ => 0)

def quiescent_WideProjReferenceIdeal [hWideProjReferenceIdeal : Cert.WideProjReferenceIdeal.Facts] : Prop :=
  ∀ (m : (ℓ : Loc Cert.WideProjReferenceIdeal.nD Cert.WideProjReferenceIdeal.τ Cert.WideProjReferenceIdeal.sig) → Buf (Elt Ideal) ℓ) (g : Dev Cert.WideProjReferenceIdeal.nD → PrngReg), Pre_WideProjReferenceIdeal m →
    θ_run (Cert.WideProjReferenceIdeal.defs (F := Ideal)) (onTc (τ := Cert.WideProjReferenceIdeal.τ) (Cert.WideProjReferenceIdeal.main (F := Ideal))) ⟨m, fun _ => 0, g⟩ (fun r => (∀ c : Dev Cert.WideProjReferenceIdeal.nD,
      r.2.mem ((c.tc : Thread Cert.WideProjReferenceIdeal.nD Cert.WideProjReferenceIdeal.τ).loc Cert.WideProjReferenceIdeal.main_arg0) = m ((c.tc : Thread Cert.WideProjReferenceIdeal.nD Cert.WideProjReferenceIdeal.τ).loc Cert.WideProjReferenceIdeal.main_arg0)
      ∧ r.2.mem ((c.tc : Thread Cert.WideProjReferenceIdeal.nD Cert.WideProjReferenceIdeal.τ).loc Cert.WideProjReferenceIdeal.main_arg1) = m ((c.tc : Thread Cert.WideProjReferenceIdeal.nD Cert.WideProjReferenceIdeal.τ).loc Cert.WideProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_HyenaOut [hHyenaOut : Cert.HyenaOut.Facts] : Prop :=
  ∀ (m : (ℓ : Loc Cert.HyenaOut.nD Cert.HyenaOut.τ Cert.HyenaOut.sig) → Buf (Elt Bits) ℓ) (g : Dev Cert.HyenaOut.nD → PrngReg), Pre_HyenaOut m →
    θ_run (Cert.HyenaOut.defs (F := Bits)) (onTc (τ := Cert.HyenaOut.τ) (Cert.HyenaOut.main (F := Bits))) ⟨m, fun _ => 0, g⟩ (fun r => (∀ c : Dev Cert.HyenaOut.nD,
      r.2.mem ((c.tc : Thread Cert.HyenaOut.nD Cert.HyenaOut.τ).loc Cert.HyenaOut.main_arg0) = m ((c.tc : Thread Cert.HyenaOut.nD Cert.HyenaOut.τ).loc Cert.HyenaOut.main_arg0)
      ∧ r.2.mem ((c.tc : Thread Cert.HyenaOut.nD Cert.HyenaOut.τ).loc Cert.HyenaOut.main_arg1) = m ((c.tc : Thread Cert.HyenaOut.nD Cert.HyenaOut.τ).loc Cert.HyenaOut.main_arg1)
      ∧ r.2.mem ((c.tc : Thread Cert.HyenaOut.nD Cert.HyenaOut.τ).loc Cert.HyenaOut.main_arg2) = m ((c.tc : Thread Cert.HyenaOut.nD Cert.HyenaOut.τ).loc Cert.HyenaOut.main_arg2)
      ∧ r.2.mem ((c.tc : Thread Cert.HyenaOut.nD Cert.HyenaOut.τ).loc Cert.HyenaOut.main_arg3) = m ((c.tc : Thread Cert.HyenaOut.nD Cert.HyenaOut.τ).loc Cert.HyenaOut.main_arg3))
      ∧ r.2.sem = fun _ => 0)

def quiescent_HyenaOutIdeal [hHyenaOutIdeal : Cert.HyenaOutIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg), Pre_HyenaOutIdeal m →
    θ_run (Cert.HyenaOutIdeal.defs (F := Ideal)) (onTc (τ := Cert.HyenaOutIdeal.τ) (Cert.HyenaOutIdeal.main (F := Ideal))) ⟨m, fun _ => 0, g⟩ (fun r => (∀ c : Dev Cert.HyenaOutIdeal.nD,
      r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
      ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
      ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2)
      ∧ r.2.mem ((c.tc : Thread Cert.HyenaOutIdeal.nD Cert.HyenaOutIdeal.τ).loc Cert.HyenaOutIdeal.main_arg3) = m ((c.tc : Thread Cert.HyenaOutIdeal.nD Cert.HyenaOutIdeal.τ).loc Cert.HyenaOutIdeal.main_arg3))
      ∧ r.2.sem = fun _ => 0)

def quiescent_HyenaOutReferenceIdeal [hHyenaOutReferenceIdeal : Cert.HyenaOutReferenceIdeal.Facts] : Prop :=
  ∀ (m : (ℓ : Loc Cert.HyenaOutReferenceIdeal.nD Cert.HyenaOutReferenceIdeal.τ Cert.HyenaOutReferenceIdeal.sig) → Buf (Elt Ideal) ℓ) (g : Dev Cert.HyenaOutReferenceIdeal.nD → PrngReg), Pre_HyenaOutReferenceIdeal m →
    θ_run (Cert.HyenaOutReferenceIdeal.defs (F := Ideal)) (onTc (τ := Cert.HyenaOutReferenceIdeal.τ) (Cert.HyenaOutReferenceIdeal.main (F := Ideal))) ⟨m, fun _ => 0, g⟩ (fun r => (∀ c : Dev Cert.HyenaOutReferenceIdeal.nD,
      r.2.mem ((c.tc : Thread Cert.HyenaOutReferenceIdeal.nD Cert.HyenaOutReferenceIdeal.τ).loc Cert.HyenaOutReferenceIdeal.main_arg0) = m ((c.tc : Thread Cert.HyenaOutReferenceIdeal.nD Cert.HyenaOutReferenceIdeal.τ).loc Cert.HyenaOutReferenceIdeal.main_arg0)
      ∧ r.2.mem ((c.tc : Thread Cert.HyenaOutReferenceIdeal.nD Cert.HyenaOutReferenceIdeal.τ).loc Cert.HyenaOutReferenceIdeal.main_arg1) = m ((c.tc : Thread Cert.HyenaOutReferenceIdeal.nD Cert.HyenaOutReferenceIdeal.τ).loc Cert.HyenaOutReferenceIdeal.main_arg1)
      ∧ r.2.mem ((c.tc : Thread Cert.HyenaOutReferenceIdeal.nD Cert.HyenaOutReferenceIdeal.τ).loc Cert.HyenaOutReferenceIdeal.main_arg2) = m ((c.tc : Thread Cert.HyenaOutReferenceIdeal.nD Cert.HyenaOutReferenceIdeal.τ).loc Cert.HyenaOutReferenceIdeal.main_arg2)
      ∧ r.2.mem ((c.tc : Thread Cert.HyenaOutReferenceIdeal.nD Cert.HyenaOutReferenceIdeal.τ).loc Cert.HyenaOutReferenceIdeal.main_arg3) = m ((c.tc : Thread Cert.HyenaOutReferenceIdeal.nD Cert.HyenaOutReferenceIdeal.τ).loc Cert.HyenaOutReferenceIdeal.main_arg3))
      ∧ r.2.sem = fun _ => 0)

def quiescent_RProj [hRProj : Cert.RProj.Facts] : Prop :=
  ∀ (m : (ℓ : Loc Cert.RProj.nD Cert.RProj.τ Cert.RProj.sig) → Buf (Elt Bits) ℓ) (g : Dev Cert.RProj.nD → PrngReg), Pre_RProj m →
    θ_run (Cert.RProj.defs (F := Bits)) (onTc (τ := Cert.RProj.τ) (Cert.RProj.main (F := Bits))) ⟨m, fun _ => 0, g⟩ (fun r => (∀ c : Dev Cert.RProj.nD,
      r.2.mem ((c.tc : Thread Cert.RProj.nD Cert.RProj.τ).loc Cert.RProj.main_arg0) = m ((c.tc : Thread Cert.RProj.nD Cert.RProj.τ).loc Cert.RProj.main_arg0)
      ∧ r.2.mem ((c.tc : Thread Cert.RProj.nD Cert.RProj.τ).loc Cert.RProj.main_arg1) = m ((c.tc : Thread Cert.RProj.nD Cert.RProj.τ).loc Cert.RProj.main_arg1))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1))
      ∧ r.2.sem = fun _ => 0)

def quiescent_RProjReferenceIdeal [hRProjReferenceIdeal : Cert.RProjReferenceIdeal.Facts] : Prop :=
  ∀ (m : (ℓ : Loc Cert.RProjReferenceIdeal.nD Cert.RProjReferenceIdeal.τ Cert.RProjReferenceIdeal.sig) → Buf (Elt Ideal) ℓ) (g : Dev Cert.RProjReferenceIdeal.nD → PrngReg), Pre_RProjReferenceIdeal m →
    θ_run (Cert.RProjReferenceIdeal.defs (F := Ideal)) (onTc (τ := Cert.RProjReferenceIdeal.τ) (Cert.RProjReferenceIdeal.main (F := Ideal))) ⟨m, fun _ => 0, g⟩ (fun r => (∀ c : Dev Cert.RProjReferenceIdeal.nD,
      r.2.mem ((c.tc : Thread Cert.RProjReferenceIdeal.nD Cert.RProjReferenceIdeal.τ).loc Cert.RProjReferenceIdeal.main_arg0) = m ((c.tc : Thread Cert.RProjReferenceIdeal.nD Cert.RProjReferenceIdeal.τ).loc Cert.RProjReferenceIdeal.main_arg0)
      ∧ r.2.mem ((c.tc : Thread Cert.RProjReferenceIdeal.nD Cert.RProjReferenceIdeal.τ).loc Cert.RProjReferenceIdeal.main_arg1) = m ((c.tc : Thread Cert.RProjReferenceIdeal.nD Cert.RProjReferenceIdeal.τ).loc Cert.RProjReferenceIdeal.main_arg1))
      ∧ r.2.sem = fun _ => 0)

def quiescent_KeyProj [hKeyProj : Cert.KeyProj.Facts] : Prop :=
  ∀ (m : (ℓ : Loc Cert.KeyProj.nD Cert.KeyProj.τ Cert.KeyProj.sig) → Buf (Elt Bits) ℓ) (g : Dev Cert.KeyProj.nD → PrngReg), Pre_KeyProj m →
    θ_run (Cert.KeyProj.defs (F := Bits)) (onTc (τ := Cert.KeyProj.τ) (Cert.KeyProj.main (F := Bits))) ⟨m, fun _ => 0, g⟩ (fun r => (∀ c : Dev Cert.KeyProj.nD,
      r.2.mem ((c.tc : Thread Cert.KeyProj.nD Cert.KeyProj.τ).loc Cert.KeyProj.main_arg0) = m ((c.tc : Thread Cert.KeyProj.nD Cert.KeyProj.τ).loc Cert.KeyProj.main_arg0)
      ∧ r.2.mem ((c.tc : Thread Cert.KeyProj.nD Cert.KeyProj.τ).loc Cert.KeyProj.main_arg1) = m ((c.tc : Thread Cert.KeyProj.nD Cert.KeyProj.τ).loc Cert.KeyProj.main_arg1))
      ∧ r.2.sem = fun _ => 0)

def quiescent_KeyProjIdeal [hKeyProjIdeal : Cert.KeyProjIdeal.Facts] : Prop :=
  ∀ (m : (ℓ : Loc Cert.KeyProjIdeal.nD Cert.KeyProjIdeal.τ Cert.KeyProjIdeal.sig) → Buf (Elt Ideal) ℓ) (g : Dev Cert.KeyProjIdeal.nD → PrngReg), Pre_KeyProjIdeal m →
    θ_run (Cert.KeyProjIdeal.defs (F := Ideal)) (onTc (τ := Cert.KeyProjIdeal.τ) (Cert.KeyProjIdeal.main (F := Ideal))) ⟨m, fun _ => 0, g⟩ (fun r => (∀ c : Dev Cert.KeyProjIdeal.nD,
      r.2.mem ((c.tc : Thread Cert.KeyProjIdeal.nD Cert.KeyProjIdeal.τ).loc Cert.KeyProjIdeal.main_arg0) = m ((c.tc : Thread Cert.KeyProjIdeal.nD Cert.KeyProjIdeal.τ).loc Cert.KeyProjIdeal.main_arg0)
      ∧ r.2.mem ((c.tc : Thread Cert.KeyProjIdeal.nD Cert.KeyProjIdeal.τ).loc Cert.KeyProjIdeal.main_arg1) = m ((c.tc : Thread Cert.KeyProjIdeal.nD Cert.KeyProjIdeal.τ).loc Cert.KeyProjIdeal.main_arg1))
      ∧ r.2.sem = fun _ => 0)

def quiescent_KeyProjReferenceIdeal [hKeyProjReferenceIdeal : Cert.KeyProjReferenceIdeal.Facts] : Prop :=
  ∀ (m : (ℓ : Loc Cert.KeyProjReferenceIdeal.nD Cert.KeyProjReferenceIdeal.τ Cert.KeyProjReferenceIdeal.sig) → Buf (Elt Ideal) ℓ) (g : Dev Cert.KeyProjReferenceIdeal.nD → PrngReg), Pre_KeyProjReferenceIdeal m →
    θ_run (Cert.KeyProjReferenceIdeal.defs (F := Ideal)) (onTc (τ := Cert.KeyProjReferenceIdeal.τ) (Cert.KeyProjReferenceIdeal.main (F := Ideal))) ⟨m, fun _ => 0, g⟩ (fun r => (∀ c : Dev Cert.KeyProjReferenceIdeal.nD,
      r.2.mem ((c.tc : Thread Cert.KeyProjReferenceIdeal.nD Cert.KeyProjReferenceIdeal.τ).loc Cert.KeyProjReferenceIdeal.main_arg0) = m ((c.tc : Thread Cert.KeyProjReferenceIdeal.nD Cert.KeyProjReferenceIdeal.τ).loc Cert.KeyProjReferenceIdeal.main_arg0)
      ∧ r.2.mem ((c.tc : Thread Cert.KeyProjReferenceIdeal.nD Cert.KeyProjReferenceIdeal.τ).loc Cert.KeyProjReferenceIdeal.main_arg1) = m ((c.tc : Thread Cert.KeyProjReferenceIdeal.nD Cert.KeyProjReferenceIdeal.τ).loc Cert.KeyProjReferenceIdeal.main_arg1))
      ∧ r.2.sem = fun _ => 0)

def quiescent_ValProj [hValProj : Cert.ValProj.Facts] : Prop :=
  ∀ (m : (ℓ : Loc Cert.ValProj.nD Cert.ValProj.τ Cert.ValProj.sig) → Buf (Elt Bits) ℓ) (g : Dev Cert.ValProj.nD → PrngReg), Pre_ValProj m →
    θ_run (Cert.ValProj.defs (F := Bits)) (onTc (τ := Cert.ValProj.τ) (Cert.ValProj.main (F := Bits))) ⟨m, fun _ => 0, g⟩ (fun r => (∀ c : Dev Cert.ValProj.nD,
      r.2.mem ((c.tc : Thread Cert.ValProj.nD Cert.ValProj.τ).loc Cert.ValProj.main_arg0) = m ((c.tc : Thread Cert.ValProj.nD Cert.ValProj.τ).loc Cert.ValProj.main_arg0)
      ∧ r.2.mem ((c.tc : Thread Cert.ValProj.nD Cert.ValProj.τ).loc Cert.ValProj.main_arg1) = m ((c.tc : Thread Cert.ValProj.nD Cert.ValProj.τ).loc Cert.ValProj.main_arg1))
      ∧ r.2.sem = fun _ => 0)

def quiescent_ValProjIdeal [hValProjIdeal : Cert.ValProjIdeal.Facts] : Prop :=
  ∀ (m : (ℓ : Loc Cert.ValProjIdeal.nD Cert.ValProjIdeal.τ Cert.ValProjIdeal.sig) → Buf (Elt Ideal) ℓ) (g : Dev Cert.ValProjIdeal.nD → PrngReg), Pre_ValProjIdeal m →
    θ_run (Cert.ValProjIdeal.defs (F := Ideal)) (onTc (τ := Cert.ValProjIdeal.τ) (Cert.ValProjIdeal.main (F := Ideal))) ⟨m, fun _ => 0, g⟩ (fun r => (∀ c : Dev Cert.ValProjIdeal.nD,
      r.2.mem ((c.tc : Thread Cert.ValProjIdeal.nD Cert.ValProjIdeal.τ).loc Cert.ValProjIdeal.main_arg0) = m ((c.tc : Thread Cert.ValProjIdeal.nD Cert.ValProjIdeal.τ).loc Cert.ValProjIdeal.main_arg0)
      ∧ r.2.mem ((c.tc : Thread Cert.ValProjIdeal.nD Cert.ValProjIdeal.τ).loc Cert.ValProjIdeal.main_arg1) = m ((c.tc : Thread Cert.ValProjIdeal.nD Cert.ValProjIdeal.τ).loc Cert.ValProjIdeal.main_arg1))
      ∧ r.2.sem = fun _ => 0)

def quiescent_ValProjReferenceIdeal [hValProjReferenceIdeal : Cert.ValProjReferenceIdeal.Facts] : Prop :=
  ∀ (m : (ℓ : Loc Cert.ValProjReferenceIdeal.nD Cert.ValProjReferenceIdeal.τ Cert.ValProjReferenceIdeal.sig) → Buf (Elt Ideal) ℓ) (g : Dev Cert.ValProjReferenceIdeal.nD → PrngReg), Pre_ValProjReferenceIdeal m →
    θ_run (Cert.ValProjReferenceIdeal.defs (F := Ideal)) (onTc (τ := Cert.ValProjReferenceIdeal.τ) (Cert.ValProjReferenceIdeal.main (F := Ideal))) ⟨m, fun _ => 0, g⟩ (fun r => (∀ c : Dev Cert.ValProjReferenceIdeal.nD,
      r.2.mem ((c.tc : Thread Cert.ValProjReferenceIdeal.nD Cert.ValProjReferenceIdeal.τ).loc Cert.ValProjReferenceIdeal.main_arg0) = m ((c.tc : Thread Cert.ValProjReferenceIdeal.nD Cert.ValProjReferenceIdeal.τ).loc Cert.ValProjReferenceIdeal.main_arg0)
      ∧ r.2.mem ((c.tc : Thread Cert.ValProjReferenceIdeal.nD Cert.ValProjReferenceIdeal.τ).loc Cert.ValProjReferenceIdeal.main_arg1) = m ((c.tc : Thread Cert.ValProjReferenceIdeal.nD Cert.ValProjReferenceIdeal.τ).loc Cert.ValProjReferenceIdeal.main_arg1))
      ∧ r.2.sem = fun _ => 0)

def quiescent_LowProj [hLowProj : Cert.LowProj.Facts] : Prop :=
  ∀ (m : (ℓ : Loc Cert.LowProj.nD Cert.LowProj.τ Cert.LowProj.sig) → Buf (Elt Bits) ℓ) (g : Dev Cert.LowProj.nD → PrngReg), Pre_LowProj m →
    θ_run (Cert.LowProj.defs (F := Bits)) (onTc (τ := Cert.LowProj.τ) (Cert.LowProj.main (F := Bits))) ⟨m, fun _ => 0, g⟩ (fun r => (∀ c : Dev Cert.LowProj.nD,
      r.2.mem ((c.tc : Thread Cert.LowProj.nD Cert.LowProj.τ).loc Cert.LowProj.main_arg0) = m ((c.tc : Thread Cert.LowProj.nD Cert.LowProj.τ).loc Cert.LowProj.main_arg0)
      ∧ r.2.mem ((c.tc : Thread Cert.LowProj.nD Cert.LowProj.τ).loc Cert.LowProj.main_arg1) = m ((c.tc : Thread Cert.LowProj.nD Cert.LowProj.τ).loc Cert.LowProj.main_arg1))
      ∧ r.2.sem = fun _ => 0)

def quiescent_LowProjIdeal [hLowProjIdeal : Cert.LowProjIdeal.Facts] : Prop :=
  ∀ (m : (ℓ : Loc Cert.LowProjIdeal.nD Cert.LowProjIdeal.τ Cert.LowProjIdeal.sig) → Buf (Elt Ideal) ℓ) (g : Dev Cert.LowProjIdeal.nD → PrngReg), Pre_LowProjIdeal m →
    θ_run (Cert.LowProjIdeal.defs (F := Ideal)) (onTc (τ := Cert.LowProjIdeal.τ) (Cert.LowProjIdeal.main (F := Ideal))) ⟨m, fun _ => 0, g⟩ (fun r => (∀ c : Dev Cert.LowProjIdeal.nD,
      r.2.mem ((c.tc : Thread Cert.LowProjIdeal.nD Cert.LowProjIdeal.τ).loc Cert.LowProjIdeal.main_arg0) = m ((c.tc : Thread Cert.LowProjIdeal.nD Cert.LowProjIdeal.τ).loc Cert.LowProjIdeal.main_arg0)
      ∧ r.2.mem ((c.tc : Thread Cert.LowProjIdeal.nD Cert.LowProjIdeal.τ).loc Cert.LowProjIdeal.main_arg1) = m ((c.tc : Thread Cert.LowProjIdeal.nD Cert.LowProjIdeal.τ).loc Cert.LowProjIdeal.main_arg1))
      ∧ r.2.sem = fun _ => 0)

def quiescent_LowProjReferenceIdeal [hLowProjReferenceIdeal : Cert.LowProjReferenceIdeal.Facts] : Prop :=
  ∀ (m : (ℓ : Loc Cert.LowProjReferenceIdeal.nD Cert.LowProjReferenceIdeal.τ Cert.LowProjReferenceIdeal.sig) → Buf (Elt Ideal) ℓ) (g : Dev Cert.LowProjReferenceIdeal.nD → PrngReg), Pre_LowProjReferenceIdeal m →
    θ_run (Cert.LowProjReferenceIdeal.defs (F := Ideal)) (onTc (τ := Cert.LowProjReferenceIdeal.τ) (Cert.LowProjReferenceIdeal.main (F := Ideal))) ⟨m, fun _ => 0, g⟩ (fun r => (∀ c : Dev Cert.LowProjReferenceIdeal.nD,
      r.2.mem ((c.tc : Thread Cert.LowProjReferenceIdeal.nD Cert.LowProjReferenceIdeal.τ).loc Cert.LowProjReferenceIdeal.main_arg0) = m ((c.tc : Thread Cert.LowProjReferenceIdeal.nD Cert.LowProjReferenceIdeal.τ).loc Cert.LowProjReferenceIdeal.main_arg0)
      ∧ r.2.mem ((c.tc : Thread Cert.LowProjReferenceIdeal.nD Cert.LowProjReferenceIdeal.τ).loc Cert.LowProjReferenceIdeal.main_arg1) = m ((c.tc : Thread Cert.LowProjReferenceIdeal.nD Cert.LowProjReferenceIdeal.τ).loc Cert.LowProjReferenceIdeal.main_arg1))
      ∧ r.2.sem = fun _ => 0)

def quiescent_GkProj [hGkProj : Cert.GkProj.Facts] : Prop :=
  ∀ (m : (ℓ : Loc Cert.GkProj.nD Cert.GkProj.τ Cert.GkProj.sig) → Buf (Elt Bits) ℓ) (g : Dev Cert.GkProj.nD → PrngReg), Pre_GkProj m →
    θ_run (Cert.GkProj.defs (F := Bits)) (onTc (τ := Cert.GkProj.τ) (Cert.GkProj.main (F := Bits))) ⟨m, fun _ => 0, g⟩ (fun r => (∀ c : Dev Cert.GkProj.nD,
      r.2.mem ((c.tc : Thread Cert.GkProj.nD Cert.GkProj.τ).loc Cert.GkProj.main_arg0) = m ((c.tc : Thread Cert.GkProj.nD Cert.GkProj.τ).loc Cert.GkProj.main_arg0)
      ∧ r.2.mem ((c.tc : Thread Cert.GkProj.nD Cert.GkProj.τ).loc Cert.GkProj.main_arg1) = m ((c.tc : Thread Cert.GkProj.nD Cert.GkProj.τ).loc Cert.GkProj.main_arg1)
      ∧ r.2.mem ((c.tc : Thread Cert.GkProj.nD Cert.GkProj.τ).loc Cert.GkProj.main_arg2) = m ((c.tc : Thread Cert.GkProj.nD Cert.GkProj.τ).loc Cert.GkProj.main_arg2))
      ∧ r.2.sem = fun _ => 0)

def quiescent_GkProjIdeal [hGkProjIdeal : Cert.GkProjIdeal.Facts] : Prop :=
  ∀ (m : (ℓ : Loc Cert.GkProjIdeal.nD Cert.GkProjIdeal.τ Cert.GkProjIdeal.sig) → Buf (Elt Ideal) ℓ) (g : Dev Cert.GkProjIdeal.nD → PrngReg), Pre_GkProjIdeal m →
    θ_run (Cert.GkProjIdeal.defs (F := Ideal)) (onTc (τ := Cert.GkProjIdeal.τ) (Cert.GkProjIdeal.main (F := Ideal))) ⟨m, fun _ => 0, g⟩ (fun r => (∀ c : Dev Cert.GkProjIdeal.nD,
      r.2.mem ((c.tc : Thread Cert.GkProjIdeal.nD Cert.GkProjIdeal.τ).loc Cert.GkProjIdeal.main_arg0) = m ((c.tc : Thread Cert.GkProjIdeal.nD Cert.GkProjIdeal.τ).loc Cert.GkProjIdeal.main_arg0)
      ∧ r.2.mem ((c.tc : Thread Cert.GkProjIdeal.nD Cert.GkProjIdeal.τ).loc Cert.GkProjIdeal.main_arg1) = m ((c.tc : Thread Cert.GkProjIdeal.nD Cert.GkProjIdeal.τ).loc Cert.GkProjIdeal.main_arg1)
      ∧ r.2.mem ((c.tc : Thread Cert.GkProjIdeal.nD Cert.GkProjIdeal.τ).loc Cert.GkProjIdeal.main_arg2) = m ((c.tc : Thread Cert.GkProjIdeal.nD Cert.GkProjIdeal.τ).loc Cert.GkProjIdeal.main_arg2))
      ∧ r.2.sem = fun _ => 0)

def quiescent_GkProjReferenceIdeal [hGkProjReferenceIdeal : Cert.GkProjReferenceIdeal.Facts] : Prop :=
  ∀ (m : (ℓ : Loc Cert.GkProjReferenceIdeal.nD Cert.GkProjReferenceIdeal.τ Cert.GkProjReferenceIdeal.sig) → Buf (Elt Ideal) ℓ) (g : Dev Cert.GkProjReferenceIdeal.nD → PrngReg), Pre_GkProjReferenceIdeal m →
    θ_run (Cert.GkProjReferenceIdeal.defs (F := Ideal)) (onTc (τ := Cert.GkProjReferenceIdeal.τ) (Cert.GkProjReferenceIdeal.main (F := Ideal))) ⟨m, fun _ => 0, g⟩ (fun r => (∀ c : Dev Cert.GkProjReferenceIdeal.nD,
      r.2.mem ((c.tc : Thread Cert.GkProjReferenceIdeal.nD Cert.GkProjReferenceIdeal.τ).loc Cert.GkProjReferenceIdeal.main_arg0) = m ((c.tc : Thread Cert.GkProjReferenceIdeal.nD Cert.GkProjReferenceIdeal.τ).loc Cert.GkProjReferenceIdeal.main_arg0)
      ∧ r.2.mem ((c.tc : Thread Cert.GkProjReferenceIdeal.nD Cert.GkProjReferenceIdeal.τ).loc Cert.GkProjReferenceIdeal.main_arg1) = m ((c.tc : Thread Cert.GkProjReferenceIdeal.nD Cert.GkProjReferenceIdeal.τ).loc Cert.GkProjReferenceIdeal.main_arg1)
      ∧ r.2.mem ((c.tc : Thread Cert.GkProjReferenceIdeal.nD Cert.GkProjReferenceIdeal.τ).loc Cert.GkProjReferenceIdeal.main_arg2) = m ((c.tc : Thread Cert.GkProjReferenceIdeal.nD Cert.GkProjReferenceIdeal.τ).loc Cert.GkProjReferenceIdeal.main_arg2))
      ∧ r.2.sem = fun _ => 0)

def quiescent_GateIn [hGateIn : Cert.GateIn.Facts] : Prop :=
  ∀ (m : (ℓ : Loc Cert.GateIn.nD Cert.GateIn.τ Cert.GateIn.sig) → Buf (Elt Bits) ℓ) (g : Dev Cert.GateIn.nD → PrngReg), Pre_GateIn m →
    θ_run (Cert.GateIn.defs (F := Bits)) (onTc (τ := Cert.GateIn.τ) (Cert.GateIn.main (F := Bits))) ⟨m, fun _ => 0, g⟩ (fun r => (∀ c : Dev Cert.GateIn.nD,
      r.2.mem ((c.tc : Thread Cert.GateIn.nD Cert.GateIn.τ).loc Cert.GateIn.main_arg0) = m ((c.tc : Thread Cert.GateIn.nD Cert.GateIn.τ).loc Cert.GateIn.main_arg0)
      ∧ r.2.mem ((c.tc : Thread Cert.GateIn.nD Cert.GateIn.τ).loc Cert.GateIn.main_arg1) = m ((c.tc : Thread Cert.GateIn.nD Cert.GateIn.τ).loc Cert.GateIn.main_arg1))
      ∧ r.2.sem = fun _ => 0)

def quiescent_GateInIdeal [hGateInIdeal : Cert.GateInIdeal.Facts] : Prop :=
  ∀ (m : (ℓ : Loc Cert.GateInIdeal.nD Cert.GateInIdeal.τ Cert.GateInIdeal.sig) → Buf (Elt Ideal) ℓ) (g : Dev Cert.GateInIdeal.nD → PrngReg), Pre_GateInIdeal m →
    θ_run (Cert.GateInIdeal.defs (F := Ideal)) (onTc (τ := Cert.GateInIdeal.τ) (Cert.GateInIdeal.main (F := Ideal))) ⟨m, fun _ => 0, g⟩ (fun r => (∀ c : Dev Cert.GateInIdeal.nD,
      r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
      ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ r.2.sem = fun _ => 0)

def quiescent_GateInReferenceIdeal [hGateInReferenceIdeal : Cert.GateInReferenceIdeal.Facts] : Prop :=
  ∀ (m : (ℓ : Loc Cert.GateInReferenceIdeal.nD Cert.GateInReferenceIdeal.τ Cert.GateInReferenceIdeal.sig) → Buf (Elt Ideal) ℓ) (g : Dev Cert.GateInReferenceIdeal.nD → PrngReg), Pre_GateInReferenceIdeal m →
    θ_run (Cert.GateInReferenceIdeal.defs (F := Ideal)) (onTc (τ := Cert.GateInReferenceIdeal.τ) (Cert.GateInReferenceIdeal.main (F := Ideal))) ⟨m, fun _ => 0, g⟩ (fun r => (∀ c : Dev Cert.GateInReferenceIdeal.nD,
      r.2.mem ((c.tc : Thread Cert.GateInReferenceIdeal.nD Cert.GateInReferenceIdeal.τ).loc Cert.GateInReferenceIdeal.main_arg0) = m ((c.tc : Thread Cert.GateInReferenceIdeal.nD Cert.GateInReferenceIdeal.τ).loc Cert.GateInReferenceIdeal.main_arg0)
      ∧ r.2.mem ((c.tc : Thread Cert.GateInReferenceIdeal.nD Cert.GateInReferenceIdeal.τ).loc Cert.GateInReferenceIdeal.main_arg1) = m ((c.tc : Thread Cert.GateInReferenceIdeal.nD Cert.GateInReferenceIdeal.τ).loc Cert.GateInReferenceIdeal.main_arg1))
      ∧ r.2.sem = fun _ => 0)

def quiescent_GateOut [hGateOut : Cert.GateOut.Facts] : Prop :=
  ∀ (m : (ℓ : Loc Cert.GateOut.nD Cert.GateOut.τ Cert.GateOut.sig) → Buf (Elt Bits) ℓ) (g : Dev Cert.GateOut.nD → PrngReg), Pre_GateOut m →
    θ_run (Cert.GateOut.defs (F := Bits)) (onTc (τ := Cert.GateOut.τ) (Cert.GateOut.main (F := Bits))) ⟨m, fun _ => 0, g⟩ (fun r => (∀ c : Dev Cert.GateOut.nD,
      r.2.mem ((c.tc : Thread Cert.GateOut.nD Cert.GateOut.τ).loc Cert.GateOut.main_arg0) = m ((c.tc : Thread Cert.GateOut.nD Cert.GateOut.τ).loc Cert.GateOut.main_arg0)
      ∧ r.2.mem ((c.tc : Thread Cert.GateOut.nD Cert.GateOut.τ).loc Cert.GateOut.main_arg1) = m ((c.tc : Thread Cert.GateOut.nD Cert.GateOut.τ).loc Cert.GateOut.main_arg1))
      ∧ r.2.sem = fun _ => 0)

def quiescent_GateOutIdeal [hGateOutIdeal : Cert.GateOutIdeal.Facts] : Prop :=
  ∀ (m : (ℓ : Loc Cert.GateOutIdeal.nD Cert.GateOutIdeal.τ Cert.GateOutIdeal.sig) → Buf (Elt Ideal) ℓ) (g : Dev Cert.GateOutIdeal.nD → PrngReg), Pre_GateOutIdeal m →
    θ_run (Cert.GateOutIdeal.defs (F := Ideal)) (onTc (τ := Cert.GateOutIdeal.τ) (Cert.GateOutIdeal.main (F := Ideal))) ⟨m, fun _ => 0, g⟩ (fun r => (∀ c : Dev Cert.GateOutIdeal.nD,
      r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
      ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1))
      ∧ r.2.sem = fun _ => 0)

def quiescent_GateOutReferenceIdeal [hGateOutReferenceIdeal : Cert.GateOutReferenceIdeal.Facts] : Prop :=
  ∀ (m : (ℓ : Loc Cert.GateOutReferenceIdeal.nD Cert.GateOutReferenceIdeal.τ Cert.GateOutReferenceIdeal.sig) → Buf (Elt Ideal) ℓ) (g : Dev Cert.GateOutReferenceIdeal.nD → PrngReg), Pre_GateOutReferenceIdeal m →
    θ_run (Cert.GateOutReferenceIdeal.defs (F := Ideal)) (onTc (τ := Cert.GateOutReferenceIdeal.τ) (Cert.GateOutReferenceIdeal.main (F := Ideal))) ⟨m, fun _ => 0, g⟩ (fun r => (∀ c : Dev Cert.GateOutReferenceIdeal.nD,
      r.2.mem ((c.tc : Thread Cert.GateOutReferenceIdeal.nD Cert.GateOutReferenceIdeal.τ).loc Cert.GateOutReferenceIdeal.main_arg0) = m ((c.tc : Thread Cert.GateOutReferenceIdeal.nD Cert.GateOutReferenceIdeal.τ).loc Cert.GateOutReferenceIdeal.main_arg0)
      ∧ r.2.mem ((c.tc : Thread Cert.GateOutReferenceIdeal.nD Cert.GateOutReferenceIdeal.τ).loc Cert.GateOutReferenceIdeal.main_arg1) = m ((c.tc : Thread Cert.GateOutReferenceIdeal.nD Cert.GateOutReferenceIdeal.τ).loc Cert.GateOutReferenceIdeal.main_arg1))
      ∧ r.2.sem = fun _ => 0)

def quiescent_DecayIn [hDecayIn : Cert.DecayIn.Facts] : Prop :=
  ∀ (m : (ℓ : Loc Cert.DecayIn.nD Cert.DecayIn.τ Cert.DecayIn.sig) → Buf (Elt Bits) ℓ) (g : Dev Cert.DecayIn.nD → PrngReg), Pre_DecayIn m →
    θ_run (Cert.DecayIn.defs (F := Bits)) (onTc (τ := Cert.DecayIn.τ) (Cert.DecayIn.main (F := Bits))) ⟨m, fun _ => 0, g⟩ (fun r => (∀ c : Dev Cert.DecayIn.nD,
      r.2.mem ((c.tc : Thread Cert.DecayIn.nD Cert.DecayIn.τ).loc Cert.DecayIn.main_arg0) = m ((c.tc : Thread Cert.DecayIn.nD Cert.DecayIn.τ).loc Cert.DecayIn.main_arg0)
      ∧ r.2.mem ((c.tc : Thread Cert.DecayIn.nD Cert.DecayIn.τ).loc Cert.DecayIn.main_arg1) = m ((c.tc : Thread Cert.DecayIn.nD Cert.DecayIn.τ).loc Cert.DecayIn.main_arg1))
      ∧ r.2.sem = fun _ => 0)

def quiescent_DecayInIdeal [hDecayInIdeal : Cert.DecayInIdeal.Facts] : Prop :=
  ∀ (m : (ℓ : Loc Cert.DecayInIdeal.nD Cert.DecayInIdeal.τ Cert.DecayInIdeal.sig) → Buf (Elt Ideal) ℓ) (g : Dev Cert.DecayInIdeal.nD → PrngReg), Pre_DecayInIdeal m →
    θ_run (Cert.DecayInIdeal.defs (F := Ideal)) (onTc (τ := Cert.DecayInIdeal.τ) (Cert.DecayInIdeal.main (F := Ideal))) ⟨m, fun _ => 0, g⟩ (fun r => (∀ c : Dev Cert.DecayInIdeal.nD,
      r.2.mem ((c.tc : Thread Cert.DecayInIdeal.nD Cert.DecayInIdeal.τ).loc Cert.DecayInIdeal.main_arg0) = m ((c.tc : Thread Cert.DecayInIdeal.nD Cert.DecayInIdeal.τ).loc Cert.DecayInIdeal.main_arg0)
      ∧ r.2.mem ((c.tc : Thread Cert.DecayInIdeal.nD Cert.DecayInIdeal.τ).loc Cert.DecayInIdeal.main_arg1) = m ((c.tc : Thread Cert.DecayInIdeal.nD Cert.DecayInIdeal.τ).loc Cert.DecayInIdeal.main_arg1))
      ∧ r.2.sem = fun _ => 0)

def quiescent_DecayInReferenceIdeal [hDecayInReferenceIdeal : Cert.DecayInReferenceIdeal.Facts] : Prop :=
  ∀ (m : (ℓ : Loc Cert.DecayInReferenceIdeal.nD Cert.DecayInReferenceIdeal.τ Cert.DecayInReferenceIdeal.sig) → Buf (Elt Ideal) ℓ) (g : Dev Cert.DecayInReferenceIdeal.nD → PrngReg), Pre_DecayInReferenceIdeal m →
    θ_run (Cert.DecayInReferenceIdeal.defs (F := Ideal)) (onTc (τ := Cert.DecayInReferenceIdeal.τ) (Cert.DecayInReferenceIdeal.main (F := Ideal))) ⟨m, fun _ => 0, g⟩ (fun r => (∀ c : Dev Cert.DecayInReferenceIdeal.nD,
      r.2.mem ((c.tc : Thread Cert.DecayInReferenceIdeal.nD Cert.DecayInReferenceIdeal.τ).loc Cert.DecayInReferenceIdeal.main_arg0) = m ((c.tc : Thread Cert.DecayInReferenceIdeal.nD Cert.DecayInReferenceIdeal.τ).loc Cert.DecayInReferenceIdeal.main_arg0)
      ∧ r.2.mem ((c.tc : Thread Cert.DecayInReferenceIdeal.nD Cert.DecayInReferenceIdeal.τ).loc Cert.DecayInReferenceIdeal.main_arg1) = m ((c.tc : Thread Cert.DecayInReferenceIdeal.nD Cert.DecayInReferenceIdeal.τ).loc Cert.DecayInReferenceIdeal.main_arg1))
      ∧ r.2.sem = fun _ => 0)

def quiescent_RateIn [hRateIn : Cert.RateIn.Facts] : Prop :=
  ∀ (m : (ℓ : Loc Cert.RateIn.nD Cert.RateIn.τ Cert.RateIn.sig) → Buf (Elt Bits) ℓ) (g : Dev Cert.RateIn.nD → PrngReg), Pre_RateIn m →
    θ_run (Cert.RateIn.defs (F := Bits)) (onTc (τ := Cert.RateIn.τ) (Cert.RateIn.main (F := Bits))) ⟨m, fun _ => 0, g⟩ (fun r => (∀ c : Dev Cert.RateIn.nD,
      r.2.mem ((c.tc : Thread Cert.RateIn.nD Cert.RateIn.τ).loc Cert.RateIn.main_arg0) = m ((c.tc : Thread Cert.RateIn.nD Cert.RateIn.τ).loc Cert.RateIn.main_arg0)
      ∧ r.2.mem ((c.tc : Thread Cert.RateIn.nD Cert.RateIn.τ).loc Cert.RateIn.main_arg1) = m ((c.tc : Thread Cert.RateIn.nD Cert.RateIn.τ).loc Cert.RateIn.main_arg1))
      ∧ r.2.sem = fun _ => 0)

def quiescent_RateInIdeal [hRateInIdeal : Cert.RateInIdeal.Facts] : Prop :=
  ∀ (m : (ℓ : Loc Cert.RateInIdeal.nD Cert.RateInIdeal.τ Cert.RateInIdeal.sig) → Buf (Elt Ideal) ℓ) (g : Dev Cert.RateInIdeal.nD → PrngReg), Pre_RateInIdeal m →
    θ_run (Cert.RateInIdeal.defs (F := Ideal)) (onTc (τ := Cert.RateInIdeal.τ) (Cert.RateInIdeal.main (F := Ideal))) ⟨m, fun _ => 0, g⟩ (fun r => (∀ c : Dev Cert.RateInIdeal.nD,
      r.2.mem ((c.tc : Thread Cert.RateInIdeal.nD Cert.RateInIdeal.τ).loc Cert.RateInIdeal.main_arg0) = m ((c.tc : Thread Cert.RateInIdeal.nD Cert.RateInIdeal.τ).loc Cert.RateInIdeal.main_arg0)
      ∧ r.2.mem ((c.tc : Thread Cert.RateInIdeal.nD Cert.RateInIdeal.τ).loc Cert.RateInIdeal.main_arg1) = m ((c.tc : Thread Cert.RateInIdeal.nD Cert.RateInIdeal.τ).loc Cert.RateInIdeal.main_arg1))
      ∧ r.2.sem = fun _ => 0)

def quiescent_RateInReferenceIdeal [hRateInReferenceIdeal : Cert.RateInReferenceIdeal.Facts] : Prop :=
  ∀ (m : (ℓ : Loc Cert.RateInReferenceIdeal.nD Cert.RateInReferenceIdeal.τ Cert.RateInReferenceIdeal.sig) → Buf (Elt Ideal) ℓ) (g : Dev Cert.RateInReferenceIdeal.nD → PrngReg), Pre_RateInReferenceIdeal m →
    θ_run (Cert.RateInReferenceIdeal.defs (F := Ideal)) (onTc (τ := Cert.RateInReferenceIdeal.τ) (Cert.RateInReferenceIdeal.main (F := Ideal))) ⟨m, fun _ => 0, g⟩ (fun r => (∀ c : Dev Cert.RateInReferenceIdeal.nD,
      r.2.mem ((c.tc : Thread Cert.RateInReferenceIdeal.nD Cert.RateInReferenceIdeal.τ).loc Cert.RateInReferenceIdeal.main_arg0) = m ((c.tc : Thread Cert.RateInReferenceIdeal.nD Cert.RateInReferenceIdeal.τ).loc Cert.RateInReferenceIdeal.main_arg0)
      ∧ r.2.mem ((c.tc : Thread Cert.RateInReferenceIdeal.nD Cert.RateInReferenceIdeal.τ).loc Cert.RateInReferenceIdeal.main_arg1) = m ((c.tc : Thread Cert.RateInReferenceIdeal.nD Cert.RateInReferenceIdeal.τ).loc Cert.RateInReferenceIdeal.main_arg1))
      ∧ r.2.sem = fun _ => 0)

def quiescent_RateOut [hRateOut : Cert.RateOut.Facts] : Prop :=
  ∀ (m : (ℓ : Loc Cert.RateOut.nD Cert.RateOut.τ Cert.RateOut.sig) → Buf (Elt Bits) ℓ) (g : Dev Cert.RateOut.nD → PrngReg), Pre_RateOut m →
    θ_run (Cert.RateOut.defs (F := Bits)) (onTc (τ := Cert.RateOut.τ) (Cert.RateOut.main (F := Bits))) ⟨m, fun _ => 0, g⟩ (fun r => (∀ c : Dev Cert.RateOut.nD,
      r.2.mem ((c.tc : Thread Cert.RateOut.nD Cert.RateOut.τ).loc Cert.RateOut.main_arg0) = m ((c.tc : Thread Cert.RateOut.nD Cert.RateOut.τ).loc Cert.RateOut.main_arg0)
      ∧ r.2.mem ((c.tc : Thread Cert.RateOut.nD Cert.RateOut.τ).loc Cert.RateOut.main_arg1) = m ((c.tc : Thread Cert.RateOut.nD Cert.RateOut.τ).loc Cert.RateOut.main_arg1))
      ∧ r.2.sem = fun _ => 0)

def quiescent_RateOutIdeal [hRateOutIdeal : Cert.RateOutIdeal.Facts] : Prop :=
  ∀ (m : (ℓ : Loc Cert.RateOutIdeal.nD Cert.RateOutIdeal.τ Cert.RateOutIdeal.sig) → Buf (Elt Ideal) ℓ) (g : Dev Cert.RateOutIdeal.nD → PrngReg), Pre_RateOutIdeal m →
    θ_run (Cert.RateOutIdeal.defs (F := Ideal)) (onTc (τ := Cert.RateOutIdeal.τ) (Cert.RateOutIdeal.main (F := Ideal))) ⟨m, fun _ => 0, g⟩ (fun r => (∀ c : Dev Cert.RateOutIdeal.nD,
      r.2.mem ((c.tc : Thread Cert.RateOutIdeal.nD Cert.RateOutIdeal.τ).loc Cert.RateOutIdeal.main_arg0) = m ((c.tc : Thread Cert.RateOutIdeal.nD Cert.RateOutIdeal.τ).loc Cert.RateOutIdeal.main_arg0)
      ∧ r.2.mem ((c.tc : Thread Cert.RateOutIdeal.nD Cert.RateOutIdeal.τ).loc Cert.RateOutIdeal.main_arg1) = m ((c.tc : Thread Cert.RateOutIdeal.nD Cert.RateOutIdeal.τ).loc Cert.RateOutIdeal.main_arg1))
      ∧ r.2.sem = fun _ => 0)

def quiescent_RateOutReferenceIdeal [hRateOutReferenceIdeal : Cert.RateOutReferenceIdeal.Facts] : Prop :=
  ∀ (m : (ℓ : Loc Cert.RateOutReferenceIdeal.nD Cert.RateOutReferenceIdeal.τ Cert.RateOutReferenceIdeal.sig) → Buf (Elt Ideal) ℓ) (g : Dev Cert.RateOutReferenceIdeal.nD → PrngReg), Pre_RateOutReferenceIdeal m →
    θ_run (Cert.RateOutReferenceIdeal.defs (F := Ideal)) (onTc (τ := Cert.RateOutReferenceIdeal.τ) (Cert.RateOutReferenceIdeal.main (F := Ideal))) ⟨m, fun _ => 0, g⟩ (fun r => (∀ c : Dev Cert.RateOutReferenceIdeal.nD,
      r.2.mem ((c.tc : Thread Cert.RateOutReferenceIdeal.nD Cert.RateOutReferenceIdeal.τ).loc Cert.RateOutReferenceIdeal.main_arg0) = m ((c.tc : Thread Cert.RateOutReferenceIdeal.nD Cert.RateOutReferenceIdeal.τ).loc Cert.RateOutReferenceIdeal.main_arg0)
      ∧ r.2.mem ((c.tc : Thread Cert.RateOutReferenceIdeal.nD Cert.RateOutReferenceIdeal.τ).loc Cert.RateOutReferenceIdeal.main_arg1) = m ((c.tc : Thread Cert.RateOutReferenceIdeal.nD Cert.RateOutReferenceIdeal.τ).loc Cert.RateOutReferenceIdeal.main_arg1))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ r.2.sem = fun _ => 0)

def quiescent_NormPromptReferenceIdeal [hNormPromptReferenceIdeal : Cert.NormPromptReferenceIdeal.Facts] : Prop :=
  ∀ (m : (ℓ : Loc Cert.NormPromptReferenceIdeal.nD Cert.NormPromptReferenceIdeal.τ Cert.NormPromptReferenceIdeal.sig) → Buf (Elt Ideal) ℓ) (g : Dev Cert.NormPromptReferenceIdeal.nD → PrngReg), Pre_NormPromptReferenceIdeal m →
    θ_run (Cert.NormPromptReferenceIdeal.defs (F := Ideal)) (onTc (τ := Cert.NormPromptReferenceIdeal.τ) (Cert.NormPromptReferenceIdeal.main (F := Ideal))) ⟨m, fun _ => 0, g⟩ (fun r => (∀ c : Dev Cert.NormPromptReferenceIdeal.nD,
      r.2.mem ((c.tc : Thread Cert.NormPromptReferenceIdeal.nD Cert.NormPromptReferenceIdeal.τ).loc Cert.NormPromptReferenceIdeal.main_arg0) = m ((c.tc : Thread Cert.NormPromptReferenceIdeal.nD Cert.NormPromptReferenceIdeal.τ).loc Cert.NormPromptReferenceIdeal.main_arg0)
      ∧ r.2.mem ((c.tc : Thread Cert.NormPromptReferenceIdeal.nD Cert.NormPromptReferenceIdeal.τ).loc Cert.NormPromptReferenceIdeal.main_arg1) = m ((c.tc : Thread Cert.NormPromptReferenceIdeal.nD Cert.NormPromptReferenceIdeal.τ).loc Cert.NormPromptReferenceIdeal.main_arg1))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleReferenceIdeal [hNormSampleReferenceIdeal : Cert.NormSampleReferenceIdeal.Facts] : Prop :=
  ∀ (m : (ℓ : Loc Cert.NormSampleReferenceIdeal.nD Cert.NormSampleReferenceIdeal.τ Cert.NormSampleReferenceIdeal.sig) → Buf (Elt Ideal) ℓ) (g : Dev Cert.NormSampleReferenceIdeal.nD → PrngReg), Pre_NormSampleReferenceIdeal m →
    θ_run (Cert.NormSampleReferenceIdeal.defs (F := Ideal)) (onTc (τ := Cert.NormSampleReferenceIdeal.τ) (Cert.NormSampleReferenceIdeal.main (F := Ideal))) ⟨m, fun _ => 0, g⟩ (fun r => (∀ c : Dev Cert.NormSampleReferenceIdeal.nD,
      r.2.mem ((c.tc : Thread Cert.NormSampleReferenceIdeal.nD Cert.NormSampleReferenceIdeal.τ).loc Cert.NormSampleReferenceIdeal.main_arg0) = m ((c.tc : Thread Cert.NormSampleReferenceIdeal.nD Cert.NormSampleReferenceIdeal.τ).loc Cert.NormSampleReferenceIdeal.main_arg0)
      ∧ r.2.mem ((c.tc : Thread Cert.NormSampleReferenceIdeal.nD Cert.NormSampleReferenceIdeal.τ).loc Cert.NormSampleReferenceIdeal.main_arg1) = m ((c.tc : Thread Cert.NormSampleReferenceIdeal.nD Cert.NormSampleReferenceIdeal.τ).loc Cert.NormSampleReferenceIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModReferenceIdeal [hNormModReferenceIdeal : Cert.NormModReferenceIdeal.Facts] : Prop :=
  ∀ (m : (ℓ : Loc Cert.NormModReferenceIdeal.nD Cert.NormModReferenceIdeal.τ Cert.NormModReferenceIdeal.sig) → Buf (Elt Ideal) ℓ) (g : Dev Cert.NormModReferenceIdeal.nD → PrngReg), Pre_NormModReferenceIdeal m →
    θ_run (Cert.NormModReferenceIdeal.defs (F := Ideal)) (onTc (τ := Cert.NormModReferenceIdeal.τ) (Cert.NormModReferenceIdeal.main (F := Ideal))) ⟨m, fun _ => 0, g⟩ (fun r => (∀ c : Dev Cert.NormModReferenceIdeal.nD,
      r.2.mem ((c.tc : Thread Cert.NormModReferenceIdeal.nD Cert.NormModReferenceIdeal.τ).loc Cert.NormModReferenceIdeal.main_arg0) = m ((c.tc : Thread Cert.NormModReferenceIdeal.nD Cert.NormModReferenceIdeal.τ).loc Cert.NormModReferenceIdeal.main_arg0)
      ∧ r.2.mem ((c.tc : Thread Cert.NormModReferenceIdeal.nD Cert.NormModReferenceIdeal.τ).loc Cert.NormModReferenceIdeal.main_arg1) = m ((c.tc : Thread Cert.NormModReferenceIdeal.nD Cert.NormModReferenceIdeal.τ).loc Cert.NormModReferenceIdeal.main_arg1)
      ∧ r.2.mem ((c.tc : Thread Cert.NormModReferenceIdeal.nD Cert.NormModReferenceIdeal.τ).loc Cert.NormModReferenceIdeal.main_arg2) = m ((c.tc : Thread Cert.NormModReferenceIdeal.nD Cert.NormModReferenceIdeal.τ).loc Cert.NormModReferenceIdeal.main_arg2)
      ∧ r.2.mem ((c.tc : Thread Cert.NormModReferenceIdeal.nD Cert.NormModReferenceIdeal.τ).loc Cert.NormModReferenceIdeal.main_arg3) = m ((c.tc : Thread Cert.NormModReferenceIdeal.nD Cert.NormModReferenceIdeal.τ).loc Cert.NormModReferenceIdeal.main_arg3))
      ∧ r.2.sem = fun _ => 0)

def quiescent_NormRw [hNormRw : Cert.NormRw.Facts] : Prop :=
  ∀ (m : (ℓ : Loc Cert.NormRw.nD Cert.NormRw.τ Cert.NormRw.sig) → Buf (Elt Bits) ℓ) (g : Dev Cert.NormRw.nD → PrngReg), Pre_NormRw m →
    θ_run (Cert.NormRw.defs (F := Bits)) (onTc (τ := Cert.NormRw.τ) (Cert.NormRw.main (F := Bits))) ⟨m, fun _ => 0, g⟩ (fun r => (∀ c : Dev Cert.NormRw.nD,
      r.2.mem ((c.tc : Thread Cert.NormRw.nD Cert.NormRw.τ).loc Cert.NormRw.main_arg0) = m ((c.tc : Thread Cert.NormRw.nD Cert.NormRw.τ).loc Cert.NormRw.main_arg0)
      ∧ r.2.mem ((c.tc : Thread Cert.NormRw.nD Cert.NormRw.τ).loc Cert.NormRw.main_arg1) = m ((c.tc : Thread Cert.NormRw.nD Cert.NormRw.τ).loc Cert.NormRw.main_arg1)
      ∧ r.2.mem ((c.tc : Thread Cert.NormRw.nD Cert.NormRw.τ).loc Cert.NormRw.main_arg2) = m ((c.tc : Thread Cert.NormRw.nD Cert.NormRw.τ).loc Cert.NormRw.main_arg2)
      ∧ r.2.mem ((c.tc : Thread Cert.NormRw.nD Cert.NormRw.τ).loc Cert.NormRw.main_arg3) = m ((c.tc : Thread Cert.NormRw.nD Cert.NormRw.τ).loc Cert.NormRw.main_arg3))
      ∧ r.2.sem = fun _ => 0)

def quiescent_NormRwIdeal [hNormRwIdeal : Cert.NormRwIdeal.Facts] : Prop :=
  ∀ (m : (ℓ : Loc Cert.NormRwIdeal.nD Cert.NormRwIdeal.τ Cert.NormRwIdeal.sig) → Buf (Elt Ideal) ℓ) (g : Dev Cert.NormRwIdeal.nD → PrngReg), Pre_NormRwIdeal m →
    θ_run (Cert.NormRwIdeal.defs (F := Ideal)) (onTc (τ := Cert.NormRwIdeal.τ) (Cert.NormRwIdeal.main (F := Ideal))) ⟨m, fun _ => 0, g⟩ (fun r => (∀ c : Dev Cert.NormRwIdeal.nD,
      r.2.mem ((c.tc : Thread Cert.NormRwIdeal.nD Cert.NormRwIdeal.τ).loc Cert.NormRwIdeal.main_arg0) = m ((c.tc : Thread Cert.NormRwIdeal.nD Cert.NormRwIdeal.τ).loc Cert.NormRwIdeal.main_arg0)
      ∧ r.2.mem ((c.tc : Thread Cert.NormRwIdeal.nD Cert.NormRwIdeal.τ).loc Cert.NormRwIdeal.main_arg1) = m ((c.tc : Thread Cert.NormRwIdeal.nD Cert.NormRwIdeal.τ).loc Cert.NormRwIdeal.main_arg1)
      ∧ r.2.mem ((c.tc : Thread Cert.NormRwIdeal.nD Cert.NormRwIdeal.τ).loc Cert.NormRwIdeal.main_arg2) = m ((c.tc : Thread Cert.NormRwIdeal.nD Cert.NormRwIdeal.τ).loc Cert.NormRwIdeal.main_arg2)
      ∧ r.2.mem ((c.tc : Thread Cert.NormRwIdeal.nD Cert.NormRwIdeal.τ).loc Cert.NormRwIdeal.main_arg3) = m ((c.tc : Thread Cert.NormRwIdeal.nD Cert.NormRwIdeal.τ).loc Cert.NormRwIdeal.main_arg3))
      ∧ r.2.sem = fun _ => 0)

def quiescent_NormRwReferenceIdeal [hNormRwReferenceIdeal : Cert.NormRwReferenceIdeal.Facts] : Prop :=
  ∀ (m : (ℓ : Loc Cert.NormRwReferenceIdeal.nD Cert.NormRwReferenceIdeal.τ Cert.NormRwReferenceIdeal.sig) → Buf (Elt Ideal) ℓ) (g : Dev Cert.NormRwReferenceIdeal.nD → PrngReg), Pre_NormRwReferenceIdeal m →
    θ_run (Cert.NormRwReferenceIdeal.defs (F := Ideal)) (onTc (τ := Cert.NormRwReferenceIdeal.τ) (Cert.NormRwReferenceIdeal.main (F := Ideal))) ⟨m, fun _ => 0, g⟩ (fun r => (∀ c : Dev Cert.NormRwReferenceIdeal.nD,
      r.2.mem ((c.tc : Thread Cert.NormRwReferenceIdeal.nD Cert.NormRwReferenceIdeal.τ).loc Cert.NormRwReferenceIdeal.main_arg0) = m ((c.tc : Thread Cert.NormRwReferenceIdeal.nD Cert.NormRwReferenceIdeal.τ).loc Cert.NormRwReferenceIdeal.main_arg0)
      ∧ r.2.mem ((c.tc : Thread Cert.NormRwReferenceIdeal.nD Cert.NormRwReferenceIdeal.τ).loc Cert.NormRwReferenceIdeal.main_arg1) = m ((c.tc : Thread Cert.NormRwReferenceIdeal.nD Cert.NormRwReferenceIdeal.τ).loc Cert.NormRwReferenceIdeal.main_arg1)
      ∧ r.2.mem ((c.tc : Thread Cert.NormRwReferenceIdeal.nD Cert.NormRwReferenceIdeal.τ).loc Cert.NormRwReferenceIdeal.main_arg2) = m ((c.tc : Thread Cert.NormRwReferenceIdeal.nD Cert.NormRwReferenceIdeal.τ).loc Cert.NormRwReferenceIdeal.main_arg2)
      ∧ r.2.mem ((c.tc : Thread Cert.NormRwReferenceIdeal.nD Cert.NormRwReferenceIdeal.τ).loc Cert.NormRwReferenceIdeal.main_arg3) = m ((c.tc : Thread Cert.NormRwReferenceIdeal.nD Cert.NormRwReferenceIdeal.τ).loc Cert.NormRwReferenceIdeal.main_arg3))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0)
      ∧ r.2.mem ((c.tc : Thread Cert.Back.nD Cert.Back.τ).loc Cert.Back.main_arg1) = m ((c.tc : Thread Cert.Back.nD Cert.Back.τ).loc Cert.Back.main_arg1))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0)
      ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1))
      ∧ r.2.sem = fun _ => 0)

def quiescent_HgrnReferenceIdeal [hHgrnReferenceIdeal : Cert.HgrnReferenceIdeal.Facts] : Prop :=
  ∀ (m : (ℓ : Loc Cert.HgrnReferenceIdeal.nD Cert.HgrnReferenceIdeal.τ Cert.HgrnReferenceIdeal.sig) → Buf (Elt Ideal) ℓ) (g : Dev Cert.HgrnReferenceIdeal.nD → PrngReg), Pre_HgrnReferenceIdeal m →
    θ_run (Cert.HgrnReferenceIdeal.defs (F := Ideal)) (onTc (τ := Cert.HgrnReferenceIdeal.τ) (Cert.HgrnReferenceIdeal.main (F := Ideal))) ⟨m, fun _ => 0, g⟩ (fun r => (∀ c : Dev Cert.HgrnReferenceIdeal.nD,
      r.2.mem ((c.tc : Thread Cert.HgrnReferenceIdeal.nD Cert.HgrnReferenceIdeal.τ).loc Cert.HgrnReferenceIdeal.main_arg0) = m ((c.tc : Thread Cert.HgrnReferenceIdeal.nD Cert.HgrnReferenceIdeal.τ).loc Cert.HgrnReferenceIdeal.main_arg0)
      ∧ r.2.mem ((c.tc : Thread Cert.HgrnReferenceIdeal.nD Cert.HgrnReferenceIdeal.τ).loc Cert.HgrnReferenceIdeal.main_arg1) = m ((c.tc : Thread Cert.HgrnReferenceIdeal.nD Cert.HgrnReferenceIdeal.τ).loc Cert.HgrnReferenceIdeal.main_arg1))
      ∧ r.2.sem = fun _ => 0)

def quiescent_HgrnBack [hHgrnBack : Cert.HgrnBack.Facts] : Prop :=
  ∀ (m : (ℓ : Loc Cert.HgrnBack.nD Cert.HgrnBack.τ Cert.HgrnBack.sig) → Buf (Elt Bits) ℓ) (g : Dev Cert.HgrnBack.nD → PrngReg), Pre_HgrnBack m →
    θ_run (Cert.HgrnBack.defs (F := Bits)) (onTc (τ := Cert.HgrnBack.τ) (Cert.HgrnBack.main (F := Bits))) ⟨m, fun _ => 0, g⟩ (fun r => (∀ c : Dev Cert.HgrnBack.nD,
      r.2.mem ((c.tc : Thread Cert.HgrnBack.nD Cert.HgrnBack.τ).loc Cert.HgrnBack.main_arg0) = m ((c.tc : Thread Cert.HgrnBack.nD Cert.HgrnBack.τ).loc Cert.HgrnBack.main_arg0)
      ∧ r.2.mem ((c.tc : Thread Cert.HgrnBack.nD Cert.HgrnBack.τ).loc Cert.HgrnBack.main_arg1) = m ((c.tc : Thread Cert.HgrnBack.nD Cert.HgrnBack.τ).loc Cert.HgrnBack.main_arg1))
      ∧ r.2.sem = fun _ => 0)

def quiescent_HgrnBackIdeal [hHgrnBackIdeal : Cert.HgrnBackIdeal.Facts] : Prop :=
  ∀ (m : (ℓ : Loc Cert.HgrnBackIdeal.nD Cert.HgrnBackIdeal.τ Cert.HgrnBackIdeal.sig) → Buf (Elt Ideal) ℓ) (g : Dev Cert.HgrnBackIdeal.nD → PrngReg), Pre_HgrnBackIdeal m →
    θ_run (Cert.HgrnBackIdeal.defs (F := Ideal)) (onTc (τ := Cert.HgrnBackIdeal.τ) (Cert.HgrnBackIdeal.main (F := Ideal))) ⟨m, fun _ => 0, g⟩ (fun r => (∀ c : Dev Cert.HgrnBackIdeal.nD,
      r.2.mem ((c.tc : Thread Cert.HgrnBackIdeal.nD Cert.HgrnBackIdeal.τ).loc Cert.HgrnBackIdeal.main_arg0) = m ((c.tc : Thread Cert.HgrnBackIdeal.nD Cert.HgrnBackIdeal.τ).loc Cert.HgrnBackIdeal.main_arg0)
      ∧ r.2.mem ((c.tc : Thread Cert.HgrnBackIdeal.nD Cert.HgrnBackIdeal.τ).loc Cert.HgrnBackIdeal.main_arg1) = m ((c.tc : Thread Cert.HgrnBackIdeal.nD Cert.HgrnBackIdeal.τ).loc Cert.HgrnBackIdeal.main_arg1))
      ∧ r.2.sem = fun _ => 0)

def quiescent_HgrnBackReferenceIdeal [hHgrnBackReferenceIdeal : Cert.HgrnBackReferenceIdeal.Facts] : Prop :=
  ∀ (m : (ℓ : Loc Cert.HgrnBackReferenceIdeal.nD Cert.HgrnBackReferenceIdeal.τ Cert.HgrnBackReferenceIdeal.sig) → Buf (Elt Ideal) ℓ) (g : Dev Cert.HgrnBackReferenceIdeal.nD → PrngReg), Pre_HgrnBackReferenceIdeal m →
    θ_run (Cert.HgrnBackReferenceIdeal.defs (F := Ideal)) (onTc (τ := Cert.HgrnBackReferenceIdeal.τ) (Cert.HgrnBackReferenceIdeal.main (F := Ideal))) ⟨m, fun _ => 0, g⟩ (fun r => (∀ c : Dev Cert.HgrnBackReferenceIdeal.nD,
      r.2.mem ((c.tc : Thread Cert.HgrnBackReferenceIdeal.nD Cert.HgrnBackReferenceIdeal.τ).loc Cert.HgrnBackReferenceIdeal.main_arg0) = m ((c.tc : Thread Cert.HgrnBackReferenceIdeal.nD Cert.HgrnBackReferenceIdeal.τ).loc Cert.HgrnBackReferenceIdeal.main_arg0)
      ∧ r.2.mem ((c.tc : Thread Cert.HgrnBackReferenceIdeal.nD Cert.HgrnBackReferenceIdeal.τ).loc Cert.HgrnBackReferenceIdeal.main_arg1) = m ((c.tc : Thread Cert.HgrnBackReferenceIdeal.nD Cert.HgrnBackReferenceIdeal.τ).loc Cert.HgrnBackReferenceIdeal.main_arg1))
      ∧ r.2.sem = fun _ => 0)

def preserves_Kernel_KernelIdeal : Prop :=
  True

def algebraic_KernelIdeal_ReferenceIdeal_on_prompt_rows [hKernelIdeal : Cert.KernelIdeal.Facts] [hReferenceIdeal : Cert.ReferenceIdeal.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![96, 256, 2048]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v2_0) i = v0 c i)
          ∧ (∀ i : (⟨4, ![32, 4, 256, 512]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v2_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![96, 256, 2048]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v115) i = v0 c i)
          ∧ (∀ i : (⟨4, ![32, 4, 256, 512]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v105) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v8) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v11) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_ExpertUp_ExpertUpIdeal : Prop :=
  True

def algebraic_ExpertUpIdeal_ExpertUpReferenceIdeal_on_valid_rows [hExpertUpIdeal : Cert.ExpertUpIdeal.Facts] [hExpertUpReferenceIdeal : Cert.ExpertUpReferenceIdeal.Facts] [hPre_expert_range : Cert.Pre_expert_range.Facts] [hOn_valid_rows : Cert.On_valid_rows.Facts] : Prop :=
  ∀ (m : (ℓ : Loc Cert.ExpertUpIdeal.nD Cert.ExpertUpIdeal.τ Cert.ExpertUpIdeal.sig) → Buf (Elt Ideal) ℓ) (g : Dev Cert.ExpertUpIdeal.nD → PrngReg)
    (m' : (ℓ : Loc Cert.ExpertUpReferenceIdeal.nD Cert.ExpertUpReferenceIdeal.τ Cert.ExpertUpReferenceIdeal.sig) → Buf (Elt Ideal) ℓ) (g' : Dev Cert.ExpertUpReferenceIdeal.nD → PrngReg), Pre_ExpertUpIdeal m →
    (∀ c : Dev Cert.ExpertUpIdeal.nD,
      m' ((c.tc : Thread Cert.ExpertUpReferenceIdeal.nD Cert.ExpertUpReferenceIdeal.τ).loc Cert.ExpertUpReferenceIdeal.main_arg0) = m ((c.tc : Thread Cert.ExpertUpIdeal.nD Cert.ExpertUpIdeal.τ).loc Cert.ExpertUpIdeal.main_arg0)
      ∧ m' ((c.tc : Thread Cert.ExpertUpReferenceIdeal.nD Cert.ExpertUpReferenceIdeal.τ).loc Cert.ExpertUpReferenceIdeal.main_arg1) = m ((c.tc : Thread Cert.ExpertUpIdeal.nD Cert.ExpertUpIdeal.τ).loc Cert.ExpertUpIdeal.main_arg1)
      ∧ m' ((c.tc : Thread Cert.ExpertUpReferenceIdeal.nD Cert.ExpertUpReferenceIdeal.τ).loc Cert.ExpertUpReferenceIdeal.main_arg2) = m ((c.tc : Thread Cert.ExpertUpIdeal.nD Cert.ExpertUpIdeal.τ).loc Cert.ExpertUpIdeal.main_arg2)
      ∧ m' ((c.tc : Thread Cert.ExpertUpReferenceIdeal.nD Cert.ExpertUpReferenceIdeal.τ).loc Cert.ExpertUpReferenceIdeal.main_arg3) = m ((c.tc : Thread Cert.ExpertUpIdeal.nD Cert.ExpertUpIdeal.τ).loc Cert.ExpertUpIdeal.main_arg3)
      ∧ m' ((c.tc : Thread Cert.ExpertUpReferenceIdeal.nD Cert.ExpertUpReferenceIdeal.τ).loc Cert.ExpertUpReferenceIdeal.main_arg4) = m ((c.tc : Thread Cert.ExpertUpIdeal.nD Cert.ExpertUpIdeal.τ).loc Cert.ExpertUpIdeal.main_arg4)) →
    ∃ (v0 : (c : Dev Cert.ExpertUpIdeal.nD) → Buf (Elt Ideal) ((c.tc : Thread Cert.ExpertUpIdeal.nD Cert.ExpertUpIdeal.τ).loc Cert.ExpertUpIdeal.main_v0)),
      θ_run (Cert.ExpertUpIdeal.defs (F := Ideal)) (onTc (τ := Cert.ExpertUpIdeal.τ) (Cert.ExpertUpIdeal.main (F := Ideal))) ⟨m, fun _ => 0, g⟩ (fun r => ∀ c : Dev Cert.ExpertUpIdeal.nD,
          (∀ i : (⟨2, ![76800, 2816]⟩ : Shape).Idx, (Cert.On_valid_rows.fn (F := Ideal) (m ((c.tc : Thread Cert.ExpertUpIdeal.nD Cert.ExpertUpIdeal.τ).loc Cert.ExpertUpIdeal.main_arg0)) (m ((c.tc : Thread Cert.ExpertUpIdeal.nD Cert.ExpertUpIdeal.τ).loc Cert.ExpertUpIdeal.main_arg1)) (m ((c.tc : Thread Cert.ExpertUpIdeal.nD Cert.ExpertUpIdeal.τ).loc Cert.ExpertUpIdeal.main_arg2)) (m ((c.tc : Thread Cert.ExpertUpIdeal.nD Cert.ExpertUpIdeal.τ).loc Cert.ExpertUpIdeal.main_arg3)) (m ((c.tc : Thread Cert.ExpertUpIdeal.nD Cert.ExpertUpIdeal.τ).loc Cert.ExpertUpIdeal.main_arg4))) i = 1#1 → r.2.mem ((c.tc : Thread Cert.ExpertUpIdeal.nD Cert.ExpertUpIdeal.τ).loc Cert.ExpertUpIdeal.main_v0) i = v0 c i)
          ∧ r.2.mem ((c.tc : Thread Cert.ExpertUpIdeal.nD Cert.ExpertUpIdeal.τ).loc Cert.ExpertUpIdeal.main_arg0) = m ((c.tc : Thread Cert.ExpertUpIdeal.nD Cert.ExpertUpIdeal.τ).loc Cert.ExpertUpIdeal.main_arg0)
          ∧ r.2.mem ((c.tc : Thread Cert.ExpertUpIdeal.nD Cert.ExpertUpIdeal.τ).loc Cert.ExpertUpIdeal.main_arg1) = m ((c.tc : Thread Cert.ExpertUpIdeal.nD Cert.ExpertUpIdeal.τ).loc Cert.ExpertUpIdeal.main_arg1)
          ∧ r.2.mem ((c.tc : Thread Cert.ExpertUpIdeal.nD Cert.ExpertUpIdeal.τ).loc Cert.ExpertUpIdeal.main_arg2) = m ((c.tc : Thread Cert.ExpertUpIdeal.nD Cert.ExpertUpIdeal.τ).loc Cert.ExpertUpIdeal.main_arg2)
          ∧ r.2.mem ((c.tc : Thread Cert.ExpertUpIdeal.nD Cert.ExpertUpIdeal.τ).loc Cert.ExpertUpIdeal.main_arg3) = m ((c.tc : Thread Cert.ExpertUpIdeal.nD Cert.ExpertUpIdeal.τ).loc Cert.ExpertUpIdeal.main_arg3)
          ∧ r.2.mem ((c.tc : Thread Cert.ExpertUpIdeal.nD Cert.ExpertUpIdeal.τ).loc Cert.ExpertUpIdeal.main_arg4) = m ((c.tc : Thread Cert.ExpertUpIdeal.nD Cert.ExpertUpIdeal.τ).loc Cert.ExpertUpIdeal.main_arg4))
      ∧ θ_run (Cert.ExpertUpReferenceIdeal.defs (F := Ideal)) (onTc (τ := Cert.ExpertUpReferenceIdeal.τ) (Cert.ExpertUpReferenceIdeal.main (F := Ideal))) ⟨m', fun _ => 0, g'⟩ (fun r => ∀ c : Dev Cert.ExpertUpReferenceIdeal.nD,
          (∀ i : (⟨2, ![76800, 2816]⟩ : Shape).Idx, (Cert.On_valid_rows.fn (F := Ideal) (m ((c.tc : Thread Cert.ExpertUpIdeal.nD Cert.ExpertUpIdeal.τ).loc Cert.ExpertUpIdeal.main_arg0)) (m ((c.tc : Thread Cert.ExpertUpIdeal.nD Cert.ExpertUpIdeal.τ).loc Cert.ExpertUpIdeal.main_arg1)) (m ((c.tc : Thread Cert.ExpertUpIdeal.nD Cert.ExpertUpIdeal.τ).loc Cert.ExpertUpIdeal.main_arg2)) (m ((c.tc : Thread Cert.ExpertUpIdeal.nD Cert.ExpertUpIdeal.τ).loc Cert.ExpertUpIdeal.main_arg3)) (m ((c.tc : Thread Cert.ExpertUpIdeal.nD Cert.ExpertUpIdeal.τ).loc Cert.ExpertUpIdeal.main_arg4))) i = 1#1 → r.2.mem ((c.tc : Thread Cert.ExpertUpReferenceIdeal.nD Cert.ExpertUpReferenceIdeal.τ).loc Cert.ExpertUpReferenceIdeal.main_v102) i = v0 c i)
          ∧ r.2.mem ((c.tc : Thread Cert.ExpertUpReferenceIdeal.nD Cert.ExpertUpReferenceIdeal.τ).loc Cert.ExpertUpReferenceIdeal.main_arg0) = m' ((c.tc : Thread Cert.ExpertUpReferenceIdeal.nD Cert.ExpertUpReferenceIdeal.τ).loc Cert.ExpertUpReferenceIdeal.main_arg0)
          ∧ r.2.mem ((c.tc : Thread Cert.ExpertUpReferenceIdeal.nD Cert.ExpertUpReferenceIdeal.τ).loc Cert.ExpertUpReferenceIdeal.main_arg1) = m' ((c.tc : Thread Cert.ExpertUpReferenceIdeal.nD Cert.ExpertUpReferenceIdeal.τ).loc Cert.ExpertUpReferenceIdeal.main_arg1)
          ∧ r.2.mem ((c.tc : Thread Cert.ExpertUpReferenceIdeal.nD Cert.ExpertUpReferenceIdeal.τ).loc Cert.ExpertUpReferenceIdeal.main_arg2) = m' ((c.tc : Thread Cert.ExpertUpReferenceIdeal.nD Cert.ExpertUpReferenceIdeal.τ).loc Cert.ExpertUpReferenceIdeal.main_arg2)
          ∧ r.2.mem ((c.tc : Thread Cert.ExpertUpReferenceIdeal.nD Cert.ExpertUpReferenceIdeal.τ).loc Cert.ExpertUpReferenceIdeal.main_arg3) = m' ((c.tc : Thread Cert.ExpertUpReferenceIdeal.nD Cert.ExpertUpReferenceIdeal.τ).loc Cert.ExpertUpReferenceIdeal.main_arg3)
          ∧ r.2.mem ((c.tc : Thread Cert.ExpertUpReferenceIdeal.nD Cert.ExpertUpReferenceIdeal.τ).loc Cert.ExpertUpReferenceIdeal.main_arg4) = m' ((c.tc : Thread Cert.ExpertUpReferenceIdeal.nD Cert.ExpertUpReferenceIdeal.τ).loc Cert.ExpertUpReferenceIdeal.main_arg4))

def preserves_ExpertDown_ExpertDownIdeal : Prop :=
  True

def algebraic_ExpertDownIdeal_ExpertDownReferenceIdeal_on_down_rows [hExpertDownIdeal : Cert.ExpertDownIdeal.Facts] [hExpertDownReferenceIdeal : Cert.ExpertDownReferenceIdeal.Facts] [hPre_down_range : Cert.Pre_down_range.Facts] [hOn_down_rows : Cert.On_down_rows.Facts] : Prop :=
  ∀ (m : (ℓ : Loc Cert.ExpertDownIdeal.nD Cert.ExpertDownIdeal.τ Cert.ExpertDownIdeal.sig) → Buf (Elt Ideal) ℓ) (g : Dev Cert.ExpertDownIdeal.nD → PrngReg)
    (m' : (ℓ : Loc Cert.ExpertDownReferenceIdeal.nD Cert.ExpertDownReferenceIdeal.τ Cert.ExpertDownReferenceIdeal.sig) → Buf (Elt Ideal) ℓ) (g' : Dev Cert.ExpertDownReferenceIdeal.nD → PrngReg), Pre_ExpertDownIdeal m →
    (∀ c : Dev Cert.ExpertDownIdeal.nD,
      m' ((c.tc : Thread Cert.ExpertDownReferenceIdeal.nD Cert.ExpertDownReferenceIdeal.τ).loc Cert.ExpertDownReferenceIdeal.main_arg0) = m ((c.tc : Thread Cert.ExpertDownIdeal.nD Cert.ExpertDownIdeal.τ).loc Cert.ExpertDownIdeal.main_arg0)
      ∧ m' ((c.tc : Thread Cert.ExpertDownReferenceIdeal.nD Cert.ExpertDownReferenceIdeal.τ).loc Cert.ExpertDownReferenceIdeal.main_arg1) = m ((c.tc : Thread Cert.ExpertDownIdeal.nD Cert.ExpertDownIdeal.τ).loc Cert.ExpertDownIdeal.main_arg1)
      ∧ m' ((c.tc : Thread Cert.ExpertDownReferenceIdeal.nD Cert.ExpertDownReferenceIdeal.τ).loc Cert.ExpertDownReferenceIdeal.main_arg2) = m ((c.tc : Thread Cert.ExpertDownIdeal.nD Cert.ExpertDownIdeal.τ).loc Cert.ExpertDownIdeal.main_arg2)
      ∧ m' ((c.tc : Thread Cert.ExpertDownReferenceIdeal.nD Cert.ExpertDownReferenceIdeal.τ).loc Cert.ExpertDownReferenceIdeal.main_arg3) = m ((c.tc : Thread Cert.ExpertDownIdeal.nD Cert.ExpertDownIdeal.τ).loc Cert.ExpertDownIdeal.main_arg3)
      ∧ m' ((c.tc : Thread Cert.ExpertDownReferenceIdeal.nD Cert.ExpertDownReferenceIdeal.τ).loc Cert.ExpertDownReferenceIdeal.main_arg4) = m ((c.tc : Thread Cert.ExpertDownIdeal.nD Cert.ExpertDownIdeal.τ).loc Cert.ExpertDownIdeal.main_arg4)) →
    ∃ (v0 : (c : Dev Cert.ExpertDownIdeal.nD) → Buf (Elt Ideal) ((c.tc : Thread Cert.ExpertDownIdeal.nD Cert.ExpertDownIdeal.τ).loc Cert.ExpertDownIdeal.main_v0)),
      θ_run (Cert.ExpertDownIdeal.defs (F := Ideal)) (onTc (τ := Cert.ExpertDownIdeal.τ) (Cert.ExpertDownIdeal.main (F := Ideal))) ⟨m, fun _ => 0, g⟩ (fun r => ∀ c : Dev Cert.ExpertDownIdeal.nD,
          (∀ i : (⟨2, ![76800, 2048]⟩ : Shape).Idx, (Cert.On_down_rows.fn (F := Ideal) (m ((c.tc : Thread Cert.ExpertDownIdeal.nD Cert.ExpertDownIdeal.τ).loc Cert.ExpertDownIdeal.main_arg0)) (m ((c.tc : Thread Cert.ExpertDownIdeal.nD Cert.ExpertDownIdeal.τ).loc Cert.ExpertDownIdeal.main_arg1)) (m ((c.tc : Thread Cert.ExpertDownIdeal.nD Cert.ExpertDownIdeal.τ).loc Cert.ExpertDownIdeal.main_arg2)) (m ((c.tc : Thread Cert.ExpertDownIdeal.nD Cert.ExpertDownIdeal.τ).loc Cert.ExpertDownIdeal.main_arg3)) (m ((c.tc : Thread Cert.ExpertDownIdeal.nD Cert.ExpertDownIdeal.τ).loc Cert.ExpertDownIdeal.main_arg4))) i = 1#1 → r.2.mem ((c.tc : Thread Cert.ExpertDownIdeal.nD Cert.ExpertDownIdeal.τ).loc Cert.ExpertDownIdeal.main_v0) i = v0 c i)
          ∧ r.2.mem ((c.tc : Thread Cert.ExpertDownIdeal.nD Cert.ExpertDownIdeal.τ).loc Cert.ExpertDownIdeal.main_arg0) = m ((c.tc : Thread Cert.ExpertDownIdeal.nD Cert.ExpertDownIdeal.τ).loc Cert.ExpertDownIdeal.main_arg0)
          ∧ r.2.mem ((c.tc : Thread Cert.ExpertDownIdeal.nD Cert.ExpertDownIdeal.τ).loc Cert.ExpertDownIdeal.main_arg1) = m ((c.tc : Thread Cert.ExpertDownIdeal.nD Cert.ExpertDownIdeal.τ).loc Cert.ExpertDownIdeal.main_arg1)
          ∧ r.2.mem ((c.tc : Thread Cert.ExpertDownIdeal.nD Cert.ExpertDownIdeal.τ).loc Cert.ExpertDownIdeal.main_arg2) = m ((c.tc : Thread Cert.ExpertDownIdeal.nD Cert.ExpertDownIdeal.τ).loc Cert.ExpertDownIdeal.main_arg2)
          ∧ r.2.mem ((c.tc : Thread Cert.ExpertDownIdeal.nD Cert.ExpertDownIdeal.τ).loc Cert.ExpertDownIdeal.main_arg3) = m ((c.tc : Thread Cert.ExpertDownIdeal.nD Cert.ExpertDownIdeal.τ).loc Cert.ExpertDownIdeal.main_arg3)
          ∧ r.2.mem ((c.tc : Thread Cert.ExpertDownIdeal.nD Cert.ExpertDownIdeal.τ).loc Cert.ExpertDownIdeal.main_arg4) = m ((c.tc : Thread Cert.ExpertDownIdeal.nD Cert.ExpertDownIdeal.τ).loc Cert.ExpertDownIdeal.main_arg4))
      ∧ θ_run (Cert.ExpertDownReferenceIdeal.defs (F := Ideal)) (onTc (τ := Cert.ExpertDownReferenceIdeal.τ) (Cert.ExpertDownReferenceIdeal.main (F := Ideal))) ⟨m', fun _ => 0, g'⟩ (fun r => ∀ c : Dev Cert.ExpertDownReferenceIdeal.nD,
          (∀ i : (⟨2, ![76800, 2048]⟩ : Shape).Idx, (Cert.On_down_rows.fn (F := Ideal) (m ((c.tc : Thread Cert.ExpertDownIdeal.nD Cert.ExpertDownIdeal.τ).loc Cert.ExpertDownIdeal.main_arg0)) (m ((c.tc : Thread Cert.ExpertDownIdeal.nD Cert.ExpertDownIdeal.τ).loc Cert.ExpertDownIdeal.main_arg1)) (m ((c.tc : Thread Cert.ExpertDownIdeal.nD Cert.ExpertDownIdeal.τ).loc Cert.ExpertDownIdeal.main_arg2)) (m ((c.tc : Thread Cert.ExpertDownIdeal.nD Cert.ExpertDownIdeal.τ).loc Cert.ExpertDownIdeal.main_arg3)) (m ((c.tc : Thread Cert.ExpertDownIdeal.nD Cert.ExpertDownIdeal.τ).loc Cert.ExpertDownIdeal.main_arg4))) i = 1#1 → r.2.mem ((c.tc : Thread Cert.ExpertDownReferenceIdeal.nD Cert.ExpertDownReferenceIdeal.τ).loc Cert.ExpertDownReferenceIdeal.main_v64) i = v0 c i)
          ∧ r.2.mem ((c.tc : Thread Cert.ExpertDownReferenceIdeal.nD Cert.ExpertDownReferenceIdeal.τ).loc Cert.ExpertDownReferenceIdeal.main_arg0) = m' ((c.tc : Thread Cert.ExpertDownReferenceIdeal.nD Cert.ExpertDownReferenceIdeal.τ).loc Cert.ExpertDownReferenceIdeal.main_arg0)
          ∧ r.2.mem ((c.tc : Thread Cert.ExpertDownReferenceIdeal.nD Cert.ExpertDownReferenceIdeal.τ).loc Cert.ExpertDownReferenceIdeal.main_arg1) = m' ((c.tc : Thread Cert.ExpertDownReferenceIdeal.nD Cert.ExpertDownReferenceIdeal.τ).loc Cert.ExpertDownReferenceIdeal.main_arg1)
          ∧ r.2.mem ((c.tc : Thread Cert.ExpertDownReferenceIdeal.nD Cert.ExpertDownReferenceIdeal.τ).loc Cert.ExpertDownReferenceIdeal.main_arg2) = m' ((c.tc : Thread Cert.ExpertDownReferenceIdeal.nD Cert.ExpertDownReferenceIdeal.τ).loc Cert.ExpertDownReferenceIdeal.main_arg2)
          ∧ r.2.mem ((c.tc : Thread Cert.ExpertDownReferenceIdeal.nD Cert.ExpertDownReferenceIdeal.τ).loc Cert.ExpertDownReferenceIdeal.main_arg3) = m' ((c.tc : Thread Cert.ExpertDownReferenceIdeal.nD Cert.ExpertDownReferenceIdeal.τ).loc Cert.ExpertDownReferenceIdeal.main_arg3)
          ∧ r.2.mem ((c.tc : Thread Cert.ExpertDownReferenceIdeal.nD Cert.ExpertDownReferenceIdeal.τ).loc Cert.ExpertDownReferenceIdeal.main_arg4) = m' ((c.tc : Thread Cert.ExpertDownReferenceIdeal.nD Cert.ExpertDownReferenceIdeal.τ).loc Cert.ExpertDownReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v0) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_WideProj_WideProjIdeal : Prop :=
  True

def algebraic_WideProjIdeal_WideProjReferenceIdeal [hWideProjIdeal : Cert.WideProjIdeal.Facts] [hWideProjReferenceIdeal : Cert.WideProjReferenceIdeal.Facts] : Prop :=
  ∀ (m : (ℓ : Loc Cert.WideProjIdeal.nD Cert.WideProjIdeal.τ Cert.WideProjIdeal.sig) → Buf (Elt Ideal) ℓ) (g : Dev Cert.WideProjIdeal.nD → PrngReg)
    (m' : (ℓ : Loc Cert.WideProjReferenceIdeal.nD Cert.WideProjReferenceIdeal.τ Cert.WideProjReferenceIdeal.sig) → Buf (Elt Ideal) ℓ) (g' : Dev Cert.WideProjReferenceIdeal.nD → PrngReg), Pre_WideProjIdeal m →
    (∀ c : Dev Cert.WideProjIdeal.nD,
      m' ((c.tc : Thread Cert.WideProjReferenceIdeal.nD Cert.WideProjReferenceIdeal.τ).loc Cert.WideProjReferenceIdeal.main_arg0) = m ((c.tc : Thread Cert.WideProjIdeal.nD Cert.WideProjIdeal.τ).loc Cert.WideProjIdeal.main_arg0)
      ∧ m' ((c.tc : Thread Cert.WideProjReferenceIdeal.nD Cert.WideProjReferenceIdeal.τ).loc Cert.WideProjReferenceIdeal.main_arg1) = m ((c.tc : Thread Cert.WideProjIdeal.nD Cert.WideProjIdeal.τ).loc Cert.WideProjIdeal.main_arg1)) →
    ∃ (v0 : (c : Dev Cert.WideProjIdeal.nD) → Buf (Elt Ideal) ((c.tc : Thread Cert.WideProjIdeal.nD Cert.WideProjIdeal.τ).loc Cert.WideProjIdeal.main_v0)),
      θ_run (Cert.WideProjIdeal.defs (F := Ideal)) (onTc (τ := Cert.WideProjIdeal.τ) (Cert.WideProjIdeal.main (F := Ideal))) ⟨m, fun _ => 0, g⟩ (fun r => ∀ c : Dev Cert.WideProjIdeal.nD,
          r.2.mem ((c.tc : Thread Cert.WideProjIdeal.nD Cert.WideProjIdeal.τ).loc Cert.WideProjIdeal.main_v0) = v0 c
          ∧ r.2.mem ((c.tc : Thread Cert.WideProjIdeal.nD Cert.WideProjIdeal.τ).loc Cert.WideProjIdeal.main_arg0) = m ((c.tc : Thread Cert.WideProjIdeal.nD Cert.WideProjIdeal.τ).loc Cert.WideProjIdeal.main_arg0)
          ∧ r.2.mem ((c.tc : Thread Cert.WideProjIdeal.nD Cert.WideProjIdeal.τ).loc Cert.WideProjIdeal.main_arg1) = m ((c.tc : Thread Cert.WideProjIdeal.nD Cert.WideProjIdeal.τ).loc Cert.WideProjIdeal.main_arg1))
      ∧ θ_run (Cert.WideProjReferenceIdeal.defs (F := Ideal)) (onTc (τ := Cert.WideProjReferenceIdeal.τ) (Cert.WideProjReferenceIdeal.main (F := Ideal))) ⟨m', fun _ => 0, g'⟩ (fun r => ∀ c : Dev Cert.WideProjReferenceIdeal.nD,
          r.2.mem ((c.tc : Thread Cert.WideProjReferenceIdeal.nD Cert.WideProjReferenceIdeal.τ).loc Cert.WideProjReferenceIdeal.main_v0) = v0 c
          ∧ r.2.mem ((c.tc : Thread Cert.WideProjReferenceIdeal.nD Cert.WideProjReferenceIdeal.τ).loc Cert.WideProjReferenceIdeal.main_arg0) = m' ((c.tc : Thread Cert.WideProjReferenceIdeal.nD Cert.WideProjReferenceIdeal.τ).loc Cert.WideProjReferenceIdeal.main_arg0)
          ∧ r.2.mem ((c.tc : Thread Cert.WideProjReferenceIdeal.nD Cert.WideProjReferenceIdeal.τ).loc Cert.WideProjReferenceIdeal.main_arg1) = m' ((c.tc : Thread Cert.WideProjReferenceIdeal.nD Cert.WideProjReferenceIdeal.τ).loc Cert.WideProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v9) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_HyenaOut_HyenaOutIdeal : Prop :=
  True

def algebraic_HyenaOutIdeal_HyenaOutReferenceIdeal [hHyenaOutIdeal : Cert.HyenaOutIdeal.Facts] [hHyenaOutReferenceIdeal : Cert.HyenaOutReferenceIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg)
    (m' : (ℓ : Loc Cert.HyenaOutReferenceIdeal.nD Cert.HyenaOutReferenceIdeal.τ Cert.HyenaOutReferenceIdeal.sig) → Buf (Elt Ideal) ℓ) (g' : Dev Cert.HyenaOutReferenceIdeal.nD → PrngReg), Pre_HyenaOutIdeal m →
    (∀ c : Dev Cert.HyenaOutIdeal.nD,
      m' ((c.tc : Thread Cert.HyenaOutReferenceIdeal.nD Cert.HyenaOutReferenceIdeal.τ).loc Cert.HyenaOutReferenceIdeal.main_arg0) = m ((c.tc : Thread Cert.HyenaOutIdeal.nD Cert.HyenaOutIdeal.τ).loc Cert.HyenaOutIdeal.main_arg0)
      ∧ m' ((c.tc : Thread Cert.HyenaOutReferenceIdeal.nD Cert.HyenaOutReferenceIdeal.τ).loc Cert.HyenaOutReferenceIdeal.main_arg1) = m ((c.tc : Thread Cert.HyenaOutIdeal.nD Cert.HyenaOutIdeal.τ).loc Cert.HyenaOutIdeal.main_arg1)
      ∧ m' ((c.tc : Thread Cert.HyenaOutReferenceIdeal.nD Cert.HyenaOutReferenceIdeal.τ).loc Cert.HyenaOutReferenceIdeal.main_arg2) = m ((c.tc : Thread Cert.HyenaOutIdeal.nD Cert.HyenaOutIdeal.τ).loc Cert.HyenaOutIdeal.main_arg2)
      ∧ m' ((c.tc : Thread Cert.HyenaOutReferenceIdeal.nD Cert.HyenaOutReferenceIdeal.τ).loc Cert.HyenaOutReferenceIdeal.main_arg3) = m ((c.tc : Thread Cert.HyenaOutIdeal.nD Cert.HyenaOutIdeal.τ).loc Cert.HyenaOutIdeal.main_arg3)) →
    ∃ (v0 : (c : Dev Cert.HyenaOutIdeal.nD) → Buf (Elt Ideal) ((c.tc : Thread Cert.HyenaOutIdeal.nD Cert.HyenaOutIdeal.τ).loc Cert.HyenaOutIdeal.main_v0)),
      θ_run (Cert.HyenaOutIdeal.defs (F := Ideal)) (onTc (τ := Cert.HyenaOutIdeal.τ) (Cert.HyenaOutIdeal.main (F := Ideal))) ⟨m, fun _ => 0, g⟩ (fun r => ∀ c : Dev Cert.HyenaOutIdeal.nD,
          r.2.mem ((c.tc : Thread Cert.HyenaOutIdeal.nD Cert.HyenaOutIdeal.τ).loc Cert.HyenaOutIdeal.main_v0) = v0 c
          ∧ r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
          ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
          ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2)
          ∧ r.2.mem ((c.tc : Thread Cert.HyenaOutIdeal.nD Cert.HyenaOutIdeal.τ).loc Cert.HyenaOutIdeal.main_arg3) = m ((c.tc : Thread Cert.HyenaOutIdeal.nD Cert.HyenaOutIdeal.τ).loc Cert.HyenaOutIdeal.main_arg3))
      ∧ θ_run (Cert.HyenaOutReferenceIdeal.defs (F := Ideal)) (onTc (τ := Cert.HyenaOutReferenceIdeal.τ) (Cert.HyenaOutReferenceIdeal.main (F := Ideal))) ⟨m', fun _ => 0, g'⟩ (fun r => ∀ c : Dev Cert.HyenaOutReferenceIdeal.nD,
          r.2.mem ((c.tc : Thread Cert.HyenaOutReferenceIdeal.nD Cert.HyenaOutReferenceIdeal.τ).loc Cert.HyenaOutReferenceIdeal.main_v9) = v0 c
          ∧ r.2.mem ((c.tc : Thread Cert.HyenaOutReferenceIdeal.nD Cert.HyenaOutReferenceIdeal.τ).loc Cert.HyenaOutReferenceIdeal.main_arg0) = m' ((c.tc : Thread Cert.HyenaOutReferenceIdeal.nD Cert.HyenaOutReferenceIdeal.τ).loc Cert.HyenaOutReferenceIdeal.main_arg0)
          ∧ r.2.mem ((c.tc : Thread Cert.HyenaOutReferenceIdeal.nD Cert.HyenaOutReferenceIdeal.τ).loc Cert.HyenaOutReferenceIdeal.main_arg1) = m' ((c.tc : Thread Cert.HyenaOutReferenceIdeal.nD Cert.HyenaOutReferenceIdeal.τ).loc Cert.HyenaOutReferenceIdeal.main_arg1)
          ∧ r.2.mem ((c.tc : Thread Cert.HyenaOutReferenceIdeal.nD Cert.HyenaOutReferenceIdeal.τ).loc Cert.HyenaOutReferenceIdeal.main_arg2) = m' ((c.tc : Thread Cert.HyenaOutReferenceIdeal.nD Cert.HyenaOutReferenceIdeal.τ).loc Cert.HyenaOutReferenceIdeal.main_arg2)
          ∧ r.2.mem ((c.tc : Thread Cert.HyenaOutReferenceIdeal.nD Cert.HyenaOutReferenceIdeal.τ).loc Cert.HyenaOutReferenceIdeal.main_arg3) = m' ((c.tc : Thread Cert.HyenaOutReferenceIdeal.nD Cert.HyenaOutReferenceIdeal.τ).loc Cert.HyenaOutReferenceIdeal.main_arg3))

def preserves_RProj_RProjIdeal : Prop :=
  True

def algebraic_RProjIdeal_RProjReferenceIdeal [hRProjIdeal : Cert.RProjIdeal.Facts] [hRProjReferenceIdeal : Cert.RProjReferenceIdeal.Facts] : Prop :=
  ∀ (m : (ℓ : Loc Cert.RProjIdeal.nD Cert.RProjIdeal.τ Cert.RProjIdeal.sig) → Buf (Elt Ideal) ℓ) (g : Dev Cert.RProjIdeal.nD → PrngReg)
    (m' : (ℓ : Loc Cert.RProjReferenceIdeal.nD Cert.RProjReferenceIdeal.τ Cert.RProjReferenceIdeal.sig) → Buf (Elt Ideal) ℓ) (g' : Dev Cert.RProjReferenceIdeal.nD → PrngReg), Pre_RProjIdeal m →
    (∀ c : Dev Cert.RProjIdeal.nD,
      m' ((c.tc : Thread Cert.RProjReferenceIdeal.nD Cert.RProjReferenceIdeal.τ).loc Cert.RProjReferenceIdeal.main_arg0) = m ((c.tc : Thread Cert.RProjIdeal.nD Cert.RProjIdeal.τ).loc Cert.RProjIdeal.main_arg0)
      ∧ m' ((c.tc : Thread Cert.RProjReferenceIdeal.nD Cert.RProjReferenceIdeal.τ).loc Cert.RProjReferenceIdeal.main_arg1) = m ((c.tc : Thread Cert.RProjIdeal.nD Cert.RProjIdeal.τ).loc Cert.RProjIdeal.main_arg1)) →
    ∃ (v0 : (c : Dev Cert.RProjIdeal.nD) → Buf (Elt Ideal) ((c.tc : Thread Cert.RProjIdeal.nD Cert.RProjIdeal.τ).loc Cert.RProjIdeal.main_v0)),
      θ_run (Cert.RProjIdeal.defs (F := Ideal)) (onTc (τ := Cert.RProjIdeal.τ) (Cert.RProjIdeal.main (F := Ideal))) ⟨m, fun _ => 0, g⟩ (fun r => ∀ c : Dev Cert.RProjIdeal.nD,
          r.2.mem ((c.tc : Thread Cert.RProjIdeal.nD Cert.RProjIdeal.τ).loc Cert.RProjIdeal.main_v0) = v0 c
          ∧ r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1))
      ∧ θ_run (Cert.RProjReferenceIdeal.defs (F := Ideal)) (onTc (τ := Cert.RProjReferenceIdeal.τ) (Cert.RProjReferenceIdeal.main (F := Ideal))) ⟨m', fun _ => 0, g'⟩ (fun r => ∀ c : Dev Cert.RProjReferenceIdeal.nD,
          r.2.mem ((c.tc : Thread Cert.RProjReferenceIdeal.nD Cert.RProjReferenceIdeal.τ).loc Cert.RProjReferenceIdeal.main_v2) = v0 c
          ∧ r.2.mem ((c.tc : Thread Cert.RProjReferenceIdeal.nD Cert.RProjReferenceIdeal.τ).loc Cert.RProjReferenceIdeal.main_arg0) = m' ((c.tc : Thread Cert.RProjReferenceIdeal.nD Cert.RProjReferenceIdeal.τ).loc Cert.RProjReferenceIdeal.main_arg0)
          ∧ r.2.mem ((c.tc : Thread Cert.RProjReferenceIdeal.nD Cert.RProjReferenceIdeal.τ).loc Cert.RProjReferenceIdeal.main_arg1) = m' ((c.tc : Thread Cert.RProjReferenceIdeal.nD Cert.RProjReferenceIdeal.τ).loc Cert.RProjReferenceIdeal.main_arg1))

def preserves_KeyProj_KeyProjIdeal : Prop :=
  True

def algebraic_KeyProjIdeal_KeyProjReferenceIdeal [hKeyProjIdeal : Cert.KeyProjIdeal.Facts] [hKeyProjReferenceIdeal : Cert.KeyProjReferenceIdeal.Facts] : Prop :=
  ∀ (m : (ℓ : Loc Cert.KeyProjIdeal.nD Cert.KeyProjIdeal.τ Cert.KeyProjIdeal.sig) → Buf (Elt Ideal) ℓ) (g : Dev Cert.KeyProjIdeal.nD → PrngReg)
    (m' : (ℓ : Loc Cert.KeyProjReferenceIdeal.nD Cert.KeyProjReferenceIdeal.τ Cert.KeyProjReferenceIdeal.sig) → Buf (Elt Ideal) ℓ) (g' : Dev Cert.KeyProjReferenceIdeal.nD → PrngReg), Pre_KeyProjIdeal m →
    (∀ c : Dev Cert.KeyProjIdeal.nD,
      m' ((c.tc : Thread Cert.KeyProjReferenceIdeal.nD Cert.KeyProjReferenceIdeal.τ).loc Cert.KeyProjReferenceIdeal.main_arg0) = m ((c.tc : Thread Cert.KeyProjIdeal.nD Cert.KeyProjIdeal.τ).loc Cert.KeyProjIdeal.main_arg0)
      ∧ m' ((c.tc : Thread Cert.KeyProjReferenceIdeal.nD Cert.KeyProjReferenceIdeal.τ).loc Cert.KeyProjReferenceIdeal.main_arg1) = m ((c.tc : Thread Cert.KeyProjIdeal.nD Cert.KeyProjIdeal.τ).loc Cert.KeyProjIdeal.main_arg1)) →
    ∃ (v0 : (c : Dev Cert.KeyProjIdeal.nD) → Buf (Elt Ideal) ((c.tc : Thread Cert.KeyProjIdeal.nD Cert.KeyProjIdeal.τ).loc Cert.KeyProjIdeal.main_v0)),
      θ_run (Cert.KeyProjIdeal.defs (F := Ideal)) (onTc (τ := Cert.KeyProjIdeal.τ) (Cert.KeyProjIdeal.main (F := Ideal))) ⟨m, fun _ => 0, g⟩ (fun r => ∀ c : Dev Cert.KeyProjIdeal.nD,
          r.2.mem ((c.tc : Thread Cert.KeyProjIdeal.nD Cert.KeyProjIdeal.τ).loc Cert.KeyProjIdeal.main_v0) = v0 c
          ∧ r.2.mem ((c.tc : Thread Cert.KeyProjIdeal.nD Cert.KeyProjIdeal.τ).loc Cert.KeyProjIdeal.main_arg0) = m ((c.tc : Thread Cert.KeyProjIdeal.nD Cert.KeyProjIdeal.τ).loc Cert.KeyProjIdeal.main_arg0)
          ∧ r.2.mem ((c.tc : Thread Cert.KeyProjIdeal.nD Cert.KeyProjIdeal.τ).loc Cert.KeyProjIdeal.main_arg1) = m ((c.tc : Thread Cert.KeyProjIdeal.nD Cert.KeyProjIdeal.τ).loc Cert.KeyProjIdeal.main_arg1))
      ∧ θ_run (Cert.KeyProjReferenceIdeal.defs (F := Ideal)) (onTc (τ := Cert.KeyProjReferenceIdeal.τ) (Cert.KeyProjReferenceIdeal.main (F := Ideal))) ⟨m', fun _ => 0, g'⟩ (fun r => ∀ c : Dev Cert.KeyProjReferenceIdeal.nD,
          r.2.mem ((c.tc : Thread Cert.KeyProjReferenceIdeal.nD Cert.KeyProjReferenceIdeal.τ).loc Cert.KeyProjReferenceIdeal.main_v2) = v0 c
          ∧ r.2.mem ((c.tc : Thread Cert.KeyProjReferenceIdeal.nD Cert.KeyProjReferenceIdeal.τ).loc Cert.KeyProjReferenceIdeal.main_arg0) = m' ((c.tc : Thread Cert.KeyProjReferenceIdeal.nD Cert.KeyProjReferenceIdeal.τ).loc Cert.KeyProjReferenceIdeal.main_arg0)
          ∧ r.2.mem ((c.tc : Thread Cert.KeyProjReferenceIdeal.nD Cert.KeyProjReferenceIdeal.τ).loc Cert.KeyProjReferenceIdeal.main_arg1) = m' ((c.tc : Thread Cert.KeyProjReferenceIdeal.nD Cert.KeyProjReferenceIdeal.τ).loc Cert.KeyProjReferenceIdeal.main_arg1))

def preserves_ValProj_ValProjIdeal : Prop :=
  True

def algebraic_ValProjIdeal_ValProjReferenceIdeal [hValProjIdeal : Cert.ValProjIdeal.Facts] [hValProjReferenceIdeal : Cert.ValProjReferenceIdeal.Facts] : Prop :=
  ∀ (m : (ℓ : Loc Cert.ValProjIdeal.nD Cert.ValProjIdeal.τ Cert.ValProjIdeal.sig) → Buf (Elt Ideal) ℓ) (g : Dev Cert.ValProjIdeal.nD → PrngReg)
    (m' : (ℓ : Loc Cert.ValProjReferenceIdeal.nD Cert.ValProjReferenceIdeal.τ Cert.ValProjReferenceIdeal.sig) → Buf (Elt Ideal) ℓ) (g' : Dev Cert.ValProjReferenceIdeal.nD → PrngReg), Pre_ValProjIdeal m →
    (∀ c : Dev Cert.ValProjIdeal.nD,
      m' ((c.tc : Thread Cert.ValProjReferenceIdeal.nD Cert.ValProjReferenceIdeal.τ).loc Cert.ValProjReferenceIdeal.main_arg0) = m ((c.tc : Thread Cert.ValProjIdeal.nD Cert.ValProjIdeal.τ).loc Cert.ValProjIdeal.main_arg0)
      ∧ m' ((c.tc : Thread Cert.ValProjReferenceIdeal.nD Cert.ValProjReferenceIdeal.τ).loc Cert.ValProjReferenceIdeal.main_arg1) = m ((c.tc : Thread Cert.ValProjIdeal.nD Cert.ValProjIdeal.τ).loc Cert.ValProjIdeal.main_arg1)) →
    ∃ (v0 : (c : Dev Cert.ValProjIdeal.nD) → Buf (Elt Ideal) ((c.tc : Thread Cert.ValProjIdeal.nD Cert.ValProjIdeal.τ).loc Cert.ValProjIdeal.main_v0)),
      θ_run (Cert.ValProjIdeal.defs (F := Ideal)) (onTc (τ := Cert.ValProjIdeal.τ) (Cert.ValProjIdeal.main (F := Ideal))) ⟨m, fun _ => 0, g⟩ (fun r => ∀ c : Dev Cert.ValProjIdeal.nD,
          r.2.mem ((c.tc : Thread Cert.ValProjIdeal.nD Cert.ValProjIdeal.τ).loc Cert.ValProjIdeal.main_v0) = v0 c
          ∧ r.2.mem ((c.tc : Thread Cert.ValProjIdeal.nD Cert.ValProjIdeal.τ).loc Cert.ValProjIdeal.main_arg0) = m ((c.tc : Thread Cert.ValProjIdeal.nD Cert.ValProjIdeal.τ).loc Cert.ValProjIdeal.main_arg0)
          ∧ r.2.mem ((c.tc : Thread Cert.ValProjIdeal.nD Cert.ValProjIdeal.τ).loc Cert.ValProjIdeal.main_arg1) = m ((c.tc : Thread Cert.ValProjIdeal.nD Cert.ValProjIdeal.τ).loc Cert.ValProjIdeal.main_arg1))
      ∧ θ_run (Cert.ValProjReferenceIdeal.defs (F := Ideal)) (onTc (τ := Cert.ValProjReferenceIdeal.τ) (Cert.ValProjReferenceIdeal.main (F := Ideal))) ⟨m', fun _ => 0, g'⟩ (fun r => ∀ c : Dev Cert.ValProjReferenceIdeal.nD,
          r.2.mem ((c.tc : Thread Cert.ValProjReferenceIdeal.nD Cert.ValProjReferenceIdeal.τ).loc Cert.ValProjReferenceIdeal.main_v2) = v0 c
          ∧ r.2.mem ((c.tc : Thread Cert.ValProjReferenceIdeal.nD Cert.ValProjReferenceIdeal.τ).loc Cert.ValProjReferenceIdeal.main_arg0) = m' ((c.tc : Thread Cert.ValProjReferenceIdeal.nD Cert.ValProjReferenceIdeal.τ).loc Cert.ValProjReferenceIdeal.main_arg0)
          ∧ r.2.mem ((c.tc : Thread Cert.ValProjReferenceIdeal.nD Cert.ValProjReferenceIdeal.τ).loc Cert.ValProjReferenceIdeal.main_arg1) = m' ((c.tc : Thread Cert.ValProjReferenceIdeal.nD Cert.ValProjReferenceIdeal.τ).loc Cert.ValProjReferenceIdeal.main_arg1))

def preserves_LowProj_LowProjIdeal : Prop :=
  True

def algebraic_LowProjIdeal_LowProjReferenceIdeal [hLowProjIdeal : Cert.LowProjIdeal.Facts] [hLowProjReferenceIdeal : Cert.LowProjReferenceIdeal.Facts] : Prop :=
  ∀ (m : (ℓ : Loc Cert.LowProjIdeal.nD Cert.LowProjIdeal.τ Cert.LowProjIdeal.sig) → Buf (Elt Ideal) ℓ) (g : Dev Cert.LowProjIdeal.nD → PrngReg)
    (m' : (ℓ : Loc Cert.LowProjReferenceIdeal.nD Cert.LowProjReferenceIdeal.τ Cert.LowProjReferenceIdeal.sig) → Buf (Elt Ideal) ℓ) (g' : Dev Cert.LowProjReferenceIdeal.nD → PrngReg), Pre_LowProjIdeal m →
    (∀ c : Dev Cert.LowProjIdeal.nD,
      m' ((c.tc : Thread Cert.LowProjReferenceIdeal.nD Cert.LowProjReferenceIdeal.τ).loc Cert.LowProjReferenceIdeal.main_arg0) = m ((c.tc : Thread Cert.LowProjIdeal.nD Cert.LowProjIdeal.τ).loc Cert.LowProjIdeal.main_arg0)
      ∧ m' ((c.tc : Thread Cert.LowProjReferenceIdeal.nD Cert.LowProjReferenceIdeal.τ).loc Cert.LowProjReferenceIdeal.main_arg1) = m ((c.tc : Thread Cert.LowProjIdeal.nD Cert.LowProjIdeal.τ).loc Cert.LowProjIdeal.main_arg1)) →
    ∃ (v0 : (c : Dev Cert.LowProjIdeal.nD) → Buf (Elt Ideal) ((c.tc : Thread Cert.LowProjIdeal.nD Cert.LowProjIdeal.τ).loc Cert.LowProjIdeal.main_v0)),
      θ_run (Cert.LowProjIdeal.defs (F := Ideal)) (onTc (τ := Cert.LowProjIdeal.τ) (Cert.LowProjIdeal.main (F := Ideal))) ⟨m, fun _ => 0, g⟩ (fun r => ∀ c : Dev Cert.LowProjIdeal.nD,
          r.2.mem ((c.tc : Thread Cert.LowProjIdeal.nD Cert.LowProjIdeal.τ).loc Cert.LowProjIdeal.main_v0) = v0 c
          ∧ r.2.mem ((c.tc : Thread Cert.LowProjIdeal.nD Cert.LowProjIdeal.τ).loc Cert.LowProjIdeal.main_arg0) = m ((c.tc : Thread Cert.LowProjIdeal.nD Cert.LowProjIdeal.τ).loc Cert.LowProjIdeal.main_arg0)
          ∧ r.2.mem ((c.tc : Thread Cert.LowProjIdeal.nD Cert.LowProjIdeal.τ).loc Cert.LowProjIdeal.main_arg1) = m ((c.tc : Thread Cert.LowProjIdeal.nD Cert.LowProjIdeal.τ).loc Cert.LowProjIdeal.main_arg1))
      ∧ θ_run (Cert.LowProjReferenceIdeal.defs (F := Ideal)) (onTc (τ := Cert.LowProjReferenceIdeal.τ) (Cert.LowProjReferenceIdeal.main (F := Ideal))) ⟨m', fun _ => 0, g'⟩ (fun r => ∀ c : Dev Cert.LowProjReferenceIdeal.nD,
          r.2.mem ((c.tc : Thread Cert.LowProjReferenceIdeal.nD Cert.LowProjReferenceIdeal.τ).loc Cert.LowProjReferenceIdeal.main_v0) = v0 c
          ∧ r.2.mem ((c.tc : Thread Cert.LowProjReferenceIdeal.nD Cert.LowProjReferenceIdeal.τ).loc Cert.LowProjReferenceIdeal.main_arg0) = m' ((c.tc : Thread Cert.LowProjReferenceIdeal.nD Cert.LowProjReferenceIdeal.τ).loc Cert.LowProjReferenceIdeal.main_arg0)
          ∧ r.2.mem ((c.tc : Thread Cert.LowProjReferenceIdeal.nD Cert.LowProjReferenceIdeal.τ).loc Cert.LowProjReferenceIdeal.main_arg1) = m' ((c.tc : Thread Cert.LowProjReferenceIdeal.nD Cert.LowProjReferenceIdeal.τ).loc Cert.LowProjReferenceIdeal.main_arg1))

def preserves_GkProj_GkProjIdeal : Prop :=
  True

def algebraic_GkProjIdeal_GkProjReferenceIdeal [hGkProjIdeal : Cert.GkProjIdeal.Facts] [hGkProjReferenceIdeal : Cert.GkProjReferenceIdeal.Facts] : Prop :=
  ∀ (m : (ℓ : Loc Cert.GkProjIdeal.nD Cert.GkProjIdeal.τ Cert.GkProjIdeal.sig) → Buf (Elt Ideal) ℓ) (g : Dev Cert.GkProjIdeal.nD → PrngReg)
    (m' : (ℓ : Loc Cert.GkProjReferenceIdeal.nD Cert.GkProjReferenceIdeal.τ Cert.GkProjReferenceIdeal.sig) → Buf (Elt Ideal) ℓ) (g' : Dev Cert.GkProjReferenceIdeal.nD → PrngReg), Pre_GkProjIdeal m →
    (∀ c : Dev Cert.GkProjIdeal.nD,
      m' ((c.tc : Thread Cert.GkProjReferenceIdeal.nD Cert.GkProjReferenceIdeal.τ).loc Cert.GkProjReferenceIdeal.main_arg0) = m ((c.tc : Thread Cert.GkProjIdeal.nD Cert.GkProjIdeal.τ).loc Cert.GkProjIdeal.main_arg0)
      ∧ m' ((c.tc : Thread Cert.GkProjReferenceIdeal.nD Cert.GkProjReferenceIdeal.τ).loc Cert.GkProjReferenceIdeal.main_arg1) = m ((c.tc : Thread Cert.GkProjIdeal.nD Cert.GkProjIdeal.τ).loc Cert.GkProjIdeal.main_arg1)
      ∧ m' ((c.tc : Thread Cert.GkProjReferenceIdeal.nD Cert.GkProjReferenceIdeal.τ).loc Cert.GkProjReferenceIdeal.main_arg2) = m ((c.tc : Thread Cert.GkProjIdeal.nD Cert.GkProjIdeal.τ).loc Cert.GkProjIdeal.main_arg2)) →
    ∃ (v0 : (c : Dev Cert.GkProjIdeal.nD) → Buf (Elt Ideal) ((c.tc : Thread Cert.GkProjIdeal.nD Cert.GkProjIdeal.τ).loc Cert.GkProjIdeal.main_v1)),
      θ_run (Cert.GkProjIdeal.defs (F := Ideal)) (onTc (τ := Cert.GkProjIdeal.τ) (Cert.GkProjIdeal.main (F := Ideal))) ⟨m, fun _ => 0, g⟩ (fun r => ∀ c : Dev Cert.GkProjIdeal.nD,
          r.2.mem ((c.tc : Thread Cert.GkProjIdeal.nD Cert.GkProjIdeal.τ).loc Cert.GkProjIdeal.main_v1) = v0 c
          ∧ r.2.mem ((c.tc : Thread Cert.GkProjIdeal.nD Cert.GkProjIdeal.τ).loc Cert.GkProjIdeal.main_arg0) = m ((c.tc : Thread Cert.GkProjIdeal.nD Cert.GkProjIdeal.τ).loc Cert.GkProjIdeal.main_arg0)
          ∧ r.2.mem ((c.tc : Thread Cert.GkProjIdeal.nD Cert.GkProjIdeal.τ).loc Cert.GkProjIdeal.main_arg1) = m ((c.tc : Thread Cert.GkProjIdeal.nD Cert.GkProjIdeal.τ).loc Cert.GkProjIdeal.main_arg1)
          ∧ r.2.mem ((c.tc : Thread Cert.GkProjIdeal.nD Cert.GkProjIdeal.τ).loc Cert.GkProjIdeal.main_arg2) = m ((c.tc : Thread Cert.GkProjIdeal.nD Cert.GkProjIdeal.τ).loc Cert.GkProjIdeal.main_arg2))
      ∧ θ_run (Cert.GkProjReferenceIdeal.defs (F := Ideal)) (onTc (τ := Cert.GkProjReferenceIdeal.τ) (Cert.GkProjReferenceIdeal.main (F := Ideal))) ⟨m', fun _ => 0, g'⟩ (fun r => ∀ c : Dev Cert.GkProjReferenceIdeal.nD,
          r.2.mem ((c.tc : Thread Cert.GkProjReferenceIdeal.nD Cert.GkProjReferenceIdeal.τ).loc Cert.GkProjReferenceIdeal.main_v3) = v0 c
          ∧ r.2.mem ((c.tc : Thread Cert.GkProjReferenceIdeal.nD Cert.GkProjReferenceIdeal.τ).loc Cert.GkProjReferenceIdeal.main_arg0) = m' ((c.tc : Thread Cert.GkProjReferenceIdeal.nD Cert.GkProjReferenceIdeal.τ).loc Cert.GkProjReferenceIdeal.main_arg0)
          ∧ r.2.mem ((c.tc : Thread Cert.GkProjReferenceIdeal.nD Cert.GkProjReferenceIdeal.τ).loc Cert.GkProjReferenceIdeal.main_arg1) = m' ((c.tc : Thread Cert.GkProjReferenceIdeal.nD Cert.GkProjReferenceIdeal.τ).loc Cert.GkProjReferenceIdeal.main_arg1)
          ∧ r.2.mem ((c.tc : Thread Cert.GkProjReferenceIdeal.nD Cert.GkProjReferenceIdeal.τ).loc Cert.GkProjReferenceIdeal.main_arg2) = m' ((c.tc : Thread Cert.GkProjReferenceIdeal.nD Cert.GkProjReferenceIdeal.τ).loc Cert.GkProjReferenceIdeal.main_arg2))

def preserves_GateIn_GateInIdeal : Prop :=
  True

def algebraic_GateInIdeal_GateInReferenceIdeal [hGateInIdeal : Cert.GateInIdeal.Facts] [hGateInReferenceIdeal : Cert.GateInReferenceIdeal.Facts] : Prop :=
  ∀ (m : (ℓ : Loc Cert.GateInIdeal.nD Cert.GateInIdeal.τ Cert.GateInIdeal.sig) → Buf (Elt Ideal) ℓ) (g : Dev Cert.GateInIdeal.nD → PrngReg)
    (m' : (ℓ : Loc Cert.GateInReferenceIdeal.nD Cert.GateInReferenceIdeal.τ Cert.GateInReferenceIdeal.sig) → Buf (Elt Ideal) ℓ) (g' : Dev Cert.GateInReferenceIdeal.nD → PrngReg), Pre_GateInIdeal m →
    (∀ c : Dev Cert.GateInIdeal.nD,
      m' ((c.tc : Thread Cert.GateInReferenceIdeal.nD Cert.GateInReferenceIdeal.τ).loc Cert.GateInReferenceIdeal.main_arg0) = m ((c.tc : Thread Cert.GateInIdeal.nD Cert.GateInIdeal.τ).loc Cert.GateInIdeal.main_arg0)
      ∧ m' ((c.tc : Thread Cert.GateInReferenceIdeal.nD Cert.GateInReferenceIdeal.τ).loc Cert.GateInReferenceIdeal.main_arg1) = m ((c.tc : Thread Cert.GateInIdeal.nD Cert.GateInIdeal.τ).loc Cert.GateInIdeal.main_arg1)) →
    ∃ (v0 : (c : Dev Cert.GateInIdeal.nD) → Buf (Elt Ideal) ((c.tc : Thread Cert.GateInIdeal.nD Cert.GateInIdeal.τ).loc Cert.GateInIdeal.main_v0)),
      θ_run (Cert.GateInIdeal.defs (F := Ideal)) (onTc (τ := Cert.GateInIdeal.τ) (Cert.GateInIdeal.main (F := Ideal))) ⟨m, fun _ => 0, g⟩ (fun r => ∀ c : Dev Cert.GateInIdeal.nD,
          r.2.mem ((c.tc : Thread Cert.GateInIdeal.nD Cert.GateInIdeal.τ).loc Cert.GateInIdeal.main_v0) = v0 c
          ∧ r.2.mem ((c.tc : Thread Cert.GateInIdeal.nD Cert.GateInIdeal.τ).loc Cert.GateInIdeal.main_arg0) = m ((c.tc : Thread Cert.GateInIdeal.nD Cert.GateInIdeal.τ).loc Cert.GateInIdeal.main_arg0)
          ∧ r.2.mem ((c.tc : Thread Cert.GateInIdeal.nD Cert.GateInIdeal.τ).loc Cert.GateInIdeal.main_arg1) = m ((c.tc : Thread Cert.GateInIdeal.nD Cert.GateInIdeal.τ).loc Cert.GateInIdeal.main_arg1))
      ∧ θ_run (Cert.GateInReferenceIdeal.defs (F := Ideal)) (onTc (τ := Cert.GateInReferenceIdeal.τ) (Cert.GateInReferenceIdeal.main (F := Ideal))) ⟨m', fun _ => 0, g'⟩ (fun r => ∀ c : Dev Cert.GateInReferenceIdeal.nD,
          r.2.mem ((c.tc : Thread Cert.GateInReferenceIdeal.nD Cert.GateInReferenceIdeal.τ).loc Cert.GateInReferenceIdeal.main_v9) = v0 c
          ∧ r.2.mem ((c.tc : Thread Cert.GateInReferenceIdeal.nD Cert.GateInReferenceIdeal.τ).loc Cert.GateInReferenceIdeal.main_arg0) = m' ((c.tc : Thread Cert.GateInReferenceIdeal.nD Cert.GateInReferenceIdeal.τ).loc Cert.GateInReferenceIdeal.main_arg0)
          ∧ r.2.mem ((c.tc : Thread Cert.GateInReferenceIdeal.nD Cert.GateInReferenceIdeal.τ).loc Cert.GateInReferenceIdeal.main_arg1) = m' ((c.tc : Thread Cert.GateInReferenceIdeal.nD Cert.GateInReferenceIdeal.τ).loc Cert.GateInReferenceIdeal.main_arg1))

def preserves_GateOut_GateOutIdeal : Prop :=
  True

def algebraic_GateOutIdeal_GateOutReferenceIdeal [hGateOutIdeal : Cert.GateOutIdeal.Facts] [hGateOutReferenceIdeal : Cert.GateOutReferenceIdeal.Facts] : Prop :=
  ∀ (m : (ℓ : Loc Cert.GateOutIdeal.nD Cert.GateOutIdeal.τ Cert.GateOutIdeal.sig) → Buf (Elt Ideal) ℓ) (g : Dev Cert.GateOutIdeal.nD → PrngReg)
    (m' : (ℓ : Loc Cert.GateOutReferenceIdeal.nD Cert.GateOutReferenceIdeal.τ Cert.GateOutReferenceIdeal.sig) → Buf (Elt Ideal) ℓ) (g' : Dev Cert.GateOutReferenceIdeal.nD → PrngReg), Pre_GateOutIdeal m →
    (∀ c : Dev Cert.GateOutIdeal.nD,
      m' ((c.tc : Thread Cert.GateOutReferenceIdeal.nD Cert.GateOutReferenceIdeal.τ).loc Cert.GateOutReferenceIdeal.main_arg0) = m ((c.tc : Thread Cert.GateOutIdeal.nD Cert.GateOutIdeal.τ).loc Cert.GateOutIdeal.main_arg0)
      ∧ m' ((c.tc : Thread Cert.GateOutReferenceIdeal.nD Cert.GateOutReferenceIdeal.τ).loc Cert.GateOutReferenceIdeal.main_arg1) = m ((c.tc : Thread Cert.GateOutIdeal.nD Cert.GateOutIdeal.τ).loc Cert.GateOutIdeal.main_arg1)) →
    ∃ (v0 : (c : Dev Cert.GateOutIdeal.nD) → Buf (Elt Ideal) ((c.tc : Thread Cert.GateOutIdeal.nD Cert.GateOutIdeal.τ).loc Cert.GateOutIdeal.main_v0)),
      θ_run (Cert.GateOutIdeal.defs (F := Ideal)) (onTc (τ := Cert.GateOutIdeal.τ) (Cert.GateOutIdeal.main (F := Ideal))) ⟨m, fun _ => 0, g⟩ (fun r => ∀ c : Dev Cert.GateOutIdeal.nD,
          r.2.mem ((c.tc : Thread Cert.GateOutIdeal.nD Cert.GateOutIdeal.τ).loc Cert.GateOutIdeal.main_v0) = v0 c
          ∧ r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
          ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1))
      ∧ θ_run (Cert.GateOutReferenceIdeal.defs (F := Ideal)) (onTc (τ := Cert.GateOutReferenceIdeal.τ) (Cert.GateOutReferenceIdeal.main (F := Ideal))) ⟨m', fun _ => 0, g'⟩ (fun r => ∀ c : Dev Cert.GateOutReferenceIdeal.nD,
          r.2.mem ((c.tc : Thread Cert.GateOutReferenceIdeal.nD Cert.GateOutReferenceIdeal.τ).loc Cert.GateOutReferenceIdeal.main_v0) = v0 c
          ∧ r.2.mem ((c.tc : Thread Cert.GateOutReferenceIdeal.nD Cert.GateOutReferenceIdeal.τ).loc Cert.GateOutReferenceIdeal.main_arg0) = m' ((c.tc : Thread Cert.GateOutReferenceIdeal.nD Cert.GateOutReferenceIdeal.τ).loc Cert.GateOutReferenceIdeal.main_arg0)
          ∧ r.2.mem ((c.tc : Thread Cert.GateOutReferenceIdeal.nD Cert.GateOutReferenceIdeal.τ).loc Cert.GateOutReferenceIdeal.main_arg1) = m' ((c.tc : Thread Cert.GateOutReferenceIdeal.nD Cert.GateOutReferenceIdeal.τ).loc Cert.GateOutReferenceIdeal.main_arg1))

def preserves_DecayIn_DecayInIdeal : Prop :=
  True

def algebraic_DecayInIdeal_DecayInReferenceIdeal [hDecayInIdeal : Cert.DecayInIdeal.Facts] [hDecayInReferenceIdeal : Cert.DecayInReferenceIdeal.Facts] : Prop :=
  ∀ (m : (ℓ : Loc Cert.DecayInIdeal.nD Cert.DecayInIdeal.τ Cert.DecayInIdeal.sig) → Buf (Elt Ideal) ℓ) (g : Dev Cert.DecayInIdeal.nD → PrngReg)
    (m' : (ℓ : Loc Cert.DecayInReferenceIdeal.nD Cert.DecayInReferenceIdeal.τ Cert.DecayInReferenceIdeal.sig) → Buf (Elt Ideal) ℓ) (g' : Dev Cert.DecayInReferenceIdeal.nD → PrngReg), Pre_DecayInIdeal m →
    (∀ c : Dev Cert.DecayInIdeal.nD,
      m' ((c.tc : Thread Cert.DecayInReferenceIdeal.nD Cert.DecayInReferenceIdeal.τ).loc Cert.DecayInReferenceIdeal.main_arg0) = m ((c.tc : Thread Cert.DecayInIdeal.nD Cert.DecayInIdeal.τ).loc Cert.DecayInIdeal.main_arg0)
      ∧ m' ((c.tc : Thread Cert.DecayInReferenceIdeal.nD Cert.DecayInReferenceIdeal.τ).loc Cert.DecayInReferenceIdeal.main_arg1) = m ((c.tc : Thread Cert.DecayInIdeal.nD Cert.DecayInIdeal.τ).loc Cert.DecayInIdeal.main_arg1)) →
    ∃ (v0 : (c : Dev Cert.DecayInIdeal.nD) → Buf (Elt Ideal) ((c.tc : Thread Cert.DecayInIdeal.nD Cert.DecayInIdeal.τ).loc Cert.DecayInIdeal.main_v0)),
      θ_run (Cert.DecayInIdeal.defs (F := Ideal)) (onTc (τ := Cert.DecayInIdeal.τ) (Cert.DecayInIdeal.main (F := Ideal))) ⟨m, fun _ => 0, g⟩ (fun r => ∀ c : Dev Cert.DecayInIdeal.nD,
          r.2.mem ((c.tc : Thread Cert.DecayInIdeal.nD Cert.DecayInIdeal.τ).loc Cert.DecayInIdeal.main_v0) = v0 c
          ∧ r.2.mem ((c.tc : Thread Cert.DecayInIdeal.nD Cert.DecayInIdeal.τ).loc Cert.DecayInIdeal.main_arg0) = m ((c.tc : Thread Cert.DecayInIdeal.nD Cert.DecayInIdeal.τ).loc Cert.DecayInIdeal.main_arg0)
          ∧ r.2.mem ((c.tc : Thread Cert.DecayInIdeal.nD Cert.DecayInIdeal.τ).loc Cert.DecayInIdeal.main_arg1) = m ((c.tc : Thread Cert.DecayInIdeal.nD Cert.DecayInIdeal.τ).loc Cert.DecayInIdeal.main_arg1))
      ∧ θ_run (Cert.DecayInReferenceIdeal.defs (F := Ideal)) (onTc (τ := Cert.DecayInReferenceIdeal.τ) (Cert.DecayInReferenceIdeal.main (F := Ideal))) ⟨m', fun _ => 0, g'⟩ (fun r => ∀ c : Dev Cert.DecayInReferenceIdeal.nD,
          r.2.mem ((c.tc : Thread Cert.DecayInReferenceIdeal.nD Cert.DecayInReferenceIdeal.τ).loc Cert.DecayInReferenceIdeal.main_v4) = v0 c
          ∧ r.2.mem ((c.tc : Thread Cert.DecayInReferenceIdeal.nD Cert.DecayInReferenceIdeal.τ).loc Cert.DecayInReferenceIdeal.main_arg0) = m' ((c.tc : Thread Cert.DecayInReferenceIdeal.nD Cert.DecayInReferenceIdeal.τ).loc Cert.DecayInReferenceIdeal.main_arg0)
          ∧ r.2.mem ((c.tc : Thread Cert.DecayInReferenceIdeal.nD Cert.DecayInReferenceIdeal.τ).loc Cert.DecayInReferenceIdeal.main_arg1) = m' ((c.tc : Thread Cert.DecayInReferenceIdeal.nD Cert.DecayInReferenceIdeal.τ).loc Cert.DecayInReferenceIdeal.main_arg1))

def preserves_RateIn_RateInIdeal : Prop :=
  True

def algebraic_RateInIdeal_RateInReferenceIdeal [hRateInIdeal : Cert.RateInIdeal.Facts] [hRateInReferenceIdeal : Cert.RateInReferenceIdeal.Facts] : Prop :=
  ∀ (m : (ℓ : Loc Cert.RateInIdeal.nD Cert.RateInIdeal.τ Cert.RateInIdeal.sig) → Buf (Elt Ideal) ℓ) (g : Dev Cert.RateInIdeal.nD → PrngReg)
    (m' : (ℓ : Loc Cert.RateInReferenceIdeal.nD Cert.RateInReferenceIdeal.τ Cert.RateInReferenceIdeal.sig) → Buf (Elt Ideal) ℓ) (g' : Dev Cert.RateInReferenceIdeal.nD → PrngReg), Pre_RateInIdeal m →
    (∀ c : Dev Cert.RateInIdeal.nD,
      m' ((c.tc : Thread Cert.RateInReferenceIdeal.nD Cert.RateInReferenceIdeal.τ).loc Cert.RateInReferenceIdeal.main_arg0) = m ((c.tc : Thread Cert.RateInIdeal.nD Cert.RateInIdeal.τ).loc Cert.RateInIdeal.main_arg0)
      ∧ m' ((c.tc : Thread Cert.RateInReferenceIdeal.nD Cert.RateInReferenceIdeal.τ).loc Cert.RateInReferenceIdeal.main_arg1) = m ((c.tc : Thread Cert.RateInIdeal.nD Cert.RateInIdeal.τ).loc Cert.RateInIdeal.main_arg1)) →
    ∃ (v0 : (c : Dev Cert.RateInIdeal.nD) → Buf (Elt Ideal) ((c.tc : Thread Cert.RateInIdeal.nD Cert.RateInIdeal.τ).loc Cert.RateInIdeal.main_v0)),
      θ_run (Cert.RateInIdeal.defs (F := Ideal)) (onTc (τ := Cert.RateInIdeal.τ) (Cert.RateInIdeal.main (F := Ideal))) ⟨m, fun _ => 0, g⟩ (fun r => ∀ c : Dev Cert.RateInIdeal.nD,
          r.2.mem ((c.tc : Thread Cert.RateInIdeal.nD Cert.RateInIdeal.τ).loc Cert.RateInIdeal.main_v0) = v0 c
          ∧ r.2.mem ((c.tc : Thread Cert.RateInIdeal.nD Cert.RateInIdeal.τ).loc Cert.RateInIdeal.main_arg0) = m ((c.tc : Thread Cert.RateInIdeal.nD Cert.RateInIdeal.τ).loc Cert.RateInIdeal.main_arg0)
          ∧ r.2.mem ((c.tc : Thread Cert.RateInIdeal.nD Cert.RateInIdeal.τ).loc Cert.RateInIdeal.main_arg1) = m ((c.tc : Thread Cert.RateInIdeal.nD Cert.RateInIdeal.τ).loc Cert.RateInIdeal.main_arg1))
      ∧ θ_run (Cert.RateInReferenceIdeal.defs (F := Ideal)) (onTc (τ := Cert.RateInReferenceIdeal.τ) (Cert.RateInReferenceIdeal.main (F := Ideal))) ⟨m', fun _ => 0, g'⟩ (fun r => ∀ c : Dev Cert.RateInReferenceIdeal.nD,
          r.2.mem ((c.tc : Thread Cert.RateInReferenceIdeal.nD Cert.RateInReferenceIdeal.τ).loc Cert.RateInReferenceIdeal.main_v2) = v0 c
          ∧ r.2.mem ((c.tc : Thread Cert.RateInReferenceIdeal.nD Cert.RateInReferenceIdeal.τ).loc Cert.RateInReferenceIdeal.main_arg0) = m' ((c.tc : Thread Cert.RateInReferenceIdeal.nD Cert.RateInReferenceIdeal.τ).loc Cert.RateInReferenceIdeal.main_arg0)
          ∧ r.2.mem ((c.tc : Thread Cert.RateInReferenceIdeal.nD Cert.RateInReferenceIdeal.τ).loc Cert.RateInReferenceIdeal.main_arg1) = m' ((c.tc : Thread Cert.RateInReferenceIdeal.nD Cert.RateInReferenceIdeal.τ).loc Cert.RateInReferenceIdeal.main_arg1))

def preserves_RateOut_RateOutIdeal : Prop :=
  True

def algebraic_RateOutIdeal_RateOutReferenceIdeal [hRateOutIdeal : Cert.RateOutIdeal.Facts] [hRateOutReferenceIdeal : Cert.RateOutReferenceIdeal.Facts] : Prop :=
  ∀ (m : (ℓ : Loc Cert.RateOutIdeal.nD Cert.RateOutIdeal.τ Cert.RateOutIdeal.sig) → Buf (Elt Ideal) ℓ) (g : Dev Cert.RateOutIdeal.nD → PrngReg)
    (m' : (ℓ : Loc Cert.RateOutReferenceIdeal.nD Cert.RateOutReferenceIdeal.τ Cert.RateOutReferenceIdeal.sig) → Buf (Elt Ideal) ℓ) (g' : Dev Cert.RateOutReferenceIdeal.nD → PrngReg), Pre_RateOutIdeal m →
    (∀ c : Dev Cert.RateOutIdeal.nD,
      m' ((c.tc : Thread Cert.RateOutReferenceIdeal.nD Cert.RateOutReferenceIdeal.τ).loc Cert.RateOutReferenceIdeal.main_arg0) = m ((c.tc : Thread Cert.RateOutIdeal.nD Cert.RateOutIdeal.τ).loc Cert.RateOutIdeal.main_arg0)
      ∧ m' ((c.tc : Thread Cert.RateOutReferenceIdeal.nD Cert.RateOutReferenceIdeal.τ).loc Cert.RateOutReferenceIdeal.main_arg1) = m ((c.tc : Thread Cert.RateOutIdeal.nD Cert.RateOutIdeal.τ).loc Cert.RateOutIdeal.main_arg1)) →
    ∃ (v0 : (c : Dev Cert.RateOutIdeal.nD) → Buf (Elt Ideal) ((c.tc : Thread Cert.RateOutIdeal.nD Cert.RateOutIdeal.τ).loc Cert.RateOutIdeal.main_v0)),
      θ_run (Cert.RateOutIdeal.defs (F := Ideal)) (onTc (τ := Cert.RateOutIdeal.τ) (Cert.RateOutIdeal.main (F := Ideal))) ⟨m, fun _ => 0, g⟩ (fun r => ∀ c : Dev Cert.RateOutIdeal.nD,
          r.2.mem ((c.tc : Thread Cert.RateOutIdeal.nD Cert.RateOutIdeal.τ).loc Cert.RateOutIdeal.main_v0) = v0 c
          ∧ r.2.mem ((c.tc : Thread Cert.RateOutIdeal.nD Cert.RateOutIdeal.τ).loc Cert.RateOutIdeal.main_arg0) = m ((c.tc : Thread Cert.RateOutIdeal.nD Cert.RateOutIdeal.τ).loc Cert.RateOutIdeal.main_arg0)
          ∧ r.2.mem ((c.tc : Thread Cert.RateOutIdeal.nD Cert.RateOutIdeal.τ).loc Cert.RateOutIdeal.main_arg1) = m ((c.tc : Thread Cert.RateOutIdeal.nD Cert.RateOutIdeal.τ).loc Cert.RateOutIdeal.main_arg1))
      ∧ θ_run (Cert.RateOutReferenceIdeal.defs (F := Ideal)) (onTc (τ := Cert.RateOutReferenceIdeal.τ) (Cert.RateOutReferenceIdeal.main (F := Ideal))) ⟨m', fun _ => 0, g'⟩ (fun r => ∀ c : Dev Cert.RateOutReferenceIdeal.nD,
          r.2.mem ((c.tc : Thread Cert.RateOutReferenceIdeal.nD Cert.RateOutReferenceIdeal.τ).loc Cert.RateOutReferenceIdeal.main_v0) = v0 c
          ∧ r.2.mem ((c.tc : Thread Cert.RateOutReferenceIdeal.nD Cert.RateOutReferenceIdeal.τ).loc Cert.RateOutReferenceIdeal.main_arg0) = m' ((c.tc : Thread Cert.RateOutReferenceIdeal.nD Cert.RateOutReferenceIdeal.τ).loc Cert.RateOutReferenceIdeal.main_arg0)
          ∧ r.2.mem ((c.tc : Thread Cert.RateOutReferenceIdeal.nD Cert.RateOutReferenceIdeal.τ).loc Cert.RateOutReferenceIdeal.main_arg1) = m' ((c.tc : Thread Cert.RateOutReferenceIdeal.nD Cert.RateOutReferenceIdeal.τ).loc Cert.RateOutReferenceIdeal.main_arg1))

def preserves_NormPrompt_NormPromptIdeal : Prop :=
  True

def algebraic_NormPromptIdeal_NormPromptReferenceIdeal [hNormPromptIdeal : Cert.NormPromptIdeal.Facts] [hNormPromptReferenceIdeal : Cert.NormPromptReferenceIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptReferenceIdeal.nD Cert.NormPromptReferenceIdeal.τ Cert.NormPromptReferenceIdeal.sig) → Buf (Elt Ideal) ℓ) (g' : Dev Cert.NormPromptReferenceIdeal.nD → PrngReg), Pre_NormPromptIdeal m →
    (∀ c : Dev Cert.NormPromptIdeal.nD,
      m' ((c.tc : Thread Cert.NormPromptReferenceIdeal.nD Cert.NormPromptReferenceIdeal.τ).loc Cert.NormPromptReferenceIdeal.main_arg0) = m ((c.tc : Thread Cert.NormPromptIdeal.nD Cert.NormPromptIdeal.τ).loc Cert.NormPromptIdeal.main_arg0)
      ∧ m' ((c.tc : Thread Cert.NormPromptReferenceIdeal.nD Cert.NormPromptReferenceIdeal.τ).loc Cert.NormPromptReferenceIdeal.main_arg1) = m ((c.tc : Thread Cert.NormPromptIdeal.nD Cert.NormPromptIdeal.τ).loc Cert.NormPromptIdeal.main_arg1)) →
    ∃ (v0 : (c : Dev Cert.NormPromptIdeal.nD) → Buf (Elt Ideal) ((c.tc : Thread Cert.NormPromptIdeal.nD Cert.NormPromptIdeal.τ).loc Cert.NormPromptIdeal.main_v1)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v1) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ θ_run (Cert.NormPromptReferenceIdeal.defs (F := Ideal)) (onTc (τ := Cert.NormPromptReferenceIdeal.τ) (Cert.NormPromptReferenceIdeal.main (F := Ideal))) ⟨m', fun _ => 0, g'⟩ (fun r => ∀ c : Dev Cert.NormPromptReferenceIdeal.nD,
          r.2.mem ((c.tc : Thread Cert.NormPromptReferenceIdeal.nD Cert.NormPromptReferenceIdeal.τ).loc Cert.NormPromptReferenceIdeal.main_v13) = v0 c
          ∧ r.2.mem ((c.tc : Thread Cert.NormPromptReferenceIdeal.nD Cert.NormPromptReferenceIdeal.τ).loc Cert.NormPromptReferenceIdeal.main_arg0) = m' ((c.tc : Thread Cert.NormPromptReferenceIdeal.nD Cert.NormPromptReferenceIdeal.τ).loc Cert.NormPromptReferenceIdeal.main_arg0)
          ∧ r.2.mem ((c.tc : Thread Cert.NormPromptReferenceIdeal.nD Cert.NormPromptReferenceIdeal.τ).loc Cert.NormPromptReferenceIdeal.main_arg1) = m' ((c.tc : Thread Cert.NormPromptReferenceIdeal.nD Cert.NormPromptReferenceIdeal.τ).loc Cert.NormPromptReferenceIdeal.main_arg1))

def preserves_NormSample_NormSampleIdeal : Prop :=
  True

def algebraic_NormSampleIdeal_NormSampleReferenceIdeal [hNormSampleIdeal : Cert.NormSampleIdeal.Facts] [hNormSampleReferenceIdeal : Cert.NormSampleReferenceIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleReferenceIdeal.nD Cert.NormSampleReferenceIdeal.τ Cert.NormSampleReferenceIdeal.sig) → Buf (Elt Ideal) ℓ) (g' : Dev Cert.NormSampleReferenceIdeal.nD → PrngReg), Pre_NormSampleIdeal m →
    (∀ c : Dev Cert.NormSampleIdeal.nD,
      m' ((c.tc : Thread Cert.NormSampleReferenceIdeal.nD Cert.NormSampleReferenceIdeal.τ).loc Cert.NormSampleReferenceIdeal.main_arg0) = m ((c.tc : Thread Cert.NormSampleIdeal.nD Cert.NormSampleIdeal.τ).loc Cert.NormSampleIdeal.main_arg0)
      ∧ m' ((c.tc : Thread Cert.NormSampleReferenceIdeal.nD Cert.NormSampleReferenceIdeal.τ).loc Cert.NormSampleReferenceIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v1)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v1) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleReferenceIdeal.defs (F := Ideal)) (onTc (τ := Cert.NormSampleReferenceIdeal.τ) (Cert.NormSampleReferenceIdeal.main (F := Ideal))) ⟨m', fun _ => 0, g'⟩ (fun r => ∀ c : Dev Cert.NormSampleReferenceIdeal.nD,
          r.2.mem ((c.tc : Thread Cert.NormSampleReferenceIdeal.nD Cert.NormSampleReferenceIdeal.τ).loc Cert.NormSampleReferenceIdeal.main_v13) = v0 c
          ∧ r.2.mem ((c.tc : Thread Cert.NormSampleReferenceIdeal.nD Cert.NormSampleReferenceIdeal.τ).loc Cert.NormSampleReferenceIdeal.main_arg0) = m' ((c.tc : Thread Cert.NormSampleReferenceIdeal.nD Cert.NormSampleReferenceIdeal.τ).loc Cert.NormSampleReferenceIdeal.main_arg0)
          ∧ r.2.mem ((c.tc : Thread Cert.NormSampleReferenceIdeal.nD Cert.NormSampleReferenceIdeal.τ).loc Cert.NormSampleReferenceIdeal.main_arg1) = m' ((c.tc : Thread Cert.NormSampleReferenceIdeal.nD Cert.NormSampleReferenceIdeal.τ).loc Cert.NormSampleReferenceIdeal.main_arg1))

def preserves_NormMod_NormModIdeal : Prop :=
  True

def algebraic_NormModIdeal_NormModReferenceIdeal [hNormModIdeal : Cert.NormModIdeal.Facts] [hNormModReferenceIdeal : Cert.NormModReferenceIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModReferenceIdeal.nD Cert.NormModReferenceIdeal.τ Cert.NormModReferenceIdeal.sig) → Buf (Elt Ideal) ℓ) (g' : Dev Cert.NormModReferenceIdeal.nD → PrngReg), Pre_NormModIdeal m →
    (∀ c : Dev Cert.NormModIdeal.nD,
      m' ((c.tc : Thread Cert.NormModReferenceIdeal.nD Cert.NormModReferenceIdeal.τ).loc Cert.NormModReferenceIdeal.main_arg0) = m ((c.tc : Thread Cert.NormModIdeal.nD Cert.NormModIdeal.τ).loc Cert.NormModIdeal.main_arg0)
      ∧ m' ((c.tc : Thread Cert.NormModReferenceIdeal.nD Cert.NormModReferenceIdeal.τ).loc Cert.NormModReferenceIdeal.main_arg1) = m ((c.tc : Thread Cert.NormModIdeal.nD Cert.NormModIdeal.τ).loc Cert.NormModIdeal.main_arg1)
      ∧ m' ((c.tc : Thread Cert.NormModReferenceIdeal.nD Cert.NormModReferenceIdeal.τ).loc Cert.NormModReferenceIdeal.main_arg2) = m ((c.tc : Thread Cert.NormModIdeal.nD Cert.NormModIdeal.τ).loc Cert.NormModIdeal.main_arg2)
      ∧ m' ((c.tc : Thread Cert.NormModReferenceIdeal.nD Cert.NormModReferenceIdeal.τ).loc Cert.NormModReferenceIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v1)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v1) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModReferenceIdeal.defs (F := Ideal)) (onTc (τ := Cert.NormModReferenceIdeal.τ) (Cert.NormModReferenceIdeal.main (F := Ideal))) ⟨m', fun _ => 0, g'⟩ (fun r => ∀ c : Dev Cert.NormModReferenceIdeal.nD,
          r.2.mem ((c.tc : Thread Cert.NormModReferenceIdeal.nD Cert.NormModReferenceIdeal.τ).loc Cert.NormModReferenceIdeal.main_v31) = v0 c
          ∧ r.2.mem ((c.tc : Thread Cert.NormModReferenceIdeal.nD Cert.NormModReferenceIdeal.τ).loc Cert.NormModReferenceIdeal.main_arg0) = m' ((c.tc : Thread Cert.NormModReferenceIdeal.nD Cert.NormModReferenceIdeal.τ).loc Cert.NormModReferenceIdeal.main_arg0)
          ∧ r.2.mem ((c.tc : Thread Cert.NormModReferenceIdeal.nD Cert.NormModReferenceIdeal.τ).loc Cert.NormModReferenceIdeal.main_arg1) = m' ((c.tc : Thread Cert.NormModReferenceIdeal.nD Cert.NormModReferenceIdeal.τ).loc Cert.NormModReferenceIdeal.main_arg1)
          ∧ r.2.mem ((c.tc : Thread Cert.NormModReferenceIdeal.nD Cert.NormModReferenceIdeal.τ).loc Cert.NormModReferenceIdeal.main_arg2) = m' ((c.tc : Thread Cert.NormModReferenceIdeal.nD Cert.NormModReferenceIdeal.τ).loc Cert.NormModReferenceIdeal.main_arg2)
          ∧ r.2.mem ((c.tc : Thread Cert.NormModReferenceIdeal.nD Cert.NormModReferenceIdeal.τ).loc Cert.NormModReferenceIdeal.main_arg3) = m' ((c.tc : Thread Cert.NormModReferenceIdeal.nD Cert.NormModReferenceIdeal.τ).loc Cert.NormModReferenceIdeal.main_arg3))

def preserves_NormRw_NormRwIdeal : Prop :=
  True

def algebraic_NormRwIdeal_NormRwReferenceIdeal [hNormRwIdeal : Cert.NormRwIdeal.Facts] [hNormRwReferenceIdeal : Cert.NormRwReferenceIdeal.Facts] : Prop :=
  ∀ (m : (ℓ : Loc Cert.NormRwIdeal.nD Cert.NormRwIdeal.τ Cert.NormRwIdeal.sig) → Buf (Elt Ideal) ℓ) (g : Dev Cert.NormRwIdeal.nD → PrngReg)
    (m' : (ℓ : Loc Cert.NormRwReferenceIdeal.nD Cert.NormRwReferenceIdeal.τ Cert.NormRwReferenceIdeal.sig) → Buf (Elt Ideal) ℓ) (g' : Dev Cert.NormRwReferenceIdeal.nD → PrngReg), Pre_NormRwIdeal m →
    (∀ c : Dev Cert.NormRwIdeal.nD,
      m' ((c.tc : Thread Cert.NormRwReferenceIdeal.nD Cert.NormRwReferenceIdeal.τ).loc Cert.NormRwReferenceIdeal.main_arg0) = m ((c.tc : Thread Cert.NormRwIdeal.nD Cert.NormRwIdeal.τ).loc Cert.NormRwIdeal.main_arg0)
      ∧ m' ((c.tc : Thread Cert.NormRwReferenceIdeal.nD Cert.NormRwReferenceIdeal.τ).loc Cert.NormRwReferenceIdeal.main_arg1) = m ((c.tc : Thread Cert.NormRwIdeal.nD Cert.NormRwIdeal.τ).loc Cert.NormRwIdeal.main_arg1)
      ∧ m' ((c.tc : Thread Cert.NormRwReferenceIdeal.nD Cert.NormRwReferenceIdeal.τ).loc Cert.NormRwReferenceIdeal.main_arg2) = m ((c.tc : Thread Cert.NormRwIdeal.nD Cert.NormRwIdeal.τ).loc Cert.NormRwIdeal.main_arg2)
      ∧ m' ((c.tc : Thread Cert.NormRwReferenceIdeal.nD Cert.NormRwReferenceIdeal.τ).loc Cert.NormRwReferenceIdeal.main_arg3) = m ((c.tc : Thread Cert.NormRwIdeal.nD Cert.NormRwIdeal.τ).loc Cert.NormRwIdeal.main_arg3)) →
    ∃ (v0 : (c : Dev Cert.NormRwIdeal.nD) → Buf (Elt Ideal) ((c.tc : Thread Cert.NormRwIdeal.nD Cert.NormRwIdeal.τ).loc Cert.NormRwIdeal.main_v1)),
      θ_run (Cert.NormRwIdeal.defs (F := Ideal)) (onTc (τ := Cert.NormRwIdeal.τ) (Cert.NormRwIdeal.main (F := Ideal))) ⟨m, fun _ => 0, g⟩ (fun r => ∀ c : Dev Cert.NormRwIdeal.nD,
          r.2.mem ((c.tc : Thread Cert.NormRwIdeal.nD Cert.NormRwIdeal.τ).loc Cert.NormRwIdeal.main_v1) = v0 c
          ∧ r.2.mem ((c.tc : Thread Cert.NormRwIdeal.nD Cert.NormRwIdeal.τ).loc Cert.NormRwIdeal.main_arg0) = m ((c.tc : Thread Cert.NormRwIdeal.nD Cert.NormRwIdeal.τ).loc Cert.NormRwIdeal.main_arg0)
          ∧ r.2.mem ((c.tc : Thread Cert.NormRwIdeal.nD Cert.NormRwIdeal.τ).loc Cert.NormRwIdeal.main_arg1) = m ((c.tc : Thread Cert.NormRwIdeal.nD Cert.NormRwIdeal.τ).loc Cert.NormRwIdeal.main_arg1)
          ∧ r.2.mem ((c.tc : Thread Cert.NormRwIdeal.nD Cert.NormRwIdeal.τ).loc Cert.NormRwIdeal.main_arg2) = m ((c.tc : Thread Cert.NormRwIdeal.nD Cert.NormRwIdeal.τ).loc Cert.NormRwIdeal.main_arg2)
          ∧ r.2.mem ((c.tc : Thread Cert.NormRwIdeal.nD Cert.NormRwIdeal.τ).loc Cert.NormRwIdeal.main_arg3) = m ((c.tc : Thread Cert.NormRwIdeal.nD Cert.NormRwIdeal.τ).loc Cert.NormRwIdeal.main_arg3))
      ∧ θ_run (Cert.NormRwReferenceIdeal.defs (F := Ideal)) (onTc (τ := Cert.NormRwReferenceIdeal.τ) (Cert.NormRwReferenceIdeal.main (F := Ideal))) ⟨m', fun _ => 0, g'⟩ (fun r => ∀ c : Dev Cert.NormRwReferenceIdeal.nD,
          r.2.mem ((c.tc : Thread Cert.NormRwReferenceIdeal.nD Cert.NormRwReferenceIdeal.τ).loc Cert.NormRwReferenceIdeal.main_v30) = v0 c
          ∧ r.2.mem ((c.tc : Thread Cert.NormRwReferenceIdeal.nD Cert.NormRwReferenceIdeal.τ).loc Cert.NormRwReferenceIdeal.main_arg0) = m' ((c.tc : Thread Cert.NormRwReferenceIdeal.nD Cert.NormRwReferenceIdeal.τ).loc Cert.NormRwReferenceIdeal.main_arg0)
          ∧ r.2.mem ((c.tc : Thread Cert.NormRwReferenceIdeal.nD Cert.NormRwReferenceIdeal.τ).loc Cert.NormRwReferenceIdeal.main_arg1) = m' ((c.tc : Thread Cert.NormRwReferenceIdeal.nD Cert.NormRwReferenceIdeal.τ).loc Cert.NormRwReferenceIdeal.main_arg1)
          ∧ r.2.mem ((c.tc : Thread Cert.NormRwReferenceIdeal.nD Cert.NormRwReferenceIdeal.τ).loc Cert.NormRwReferenceIdeal.main_arg2) = m' ((c.tc : Thread Cert.NormRwReferenceIdeal.nD Cert.NormRwReferenceIdeal.τ).loc Cert.NormRwReferenceIdeal.main_arg2)
          ∧ r.2.mem ((c.tc : Thread Cert.NormRwReferenceIdeal.nD Cert.NormRwReferenceIdeal.τ).loc Cert.NormRwReferenceIdeal.main_arg3) = m' ((c.tc : Thread Cert.NormRwReferenceIdeal.nD Cert.NormRwReferenceIdeal.τ).loc Cert.NormRwReferenceIdeal.main_arg3))

def preserves_Back_BackIdeal : Prop :=
  True

def algebraic_BackIdeal_BackReferenceIdeal_on_prompt_rows [hBackIdeal : Cert.BackIdeal.Facts] [hBackReferenceIdeal : Cert.BackReferenceIdeal.Facts] [hOn_prompt_rows : Cert.On_prompt_rows.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackIdeal m →
    (∀ c : Dev Cert.BackIdeal.nD,
      m' ((c.tc : Thread Cert.BackReferenceIdeal.nD Cert.BackReferenceIdeal.τ).loc Cert.BackReferenceIdeal.main_arg0) = m ((c.tc : Thread Cert.BackIdeal.nD Cert.BackIdeal.τ).loc Cert.BackIdeal.main_arg0)
      ∧ m' ((c.tc : Thread Cert.BackReferenceIdeal.nD Cert.BackReferenceIdeal.τ).loc Cert.BackReferenceIdeal.main_arg1) = m ((c.tc : Thread Cert.BackIdeal.nD Cert.BackIdeal.τ).loc Cert.BackIdeal.main_arg1)) →
    ∃ (v0 : (c : Dev Cert.BackIdeal.nD) → Buf (Elt Ideal) ((c.tc : Thread Cert.BackIdeal.nD Cert.BackIdeal.τ).loc Cert.BackIdeal.main_v2_0)) (v1 : (c : Dev Cert.BackIdeal.nD) → Buf (Elt Ideal) ((c.tc : Thread Cert.BackIdeal.nD Cert.BackIdeal.τ).loc Cert.BackIdeal.main_v2_1)),
      θ_run (Cert.BackIdeal.defs (F := Ideal)) (onTc (τ := Cert.BackIdeal.τ) (Cert.BackIdeal.main (F := Ideal))) ⟨m, fun _ => 0, g⟩ (fun r => ∀ c : Dev Cert.BackIdeal.nD,
          (∀ i : (⟨3, ![96, 256, 2048]⟩ : Shape).Idx, (Cert.On_prompt_rows.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1))).1 i = 1#1 → r.2.mem ((c.tc : Thread Cert.BackIdeal.nD Cert.BackIdeal.τ).loc Cert.BackIdeal.main_v2_0) i = v0 c i)
          ∧ (∀ i : (⟨4, ![32, 4, 256, 512]⟩ : Shape).Idx, (Cert.On_prompt_rows.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1))).2 i = 1#1 → r.2.mem ((c.tc : Thread Cert.BackIdeal.nD Cert.BackIdeal.τ).loc Cert.BackIdeal.main_v2_1) i = v1 c i)
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0)
          ∧ r.2.mem ((c.tc : Thread Cert.BackIdeal.nD Cert.BackIdeal.τ).loc Cert.BackIdeal.main_arg1) = m ((c.tc : Thread Cert.BackIdeal.nD Cert.BackIdeal.τ).loc Cert.BackIdeal.main_arg1))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          (∀ i : (⟨3, ![96, 256, 2048]⟩ : Shape).Idx, (Cert.On_prompt_rows.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1))).1 i = 1#1 → r.2.mem ((c.tc : Thread Cert.BackReferenceIdeal.nD Cert.BackReferenceIdeal.τ).loc Cert.BackReferenceIdeal.main_v120) i = v0 c i)
          ∧ (∀ i : (⟨4, ![32, 4, 256, 512]⟩ : Shape).Idx, (Cert.On_prompt_rows.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1))).2 i = 1#1 → r.2.mem ((c.tc : Thread Cert.BackReferenceIdeal.nD Cert.BackReferenceIdeal.τ).loc Cert.BackReferenceIdeal.main_v109) i = v1 c i)
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1))

def preserves_Hgrn_HgrnIdeal : Prop :=
  True

def algebraic_HgrnIdeal_HgrnReferenceIdeal_on_hgrn_rows [hHgrnIdeal : Cert.HgrnIdeal.Facts] [hHgrnReferenceIdeal : Cert.HgrnReferenceIdeal.Facts] [hOn_hgrn_rows : Cert.On_hgrn_rows.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnReferenceIdeal.nD Cert.HgrnReferenceIdeal.τ Cert.HgrnReferenceIdeal.sig) → Buf (Elt Ideal) ℓ) (g' : Dev Cert.HgrnReferenceIdeal.nD → PrngReg), Pre_HgrnIdeal m →
    (∀ c : Dev Cert.HgrnIdeal.nD,
      m' ((c.tc : Thread Cert.HgrnReferenceIdeal.nD Cert.HgrnReferenceIdeal.τ).loc Cert.HgrnReferenceIdeal.main_arg0) = m ((c.tc : Thread Cert.HgrnIdeal.nD Cert.HgrnIdeal.τ).loc Cert.HgrnIdeal.main_arg0)
      ∧ m' ((c.tc : Thread Cert.HgrnReferenceIdeal.nD Cert.HgrnReferenceIdeal.τ).loc Cert.HgrnReferenceIdeal.main_arg1) = m ((c.tc : Thread Cert.HgrnIdeal.nD Cert.HgrnIdeal.τ).loc Cert.HgrnIdeal.main_arg1)) →
    ∃ (v0 : (c : Dev Cert.HgrnIdeal.nD) → Buf (Elt Ideal) ((c.tc : Thread Cert.HgrnIdeal.nD Cert.HgrnIdeal.τ).loc Cert.HgrnIdeal.main_v2_0)) (v1 : (c : Dev Cert.HgrnIdeal.nD) → Buf (Elt Ideal) ((c.tc : Thread Cert.HgrnIdeal.nD Cert.HgrnIdeal.τ).loc Cert.HgrnIdeal.main_v2_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          (∀ i : (⟨3, ![96, 256, 2048]⟩ : Shape).Idx, (Cert.On_hgrn_rows.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1))).1 i = 1#1 → r.2.mem ((c.tc : Thread Cert.HgrnIdeal.nD Cert.HgrnIdeal.τ).loc Cert.HgrnIdeal.main_v2_0) i = v0 c i)
          ∧ (∀ i : (⟨4, ![32, 16, 128, 128]⟩ : Shape).Idx, (Cert.On_hgrn_rows.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1))).2 i = 1#1 → r.2.mem ((c.tc : Thread Cert.HgrnIdeal.nD Cert.HgrnIdeal.τ).loc Cert.HgrnIdeal.main_v2_1) i = v1 c i)
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1))
      ∧ θ_run (Cert.HgrnReferenceIdeal.defs (F := Ideal)) (onTc (τ := Cert.HgrnReferenceIdeal.τ) (Cert.HgrnReferenceIdeal.main (F := Ideal))) ⟨m', fun _ => 0, g'⟩ (fun r => ∀ c : Dev Cert.HgrnReferenceIdeal.nD,
          (∀ i : (⟨3, ![96, 256, 2048]⟩ : Shape).Idx, (Cert.On_hgrn_rows.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1))).1 i = 1#1 → r.2.mem ((c.tc : Thread Cert.HgrnReferenceIdeal.nD Cert.HgrnReferenceIdeal.τ).loc Cert.HgrnReferenceIdeal.main_v133) i = v0 c i)
          ∧ (∀ i : (⟨4, ![32, 16, 128, 128]⟩ : Shape).Idx, (Cert.On_hgrn_rows.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1))).2 i = 1#1 → r.2.mem ((c.tc : Thread Cert.HgrnReferenceIdeal.nD Cert.HgrnReferenceIdeal.τ).loc Cert.HgrnReferenceIdeal.main_v123) i = v1 c i)
          ∧ r.2.mem ((c.tc : Thread Cert.HgrnReferenceIdeal.nD Cert.HgrnReferenceIdeal.τ).loc Cert.HgrnReferenceIdeal.main_arg0) = m' ((c.tc : Thread Cert.HgrnReferenceIdeal.nD Cert.HgrnReferenceIdeal.τ).loc Cert.HgrnReferenceIdeal.main_arg0)
          ∧ r.2.mem ((c.tc : Thread Cert.HgrnReferenceIdeal.nD Cert.HgrnReferenceIdeal.τ).loc Cert.HgrnReferenceIdeal.main_arg1) = m' ((c.tc : Thread Cert.HgrnReferenceIdeal.nD Cert.HgrnReferenceIdeal.τ).loc Cert.HgrnReferenceIdeal.main_arg1))

def preserves_HgrnBack_HgrnBackIdeal : Prop :=
  True

def algebraic_HgrnBackIdeal_HgrnBackReferenceIdeal_on_hgrn_rows [hHgrnBackIdeal : Cert.HgrnBackIdeal.Facts] [hHgrnBackReferenceIdeal : Cert.HgrnBackReferenceIdeal.Facts] [hOn_hgrn_rows : Cert.On_hgrn_rows.Facts] : Prop :=
  ∀ (m : (ℓ : Loc Cert.HgrnBackIdeal.nD Cert.HgrnBackIdeal.τ Cert.HgrnBackIdeal.sig) → Buf (Elt Ideal) ℓ) (g : Dev Cert.HgrnBackIdeal.nD → PrngReg)
    (m' : (ℓ : Loc Cert.HgrnBackReferenceIdeal.nD Cert.HgrnBackReferenceIdeal.τ Cert.HgrnBackReferenceIdeal.sig) → Buf (Elt Ideal) ℓ) (g' : Dev Cert.HgrnBackReferenceIdeal.nD → PrngReg), Pre_HgrnBackIdeal m →
    (∀ c : Dev Cert.HgrnBackIdeal.nD,
      m' ((c.tc : Thread Cert.HgrnBackReferenceIdeal.nD Cert.HgrnBackReferenceIdeal.τ).loc Cert.HgrnBackReferenceIdeal.main_arg0) = m ((c.tc : Thread Cert.HgrnBackIdeal.nD Cert.HgrnBackIdeal.τ).loc Cert.HgrnBackIdeal.main_arg0)
      ∧ m' ((c.tc : Thread Cert.HgrnBackReferenceIdeal.nD Cert.HgrnBackReferenceIdeal.τ).loc Cert.HgrnBackReferenceIdeal.main_arg1) = m ((c.tc : Thread Cert.HgrnBackIdeal.nD Cert.HgrnBackIdeal.τ).loc Cert.HgrnBackIdeal.main_arg1)) →
    ∃ (v0 : (c : Dev Cert.HgrnBackIdeal.nD) → Buf (Elt Ideal) ((c.tc : Thread Cert.HgrnBackIdeal.nD Cert.HgrnBackIdeal.τ).loc Cert.HgrnBackIdeal.main_v2_0)) (v1 : (c : Dev Cert.HgrnBackIdeal.nD) → Buf (Elt Ideal) ((c.tc : Thread Cert.HgrnBackIdeal.nD Cert.HgrnBackIdeal.τ).loc Cert.HgrnBackIdeal.main_v2_1)),
      θ_run (Cert.HgrnBackIdeal.defs (F := Ideal)) (onTc (τ := Cert.HgrnBackIdeal.τ) (Cert.HgrnBackIdeal.main (F := Ideal))) ⟨m, fun _ => 0, g⟩ (fun r => ∀ c : Dev Cert.HgrnBackIdeal.nD,
          (∀ i : (⟨3, ![96, 256, 2048]⟩ : Shape).Idx, (Cert.On_hgrn_rows.fn (F := Ideal) (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1))).1 i = 1#1 → r.2.mem ((c.tc : Thread Cert.HgrnBackIdeal.nD Cert.HgrnBackIdeal.τ).loc Cert.HgrnBackIdeal.main_v2_0) i = v0 c i)
          ∧ (∀ i : (⟨4, ![32, 16, 128, 128]⟩ : Shape).Idx, (Cert.On_hgrn_rows.fn (F := Ideal) (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1))).2 i = 1#1 → r.2.mem ((c.tc : Thread Cert.HgrnBackIdeal.nD Cert.HgrnBackIdeal.τ).loc Cert.HgrnBackIdeal.main_v2_1) i = v1 c i)
          ∧ r.2.mem ((c.tc : Thread Cert.HgrnBackIdeal.nD Cert.HgrnBackIdeal.τ).loc Cert.HgrnBackIdeal.main_arg0) = m ((c.tc : Thread Cert.HgrnBackIdeal.nD Cert.HgrnBackIdeal.τ).loc Cert.HgrnBackIdeal.main_arg0)
          ∧ r.2.mem ((c.tc : Thread Cert.HgrnBackIdeal.nD Cert.HgrnBackIdeal.τ).loc Cert.HgrnBackIdeal.main_arg1) = m ((c.tc : Thread Cert.HgrnBackIdeal.nD Cert.HgrnBackIdeal.τ).loc Cert.HgrnBackIdeal.main_arg1))
      ∧ θ_run (Cert.HgrnBackReferenceIdeal.defs (F := Ideal)) (onTc (τ := Cert.HgrnBackReferenceIdeal.τ) (Cert.HgrnBackReferenceIdeal.main (F := Ideal))) ⟨m', fun _ => 0, g'⟩ (fun r => ∀ c : Dev Cert.HgrnBackReferenceIdeal.nD,
          (∀ i : (⟨3, ![96, 256, 2048]⟩ : Shape).Idx, (Cert.On_hgrn_rows.fn (F := Ideal) (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1))).1 i = 1#1 → r.2.mem ((c.tc : Thread Cert.HgrnBackReferenceIdeal.nD Cert.HgrnBackReferenceIdeal.τ).loc Cert.HgrnBackReferenceIdeal.main_v138) i = v0 c i)
          ∧ (∀ i : (⟨4, ![32, 16, 128, 128]⟩ : Shape).Idx, (Cert.On_hgrn_rows.fn (F := Ideal) (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1))).2 i = 1#1 → r.2.mem ((c.tc : Thread Cert.HgrnBackReferenceIdeal.nD Cert.HgrnBackReferenceIdeal.τ).loc Cert.HgrnBackReferenceIdeal.main_v127) i = v1 c i)
          ∧ r.2.mem ((c.tc : Thread Cert.HgrnBackReferenceIdeal.nD Cert.HgrnBackReferenceIdeal.τ).loc Cert.HgrnBackReferenceIdeal.main_arg0) = m' ((c.tc : Thread Cert.HgrnBackReferenceIdeal.nD Cert.HgrnBackReferenceIdeal.τ).loc Cert.HgrnBackReferenceIdeal.main_arg0)
          ∧ r.2.mem ((c.tc : Thread Cert.HgrnBackReferenceIdeal.nD Cert.HgrnBackReferenceIdeal.τ).loc Cert.HgrnBackReferenceIdeal.main_arg1) = m' ((c.tc : Thread Cert.HgrnBackReferenceIdeal.nD Cert.HgrnBackReferenceIdeal.τ).loc Cert.HgrnBackReferenceIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hExpertUp : Cert.ExpertUp.Facts) (hExpertUpIdeal : Cert.ExpertUpIdeal.Facts) (hExpertUpReferenceIdeal : Cert.ExpertUpReferenceIdeal.Facts) (hExpertDown : Cert.ExpertDown.Facts) (hExpertDownIdeal : Cert.ExpertDownIdeal.Facts) (hExpertDownReferenceIdeal : Cert.ExpertDownReferenceIdeal.Facts) (hInProj : Cert.InProj.Facts) (hInProjIdeal : Cert.InProjIdeal.Facts) (hInProjReferenceIdeal : Cert.InProjReferenceIdeal.Facts) (hWideProj : Cert.WideProj.Facts) (hWideProjIdeal : Cert.WideProjIdeal.Facts) (hWideProjReferenceIdeal : Cert.WideProjReferenceIdeal.Facts) (hOutProj : Cert.OutProj.Facts) (hOutProjIdeal : Cert.OutProjIdeal.Facts) (hOutProjReferenceIdeal : Cert.OutProjReferenceIdeal.Facts) (hHyenaOut : Cert.HyenaOut.Facts) (hHyenaOutIdeal : Cert.HyenaOutIdeal.Facts) (hHyenaOutReferenceIdeal : Cert.HyenaOutReferenceIdeal.Facts) (hRProj : Cert.RProj.Facts) (hRProjIdeal : Cert.RProjIdeal.Facts) (hRProjReferenceIdeal : Cert.RProjReferenceIdeal.Facts) (hKeyProj : Cert.KeyProj.Facts) (hKeyProjIdeal : Cert.KeyProjIdeal.Facts) (hKeyProjReferenceIdeal : Cert.KeyProjReferenceIdeal.Facts) (hValProj : Cert.ValProj.Facts) (hValProjIdeal : Cert.ValProjIdeal.Facts) (hValProjReferenceIdeal : Cert.ValProjReferenceIdeal.Facts) (hLowProj : Cert.LowProj.Facts) (hLowProjIdeal : Cert.LowProjIdeal.Facts) (hLowProjReferenceIdeal : Cert.LowProjReferenceIdeal.Facts) (hGkProj : Cert.GkProj.Facts) (hGkProjIdeal : Cert.GkProjIdeal.Facts) (hGkProjReferenceIdeal : Cert.GkProjReferenceIdeal.Facts) (hGateIn : Cert.GateIn.Facts) (hGateInIdeal : Cert.GateInIdeal.Facts) (hGateInReferenceIdeal : Cert.GateInReferenceIdeal.Facts) (hGateOut : Cert.GateOut.Facts) (hGateOutIdeal : Cert.GateOutIdeal.Facts) (hGateOutReferenceIdeal : Cert.GateOutReferenceIdeal.Facts) (hDecayIn : Cert.DecayIn.Facts) (hDecayInIdeal : Cert.DecayInIdeal.Facts) (hDecayInReferenceIdeal : Cert.DecayInReferenceIdeal.Facts) (hRateIn : Cert.RateIn.Facts) (hRateInIdeal : Cert.RateInIdeal.Facts) (hRateInReferenceIdeal : Cert.RateInReferenceIdeal.Facts) (hRateOut : Cert.RateOut.Facts) (hRateOutIdeal : Cert.RateOutIdeal.Facts) (hRateOutReferenceIdeal : Cert.RateOutReferenceIdeal.Facts) (hNormPrompt : Cert.NormPrompt.Facts) (hNormPromptIdeal : Cert.NormPromptIdeal.Facts) (hNormPromptReferenceIdeal : Cert.NormPromptReferenceIdeal.Facts) (hNormSample : Cert.NormSample.Facts) (hNormSampleIdeal : Cert.NormSampleIdeal.Facts) (hNormSampleReferenceIdeal : Cert.NormSampleReferenceIdeal.Facts) (hNormMod : Cert.NormMod.Facts) (hNormModIdeal : Cert.NormModIdeal.Facts) (hNormModReferenceIdeal : Cert.NormModReferenceIdeal.Facts) (hNormRw : Cert.NormRw.Facts) (hNormRwIdeal : Cert.NormRwIdeal.Facts) (hNormRwReferenceIdeal : Cert.NormRwReferenceIdeal.Facts) (hBack : Cert.Back.Facts) (hBackIdeal : Cert.BackIdeal.Facts) (hBackReferenceIdeal : Cert.BackReferenceIdeal.Facts) (hHgrn : Cert.Hgrn.Facts) (hHgrnIdeal : Cert.HgrnIdeal.Facts) (hHgrnReferenceIdeal : Cert.HgrnReferenceIdeal.Facts) (hHgrnBack : Cert.HgrnBack.Facts) (hHgrnBackIdeal : Cert.HgrnBackIdeal.Facts) (hHgrnBackReferenceIdeal : Cert.HgrnBackReferenceIdeal.Facts) (hPre_expert_range : Cert.Pre_expert_range.Facts) (hPre_down_range : Cert.Pre_down_range.Facts) (hOn_prompt_rows : Cert.On_prompt_rows.Facts) (hOn_valid_rows : Cert.On_valid_rows.Facts) (hOn_down_rows : Cert.On_down_rows.Facts) (hOn_hgrn_rows : Cert.On_hgrn_rows.Facts),
    quiescent_Kernel (hKernel := hKernel)
    ∧ quiescent_KernelIdeal (hKernelIdeal := hKernelIdeal)
    ∧ quiescent_ReferenceIdeal (hReferenceIdeal := hReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_ExpertUp (hExpertUp := hExpertUp) (hPre_expert_range := hPre_expert_range)
    ∧ quiescent_ExpertUpIdeal (hExpertUpIdeal := hExpertUpIdeal) (hPre_expert_range := hPre_expert_range)
    ∧ quiescent_ExpertUpReferenceIdeal (hExpertUpReferenceIdeal := hExpertUpReferenceIdeal)
    ∧ quiescent_ExpertUpReferenceIdeal_pre_expert_range (hExpertUpReferenceIdeal := hExpertUpReferenceIdeal) (hPre_expert_range := hPre_expert_range)
    ∧ quiescent_ExpertDown (hExpertDown := hExpertDown) (hPre_down_range := hPre_down_range)
    ∧ quiescent_ExpertDownIdeal (hExpertDownIdeal := hExpertDownIdeal) (hPre_down_range := hPre_down_range)
    ∧ quiescent_ExpertDownReferenceIdeal (hExpertDownReferenceIdeal := hExpertDownReferenceIdeal)
    ∧ quiescent_ExpertDownReferenceIdeal_pre_down_range (hExpertDownReferenceIdeal := hExpertDownReferenceIdeal) (hPre_down_range := hPre_down_range)
    ∧ quiescent_InProj (hInProj := hInProj)
    ∧ quiescent_InProjIdeal (hInProjIdeal := hInProjIdeal)
    ∧ quiescent_InProjReferenceIdeal (hInProjReferenceIdeal := hInProjReferenceIdeal)
    ∧ quiescent_WideProj (hWideProj := hWideProj)
    ∧ quiescent_WideProjIdeal (hWideProjIdeal := hWideProjIdeal)
    ∧ quiescent_WideProjReferenceIdeal (hWideProjReferenceIdeal := hWideProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_HyenaOut (hHyenaOut := hHyenaOut)
    ∧ quiescent_HyenaOutIdeal (hHyenaOutIdeal := hHyenaOutIdeal)
    ∧ quiescent_HyenaOutReferenceIdeal (hHyenaOutReferenceIdeal := hHyenaOutReferenceIdeal)
    ∧ quiescent_RProj (hRProj := hRProj)
    ∧ quiescent_RProjIdeal (hRProjIdeal := hRProjIdeal)
    ∧ quiescent_RProjReferenceIdeal (hRProjReferenceIdeal := hRProjReferenceIdeal)
    ∧ quiescent_KeyProj (hKeyProj := hKeyProj)
    ∧ quiescent_KeyProjIdeal (hKeyProjIdeal := hKeyProjIdeal)
    ∧ quiescent_KeyProjReferenceIdeal (hKeyProjReferenceIdeal := hKeyProjReferenceIdeal)
    ∧ quiescent_ValProj (hValProj := hValProj)
    ∧ quiescent_ValProjIdeal (hValProjIdeal := hValProjIdeal)
    ∧ quiescent_ValProjReferenceIdeal (hValProjReferenceIdeal := hValProjReferenceIdeal)
    ∧ quiescent_LowProj (hLowProj := hLowProj)
    ∧ quiescent_LowProjIdeal (hLowProjIdeal := hLowProjIdeal)
    ∧ quiescent_LowProjReferenceIdeal (hLowProjReferenceIdeal := hLowProjReferenceIdeal)
    ∧ quiescent_GkProj (hGkProj := hGkProj)
    ∧ quiescent_GkProjIdeal (hGkProjIdeal := hGkProjIdeal)
    ∧ quiescent_GkProjReferenceIdeal (hGkProjReferenceIdeal := hGkProjReferenceIdeal)
    ∧ quiescent_GateIn (hGateIn := hGateIn)
    ∧ quiescent_GateInIdeal (hGateInIdeal := hGateInIdeal)
    ∧ quiescent_GateInReferenceIdeal (hGateInReferenceIdeal := hGateInReferenceIdeal)
    ∧ quiescent_GateOut (hGateOut := hGateOut)
    ∧ quiescent_GateOutIdeal (hGateOutIdeal := hGateOutIdeal)
    ∧ quiescent_GateOutReferenceIdeal (hGateOutReferenceIdeal := hGateOutReferenceIdeal)
    ∧ quiescent_DecayIn (hDecayIn := hDecayIn)
    ∧ quiescent_DecayInIdeal (hDecayInIdeal := hDecayInIdeal)
    ∧ quiescent_DecayInReferenceIdeal (hDecayInReferenceIdeal := hDecayInReferenceIdeal)
    ∧ quiescent_RateIn (hRateIn := hRateIn)
    ∧ quiescent_RateInIdeal (hRateInIdeal := hRateInIdeal)
    ∧ quiescent_RateInReferenceIdeal (hRateInReferenceIdeal := hRateInReferenceIdeal)
    ∧ quiescent_RateOut (hRateOut := hRateOut)
    ∧ quiescent_RateOutIdeal (hRateOutIdeal := hRateOutIdeal)
    ∧ quiescent_RateOutReferenceIdeal (hRateOutReferenceIdeal := hRateOutReferenceIdeal)
    ∧ quiescent_NormPrompt (hNormPrompt := hNormPrompt)
    ∧ quiescent_NormPromptIdeal (hNormPromptIdeal := hNormPromptIdeal)
    ∧ quiescent_NormPromptReferenceIdeal (hNormPromptReferenceIdeal := hNormPromptReferenceIdeal)
    ∧ quiescent_NormSample (hNormSample := hNormSample)
    ∧ quiescent_NormSampleIdeal (hNormSampleIdeal := hNormSampleIdeal)
    ∧ quiescent_NormSampleReferenceIdeal (hNormSampleReferenceIdeal := hNormSampleReferenceIdeal)
    ∧ quiescent_NormMod (hNormMod := hNormMod)
    ∧ quiescent_NormModIdeal (hNormModIdeal := hNormModIdeal)
    ∧ quiescent_NormModReferenceIdeal (hNormModReferenceIdeal := hNormModReferenceIdeal)
    ∧ quiescent_NormRw (hNormRw := hNormRw)
    ∧ quiescent_NormRwIdeal (hNormRwIdeal := hNormRwIdeal)
    ∧ quiescent_NormRwReferenceIdeal (hNormRwReferenceIdeal := hNormRwReferenceIdeal)
    ∧ quiescent_Back (hBack := hBack)
    ∧ quiescent_BackIdeal (hBackIdeal := hBackIdeal)
    ∧ quiescent_BackReferenceIdeal (hBackReferenceIdeal := hBackReferenceIdeal)
    ∧ quiescent_Hgrn (hHgrn := hHgrn)
    ∧ quiescent_HgrnIdeal (hHgrnIdeal := hHgrnIdeal)
    ∧ quiescent_HgrnReferenceIdeal (hHgrnReferenceIdeal := hHgrnReferenceIdeal)
    ∧ quiescent_HgrnBack (hHgrnBack := hHgrnBack)
    ∧ quiescent_HgrnBackIdeal (hHgrnBackIdeal := hHgrnBackIdeal)
    ∧ quiescent_HgrnBackReferenceIdeal (hHgrnBackReferenceIdeal := hHgrnBackReferenceIdeal)
    ∧ preserves_Kernel_KernelIdeal
    ∧ algebraic_KernelIdeal_ReferenceIdeal_on_prompt_rows (hKernelIdeal := hKernelIdeal) (hReferenceIdeal := hReferenceIdeal) (hOn_prompt_rows := hOn_prompt_rows)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_ExpertUp_ExpertUpIdeal
    ∧ algebraic_ExpertUpIdeal_ExpertUpReferenceIdeal_on_valid_rows (hExpertUpIdeal := hExpertUpIdeal) (hExpertUpReferenceIdeal := hExpertUpReferenceIdeal) (hPre_expert_range := hPre_expert_range) (hOn_valid_rows := hOn_valid_rows)
    ∧ preserves_ExpertDown_ExpertDownIdeal
    ∧ algebraic_ExpertDownIdeal_ExpertDownReferenceIdeal_on_down_rows (hExpertDownIdeal := hExpertDownIdeal) (hExpertDownReferenceIdeal := hExpertDownReferenceIdeal) (hPre_down_range := hPre_down_range) (hOn_down_rows := hOn_down_rows)
    ∧ preserves_InProj_InProjIdeal
    ∧ algebraic_InProjIdeal_InProjReferenceIdeal (hInProjIdeal := hInProjIdeal) (hInProjReferenceIdeal := hInProjReferenceIdeal)
    ∧ preserves_WideProj_WideProjIdeal
    ∧ algebraic_WideProjIdeal_WideProjReferenceIdeal (hWideProjIdeal := hWideProjIdeal) (hWideProjReferenceIdeal := hWideProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_HyenaOut_HyenaOutIdeal
    ∧ algebraic_HyenaOutIdeal_HyenaOutReferenceIdeal (hHyenaOutIdeal := hHyenaOutIdeal) (hHyenaOutReferenceIdeal := hHyenaOutReferenceIdeal)
    ∧ preserves_RProj_RProjIdeal
    ∧ algebraic_RProjIdeal_RProjReferenceIdeal (hRProjIdeal := hRProjIdeal) (hRProjReferenceIdeal := hRProjReferenceIdeal)
    ∧ preserves_KeyProj_KeyProjIdeal
    ∧ algebraic_KeyProjIdeal_KeyProjReferenceIdeal (hKeyProjIdeal := hKeyProjIdeal) (hKeyProjReferenceIdeal := hKeyProjReferenceIdeal)
    ∧ preserves_ValProj_ValProjIdeal
    ∧ algebraic_ValProjIdeal_ValProjReferenceIdeal (hValProjIdeal := hValProjIdeal) (hValProjReferenceIdeal := hValProjReferenceIdeal)
    ∧ preserves_LowProj_LowProjIdeal
    ∧ algebraic_LowProjIdeal_LowProjReferenceIdeal (hLowProjIdeal := hLowProjIdeal) (hLowProjReferenceIdeal := hLowProjReferenceIdeal)
    ∧ preserves_GkProj_GkProjIdeal
    ∧ algebraic_GkProjIdeal_GkProjReferenceIdeal (hGkProjIdeal := hGkProjIdeal) (hGkProjReferenceIdeal := hGkProjReferenceIdeal)
    ∧ preserves_GateIn_GateInIdeal
    ∧ algebraic_GateInIdeal_GateInReferenceIdeal (hGateInIdeal := hGateInIdeal) (hGateInReferenceIdeal := hGateInReferenceIdeal)
    ∧ preserves_GateOut_GateOutIdeal
    ∧ algebraic_GateOutIdeal_GateOutReferenceIdeal (hGateOutIdeal := hGateOutIdeal) (hGateOutReferenceIdeal := hGateOutReferenceIdeal)
    ∧ preserves_DecayIn_DecayInIdeal
    ∧ algebraic_DecayInIdeal_DecayInReferenceIdeal (hDecayInIdeal := hDecayInIdeal) (hDecayInReferenceIdeal := hDecayInReferenceIdeal)
    ∧ preserves_RateIn_RateInIdeal
    ∧ algebraic_RateInIdeal_RateInReferenceIdeal (hRateInIdeal := hRateInIdeal) (hRateInReferenceIdeal := hRateInReferenceIdeal)
    ∧ preserves_RateOut_RateOutIdeal
    ∧ algebraic_RateOutIdeal_RateOutReferenceIdeal (hRateOutIdeal := hRateOutIdeal) (hRateOutReferenceIdeal := hRateOutReferenceIdeal)
    ∧ preserves_NormPrompt_NormPromptIdeal
    ∧ algebraic_NormPromptIdeal_NormPromptReferenceIdeal (hNormPromptIdeal := hNormPromptIdeal) (hNormPromptReferenceIdeal := hNormPromptReferenceIdeal)
    ∧ preserves_NormSample_NormSampleIdeal
    ∧ algebraic_NormSampleIdeal_NormSampleReferenceIdeal (hNormSampleIdeal := hNormSampleIdeal) (hNormSampleReferenceIdeal := hNormSampleReferenceIdeal)
    ∧ preserves_NormMod_NormModIdeal
    ∧ algebraic_NormModIdeal_NormModReferenceIdeal (hNormModIdeal := hNormModIdeal) (hNormModReferenceIdeal := hNormModReferenceIdeal)
    ∧ preserves_NormRw_NormRwIdeal
    ∧ algebraic_NormRwIdeal_NormRwReferenceIdeal (hNormRwIdeal := hNormRwIdeal) (hNormRwReferenceIdeal := hNormRwReferenceIdeal)
    ∧ preserves_Back_BackIdeal
    ∧ algebraic_BackIdeal_BackReferenceIdeal_on_prompt_rows (hBackIdeal := hBackIdeal) (hBackReferenceIdeal := hBackReferenceIdeal) (hOn_prompt_rows := hOn_prompt_rows)
    ∧ preserves_Hgrn_HgrnIdeal
    ∧ algebraic_HgrnIdeal_HgrnReferenceIdeal_on_hgrn_rows (hHgrnIdeal := hHgrnIdeal) (hHgrnReferenceIdeal := hHgrnReferenceIdeal) (hOn_hgrn_rows := hOn_hgrn_rows)
    ∧ preserves_HgrnBack_HgrnBackIdeal
    ∧ algebraic_HgrnBackIdeal_HgrnBackReferenceIdeal_on_hgrn_rows (hHgrnBackIdeal := hHgrnBackIdeal) (hHgrnBackReferenceIdeal := hHgrnBackReferenceIdeal) (hOn_hgrn_rows := hOn_hgrn_rows)
-- ==== On_down_rows.lean ====
abbrev S150 : Shape := ⟨1, ![150]⟩
abbrev S76800x2816 : Shape := ⟨2, ![76800, 2816]⟩
abbrev S16x2816x2048 : Shape := ⟨3, ![16, 2816, 2048]⟩
abbrev S76800x128 : Shape := ⟨2, ![76800, 128]⟩
abbrev S150x512 : Shape := ⟨2, ![150, 512]⟩
abbrev S76800 : Shape := ⟨1, ![76800]⟩
abbrev S_ : Shape := ⟨0, ![]⟩
abbrev S76800x1 : Shape := ⟨2, ![76800, 1]⟩
abbrev S76800x2048 : Shape := ⟨2, ![76800, 2048]⟩

class Facts : Prop where
  bcast_S150_S150x512_0 : S150.BroadcastsInDim S150x512 (![0] : Fin 1 → Fin S150x512.rank)
  shapeCasts_S150x512_S76800 : S150x512.ShapeCasts S76800
  bcast_S_S76800 : S_.BroadcastsInDim S76800 (![] : Fin 0 → Fin S76800.rank)
  bcast_S76800_S76800x1_0 : S76800.BroadcastsInDim S76800x1 (![0] : Fin 1 → Fin S76800x1.rank)
  bcast_S76800x1_S76800x2048_0_1 : S76800x1.BroadcastsInDim S76800x2048 (![0, 1] : Fin 2 → Fin S76800x2048.rank)

variable [Facts]

def fn {F : FTy → Type} [FloatOps F] (main_arg0 : IVec S150 32) (main_arg1 : IVec S150 32) (main_arg2 : FVec F S76800x2816 .bf16) (main_arg3 : FVec F S16x2816x2048 .bf16) (main_arg4 : FVec F S76800x128 .f32) : IVec S76800x2048 1 :=
  let main_v0 : IVec S150x512 32 := broadcastInDim S150x512 ![0] bcast_S150_S150x512_0 main_arg1
  let main_v1 : IVec S76800 32 := shapeCast S76800 main_v0 shapeCasts_S150x512_S76800
  let main_c : IVec S_ 32 := constantI S_ 32 0#32
  let main_v2 : IVec S76800 32 := broadcastInDim S76800 ![] bcast_S_S76800 main_c
  let main_v3 : IVec S76800 1 := cmpi .sgt main_v1 main_v2
  let main_v4 : IVec S76800x1 1 := broadcastInDim S76800x1 ![0] bcast_S76800_S76800x1_0 main_v3
  let main_v5 : IVec S76800x2048 1 := broadcastInDim S76800x2048 ![0, 1] bcast_S76800x1_S76800x2048_0_1 main_v4
  main_v5
-- ==== On_hgrn_rows.lean ====
abbrev S24576x10240 : Shape := ⟨2, ![24576, 10240]⟩
abbrev S2x1x2048 : Shape := ⟨3, ![2, 1, 2048]⟩
abbrev S96x256x2048 : Shape := ⟨3, ![96, 256, 2048]⟩
abbrev S_ : Shape := ⟨0, ![]⟩
abbrev S32x16x128x128 : Shape := ⟨4, ![32, 16, 128, 128]⟩

class Facts : Prop where
  bcast_S_S96x256x2048 : S_.BroadcastsInDim S96x256x2048 (![] : Fin 0 → Fin S96x256x2048.rank)
  bcast_S_S32x16x128x128 : S_.BroadcastsInDim S32x16x128x128 (![] : Fin 0 → Fin S32x16x128x128.rank)

variable [Facts]

def fn {F : FTy → Type} [FloatOps F] (main_arg0 : FVec F S24576x10240 .f32) (main_arg1 : FVec F S2x1x2048 .f32) : IVec S96x256x2048 1 × IVec S32x16x128x128 1 :=
  let main_v0 : IVec S96x256x2048 32 := iotaInDim S96x256x2048 32 0
  let main_c : IVec S_ 32 := constantI S_ 32 32#32
  let main_v1 : IVec S96x256x2048 32 := broadcastInDim S96x256x2048 ![] bcast_S_S96x256x2048 main_c
  let main_v2 : IVec S96x256x2048 1 := cmpi .slt main_v0 main_v1
  let main_c_0 : IVec S_ 1 := constantI S_ 1 1#1
  let main_v3 : IVec S32x16x128x128 1 := broadcastInDim S32x16x128x128 ![] bcast_S_S32x16x128x128 main_c_0
  (main_v2, main_v3)
-- ==== On_prompt_rows.lean ====
abbrev S24576x6144 : Shape := ⟨2, ![24576, 6144]⟩
abbrev S24576x2048 : Shape := ⟨2, ![24576, 2048]⟩
abbrev S96x256x2048 : Shape := ⟨3, ![96, 256, 2048]⟩
abbrev S_ : Shape := ⟨0, ![]⟩
abbrev S32x4x256x512 : Shape := ⟨4, ![32, 4, 256, 512]⟩

class Facts : Prop where
  bcast_S_S96x256x2048 : S_.BroadcastsInDim S96x256x2048 (![] : Fin 0 → Fin S96x256x2048.rank)
  bcast_S_S32x4x256x512 : S_.BroadcastsInDim S32x4x256x512 (![] : Fin 0 → Fin S32x4x256x512.rank)

variable [Facts]

def fn {F : FTy → Type} [FloatOps F] (main_arg0 : FVec F S24576x6144 .f32) (main_arg1 : FVec F S24576x2048 .f32) : IVec S96x256x2048 1 × IVec S32x4x256x512 1 :=
  let main_v0 : IVec S96x256x2048 32 := iotaInDim S96x256x2048 32 0
  let main_c : IVec S_ 32 := constantI S_ 32 32#32
  let main_v1 : IVec S96x256x2048 32 := broadcastInDim S96x256x2048 ![] bcast_S_S96x256x2048 main_c
  let main_v2 : IVec S96x256x2048 1 := cmpi .slt main_v0 main_v1
  let main_c_0 : IVec S_ 1 := constantI S_ 1 1#1
  let main_v3 : IVec S32x4x256x512 1 := broadcastInDim S32x4x256x512 ![] bcast_S_S32x4x256x512 main_c_0
  (main_v2, main_v3)
-- ==== On_valid_rows.lean ====
abbrev S150 : Shape := ⟨1, ![150]⟩
abbrev S76800x2048 : Shape := ⟨2, ![76800, 2048]⟩
abbrev S16x2048x2816 : Shape := ⟨3, ![16, 2048, 2816]⟩
abbrev S150x512 : Shape := ⟨2, ![150, 512]⟩
abbrev S76800 : Shape := ⟨1, ![76800]⟩
abbrev S_ : Shape := ⟨0, ![]⟩
abbrev S76800x1 : Shape := ⟨2, ![76800, 1]⟩
abbrev S76800x2816 : Shape := ⟨2, ![76800, 2816]⟩

class Facts : Prop where
  bcast_S150_S150x512_0 : S150.BroadcastsInDim S150x512 (![0] : Fin 1 → Fin S150x512.rank)
  shapeCasts_S150x512_S76800 : S150x512.ShapeCasts S76800
  bcast_S_S76800 : S_.BroadcastsInDim S76800 (![] : Fin 0 → Fin S76800.rank)
  bcast_S76800_S76800x1_0 : S76800.BroadcastsInDim S76800x1 (![0] : Fin 1 → Fin S76800x1.rank)
  bcast_S76800x1_S76800x2816_0_1 : S76800x1.BroadcastsInDim S76800x2816 (![0, 1] : Fin 2 → Fin S76800x2816.rank)

variable [Facts]

def fn {F : FTy → Type} [FloatOps F] (main_arg0 : IVec S150 32) (main_arg1 : IVec S150 32) (main_arg2 : FVec F S76800x2048 .bf16) (main_arg3 : FVec F S16x2048x2816 .bf16) (main_arg4 : FVec F S16x2048x2816 .bf16) : IVec S76800x2816 1 :=
  let main_v0 : IVec S150x512 32 := broadcastInDim S150x512 ![0] bcast_S150_S150x512_0 main_arg1
  let main_v1 : IVec S76800 32 := shapeCast S76800 main_v0 shapeCasts_S150x512_S76800
  let main_c : IVec S_ 32 := constantI S_ 32 0#32
  let main_v2 : IVec S76800 32 := broadcastInDim S76800 ![] bcast_S_S76800 main_c
  let main_v3 : IVec S76800 1 := cmpi .sgt main_v1 main_v2
  let main_v4 : IVec S76800x1 1 := broadcastInDim S76800x1 ![0] bcast_S76800_S76800x1_0 main_v3
  let main_v5 : IVec S76800x2816 1 := broadcastInDim S76800x2816 ![0, 1] bcast_S76800x1_S76800x2816_0_1 main_v4
  main_v5
-- ==== Pre_down_range.lean ====
abbrev S150 : Shape := ⟨1, ![150]⟩
abbrev S76800x2816 : Shape := ⟨2, ![76800, 2816]⟩
abbrev S16x2816x2048 : Shape := ⟨3, ![16, 2816, 2048]⟩
abbrev S76800x128 : Shape := ⟨2, ![76800, 128]⟩
abbrev S_ : Shape := ⟨0, ![]⟩

class Facts : Prop where
  bcast_S_S150 : S_.BroadcastsInDim S150 (![] : Fin 0 → Fin S150.rank)
  reducesTo_S150_S_d0 : S150.ReducesTo [0] S_
  h_S_ : 0 < S_.numel

variable [Facts]

def fn {F : FTy → Type} [FloatOps F] (main_arg0 : IVec S150 32) (main_arg1 : IVec S150 32) (main_arg2 : FVec F S76800x2816 .bf16) (main_arg3 : FVec F S16x2816x2048 .bf16) (main_arg4 : FVec F S76800x128 .f32) : IVec S_ 1 :=
  let main_c : IVec S_ 32 := constantI S_ 32 0#32
  let main_v0 : IVec S150 32 := broadcastInDim S150 ![] bcast_S_S150 main_c
  let main_v1 : IVec S150 1 := cmpi .sge main_arg0 main_v0
  let main_c_0 : IVec S_ 32 := constantI S_ 32 8#32
  let main_v2 : IVec S150 32 := broadcastInDim S150 ![] bcast_S_S150 main_c_0
  let main_v3 : IVec S150 1 := cmpi .slt main_arg0 main_v2
  let main_v4 : IVec S150 1 := andi main_v1 main_v3
  let main_c_1 : IVec S_ 1 := constantI S_ 1 1#1
  let main_v5 : IVec S_ 1 := (fun x v => Host.reduce IntOp.andi x v reducesTo_S150_S_d0 h_S_) main_v4 main_c_1
  main_v5
-- ==== Pre_expert_range.lean ====
abbrev S150 : Shape := ⟨1, ![150]⟩
abbrev S76800x2048 : Shape := ⟨2, ![76800, 2048]⟩
abbrev S16x2048x2816 : Shape := ⟨3, ![16, 2048, 2816]⟩
abbrev S_ : Shape := ⟨0, ![]⟩

class Facts : Prop where
  bcast_S_S150 : S_.BroadcastsInDim S150 (![] : Fin 0 → Fin S150.rank)
  reducesTo_S150_S_d0 : S150.ReducesTo [0] S_
  h_S_ : 0 < S_.numel

variable [Facts]

def fn {F : FTy → Type} [FloatOps F] (main_arg0 : IVec S150 32) (main_arg1 : IVec S150 32) (main_arg2 : FVec F S76800x2048 .bf16) (main_arg3 : FVec F S16x2048x2816 .bf16) (main_arg4 : FVec F S16x2048x2816 .bf16) : IVec S_ 1 :=
  let main_c : IVec S_ 32 := constantI S_ 32 0#32
  let main_v0 : IVec S150 32 := broadcastInDim S150 ![] bcast_S_S150 main_c
  let main_v1 : IVec S150 1 := cmpi .sge main_arg0 main_v0
  let main_c_0 : IVec S_ 32 := constantI S_ 32 8#32
  let main_v2 : IVec S150 32 := broadcastInDim S150 ![] bcast_S_S150 main_c_0
  let main_v3 : IVec S150 1 := cmpi .slt main_arg0 main_v2
  let main_v4 : IVec S150 1 := andi main_v1 main_v3
  let main_c_1 : IVec S_ 1 := constantI S_ 1 1#1
  let main_v5 : IVec S_ 1 := (fun x v => Host.reduce IntOp.andi x v reducesTo_S150_S_d0 h_S_) main_v4 main_c_1
  main_v5
-- ==== Kernel.lean ====
abbrev S24576x6144 : Shape := ⟨2, ![24576, 6144]⟩
abbrev S24576x2048 : Shape := ⟨2, ![24576, 2048]⟩
abbrev S96x256x6144 : Shape := ⟨3, ![96, 256, 6144]⟩
abbrev S96x256x2048 : Shape := ⟨3, ![96, 256, 2048]⟩
abbrev S32x4x256x512 : Shape := ⟨4, ![32, 4, 256, 512]⟩
abbrev S1x256x256 : Shape := ⟨3, ![1, 256, 256]⟩
abbrev S1x256x512 : Shape := ⟨3, ![1, 256, 512]⟩
abbrev S1x1x256x512 : Shape := ⟨4, ![1, 1, 256, 512]⟩
abbrev S1x512x256 : Shape := ⟨3, ![1, 512, 256]⟩
abbrev S512x256 : Shape := ⟨2, ![512, 256]⟩
abbrev S64x64 : Shape := ⟨2, ![64, 64]⟩
abbrev S1x64x256 : Shape := ⟨3, ![1, 64, 256]⟩
abbrev S64x256 : Shape := ⟨2, ![64, 256]⟩
abbrev S1x256 : Shape := ⟨2, ![1, 256]⟩
abbrev S1x64x512 : Shape := ⟨3, ![1, 64, 512]⟩
abbrev S64x512 : Shape := ⟨2, ![64, 512]⟩
abbrev S256x512 : Shape := ⟨2, ![256, 512]⟩

abbrev nBuf : Space → Nat
  | .hbm => 6
  | .vmem => 13
  | .smem => 0
  | _ => 0

abbrev bufTy : (tb : Table) → Fin (tcTables nBuf tb) → BufTy
  | .hbm, ⟨0, _⟩ => ⟨S24576x6144, .f32⟩
  | .hbm, ⟨1, _⟩ => ⟨S24576x2048, .f32⟩
  | .hbm, ⟨2, _⟩ => ⟨S96x256x6144, .f32⟩
  | .hbm, ⟨3, _⟩ => ⟨S96x256x2048, .f32⟩
  | .hbm, ⟨4, _⟩ => ⟨S96x256x2048, .f32⟩
  | .hbm, ⟨5, _⟩ => ⟨S32x4x256x512, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x1x256x512, .f32⟩
  | .local _ .vmem, ⟨11, _⟩ => ⟨S1x1x256x512, .f32⟩
  | .local _ .vmem, ⟨12, _⟩ => ⟨S1x512x256, .f32⟩
  | _, _ => ⟨S24576x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 4, 1], ![false, false, false]⟩

def k0_cond2 (i : grid0.Coords) : BitVec 1 :=
  let arg2 : BitVec 32 := BitVec.ofNat 32 (i 2).val
  let c0_i32_97 : BitVec 32 := 0#32
  let v245 : BitVec 1 := Scalar.cmpi .eq arg2 c0_i32_97
  let v246 : BitVec 32 := Scalar.extui v245
  let c0_i32_98 : BitVec 32 := 0#32
  let v247 : BitVec 1 := Scalar.cmpi .ne v246 c0_i32_98
  v247

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi c0_i32_0 arg1
  let c0_i32_1 : BitVec 32 := 0#32
  ![v0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c4_i32 : BitVec 32 := 4#32
  let v1 : BitVec 32 := Scalar.addi c4_i32 arg1
  let c0_i32_0 : BitVec 32 := 0#32
  ![v0.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi c0_i32_0 arg1
  let c0_i32_1 : BitVec 32 := 0#32
  ![v0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c4_i32 : BitVec 32 := 4#32
  let v1 : BitVec 32 := Scalar.addi c4_i32 arg1
  let c0_i32_0 : BitVec 32 := 0#32
  ![v0.toNat, arg2.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S24576x6144 : Shape := ⟨2, ![24576, 6144]⟩
abbrev S24576x2048 : Shape := ⟨2, ![24576, 2048]⟩
abbrev S96x256x6144 : Shape := ⟨3, ![96, 256, 6144]⟩
abbrev S32x256x6144 : Shape := ⟨3, ![32, 256, 6144]⟩
abbrev S96x256x2048 : Shape := ⟨3, ![96, 256, 2048]⟩
abbrev S32x256x1024 : Shape := ⟨3, ![32, 256, 1024]⟩
abbrev S32x256x2048 : Shape := ⟨3, ![32, 256, 2048]⟩
abbrev S_ : Shape := ⟨0, ![]⟩
abbrev S32x256x4x256 : Shape := ⟨4, ![32, 256, 4, 256]⟩
abbrev S32x4x256x256 : Shape := ⟨4, ![32, 4, 256, 256]⟩
abbrev S32x256x4x512 : Shape := ⟨4, ![32, 256, 4, 512]⟩
abbrev S32x4x256x512 : Shape := ⟨4, ![32, 4, 256, 512]⟩
abbrev S32x4x4x64x256 : Shape := ⟨5, ![32, 4, 4, 64, 256]⟩
abbrev S32x4x4x64x512 : Shape := ⟨5, ![32, 4, 4, 64, 512]⟩
abbrev S32x4x4x1x256 : Shape := ⟨5, ![32, 4, 4, 1, 256]⟩
abbrev S32x4x4x64x64 : Shape := ⟨5, ![32, 4, 4, 64, 64]⟩
abbrev S64x64 : Shape := ⟨2, ![64, 64]⟩
abbrev S32x4x4x256 : Shape := ⟨4, ![32, 4, 4, 256]⟩
abbrev S32x4x1x64x256 : Shape := ⟨5, ![32, 4, 1, 64, 256]⟩
abbrev S32x4x64x256 : Shape := ⟨4, ![32, 4, 64, 256]⟩
abbrev S32x4x64x512 : Shape := ⟨4, ![32, 4, 64, 512]⟩
abbrev S32x4x1x256 : Shape := ⟨4, ![32, 4, 1, 256]⟩
abbrev S32x4x256 : Shape := ⟨3, ![32, 4, 256]⟩
abbrev S32x4x256x1 : Shape := ⟨4, ![32, 4, 256, 1]⟩
abbrev S32x4x1x64x512 : Shape := ⟨5, ![32, 4, 1, 64, 512]⟩

abbrev nBuf : Space → Nat
  | .hbm => 153
  | .vmem => 0
  | .smem => 0
  | _ => 0

abbrev hbmTy0_0 (i : Nat) : BufTy := match i % 128 with
  | 0 => ⟨S24576x6144, .f32⟩
  | 1 => ⟨S24576x2048, .f32⟩
  | 2 => ⟨S96x256x6144, .f32⟩
  | 3 => ⟨S32x256x6144, .f32⟩
  | 4 => ⟨S96x256x2048, .f32⟩
  | 5 => ⟨S32x256x1024, .f32⟩
  | 6 => ⟨S32x256x1024, .f32⟩
  | 7 => ⟨S32x256x1024, .f32⟩
  | 8 => ⟨S32x256x2048, .f32⟩
  | 9 => ⟨S32x256x2048, .f32⟩
  | 10 => ⟨S32x256x1024, .f32⟩
  | 11 => ⟨S_, .f32⟩
  | 12 => ⟨S32x256x1024, .f32⟩
  | 13 => ⟨S32x256x1024, .f32⟩
  | 14 => ⟨S32x256x1024, .f32⟩
  | 15 => ⟨S32x256x1024, .f32⟩
  | 16 => ⟨S32x256x1024, .i1⟩
  | 17 => ⟨S32x256x1024, .f32⟩
  | 18 => ⟨S32x256x1024, .f32⟩
  | 19 => ⟨S32x256x1024, .f32⟩
  | 20 => ⟨S32x256x1024, .f32⟩
  | 21 => ⟨S32x256x1024, .f32⟩
  | 22 => ⟨S32x256x1024, .f32⟩
  | 23 => ⟨S32x256x1024, .f32⟩
  | 24 => ⟨S32x256x1024, .f32⟩
  | 25 => ⟨S32x256x1024, .f32⟩
  | 26 => ⟨S_, .f32⟩
  | 27 => ⟨S32x256x1024, .f32⟩
  | 28 => ⟨S32x256x1024, .f32⟩
  | 29 => ⟨S32x256x4x256, .f32⟩
  | 30 => ⟨S32x4x256x256, .f32⟩
  | 31 => ⟨S32x256x4x256, .f32⟩
  | 32 => ⟨S32x4x256x256, .f32⟩
  | 33 => ⟨S_, .f32⟩
  | 34 => ⟨S32x4x256x256, .f32⟩
  | 35 => ⟨S32x4x256x256, .f32⟩
  | 36 => ⟨S32x256x4x256, .f32⟩
  | 37 => ⟨S32x4x256x256, .f32⟩
  | 38 => ⟨S32x256x4x512, .f32⟩
  | 39 => ⟨S32x4x256x512, .f32⟩
  | 40 => ⟨S_, .f32⟩
  | 41 => ⟨S32x4x256x512, .f32⟩
  | 42 => ⟨S32x4x4x64x256, .f32⟩
  | 43 => ⟨S32x4x4x64x256, .f32⟩
  | 44 => ⟨S32x4x4x64x512, .f32⟩
  | 45 => ⟨S32x4x4x64x256, .f32⟩
  | 46 => ⟨S_, .f32⟩
  | 47 => ⟨S_, .f32⟩
  | 48 => ⟨S32x4x4x64x256, .f32⟩
  | 49 => ⟨S32x4x4x1x256, .f32⟩
  | 50 => ⟨S32x4x4x1x256, .f32⟩
  | 51 => ⟨S32x4x4x64x256, .f32⟩
  | 52 => ⟨S32x4x4x64x256, .f32⟩
  | 53 => ⟨S32x4x4x64x256, .f32⟩
  | 54 => ⟨S32x4x4x64x256, .f32⟩
  | 55 => ⟨S32x4x4x64x256, .f32⟩
  | 56 => ⟨S32x4x4x64x256, .f32⟩
  | 57 => ⟨S32x4x4x64x256, .f32⟩
  | 58 => ⟨S32x4x4x64x256, .f32⟩
  | 59 => ⟨S32x4x4x64x64, .f32⟩
  | 60 => ⟨S_, .i1⟩
  | 61 => ⟨S64x64, .i1⟩
  | 62 => ⟨S64x64, .i32⟩
  | 63 => ⟨S_, .i32⟩
  | 64 => ⟨S64x64, .i32⟩
  | 65 => ⟨S64x64, .i32⟩
  | 66 => ⟨S64x64, .i32⟩
  | 67 => ⟨S64x64, .i1⟩
  | 68 => ⟨S_, .i1⟩
  | 69 => ⟨S64x64, .i1⟩
  | 70 => ⟨S64x64, .i1⟩
  | 71 => ⟨S_, .f32⟩
  | 72 => ⟨S_, .f32⟩
  | 73 => ⟨S32x4x4x64x64, .i1⟩
  | 74 => ⟨S32x4x4x64x64, .f32⟩
  | 75 => ⟨S32x4x4x64x64, .f32⟩
  | 76 => ⟨S32x4x4x64x512, .f32⟩
  | 77 => ⟨S32x4x4x64x256, .f32⟩
  | 78 => ⟨S32x4x4x64x256, .f32⟩
  | 79 => ⟨S32x4x4x64x256, .f32⟩
  | 80 => ⟨S32x4x4x64x256, .f32⟩
  | 81 => ⟨S32x4x4x64x256, .f32⟩
  | 82 => ⟨S32x4x4x64x256, .f32⟩
  | 83 => ⟨S32x4x4x256, .f32⟩
  | 84 => ⟨S32x4x4x256, .f32⟩
  | 85 => ⟨S32x4x1x64x256, .f32⟩
  | 86 => ⟨S32x4x64x256, .f32⟩
  | 87 => ⟨S32x4x64x512, .f32⟩
  | 88 => ⟨S32x4x1x256, .f32⟩
  | 89 => ⟨S32x4x256, .f32⟩
  | 90 => ⟨S32x4x256x1, .f32⟩
  | 91 => ⟨S32x4x256x512, .f32⟩
  | 92 => ⟨S32x4x256x512, .f32⟩
  | 93 => ⟨S32x4x1x64x256, .f32⟩
  | 94 => ⟨S32x4x64x256, .f32⟩
  | 95 => ⟨S32x4x1x64x512, .f32⟩
  | 96 => ⟨S32x4x64x512, .f32⟩
  | 97 => ⟨S32x4x256x512, .f32⟩
  | 98 => ⟨S32x4x256x512, .f32⟩
  | 99 => ⟨S32x4x1x64x256, .f32⟩
  | 100 => ⟨S32x4x64x256, .f32⟩
  | 101 => ⟨S32x4x64x512, .f32⟩
  | 102 => ⟨S32x4x1x256, .f32⟩
  | 103 => ⟨S32x4x256, .f32⟩
  | 104 => ⟨S32x4x256x1, .f32⟩
  | 105 => ⟨S32x4x256x512, .f32⟩
  | 106 => ⟨S32x4x256x512, .f32⟩
  | 107 => ⟨S32x4x1x64x256, .f32⟩
  | 108 => ⟨S32x4x64x256, .f32⟩
  | 109 => ⟨S32x4x1x64x512, .f32⟩
  | 110 => ⟨S32x4x64x512, .f32⟩
  | 111 => ⟨S32x4x256x512, .f32⟩
  | 112 => ⟨S32x4x256x512, .f32⟩
  | 113 => ⟨S32x4x1x64x256, .f32⟩
  | 114 => ⟨S32x4x64x256, .f32⟩
  | 115 => ⟨S32x4x64x512, .f32⟩
  | 116 => ⟨S32x4x1x256, .f32⟩
  | 117 => ⟨S32x4x256, .f32⟩
  | 118 => ⟨S32x4x256x1, .f32⟩
  | 119 => ⟨S32x4x256x512, .f32⟩
  | 120 => ⟨S32x4x256x512, .f32⟩
  | 121 => ⟨S32x4x1x64x256, .f32⟩
  | 122 => ⟨S32x4x64x256, .f32⟩
  | 123 => ⟨S32x4x1x64x512, .f32⟩
  | 124 => ⟨S32x4x64x512, .f32⟩
  | 125 => ⟨S32x4x256x512, .f32⟩
  | 126 => ⟨S32x4x256x512, .f32⟩
  | 127 => ⟨S32x4x1x64x256, .f32⟩
  | _ => ⟨S24576x6144, .f32⟩

abbrev hbmTy0_1 (i : Nat) : BufTy := match i % 128 with
  | 0 => ⟨S32x4x64x256, .f32⟩
  | 1 => ⟨S32x4x64x512, .f32⟩
  | 2 => ⟨S32x4x1x256, .f32⟩
  | 3 => ⟨S32x4x256, .f32⟩
  | 4 => ⟨S32x4x256x1, .f32⟩
  | 5 => ⟨S32x4x256x512, .f32⟩
  | 6 => ⟨S32x4x256x512, .f32⟩
  | 7 => ⟨S32x4x1x64x256, .f32⟩
  | 8 => ⟨S32x4x64x256, .f32⟩
  | 9 => ⟨S32x4x1x64x512, .f32⟩
  | 10 => ⟨S32x4x64x512, .f32⟩
  | 11 => ⟨S32x4x256x512, .f32⟩
  | 12 => ⟨S32x4x256x512, .f32⟩
  | 13 => ⟨S32x4x1x64x512, .f32⟩
  | 14 => ⟨S32x4x1x64x512, .f32⟩
  | 15 => ⟨S32x4x1x64x512, .f32⟩
  | 16 => ⟨S32x4x1x64x512, .f32⟩
  | 17 => ⟨S32x4x4x64x512, .f32⟩
  | 18 => ⟨S32x4x4x64x512, .f32⟩
  | 19 => ⟨S32x4x256x512, .f32⟩
  | 20 => ⟨S32x256x4x512, .f32⟩
  | 21 => ⟨S32x256x2048, .f32⟩
  | 22 => ⟨S_, .i32⟩
  | 23 => ⟨S_, .f32⟩
  | 24 => ⟨S96x256x2048, .f32⟩
  | _ => ⟨S24576x6144, .f32⟩

abbrev hbmTy (i : Nat) : BufTy := match i / 128 with
  | 0 => hbmTy0_0 i
  | 1 => hbmTy0_1 i
  | _ => ⟨S24576x6144, .f32⟩

abbrev bufTy : (tb : Table) → Fin (tcTables nBuf tb) → BufTy
  | .hbm, ⟨i, _⟩ => hbmTy i
  | _, _ => ⟨S24576x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_call1_call0_cst : Ref sig .tc := ⟨.hbm, 46, rfl⟩
abbrev main_call1_call0_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c : Ref sig .tc := ⟨.hbm, 60, rfl⟩
abbrev main_v38 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_0 : Ref sig .tc := ⟨.hbm, 68, rfl⟩
abbrev main_call2_v5 : Ref sig .tc := ⟨.hbm, 69, rfl⟩
abbrev main_v39 : Ref sig .tc := ⟨.hbm, 70, rfl⟩
abbrev main_cst_2 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_c_3 : Ref sig .tc := ⟨.hbm, 150, rfl⟩
abbrev main_call4_v0 : Ref sig .tc := ⟨.hbm, 151, rfl⟩
abbrev main_v115 : Ref sig .tc := ⟨.hbm, 152, rfl⟩

abbrev nD : Nat := 1
abbrev τ : Topo := Topo.v7x

variable {F : FTy → Type} [FloatOps F]
-- ==== Up.lean ====
abbrev S24576x2048 : Shape := ⟨2, ![24576, 2048]⟩
abbrev S2x2048x5632 : Shape := ⟨3, ![2, 2048, 5632]⟩
abbrev S24576x5632 : Shape := ⟨2, ![24576, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S24576x2048, .bf16⟩
  | .hbm, ⟨1, _⟩ => ⟨S2x2048x5632, .f32⟩
  | .hbm, ⟨2, _⟩ => ⟨S2x2048x5632, .f32⟩
  | .hbm, ⟨3, _⟩ => ⟨S24576x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S24576x2048 : Shape := ⟨2, ![24576, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S24576x5632 : Shape := ⟨2, ![24576, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S24576x5632, .f32⟩
  | .hbm, ⟨6, _⟩ => ⟨S24576x5632, .f32⟩
  | .hbm, ⟨7, _⟩ => ⟨S24576x5632, .f32⟩
  | .hbm, ⟨8, _⟩ => ⟨S_, .f32⟩
  | .hbm, ⟨9, _⟩ => ⟨S24576x5632, .f32⟩
  | .hbm, ⟨10, _⟩ => ⟨S24576x5632, .f32⟩
  | .hbm, ⟨11, _⟩ => ⟨S_, .f32⟩
  | .hbm, ⟨12, _⟩ => ⟨S24576x5632, .f32⟩
  | .hbm, ⟨13, _⟩ => ⟨S24576x5632, .f32⟩
  | .hbm, ⟨14, _⟩ => ⟨S24576x5632, .f32⟩
  | .hbm, ⟨15, _⟩ => ⟨S1x2048x5632, .f32⟩
  | .hbm, ⟨16, _⟩ => ⟨S2048x5632, .f32⟩
  | .hbm, ⟨17, _⟩ => ⟨S24576x5632, .f32⟩
  | .hbm, ⟨18, _⟩ => ⟨S24576x5632, .f32⟩
  | .hbm, ⟨19, _⟩ => ⟨S24576x5632, .bf16⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Down.lean ====
abbrev S24576x5632 : Shape := ⟨2, ![24576, 5632]⟩
abbrev S2x5632x2048 : Shape := ⟨3, ![2, 5632, 2048]⟩
abbrev S24576x2048 : Shape := ⟨2, ![24576, 2048]⟩
abbrev S8x1x2048 : Shape := ⟨3, ![8, 1, 2048]⟩
abbrev S256x5632 : Shape := ⟨2, ![256, 5632]⟩
abbrev S1x5632x512 : Shape := ⟨3, ![1, 5632, 512]⟩
abbrev S256x512 : Shape := ⟨2, ![256, 512]⟩
abbrev S1x1x512 : Shape := ⟨3, ![1, 1, 512]⟩
abbrev S5632x512 : Shape := ⟨2, ![5632, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S24576x5632, .bf16⟩
  | .hbm, ⟨1, _⟩ => ⟨S2x5632x2048, .f32⟩
  | .hbm, ⟨2, _⟩ => ⟨S24576x2048, .f32⟩
  | .hbm, ⟨3, _⟩ => ⟨S8x1x2048, .f32⟩
  | .hbm, ⟨4, _⟩ => ⟨S24576x2048, .f32⟩
  | .local _ .vmem, ⟨0, _⟩ => ⟨S256x5632, .bf16⟩
  | .local _ .vmem, ⟨1, _⟩ => ⟨S256x5632, .bf16⟩
  | .local _ .vmem, ⟨2, _⟩ => ⟨S1x5632x512, .f32⟩
  | .local _ .vmem, ⟨3, _⟩ => ⟨S1x5632x512, .f32⟩
  | .local _ .vmem, ⟨4, _⟩ => ⟨S256x512, .f32⟩
  | .local _ .vmem, ⟨5, _⟩ => ⟨S256x512, .f32⟩
  | .local _ .vmem, ⟨6, _⟩ => ⟨S1x1x512, .f32⟩
  | .local _ .vmem, ⟨7, _⟩ => ⟨S1x1x512, .f32⟩
  | .local _ .vmem, ⟨8, _⟩ => ⟨S256x512, .f32⟩
  | .local _ .vmem, ⟨9, _⟩ => ⟨S256x512, .f32⟩
  | .local _ .vmem, ⟨10, _⟩ => ⟨S5632x512, .bf16⟩
  | _, _ => ⟨S24576x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 96], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownReferenceIdeal.lean ====
abbrev S24576x5632 : Shape := ⟨2, ![24576, 5632]⟩
abbrev S2x5632x2048 : Shape := ⟨3, ![2, 5632, 2048]⟩
abbrev S24576x2048 : Shape := ⟨2, ![24576, 2048]⟩
abbrev S8x1x2048 : Shape := ⟨3, ![8, 1, 2048]⟩
abbrev S1x5632x2048 : Shape := ⟨3, ![1, 5632, 2048]⟩
abbrev S5632x2048 : Shape := ⟨2, ![5632, 2048]⟩
abbrev S1x1x2048 : Shape := ⟨3, ![1, 1, 2048]⟩
abbrev S8192x1x2048 : Shape := ⟨3, ![8192, 1, 2048]⟩
abbrev S8192x2048 : Shape := ⟨2, ![8192, 2048]⟩
abbrev S4x1x2048 : Shape := ⟨3, ![4, 1, 2048]⟩
abbrev S4x4096x2048 : Shape := ⟨3, ![4, 4096, 2048]⟩
abbrev S16384x2048 : Shape := ⟨2, ![16384, 2048]⟩

abbrev nBuf : Space → Nat
  | .hbm => 16
  | .vmem => 0
  | .smem => 0
  | _ => 0

abbrev bufTy : (tb : Table) → Fin (tcTables nBuf tb) → BufTy
  | .hbm, ⟨0, _⟩ => ⟨S24576x5632, .bf16⟩
  | .hbm, ⟨1, _⟩ => ⟨S2x5632x2048, .f32⟩
  | .hbm, ⟨2, _⟩ => ⟨S24576x2048, .f32⟩
  | .hbm, ⟨3, _⟩ => ⟨S8x1x2048, .f32⟩
  | .hbm, ⟨4, _⟩ => ⟨S1x5632x2048, .f32⟩
  | .hbm, ⟨5, _⟩ => ⟨S5632x2048, .f32⟩
  | .hbm, ⟨6, _⟩ => ⟨S24576x2048, .f32⟩
  | .hbm, ⟨7, _⟩ => ⟨S1x1x2048, .f32⟩
  | .hbm, ⟨8, _⟩ => ⟨S8192x1x2048, .f32⟩
  | .hbm, ⟨9, _⟩ => ⟨S8192x2048, .f32⟩
  | .hbm, ⟨10, _⟩ => ⟨S4x1x2048, .f32⟩
  | .hbm, ⟨11, _⟩ => ⟨S4x4096x2048, .f32⟩
  | .hbm, ⟨12, _⟩ => ⟨S16384x2048, .f32⟩
  | .hbm, ⟨13, _⟩ => ⟨S24576x2048, .f32⟩
  | .hbm, ⟨14, _⟩ => ⟨S24576x2048, .f32⟩
  | .hbm, ⟨15, _⟩ => ⟨S24576x2048, .f32⟩
  | _, _ => ⟨S24576x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== ExpertUp.lean ====
abbrev S150 : Shape := ⟨1, ![150]⟩
abbrev S76800x2048 : Shape := ⟨2, ![76800, 2048]⟩
abbrev S16x2048x2816 : Shape := ⟨3, ![16, 2048, 2816]⟩
abbrev S76800x2816 : Shape := ⟨2, ![76800, 2816]⟩
abbrev S512x2048 : Shape := ⟨2, ![512, 2048]⟩
abbrev S1x2048x1408 : Shape := ⟨3, ![1, 2048, 1408]⟩
abbrev S1 : Shape := ⟨1, ![1]⟩
abbrev S512x1408 : Shape := ⟨2, ![512, 1408]⟩
abbrev S2048x1408 : Shape := ⟨2, ![2048, 1408]⟩

abbrev nBuf : Space → Nat
  | .hbm => 4
  | .vmem => 8
  | .smem => 2
  | _ => 0

abbrev bufTy : (tb : Table) → Fin (tcTables nBuf tb) → BufTy
  | .hbm, ⟨0, _⟩ => ⟨S76800x2048, .bf16⟩
  | .hbm, ⟨1, _⟩ => ⟨S16x2048x2816, .bf16⟩
  | .hbm, ⟨2, _⟩ => ⟨S16x2048x2816, .bf16⟩
  | .hbm, ⟨3, _⟩ => ⟨S76800x2816, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .smem, ⟨0, _⟩ => ⟨S150, .i32⟩
  | .local _ .smem, ⟨1, _⟩ => ⟨S150, .i32⟩
  | _, _ => ⟨S76800x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 150], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S150.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S150) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  ![v2.toNat, c0_i32_0.toNat, arg0.toNat]

def cc0_transform_2 (k0_off1_inb : ∀ i : grid0.Coords, ∀ a, (k0_off1 i) a + S1.size a ≤ S150.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S150) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  ![v2.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpertUpReferenceIdeal.lean ====
abbrev S150 : Shape := ⟨1, ![150]⟩
abbrev S76800x2048 : Shape := ⟨2, ![76800, 2048]⟩
abbrev S16x2048x2816 : Shape := ⟨3, ![16, 2048, 2816]⟩
abbrev S150x512 : Shape := ⟨2, ![150, 512]⟩
abbrev S76800 : Shape := ⟨1, ![76800]⟩
abbrev S_ : Shape := ⟨0, ![]⟩
abbrev S76800x2816 : Shape := ⟨2, ![76800, 2816]⟩
abbrev S76800x1 : Shape := ⟨2, ![76800, 1]⟩
abbrev S1x2048x2816 : Shape := ⟨3, ![1, 2048, 2816]⟩
abbrev S2048x2816 : Shape := ⟨2, ![2048, 2816]⟩

abbrev nBuf : Space → Nat
  | .hbm => 189
  | .vmem => 0
  | .smem => 0
  | _ => 0

abbrev hbmTy0_0 (i : Nat) : BufTy := match i % 128 with
  | 0 => ⟨S150, .i32⟩
  | 1 => ⟨S150, .i32⟩
  | 2 => ⟨S76800x2048, .bf16⟩
  | 3 => ⟨S16x2048x2816, .bf16⟩
  | 4 => ⟨S16x2048x2816, .bf16⟩
  | 5 => ⟨S76800x2048, .f32⟩
  | 6 => ⟨S16x2048x2816, .f32⟩
  | 7 => ⟨S16x2048x2816, .f32⟩
  | 8 => ⟨S150x512, .i32⟩
  | 9 => ⟨S76800, .i32⟩
  | 10 => ⟨S_, .f32⟩
  | 11 => ⟨S76800x2816, .f32⟩
  | 12 => ⟨S76800x1, .i32⟩
  | 13 => ⟨S_, .i32⟩
  | 14 => ⟨S76800x1, .i32⟩
  | 15 => ⟨S76800x1, .i1⟩
  | 16 => ⟨S1x2048x2816, .f32⟩
  | 17 => ⟨S2048x2816, .f32⟩
  | 18 => ⟨S76800x2816, .f32⟩
  | 19 => ⟨S76800x2816, .f32⟩
  | 20 => ⟨S76800x2816, .f32⟩
  | 21 => ⟨S_, .f32⟩
  | 22 => ⟨S76800x2816, .f32⟩
  | 23 => ⟨S76800x2816, .f32⟩
  | 24 => ⟨S_, .f32⟩
  | 25 => ⟨S76800x2816, .f32⟩
  | 26 => ⟨S76800x2816, .f32⟩
  | 27 => ⟨S76800x2816, .f32⟩
  | 28 => ⟨S1x2048x2816, .f32⟩
  | 29 => ⟨S2048x2816, .f32⟩
  | 30 => ⟨S76800x2816, .f32⟩
  | 31 => ⟨S76800x2816, .f32⟩
  | 32 => ⟨S76800x2816, .i1⟩
  | 33 => ⟨S76800x2816, .f32⟩
  | 34 => ⟨S76800x1, .i32⟩
  | 35 => ⟨S_, .i32⟩
  | 36 => ⟨S76800x1, .i32⟩
  | 37 => ⟨S76800x1, .i1⟩
  | 38 => ⟨S1x2048x2816, .f32⟩
  | 39 => ⟨S2048x2816, .f32⟩
  | 40 => ⟨S76800x2816, .f32⟩
  | 41 => ⟨S76800x2816, .f32⟩
  | 42 => ⟨S76800x2816, .f32⟩
  | 43 => ⟨S_, .f32⟩
  | 44 => ⟨S76800x2816, .f32⟩
  | 45 => ⟨S76800x2816, .f32⟩
  | 46 => ⟨S_, .f32⟩
  | 47 => ⟨S76800x2816, .f32⟩
  | 48 => ⟨S76800x2816, .f32⟩
  | 49 => ⟨S76800x2816, .f32⟩
  | 50 => ⟨S1x2048x2816, .f32⟩
  | 51 => ⟨S2048x2816, .f32⟩
  | 52 => ⟨S76800x2816, .f32⟩
  | 53 => ⟨S76800x2816, .f32⟩
  | 54 => ⟨S76800x2816, .i1⟩
  | 55 => ⟨S76800x2816, .f32⟩
  | 56 => ⟨S76800x1, .i32⟩
  | 57 => ⟨S_, .i32⟩
  | 58 => ⟨S76800x1, .i32⟩
  | 59 => ⟨S76800x1, .i1⟩
  | 60 => ⟨S1x2048x2816, .f32⟩
  | 61 => ⟨S2048x2816, .f32⟩
  | 62 => ⟨S76800x2816, .f32⟩
  | 63 => ⟨S76800x2816, .f32⟩
  | 64 => ⟨S76800x2816, .f32⟩
  | 65 => ⟨S_, .f32⟩
  | 66 => ⟨S76800x2816, .f32⟩
  | 67 => ⟨S76800x2816, .f32⟩
  | 68 => ⟨S_, .f32⟩
  | 69 => ⟨S76800x2816, .f32⟩
  | 70 => ⟨S76800x2816, .f32⟩
  | 71 => ⟨S76800x2816, .f32⟩
  | 72 => ⟨S1x2048x2816, .f32⟩
  | 73 => ⟨S2048x2816, .f32⟩
  | 74 => ⟨S76800x2816, .f32⟩
  | 75 => ⟨S76800x2816, .f32⟩
  | 76 => ⟨S76800x2816, .i1⟩
  | 77 => ⟨S76800x2816, .f32⟩
  | 78 => ⟨S76800x1, .i32⟩
  | 79 => ⟨S_, .i32⟩
  | 80 => ⟨S76800x1, .i32⟩
  | 81 => ⟨S76800x1, .i1⟩
  | 82 => ⟨S1x2048x2816, .f32⟩
  | 83 => ⟨S2048x2816, .f32⟩
  | 84 => ⟨S76800x2816, .f32⟩
  | 85 => ⟨S76800x2816, .f32⟩
  | 86 => ⟨S76800x2816, .f32⟩
  | 87 => ⟨S_, .f32⟩
  | 88 => ⟨S76800x2816, .f32⟩
  | 89 => ⟨S76800x2816, .f32⟩
  | 90 => ⟨S_, .f32⟩
  | 91 => ⟨S76800x2816, .f32⟩
  | 92 => ⟨S76800x2816, .f32⟩
  | 93 => ⟨S76800x2816, .f32⟩
  | 94 => ⟨S1x2048x2816, .f32⟩
  | 95 => ⟨S2048x2816, .f32⟩
  | 96 => ⟨S76800x2816, .f32⟩
  | 97 => ⟨S76800x2816, .f32⟩
  | 98 => ⟨S76800x2816, .i1⟩
  | 99 => ⟨S76800x2816, .f32⟩
  | 100 => ⟨S76800x1, .i32⟩
  | 101 => ⟨S_, .i32⟩
  | 102 => ⟨S76800x1, .i32⟩
  | 103 => ⟨S76800x1, .i1⟩
  | 104 => ⟨S1x2048x2816, .f32⟩
  | 105 => ⟨S2048x2816, .f32⟩
  | 106 => ⟨S76800x2816, .f32⟩
  | 107 => ⟨S76800x2816, .f32⟩
  | 108 => ⟨S76800x2816, .f32⟩
  | 109 => ⟨S_, .f32⟩
  | 110 => ⟨S76800x2816, .f32⟩
  | 111 => ⟨S76800x2816, .f32⟩
  | 112 => ⟨S_, .f32⟩
  | 113 => ⟨S76800x2816, .f32⟩
  | 114 => ⟨S76800x2816, .f32⟩
  | 115 => ⟨S76800x2816, .f32⟩
  | 116 => ⟨S1x2048x2816, .f32⟩
  | 117 => ⟨S2048x2816, .f32⟩
  | 118 => ⟨S76800x2816, .f32⟩
  | 119 => ⟨S76800x2816, .f32⟩
  | 120 => ⟨S76800x2816, .i1⟩
  | 121 => ⟨S76800x2816, .f32⟩
  | 122 => ⟨S76800x1, .i32⟩
  | 123 => ⟨S_, .i32⟩
  | 124 => ⟨S76800x1, .i32⟩
  | 125 => ⟨S76800x1, .i1⟩
  | 126 => ⟨S1x2048x2816, .f32⟩
  | 127 => ⟨S2048x2816, .f32⟩
  | _ => ⟨S150, .i32⟩

abbrev hbmTy0_1 (i : Nat) : BufTy := match i % 128 with
  | 0 => ⟨S76800x2816, .f32⟩
  | 1 => ⟨S76800x2816, .f32⟩
  | 2 => ⟨S76800x2816, .f32⟩
  | 3 => ⟨S_, .f32⟩
  | 4 => ⟨S76800x2816, .f32⟩
  | 5 => ⟨S76800x2816, .f32⟩
  | 6 => ⟨S_, .f32⟩
  | 7 => ⟨S76800x2816, .f32⟩
  | 8 => ⟨S76800x2816, .f32⟩
  | 9 => ⟨S76800x2816, .f32⟩
  | 10 => ⟨S1x2048x2816, .f32⟩
  | 11 => ⟨S2048x2816, .f32⟩
  | 12 => ⟨S76800x2816, .f32⟩
  | 13 => ⟨S76800x2816, .f32⟩
  | 14 => ⟨S76800x2816, .i1⟩
  | 15 => ⟨S76800x2816, .f32⟩
  | 16 => ⟨S76800x1, .i32⟩
  | 17 => ⟨S_, .i32⟩
  | 18 => ⟨S76800x1, .i32⟩
  | 19 => ⟨S76800x1, .i1⟩
  | 20 => ⟨S1x2048x2816, .f32⟩
  | 21 => ⟨S2048x2816, .f32⟩
  | 22 => ⟨S76800x2816, .f32⟩
  | 23 => ⟨S76800x2816, .f32⟩
  | 24 => ⟨S76800x2816, .f32⟩
  | 25 => ⟨S_, .f32⟩
  | 26 => ⟨S76800x2816, .f32⟩
  | 27 => ⟨S76800x2816, .f32⟩
  | 28 => ⟨S_, .f32⟩
  | 29 => ⟨S76800x2816, .f32⟩
  | 30 => ⟨S76800x2816, .f32⟩
  | 31 => ⟨S76800x2816, .f32⟩
  | 32 => ⟨S1x2048x2816, .f32⟩
  | 33 => ⟨S2048x2816, .f32⟩
  | 34 => ⟨S76800x2816, .f32⟩
  | 35 => ⟨S76800x2816, .f32⟩
  | 36 => ⟨S76800x2816, .i1⟩
  | 37 => ⟨S76800x2816, .f32⟩
  | 38 => ⟨S76800x1, .i32⟩
  | 39 => ⟨S_, .i32⟩
  | 40 => ⟨S76800x1, .i32⟩
  | 41 => ⟨S76800x1, .i1⟩
  | 42 => ⟨S1x2048x2816, .f32⟩
  | 43 => ⟨S2048x2816, .f32⟩
  | 44 => ⟨S76800x2816, .f32⟩
  | 45 => ⟨S76800x2816, .f32⟩
  | 46 => ⟨S76800x2816, .f32⟩
  | 47 => ⟨S_, .f32⟩
  | 48 => ⟨S76800x2816, .f32⟩
  | 49 => ⟨S76800x2816, .f32⟩
  | 50 => ⟨S_, .f32⟩
  | 51 => ⟨S76800x2816, .f32⟩
  | 52 => ⟨S76800x2816, .f32⟩
  | 53 => ⟨S76800x2816, .f32⟩
  | 54 => ⟨S1x2048x2816, .f32⟩
  | 55 => ⟨S2048x2816, .f32⟩
  | 56 => ⟨S76800x2816, .f32⟩
  | 57 => ⟨S76800x2816, .f32⟩
  | 58 => ⟨S76800x2816, .i1⟩
  | 59 => ⟨S76800x2816, .f32⟩
  | 60 => ⟨S76800x2816, .bf16⟩
  | _ => ⟨S150, .i32⟩

abbrev hbmTy (i : Nat) : BufTy := match i / 128 with
  | 0 => hbmTy0_0 i
  | 1 => hbmTy0_1 i
  | _ => ⟨S150, .i32⟩

abbrev bufTy : (tb : Table) → Fin (tcTables nBuf tb) → BufTy
  | .hbm, ⟨i, _⟩ => hbmTy i
  | _, _ => ⟨S150, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_c_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call3_v0 : Ref sig .tc := ⟨.hbm, 54, rfl⟩
abbrev main_v29 : Ref sig .tc := ⟨.hbm, 55, rfl⟩
abbrev main_v30 : Ref sig .tc := ⟨.hbm, 56, rfl⟩
abbrev main_c_1 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_call4_v0 : Ref sig .tc := ⟨.hbm, 63, rfl⟩
abbrev main_call4_v1 : Ref sig .tc := ⟨.hbm, 64, rfl⟩
abbrev main_call4_cst : Ref sig .tc := ⟨.hbm, 65, rfl⟩
abbrev main_call4_v2 : Ref sig .tc := ⟨.hbm, 66, rfl⟩
abbrev main_call4_v3 : Ref sig .tc := ⟨.hbm, 67, rfl⟩
abbrev main_call4_cst_0 : Ref sig .tc := ⟨.hbm, 68, rfl⟩
abbrev main_call4_v4 : Ref sig .tc := ⟨.hbm, 69, rfl⟩
abbrev main_call4_v5 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_call5_v0 : Ref sig .tc := ⟨.hbm, 76, rfl⟩
abbrev main_v41 : Ref sig .tc := ⟨.hbm, 77, rfl⟩
abbrev main_v42 : Ref sig .tc := ⟨.hbm, 78, rfl⟩
abbrev main_c_2 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_call6_v0 : Ref sig .tc := ⟨.hbm, 85, rfl⟩
abbrev main_call6_v1 : Ref sig .tc := ⟨.hbm, 86, rfl⟩
abbrev main_call6_cst : Ref sig .tc := ⟨.hbm, 87, rfl⟩
abbrev main_call6_v2 : Ref sig .tc := ⟨.hbm, 88, rfl⟩
abbrev main_call6_v3 : Ref sig .tc := ⟨.hbm, 89, rfl⟩
abbrev main_call6_cst_0 : Ref sig .tc := ⟨.hbm, 90, rfl⟩
abbrev main_call6_v4 : Ref sig .tc := ⟨.hbm, 91, rfl⟩
abbrev main_call6_v5 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_call7_v0 : Ref sig .tc := ⟨.hbm, 98, rfl⟩
abbrev main_v53 : Ref sig .tc := ⟨.hbm, 99, rfl⟩
abbrev main_v54 : Ref sig .tc := ⟨.hbm, 100, rfl⟩
abbrev main_c_3 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_call8_v0 : Ref sig .tc := ⟨.hbm, 107, rfl⟩
abbrev main_call8_v1 : Ref sig .tc := ⟨.hbm, 108, rfl⟩
abbrev main_call8_cst : Ref sig .tc := ⟨.hbm, 109, rfl⟩
abbrev main_call8_v2 : Ref sig .tc := ⟨.hbm, 110, rfl⟩
abbrev main_call8_v3 : Ref sig .tc := ⟨.hbm, 111, rfl⟩
abbrev main_call8_cst_0 : Ref sig .tc := ⟨.hbm, 112, rfl⟩
abbrev main_call8_v4 : Ref sig .tc := ⟨.hbm, 113, rfl⟩
abbrev main_call8_v5 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_call9_v0 : Ref sig .tc := ⟨.hbm, 120, rfl⟩
abbrev main_v65 : Ref sig .tc := ⟨.hbm, 121, rfl⟩
abbrev main_v66 : Ref sig .tc := ⟨.hbm, 122, rfl⟩
abbrev main_c_4 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_call10_v0 : Ref sig .tc := ⟨.hbm, 129, rfl⟩
abbrev main_call10_v1 : Ref sig .tc := ⟨.hbm, 130, rfl⟩
abbrev main_call10_cst : Ref sig .tc := ⟨.hbm, 131, rfl⟩
abbrev main_call10_v2 : Ref sig .tc := ⟨.hbm, 132, rfl⟩
abbrev main_call10_v3 : Ref sig .tc := ⟨.hbm, 133, rfl⟩
abbrev main_call10_cst_0 : Ref sig .tc := ⟨.hbm, 134, rfl⟩
abbrev main_call10_v4 : Ref sig .tc := ⟨.hbm, 135, rfl⟩
abbrev main_call10_v5 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_call11_v0 : Ref sig .tc := ⟨.hbm, 142, rfl⟩
abbrev main_v77 : Ref sig .tc := ⟨.hbm, 143, rfl⟩
abbrev main_v78 : Ref sig .tc := ⟨.hbm, 144, rfl⟩
abbrev main_c_5 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_call12_v0 : Ref sig .tc := ⟨.hbm, 151, rfl⟩
abbrev main_call12_v1 : Ref sig .tc := ⟨.hbm, 152, rfl⟩
abbrev main_call12_cst : Ref sig .tc := ⟨.hbm, 153, rfl⟩
abbrev main_call12_v2 : Ref sig .tc := ⟨.hbm, 154, rfl⟩
abbrev main_call12_v3 : Ref sig .tc := ⟨.hbm, 155, rfl⟩
abbrev main_call12_cst_0 : Ref sig .tc := ⟨.hbm, 156, rfl⟩
abbrev main_call12_v4 : Ref sig .tc := ⟨.hbm, 157, rfl⟩
abbrev main_call12_v5 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_v88 : Ref sig .tc := ⟨.hbm, 163, rfl⟩
abbrev main_call13_v0 : Ref sig .tc := ⟨.hbm, 164, rfl⟩
abbrev main_v89 : Ref sig .tc := ⟨.hbm, 165, rfl⟩
abbrev main_v90 : Ref sig .tc := ⟨.hbm, 166, rfl⟩
abbrev main_c_6 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_call14_v0 : Ref sig .tc := ⟨.hbm, 173, rfl⟩
abbrev main_call14_v1 : Ref sig .tc := ⟨.hbm, 174, rfl⟩
abbrev main_call14_cst : Ref sig .tc := ⟨.hbm, 175, rfl⟩
abbrev main_call14_v2 : Ref sig .tc := ⟨.hbm, 176, rfl⟩
abbrev main_call14_v3 : Ref sig .tc := ⟨.hbm, 177, rfl⟩
abbrev main_call14_cst_0 : Ref sig .tc := ⟨.hbm, 178, rfl⟩
abbrev main_call14_v4 : Ref sig .tc := ⟨.hbm, 179, rfl⟩
abbrev main_call14_v5 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_call15_v0 : Ref sig .tc := ⟨.hbm, 186, rfl⟩
abbrev main_v101 : Ref sig .tc := ⟨.hbm, 187, rfl⟩
abbrev main_v102 : Ref sig .tc := ⟨.hbm, 188, rfl⟩

abbrev nD : Nat := 1
abbrev τ : Topo := Topo.v7x

variable {F : FTy → Type} [FloatOps F]
-- ==== ExpertDown.lean ====
abbrev S150 : Shape := ⟨1, ![150]⟩
abbrev S76800x2816 : Shape := ⟨2, ![76800, 2816]⟩
abbrev S16x2816x2048 : Shape := ⟨3, ![16, 2816, 2048]⟩
abbrev S76800x128 : Shape := ⟨2, ![76800, 128]⟩
abbrev S76800x2048 : Shape := ⟨2, ![76800, 2048]⟩
abbrev S512x2816 : Shape := ⟨2, ![512, 2816]⟩
abbrev S1x2816x1024 : Shape := ⟨3, ![1, 2816, 1024]⟩
abbrev S1 : Shape := ⟨1, ![1]⟩
abbrev S512x128 : Shape := ⟨2, ![512, 128]⟩
abbrev S512x1024 : Shape := ⟨2, ![512, 1024]⟩
abbrev S2816x1024 : Shape := ⟨2, ![2816, 1024]⟩
abbrev S512x1 : Shape := ⟨2, ![512, 1]⟩

abbrev nBuf : Space → Nat
  | .hbm => 4
  | .vmem => 8
  | .smem => 2
  | _ => 0

abbrev bufTy : (tb : Table) → Fin (tcTables nBuf tb) → BufTy
  | .hbm, ⟨0, _⟩ => ⟨S76800x2816, .bf16⟩
  | .hbm, ⟨1, _⟩ => ⟨S16x2816x2048, .bf16⟩
  | .hbm, ⟨2, _⟩ => ⟨S76800x128, .f32⟩
  | .hbm, ⟨3, _⟩ => ⟨S76800x2048, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S1x2816x1024, .bf16⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .smem, ⟨0, _⟩ => ⟨S150, .i32⟩
  | .local _ .smem, ⟨1, _⟩ => ⟨S150, .i32⟩
  | _, _ => ⟨S76800x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 150], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S150.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S150) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  ![v2.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpertDownReferenceIdeal.lean ====
abbrev S150 : Shape := ⟨1, ![150]⟩
abbrev S76800x2816 : Shape := ⟨2, ![76800, 2816]⟩
abbrev S16x2816x2048 : Shape := ⟨3, ![16, 2816, 2048]⟩
abbrev S76800x128 : Shape := ⟨2, ![76800, 128]⟩
abbrev S150x512 : Shape := ⟨2, ![150, 512]⟩
abbrev S76800 : Shape := ⟨1, ![76800]⟩
abbrev S_ : Shape := ⟨0, ![]⟩
abbrev S76800x2048 : Shape := ⟨2, ![76800, 2048]⟩
abbrev S76800x1 : Shape := ⟨2, ![76800, 1]⟩
abbrev S1x2816x2048 : Shape := ⟨3, ![1, 2816, 2048]⟩
abbrev S2816x2048 : Shape := ⟨2, ![2816, 2048]⟩

abbrev nBuf : Space → Nat
  | .hbm => 87
  | .vmem => 0
  | .smem => 0
  | _ => 0

abbrev bufTy : (tb : Table) → Fin (tcTables nBuf tb) → BufTy
  | .hbm, ⟨0, _⟩ => ⟨S150, .i32⟩
  | .hbm, ⟨1, _⟩ => ⟨S150, .i32⟩
  | .hbm, ⟨2, _⟩ => ⟨S76800x2816, .bf16⟩
  | .hbm, ⟨3, _⟩ => ⟨S16x2816x2048, .bf16⟩
  | .hbm, ⟨4, _⟩ => ⟨S76800x128, .f32⟩
  | .hbm, ⟨5, _⟩ => ⟨S76800x2816, .f32⟩
  | .hbm, ⟨6, _⟩ => ⟨S16x2816x2048, .f32⟩
  | .hbm, ⟨7, _⟩ => ⟨S150x512, .i32⟩
  | .hbm, ⟨8, _⟩ => ⟨S76800, .i32⟩
  | .hbm, ⟨9, _⟩ => ⟨S_, .f32⟩
  | .hbm, ⟨10, _⟩ => ⟨S76800x2048, .f32⟩
  | .hbm, ⟨11, _⟩ => ⟨S76800x1, .i32⟩
  | .hbm, ⟨12, _⟩ => ⟨S_, .i32⟩
  | .hbm, ⟨13, _⟩ => ⟨S76800x1, .i32⟩
  | .hbm, ⟨14, _⟩ => ⟨S76800x1, .i1⟩
  | .hbm, ⟨15, _⟩ => ⟨S1x2816x2048, .f32⟩
  | .hbm, ⟨16, _⟩ => ⟨S2816x2048, .f32⟩
  | .hbm, ⟨17, _⟩ => ⟨S76800x2048, .f32⟩
  | .hbm, ⟨18, _⟩ => ⟨S76800x2048, .i1⟩
  | .hbm, ⟨19, _⟩ => ⟨S76800x2048, .f32⟩
  | .hbm, ⟨20, _⟩ => ⟨S76800x1, .i32⟩
  | .hbm, ⟨21, _⟩ => ⟨S_, .i32⟩
  | .hbm, ⟨22, _⟩ => ⟨S76800x1, .i32⟩
  | .hbm, ⟨23, _⟩ => ⟨S76800x1, .i1⟩
  | .hbm, ⟨24, _⟩ => ⟨S1x2816x2048, .f32⟩
  | .hbm, ⟨25, _⟩ => ⟨S2816x2048, .f32⟩
  | .hbm, ⟨26, _⟩ => ⟨S76800x2048, .f32⟩
  | .hbm, ⟨27, _⟩ => ⟨S76800x2048, .i1⟩
  | .hbm, ⟨28, _⟩ => ⟨S76800x2048, .f32⟩
  | .hbm, ⟨29, _⟩ => ⟨S76800x1, .i32⟩
  | .hbm, ⟨30, _⟩ => ⟨S_, .i32⟩
  | .hbm, ⟨31, _⟩ => ⟨S76800x1, .i32⟩
  | .hbm, ⟨32, _⟩ => ⟨S76800x1, .i1⟩
  | .hbm, ⟨33, _⟩ => ⟨S1x2816x2048, .f32⟩
  | .hbm, ⟨34, _⟩ => ⟨S2816x2048, .f32⟩
  | .hbm, ⟨35, _⟩ => ⟨S76800x2048, .f32⟩
  | .hbm, ⟨36, _⟩ => ⟨S76800x2048, .i1⟩
  | .hbm, ⟨37, _⟩ => ⟨S76800x2048, .f32⟩
  | .hbm, ⟨38, _⟩ => ⟨S76800x1, .i32⟩
  | .hbm, ⟨39, _⟩ => ⟨S_, .i32⟩
  | .hbm, ⟨40, _⟩ => ⟨S76800x1, .i32⟩
  | .hbm, ⟨41, _⟩ => ⟨S76800x1, .i1⟩
  | .hbm, ⟨42, _⟩ => ⟨S1x2816x2048, .f32⟩
  | .hbm, ⟨43, _⟩ => ⟨S2816x2048, .f32⟩
  | .hbm, ⟨44, _⟩ => ⟨S76800x2048, .f32⟩
  | .hbm, ⟨45, _⟩ => ⟨S76800x2048, .i1⟩
  | .hbm, ⟨46, _⟩ => ⟨S76800x2048, .f32⟩
  | .hbm, ⟨47, _⟩ => ⟨S76800x1, .i32⟩
  | .hbm, ⟨48, _⟩ => ⟨S_, .i32⟩
  | .hbm, ⟨49, _⟩ => ⟨S76800x1, .i32⟩
  | .hbm, ⟨50, _⟩ => ⟨S76800x1, .i1⟩
  | .hbm, ⟨51, _⟩ => ⟨S1x2816x2048, .f32⟩
  | .hbm, ⟨52, _⟩ => ⟨S2816x2048, .f32⟩
  | .hbm, ⟨53, _⟩ => ⟨S76800x2048, .f32⟩
  | .hbm, ⟨54, _⟩ => ⟨S76800x2048, .i1⟩
  | .hbm, ⟨55, _⟩ => ⟨S76800x2048, .f32⟩
  | .hbm, ⟨56, _⟩ => ⟨S76800x1, .i32⟩
  | .hbm, ⟨57, _⟩ => ⟨S_, .i32⟩
  | .hbm, ⟨58, _⟩ => ⟨S76800x1, .i32⟩
  | .hbm, ⟨59, _⟩ => ⟨S76800x1, .i1⟩
  | .hbm, ⟨60, _⟩ => ⟨S1x2816x2048, .f32⟩
  | .hbm, ⟨61, _⟩ => ⟨S2816x2048, .f32⟩
  | .hbm, ⟨62, _⟩ => ⟨S76800x2048, .f32⟩
  | .hbm, ⟨63, _⟩ => ⟨S76800x2048, .i1⟩
  | .hbm, ⟨64, _⟩ => ⟨S76800x2048, .f32⟩
  | .hbm, ⟨65, _⟩ => ⟨S76800x1, .i32⟩
  | .hbm, ⟨66, _⟩ => ⟨S_, .i32⟩
  | .hbm, ⟨67, _⟩ => ⟨S76800x1, .i32⟩
  | .hbm, ⟨68, _⟩ => ⟨S76800x1, .i1⟩
  | .hbm, ⟨69, _⟩ => ⟨S1x2816x2048, .f32⟩
  | .hbm, ⟨70, _⟩ => ⟨S2816x2048, .f32⟩
  | .hbm, ⟨71, _⟩ => ⟨S76800x2048, .f32⟩
  | .hbm, ⟨72, _⟩ => ⟨S76800x2048, .i1⟩
  | .hbm, ⟨73, _⟩ => ⟨S76800x2048, .f32⟩
  | .hbm, ⟨74, _⟩ => ⟨S76800x1, .i32⟩
  | .hbm, ⟨75, _⟩ => ⟨S_, .i32⟩
  | .hbm, ⟨76, _⟩ => ⟨S76800x1, .i32⟩
  | .hbm, ⟨77, _⟩ => ⟨S76800x1, .i1⟩
  | .hbm, ⟨78, _⟩ => ⟨S1x2816x2048, .f32⟩
  | .hbm, ⟨79, _⟩ => ⟨S2816x2048, .f32⟩
  | .hbm, ⟨80, _⟩ => ⟨S76800x2048, .f32⟩
  | .hbm, ⟨81, _⟩ => ⟨S76800x2048, .i1⟩
  | .hbm, ⟨82, _⟩ => ⟨S76800x2048, .f32⟩
  | .hbm, ⟨83, _⟩ => ⟨S76800x1, .f32⟩
  | .hbm, ⟨84, _⟩ => ⟨S76800x2048, .f32⟩
  | .hbm, ⟨85, _⟩ => ⟨S76800x2048, .f32⟩
  | .hbm, ⟨86, _⟩ => ⟨S76800x2048, .bf16⟩
  | _, _ => ⟨S150, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call2_v0 : Ref sig .tc := ⟨.hbm, 36, rfl⟩
abbrev main_v25 : Ref sig .tc := ⟨.hbm, 37, rfl⟩
abbrev main_v26 : Ref sig .tc := ⟨.hbm, 38, rfl⟩
abbrev main_c_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call3_v0 : Ref sig .tc := ⟨.hbm, 45, rfl⟩
abbrev main_v32 : Ref sig .tc := ⟨.hbm, 46, rfl⟩
abbrev main_v33 : Ref sig .tc := ⟨.hbm, 47, rfl⟩
abbrev main_c_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call4_v0 : Ref sig .tc := ⟨.hbm, 54, rfl⟩
abbrev main_v39 : Ref sig .tc := ⟨.hbm, 55, rfl⟩
abbrev main_v40 : Ref sig .tc := ⟨.hbm, 56, rfl⟩
abbrev main_c_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call5_v0 : Ref sig .tc := ⟨.hbm, 63, rfl⟩
abbrev main_v46 : Ref sig .tc := ⟨.hbm, 64, rfl⟩
abbrev main_v47 : Ref sig .tc := ⟨.hbm, 65, rfl⟩
abbrev main_c_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call6_v0 : Ref sig .tc := ⟨.hbm, 72, rfl⟩
abbrev main_v53 : Ref sig .tc := ⟨.hbm, 73, rfl⟩
abbrev main_v54 : Ref sig .tc := ⟨.hbm, 74, rfl⟩
abbrev main_c_6 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call7_v0 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== InProj.lean ====
abbrev S24576x2048 : Shape := ⟨2, ![24576, 2048]⟩
abbrev S2048x6144 : Shape := ⟨2, ![2048, 6144]⟩
abbrev S24576x6144 : Shape := ⟨2, ![24576, 6144]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S24576x2048, .bf16⟩
  | .hbm, ⟨1, _⟩ => ⟨S2048x6144, .f32⟩
  | .hbm, ⟨2, _⟩ => ⟨S24576x6144, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjReferenceIdeal.lean ====
abbrev S24576x2048 : Shape := ⟨2, ![24576, 2048]⟩
abbrev S2048x6144 : Shape := ⟨2, ![2048, 6144]⟩
abbrev S24576x6144 : Shape := ⟨2, ![24576, 6144]⟩

abbrev nBuf : Space → Nat
  | .hbm => 3
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x6144, .f32⟩
  | .hbm, ⟨2, _⟩ => ⟨S24576x6144, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== WideProj.lean ====
abbrev S24576x2048 : Shape := ⟨2, ![24576, 2048]⟩
abbrev S2048x10240 : Shape := ⟨2, ![2048, 10240]⟩
abbrev S24576x10240 : Shape := ⟨2, ![24576, 10240]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S24576x2048, .bf16⟩
  | .hbm, ⟨1, _⟩ => ⟨S2048x10240, .f32⟩
  | .hbm, ⟨2, _⟩ => ⟨S24576x10240, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WideProjReferenceIdeal.lean ====
abbrev S24576x2048 : Shape := ⟨2, ![24576, 2048]⟩
abbrev S2048x10240 : Shape := ⟨2, ![2048, 10240]⟩
abbrev S24576x10240 : Shape := ⟨2, ![24576, 10240]⟩

abbrev nBuf : Space → Nat
  | .hbm => 3
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x10240, .f32⟩
  | .hbm, ⟨2, _⟩ => ⟨S24576x10240, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutProj.lean ====
abbrev S24576x2048 : Shape := ⟨2, ![24576, 2048]⟩
abbrev S2048x2048 : Shape := ⟨2, ![2048, 2048]⟩
abbrev S8x1x2048 : Shape := ⟨3, ![8, 1, 2048]⟩
abbrev S512x2048 : Shape := ⟨2, ![512, 2048]⟩
abbrev S2048x1024 : Shape := ⟨2, ![2048, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S24576x2048, .bf16⟩
  | .hbm, ⟨1, _⟩ => ⟨S2048x2048, .f32⟩
  | .hbm, ⟨2, _⟩ => ⟨S24576x2048, .f32⟩
  | .hbm, ⟨3, _⟩ => ⟨S8x1x2048, .f32⟩
  | .hbm, ⟨4, _⟩ => ⟨S24576x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S2048x1024, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjReferenceIdeal.lean ====
abbrev S24576x2048 : Shape := ⟨2, ![24576, 2048]⟩
abbrev S2048x2048 : Shape := ⟨2, ![2048, 2048]⟩
abbrev S8x1x2048 : Shape := ⟨3, ![8, 1, 2048]⟩
abbrev S1x1x2048 : Shape := ⟨3, ![1, 1, 2048]⟩
abbrev S8192x1x2048 : Shape := ⟨3, ![8192, 1, 2048]⟩
abbrev S8192x2048 : Shape := ⟨2, ![8192, 2048]⟩
abbrev S4x1x2048 : Shape := ⟨3, ![4, 1, 2048]⟩
abbrev S4x4096x2048 : Shape := ⟨3, ![4, 4096, 2048]⟩
abbrev S16384x2048 : Shape := ⟨2, ![16384, 2048]⟩

abbrev nBuf : Space → Nat
  | .hbm => 14
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x2048, .f32⟩
  | .hbm, ⟨2, _⟩ => ⟨S24576x2048, .f32⟩
  | .hbm, ⟨3, _⟩ => ⟨S8x1x2048, .f32⟩
  | .hbm, ⟨4, _⟩ => ⟨S1x1x2048, .f32⟩
  | .hbm, ⟨5, _⟩ => ⟨S8192x1x2048, .f32⟩
  | .hbm, ⟨6, _⟩ => ⟨S8192x2048, .f32⟩
  | .hbm, ⟨7, _⟩ => ⟨S4x1x2048, .f32⟩
  | .hbm, ⟨8, _⟩ => ⟨S4x4096x2048, .f32⟩
  | .hbm, ⟨9, _⟩ => ⟨S16384x2048, .f32⟩
  | .hbm, ⟨10, _⟩ => ⟨S24576x2048, .f32⟩
  | .hbm, ⟨11, _⟩ => ⟨S24576x2048, .f32⟩
  | .hbm, ⟨12, _⟩ => ⟨S24576x2048, .f32⟩
  | .hbm, ⟨13, _⟩ => ⟨S24576x2048, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== HyenaOut.lean ====
abbrev S24576x2048 : Shape := ⟨2, ![24576, 2048]⟩
abbrev S2048x2048 : Shape := ⟨2, ![2048, 2048]⟩
abbrev S8x1x2048 : Shape := ⟨3, ![8, 1, 2048]⟩
abbrev S512x2048 : Shape := ⟨2, ![512, 2048]⟩
abbrev S2048x1024 : Shape := ⟨2, ![2048, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S24576x2048, .f32⟩
  | .hbm, ⟨1, _⟩ => ⟨S2048x2048, .f32⟩
  | .hbm, ⟨2, _⟩ => ⟨S24576x2048, .f32⟩
  | .hbm, ⟨3, _⟩ => ⟨S8x1x2048, .f32⟩
  | .hbm, ⟨4, _⟩ => ⟨S24576x2048, .f32⟩
  | .local _ .vmem, ⟨0, _⟩ => ⟨S512x2048, .f32⟩
  | .local _ .vmem, ⟨1, _⟩ => ⟨S512x2048, .f32⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | .local _ .vmem, ⟨10, _⟩ => ⟨S2048x1024, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HyenaOutReferenceIdeal.lean ====
abbrev S24576x2048 : Shape := ⟨2, ![24576, 2048]⟩
abbrev S2048x2048 : Shape := ⟨2, ![2048, 2048]⟩
abbrev S8x1x2048 : Shape := ⟨3, ![8, 1, 2048]⟩
abbrev S1x1x2048 : Shape := ⟨3, ![1, 1, 2048]⟩
abbrev S8192x1x2048 : Shape := ⟨3, ![8192, 1, 2048]⟩
abbrev S8192x2048 : Shape := ⟨2, ![8192, 2048]⟩
abbrev S4x1x2048 : Shape := ⟨3, ![4, 1, 2048]⟩
abbrev S4x4096x2048 : Shape := ⟨3, ![4, 4096, 2048]⟩
abbrev S16384x2048 : Shape := ⟨2, ![16384, 2048]⟩

abbrev nBuf : Space → Nat
  | .hbm => 14
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048x2048, .f32⟩
  | .hbm, ⟨2, _⟩ => ⟨S24576x2048, .f32⟩
  | .hbm, ⟨3, _⟩ => ⟨S8x1x2048, .f32⟩
  | .hbm, ⟨4, _⟩ => ⟨S1x1x2048, .f32⟩
  | .hbm, ⟨5, _⟩ => ⟨S8192x1x2048, .f32⟩
  | .hbm, ⟨6, _⟩ => ⟨S8192x2048, .f32⟩
  | .hbm, ⟨7, _⟩ => ⟨S4x1x2048, .f32⟩
  | .hbm, ⟨8, _⟩ => ⟨S4x4096x2048, .f32⟩
  | .hbm, ⟨9, _⟩ => ⟨S16384x2048, .f32⟩
  | .hbm, ⟨10, _⟩ => ⟨S24576x2048, .f32⟩
  | .hbm, ⟨11, _⟩ => ⟨S24576x2048, .f32⟩
  | .hbm, ⟨12, _⟩ => ⟨S24576x2048, .f32⟩
  | .hbm, ⟨13, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== RProj.lean ====
abbrev S6x24576x2048 : Shape := ⟨3, ![6, 24576, 2048]⟩
abbrev S2048x2048 : Shape := ⟨2, ![2048, 2048]⟩
abbrev S24576x2048 : Shape := ⟨2, ![24576, 2048]⟩
abbrev S1x512x2048 : Shape := ⟨3, ![1, 512, 2048]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S6x24576x2048, .bf16⟩
  | .hbm, ⟨1, _⟩ => ⟨S2048x2048, .f32⟩
  | .hbm, ⟨2, _⟩ => ⟨S24576x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S6x24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 48], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RProjReferenceIdeal.lean ====
abbrev S6x24576x2048 : Shape := ⟨3, ![6, 24576, 2048]⟩
abbrev S2048x2048 : Shape := ⟨2, ![2048, 2048]⟩
abbrev S1x24576x2048 : Shape := ⟨3, ![1, 24576, 2048]⟩
abbrev S24576x2048 : Shape := ⟨2, ![24576, 2048]⟩

abbrev nBuf : Space → Nat
  | .hbm => 5
  | .vmem => 0
  | .smem => 0
  | _ => 0

abbrev bufTy : (tb : Table) → Fin (tcTables nBuf tb) → BufTy
  | .hbm, ⟨0, _⟩ => ⟨S6x24576x2048, .bf16⟩
  | .hbm, ⟨1, _⟩ => ⟨S2048x2048, .f32⟩
  | .hbm, ⟨2, _⟩ => ⟨S1x24576x2048, .bf16⟩
  | .hbm, ⟨3, _⟩ => ⟨S24576x2048, .bf16⟩
  | .hbm, ⟨4, _⟩ => ⟨S24576x2048, .f32⟩
  | _, _ => ⟨S6x24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KeyProj.lean ====
abbrev S6x24576x2048 : Shape := ⟨3, ![6, 24576, 2048]⟩
abbrev S2048x2048 : Shape := ⟨2, ![2048, 2048]⟩
abbrev S24576x2048 : Shape := ⟨2, ![24576, 2048]⟩
abbrev S1x512x2048 : Shape := ⟨3, ![1, 512, 2048]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S6x24576x2048, .bf16⟩
  | .hbm, ⟨1, _⟩ => ⟨S2048x2048, .f32⟩
  | .hbm, ⟨2, _⟩ => ⟨S24576x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S6x24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 48], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KeyProjReferenceIdeal.lean ====
abbrev S6x24576x2048 : Shape := ⟨3, ![6, 24576, 2048]⟩
abbrev S2048x2048 : Shape := ⟨2, ![2048, 2048]⟩
abbrev S1x24576x2048 : Shape := ⟨3, ![1, 24576, 2048]⟩
abbrev S24576x2048 : Shape := ⟨2, ![24576, 2048]⟩

abbrev nBuf : Space → Nat
  | .hbm => 5
  | .vmem => 0
  | .smem => 0
  | _ => 0

abbrev bufTy : (tb : Table) → Fin (tcTables nBuf tb) → BufTy
  | .hbm, ⟨0, _⟩ => ⟨S6x24576x2048, .bf16⟩
  | .hbm, ⟨1, _⟩ => ⟨S2048x2048, .f32⟩
  | .hbm, ⟨2, _⟩ => ⟨S1x24576x2048, .bf16⟩
  | .hbm, ⟨3, _⟩ => ⟨S24576x2048, .bf16⟩
  | .hbm, ⟨4, _⟩ => ⟨S24576x2048, .f32⟩
  | _, _ => ⟨S6x24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ValProj.lean ====
abbrev S6x24576x2048 : Shape := ⟨3, ![6, 24576, 2048]⟩
abbrev S2048x2048 : Shape := ⟨2, ![2048, 2048]⟩
abbrev S24576x2048 : Shape := ⟨2, ![24576, 2048]⟩
abbrev S1x512x2048 : Shape := ⟨3, ![1, 512, 2048]⟩
abbrev S2048x1024 : Shape := ⟨2, ![2048, 1024]⟩
abbrev S512x1024 : Shape := ⟨2, ![512, 1024]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S6x24576x2048, .bf16⟩
  | .hbm, ⟨1, _⟩ => ⟨S2048x2048, .f32⟩
  | .hbm, ⟨2, _⟩ => ⟨S24576x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | _, _ => ⟨S6x24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 48], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValProjReferenceIdeal.lean ====
abbrev S6x24576x2048 : Shape := ⟨3, ![6, 24576, 2048]⟩
abbrev S2048x2048 : Shape := ⟨2, ![2048, 2048]⟩
abbrev S1x24576x2048 : Shape := ⟨3, ![1, 24576, 2048]⟩
abbrev S24576x2048 : Shape := ⟨2, ![24576, 2048]⟩

abbrev nBuf : Space → Nat
  | .hbm => 5
  | .vmem => 0
  | .smem => 0
  | _ => 0

abbrev bufTy : (tb : Table) → Fin (tcTables nBuf tb) → BufTy
  | .hbm, ⟨0, _⟩ => ⟨S6x24576x2048, .bf16⟩
  | .hbm, ⟨1, _⟩ => ⟨S2048x2048, .f32⟩
  | .hbm, ⟨2, _⟩ => ⟨S1x24576x2048, .bf16⟩
  | .hbm, ⟨3, _⟩ => ⟨S24576x2048, .bf16⟩
  | .hbm, ⟨4, _⟩ => ⟨S24576x2048, .f32⟩
  | _, _ => ⟨S6x24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LowProj.lean ====
abbrev S24576x2048 : Shape := ⟨2, ![24576, 2048]⟩
abbrev S2048x128 : Shape := ⟨2, ![2048, 128]⟩
abbrev S24576x128 : Shape := ⟨2, ![24576, 128]⟩
abbrev S1024x2048 : Shape := ⟨2, ![1024, 2048]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S24576x2048, .bf16⟩
  | .hbm, ⟨1, _⟩ => ⟨S2048x128, .f32⟩
  | .hbm, ⟨2, _⟩ => ⟨S24576x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .f32⟩
  | .local _ .vmem, ⟨3, _⟩ => ⟨S1024x128, .f32⟩
  | .local _ .vmem, ⟨4, _⟩ => ⟨S1024x128, .f32⟩
  | .local _ .vmem, ⟨5, _⟩ => ⟨S2048x128, .bf16⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LowProjReferenceIdeal.lean ====
abbrev S24576x2048 : Shape := ⟨2, ![24576, 2048]⟩
abbrev S2048x128 : Shape := ⟨2, ![2048, 128]⟩
abbrev S24576x128 : Shape := ⟨2, ![24576, 128]⟩

abbrev nBuf : Space → Nat
  | .hbm => 3
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S2048x128, .f32⟩
  | .hbm, ⟨2, _⟩ => ⟨S24576x128, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GkProj.lean ====
abbrev S24576x128 : Shape := ⟨2, ![24576, 128]⟩
abbrev S128x2048 : Shape := ⟨2, ![128, 2048]⟩
abbrev S2048 : Shape := ⟨1, ![2048]⟩
abbrev S1x2048 : Shape := ⟨2, ![1, 2048]⟩
abbrev S24576x2048 : Shape := ⟨2, ![24576, 2048]⟩
abbrev S1024x128 : Shape := ⟨2, ![1024, 128]⟩
abbrev S128x1024 : Shape := ⟨2, ![128, 1024]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S24576x128, .f32⟩
  | .hbm, ⟨1, _⟩ => ⟨S128x2048, .f32⟩
  | .hbm, ⟨2, _⟩ => ⟨S2048, .f32⟩
  | .hbm, ⟨3, _⟩ => ⟨S1x2048, .f32⟩
  | .hbm, ⟨4, _⟩ => ⟨S24576x2048, .f32⟩
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S128x1024, .bf16⟩
  | _, _ => ⟨S24576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GkProjReferenceIdeal.lean ====
abbrev S24576x128 : Shape := ⟨2, ![24576, 128]⟩
abbrev S128x2048 : Shape := ⟨2, ![128, 2048]⟩
abbrev S2048 : Shape := ⟨1, ![2048]⟩
abbrev S24576x2048 : Shape := ⟨2, ![24576, 2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S24576x128, .f32⟩
  | .hbm, ⟨1, _⟩ => ⟨S128x2048, .f32⟩
  | .hbm, ⟨2, _⟩ => ⟨S2048, .f32⟩
  | .hbm, ⟨3, _⟩ => ⟨S24576x2048, .f32⟩
  | .hbm, ⟨4, _⟩ => ⟨S1x2048, .f32⟩
  | .hbm, ⟨5, _⟩ => ⟨S24576x2048, .f32⟩
  | .hbm, ⟨6, _⟩ => ⟨S24576x2048, .f32⟩
  | _, _ => ⟨S24576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GateIn.lean ====
abbrev S6x24576x2048 : Shape := ⟨3, ![6, 24576, 2048]⟩
abbrev S2048x256 : Shape := ⟨2, ![2048, 256]⟩
abbrev S24576x256 : Shape := ⟨2, ![24576, 256]⟩
abbrev S1x1024x2048 : Shape := ⟨3, ![1, 1024, 2048]⟩
abbrev S1024x256 : Shape := ⟨2, ![1024, 256]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S6x24576x2048, .bf16⟩
  | .hbm, ⟨1, _⟩ => ⟨S2048x256, .f32⟩
  | .hbm, ⟨2, _⟩ => ⟨S24576x256, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S2048x256, .f32⟩
  | .local _ .vmem, ⟨3, _⟩ => ⟨S1024x256, .bf16⟩
  | .local _ .vmem, ⟨4, _⟩ => ⟨S1024x256, .bf16⟩
  | .local _ .vmem, ⟨5, _⟩ => ⟨S2048x256, .bf16⟩
  | _, _ => ⟨S6x24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 24], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  ![c5_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateInReferenceIdeal.lean ====
abbrev S6x24576x2048 : Shape := ⟨3, ![6, 24576, 2048]⟩
abbrev S2048x256 : Shape := ⟨2, ![2048, 256]⟩
abbrev S1x24576x2048 : Shape := ⟨3, ![1, 24576, 2048]⟩
abbrev S24576x2048 : Shape := ⟨2, ![24576, 2048]⟩
abbrev S24576x256 : Shape := ⟨2, ![24576, 256]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S6x24576x2048, .bf16⟩
  | .hbm, ⟨1, _⟩ => ⟨S2048x256, .f32⟩
  | .hbm, ⟨2, _⟩ => ⟨S1x24576x2048, .bf16⟩
  | .hbm, ⟨3, _⟩ => ⟨S24576x2048, .bf16⟩
  | .hbm, ⟨4, _⟩ => ⟨S24576x256, .f32⟩
  | .hbm, ⟨5, _⟩ => ⟨S24576x256, .f32⟩
  | .hbm, ⟨6, _⟩ => ⟨S24576x256, .f32⟩
  | .hbm, ⟨7, _⟩ => ⟨S_, .f32⟩
  | .hbm, ⟨8, _⟩ => ⟨S24576x256, .f32⟩
  | .hbm, ⟨9, _⟩ => ⟨S24576x256, .f32⟩
  | .hbm, ⟨10, _⟩ => ⟨S_, .f32⟩
  | .hbm, ⟨11, _⟩ => ⟨S24576x256, .f32⟩
  | .hbm, ⟨12, _⟩ => ⟨S24576x256, .f32⟩
  | .hbm, ⟨13, _⟩ => ⟨S24576x256, .bf16⟩
  | _, _ => ⟨S6x24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== GateOut.lean ====
abbrev S24576x256 : Shape := ⟨2, ![24576, 256]⟩
abbrev S256x2048 : Shape := ⟨2, ![256, 2048]⟩
abbrev S24576x2048 : Shape := ⟨2, ![24576, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S24576x256, .bf16⟩
  | .hbm, ⟨1, _⟩ => ⟨S256x2048, .f32⟩
  | .hbm, ⟨2, _⟩ => ⟨S24576x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .f32⟩
  | .local _ .vmem, ⟨3, _⟩ => ⟨S256x1024, .f32⟩
  | .local _ .vmem, ⟨4, _⟩ => ⟨S1024x1024, .f32⟩
  | .local _ .vmem, ⟨5, _⟩ => ⟨S1024x1024, .f32⟩
  | .local _ .vmem, ⟨6, _⟩ => ⟨S256x1024, .bf16⟩
  | _, _ => ⟨S24576x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateOutReferenceIdeal.lean ====
abbrev S24576x256 : Shape := ⟨2, ![24576, 256]⟩
abbrev S256x2048 : Shape := ⟨2, ![256, 2048]⟩
abbrev S24576x2048 : Shape := ⟨2, ![24576, 2048]⟩

abbrev nBuf : Space → Nat
  | .hbm => 3
  | .vmem => 0
  | .smem => 0
  | _ => 0

abbrev bufTy : (tb : Table) → Fin (tcTables nBuf tb) → BufTy
  | .hbm, ⟨0, _⟩ => ⟨S24576x256, .bf16⟩
  | .hbm, ⟨1, _⟩ => ⟨S256x2048, .f32⟩
  | .hbm, ⟨2, _⟩ => ⟨S24576x2048, .f32⟩
  | _, _ => ⟨S24576x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DecayIn.lean ====
abbrev S6x24576x2048 : Shape := ⟨3, ![6, 24576, 2048]⟩
abbrev S2048x256 : Shape := ⟨2, ![2048, 256]⟩
abbrev S24576x256 : Shape := ⟨2, ![24576, 256]⟩
abbrev S1x1024x2048 : Shape := ⟨3, ![1, 1024, 2048]⟩
abbrev S1024x256 : Shape := ⟨2, ![1024, 256]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S6x24576x2048, .bf16⟩
  | .hbm, ⟨1, _⟩ => ⟨S2048x256, .f32⟩
  | .hbm, ⟨2, _⟩ => ⟨S24576x256, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S2048x256, .f32⟩
  | .local _ .vmem, ⟨3, _⟩ => ⟨S1024x256, .bf16⟩
  | .local _ .vmem, ⟨4, _⟩ => ⟨S1024x256, .bf16⟩
  | .local _ .vmem, ⟨5, _⟩ => ⟨S2048x256, .bf16⟩
  | _, _ => ⟨S6x24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 24], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DecayInReferenceIdeal.lean ====
abbrev S6x24576x2048 : Shape := ⟨3, ![6, 24576, 2048]⟩
abbrev S2048x256 : Shape := ⟨2, ![2048, 256]⟩
abbrev S1x24576x2048 : Shape := ⟨3, ![1, 24576, 2048]⟩
abbrev S24576x2048 : Shape := ⟨2, ![24576, 2048]⟩
abbrev S24576x256 : Shape := ⟨2, ![24576, 256]⟩

abbrev nBuf : Space → Nat
  | .hbm => 7
  | .vmem => 0
  | .smem => 0
  | _ => 0

abbrev bufTy : (tb : Table) → Fin (tcTables nBuf tb) → BufTy
  | .hbm, ⟨0, _⟩ => ⟨S6x24576x2048, .bf16⟩
  | .hbm, ⟨1, _⟩ => ⟨S2048x256, .f32⟩
  | .hbm, ⟨2, _⟩ => ⟨S1x24576x2048, .bf16⟩
  | .hbm, ⟨3, _⟩ => ⟨S24576x2048, .bf16⟩
  | .hbm, ⟨4, _⟩ => ⟨S24576x256, .f32⟩
  | .hbm, ⟨5, _⟩ => ⟨S24576x256, .f32⟩
  | .hbm, ⟨6, _⟩ => ⟨S24576x256, .bf16⟩
  | _, _ => ⟨S6x24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== RateIn.lean ====
abbrev S6x24576x2048 : Shape := ⟨3, ![6, 24576, 2048]⟩
abbrev S2048x256 : Shape := ⟨2, ![2048, 256]⟩
abbrev S24576x256 : Shape := ⟨2, ![24576, 256]⟩
abbrev S1x1024x2048 : Shape := ⟨3, ![1, 1024, 2048]⟩
abbrev S1024x256 : Shape := ⟨2, ![1024, 256]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S6x24576x2048, .bf16⟩
  | .hbm, ⟨1, _⟩ => ⟨S2048x256, .f32⟩
  | .hbm, ⟨2, _⟩ => ⟨S24576x256, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x256, .f32⟩
  | .local _ .vmem, ⟨3, _⟩ => ⟨S1024x256, .f32⟩
  | .local _ .vmem, ⟨4, _⟩ => ⟨S1024x256, .f32⟩
  | .local _ .vmem, ⟨5, _⟩ => ⟨S2048x256, .bf16⟩
  | _, _ => ⟨S6x24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 24], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RateInReferenceIdeal.lean ====
abbrev S6x24576x2048 : Shape := ⟨3, ![6, 24576, 2048]⟩
abbrev S2048x256 : Shape := ⟨2, ![2048, 256]⟩
abbrev S1x24576x2048 : Shape := ⟨3, ![1, 24576, 2048]⟩
abbrev S24576x2048 : Shape := ⟨2, ![24576, 2048]⟩
abbrev S24576x256 : Shape := ⟨2, ![24576, 256]⟩

abbrev nBuf : Space → Nat
  | .hbm => 5
  | .vmem => 0
  | .smem => 0
  | _ => 0

abbrev bufTy : (tb : Table) → Fin (tcTables nBuf tb) → BufTy
  | .hbm, ⟨0, _⟩ => ⟨S6x24576x2048, .bf16⟩
  | .hbm, ⟨1, _⟩ => ⟨S2048x256, .f32⟩
  | .hbm, ⟨2, _⟩ => ⟨S1x24576x2048, .bf16⟩
  | .hbm, ⟨3, _⟩ => ⟨S24576x2048, .bf16⟩
  | .hbm, ⟨4, _⟩ => ⟨S24576x256, .f32⟩
  | _, _ => ⟨S6x24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RateOut.lean ====
abbrev S24576x256 : Shape := ⟨2, ![24576, 256]⟩
abbrev S256x2048 : Shape := ⟨2, ![256, 2048]⟩
abbrev S24576x2048 : Shape := ⟨2, ![24576, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S24576x256, .f32⟩
  | .hbm, ⟨1, _⟩ => ⟨S256x2048, .f32⟩
  | .hbm, ⟨2, _⟩ => ⟨S24576x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S256x1024, .f32⟩
  | .local _ .vmem, ⟨4, _⟩ => ⟨S1024x1024, .f32⟩
  | .local _ .vmem, ⟨5, _⟩ => ⟨S1024x1024, .f32⟩
  | .local _ .vmem, ⟨6, _⟩ => ⟨S256x1024, .bf16⟩
  | _, _ => ⟨S24576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RateOutReferenceIdeal.lean ====
abbrev S24576x256 : Shape := ⟨2, ![24576, 256]⟩
abbrev S256x2048 : Shape := ⟨2, ![256, 2048]⟩
abbrev S24576x2048 : Shape := ⟨2, ![24576, 2048]⟩

abbrev nBuf : Space → Nat
  | .hbm => 3
  | .vmem => 0
  | .smem => 0
  | _ => 0

abbrev bufTy : (tb : Table) → Fin (tcTables nBuf tb) → BufTy
  | .hbm, ⟨0, _⟩ => ⟨S24576x256, .f32⟩
  | .hbm, ⟨1, _⟩ => ⟨S256x2048, .f32⟩
  | .hbm, ⟨2, _⟩ => ⟨S24576x2048, .f32⟩
  | _, _ => ⟨S24576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== NormPrompt.lean ====
abbrev S24576x2048 : Shape := ⟨2, ![24576, 2048]⟩
abbrev S2048 : Shape := ⟨1, ![2048]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPromptReferenceIdeal.lean ====
abbrev S24576x2048 : Shape := ⟨2, ![24576, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormSample.lean ====
abbrev S24576x2048 : Shape := ⟨2, ![24576, 2048]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S1x2048, .f32⟩
  | .hbm, ⟨3, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormSampleReferenceIdeal.lean ====
abbrev S24576x2048 : Shape := ⟨2, ![24576, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S16384x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormMod.lean ====
abbrev S24576x2048 : Shape := ⟨2, ![24576, 2048]⟩
abbrev S2048 : Shape := ⟨1, ![2048]⟩
abbrev S8x1x2048 : Shape := ⟨3, ![8, 1, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S1x2048, .f32⟩
  | .hbm, ⟨5, _⟩ => ⟨S24576x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c512_i32 : BitVec 32 := 512#32
  let v1 : BitVec 32 := Scalar.muli v0 c512_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c4096_i32 : BitVec 32 := 4096#32
  let v4 : BitVec 32 := Scalar.divsi v3 c4096_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v2 c0_i32_7 v21
  let c0_i32_8 : BitVec 32 := 0#32
  let c0_i32_9 : BitVec 32 := 0#32
  let c0_i32_10 : BitVec 32 := 0#32
  ![v22.toNat, c0_i32_8.toNat, c0_i32_9.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c512_i32 : BitVec 32 := 512#32
  let v1 : BitVec 32 := Scalar.muli v0 c512_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c4096_i32 : BitVec 32 := 4096#32
  let v4 : BitVec 32 := Scalar.divsi v3 c4096_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v2 c0_i32_7 v21
  let c0_i32_8 : BitVec 32 := 0#32
  let c0_i32_9 : BitVec 32 := 0#32
  let c0_i32_10 : BitVec 32 := 0#32
  ![v22.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModReferenceIdeal.lean ====
abbrev S24576x2048 : Shape := ⟨2, ![24576, 2048]⟩
abbrev S2048 : Shape := ⟨1, ![2048]⟩
abbrev S8x1x2048 : Shape := ⟨3, ![8, 1, 2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩
abbrev S1x1x2048 : Shape := ⟨3, ![1, 1, 2048]⟩
abbrev S8192x1x2048 : Shape := ⟨3, ![8192, 1, 2048]⟩
abbrev S8192x2048 : Shape := ⟨2, ![8192, 2048]⟩
abbrev S4x1x2048 : Shape := ⟨3, ![4, 1, 2048]⟩
abbrev S4x4096x2048 : Shape := ⟨3, ![4, 4096, 2048]⟩
abbrev S16384x2048 : Shape := ⟨2, ![16384, 2048]⟩

abbrev nBuf : Space → Nat
  | .hbm => 40
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S24576x2048, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x2048, .f32⟩
  | .hbm, ⟨16, _⟩ => ⟨S24576x2048, .f32⟩
  | .hbm, ⟨17, _⟩ => ⟨S1x2048, .f32⟩
  | .hbm, ⟨18, _⟩ => ⟨S24576x2048, .f32⟩
  | .hbm, ⟨19, _⟩ => ⟨S24576x2048, .f32⟩
  | .hbm, ⟨20, _⟩ => ⟨S1x1x2048, .f32⟩
  | .hbm, ⟨21, _⟩ => ⟨S8192x1x2048, .f32⟩
  | .hbm, ⟨22, _⟩ => ⟨S8192x2048, .f32⟩
  | .hbm, ⟨23, _⟩ => ⟨S4x1x2048, .f32⟩
  | .hbm, ⟨24, _⟩ => ⟨S4x4096x2048, .f32⟩
  | .hbm, ⟨25, _⟩ => ⟨S16384x2048, .f32⟩
  | .hbm, ⟨26, _⟩ => ⟨S24576x2048, .f32⟩
  | .hbm, ⟨27, _⟩ => ⟨S_, .f32⟩
  | .hbm, ⟨28, _⟩ => ⟨S24576x2048, .f32⟩
  | .hbm, ⟨29, _⟩ => ⟨S24576x2048, .f32⟩
  | .hbm, ⟨30, _⟩ => ⟨S24576x2048, .f32⟩
  | .hbm, ⟨31, _⟩ => ⟨S1x1x2048, .f32⟩
  | .hbm, ⟨32, _⟩ => ⟨S8192x1x2048, .f32⟩
  | .hbm, ⟨33, _⟩ => ⟨S8192x2048, .f32⟩
  | .hbm, ⟨34, _⟩ => ⟨S4x1x2048, .f32⟩
  | .hbm, ⟨35, _⟩ => ⟨S4x4096x2048, .f32⟩
  | .hbm, ⟨36, _⟩ => ⟨S16384x2048, .f32⟩
  | .hbm, ⟨37, _⟩ => ⟨S24576x2048, .f32⟩
  | .hbm, ⟨38, _⟩ => ⟨S24576x2048, .f32⟩
  | .hbm, ⟨39, _⟩ => ⟨S24576x2048, .bf16⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== NormRw.lean ====
abbrev S24576x2048 : Shape := ⟨2, ![24576, 2048]⟩
abbrev S2048 : Shape := ⟨1, ![2048]⟩
abbrev S8x1x2048 : Shape := ⟨3, ![8, 1, 2048]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S1x2048, .f32⟩
  | .hbm, ⟨5, _⟩ => ⟨S24576x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c512_i32 : BitVec 32 := 512#32
  let v1 : BitVec 32 := Scalar.muli v0 c512_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c4096_i32 : BitVec 32 := 4096#32
  let v4 : BitVec 32 := Scalar.divsi v3 c4096_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v2 c0_i32_7 v21
  let c0_i32_8 : BitVec 32 := 0#32
  let c0_i32_9 : BitVec 32 := 0#32
  let c0_i32_10 : BitVec 32 := 0#32
  ![v22.toNat, c0_i32_8.toNat, c0_i32_9.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c512_i32 : BitVec 32 := 512#32
  let v1 : BitVec 32 := Scalar.muli v0 c512_i32
  let c8192_i32 : BitVec 32 := 8192#32
  let v2 : BitVec 1 := Scalar.cmpi .slt v1 c8192_i32
  let c8192_i32_0 : BitVec 32 := 8192#32
  let v3 : BitVec 32 := Scalar.subi v1 c8192_i32_0
  let c4096_i32 : BitVec 32 := 4096#32
  let v4 : BitVec 32 := Scalar.divsi v3 c4096_i32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c0_i32_3 : BitVec 32 := 0#32
  let v10 : BitVec 1 := Scalar.cmpi .sgt c4096_i32 c0_i32_3
  let v11 : BitVec 32 := Scalar.extui v10
  let c0_i32_4 : BitVec 32 := 0#32
  let v12 : BitVec 1 := Scalar.cmpi .slt c4096_i32 c0_i32_4
  let v13 : BitVec 32 := Scalar.extui v12
  let v14 : BitVec 32 := Scalar.subi v11 v13
  let v15 : BitVec 1 := Scalar.cmpi .ne v9 v14
  let v16 : BitVec 32 := Scalar.remsi v3 c4096_i32
  let c0_i32_5 : BitVec 32 := 0#32
  let v17 : BitVec 1 := Scalar.cmpi .ne v16 c0_i32_5
  let v18 : BitVec 1 := Scalar.andi v15 v17
  let c1_i32 : BitVec 32 := 1#32
  let v19 : BitVec 32 := Scalar.subi v4 c1_i32
  let v20 : BitVec 32 := Scalar.select v18 v19 v4
  let c1_i32_6 : BitVec 32 := 1#32
  let v21 : BitVec 32 := Scalar.addi c1_i32_6 v20
  let c0_i32_7 : BitVec 32 := 0#32
  let v22 : BitVec 32 := Scalar.select v2 c0_i32_7 v21
  let c0_i32_8 : BitVec 32 := 0#32
  let c0_i32_9 : BitVec 32 := 0#32
  let c0_i32_10 : BitVec 32 := 0#32
  ![v22.toNat, c0_i32_8.toNat, c0_i32_9.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRwReferenceIdeal.lean ====
abbrev S24576x2048 : Shape := ⟨2, ![24576, 2048]⟩
abbrev S2048 : Shape := ⟨1, ![2048]⟩
abbrev S8x1x2048 : Shape := ⟨3, ![8, 1, 2048]⟩
abbrev S_ : Shape := ⟨0, ![]⟩
abbrev S24576 : Shape := ⟨1, ![24576]⟩
abbrev S24576x1 : Shape := ⟨2, ![24576, 1]⟩
abbrev S1x2048 : Shape := ⟨2, ![1, 2048]⟩
abbrev S1x1x2048 : Shape := ⟨3, ![1, 1, 2048]⟩
abbrev S8192x1x2048 : Shape := ⟨3, ![8192, 1, 2048]⟩
abbrev S8192x2048 : Shape := ⟨2, ![8192, 2048]⟩
abbrev S4x1x2048 : Shape := ⟨3, ![4, 1, 2048]⟩
abbrev S4x4096x2048 : Shape := ⟨3, ![4, 4096, 2048]⟩
abbrev S16384x2048 : Shape := ⟨2, ![16384, 2048]⟩

abbrev nBuf : Space → Nat
  | .hbm => 39
  | .vmem => 0
  | .smem => 0
  | _ => 0

abbrev bufTy : (tb : Table) → Fin (tcTables nBuf tb) → BufTy
  | .hbm, ⟨0, _⟩ => ⟨S24576x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S24576x2048, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x2048, .f32⟩
  | .hbm, ⟨16, _⟩ => ⟨S24576x2048, .f32⟩
  | .hbm, ⟨17, _⟩ => ⟨S1x2048, .f32⟩
  | .hbm, ⟨18, _⟩ => ⟨S24576x2048, .f32⟩
  | .hbm, ⟨19, _⟩ => ⟨S24576x2048, .f32⟩
  | .hbm, ⟨20, _⟩ => ⟨S1x1x2048, .f32⟩
  | .hbm, ⟨21, _⟩ => ⟨S8192x1x2048, .f32⟩
  | .hbm, ⟨22, _⟩ => ⟨S8192x2048, .f32⟩
  | .hbm, ⟨23, _⟩ => ⟨S4x1x2048, .f32⟩
  | .hbm, ⟨24, _⟩ => ⟨S4x4096x2048, .f32⟩
  | .hbm, ⟨25, _⟩ => ⟨S16384x2048, .f32⟩
  | .hbm, ⟨26, _⟩ => ⟨S24576x2048, .f32⟩
  | .hbm, ⟨27, _⟩ => ⟨S_, .f32⟩
  | .hbm, ⟨28, _⟩ => ⟨S24576x2048, .f32⟩
  | .hbm, ⟨29, _⟩ => ⟨S24576x2048, .f32⟩
  | .hbm, ⟨30, _⟩ => ⟨S24576x2048, .f32⟩
  | .hbm, ⟨31, _⟩ => ⟨S1x1x2048, .f32⟩
  | .hbm, ⟨32, _⟩ => ⟨S8192x1x2048, .f32⟩
  | .hbm, ⟨33, _⟩ => ⟨S8192x2048, .f32⟩
  | .hbm, ⟨34, _⟩ => ⟨S4x1x2048, .f32⟩
  | .hbm, ⟨35, _⟩ => ⟨S4x4096x2048, .f32⟩
  | .hbm, ⟨36, _⟩ => ⟨S16384x2048, .f32⟩
  | .hbm, ⟨37, _⟩ => ⟨S24576x2048, .f32⟩
  | .hbm, ⟨38, _⟩ => ⟨S24576x2048, .f32⟩
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Back.lean ====
abbrev S24576x6144 : Shape := ⟨2, ![24576, 6144]⟩
abbrev S24576x2048 : Shape := ⟨2, ![24576, 2048]⟩
abbrev S96x256x6144 : Shape := ⟨3, ![96, 256, 6144]⟩
abbrev S96x256x2048 : Shape := ⟨3, ![96, 256, 2048]⟩
abbrev S32x4x256x512 : Shape := ⟨4, ![32, 4, 256, 512]⟩
abbrev S1x256x256 : Shape := ⟨3, ![1, 256, 256]⟩
abbrev S1x256x512 : Shape := ⟨3, ![1, 256, 512]⟩
abbrev S1x1x256x512 : Shape := ⟨4, ![1, 1, 256, 512]⟩
abbrev S1x512x256 : Shape := ⟨3, ![1, 512, 256]⟩
abbrev S512x256 : Shape := ⟨2, ![512, 256]⟩
abbrev S64x64 : Shape := ⟨2, ![64, 64]⟩
abbrev S1x64x256 : Shape := ⟨3, ![1, 64, 256]⟩
abbrev S64x256 : Shape := ⟨2, ![64, 256]⟩
abbrev S1x256 : Shape := ⟨2, ![1, 256]⟩
abbrev S1x64x512 : Shape := ⟨3, ![1, 64, 512]⟩
abbrev S64x512 : Shape := ⟨2, ![64, 512]⟩
abbrev S256x512 : Shape := ⟨2, ![256, 512]⟩

abbrev nBuf : Space → Nat
  | .hbm => 6
  | .vmem => 13
  | .smem => 0
  | _ => 0

abbrev bufTy : (tb : Table) → Fin (tcTables nBuf tb) → BufTy
  | .hbm, ⟨0, _⟩ => ⟨S24576x6144, .f32⟩
  | .hbm, ⟨1, _⟩ => ⟨S24576x2048, .f32⟩
  | .hbm, ⟨2, _⟩ => ⟨S96x256x6144, .f32⟩
  | .hbm, ⟨3, _⟩ => ⟨S96x256x2048, .f32⟩
  | .hbm, ⟨4, _⟩ => ⟨S96x256x2048, .f32⟩
  | .hbm, ⟨5, _⟩ => ⟨S32x4x256x512, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x1x256x512, .f32⟩
  | .local _ .vmem, ⟨11, _⟩ => ⟨S1x1x256x512, .f32⟩
  | .local _ .vmem, ⟨12, _⟩ => ⟨S1x512x256, .f32⟩
  | _, _ => ⟨S24576x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 4, 1], ![false, false, false]⟩

def k0_cond2 (i : grid0.Coords) : BitVec 1 :=
  let arg2 : BitVec 32 := BitVec.ofNat 32 (i 2).val
  let c0_i32_97 : BitVec 32 := 0#32
  let v245 : BitVec 1 := Scalar.cmpi .eq arg2 c0_i32_97
  let v246 : BitVec 32 := Scalar.extui v245
  let c0_i32_98 : BitVec 32 := 0#32
  let v247 : BitVec 1 := Scalar.cmpi .ne v246 c0_i32_98
  v247

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi c0_i32_0 arg2
  let c0_i32_1 : BitVec 32 := 0#32
  let v2 : BitVec 32 := Scalar.addi c0_i32_1 arg1
  let c0_i32_2 : BitVec 32 := 0#32
  ![v0.toNat, v1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi c0_i32_0 arg2
  let c4_i32 : BitVec 32 := 4#32
  let v2 : BitVec 32 := Scalar.addi c4_i32 arg1
  let c0_i32_1 : BitVec 32 := 0#32
  ![v0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi c0_i32_0 arg2
  let c4_i32 : BitVec 32 := 4#32
  let v2 : BitVec 32 := Scalar.addi c4_i32 arg1
  let c0_i32_1 : BitVec 32 := 0#32
  ![v0.toNat, v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi c0_i32_0 arg2
  let c4_i32 : BitVec 32 := 4#32
  let v2 : BitVec 32 := Scalar.addi c4_i32 arg1
  let c0_i32_1 : BitVec 32 := 0#32
  ![v0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi c0_i32_0 arg2
  let c0_i32_1 : BitVec 32 := 0#32
  ![v0.toNat, v1.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== BackReferenceIdeal.lean ====
abbrev S24576x6144 : Shape := ⟨2, ![24576, 6144]⟩
abbrev S24576x2048 : Shape := ⟨2, ![24576, 2048]⟩
abbrev S96x256x6144 : Shape := ⟨3, ![96, 256, 6144]⟩
abbrev S32x256x6144 : Shape := ⟨3, ![32, 256, 6144]⟩
abbrev S96x256x2048 : Shape := ⟨3, ![96, 256, 2048]⟩
abbrev S32x256x1024 : Shape := ⟨3, ![32, 256, 1024]⟩
abbrev S32x256x2048 : Shape := ⟨3, ![32, 256, 2048]⟩
abbrev S_ : Shape := ⟨0, ![]⟩
abbrev S32x256x4x256 : Shape := ⟨4, ![32, 256, 4, 256]⟩
abbrev S32x4x256x256 : Shape := ⟨4, ![32, 4, 256, 256]⟩
abbrev S32x256x4x512 : Shape := ⟨4, ![32, 256, 4, 512]⟩
abbrev S32x4x256x512 : Shape := ⟨4, ![32, 4, 256, 512]⟩
abbrev S32x4x4x64x256 : Shape := ⟨5, ![32, 4, 4, 64, 256]⟩
abbrev S32x4x4x64x512 : Shape := ⟨5, ![32, 4, 4, 64, 512]⟩
abbrev S32x4x4x1x256 : Shape := ⟨5, ![32, 4, 4, 1, 256]⟩
abbrev S32x4x4x64x64 : Shape := ⟨5, ![32, 4, 4, 64, 64]⟩
abbrev S64x64 : Shape := ⟨2, ![64, 64]⟩
abbrev S32x4x4x256 : Shape := ⟨4, ![32, 4, 4, 256]⟩
abbrev S32x4x1x64x256 : Shape := ⟨5, ![32, 4, 1, 64, 256]⟩
abbrev S32x4x64x256 : Shape := ⟨4, ![32, 4, 64, 256]⟩
abbrev S32x4x64x512 : Shape := ⟨4, ![32, 4, 64, 512]⟩
abbrev S32x4x1x256 : Shape := ⟨4, ![32, 4, 1, 256]⟩
abbrev S32x4x256 : Shape := ⟨3, ![32, 4, 256]⟩
abbrev S32x4x256x1 : Shape := ⟨4, ![32, 4, 256, 1]⟩
abbrev S32x4x1x64x512 : Shape := ⟨5, ![32, 4, 1, 64, 512]⟩

abbrev nBuf : Space → Nat
  | .hbm => 158
  | .vmem => 0
  | .smem => 0
  | _ => 0

abbrev hbmTy0_0 (i : Nat) : BufTy := match i % 128 with
  | 0 => ⟨S24576x6144, .f32⟩
  | 1 => ⟨S24576x2048, .f32⟩
  | 2 => ⟨S96x256x6144, .f32⟩
  | 3 => ⟨S32x256x6144, .f32⟩
  | 4 => ⟨S96x256x2048, .f32⟩
  | 5 => ⟨S32x256x1024, .f32⟩
  | 6 => ⟨S32x256x1024, .f32⟩
  | 7 => ⟨S32x256x1024, .f32⟩
  | 8 => ⟨S32x256x2048, .f32⟩
  | 9 => ⟨S32x256x2048, .f32⟩
  | 10 => ⟨S32x256x1024, .f32⟩
  | 11 => ⟨S_, .f32⟩
  | 12 => ⟨S32x256x1024, .f32⟩
  | 13 => ⟨S32x256x1024, .f32⟩
  | 14 => ⟨S32x256x1024, .f32⟩
  | 15 => ⟨S32x256x1024, .f32⟩
  | 16 => ⟨S32x256x1024, .i1⟩
  | 17 => ⟨S32x256x1024, .f32⟩
  | 18 => ⟨S32x256x1024, .f32⟩
  | 19 => ⟨S32x256x1024, .f32⟩
  | 20 => ⟨S32x256x1024, .f32⟩
  | 21 => ⟨S32x256x1024, .f32⟩
  | 22 => ⟨S32x256x1024, .f32⟩
  | 23 => ⟨S32x256x1024, .f32⟩
  | 24 => ⟨S32x256x1024, .f32⟩
  | 25 => ⟨S32x256x1024, .f32⟩
  | 26 => ⟨S_, .f32⟩
  | 27 => ⟨S32x256x1024, .f32⟩
  | 28 => ⟨S32x256x1024, .f32⟩
  | 29 => ⟨S32x256x4x256, .f32⟩
  | 30 => ⟨S32x4x256x256, .f32⟩
  | 31 => ⟨S32x256x4x256, .f32⟩
  | 32 => ⟨S32x4x256x256, .f32⟩
  | 33 => ⟨S_, .f32⟩
  | 34 => ⟨S32x4x256x256, .f32⟩
  | 35 => ⟨S32x4x256x256, .f32⟩
  | 36 => ⟨S32x4x256x256, .f32⟩
  | 37 => ⟨S32x256x4x256, .f32⟩
  | 38 => ⟨S32x4x256x256, .f32⟩
  | 39 => ⟨S32x4x256x256, .f32⟩
  | 40 => ⟨S32x256x4x512, .f32⟩
  | 41 => ⟨S32x4x256x512, .f32⟩
  | 42 => ⟨S32x4x256x512, .f32⟩
  | 43 => ⟨S32x4x256x256, .f32⟩
  | 44 => ⟨S_, .f32⟩
  | 45 => ⟨S32x4x256x512, .f32⟩
  | 46 => ⟨S32x4x4x64x256, .f32⟩
  | 47 => ⟨S32x4x4x64x256, .f32⟩
  | 48 => ⟨S32x4x4x64x512, .f32⟩
  | 49 => ⟨S32x4x4x64x256, .f32⟩
  | 50 => ⟨S_, .f32⟩
  | 51 => ⟨S_, .f32⟩
  | 52 => ⟨S32x4x4x64x256, .f32⟩
  | 53 => ⟨S32x4x4x1x256, .f32⟩
  | 54 => ⟨S32x4x4x1x256, .f32⟩
  | 55 => ⟨S32x4x4x64x256, .f32⟩
  | 56 => ⟨S32x4x4x64x256, .f32⟩
  | 57 => ⟨S32x4x4x64x256, .f32⟩
  | 58 => ⟨S32x4x4x64x256, .f32⟩
  | 59 => ⟨S32x4x4x64x256, .f32⟩
  | 60 => ⟨S32x4x4x64x256, .f32⟩
  | 61 => ⟨S32x4x4x64x256, .f32⟩
  | 62 => ⟨S32x4x4x64x256, .f32⟩
  | 63 => ⟨S32x4x4x64x64, .f32⟩
  | 64 => ⟨S_, .i1⟩
  | 65 => ⟨S64x64, .i1⟩
  | 66 => ⟨S64x64, .i32⟩
  | 67 => ⟨S_, .i32⟩
  | 68 => ⟨S64x64, .i32⟩
  | 69 => ⟨S64x64, .i32⟩
  | 70 => ⟨S64x64, .i32⟩
  | 71 => ⟨S64x64, .i1⟩
  | 72 => ⟨S_, .i1⟩
  | 73 => ⟨S64x64, .i1⟩
  | 74 => ⟨S64x64, .i1⟩
  | 75 => ⟨S_, .f32⟩
  | 76 => ⟨S_, .f32⟩
  | 77 => ⟨S32x4x4x64x64, .i1⟩
  | 78 => ⟨S32x4x4x64x64, .f32⟩
  | 79 => ⟨S32x4x4x64x64, .f32⟩
  | 80 => ⟨S32x4x4x64x512, .f32⟩
  | 81 => ⟨S32x4x4x64x256, .f32⟩
  | 82 => ⟨S32x4x4x64x256, .f32⟩
  | 83 => ⟨S32x4x4x64x256, .f32⟩
  | 84 => ⟨S32x4x4x64x256, .f32⟩
  | 85 => ⟨S32x4x4x64x256, .f32⟩
  | 86 => ⟨S32x4x4x64x256, .f32⟩
  | 87 => ⟨S32x4x4x256, .f32⟩
  | 88 => ⟨S32x4x4x256, .f32⟩
  | 89 => ⟨S32x4x1x64x256, .f32⟩
  | 90 => ⟨S32x4x64x256, .f32⟩
  | 91 => ⟨S32x4x64x512, .f32⟩
  | 92 => ⟨S32x4x1x256, .f32⟩
  | 93 => ⟨S32x4x256, .f32⟩
  | 94 => ⟨S32x4x256x1, .f32⟩
  | 95 => ⟨S32x4x256x512, .f32⟩
  | 96 => ⟨S32x4x256x512, .f32⟩
  | 97 => ⟨S32x4x1x64x256, .f32⟩
  | 98 => ⟨S32x4x64x256, .f32⟩
  | 99 => ⟨S32x4x1x64x512, .f32⟩
  | 100 => ⟨S32x4x64x512, .f32⟩
  | 101 => ⟨S32x4x256x512, .f32⟩
  | 102 => ⟨S32x4x256x512, .f32⟩
  | 103 => ⟨S32x4x1x64x256, .f32⟩
  | 104 => ⟨S32x4x64x256, .f32⟩
  | 105 => ⟨S32x4x64x512, .f32⟩
  | 106 => ⟨S32x4x1x256, .f32⟩
  | 107 => ⟨S32x4x256, .f32⟩
  | 108 => ⟨S32x4x256x1, .f32⟩
  | 109 => ⟨S32x4x256x512, .f32⟩
  | 110 => ⟨S32x4x256x512, .f32⟩
  | 111 => ⟨S32x4x1x64x256, .f32⟩
  | 112 => ⟨S32x4x64x256, .f32⟩
  | 113 => ⟨S32x4x1x64x512, .f32⟩
  | 114 => ⟨S32x4x64x512, .f32⟩
  | 115 => ⟨S32x4x256x512, .f32⟩
  | 116 => ⟨S32x4x256x512, .f32⟩
  | 117 => ⟨S32x4x1x64x256, .f32⟩
  | 118 => ⟨S32x4x64x256, .f32⟩
  | 119 => ⟨S32x4x64x512, .f32⟩
  | 120 => ⟨S32x4x1x256, .f32⟩
  | 121 => ⟨S32x4x256, .f32⟩
  | 122 => ⟨S32x4x256x1, .f32⟩
  | 123 => ⟨S32x4x256x512, .f32⟩
  | 124 => ⟨S32x4x256x512, .f32⟩
  | 125 => ⟨S32x4x1x64x256, .f32⟩
  | 126 => ⟨S32x4x64x256, .f32⟩
  | 127 => ⟨S32x4x1x64x512, .f32⟩
  | _ => ⟨S24576x6144, .f32⟩

abbrev hbmTy0_1 (i : Nat) : BufTy := match i % 128 with
  | 0 => ⟨S32x4x64x512, .f32⟩
  | 1 => ⟨S32x4x256x512, .f32⟩
  | 2 => ⟨S32x4x256x512, .f32⟩
  | 3 => ⟨S32x4x1x64x256, .f32⟩
  | 4 => ⟨S32x4x64x256, .f32⟩
  | 5 => ⟨S32x4x64x512, .f32⟩
  | 6 => ⟨S32x4x1x256, .f32⟩
  | 7 => ⟨S32x4x256, .f32⟩
  | 8 => ⟨S32x4x256x1, .f32⟩
  | 9 => ⟨S32x4x256x512, .f32⟩
  | 10 => ⟨S32x4x256x512, .f32⟩
  | 11 => ⟨S32x4x1x64x256, .f32⟩
  | 12 => ⟨S32x4x64x256, .f32⟩
  | 13 => ⟨S32x4x1x64x512, .f32⟩
  | 14 => ⟨S32x4x64x512, .f32⟩
  | 15 => ⟨S32x4x256x512, .f32⟩
  | 16 => ⟨S32x4x256x512, .f32⟩
  | 17 => ⟨S32x4x1x64x512, .f32⟩
  | 18 => ⟨S32x4x1x64x512, .f32⟩
  | 19 => ⟨S32x4x1x64x512, .f32⟩
  | 20 => ⟨S32x4x1x64x512, .f32⟩
  | 21 => ⟨S32x4x4x64x512, .f32⟩
  | 22 => ⟨S32x4x4x64x512, .f32⟩
  | 23 => ⟨S32x4x256x512, .f32⟩
  | 24 => ⟨S32x4x256x512, .f32⟩
  | 25 => ⟨S32x256x4x512, .f32⟩
  | 26 => ⟨S32x256x2048, .f32⟩
  | 27 => ⟨S_, .i32⟩
  | 28 => ⟨S_, .f32⟩
  | 29 => ⟨S96x256x2048, .f32⟩
  | _ => ⟨S24576x6144, .f32⟩

abbrev hbmTy (i : Nat) : BufTy := match i / 128 with
  | 0 => hbmTy0_0 i
  | 1 => hbmTy0_1 i
  | _ => ⟨S24576x6144, .f32⟩

abbrev bufTy : (tb : Table) → Fin (tcTables nBuf tb) → BufTy
  | .hbm, ⟨i, _⟩ => hbmTy i
  | _, _ => ⟨S24576x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_1 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call5_call0_cst : Ref sig .tc := ⟨.hbm, 50, rfl⟩
abbrev main_call5_call0_v0 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_v42 : Ref sig .tc := ⟨.hbm, 65, rfl⟩
abbrev main_call6_v0 : Ref sig .tc := ⟨.hbm, 66, rfl⟩
abbrev main_call6_c : Ref sig .tc := ⟨.hbm, 67, rfl⟩
abbrev main_call6_v1 : Ref sig .tc := ⟨.hbm, 68, rfl⟩
abbrev main_call6_v2 : Ref sig .tc := ⟨.hbm, 69, rfl⟩
abbrev main_call6_v3 : Ref sig .tc := ⟨.hbm, 70, rfl⟩
abbrev main_call6_v4 : Ref sig .tc := ⟨.hbm, 71, rfl⟩
abbrev main_call6_c_0 : Ref sig .tc := ⟨.hbm, 72, rfl⟩
abbrev main_call6_v5 : Ref sig .tc := ⟨.hbm, 73, rfl⟩
abbrev main_v43 : Ref sig .tc := ⟨.hbm, 74, rfl⟩
abbrev main_cst_2 : Ref sig .tc := ⟨.hbm, 75, rfl⟩
abbrev main_call7_v0 : Ref sig .tc := ⟨.hbm, 76, rfl⟩
abbrev main_call7_v1 : Ref sig .tc := ⟨.hbm, 77, rfl⟩
abbrev main_call7_v2 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_3 : Ref sig .tc := ⟨.hbm, 155, rfl⟩
abbrev main_call9_v0 : Ref sig .tc := ⟨.hbm, 156, rfl⟩
abbrev main_v120 : Ref sig .tc := ⟨.hbm, 157, rfl⟩

abbrev nD : Nat := 1
abbrev τ : Topo := Topo.v7x

variable {F : FTy → Type} [FloatOps F]
-- ==== Hgrn.lean ====
abbrev S24576x10240 : Shape := ⟨2, ![24576, 10240]⟩
abbrev S2x1x2048 : Shape := ⟨3, ![2, 1, 2048]⟩
abbrev S96x256x10240 : Shape := ⟨3, ![96, 256, 10240]⟩
abbrev S96x256x2048 : Shape := ⟨3, ![96, 256, 2048]⟩
abbrev S32x16x128x128 : Shape := ⟨4, ![32, 16, 128, 128]⟩
abbrev S1x256x512 : Shape := ⟨3, ![1, 256, 512]⟩
abbrev S1x1x512 : Shape := ⟨3, ![1, 1, 512]⟩
abbrev S1x4x128x128 : Shape := ⟨4, ![1, 4, 128, 128]⟩
abbrev S4x128x128 : Shape := ⟨3, ![4, 128, 128]⟩
abbrev S128x128 : Shape := ⟨2, ![128, 128]⟩
abbrev S1x128x128 : Shape := ⟨3, ![1, 128, 128]⟩
abbrev S64x64 : Shape := ⟨2, ![64, 64]⟩
abbrev S1x64x512 : Shape := ⟨3, ![1, 64, 512]⟩
abbrev S64x512 : Shape := ⟨2, ![64, 512]⟩
abbrev S1x512 : Shape := ⟨2, ![1, 512]⟩
abbrev S64x128 : Shape := ⟨2, ![64, 128]⟩
abbrev S1x128 : Shape := ⟨2, ![1, 128]⟩
abbrev S256x512 : Shape := ⟨2, ![256, 512]⟩
abbrev S1x1x128x128 : Shape := ⟨4, ![1, 1, 128, 128]⟩

abbrev nBuf : Space → Nat
  | .hbm => 6
  | .vmem => 13
  | .smem => 0
  | _ => 0

abbrev bufTy : (tb : Table) → Fin (tcTables nBuf tb) → BufTy
  | .hbm, ⟨0, _⟩ => ⟨S24576x10240, .f32⟩
  | .hbm, ⟨1, _⟩ => ⟨S2x1x2048, .f32⟩
  | .hbm, ⟨2, _⟩ => ⟨S96x256x10240, .f32⟩
  | .hbm, ⟨3, _⟩ => ⟨S96x256x10240, .f32⟩
  | .hbm, ⟨4, _⟩ => ⟨S96x256x2048, .f32⟩
  | .hbm, ⟨5, _⟩ => ⟨S32x16x128x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x1x512, .f32⟩
  | .local _ .vmem, ⟨7, _⟩ => ⟨S1x1x512, .f32⟩
  | .local _ .vmem, ⟨8, _⟩ => ⟨S1x256x512, .f32⟩
  | .local _ .vmem, ⟨9, _⟩ => ⟨S1x256x512, .f32⟩
  | .local _ .vmem, ⟨10, _⟩ => ⟨S1x4x128x128, .f32⟩
  | .local _ .vmem, ⟨11, _⟩ => ⟨S1x4x128x128, .f32⟩
  | .local _ .vmem, ⟨12, _⟩ => ⟨S4x128x128, .f32⟩
  | _, _ => ⟨S24576x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 4, 1], ![false, false, false]⟩

def k0_cond2 (i : grid0.Coords) : BitVec 1 :=
  let arg2 : BitVec 32 := BitVec.ofNat 32 (i 2).val
  let c0_i32_188 : BitVec 32 := 0#32
  let v568 : BitVec 1 := Scalar.cmpi .eq arg2 c0_i32_188
  let v569 : BitVec 32 := Scalar.extui v568
  let c0_i32_189 : BitVec 32 := 0#32
  let v570 : BitVec 1 := Scalar.cmpi .ne v569 c0_i32_189
  v570

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi c0_i32_0 arg1
  let c0_i32_1 : BitVec 32 := 0#32
  ![v0.toNat, arg2.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c4_i32 : BitVec 32 := 4#32
  let v1 : BitVec 32 := Scalar.addi c4_i32 arg1
  let c0_i32_0 : BitVec 32 := 0#32
  ![v0.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c12_i32 : BitVec 32 := 12#32
  let v1 : BitVec 32 := Scalar.addi c12_i32 arg1
  let c0_i32_0 : BitVec 32 := 0#32
  ![v0.toNat, arg2.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== HgrnReferenceIdeal.lean ====
abbrev S24576x10240 : Shape := ⟨2, ![24576, 10240]⟩
abbrev S2x1x2048 : Shape := ⟨3, ![2, 1, 2048]⟩
abbrev S96x256x10240 : Shape := ⟨3, ![96, 256, 10240]⟩
abbrev S32x256x10240 : Shape := ⟨3, ![32, 256, 10240]⟩
abbrev S32x256x2048 : Shape := ⟨3, ![32, 256, 2048]⟩
abbrev S1x1x2048 : Shape := ⟨3, ![1, 1, 2048]⟩
abbrev S1x2048 : Shape := ⟨2, ![1, 2048]⟩
abbrev S_ : Shape := ⟨0, ![]⟩
abbrev S32x256x16x128 : Shape := ⟨4, ![32, 256, 16, 128]⟩
abbrev S32x16x256x128 : Shape := ⟨4, ![32, 16, 256, 128]⟩
abbrev S32x16x128x128 : Shape := ⟨4, ![32, 16, 128, 128]⟩
abbrev S32x16x4x64x128 : Shape := ⟨5, ![32, 16, 4, 64, 128]⟩
abbrev S32x16x4x1x128 : Shape := ⟨5, ![32, 16, 4, 1, 128]⟩
abbrev S32x16x4x64x64 : Shape := ⟨5, ![32, 16, 4, 64, 64]⟩
abbrev S64x64 : Shape := ⟨2, ![64, 64]⟩
abbrev S32x16x4x128 : Shape := ⟨4, ![32, 16, 4, 128]⟩
abbrev S32x16x1x64x128 : Shape := ⟨5, ![32, 16, 1, 64, 128]⟩
abbrev S32x16x64x128 : Shape := ⟨4, ![32, 16, 64, 128]⟩
abbrev S32x16x1x128 : Shape := ⟨4, ![32, 16, 1, 128]⟩
abbrev S32x16x128 : Shape := ⟨3, ![32, 16, 128]⟩
abbrev S32x16x128x1 : Shape := ⟨4, ![32, 16, 128, 1]⟩
abbrev S96x256x2048 : Shape := ⟨3, ![96, 256, 2048]⟩

abbrev nBuf : Space → Nat
  | .hbm => 167
  | .vmem => 0
  | .smem => 0
  | _ => 0

abbrev hbmTy0_0 (i : Nat) : BufTy := match i % 128 with
  | 0 => ⟨S24576x10240, .f32⟩
  | 1 => ⟨S2x1x2048, .f32⟩
  | 2 => ⟨S96x256x10240, .f32⟩
  | 3 => ⟨S32x256x10240, .f32⟩
  | 4 => ⟨S32x256x2048, .f32⟩
  | 5 => ⟨S32x256x2048, .f32⟩
  | 6 => ⟨S32x256x2048, .f32⟩
  | 7 => ⟨S32x256x2048, .f32⟩
  | 8 => ⟨S32x256x2048, .f32⟩
  | 9 => ⟨S1x1x2048, .f32⟩
  | 10 => ⟨S1x2048, .f32⟩
  | 11 => ⟨S1x1x2048, .f32⟩
  | 12 => ⟨S1x2048, .f32⟩
  | 13 => ⟨S_, .f32⟩
  | 14 => ⟨S1x2048, .f32⟩
  | 15 => ⟨S1x2048, .f32⟩
  | 16 => ⟨S32x256x2048, .f32⟩
  | 17 => ⟨S32x256x2048, .f32⟩
  | 18 => ⟨S_, .f32⟩
  | 19 => ⟨S32x256x2048, .f32⟩
  | 20 => ⟨S32x256x2048, .f32⟩
  | 21 => ⟨S_, .f32⟩
  | 22 => ⟨S32x256x2048, .f32⟩
  | 23 => ⟨S32x256x2048, .f32⟩
  | 24 => ⟨S1x1x2048, .f32⟩
  | 25 => ⟨S32x256x2048, .f32⟩
  | 26 => ⟨S32x256x2048, .f32⟩
  | 27 => ⟨S1x1x2048, .f32⟩
  | 28 => ⟨S32x256x2048, .f32⟩
  | 29 => ⟨S32x256x2048, .f32⟩
  | 30 => ⟨S32x256x2048, .f32⟩
  | 31 => ⟨S32x256x2048, .f32⟩
  | 32 => ⟨S_, .f32⟩
  | 33 => ⟨S32x256x2048, .f32⟩
  | 34 => ⟨S32x256x2048, .f32⟩
  | 35 => ⟨S_, .f32⟩
  | 36 => ⟨S32x256x2048, .f32⟩
  | 37 => ⟨S32x256x2048, .f32⟩
  | 38 => ⟨S32x256x2048, .f32⟩
  | 39 => ⟨S32x256x16x128, .f32⟩
  | 40 => ⟨S32x16x256x128, .f32⟩
  | 41 => ⟨S_, .f32⟩
  | 42 => ⟨S32x16x256x128, .f32⟩
  | 43 => ⟨S32x16x256x128, .f32⟩
  | 44 => ⟨S_, .f32⟩
  | 45 => ⟨S32x256x2048, .f32⟩
  | 46 => ⟨S32x256x2048, .f32⟩
  | 47 => ⟨S32x256x16x128, .f32⟩
  | 48 => ⟨S32x16x256x128, .f32⟩
  | 49 => ⟨S32x256x16x128, .f32⟩
  | 50 => ⟨S32x16x256x128, .f32⟩
  | 51 => ⟨S32x256x2048, .f32⟩
  | 52 => ⟨S32x256x16x128, .f32⟩
  | 53 => ⟨S32x16x256x128, .f32⟩
  | 54 => ⟨S_, .f32⟩
  | 55 => ⟨S32x16x128x128, .f32⟩
  | 56 => ⟨S32x16x4x64x128, .f32⟩
  | 57 => ⟨S32x16x4x64x128, .f32⟩
  | 58 => ⟨S32x16x4x64x128, .f32⟩
  | 59 => ⟨S32x16x4x64x128, .f32⟩
  | 60 => ⟨S_, .f32⟩
  | 61 => ⟨S_, .f32⟩
  | 62 => ⟨S32x16x4x64x128, .f32⟩
  | 63 => ⟨S32x16x4x1x128, .f32⟩
  | 64 => ⟨S32x16x4x1x128, .f32⟩
  | 65 => ⟨S32x16x4x64x128, .f32⟩
  | 66 => ⟨S32x16x4x64x128, .f32⟩
  | 67 => ⟨S32x16x4x64x128, .f32⟩
  | 68 => ⟨S32x16x4x64x128, .f32⟩
  | 69 => ⟨S32x16x4x64x128, .f32⟩
  | 70 => ⟨S32x16x4x64x128, .f32⟩
  | 71 => ⟨S32x16x4x64x128, .f32⟩
  | 72 => ⟨S32x16x4x64x128, .f32⟩
  | 73 => ⟨S32x16x4x64x64, .f32⟩
  | 74 => ⟨S_, .i1⟩
  | 75 => ⟨S64x64, .i1⟩
  | 76 => ⟨S64x64, .i32⟩
  | 77 => ⟨S_, .i32⟩
  | 78 => ⟨S64x64, .i32⟩
  | 79 => ⟨S64x64, .i32⟩
  | 80 => ⟨S64x64, .i32⟩
  | 81 => ⟨S64x64, .i1⟩
  | 82 => ⟨S_, .i1⟩
  | 83 => ⟨S64x64, .i1⟩
  | 84 => ⟨S64x64, .i1⟩
  | 85 => ⟨S_, .f32⟩
  | 86 => ⟨S_, .f32⟩
  | 87 => ⟨S32x16x4x64x64, .i1⟩
  | 88 => ⟨S32x16x4x64x64, .f32⟩
  | 89 => ⟨S32x16x4x64x64, .f32⟩
  | 90 => ⟨S32x16x4x64x128, .f32⟩
  | 91 => ⟨S32x16x4x64x128, .f32⟩
  | 92 => ⟨S32x16x4x64x128, .f32⟩
  | 93 => ⟨S32x16x4x64x128, .f32⟩
  | 94 => ⟨S32x16x4x64x128, .f32⟩
  | 95 => ⟨S32x16x4x64x128, .f32⟩
  | 96 => ⟨S32x16x4x64x128, .f32⟩
  | 97 => ⟨S32x16x4x128, .f32⟩
  | 98 => ⟨S32x16x4x128, .f32⟩
  | 99 => ⟨S32x16x1x64x128, .f32⟩
  | 100 => ⟨S32x16x64x128, .f32⟩
  | 101 => ⟨S32x16x64x128, .f32⟩
  | 102 => ⟨S32x16x1x128, .f32⟩
  | 103 => ⟨S32x16x128, .f32⟩
  | 104 => ⟨S32x16x128x1, .f32⟩
  | 105 => ⟨S32x16x128x128, .f32⟩
  | 106 => ⟨S32x16x128x128, .f32⟩
  | 107 => ⟨S32x16x1x64x128, .f32⟩
  | 108 => ⟨S32x16x64x128, .f32⟩
  | 109 => ⟨S32x16x1x64x128, .f32⟩
  | 110 => ⟨S32x16x64x128, .f32⟩
  | 111 => ⟨S32x16x128x128, .f32⟩
  | 112 => ⟨S32x16x128x128, .f32⟩
  | 113 => ⟨S32x16x1x64x128, .f32⟩
  | 114 => ⟨S32x16x64x128, .f32⟩
  | 115 => ⟨S32x16x64x128, .f32⟩
  | 116 => ⟨S32x16x1x128, .f32⟩
  | 117 => ⟨S32x16x128, .f32⟩
  | 118 => ⟨S32x16x128x1, .f32⟩
  | 119 => ⟨S32x16x128x128, .f32⟩
  | 120 => ⟨S32x16x128x128, .f32⟩
  | 121 => ⟨S32x16x1x64x128, .f32⟩
  | 122 => ⟨S32x16x64x128, .f32⟩
  | 123 => ⟨S32x16x1x64x128, .f32⟩
  | 124 => ⟨S32x16x64x128, .f32⟩
  | 125 => ⟨S32x16x128x128, .f32⟩
  | 126 => ⟨S32x16x128x128, .f32⟩
  | 127 => ⟨S32x16x1x64x128, .f32⟩
  | _ => ⟨S24576x10240, .f32⟩

abbrev hbmTy0_1 (i : Nat) : BufTy := match i % 128 with
  | 0 => ⟨S32x16x64x128, .f32⟩
  | 1 => ⟨S32x16x64x128, .f32⟩
  | 2 => ⟨S32x16x1x128, .f32⟩
  | 3 => ⟨S32x16x128, .f32⟩
  | 4 => ⟨S32x16x128x1, .f32⟩
  | 5 => ⟨S32x16x128x128, .f32⟩
  | 6 => ⟨S32x16x128x128, .f32⟩
  | 7 => ⟨S32x16x1x64x128, .f32⟩
  | 8 => ⟨S32x16x64x128, .f32⟩
  | 9 => ⟨S32x16x1x64x128, .f32⟩
  | 10 => ⟨S32x16x64x128, .f32⟩
  | 11 => ⟨S32x16x128x128, .f32⟩
  | 12 => ⟨S32x16x128x128, .f32⟩
  | 13 => ⟨S32x16x1x64x128, .f32⟩
  | 14 => ⟨S32x16x64x128, .f32⟩
  | 15 => ⟨S32x16x64x128, .f32⟩
  | 16 => ⟨S32x16x1x128, .f32⟩
  | 17 => ⟨S32x16x128, .f32⟩
  | 18 => ⟨S32x16x128x1, .f32⟩
  | 19 => ⟨S32x16x128x128, .f32⟩
  | 20 => ⟨S32x16x128x128, .f32⟩
  | 21 => ⟨S32x16x1x64x128, .f32⟩
  | 22 => ⟨S32x16x64x128, .f32⟩
  | 23 => ⟨S32x16x1x64x128, .f32⟩
  | 24 => ⟨S32x16x64x128, .f32⟩
  | 25 => ⟨S32x16x128x128, .f32⟩
  | 26 => ⟨S32x16x128x128, .f32⟩
  | 27 => ⟨S32x16x1x64x128, .f32⟩
  | 28 => ⟨S32x16x1x64x128, .f32⟩
  | 29 => ⟨S32x16x1x64x128, .f32⟩
  | 30 => ⟨S32x16x1x64x128, .f32⟩
  | 31 => ⟨S32x16x4x64x128, .f32⟩
  | 32 => ⟨S32x16x4x64x128, .f32⟩
  | 33 => ⟨S32x16x256x128, .f32⟩
  | 34 => ⟨S32x256x16x128, .f32⟩
  | 35 => ⟨S32x256x2048, .f32⟩
  | 36 => ⟨S_, .i32⟩
  | 37 => ⟨S_, .f32⟩
  | 38 => ⟨S96x256x2048, .f32⟩
  | _ => ⟨S24576x10240, .f32⟩

abbrev hbmTy (i : Nat) : BufTy := match i / 128 with
  | 0 => hbmTy0_0 i
  | 1 => hbmTy0_1 i
  | _ => ⟨S24576x10240, .f32⟩

abbrev bufTy : (tb : Table) → Fin (tcTables nBuf tb) → BufTy
  | .hbm, ⟨i, _⟩ => hbmTy i
  | _, _ => ⟨S24576x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_call0_cst : Ref sig .tc := ⟨.hbm, 60, rfl⟩
abbrev main_call1_call0_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c : Ref sig .tc := ⟨.hbm, 74, rfl⟩
abbrev main_v56 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_0 : Ref sig .tc := ⟨.hbm, 82, rfl⟩
abbrev main_call2_v5 : Ref sig .tc := ⟨.hbm, 83, rfl⟩
abbrev main_v57 : Ref sig .tc := ⟨.hbm, 84, rfl⟩
abbrev main_cst_5 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_c_6 : Ref sig .tc := ⟨.hbm, 164, rfl⟩
abbrev main_call4_v0 : Ref sig .tc := ⟨.hbm, 165, rfl⟩
abbrev main_v133 : Ref sig .tc := ⟨.hbm, 166, rfl⟩

abbrev nD : Nat := 1
abbrev τ : Topo := Topo.v7x

variable {F : FTy → Type} [FloatOps F]
-- ==== HgrnBack.lean ====
abbrev S24576x10240 : Shape := ⟨2, ![24576, 10240]⟩
abbrev S2x1x2048 : Shape := ⟨3, ![2, 1, 2048]⟩
abbrev S96x256x10240 : Shape := ⟨3, ![96, 256, 10240]⟩
abbrev S96x256x2048 : Shape := ⟨3, ![96, 256, 2048]⟩
abbrev S32x16x128x128 : Shape := ⟨4, ![32, 16, 128, 128]⟩
abbrev S1x256x512 : Shape := ⟨3, ![1, 256, 512]⟩
abbrev S1x1x512 : Shape := ⟨3, ![1, 1, 512]⟩
abbrev S1x4x128x128 : Shape := ⟨4, ![1, 4, 128, 128]⟩
abbrev S4x128x128 : Shape := ⟨3, ![4, 128, 128]⟩
abbrev S128x128 : Shape := ⟨2, ![128, 128]⟩
abbrev S1x128x128 : Shape := ⟨3, ![1, 128, 128]⟩
abbrev S64x64 : Shape := ⟨2, ![64, 64]⟩
abbrev S1x64x512 : Shape := ⟨3, ![1, 64, 512]⟩
abbrev S64x512 : Shape := ⟨2, ![64, 512]⟩
abbrev S1x512 : Shape := ⟨2, ![1, 512]⟩
abbrev S64x128 : Shape := ⟨2, ![64, 128]⟩
abbrev S1x128 : Shape := ⟨2, ![1, 128]⟩
abbrev S256x512 : Shape := ⟨2, ![256, 512]⟩
abbrev S1x1x128x128 : Shape := ⟨4, ![1, 1, 128, 128]⟩

abbrev nBuf : Space → Nat
  | .hbm => 6
  | .vmem => 13
  | .smem => 0
  | _ => 0

abbrev bufTy : (tb : Table) → Fin (tcTables nBuf tb) → BufTy
  | .hbm, ⟨0, _⟩ => ⟨S24576x10240, .f32⟩
  | .hbm, ⟨1, _⟩ => ⟨S2x1x2048, .f32⟩
  | .hbm, ⟨2, _⟩ => ⟨S96x256x10240, .f32⟩
  | .hbm, ⟨3, _⟩ => ⟨S96x256x10240, .f32⟩
  | .hbm, ⟨4, _⟩ => ⟨S96x256x2048, .f32⟩
  | .hbm, ⟨5, _⟩ => ⟨S32x16x128x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x1x512, .f32⟩
  | .local _ .vmem, ⟨7, _⟩ => ⟨S1x1x512, .f32⟩
  | .local _ .vmem, ⟨8, _⟩ => ⟨S1x256x512, .f32⟩
  | .local _ .vmem, ⟨9, _⟩ => ⟨S1x256x512, .f32⟩
  | .local _ .vmem, ⟨10, _⟩ => ⟨S1x4x128x128, .f32⟩
  | .local _ .vmem, ⟨11, _⟩ => ⟨S1x4x128x128, .f32⟩
  | .local _ .vmem, ⟨12, _⟩ => ⟨S4x128x128, .f32⟩
  | _, _ => ⟨S24576x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 4, 1], ![false, false, false]⟩

def k0_cond2 (i : grid0.Coords) : BitVec 1 :=
  let arg2 : BitVec 32 := BitVec.ofNat 32 (i 2).val
  let c0_i32_188 : BitVec 32 := 0#32
  let v568 : BitVec 1 := Scalar.cmpi .eq arg2 c0_i32_188
  let v569 : BitVec 32 := Scalar.extui v568
  let c0_i32_189 : BitVec 32 := 0#32
  let v570 : BitVec 1 := Scalar.cmpi .ne v569 c0_i32_189
  v570

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi c0_i32_0 arg2
  let c0_i32_1 : BitVec 32 := 0#32
  let v2 : BitVec 32 := Scalar.addi c0_i32_1 arg1
  let c0_i32_2 : BitVec 32 := 0#32
  ![v0.toNat, v1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi c0_i32_0 arg2
  let c8_i32 : BitVec 32 := 8#32
  let v2 : BitVec 32 := Scalar.addi c8_i32 arg1
  let c0_i32_1 : BitVec 32 := 0#32
  ![v0.toNat, v1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi c0_i32_0 arg2
  let c12_i32 : BitVec 32 := 12#32
  let v2 : BitVec 32 := Scalar.addi c12_i32 arg1
  let c0_i32_1 : BitVec 32 := 0#32
  ![v0.toNat, v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.subi c0_i32_0 arg2
  let c0_i32_1 : BitVec 32 := 0#32
  ![v0.toNat, v1.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x4x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== HgrnBackReferenceIdeal.lean ====
abbrev S24576x10240 : Shape := ⟨2, ![24576, 10240]⟩
abbrev S2x1x2048 : Shape := ⟨3, ![2, 1, 2048]⟩
abbrev S96x256x10240 : Shape := ⟨3, ![96, 256, 10240]⟩
abbrev S32x256x10240 : Shape := ⟨3, ![32, 256, 10240]⟩
abbrev S32x256x2048 : Shape := ⟨3, ![32, 256, 2048]⟩
abbrev S1x1x2048 : Shape := ⟨3, ![1, 1, 2048]⟩
abbrev S1x2048 : Shape := ⟨2, ![1, 2048]⟩
abbrev S_ : Shape := ⟨0, ![]⟩
abbrev S32x256x16x128 : Shape := ⟨4, ![32, 256, 16, 128]⟩
abbrev S32x16x256x128 : Shape := ⟨4, ![32, 16, 256, 128]⟩
abbrev S32x16x128x128 : Shape := ⟨4, ![32, 16, 128, 128]⟩
abbrev S32x16x4x64x128 : Shape := ⟨5, ![32, 16, 4, 64, 128]⟩
abbrev S32x16x4x1x128 : Shape := ⟨5, ![32, 16, 4, 1, 128]⟩
abbrev S32x16x4x64x64 : Shape := ⟨5, ![32, 16, 4, 64, 64]⟩
abbrev S64x64 : Shape := ⟨2, ![64, 64]⟩
abbrev S32x16x4x128 : Shape := ⟨4, ![32, 16, 4, 128]⟩
abbrev S32x16x1x64x128 : Shape := ⟨5, ![32, 16, 1, 64, 128]⟩
abbrev S32x16x64x128 : Shape := ⟨4, ![32, 16, 64, 128]⟩
abbrev S32x16x1x128 : Shape := ⟨4, ![32, 16, 1, 128]⟩
abbrev S32x16x128 : Shape := ⟨3, ![32, 16, 128]⟩
abbrev S32x16x128x1 : Shape := ⟨4, ![32, 16, 128, 1]⟩
abbrev S96x256x2048 : Shape := ⟨3, ![96, 256, 2048]⟩

abbrev nBuf : Space → Nat
  | .hbm => 172
  | .vmem => 0
  | .smem => 0
  | _ => 0

abbrev hbmTy0_0 (i : Nat) : BufTy := match i % 128 with
  | 0 => ⟨S24576x10240, .f32⟩
  | 1 => ⟨S2x1x2048, .f32⟩
  | 2 => ⟨S96x256x10240, .f32⟩
  | 3 => ⟨S32x256x10240, .f32⟩
  | 4 => ⟨S32x256x2048, .f32⟩
  | 5 => ⟨S32x256x2048, .f32⟩
  | 6 => ⟨S32x256x2048, .f32⟩
  | 7 => ⟨S32x256x2048, .f32⟩
  | 8 => ⟨S32x256x2048, .f32⟩
  | 9 => ⟨S1x1x2048, .f32⟩
  | 10 => ⟨S1x2048, .f32⟩
  | 11 => ⟨S1x1x2048, .f32⟩
  | 12 => ⟨S1x2048, .f32⟩
  | 13 => ⟨S_, .f32⟩
  | 14 => ⟨S1x2048, .f32⟩
  | 15 => ⟨S1x2048, .f32⟩
  | 16 => ⟨S32x256x2048, .f32⟩
  | 17 => ⟨S32x256x2048, .f32⟩
  | 18 => ⟨S_, .f32⟩
  | 19 => ⟨S32x256x2048, .f32⟩
  | 20 => ⟨S32x256x2048, .f32⟩
  | 21 => ⟨S_, .f32⟩
  | 22 => ⟨S32x256x2048, .f32⟩
  | 23 => ⟨S32x256x2048, .f32⟩
  | 24 => ⟨S1x1x2048, .f32⟩
  | 25 => ⟨S32x256x2048, .f32⟩
  | 26 => ⟨S32x256x2048, .f32⟩
  | 27 => ⟨S1x1x2048, .f32⟩
  | 28 => ⟨S32x256x2048, .f32⟩
  | 29 => ⟨S32x256x2048, .f32⟩
  | 30 => ⟨S32x256x2048, .f32⟩
  | 31 => ⟨S32x256x2048, .f32⟩
  | 32 => ⟨S_, .f32⟩
  | 33 => ⟨S32x256x2048, .f32⟩
  | 34 => ⟨S32x256x2048, .f32⟩
  | 35 => ⟨S_, .f32⟩
  | 36 => ⟨S32x256x2048, .f32⟩
  | 37 => ⟨S32x256x2048, .f32⟩
  | 38 => ⟨S32x256x2048, .f32⟩
  | 39 => ⟨S32x256x16x128, .f32⟩
  | 40 => ⟨S32x16x256x128, .f32⟩
  | 41 => ⟨S_, .f32⟩
  | 42 => ⟨S32x16x256x128, .f32⟩
  | 43 => ⟨S32x16x256x128, .f32⟩
  | 44 => ⟨S32x16x256x128, .f32⟩
  | 45 => ⟨S_, .f32⟩
  | 46 => ⟨S32x256x2048, .f32⟩
  | 47 => ⟨S32x256x2048, .f32⟩
  | 48 => ⟨S32x256x16x128, .f32⟩
  | 49 => ⟨S32x16x256x128, .f32⟩
  | 50 => ⟨S32x16x256x128, .f32⟩
  | 51 => ⟨S32x256x16x128, .f32⟩
  | 52 => ⟨S32x16x256x128, .f32⟩
  | 53 => ⟨S32x16x256x128, .f32⟩
  | 54 => ⟨S32x256x2048, .f32⟩
  | 55 => ⟨S32x256x16x128, .f32⟩
  | 56 => ⟨S32x16x256x128, .f32⟩
  | 57 => ⟨S32x16x256x128, .f32⟩
  | 58 => ⟨S_, .f32⟩
  | 59 => ⟨S32x16x128x128, .f32⟩
  | 60 => ⟨S32x16x4x64x128, .f32⟩
  | 61 => ⟨S32x16x4x64x128, .f32⟩
  | 62 => ⟨S32x16x4x64x128, .f32⟩
  | 63 => ⟨S32x16x4x64x128, .f32⟩
  | 64 => ⟨S_, .f32⟩
  | 65 => ⟨S_, .f32⟩
  | 66 => ⟨S32x16x4x64x128, .f32⟩
  | 67 => ⟨S32x16x4x1x128, .f32⟩
  | 68 => ⟨S32x16x4x1x128, .f32⟩
  | 69 => ⟨S32x16x4x64x128, .f32⟩
  | 70 => ⟨S32x16x4x64x128, .f32⟩
  | 71 => ⟨S32x16x4x64x128, .f32⟩
  | 72 => ⟨S32x16x4x64x128, .f32⟩
  | 73 => ⟨S32x16x4x64x128, .f32⟩
  | 74 => ⟨S32x16x4x64x128, .f32⟩
  | 75 => ⟨S32x16x4x64x128, .f32⟩
  | 76 => ⟨S32x16x4x64x128, .f32⟩
  | 77 => ⟨S32x16x4x64x64, .f32⟩
  | 78 => ⟨S_, .i1⟩
  | 79 => ⟨S64x64, .i1⟩
  | 80 => ⟨S64x64, .i32⟩
  | 81 => ⟨S_, .i32⟩
  | 82 => ⟨S64x64, .i32⟩
  | 83 => ⟨S64x64, .i32⟩
  | 84 => ⟨S64x64, .i32⟩
  | 85 => ⟨S64x64, .i1⟩
  | 86 => ⟨S_, .i1⟩
  | 87 => ⟨S64x64, .i1⟩
  | 88 => ⟨S64x64, .i1⟩
  | 89 => ⟨S_, .f32⟩
  | 90 => ⟨S_, .f32⟩
  | 91 => ⟨S32x16x4x64x64, .i1⟩
  | 92 => ⟨S32x16x4x64x64, .f32⟩
  | 93 => ⟨S32x16x4x64x64, .f32⟩
  | 94 => ⟨S32x16x4x64x128, .f32⟩
  | 95 => ⟨S32x16x4x64x128, .f32⟩
  | 96 => ⟨S32x16x4x64x128, .f32⟩
  | 97 => ⟨S32x16x4x64x128, .f32⟩
  | 98 => ⟨S32x16x4x64x128, .f32⟩
  | 99 => ⟨S32x16x4x64x128, .f32⟩
  | 100 => ⟨S32x16x4x64x128, .f32⟩
  | 101 => ⟨S32x16x4x128, .f32⟩
  | 102 => ⟨S32x16x4x128, .f32⟩
  | 103 => ⟨S32x16x1x64x128, .f32⟩
  | 104 => ⟨S32x16x64x128, .f32⟩
  | 105 => ⟨S32x16x64x128, .f32⟩
  | 106 => ⟨S32x16x1x128, .f32⟩
  | 107 => ⟨S32x16x128, .f32⟩
  | 108 => ⟨S32x16x128x1, .f32⟩
  | 109 => ⟨S32x16x128x128, .f32⟩
  | 110 => ⟨S32x16x128x128, .f32⟩
  | 111 => ⟨S32x16x1x64x128, .f32⟩
  | 112 => ⟨S32x16x64x128, .f32⟩
  | 113 => ⟨S32x16x1x64x128, .f32⟩
  | 114 => ⟨S32x16x64x128, .f32⟩
  | 115 => ⟨S32x16x128x128, .f32⟩
  | 116 => ⟨S32x16x128x128, .f32⟩
  | 117 => ⟨S32x16x1x64x128, .f32⟩
  | 118 => ⟨S32x16x64x128, .f32⟩
  | 119 => ⟨S32x16x64x128, .f32⟩
  | 120 => ⟨S32x16x1x128, .f32⟩
  | 121 => ⟨S32x16x128, .f32⟩
  | 122 => ⟨S32x16x128x1, .f32⟩
  | 123 => ⟨S32x16x128x128, .f32⟩
  | 124 => ⟨S32x16x128x128, .f32⟩
  | 125 => ⟨S32x16x1x64x128, .f32⟩
  | 126 => ⟨S32x16x64x128, .f32⟩
  | 127 => ⟨S32x16x1x64x128, .f32⟩
  | _ => ⟨S24576x10240, .f32⟩

abbrev hbmTy0_1 (i : Nat) : BufTy := match i % 128 with
  | 0 => ⟨S32x16x64x128, .f32⟩
  | 1 => ⟨S32x16x128x128, .f32⟩
  | 2 => ⟨S32x16x128x128, .f32⟩
  | 3 => ⟨S32x16x1x64x128, .f32⟩
  | 4 => ⟨S32x16x64x128, .f32⟩
  | 5 => ⟨S32x16x64x128, .f32⟩
  | 6 => ⟨S32x16x1x128, .f32⟩
  | 7 => ⟨S32x16x128, .f32⟩
  | 8 => ⟨S32x16x128x1, .f32⟩
  | 9 => ⟨S32x16x128x128, .f32⟩
  | 10 => ⟨S32x16x128x128, .f32⟩
  | 11 => ⟨S32x16x1x64x128, .f32⟩
  | 12 => ⟨S32x16x64x128, .f32⟩
  | 13 => ⟨S32x16x1x64x128, .f32⟩
  | 14 => ⟨S32x16x64x128, .f32⟩
  | 15 => ⟨S32x16x128x128, .f32⟩
  | 16 => ⟨S32x16x128x128, .f32⟩
  | 17 => ⟨S32x16x1x64x128, .f32⟩
  | 18 => ⟨S32x16x64x128, .f32⟩
  | 19 => ⟨S32x16x64x128, .f32⟩
  | 20 => ⟨S32x16x1x128, .f32⟩
  | 21 => ⟨S32x16x128, .f32⟩
  | 22 => ⟨S32x16x128x1, .f32⟩
  | 23 => ⟨S32x16x128x128, .f32⟩
  | 24 => ⟨S32x16x128x128, .f32⟩
  | 25 => ⟨S32x16x1x64x128, .f32⟩
  | 26 => ⟨S32x16x64x128, .f32⟩
  | 27 => ⟨S32x16x1x64x128, .f32⟩
  | 28 => ⟨S32x16x64x128, .f32⟩
  | 29 => ⟨S32x16x128x128, .f32⟩
  | 30 => ⟨S32x16x128x128, .f32⟩
  | 31 => ⟨S32x16x1x64x128, .f32⟩
  | 32 => ⟨S32x16x1x64x128, .f32⟩
  | 33 => ⟨S32x16x1x64x128, .f32⟩
  | 34 => ⟨S32x16x1x64x128, .f32⟩
  | 35 => ⟨S32x16x4x64x128, .f32⟩
  | 36 => ⟨S32x16x4x64x128, .f32⟩
  | 37 => ⟨S32x16x256x128, .f32⟩
  | 38 => ⟨S32x16x256x128, .f32⟩
  | 39 => ⟨S32x256x16x128, .f32⟩
  | 40 => ⟨S32x256x2048, .f32⟩
  | 41 => ⟨S_, .i32⟩
  | 42 => ⟨S_, .f32⟩
  | 43 => ⟨S96x256x2048, .f32⟩
  | _ => ⟨S24576x10240, .f32⟩

abbrev hbmTy (i : Nat) : BufTy := match i / 128 with
  | 0 => hbmTy0_0 i
  | 1 => hbmTy0_1 i
  | _ => ⟨S24576x10240, .f32⟩

abbrev bufTy : (tb : Table) → Fin (tcTables nBuf tb) → BufTy
  | .hbm, ⟨i, _⟩ => hbmTy i
  | _, _ => ⟨S24576x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call5_call0_cst : Ref sig .tc := ⟨.hbm, 64, rfl⟩
abbrev main_call5_call0_v0 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_c : Ref sig .tc := ⟨.hbm, 78, rfl⟩
abbrev main_v60 : Ref sig .tc := ⟨.hbm, 79, rfl⟩
abbrev main_call6_v0 : Ref sig .tc := ⟨.hbm, 80, rfl⟩
abbrev main_call6_c : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_c_0 : Ref sig .tc := ⟨.hbm, 86, rfl⟩
abbrev main_call6_v5 : Ref sig .tc := ⟨.hbm, 87, rfl⟩
abbrev main_v61 : Ref sig .tc := ⟨.hbm, 88, rfl⟩
abbrev main_cst_5 : Ref sig .tc := ⟨.hbm, 89, rfl⟩
abbrev main_call7_v0 : Ref sig .tc := ⟨.hbm, 90, rfl⟩
abbrev main_call7_v1 : Ref sig .tc := ⟨.hbm, 91, rfl⟩
abbrev main_call7_v2 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_c_6 : Ref sig .tc := ⟨.hbm, 169, rfl⟩
abbrev main_call9_v0 : Ref sig .tc := ⟨.hbm, 170, rfl⟩
abbrev main_v138 : Ref sig .tc := ⟨.hbm, 171, rfl⟩

abbrev nD : Nat := 1
abbrev τ : Topo := Topo.v7x

variable {F : FTy → Type} [FloatOps F]
-- ==== Proof.Spec.lean ====
/- The chunked recurrence of gated linear attention, over the extended reals, for one row of the batch and one head: the
   sequence is cut into chunks of 64 positions; `q n i d`, `k n i d` and `l n i d` are the scaled query, the key and the
   log decay of position `i` of chunk `n`, `v n i e` is the value. Both programs are shown to compute `out` and `state`. -/
module

public import Idealize.ShloMosaic.Lib.Pointwise

@[expose] public section

noncomputable section

namespace Cert.Scan

open Idealize.ShloMosaic

variable {dk dv : ℕ} (q k l : ℕ → Fin 64 → Fin dk → EReal) (v : ℕ → Fin 64 → Fin dv → EReal) (s : Fin dk → Fin dv → EReal)

/-- The log decay summed from the chunk's first position through position `i`. -/
def cum (n : ℕ) (i : Fin 64) (d : Fin dk) : EReal := ∑ j : Fin 64, if j ≤ i then l n j d else 0

/-- The score of position `j` for position `i` of one chunk, both decays taken from the chunk's position 32. -/
def score (n : ℕ) (i j : Fin 64) : EReal :=
  ∑ d : Fin dk, (q n i d * Ideal.exp (cum l n i d - cum l n 32 d)) * (k n j d * Ideal.exp (cum l n 32 d - cum l n j d))

/-- What the positions of the chunk up to `i` contribute to the output at `i`. -/
def intra (n : ℕ) (i : Fin 64) (e : Fin dv) : EReal := ∑ j : Fin 64, (if j ≤ i then score q k l n i j else 0) * v n j e

/-- The state before chunk `n`, from the initial state `s`. -/
def state : ℕ → Fin dk → Fin dv → EReal
  | 0 => s
  | n + 1 => fun d e => state n d e * Ideal.exp (cum l n 63 d)
      + ∑ j : Fin 64, (k n j d * Ideal.exp (cum l n 63 d - cum l n j d)) * v n j e

/-- What the chunks before `n` contribute to the output at position `i` of chunk `n`. -/
def inter (n : ℕ) (i : Fin 64) (e : Fin dv) : EReal :=
  ∑ d : Fin dk, (q n i d * Ideal.exp (cum l n i d)) * state k l v s n d e

/-- The output at position `i` of chunk `n`. -/
def out (n : ℕ) (i : Fin 64) (e : Fin dv) : EReal := intra q k l v n i e + inter q k l v s n i e

/-- The log decay of a gate's logit: a sixteenth of the logarithm of the logistic function. -/
def logDecay (x : EReal) : EReal :=
  (min x 0 - Ideal.log (1 + Ideal.exp (0 - max x (-x)))) * Ideal.ofBits .f32 0x3D800000#32

/-- Position `i` of chunk `n` in a sequence of `N` positions. -/
def pos (N : ℕ) [NeZero N] (n : ℕ) (i : Fin 64) : Fin N := Fin.ofNat N (64 * n + i.val)

theorem pos_eq (N : ℕ) [NeZero N] (n : ℕ) (i : Fin 64) (h : 64 * n + i.val < N) : pos N n i = ⟨64 * n + i.val, h⟩ :=
  Fin.ext (Nat.mod_eq_of_lt h)

/-! ## The layer's sequences, read from the projections and the gate logits -/

/-- Position `p` of sequence `b` among the rows of all sequences. -/
def row (b : Fin 32) (p : Fin 256) : Fin 24576 := ⟨256 * b.val + p.val, by omega⟩

section
variable (x : (⟨2, ![24576, 6144]⟩ : Shape).Idx → EReal) (g : (⟨2, ![24576, 2048]⟩ : Shape).Idx → EReal)
variable (b : Fin 32) (h : Fin 4)

/-- The query's component `d`, before its scaling. -/
def qIn (p : Fin 256) (d : Fin 256) : EReal := x (ix2 (row b p) ⟨256 * h.val + d.val, by omega⟩)

/-- The key's component `d`. -/
def kIn (p : Fin 256) (d : Fin 256) : EReal := x (ix2 (row b p) ⟨1024 + 256 * h.val + d.val, by omega⟩)

/-- The value's component `e`. -/
def vIn (p : Fin 256) (e : Fin 512) : EReal := x (ix2 (row b p) ⟨2048 + 512 * h.val + e.val, by omega⟩)

/-- The gate logit's component `d`. -/
def gIn (p : Fin 256) (d : Fin 256) : EReal := g (ix2 (row b p) ⟨256 * h.val + d.val, by omega⟩)

/-- The scaled queries of one sequence and head, chunk by chunk. -/
def glaQ (n : ℕ) (i : Fin 64) (d : Fin 256) : EReal := qIn x b h (pos 256 n i) d * Ideal.ofBits .f32 0x3D800000#32

/-- The keys. -/
def glaK (n : ℕ) (i : Fin 64) (d : Fin 256) : EReal := kIn x b h (pos 256 n i) d

/-- The log decays. -/
def glaL (n : ℕ) (i : Fin 64) (d : Fin 256) : EReal := logDecay (gIn g b h (pos 256 n i) d)

/-- The values. -/
def glaV (n : ℕ) (i : Fin 64) (e : Fin 512) : EReal := vIn x b h (pos 256 n i) e

/-- The recurrence's output at position `i` of chunk `n`. -/
def glaOut (n : ℕ) (i : Fin 64) (e : Fin 512) : EReal :=
  out (glaQ x b h) (glaK x b h) (glaL g b h) (glaV x b h) (fun _ _ => 0) n i e

/-- The recurrence's state after `n` chunks. -/
def glaState (n : ℕ) (d : Fin 256) (e : Fin 512) : EReal := state (glaK x b h) (glaL g b h) (glaV x b h) (fun _ _ => 0) n d e
end

/-! ## The same, with the sequence taken from its last position to its first -/

section
variable (x : (⟨2, ![24576, 6144]⟩ : Shape).Idx → EReal) (g : (⟨2, ![24576, 2048]⟩ : Shape).Idx → EReal)
variable (b : Fin 32) (h : Fin 4)

/-- The second gate logit's component `d`. -/
def gBackIn (p : Fin 256) (d : Fin 256) : EReal := g (ix2 (row b p) ⟨1024 + 256 * h.val + d.val, by omega⟩)

/-- The scaled queries. -/
def backQ (n : ℕ) (i : Fin 64) (d : Fin 256) : EReal := qIn x b h (Fin.rev (pos 256 n i)) d * Ideal.ofBits .f32 0x3D800000#32

/-- The keys. -/
def backK (n : ℕ) (i : Fin 64) (d : Fin 256) : EReal := kIn x b h (Fin.rev (pos 256 n i)) d

/-- The log decays. -/
def backL (n : ℕ) (i : Fin 64) (d : Fin 256) : EReal := logDecay (gBackIn g b h (Fin.rev (pos 256 n i)) d)

/-- The values. -/
def backV (n : ℕ) (i : Fin 64) (e : Fin 512) : EReal := vIn x b h (Fin.rev (pos 256 n i)) e

/-- The recurrence's output at position `i` of chunk `n`. -/
def backOut (n : ℕ) (i : Fin 64) (e : Fin 512) : EReal :=
  out (backQ x b h) (backK x b h) (backL g b h) (backV x b h) (fun _ _ => 0) n i e

/-- The recurrence's state after `n` chunks. -/
def backState (n : ℕ) (d : Fin 256) (e : Fin 512) : EReal := state (backK x b h) (backL g b h) (backV x b h) (fun _ _ => 0) n d e
end

end Cert.Scan

end
-- ==== Proof.KernelChunk.lean ====
/- The kernel's body on one block, as four applications of one chunk function, and the chunk function read at an index:
   it is the recurrence of `Cert.Scan`. -/
module

public import proofs.«01_k».proof.Proof.Spec
public import proofs.«01_k».proof.Proof.Gen.KernelIdeal.Skeleton
public import Idealize.ShloMosaic.Lib.Pointwise
public import Idealize.ShloMosaic.PureOps.Ideal.Laws

@[expose] public section

set_option maxRecDepth 16384

noncomputable section

namespace Cert.KernelIdeal.Chunk

open Cert.KernelIdeal Cert.KernelIdeal.Gen Idealize.ShloMosaic Cert.Scan

/-- A chunk's contribution to its own output. -/
def intraK (q k g : Vec Ideal S1x64x256 .f32) (v : Vec Ideal S1x64x512 .f32) : FVec Ideal S64x512 .f32 :=
  k0_pay48 k0_pay2 (k0_pay9 q g) (k0_pay11 (k0_pay4 k) (k0_pay10 g)) (k0_pay15 v)

/-- The state after a chunk, from the state `S` before it; the state is held transposed. -/
def stepK (k g : Vec Ideal S1x64x256 .f32) (v : Vec Ideal S1x64x512 .f32) (S : FVec Ideal S512x256 .f32) : FVec Ideal S512x256 .f32 :=
  addf (mulf S (broadcastTo S512x256 (k0_pay14 (k0_pay8 g)) broadcasts_S1x256_S512x256))
    (k0_pay52 (k0_pay13 (k0_pay4 k) (k0_pay6 g) (k0_pay8 g)) (k0_pay15 v))

/-- What the state before a chunk contributes to the chunk's output. -/
def interK (q g : Vec Ideal S1x64x256 .f32) (S : FVec Ideal S512x256 .f32) : FVec Ideal S64x512 .f32 :=
  matmul dot_S64x256_S512x256_S64x512_1_1_0_0_n_n none (k0_pay12 (k0_pay5 q) (k0_pay6 g)) (truncf .bf16 S bitsLt_bf16_f32)
    (constant S64x512 .f32 0x00000000#32)

theorem ge_bit : ∀ i j : Fin 64, IntOp.cmpi CmpIPredicate.sge (BitVec.ofNat 32 i.val) (BitVec.ofNat 32 j.val) = if j ≤ i then 1#1 else 0#1 := by
  decide +kernel

/-- The triangle of ones the running sum is taken with. -/
theorem tri_apply (i j : Fin 64) :
    FloatOps.sitofp (F := Ideal) FTy.f32 (BitVec.setWidth 32 (IntOp.cmpi CmpIPredicate.sge (BitVec.ofNat 32 i.val) (BitVec.ofNat 32 j.val)))
      = (if j ≤ i then (1 : EReal) else 0) := by
  rw [ge_bit]
  split
  · show (((BitVec.setWidth 32 1#1).toInt : ℝ) : EReal) = 1
    rw [show (BitVec.setWidth 32 1#1).toInt = 1 from by decide]; simp
  · show (((BitVec.setWidth 32 0#1).toInt : ℝ) : EReal) = 0
    rw [show (BitVec.setWidth 32 0#1).toInt = 0 from by decide]; simp

variable (q k g : Vec Ideal S1x64x256 .f32) (v : Vec Ideal S1x64x512 .f32)
variable (Q K L : ℕ → Fin 64 → Fin 256 → EReal) (V : ℕ → Fin 64 → Fin 512 → EReal) (n : ℕ)

theorem cumK_apply (hl : ∀ i d, logDecay (g (ix3 0 i d)) = L n i d) (i : Fin 64) (d : Fin 256) :
    k0_pay6 g (ix2 i d) = cum L n i d := by
  pointwise [k0_pay6, k0_pay3, k0_pay2]
  refine Finset.sum_congr rfl fun j _ => ?_
  rw [tri_apply, ← hl]
  by_cases h : j ≤ i
  · rw [if_pos h, if_pos h, one_mul]; rfl
  · rw [if_neg h, if_neg h, zero_mul]

theorem intraK_apply (hq : ∀ i d, q (ix3 0 i d) * Ideal.ofBits .f32 0x3D800000#32 = Q n i d) (hk : ∀ i d, k (ix3 0 i d) = K n i d)
    (hl : ∀ i d, logDecay (g (ix3 0 i d)) = L n i d) (hv : ∀ i e, v (ix3 0 i e) = V n i e) (i : Fin 64) (e : Fin 512) :
    intraK q k g v (ix2 i e) = intra Q K L V n i e := by
  pointwise [intraK, k0_pay48, k0_pay2, k0_pay9, k0_pay11, k0_pay4, k0_pay10, k0_pay15, k0_pay5, k0_pay7]
  unfold intra score
  refine Finset.sum_congr rfl fun j _ => ?_
  simp only [hq, hk, hv, cumK_apply g L n hl]
  rw [ge_bit]
  by_cases h : j ≤ i
  · rw [if_pos h, if_pos h]; rfl
  · rw [if_neg h, if_neg h, zero_mul]; rfl

theorem stepK_apply (hk : ∀ i d, k (ix3 0 i d) = K n i d) (hl : ∀ i d, logDecay (g (ix3 0 i d)) = L n i d)
    (hv : ∀ i e, v (ix3 0 i e) = V n i e) (S : FVec Ideal S512x256 .f32) (s : Fin 256 → Fin 512 → EReal)
    (hS : ∀ d e, S (ix2 e d) = state K L V s n d e) (d : Fin 256) (e : Fin 512) :
    stepK k g v S (ix2 e d) = state K L V s (n + 1) d e := by
  pointwise [stepK, k0_pay14, k0_pay8, k0_pay52, k0_pay13, k0_pay4, k0_pay15]
  simp only [hS, hk, hv, cumK_apply g L n hl, state]
  exact congrArg _ (Finset.sum_congr rfl fun j _ => mul_comm _ _)

theorem interK_apply (hq : ∀ i d, q (ix3 0 i d) * Ideal.ofBits .f32 0x3D800000#32 = Q n i d) (hl : ∀ i d, logDecay (g (ix3 0 i d)) = L n i d)
    (S : FVec Ideal S512x256 .f32) (s : Fin 256 → Fin 512 → EReal)
    (hS : ∀ d e, S (ix2 e d) = state K L V s n d e) (i : Fin 64) (e : Fin 512) :
    interK q g S (ix2 i e) = inter Q K L V s n i e := by
  pointwise [interK, k0_pay12, k0_pay5]
  simp only [hS, hq, cumK_apply g L n hl, inter]

/-! ## The whole block -/

/-- The 64 rows of a 256-row block that chunk `n` reads. -/
def part256 (x : Vec Ideal S1x256x256 .f32) (n : ℕ) (h : ∀ a, (![0, n, 0] : Fin 3 → ℕ) a + S1x64x256.size a ≤ S1x256x256.size a) :
    Vec Ideal S1x64x256 .f32 :=
  View.ld x (Rect.unit (s := S1x256x256) ![0, n, 0] S1x64x256.size h)

/-- The same of a block of 512 columns. -/
def part512 (x : Vec Ideal S1x256x512 .f32) (n : ℕ) (h : ∀ a, (![0, n, 0] : Fin 3 → ℕ) a + S1x64x512.size a ≤ S1x256x512.size a) :
    Vec Ideal S1x64x512 .f32 :=
  View.ld x (Rect.unit (s := S1x256x512) ![0, n, 0] S1x64x512.size h)

theorem part256_apply (x : Vec Ideal S1x256x256 .f32) (n h) (i : Fin 64) (d : Fin 256) (hi : n + i.val < 256) :
    part256 x n h (ix3 0 i d) = x (ix3 0 ⟨n + i.val, hi⟩ d) := by
  pointwise [part256]

end Cert.KernelIdeal.Chunk

end
-- ==== Proof.KernelBlock.lean ====
/- What the kernel's body leaves in its two output blocks, as the chunk function of `Chunk` applied four times, and those
   blocks read at an index. -/
module

public import proofs.«01_k».proof.Proof.KernelChunk
public import proofs.«01_k».proof.Proof.Gen.KernelIdeal.Value
public import Idealize.ShloMosaic.Lib.Tactic

@[expose] public section

set_option maxRecDepth 16384

noncomputable section

namespace Cert.KernelIdeal.Chunk

open Cert.KernelIdeal Cert.KernelIdeal.Gen Idealize.ShloMosaic Idealize.ShloMosaic.TcCoe Cert.Scan
open Idealize.ShloMosaic.Pipeline (Dat)

variable (x0 x1 x2 : Vec Ideal S1x256x256 .f32) (x3 : Vec Ideal S1x256x512 .f32)

/-- The state before the first chunk: zero. -/
def S0 : FVec Ideal S512x256 .f32 := k0_pay53 (k0_pay1 (F := Ideal))

def S1 : FVec Ideal S512x256 .f32 :=
  stepK (part256 x1 0 inb_S1x256x256_S1x64x256_0_0_0) (part256 x2 0 inb_S1x256x256_S1x64x256_0_0_0) (part512 x3 0 inb_S1x256x512_S1x64x512_0_0_0) S0

def S2 : FVec Ideal S512x256 .f32 :=
  stepK (part256 x1 64 inb_S1x256x256_S1x64x256_0_64_0) (part256 x2 64 inb_S1x256x256_S1x64x256_0_64_0) (part512 x3 64 inb_S1x256x512_S1x64x512_0_64_0) (S1 x1 x2 x3)

def S3 : FVec Ideal S512x256 .f32 :=
  stepK (part256 x1 128 inb_S1x256x256_S1x64x256_0_128_0) (part256 x2 128 inb_S1x256x256_S1x64x256_0_128_0) (part512 x3 128 inb_S1x256x512_S1x64x512_0_128_0) (S2 x1 x2 x3)

def S4 : FVec Ideal S512x256 .f32 :=
  stepK (part256 x1 192 inb_S1x256x256_S1x64x256_0_192_0) (part256 x2 192 inb_S1x256x256_S1x64x256_0_192_0) (part512 x3 192 inb_S1x256x512_S1x64x512_0_192_0) (S3 x1 x2 x3)

/-- One chunk's output from the state before it. -/
def outK (q k g : Vec Ideal S1x64x256 .f32) (v : Vec Ideal S1x64x512 .f32) (S : FVec Ideal S512x256 .f32) : FVec Ideal S64x512 .f32 :=
  addf (intraK q k g v) (interK q g S)

/-- The output block: the four chunks' outputs, one below the other. -/
def blockO : Vec Ideal S1x256x512 .f32 :=
  shapeCast S1x256x512 (concatenate S256x512 0
    [⟨S64x512, outK (part256 x0 0 inb_S1x256x256_S1x64x256_0_0_0) (part256 x1 0 inb_S1x256x256_S1x64x256_0_0_0) (part256 x2 0 inb_S1x256x256_S1x64x256_0_0_0) (part512 x3 0 inb_S1x256x512_S1x64x512_0_0_0) S0⟩,
     ⟨S64x512, outK (part256 x0 64 inb_S1x256x256_S1x64x256_0_64_0) (part256 x1 64 inb_S1x256x256_S1x64x256_0_64_0) (part256 x2 64 inb_S1x256x256_S1x64x256_0_64_0) (part512 x3 64 inb_S1x256x512_S1x64x512_0_64_0) (S1 x1 x2 x3)⟩,
     ⟨S64x512, outK (part256 x0 128 inb_S1x256x256_S1x64x256_0_128_0) (part256 x1 128 inb_S1x256x256_S1x64x256_0_128_0) (part256 x2 128 inb_S1x256x256_S1x64x256_0_128_0) (part512 x3 128 inb_S1x256x512_S1x64x512_0_128_0) (S2 x1 x2 x3)⟩,
     ⟨S64x512, outK (part256 x0 192 inb_S1x256x256_S1x64x256_0_192_0) (part256 x1 192 inb_S1x256x256_S1x64x256_0_192_0) (part256 x2 192 inb_S1x256x256_S1x64x256_0_192_0) (part512 x3 192 inb_S1x256x512_S1x64x512_0_192_0) (S3 x1 x2 x3)⟩]
    concatenates_S64x512_S64x512_S64x512_S64x512_S256x512_d0) shapeCasts_S256x512_S1x256x512

/-- The state block: the state after the fourth chunk. -/
def blockS : Vec Ideal S1x1x256x512 .f32 :=
  k0_pay59 (F := Ideal) (shapeCast S1x512x256 (S4 x1 x2 x3) shapeCasts_S512x256_S1x512x256)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

set_option maxHeartbeats 4000000 in
theorem outO_eq (c : Dev nD) (i : grid0.Coords) (a3 : Memref sig .tc .vmem S1x256x256 .f32) (h3 : a3.IsWhole)
    (a4 : Memref sig .tc .vmem S1x256x256 .f32) (h4 : a4.IsWhole) (a5 : Memref sig .tc .vmem S1x256x256 .f32) (h5 : a5.IsWhole)
    (a6 : Memref sig .tc .vmem S1x256x512 .f32) (h6 : a6.IsWhole) (a7 : Memref sig .tc .vmem S1x256x512 .f32) (h7 : a7.IsWhole)
    (a8 : Memref sig .tc .vmem S1x1x256x512 .f32) (h8 : a8.IsWhole) (a9 : Memref sig .tc .vmem S1x512x256 .f32) (h9 : a9.IsWhole)
    (hc0 : _) (hc1 : _) :
    out0_A_4 c i a3 h3 a4 h4 a5 h5 a6 h6 a7 h7 a8 h8 a9 h9 hc0 hc1 x0 x1 x2 x3 = blockO x0 x1 x2 x3 := by
  unfold out0_A_4
  rw [View.read_writes_eq_canon _ _ _ (cover0_A_4 c i a3 h3 a4 h4 a5 h5 a6 h6 a7 h7 a8 h8 a9 h9 hc0 hc1 x0 x1 x2 x3)]
  unfold kernelRun0_A
  dsimp only
  sl_unfold_words
  rw [View.canon_unit_zero hz3]
  simp only [View.readAt_eq_ld, h3.read_unread, h4.read_unread, h5.read_unread, h6.read_unread, View.readCov_unit_zero (S := S1x512x256) _ hz3]
  rfl

set_option maxHeartbeats 4000000 in
theorem outS_eq (c : Dev nD) (i : grid0.Coords) (a3 : Memref sig .tc .vmem S1x256x256 .f32) (h3 : a3.IsWhole)
    (a4 : Memref sig .tc .vmem S1x256x256 .f32) (h4 : a4.IsWhole) (a5 : Memref sig .tc .vmem S1x256x256 .f32) (h5 : a5.IsWhole)
    (a6 : Memref sig .tc .vmem S1x256x512 .f32) (h6 : a6.IsWhole) (a7 : Memref sig .tc .vmem S1x256x512 .f32) (h7 : a7.IsWhole)
    (a8 : Memref sig .tc .vmem S1x1x256x512 .f32) (h8 : a8.IsWhole) (a9 : Memref sig .tc .vmem S1x512x256 .f32) (h9 : a9.IsWhole)
    (hc0 : _) (hc1 : _) :
    out0_A_5 c i a3 h3 a4 h4 a5 h5 a6 h6 a7 h7 a8 h8 a9 h9 hc0 hc1 x0 x1 x2 x3 = blockS x1 x2 x3 := by
  unfold out0_A_5
  rw [View.read_writes_eq_canon _ _ _ (cover0_A_5 c i a3 h3 a4 h4 a5 h5 a6 h6 a7 h7 a8 h8 a9 h9 hc0 hc1 x0 x1 x2 x3)]
  unfold kernelRun0_A
  dsimp only
  sl_unfold_words
  rw [View.canon_unit_zero hz4]
  simp only [View.readCov_cons_toLoadRect, View.readAt_eq_ld, h3.read_unread, h4.read_unread, h5.read_unread, h6.read_unread, View.readCov_unit_zero (S := S1x512x256) _ hz3]
  rfl

/-! ## The blocks at an index -/

section
variable (Q K L : ℕ → Fin 64 → Fin 256 → EReal) (V : ℕ → Fin 64 → Fin 512 → EReal)
variable (hq : ∀ n i d, x0 (ix3 0 (pos 256 n i) d) * Ideal.ofBits .f32 0x3D800000#32 = Q n i d)
variable (hk : ∀ n i d, x1 (ix3 0 (pos 256 n i) d) = K n i d)
variable (hl : ∀ n i d, logDecay (x2 (ix3 0 (pos 256 n i) d)) = L n i d)
variable (hv : ∀ n i e, x3 (ix3 0 (pos 256 n i) e) = V n i e)

theorem part256_pos (x : Vec Ideal S1x256x256 .f32) (n : ℕ) (hn : n < 4) (h) (i : Fin 64) (d : Fin 256) :
    part256 x (64 * n) h (ix3 0 i d) = x (ix3 0 (pos 256 n i) d) := by
  rw [part256_apply x _ h i d (by omega), pos_eq 256 n i (by omega)]

theorem part512_pos (x : Vec Ideal S1x256x512 .f32) (n : ℕ) (hn : n < 4) (h) (i : Fin 64) (d : Fin 512) :
    part512 x (64 * n) h (ix3 0 i d) = x (ix3 0 (pos 256 n i) d) := by
  rw [pos_eq 256 n i (by omega)]
  pointwise [part512]

include hk hl hv

theorem step_apply (n : ℕ) (hn : n < 4) (h h1 h2) (S : FVec Ideal S512x256 .f32)
    (hS : ∀ d e, S (ix2 e d) = state K L V (fun _ _ => 0) n d e) (d : Fin 256) (e : Fin 512) :
    stepK (part256 x1 (64 * n) h) (part256 x2 (64 * n) h1) (part512 x3 (64 * n) h2) S (ix2 e d) = state K L V (fun _ _ => 0) (n + 1) d e :=
  stepK_apply _ _ _ K L V n (fun i d => by rw [part256_pos x1 n hn, hk]) (fun i d => by rw [part256_pos x2 n hn, hl])
    (fun i e => by rw [part512_pos x3 n hn, hv]) S _ hS d e

omit hk hl hv in
theorem S0_apply (d : Fin 256) (e : Fin 512) : S0 (ix2 e d) = state K L V (fun _ _ => 0) 0 d e := by
  pointwise [S0, k0_pay53, k0_pay1, state]

theorem S1_apply (d : Fin 256) (e : Fin 512) : S1 x1 x2 x3 (ix2 e d) = state K L V (fun _ _ => 0) 1 d e :=
  step_apply x1 x2 x3 K L V hk hl hv 0 (by decide) _ _ _ _ (S0_apply K L V) d e

theorem S2_apply (d : Fin 256) (e : Fin 512) : S2 x1 x2 x3 (ix2 e d) = state K L V (fun _ _ => 0) 2 d e :=
  step_apply x1 x2 x3 K L V hk hl hv 1 (by decide) _ _ _ _ (S1_apply x1 x2 x3 K L V hk hl hv) d e

theorem S3_apply (d : Fin 256) (e : Fin 512) : S3 x1 x2 x3 (ix2 e d) = state K L V (fun _ _ => 0) 3 d e :=
  step_apply x1 x2 x3 K L V hk hl hv 2 (by decide) _ _ _ _ (S2_apply x1 x2 x3 K L V hk hl hv) d e

theorem S4_apply (d : Fin 256) (e : Fin 512) : S4 x1 x2 x3 (ix2 e d) = state K L V (fun _ _ => 0) 4 d e :=
  step_apply x1 x2 x3 K L V hk hl hv 3 (by decide) _ _ _ _ (S3_apply x1 x2 x3 K L V hk hl hv) d e

/-- The state block holds the state after the four chunks. -/
theorem blockS_apply (d : Fin 256) (e : Fin 512) :
    blockS x1 x2 x3 (ix4 0 0 d e) = state K L V (fun _ _ => 0) 4 d e := by
  rw [← S4_apply x1 x2 x3 K L V hk hl hv]
  pointwise [blockS, k0_pay59]

include hq

theorem outK_apply (n : ℕ) (hn : n < 4) (h h1 h2 h3) (S : FVec Ideal S512x256 .f32)
    (hS : ∀ d e, S (ix2 e d) = state K L V (fun _ _ => 0) n d e) (i : Fin 64) (e : Fin 512) :
    outK (part256 x0 (64 * n) h) (part256 x1 (64 * n) h1) (part256 x2 (64 * n) h2) (part512 x3 (64 * n) h3) S (ix2 i e)
      = out Q K L V (fun _ _ => 0) n i e := by
  have e0 : ∀ i d, part256 x0 (64 * n) h (ix3 0 i d) * Ideal.ofBits .f32 0x3D800000#32 = Q n i d :=
    fun i d => by rw [part256_pos x0 n hn, hq]
  have e1 : ∀ i d, part256 x1 (64 * n) h1 (ix3 0 i d) = K n i d := fun i d => by rw [part256_pos x1 n hn, hk]
  have e2 : ∀ i d, logDecay (part256 x2 (64 * n) h2 (ix3 0 i d)) = L n i d := fun i d => by rw [part256_pos x2 n hn, hl]
  have e3 : ∀ i e, part512 x3 (64 * n) h3 (ix3 0 i e) = V n i e := fun i e => by rw [part512_pos x3 n hn, hv]
  show intraK _ _ _ _ (ix2 i e) + interK _ _ _ (ix2 i e) = _
  rw [intraK_apply _ _ _ _ Q K L V n e0 e1 e2 e3, interK_apply _ _ Q K L V n e0 e2 S _ hS]
  rfl

/-- The output block holds the four chunks' outputs. -/
theorem blockO_apply (n : Fin 4) (i : Fin 64) (e : Fin 512) :
    blockO x0 x1 x2 x3 (ix3 0 (pos 256 n.val i) e) = out Q K L V (fun _ _ => 0) n.val i e := by
  rw [pos_eq 256 n.val i (by omega)]
  unfold blockO
  match n with
  | 0 =>
    refine Eq.trans ?_ (outK_apply x0 x1 x2 x3 Q K L V hq hk hl hv 0 (by decide) inb_S1x256x256_S1x64x256_0_0_0 inb_S1x256x256_S1x64x256_0_0_0 inb_S1x256x256_S1x64x256_0_0_0 inb_S1x256x512_S1x64x512_0_0_0 _ (S0_apply K L V) i e)
    pointwise
  | 1 =>
    refine Eq.trans ?_ (outK_apply x0 x1 x2 x3 Q K L V hq hk hl hv 1 (by decide) inb_S1x256x256_S1x64x256_0_64_0 inb_S1x256x256_S1x64x256_0_64_0 inb_S1x256x256_S1x64x256_0_64_0 inb_S1x256x512_S1x64x512_0_64_0 _ (S1_apply x1 x2 x3 K L V hk hl hv) i e)
    pointwise
  | 2 =>
    refine Eq.trans ?_ (outK_apply x0 x1 x2 x3 Q K L V hq hk hl hv 2 (by decide) inb_S1x256x256_S1x64x256_0_128_0 inb_S1x256x256_S1x64x256_0_128_0 inb_S1x256x256_S1x64x256_0_128_0 inb_S1x256x512_S1x64x512_0_128_0 _ (S2_apply x1 x2 x3 K L V hk hl hv) i e)
    pointwise
    split_ifs <;> first | omega | skip
    exact congrArg (fun r => outK _ _ _ _ _ (ix2 r e)) (Fin.ext (by dsimp; omega))
  | 3 =>
    refine Eq.trans ?_ (outK_apply x0 x1 x2 x3 Q K L V hq hk hl hv 3 (by decide) inb_S1x256x256_S1x64x256_0_192_0 inb_S1x256x256_S1x64x256_0_192_0 inb_S1x256x256_S1x64x256_0_192_0 inb_S1x256x512_S1x64x512_0_192_0 _ (S3_apply x1 x2 x3 K L V hk hl hv) i e)
    pointwise
    split_ifs <;> first | omega | skip
    exact congrArg (fun r => outK _ _ _ _ _ (ix2 r e)) (Fin.ext (by dsimp; omega))
end

end Cert.KernelIdeal.Chunk

end
-- ==== Proof.KernelValue.lean ====
/- The kernel's two result arrays at an index, from the arguments. -/
module

public import proofs.«01_k».proof.Proof.KernelBlock
public import Idealize.ShloMosaic.Lib.Claim
public import Idealize.ShloMosaic.Lib.Pointwise
public import Idealize.ShloMosaic.Lib.Pipeline.ValueKit

@[expose] public section

set_option maxRecDepth 16384

noncomputable section

namespace Cert.KernelIdeal.Chunk

open Cert.KernelIdeal Cert.KernelIdeal.Gen Idealize.ShloMosaic Idealize.ShloMosaic.TcCoe Cert.Scan
open Idealize.ShloMosaic.Pipeline (Dat)

variable (m : (ℓ : Loc nD τ sig) → Buf (Elt Ideal) ℓ) (c : Dev nD)

/-- The windows' block indices: sequence `t / 4`, head `t % 4`, the head's columns counted in each window's own blocks. -/
theorem idx (t : Fin grid0.N) : win0_0.index t = ![t.val / 4, 0, t.val % 4] ∧ win0_1.index t = ![t.val / 4, 0, 4 + t.val % 4]
    ∧ win0_2.index t = ![t.val / 4, 0, t.val % 4] ∧ win0_3.index t = ![t.val / 4, 0, 4 + t.val % 4]
    ∧ win0_4.index t = ![t.val / 4, 0, t.val % 4] ∧ win0_5.index t = ![t.val / 4, t.val % 4, 0, 0] :=
  (by decide +kernel : ∀ t : Fin grid0.N, win0_0.index t = ![t.val / 4, 0, t.val % 4] ∧ win0_1.index t = ![t.val / 4, 0, 4 + t.val % 4]
    ∧ win0_2.index t = ![t.val / 4, 0, t.val % 4] ∧ win0_3.index t = ![t.val / 4, 0, 4 + t.val % 4]
    ∧ win0_4.index t = ![t.val / 4, 0, t.val % 4] ∧ win0_5.index t = ![t.val / 4, t.val % 4, 0, 0]) t

/-- The grid point of a sequence and a head. -/
def pt (b : Fin 32) (h : Fin 4) : Fin cfg0.N := ⟨4 * b.val + h.val, by rw [show cfg0.N = 128 from N_0]; omega⟩

theorem idx_pt (b : Fin 32) (h : Fin 4) : win0_0.index (pt b h) = ![b.val, 0, h.val] ∧ win0_1.index (pt b h) = ![b.val, 0, 4 + h.val]
    ∧ win0_2.index (pt b h) = ![b.val, 0, h.val] ∧ win0_3.index (pt b h) = ![b.val, 0, 4 + h.val]
    ∧ win0_4.index (pt b h) = ![b.val, 0, h.val] ∧ win0_5.index (pt b h) = ![b.val, h.val, 0, 0] := by
  have hi := idx (pt b h)
  have h1 : (pt b h).val / 4 = b.val := by show (4 * b.val + h.val) / 4 = _; omega
  have h2 : (pt b h).val % 4 = h.val := by show (4 * b.val + h.val) % 4 = _; omega
  rw [h1, h2] at hi
  exact hi

theorem blk0 (b : Fin 32) (h : Fin 4) (p : Fin 256) (d : Fin 256) :
    iblk m c 0 (pt b h) (ix3 0 p d) = qIn (m ((c : Thread nD τ).loc main_arg0)) b h p d := by
  have hi := idx_pt b h
  unfold qIn row
  blk_simp [iblk, hi.1]
  entry_read
  pointwise
  blk_ext [hi.1]

theorem blk1 (b : Fin 32) (h : Fin 4) (p : Fin 256) (d : Fin 256) :
    iblk m c 1 (pt b h) (ix3 0 p d) = kIn (m ((c : Thread nD τ).loc main_arg0)) b h p d := by
  have hi := idx_pt b h
  unfold kIn row
  blk_simp [iblk, hi.2.1]
  entry_read
  pointwise
  blk_ext [hi.2.1]

theorem blk2 (b : Fin 32) (h : Fin 4) (p : Fin 256) (d : Fin 256) :
    iblk m c 2 (pt b h) (ix3 0 p d) = gIn (m ((c : Thread nD τ).loc main_arg1)) b h p d := by
  have hi := idx_pt b h
  unfold gIn row
  blk_simp [iblk, hi.2.2.1]
  entry_read
  pointwise
  blk_ext [hi.2.2.1]

theorem blk3 (b : Fin 32) (h : Fin 4) (p : Fin 256) (d : Fin 512) :
    iblk m c 3 (pt b h) (ix3 0 p d) = vIn (m ((c : Thread nD τ).loc main_arg0)) b h p d := by
  have hi := idx_pt b h
  unfold vIn row
  blk_simp [iblk, hi.2.2.2.1]
  entry_read
  pointwise
  blk_ext [hi.2.2.2.1]

variable (b : Fin 32) (h : Fin 4)

/-- The first result at position `i` of chunk `n` of sequence `b`, in the head's column `e`. -/
theorem o_apply (n : Fin 4) (i : Fin 64) (e : Fin 512) :
    (dats m 0 c).arrAt 4 cfg0.N (ix3 ⟨b.val, by omega⟩ (pos 256 n.val i) ⟨512 * h.val + e.val, by omega⟩)
      = glaOut (m ((c : Thread nD τ).loc main_arg0)) (m ((c : Thread nD τ).loc main_arg1)) b h n.val i e := by
  have hi := idx_pt b h
  have key := (dats m 0 c).arrAt_emb_eq_flushed 4 Value.disjoint4 (pt b h) (flush0_4 _) (ix3 0 (pos 256 n.val i) e)
  rw [Value.flushed4_A, outO_eq] at key
  refine Eq.trans (congrArg _ ?_) (key.trans ?_)
  · blk_ext [hi.2.2.2.2.1]
  · refine Eq.trans ?_ (blockO_apply (iblk m c 0 (pt b h)) (iblk m c 1 (pt b h)) (iblk m c 2 (pt b h)) (iblk m c 3 (pt b h)) (glaQ _ b h) (glaK _ b h) (glaL _ b h) (glaV _ b h) ?_ ?_ ?_ ?_ n i e)
    · rfl
    · intro n i d; rw [blk0]; rfl
    · intro n i d; rw [blk1]; rfl
    · intro n i d; rw [blk2]; rfl
    · intro n i d; rw [blk3]; rfl

/-- The second result: the state of sequence `b` and head `h` after the four chunks. -/
theorem s_apply (d : Fin 256) (e : Fin 512) :
    (dats m 0 c).arrAt 5 cfg0.N (ix4 b h d e)
      = glaState (m ((c : Thread nD τ).loc main_arg0)) (m ((c : Thread nD τ).loc main_arg1)) b h 4 d e := by
  have hi := idx_pt b h
  have key := (dats m 0 c).arrAt_emb_eq_flushed 5 Value.disjoint5 (pt b h) (flush0_5 _) (ix4 0 0 d e)
  rw [Value.flushed5_A, outS_eq] at key
  refine Eq.trans (congrArg _ ?_) (key.trans ?_)
  · blk_ext [hi.2.2.2.2.2]
  · refine Eq.trans ?_ (blockS_apply (iblk m c 1 (pt b h)) (iblk m c 2 (pt b h)) (iblk m c 3 (pt b h)) (glaK _ b h) (glaL _ b h) (glaV _ b h) ?_ ?_ ?_ d e)
    · rfl
    · intro n i d; rw [blk1]; rfl
    · intro n i d; rw [blk2]; rfl
    · intro n i d; rw [blk3]; rfl

end Cert.KernelIdeal.Chunk

end
-- ==== Proof.Cumsum.lean ====
/- A running sum along the fourth of five axes, as a window sum prints it, at an index. -/
module

public import Idealize.ShloMosaic.Lib.Pointwise

@[expose] public section

noncomputable section

namespace Cert.Scan

open Idealize.ShloMosaic

theorem foldl_add {ι : Type} (f : ι → EReal) (l : List ι) (v : EReal) :
    l.foldl (fun r a => r + f a) v = v + (l.map f).sum := by
  induction l generalizing v with
  | nil => simp
  | cons a l ih => rw [List.foldl_cons, ih, List.map_cons, List.sum_cons, add_assoc]

/-- A window's positions, one axis long, as the positions on that axis. -/
def line (N : ℕ) : Fin N ≃ (⟨5, ![1, 1, 1, N, 1]⟩ : Shape).Idx where
  toFun k := ix5 (n0 := 1) (n1 := 1) (n2 := 1) (n3 := N) (n4 := 1) 0 0 0 k 0
  invFun w := w 3
  left_inv _ := rfl
  right_inv w := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- A window of `N` positions over a line padded low by `N - 1` sums the line's entries up to `j`. -/
theorem sum_line {N M : ℕ} (hN : M + 1 = N) (j : Fin N) (f : Fin N → EReal) :
    (∑ k : Fin N, if hk : M ≤ j.val + k.val ∧ j.val + k.val - M < N then f ⟨j.val + k.val - M, hk.2⟩ else 0)
      = ∑ k : Fin N, if k ≤ j then f k else 0 := by
  subst hN
  have hj := j.isLt
  refine Fintype.sum_equiv (Equiv.addRight (j + 1)) _ _ fun k => ?_
  have hk := k.isLt
  have hv : (k + (j + 1)).val = (k.val + (j.val + 1)) % (M + 1) := by
    rw [Fin.val_add, Fin.val_add, Nat.add_mod_mod, ← Nat.add_assoc, Fin.val_one', Nat.add_mod_mod, Nat.add_assoc]
  simp only [Equiv.coe_addRight, Fin.le_def, hv]
  by_cases hc : M ≤ j.val + k.val
  · have e : (k.val + (j.val + 1)) % (M + 1) = j.val + k.val - M := by
      rw [Nat.mod_eq_sub_mod (by omega), Nat.mod_eq_of_lt (by omega)]; omega
    rw [dif_pos ⟨hc, by omega⟩, e, if_pos (by omega)]
    exact congrArg f (Fin.ext (by rw [hv, e]))
  · rw [dif_neg (by omega), Nat.mod_eq_of_lt (by omega), if_neg (by omega)]

theorem cumsum5 {A B C N M D : ℕ} (hN : M + 1 = N) (x : (⟨5, ![A, B, C, N, D]⟩ : Shape).Idx → EReal)
    (h : (⟨5, ![A, B, C, N, D]⟩ : Shape).ReduceWindows ![1, 1, 1, N, 1] ![1, 1, 1, 1, 1] ![0, 0, 0, M, 0] ![0, 0, 0, 0, 0] ⟨5, ![A, B, C, N, D]⟩)
    (a : Fin A) (b : Fin B) (c : Fin C) (j : Fin N) (d : Fin D) :
    Ideal.hostReduceWindowAdd ![1, 1, 1, N, 1] ![1, 1, 1, 1, 1] ![0, 0, 0, M, 0] ![0, 0, 0, 0, 0] h x 0 (ix5 a b c j d)
      = ∑ k : Fin N, if k ≤ j then x (ix5 a b c k d) else 0 := by
  rw [← sum_line hN j fun k => x (ix5 a b c k d)]
  unfold Ideal.hostReduceWindowAdd Host.reduceWindow
  dsimp only
  rw [foldl_add, zero_add, ← Fin.sum_univ_def]
  refine Fintype.sum_equiv ((⟨5, ![1, 1, 1, N, 1]⟩ : Shape).rowMajor.symm.trans (line N).symm) _ _ fun n => ?_
  have hk : ((((⟨5, ![1, 1, 1, N, 1]⟩ : Shape).rowMajor.symm).trans (line N).symm) n).val = ((⟨5, ![1, 1, 1, N, 1]⟩ : Shape).rowMajor.symm n 3).val := rfl
  generalize (((⟨5, ![1, 1, 1, N, 1]⟩ : Shape).rowMajor.symm).trans (line N).symm) n = k at hk ⊢
  have hw0 : ((⟨5, ![1, 1, 1, N, 1]⟩ : Shape).rowMajor.symm n 0).val = 0 := Nat.lt_one_iff.1 ((⟨5, ![1, 1, 1, N, 1]⟩ : Shape).rowMajor.symm n 0).isLt
  have hw1 : ((⟨5, ![1, 1, 1, N, 1]⟩ : Shape).rowMajor.symm n 1).val = 0 := Nat.lt_one_iff.1 ((⟨5, ![1, 1, 1, N, 1]⟩ : Shape).rowMajor.symm n 1).isLt
  have hw2 : ((⟨5, ![1, 1, 1, N, 1]⟩ : Shape).rowMajor.symm n 2).val = 0 := Nat.lt_one_iff.1 ((⟨5, ![1, 1, 1, N, 1]⟩ : Shape).rowMajor.symm n 2).isLt
  have hw4 : ((⟨5, ![1, 1, 1, N, 1]⟩ : Shape).rowMajor.symm n 4).val = 0 := Nat.lt_one_iff.1 ((⟨5, ![1, 1, 1, N, 1]⟩ : Shape).rowMajor.symm n 4).isLt
  have hj := j.isLt
  by_cases hc : M ≤ j.val + k.val ∧ j.val + k.val - M < N
  · rw [dif_pos hc, dif_pos]
    · refine congrArg x (funext fun a' => ?_)
      match a' with
      | ⟨0, _⟩ => exact Fin.ext (by show a.val * 1 + ((⟨5, ![1, 1, 1, N, 1]⟩ : Shape).rowMajor.symm n 0).val - 0 = a.val; rw [hw0]; omega)
      | ⟨1, _⟩ => exact Fin.ext (by show b.val * 1 + ((⟨5, ![1, 1, 1, N, 1]⟩ : Shape).rowMajor.symm n 1).val - 0 = b.val; rw [hw1]; omega)
      | ⟨2, _⟩ => exact Fin.ext (by show c.val * 1 + ((⟨5, ![1, 1, 1, N, 1]⟩ : Shape).rowMajor.symm n 2).val - 0 = c.val; rw [hw2]; omega)
      | ⟨3, _⟩ => exact Fin.ext (by show j.val * 1 + ((⟨5, ![1, 1, 1, N, 1]⟩ : Shape).rowMajor.symm n 3).val - M = j.val + k.val - M; rw [hk]; omega)
      | ⟨4, _⟩ => exact Fin.ext (by show d.val * 1 + ((⟨5, ![1, 1, 1, N, 1]⟩ : Shape).rowMajor.symm n 4).val - 0 = d.val; rw [hw4]; omega)
    · intro a'
      match a' with
      | ⟨0, _⟩ => show 0 ≤ a.val * 1 + ((⟨5, ![1, 1, 1, N, 1]⟩ : Shape).rowMajor.symm n 0).val ∧ a.val * 1 + ((⟨5, ![1, 1, 1, N, 1]⟩ : Shape).rowMajor.symm n 0).val - 0 < A; rw [hw0]; have := a.isLt; omega
      | ⟨1, _⟩ => show 0 ≤ b.val * 1 + ((⟨5, ![1, 1, 1, N, 1]⟩ : Shape).rowMajor.symm n 1).val ∧ b.val * 1 + ((⟨5, ![1, 1, 1, N, 1]⟩ : Shape).rowMajor.symm n 1).val - 0 < B; rw [hw1]; have := b.isLt; omega
      | ⟨2, _⟩ => show 0 ≤ c.val * 1 + ((⟨5, ![1, 1, 1, N, 1]⟩ : Shape).rowMajor.symm n 2).val ∧ c.val * 1 + ((⟨5, ![1, 1, 1, N, 1]⟩ : Shape).rowMajor.symm n 2).val - 0 < C; rw [hw2]; have := c.isLt; omega
      | ⟨3, _⟩ => show M ≤ j.val * 1 + ((⟨5, ![1, 1, 1, N, 1]⟩ : Shape).rowMajor.symm n 3).val ∧ j.val * 1 + ((⟨5, ![1, 1, 1, N, 1]⟩ : Shape).rowMajor.symm n 3).val - M < N; rw [← hk]; omega
      | ⟨4, _⟩ => show 0 ≤ d.val * 1 + ((⟨5, ![1, 1, 1, N, 1]⟩ : Shape).rowMajor.symm n 4).val ∧ d.val * 1 + ((⟨5, ![1, 1, 1, N, 1]⟩ : Shape).rowMajor.symm n 4).val - 0 < D; rw [hw4]; have := d.isLt; omega
  · rw [dif_neg hc, dif_neg]
    intro hin
    have h3 := hin 3
    change M ≤ j.val * 1 + ((⟨5, ![1, 1, 1, N, 1]⟩ : Shape).rowMajor.symm n 3).val ∧ j.val * 1 + ((⟨5, ![1, 1, 1, N, 1]⟩ : Shape).rowMajor.symm n 3).val - M < N at h3
    rw [← hk] at h3
    omega

end Cert.Scan

end
-- ==== Proof.RefBase.lean ====
/- The reference's arrays before the recurrence, at an index: scaled queries, keys, values and log decays cut into chunks. -/
module

public import proofs.«01_k».proof.Proof.Spec
public import proofs.«01_k».proof.Proof.Cumsum
public import proofs.«01_k».proof.Proof.Gen.ReferenceIdeal.Read
public import Idealize.ShloMosaic.Lib.Pointwise

@[expose] public section

set_option maxRecDepth 16384

noncomputable section

namespace Cert.ReferenceIdeal.Chunk

open Cert.ReferenceIdeal Cert.ReferenceIdeal.Gen Cert.ReferenceIdeal.Read Idealize.ShloMosaic Cert.Scan

variable (x0 : Vec Ideal S24576x6144 .f32) (x1 : Vec Ideal S24576x2048 .f32)
variable (b : Fin 32) (h n : Fin 4) (i : Fin 64)

theorem coe_max (x y : ℝ) : ((max x y : ℝ) : EReal) = max (x : EReal) (y : EReal) := EReal.coe_strictMono.monotone.map_max

theorem coe_min (x y : ℝ) : ((min x y : ℝ) : EReal) = min (x : EReal) (y : EReal) := EReal.coe_strictMono.monotone.map_min

/-- The logarithm of the logistic function as the reference prints it, over sixteen, is the spec's log decay. -/
theorem logSigmoid_div (z : EReal) :
    Ideal.div (-if -z ≠ -z then -z else max (-z) 0 + Ideal.log1p (Ideal.exp (-FloatOps.absf (F := Ideal) (φ := .f32) (-z))))
      (Ideal.ofBits .f32 0x41800000#32) = logDecay z := by
  have h16 : Ideal.ofBits .f32 0x41800000#32 = ((16 : ℝ) : EReal) := by
    simp [Ideal.ofBits, Ideal.ieee, -EReal.coe_mul]; norm_num
  have h1 : Ideal.ofBits .f32 0x3D800000#32 = ((1 / 16 : ℝ) : EReal) := by
    simp [Ideal.ofBits, Ideal.ieee, -EReal.coe_mul]; norm_num
  rw [if_neg (fun hne => hne rfl), h16, Ideal.div_coe (by norm_num), ← h1]
  show -(max (-z) 0 + Ideal.log (1 + Ideal.exp (-(max (-z) (- -z))))) * _ = (min z 0 - Ideal.log (1 + Ideal.exp (0 - max z (-z)))) * _
  rw [neg_neg, max_comm (-z) z, zero_sub]
  congr 1
  have hw : ∃ r : ℝ, Ideal.log (1 + Ideal.exp (-(max z (-z)))) = (r : EReal) := by
    have he : ∃ t : ℝ, 0 ≤ t ∧ Ideal.exp (-(max z (-z))) = (t : EReal) := by
      induction z using EReal.rec with
      | bot => exact ⟨0, le_refl 0, by simp⟩
      | top => exact ⟨0, le_refl 0, by simp⟩
      | coe x => exact ⟨Real.exp (-(max x (-x))), (Real.exp_pos _).le, by
          rw [← EReal.coe_neg, ← coe_max, ← EReal.coe_neg, Ideal.exp_coe]⟩
    obtain ⟨t, ht, he⟩ := he
    rw [he, ← EReal.coe_one, ← EReal.coe_add]
    exact ⟨Real.log (1 + t), by show (if 1 + t ≤ 0 then ⊥ else (Real.log (1 + t) : EReal)) = _; rw [if_neg (by linarith)]⟩
  obtain ⟨r, hr⟩ := hw
  rw [hr, EReal.neg_add (Or.inr (EReal.coe_ne_top r)) (Or.inr (EReal.coe_ne_bot r))]
  congr 1
  induction z using EReal.rec with
  | bot => simp
  | top => simp
  | coe x =>
    rw [← EReal.coe_neg, ← EReal.coe_zero, ← coe_max, ← coe_min, ← EReal.coe_neg]
    congr 1
    rw [← min_neg_neg, neg_neg, neg_zero]

theorem q_apply (d : Fin 256) : val_main_v22 (F := Ideal) x0 (ix5 b h n i d) = glaQ x0 b h n.val i d := by
  unfold glaQ qIn row
  rw [pos_eq 256 n.val i (by omega)]
  pointwise [val_main_v22, val_main_v16, val_main_v15, val_main_cst_0, val_main_v14, val_main_v13, val_main_v4, val_main_v1, val_main_v0]
  exact congrArg (· * _) (congrArg x0 (congrArg₂ ix2 (Fin.ext (by dsimp; omega)) (Fin.ext (by dsimp; omega))))
theorem k_apply (d : Fin 256) : val_main_v23 (F := Ideal) x0 (ix5 b h n i d) = glaK x0 b h n.val i d := by
  unfold glaK kIn row
  rw [pos_eq 256 n.val i (by omega)]
  pointwise [val_main_v23, val_main_v18, val_main_v17, val_main_v5, val_main_v1, val_main_v0]
  exact congrArg x0 (congrArg₂ ix2 (Fin.ext (by dsimp; omega)) (Fin.ext (by dsimp; omega)))
theorem v_apply (d : Fin 512) : val_main_v24 (F := Ideal) x0 (ix5 b h n i d) = glaV x0 b h n.val i d := by
  unfold glaV vIn row
  rw [pos_eq 256 n.val i (by omega)]
  pointwise [val_main_v24, val_main_v20, val_main_v19, val_main_v6, val_main_v1, val_main_v0]
  exact congrArg x0 (congrArg₂ ix2 (Fin.ext (by dsimp; omega)) (Fin.ext (by dsimp; omega)))
theorem l_apply (d : Fin 256) : val_main_v25 (F := Ideal) x1 (ix5 b h n i d) = glaL x1 b h n.val i d := by
  unfold glaL gIn row
  rw [pos_eq 256 n.val i (by omega)]
  pointwise [val_main_v25, val_main_v12, val_main_v11, val_main_v10, val_main_v9, val_main_v8, val_main_cst, val_main_v3, val_main_v2, val_main_call0_v1, val_main_call0_v0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  rw [logSigmoid_div]
  exact congrArg logDecay (congrArg x1 (congrArg₂ ix2 (Fin.ext (by dsimp; omega)) (Fin.ext (by dsimp; omega))))

theorem cum_apply (d : Fin 256) : val_main_v26 (F := Ideal) x1 (ix5 b h n i d) = cum (glaL x1 b h) n.val i d := by
  have h0 : val_main_call1_call0_v0 (F := Ideal) (Shape.Idx.first h_S_) = 0 := by
    rw [show Shape.Idx.first h_S_ = ix0 from funext fun a => a.elim0]
    pointwise [val_main_call1_call0_v0, val_main_call1_call0_cst]
  unfold val_main_v26 Host.reduceWindowAdd
  rw [Ideal.hostReduceWindowAdd_def, h0]
  refine (cumsum5 (M := 63) rfl _ _ b h n i d).trans (Finset.sum_congr rfl fun j _ => ?_)
  rw [l_apply]

end Cert.ReferenceIdeal.Chunk

end
-- ==== Proof.RefValue.lean ====
/- The reference's outputs and final state, at an index. -/
module

public import proofs.«01_k».proof.Proof.RefBase

@[expose] public section

set_option maxRecDepth 16384

noncomputable section

namespace Cert.ReferenceIdeal.Chunk

open Cert.ReferenceIdeal Cert.ReferenceIdeal.Gen Cert.ReferenceIdeal.Read Idealize.ShloMosaic Cert.Scan

variable (x0 : Vec Ideal S24576x6144 .f32) (x1 : Vec Ideal S24576x2048 .f32)
variable (b : Fin 32) (h n : Fin 4) (i : Fin 64)

/-- Row `i` of a square is not above column `j`, as a bit. -/
theorem ge_word (i j : Fin 64) :
    Scalar.select (IntOp.cmpi CmpIPredicate.sge (IntOp.addi (BitVec.ofNat 32 i.val) 0#32) (BitVec.ofNat 32 j.val)) 1#1 0#1 = if j ≤ i then 1#1 else 0#1 := by
  revert i j
  decide +kernel

theorem score_apply (j : Fin 64) : val_main_v37 (F := Ideal) x0 x1 (ix5 b h n i j) = score (glaQ x0 b h) (glaK x0 b h) (glaL x1 b h) n.val i j := by
  pointwise [val_main_v37, val_main_v36, val_main_v35, val_main_v34, val_main_v33, val_main_v27, val_main_v32, val_main_v31, val_main_v30, val_main_v29]
  simp only [q_apply, k_apply, cum_apply]
  rfl

theorem mask_apply (j : Fin 64) : val_main_v39 (F := Ideal) (ix2 i j) = if j ≤ i then 1#1 else 0#1 := by
  pointwise [val_main_v39, val_main_v38, val_main_c, val_main_call2_v0, val_main_call2_v1, val_main_call2_v2, val_main_call2_v3, val_main_call2_v4, val_main_call2_v5, val_main_call2_c, val_main_call2_c_0]
  exact ge_word i j

theorem intra_apply (e : Fin 512) :
    val_main_v41 (F := Ideal) x0 x1 (ix5 b h n i e) = intra (glaQ x0 b h) (glaK x0 b h) (glaL x1 b h) (glaV x0 b h) n.val i e := by
  pointwise [val_main_v41, val_main_v40, val_main_call3_v1, val_main_call3_v2, val_main_call3_v0, val_main_cst_2]
  simp only [v_apply, mask_apply, score_apply]
  unfold intra
  refine Finset.sum_congr rfl fun j _ => ?_
  have hz : id (constant (F := Ideal) S_ .f32 0#32) ix0 = 0 := Ideal.ofBits_zero_f32
  rw [hz]
  by_cases hj : j ≤ i
  · rw [if_pos hj, if_pos hj]; rfl
  · rw [if_neg hj, if_neg hj]; rfl

theorem qInter_apply (d : Fin 256) :
    val_main_v43 (F := Ideal) x0 x1 (ix5 b h n i d) = glaQ x0 b h n.val i d * Ideal.exp (cum (glaL x1 b h) n.val i d) := by
  pointwise [val_main_v43, val_main_v42]
  simp only [q_apply, cum_apply]

theorem kUpd_apply (d : Fin 256) :
    val_main_v47 (F := Ideal) x0 x1 (ix5 b h n i d)
      = glaK x0 b h n.val i d * Ideal.exp (cum (glaL x1 b h) n.val 63 d - cum (glaL x1 b h) n.val i d) := by
  pointwise [val_main_v47, val_main_v46, val_main_v45, val_main_v44, val_main_v28]
  simp only [k_apply, cum_apply]

theorem decay_apply (d : Fin 256) : val_main_v49 (F := Ideal) x1 (ix4 b h n d) = Ideal.exp (cum (glaL x1 b h) n.val 63 d) := by
  pointwise [val_main_v49, val_main_v48, val_main_v28]
  simp only [cum_apply]

theorem state0_apply (d : Fin 256) (e : Fin 512) : val_main_v21 (F := Ideal) (ix4 b h d e) = glaState x0 x1 b h 0 d e := by
  pointwise [glaState, state, val_main_v21, val_main_cst_1]

theorem state1_apply (d : Fin 256) (e : Fin 512) : val_main_v63 (F := Ideal) x0 x1 (ix4 b h d e) = glaState x0 x1 b h 1 d e := by
  pointwise [val_main_v53, val_main_v54, val_main_v55, val_main_v56, val_main_v57, val_main_v58, val_main_v59, val_main_v60, val_main_v61, val_main_v62, val_main_v63]
  simp only [state0_apply x0 x1, decay_apply, kUpd_apply, v_apply]
  rfl

theorem inter0_apply (e : Fin 512) :
    val_main_v52 (F := Ideal) x0 x1 (ix4 b h i e)
      = inter (glaQ x0 b h) (glaK x0 b h) (glaL x1 b h) (glaV x0 b h) (fun _ _ => 0) 0 i e := by
  pointwise [val_main_v50, val_main_v51, val_main_v52]
  simp only [state0_apply x0 x1, qInter_apply]
  rfl

theorem state2_apply (d : Fin 256) (e : Fin 512) : val_main_v77 (F := Ideal) x0 x1 (ix4 b h d e) = glaState x0 x1 b h 2 d e := by
  pointwise [val_main_v67, val_main_v68, val_main_v69, val_main_v70, val_main_v71, val_main_v72, val_main_v73, val_main_v74, val_main_v75, val_main_v76, val_main_v77]
  simp only [state1_apply x0 x1, decay_apply, kUpd_apply, v_apply]
  rfl

theorem inter1_apply (e : Fin 512) :
    val_main_v66 (F := Ideal) x0 x1 (ix4 b h i e)
      = inter (glaQ x0 b h) (glaK x0 b h) (glaL x1 b h) (glaV x0 b h) (fun _ _ => 0) 1 i e := by
  pointwise [val_main_v64, val_main_v65, val_main_v66]
  simp only [state1_apply x0 x1, qInter_apply]
  rfl

theorem state3_apply (d : Fin 256) (e : Fin 512) : val_main_v91 (F := Ideal) x0 x1 (ix4 b h d e) = glaState x0 x1 b h 3 d e := by
  pointwise [val_main_v81, val_main_v82, val_main_v83, val_main_v84, val_main_v85, val_main_v86, val_main_v87, val_main_v88, val_main_v89, val_main_v90, val_main_v91]
  simp only [state2_apply x0 x1, decay_apply, kUpd_apply, v_apply]
  rfl

theorem inter2_apply (e : Fin 512) :
    val_main_v80 (F := Ideal) x0 x1 (ix4 b h i e)
      = inter (glaQ x0 b h) (glaK x0 b h) (glaL x1 b h) (glaV x0 b h) (fun _ _ => 0) 2 i e := by
  pointwise [val_main_v78, val_main_v79, val_main_v80]
  simp only [state2_apply x0 x1, qInter_apply]
  rfl

theorem state4_apply (d : Fin 256) (e : Fin 512) : val_main_v105 (F := Ideal) x0 x1 (ix4 b h d e) = glaState x0 x1 b h 4 d e := by
  pointwise [val_main_v95, val_main_v96, val_main_v97, val_main_v98, val_main_v99, val_main_v100, val_main_v101, val_main_v102, val_main_v103, val_main_v104, val_main_v105]
  simp only [state3_apply x0 x1, decay_apply, kUpd_apply, v_apply]
  rfl

theorem inter3_apply (e : Fin 512) :
    val_main_v94 (F := Ideal) x0 x1 (ix4 b h i e)
      = inter (glaQ x0 b h) (glaK x0 b h) (glaL x1 b h) (glaV x0 b h) (fun _ _ => 0) 3 i e := by
  pointwise [val_main_v92, val_main_v93, val_main_v94]
  simp only [state3_apply x0 x1, qInter_apply]
  rfl

theorem interAll_apply (e : Fin 512) :
    val_main_v110 (F := Ideal) x0 x1 (ix5 b h n i e)
      = inter (glaQ x0 b h) (glaK x0 b h) (glaL x1 b h) (glaV x0 b h) (fun _ _ => 0) n.val i e := by
  match n with
  | 0 =>
    refine Eq.trans ?_ (inter0_apply x0 x1 b h i e)
    pointwise [val_main_v110, val_main_v106, val_main_v107, val_main_v108, val_main_v109]
  | 1 =>
    refine Eq.trans ?_ (inter1_apply x0 x1 b h i e)
    pointwise [val_main_v110, val_main_v106, val_main_v107, val_main_v108, val_main_v109]
  | 2 =>
    refine Eq.trans ?_ (inter2_apply x0 x1 b h i e)
    pointwise [val_main_v110, val_main_v106, val_main_v107, val_main_v108, val_main_v109]
  | 3 =>
    refine Eq.trans ?_ (inter3_apply x0 x1 b h i e)
    pointwise [val_main_v110, val_main_v106, val_main_v107, val_main_v108, val_main_v109]

/-- The reference's output at position `i` of chunk `n` of sequence `b`, in the head's column `e`. -/
theorem out_apply (e : Fin 512) :
    val_main_v115 (F := Ideal) x0 x1 (ix3 ⟨b.val, by omega⟩ (pos 256 n.val i) ⟨512 * h.val + e.val, by omega⟩) = glaOut x0 x1 b h n.val i e := by
  rw [pos_eq 256 n.val i (by omega)]
  have key : val_main_v111 (F := Ideal) x0 x1 (ix5 b h n i e) = glaOut x0 x1 b h n.val i e := by
    pointwise [val_main_v111]
    rw [intra_apply, interAll_apply]
    rfl
  rw [← key]
  pointwise [val_main_v115, val_main_v114, val_main_v113, val_main_v112, val_main_call4_v0, val_main_c_3]
  rw [dif_pos ⟨by omega, by omega⟩]

end Cert.ReferenceIdeal.Chunk

end
-- ==== Proof.Algebraic.lean ====
/- The two programs' results, equal over the extended reals on the prompt's rows. -/
module

public import proofs.«01_k».proof.Defs
public import proofs.«01_k».proof.Proof.KernelValue
public import proofs.«01_k».proof.Proof.RefValue
public import proofs.«01_k».proof.Proof.Gen.ReferenceIdeal.Run
public import proofs.«01_k».proof.Proof.Gen.On_prompt_rows

@[expose] public section

set_option maxRecDepth 16384

noncomputable section

namespace Cert.Proof

open Idealize.ShloMosaic Idealize.SL.Sem Cert.Scan

/-- Row `p` of a sequence is position `p % 64` of chunk `p / 64`. -/
theorem pos_divmod (p : Fin 256) : pos 256 (p.val / 64) ⟨p.val % 64, Nat.mod_lt _ (by decide)⟩ = p := by
  rw [pos_eq 256 _ _ (by show 64 * (p.val / 64) + p.val % 64 < 256; omega)]
  exact Fin.ext (by show 64 * (p.val / 64) + p.val % 64 = p.val; omega)

/-- The mask selects sequences of the prompt only. -/
theorem mask_lt (a0 : Vec Ideal Cert.On_prompt_rows.S24576x6144 .f32) (a1 : Vec Ideal Cert.On_prompt_rows.S24576x2048 .f32) (a : Fin 96) (p : Fin 256)
    (j : Fin 2048) (hm : (Cert.On_prompt_rows.fn (F := Ideal) a0 a1).1 (ix3 a p j) = 1#1) : a.val < 32 := by
  have h : IntOp.cmpi .slt (BitVec.ofNat 32 a.val) 32#32 = 1#1 := hm
  revert h
  exact (by decide +kernel : ∀ a : Fin 96, IntOp.cmpi .slt (BitVec.ofNat 32 a.val) 32#32 = 1#1 → a.val < 32) a

section
variable (m : (ℓ : Loc Cert.KernelIdeal.nD Cert.KernelIdeal.τ Cert.KernelIdeal.sig) → Buf (Elt Ideal) ℓ) (c : Dev Cert.KernelIdeal.nD)

theorem o_eq (i : (⟨3, ![96, 256, 2048]⟩ : Shape).Idx)
    (hm : (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1) :
    (Cert.KernelIdeal.Gen.dats m 0 c).arrAt 4 Cert.KernelIdeal.cfg0.N i
      = Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) i := by
  idx_vars i
  have h0 := mask_lt _ _ _ _ _ hm
  have e2 : i2 = ⟨512 * (i2.val / 512) + i2.val % 512, by omega⟩ := Fin.ext (by dsimp; omega)
  have hk := Cert.KernelIdeal.Chunk.o_apply m c ⟨i0.val, h0⟩ ⟨i2.val / 512, by omega⟩ ⟨i1.val / 64, by omega⟩ ⟨i1.val % 64, Nat.mod_lt _ (by decide)⟩ ⟨i2.val % 512, Nat.mod_lt _ (by decide)⟩
  have hr := Cert.ReferenceIdeal.Chunk.out_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) ⟨i0.val, h0⟩ ⟨i2.val / 512, by omega⟩ ⟨i1.val / 64, by omega⟩ ⟨i1.val % 64, Nat.mod_lt _ (by decide)⟩ ⟨i2.val % 512, Nat.mod_lt _ (by decide)⟩
  dsimp only at hk hr
  rw [pos_divmod i1, ← e2] at hk hr
  exact hk.trans hr.symm

theorem s_eq (i : (⟨4, ![32, 4, 256, 512]⟩ : Shape).Idx) :
    (Cert.KernelIdeal.Gen.dats m 0 c).arrAt 5 Cert.KernelIdeal.cfg0.N i
      = Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) i := by
  idx_vars i
  exact (Cert.KernelIdeal.Chunk.s_apply m c i0 i1 i2 i3).trans (Cert.ReferenceIdeal.Chunk.state4_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) i0 i1 i2 i3).symm
end

theorem algebraic : Cert.algebraic_KernelIdeal_ReferenceIdeal_on_prompt_rows := by
  intro m g m' g' _ hagree
  refine ⟨fun c => Cert.ReferenceIdeal.Read.val_main_v115 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Value.run_blocks m g)
    obtain ⟨h0, h1, h2, h3⟩ := h c
    refine ⟨fun i hm => ?_, fun i _ => ?_, h2, h3⟩
    · rw [h0]; exact o_eq m c i hm
    · rw [h1]; exact s_eq m c i
  · refine (θ_run Cert.ReferenceIdeal.defs _ _).mono (fun r h c => ?_) (Cert.ReferenceIdeal.Value.run m' g')
    obtain ⟨h0, h1, h2, h3⟩ := h c
    refine ⟨fun i _ => ?_, fun i _ => ?_, h2, h3⟩
    · rw [h0, Cert.ReferenceIdeal.Read.val_main_v115_eq, (hagree c).1, (hagree c).2]
    · rw [h1, Cert.ReferenceIdeal.Read.val_main_v105_eq, (hagree c).1, (hagree c).2]

end Cert.Proof

end
-- ==== Proof.UpKernel.lean ====
/- The gated half of the dense feed-forward: what the kernel leaves at an index, a gate times a product of two sums. -/
module

public import proofs.«01_k».proof.Proof.Gen.UpIdeal.Value
public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.Linear

open Idealize.ShloMosaic

/-- The gated product: `a` times the logistic function of `a` times `b`. -/
def gated (a b : EReal) : EReal := a * Ideal.div (1 : EReal) (1 + Ideal.exp (-a)) * b

end Cert.Linear

namespace Cert.UpIdeal.Lin

open Cert.UpIdeal Cert.UpIdeal.Gen Idealize.ShloMosaic Idealize.ShloMosaic.TcCoe Cert.Linear
open Idealize.ShloMosaic.Pipeline (Dat)

/-- One entry of the result, from the three arguments. -/
def upAt (x : Vec Ideal S24576x2048 .bf16) (w1 w3 : Vec Ideal S2x2048x5632 .f32) (i : Fin 24576) (j : Fin 5632) : EReal :=
  gated (∑ k : Fin 2048, x (ix2 i k) * w1 (ix3 0 k j)) (∑ k : Fin 2048, x (ix2 i k) * w3 (ix3 0 k j))

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S1x2048x512 .f32) (k : Fin 2048) (j : Fin 512) : k0_pay1 w (ix2 k j) = w (ix3 0 k j) := by
  pointwise [k0_pay1]

theorem pay2_apply (w : Vec Ideal S1x2048x512 .f32) (k : Fin 2048) (j : Fin 512) : k0_pay2 w (ix2 k j) = w (ix3 0 k j) := by
  pointwise [k0_pay2]

theorem pay3_apply (x : Vec Ideal S1024x2048 .bf16) (a b : Vec Ideal S2048x512 .bf16) (i : Fin 1024) (j : Fin 512) :
    k0_pay3 x a b (ix2 i j) = gated (∑ k : Fin 2048, x (ix2 i k) * a (ix2 k j)) (∑ k : Fin 2048, x (ix2 i k) * b (ix2 k j)) := by
  unfold gated
  pointwise [k0_pay3]
  simp only [Ideal.ofBits_one_f32, Ideal.ofBits_zero_f32, zero_sub]

section
variable (x0 : Vec Ideal S1024x2048 .bf16) (x1 x2 : Vec Ideal S1x2048x512 .f32)
variable (c : Dev nD) (i : grid0.Coords) (a2 : Memref sig .tc .vmem S1024x2048 .bf16) (h2 : a2.IsWhole)
    (a3 : Memref sig .tc .vmem S1x2048x512 .f32) (h3 : a3.IsWhole) (a4 : Memref sig .tc .vmem S1x2048x512 .f32) (h4 : a4.IsWhole)
    (a5 : Memref sig .tc .vmem S1024x512 .bf16) (h5 : a5.IsWhole) (a6 : Memref sig .tc .vmem S2048x512 .bf16) (h6 : a6.IsWhole)
    (a7 : Memref sig .tc .vmem S2048x512 .bf16) (h7 : a7.IsWhole)

theorem scr0_eq (hc0) : sout0_A_0 c i a2 h2 a3 h3 a4 h4 a5 h5 a6 h6 a7 h7 hc0 x0 x1 x2 = k0_pay1 x1 := by
  unfold sout0_A_0
  rw [View.read_writes_eq_canon _ _ _ (scover0_A_0 c i a2 h2 a3 h3 a4 h4 a5 h5 a6 h6 a7 h7 hc0 x0 x1 x2)]
  unfold kernelRun0_A
  dsimp only
  sl_unfold_words
  rw [View.canon_unit_zero hz2]
  simp only [View.readAt_eq_ld, h2.read_unread, h3.read_unread, h4.read_unread, View.ld_unit_zero (S := S1x2048x512) hz3]

theorem scr1_eq (hc0) : sout0_A_1 c i a2 h2 a3 h3 a4 h4 a5 h5 a6 h6 a7 h7 hc0 x0 x1 x2 = k0_pay2 x2 := by
  unfold sout0_A_1
  rw [View.read_writes_eq_canon _ _ _ (scover0_A_1 c i a2 h2 a3 h3 a4 h4 a5 h5 a6 h6 a7 h7 hc0 x0 x1 x2)]
  unfold kernelRun0_A
  dsimp only
  sl_unfold_words
  rw [View.canon_unit_zero hz2]
  simp only [View.readAt_eq_ld, h2.read_unread, h3.read_unread, h4.read_unread, View.ld_unit_zero (S := S1x2048x512) hz3]

theorem outA_eq (hc0) : out0_A_3 c i a2 h2 a3 h3 a4 h4 a5 h5 a6 h6 a7 h7 hc0 x0 x1 x2 = k0_pay3 x0 (k0_pay1 x1) (k0_pay2 x2) := by
  unfold out0_A_3
  rw [View.read_writes_eq_canon _ _ _ (cover0_A_3 c i a2 h2 a3 h3 a4 h4 a5 h5 a6 h6 a7 h7 hc0 x0 x1 x2)]
  unfold kernelRun0_A
  dsimp only
  sl_unfold_words
  rw [View.canon_unit_zero hz2]
  simp only [View.readCov_cons_toLoadRect, View.readAt_eq_ld, h2.read_unread, h3.read_unread, h4.read_unread, View.ld_unit_zero (S := S1x2048x512) hz3, View.ld_unit_zero (S := S1024x2048) hz2, View.ld_unit_zero (S := S2048x512) hz2, View.readCov_unit_zero (S := S2048x512) _ hz2]

theorem outB_eq (hc0) (s0 s1 : Vec Ideal S2048x512 .bf16) : out0_B_3 c i a2 h2 a3 h3 a4 h4 a5 h5 a6 h6 a7 h7 hc0 x0 x1 x2 s0 s1 = k0_pay3 x0 s0 s1 := by
  unfold out0_B_3
  rw [View.read_writes_eq_canon _ _ _ (cover0_B_3 c i a2 h2 a3 h3 a4 h4 a5 h5 a6 h6 a7 h7 hc0 x0 x1 x2 s0 s1)]
  unfold kernelRun0_B
  dsimp only
  sl_unfold_words
  rw [View.canon_unit_zero hz2]
  simp only [View.readAt_eq_ld, h2.read_unread, h3.read_unread, h4.read_unread, h6.read_unread, h7.read_unread, View.ld_unit_zero (S := S1x2048x512) hz3, View.ld_unit_zero (S := S1024x2048) hz2, View.ld_unit_zero (S := S2048x512) hz2]
end

variable (m : (ℓ : Loc nD τ sig) → Buf (Elt Ideal) ℓ) (c : Dev nD)

/-- The windows' block indices at point `t`: row block `t % 24`, column block `t / 24`. -/
theorem idx : ∀ t : Fin grid0.N, win0_0.index t = ![t.val % 24, 0] ∧ win0_1.index t = ![0, 0, t.val / 24]
    ∧ win0_2.index t = ![0, 0, t.val / 24] ∧ win0_3.index t = ![t.val % 24, t.val / 24] := by
  decide +kernel

/-- Column `j` of column block `q`. -/
def col (q : ℕ) (hq : q < 11) (j : Fin 512) : Fin 5632 := ⟨512 * q + j.val, by omega⟩

theorem div_lt {n : ℕ} (h : n < cfg0.N) : n / 24 < 11 := by
  have : n < 264 := lt_of_lt_of_eq h N_0
  omega

theorem blk0 (t : Fin cfg0.N) (i : Fin 1024) (k : Fin 2048) :
    iblk m c 0 t (ix2 i k) = m ((c : Thread nD τ).loc main_arg0) (ix2 ⟨1024 * (t.val % 24) + i.val, by omega⟩ k) := by
  have hi := idx t
  blk_simp [iblk, hi.1]
  entry_read
  pointwise
  blk_ext [hi.1]

theorem blk1 (t : Fin cfg0.N) (k : Fin 2048) (j : Fin 512) :
    iblk m c 1 t (ix3 0 k j) = m ((c : Thread nD τ).loc main_arg1) (ix3 0 k (col (t.val / 24) (div_lt t.isLt) j)) := by
  have hi := idx t
  unfold col
  blk_simp [iblk, hi.2.1]
  entry_read
  pointwise
  blk_ext [hi.2.1]

theorem blk2 (t : Fin cfg0.N) (k : Fin 2048) (j : Fin 512) :
    iblk m c 2 t (ix3 0 k j) = m ((c : Thread nD τ).loc main_arg2) (ix3 0 k (col (t.val / 24) (div_lt t.isLt) j)) := by
  have hi := idx t
  unfold col
  blk_simp [iblk, hi.2.2.1]
  entry_read
  pointwise
  blk_ext [hi.2.2.1]

theorem scratch_A (t : Fin cfg0.N) (h0 : t.val % 24 = 0) (k : Fin 2048) (j : Fin 512) :
    (outsAt0 m c t.val t.isLt).2.1 (ix2 k j) = m ((c : Thread nD τ).loc main_arg1) (ix3 0 k (col (t.val / 24) (div_lt t.isLt) j))
    ∧ (outsAt0 m c t.val t.isLt).2.2 (ix2 k j) = m ((c : Thread nD τ).loc main_arg2) (ix3 0 k (col (t.val / 24) (div_lt t.isLt) j)) := by
  rw [outsAt0_A m c t h0, scr0_eq, scr1_eq]
  exact ⟨(pay1_apply (iblk m c 1 t) k j).trans (blk1 m c t k j), (pay2_apply (iblk m c 2 t) k j).trans (blk2 m c t k j)⟩

theorem col_congr {q q' : ℕ} (h : q = q') (hq : q < 11) (hq' : q' < 11) (j : Fin 512) : col q hq j = col q' hq' j := by
  subst h; rfl

/-- The two scratch buffers hold the weights' column block of the run of points that share it. -/
theorem scratch (n : ℕ) : ∀ (hn : n < cfg0.N) (k : Fin 2048) (j : Fin 512),
    (outsAt0 m c n hn).2.1 (ix2 k j) = m ((c : Thread nD τ).loc main_arg1) (ix3 0 k (col (n / 24) (div_lt hn) j))
    ∧ (outsAt0 m c n hn).2.2 (ix2 k j) = m ((c : Thread nD τ).loc main_arg2) (ix3 0 k (col (n / 24) (div_lt hn) j)) := by
  induction n using Nat.strong_induction_on with
  | _ n ih =>
    intro hn k j
    by_cases h0 : n % 24 = 0
    · exact scratch_A m c ⟨n, hn⟩ h0 k j
    · have e : n / 24 = (n - 1) / 24 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2.1 = (outsAt0 m c (n - 1) hn').2.1 := congrArg (fun z => z.2.1) hB
      have h2 : (outsAt0 m c n hn).2.2 = (outsAt0 m c (n - 1) hn').2.2 := congrArg (fun z => z.2.2) hB
      rw [h1, h2]
      exact hp

/-- What point `t` leaves in its output block, from the blocks it reads and the scratch after it. -/
theorem out_eq (t : Fin cfg0.N) :
    (outsAt0 m c t.val t.isLt).1 = k0_pay3 (iblk m c 0 t) (outsAt0 m c t.val t.isLt).2.1 (outsAt0 m c t.val t.isLt).2.2 := by
  by_cases h0 : t.val % 24 = 0
  · rw [outsAt0_A m c t h0, scr0_eq, scr1_eq, outA_eq]
  · rw [outsAt0_B m c t h0, outB_eq]
    rfl

/-- What point `t` leaves in its output block. -/
theorem out_at (t : Fin cfg0.N) (i : Fin 1024) (j : Fin 512) :
    (outsAt0 m c t.val t.isLt).1 (ix2 i j)
      = upAt (m ((c : Thread nD τ).loc main_arg0)) (m ((c : Thread nD τ).loc main_arg1)) (m ((c : Thread nD τ).loc main_arg2))
          ⟨1024 * (t.val % 24) + i.val, by omega⟩ (col (t.val / 24) (div_lt t.isLt) j) := by
  have hs := scratch m c t.val t.isLt
  rw [out_eq]
  refine (pay3_apply (iblk m c 0 t) _ _ i j).trans ?_
  unfold upAt
  simp only [(hs _ _).1, (hs _ _).2, blk0]

/-- The result array. -/
theorem final (i : Fin 24576) (j : Fin 5632) :
    (dats m 0 c).arrAt 3 cfg0.N (ix2 i j)
      = upAt (m ((c : Thread nD τ).loc main_arg0)) (m ((c : Thread nD τ).loc main_arg1)) (m ((c : Thread nD τ).loc main_arg2)) i j := by
  rw [Value.final3]
  unfold Value.G3
  have hp : Value.pt3Of (ix2 i j) < cfg0.N := by
    rw [show cfg0.N = 264 from N_0]
    show 1 * (i.val / 1024 - 0) + 24 * (j.val / 512 - 0) < 264
    omega
  rw [dif_pos hp, ← Value.outsAt0_sweep m c _ hp]
  have h1 : (1 * (i.val / 1024 - 0) + 24 * (j.val / 512 - 0)) % 24 = i.val / 1024 := by omega
  have h2 : (1 * (i.val / 1024 - 0) + 24 * (j.val / 512 - 0)) / 24 = j.val / 512 := by omega
  have hl : Value.loc3Of (ix2 i j) = ix2 ⟨i.val % 1024, Nat.mod_lt _ (by decide)⟩ ⟨j.val % 512, Nat.mod_lt _ (by decide)⟩ := by
    funext a; fin_cases a <;> rfl
  rw [hl]
  refine (out_at m c ⟨_, hp⟩ _ _).trans (congrArg₂ (upAt _ _ _) (Fin.ext ?_) (Fin.ext ?_))
  · show 1024 * ((1 * (i.val / 1024 - 0) + 24 * (j.val / 512 - 0)) % 24) + i.val % 1024 = i.val
    rw [h1]; omega
  · show 512 * ((1 * (i.val / 1024 - 0) + 24 * (j.val / 512 - 0)) / 24) + j.val % 512 = j.val
    rw [h2]; omega

end Cert.UpIdeal.Lin

end
-- ==== Proof.UpReference.lean ====
/- The gated half of the dense feed-forward: the reference at an index, and the two programs' results equal. -/
module

public import proofs.«01_k».proof.Defs
public import proofs.«01_k».proof.Proof.UpKernel
public import proofs.«01_k».proof.Proof.Gen.UpReferenceIdeal.Read
public import proofs.«01_k».proof.Proof.Gen.UpReferenceIdeal.Run

@[expose] public section

set_option maxRecDepth 16384

noncomputable section

namespace Cert.UpReferenceIdeal.Lin

open Cert.UpReferenceIdeal Cert.UpReferenceIdeal.Gen Cert.UpReferenceIdeal.Read Idealize.ShloMosaic Cert.Linear

theorem out_apply (x0 : Vec Ideal S24576x2048 .bf16) (x1 x2 : Vec Ideal S2x2048x5632 .f32) (i : Fin 24576) (j : Fin 5632) :
    val_main_v8 (F := Ideal) x0 x1 x2 (ix2 i j) = Cert.UpIdeal.Lin.upAt x0 x1 x2 i j := by
  unfold Cert.UpIdeal.Lin.upAt gated
  pointwise [val_main_v8, val_main_v7, val_main_v6, val_main_v5, val_main_v4, val_main_v3, val_main_call0_v5, val_main_call0_v4, val_main_call0_cst_0, val_main_call0_v3, val_main_call0_v2, val_main_call0_cst, val_main_call0_v1, val_main_call0_v0, val_main_v2, val_main_v1, val_main_v0]

end Cert.UpReferenceIdeal.Lin

namespace Cert.Proof

open Idealize.ShloMosaic Idealize.SL.Sem

/-- The gated half of the dense feed-forward, equal to the reference over the extended reals. -/
theorem algebraic_up : Cert.algebraic_UpIdeal_UpReferenceIdeal := by
  intro m g m' g' _ hagree
  refine ⟨fun c => Cert.UpReferenceIdeal.Read.val_main_v8 (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)), ?_, ?_⟩
  · refine (θ_run Cert.UpIdeal.defs _ _).mono (fun r h c => ?_) (Cert.UpIdeal.Value.run_blocks m g)
    obtain ⟨h0, h1⟩ := h c
    refine ⟨?_, h1⟩
    rw [h0]
    funext i
    idx_vars i
    exact (Cert.UpIdeal.Lin.final m c i0 i1).trans (Cert.UpReferenceIdeal.Lin.out_apply _ _ _ i0 i1).symm
  · refine (θ_run Cert.UpReferenceIdeal.defs _ _).mono (fun r h c => ?_) (Cert.UpReferenceIdeal.Value.run m' g')
    obtain ⟨h0, h1⟩ := h c
    refine ⟨?_, h1⟩
    rw [h0, Cert.UpReferenceIdeal.Read.val_main_v8_eq, (hagree c).1, (hagree c).2.1, (hagree c).2.2]

theorem frame_upReference : Cert.quiescent_UpReferenceIdeal := by
  intro m g _
  exact (θ_run Cert.UpReferenceIdeal.defs _ _).mono (fun r h => ⟨fun c => (h c).2,
      Idealize.ShloMosaic.sem_eq_zero_of_no_sems (by decide) r.2⟩)
    (Cert.UpReferenceIdeal.Value.run (F := Ideal) m g)

end Cert.Proof

end
-- ==== Proof.DownKernel.lean ====
/- The closing half of the dense feed-forward: what the kernel leaves at an index, the input plus a row's factor times a sum. -/
module

public import proofs.«01_k».proof.Proof.Gen.DownIdeal.Value
public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.DownIdeal.Lin

open Cert.DownIdeal Cert.DownIdeal.Gen Idealize.ShloMosaic Idealize.ShloMosaic.TcCoe
open Idealize.ShloMosaic.Pipeline (Dat)

/-- The modulation group of a row: group 0 for the first 8192 rows, then one group for each 4096 rows. -/
def group (r : ℕ) : ℕ := if r < 8192 then 0 else 1 + (r - 8192) / 4096

theorem group_lt (r : Fin 24576) : group r.val < 8 := by
  unfold group
  split <;> omega

/-- One entry of the result, from the four arguments. -/
def downAt (a : Vec Ideal S24576x5632 .bf16) (w : Vec Ideal S2x5632x2048 .f32) (x : Vec Ideal S24576x2048 .f32)
    (g : Vec Ideal S8x1x2048 .f32) (i : Fin 24576) (j : Fin 2048) : EReal :=
  x (ix2 i j) + (∑ k : Fin 5632, a (ix2 i k) * w (ix3 0 k j)) * g (ix3 ⟨group i.val, group_lt i⟩ 0 j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S1x5632x512 .f32) (k : Fin 5632) (j : Fin 512) : k0_pay1 w (ix2 k j) = w (ix3 0 k j) := by
  pointwise [k0_pay1]

theorem pay2_apply (a : Vec Ideal S256x5632 .bf16) (w : Vec Ideal S5632x512 .bf16) (g : Vec Ideal S1x1x512 .f32) (x : Vec Ideal S256x512 .f32)
    (i : Fin 256) (j : Fin 512) :
    k0_pay2 a w g x (ix2 i j) = x (ix2 i j) + (∑ k : Fin 5632, a (ix2 i k) * w (ix2 k j)) * g (ix3 0 0 j) := by
  pointwise [k0_pay2]
  try simp only [Ideal.ofBits_zero_f32, zero_add]

section
variable (x0 : Vec Ideal S256x5632 .bf16) (x1 : Vec Ideal S1x5632x512 .f32) (x2 : Vec Ideal S256x512 .f32) (x3 : Vec Ideal S1x1x512 .f32)
variable (c : Dev nD) (i : grid0.Coords) (a2 : Memref sig .tc .vmem S256x5632 .bf16) (h2 : a2.IsWhole)
    (a3 : Memref sig .tc .vmem S1x5632x512 .f32) (h3 : a3.IsWhole) (a4 : Memref sig .tc .vmem S256x512 .f32) (h4 : a4.IsWhole)
    (a5 : Memref sig .tc .vmem S1x1x512 .f32) (h5 : a5.IsWhole) (a6 : Memref sig .tc .vmem S256x512 .f32) (h6 : a6.IsWhole)
    (a7 : Memref sig .tc .vmem S5632x512 .bf16) (h7 : a7.IsWhole)

theorem scr0_eq (hc0) : sout0_A_0 c i a2 h2 a3 h3 a4 h4 a5 h5 a6 h6 a7 h7 hc0 x0 x1 x2 x3 = k0_pay1 x1 := by
  unfold sout0_A_0
  rw [View.read_writes_eq_canon _ _ _ (scover0_A_0 c i a2 h2 a3 h3 a4 h4 a5 h5 a6 h6 a7 h7 hc0 x0 x1 x2 x3)]
  unfold kernelRun0_A
  dsimp only
  sl_unfold_words
  rw [View.canon_unit_zero hz2]
  simp only [View.readAt_eq_ld, h2.read_unread, h3.read_unread, h4.read_unread, h5.read_unread, View.ld_unit_zero (S := S1x5632x512) hz3]

theorem outA_eq (hc0) : out0_A_4 c i a2 h2 a3 h3 a4 h4 a5 h5 a6 h6 a7 h7 hc0 x0 x1 x2 x3 = k0_pay2 x0 (k0_pay1 x1) x3 x2 := by
  unfold out0_A_4
  rw [View.read_writes_eq_canon _ _ _ (cover0_A_4 c i a2 h2 a3 h3 a4 h4 a5 h5 a6 h6 a7 h7 hc0 x0 x1 x2 x3)]
  unfold kernelRun0_A
  dsimp only
  sl_unfold_words
  rw [View.canon_unit_zero hz2]
  simp only [View.readCov_cons_toLoadRect, View.readAt_eq_ld, h2.read_unread, h3.read_unread, h4.read_unread, h5.read_unread, View.ld_unit_zero (S := S1x5632x512) hz3, View.ld_unit_zero (S := S1x1x512) hz3, View.ld_unit_zero (S := S256x5632) hz2, View.ld_unit_zero (S := S256x512) hz2, View.ld_unit_zero (S := S5632x512) hz2, View.readCov_unit_zero (S := S5632x512) _ hz2]

theorem outB_eq (hc0) (s0 : Vec Ideal S5632x512 .bf16) : out0_B_4 c i a2 h2 a3 h3 a4 h4 a5 h5 a6 h6 a7 h7 hc0 x0 x1 x2 x3 s0 = k0_pay2 x0 s0 x3 x2 := by
  unfold out0_B_4
  rw [View.read_writes_eq_canon _ _ _ (cover0_B_4 c i a2 h2 a3 h3 a4 h4 a5 h5 a6 h6 a7 h7 hc0 x0 x1 x2 x3 s0)]
  unfold kernelRun0_B
  dsimp only
  sl_unfold_words
  rw [View.canon_unit_zero hz2]
  simp only [View.readAt_eq_ld, h2.read_unread, h3.read_unread, h4.read_unread, h5.read_unread, h7.read_unread, View.ld_unit_zero (S := S1x1x512) hz3, View.ld_unit_zero (S := S256x5632) hz2, View.ld_unit_zero (S := S256x512) hz2, View.ld_unit_zero (S := S5632x512) hz2]
end

variable (m : (ℓ : Loc nD τ sig) → Buf (Elt Ideal) ℓ) (c : Dev nD)

/-- The windows' block indices at point `t`: row block `t % 96`, column block `t / 96`, the group of the row block's first row. -/
theorem idx : ∀ t : Fin grid0.N, win0_0.index t = ![t.val % 96, 0] ∧ win0_1.index t = ![0, 0, t.val / 96]
    ∧ win0_2.index t = ![t.val % 96, t.val / 96] ∧ win0_3.index t = ![group (256 * (t.val % 96)), 0, t.val / 96] := by
  decide +kernel

/-- Column `j` of column block `q`. -/
def col (q : ℕ) (hq : q < 4) (j : Fin 512) : Fin 2048 := ⟨512 * q + j.val, by omega⟩

theorem col_congr {q q' : ℕ} (h : q = q') (hq : q < 4) (hq' : q' < 4) (j : Fin 512) : col q hq j = col q' hq' j := by
  subst h; rfl

theorem div_lt {n : ℕ} (h : n < cfg0.N) : n / 96 < 4 := by
  have : n < 384 := lt_of_lt_of_eq h N_0
  omega

theorem group_row (q : ℕ) (hq : q < 96) (i : ℕ) (hi : i < 256) : group (256 * q) = group (256 * q + i) := by
  unfold group
  split <;> split <;> omega

theorem blk0 (t : Fin cfg0.N) (i : Fin 256) (k : Fin 5632) :
    iblk m c 0 t (ix2 i k) = m ((c : Thread nD τ).loc main_arg0) (ix2 ⟨256 * (t.val % 96) + i.val, by omega⟩ k) := by
  have hi := idx t
  blk_simp [iblk, hi.1]
  entry_read
  pointwise
  blk_ext [hi.1]

theorem blk1 (t : Fin cfg0.N) (k : Fin 5632) (j : Fin 512) :
    iblk m c 1 t (ix3 0 k j) = m ((c : Thread nD τ).loc main_arg1) (ix3 0 k (col (t.val / 96) (div_lt t.isLt) j)) := by
  have hi := idx t
  unfold col
  blk_simp [iblk, hi.2.1]
  entry_read
  pointwise
  blk_ext [hi.2.1]

theorem blk2 (t : Fin cfg0.N) (i : Fin 256) (j : Fin 512) :
    iblk m c 2 t (ix2 i j) = m ((c : Thread nD τ).loc main_arg2) (ix2 ⟨256 * (t.val % 96) + i.val, by omega⟩ (col (t.val / 96) (div_lt t.isLt) j)) := by
  have hi := idx t
  unfold col
  blk_simp [iblk, hi.2.2.1]
  entry_read
  pointwise
  blk_ext [hi.2.2.1]

theorem blk3 (t : Fin cfg0.N) (i : Fin 256) (j : Fin 512) :
    iblk m c 3 t (ix3 0 0 j) = m ((c : Thread nD τ).loc main_arg3)
      (ix3 ⟨group (256 * (t.val % 96) + i.val), group_lt ⟨256 * (t.val % 96) + i.val, by omega⟩⟩ 0 (col (t.val / 96) (div_lt t.isLt) j)) := by
  have hi := idx t
  have hg := group_row (t.val % 96) (Nat.mod_lt _ (by decide)) i.val i.isLt
  unfold col
  blk_simp [iblk, hi.2.2.2]
  entry_read
  pointwise
  blk_ext [hi.2.2.2, hg]

theorem scratch_A (t : Fin cfg0.N) (h0 : t.val % 96 = 0) (k : Fin 5632) (j : Fin 512) :
    (outsAt0 m c t.val t.isLt).2 (ix2 k j) = m ((c : Thread nD τ).loc main_arg1) (ix3 0 k (col (t.val / 96) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 5632) (j : Fin 512),
    (outsAt0 m c n hn).2 (ix2 k j) = m ((c : Thread nD τ).loc main_arg1) (ix3 0 k (col (n / 96) (div_lt hn) j)) := by
  induction n using Nat.strong_induction_on with
  | _ n ih =>
    intro hn k j
    by_cases h0 : n % 96 = 0
    · exact scratch_A m c ⟨n, hn⟩ h0 k j
    · have e : n / 96 = (n - 1) / 96 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2 (iblk m c 3 t) (iblk m c 2 t) := by
  by_cases h0 : t.val % 96 = 0
  · rw [outsAt0_A m c t h0, scr0_eq, outA_eq]
  · rw [outsAt0_B m c t h0, outB_eq]
    rfl

/-- What point `t` leaves in its output block. -/
theorem out_at (t : Fin cfg0.N) (i : Fin 256) (j : Fin 512) :
    (outsAt0 m c t.val t.isLt).1 (ix2 i j)
      = downAt (m ((c : Thread nD τ).loc main_arg0)) (m ((c : Thread nD τ).loc main_arg1)) (m ((c : Thread nD τ).loc main_arg2)) (m ((c : Thread nD τ).loc main_arg3))
          ⟨256 * (t.val % 96) + i.val, by omega⟩ (col (t.val / 96) (div_lt t.isLt) j) := by
  have hs := scratch m c t.val t.isLt
  rw [out_eq]
  refine (pay2_apply (iblk m c 0 t) _ (iblk m c 3 t) (iblk m c 2 t) i j).trans ?_
  unfold downAt
  rw [blk3 m c t i j, blk2 m c t i j]
  simp only [hs, blk0]

/-- The result array. -/
theorem final (i : Fin 24576) (j : Fin 2048) :
    (dats m 0 c).arrAt 4 cfg0.N (ix2 i j)
      = downAt (m ((c : Thread nD τ).loc main_arg0)) (m ((c : Thread nD τ).loc main_arg1)) (m ((c : Thread nD τ).loc main_arg2)) (m ((c : Thread nD τ).loc main_arg3)) i j := by
  rw [Value.final4]
  unfold Value.G4
  have hp : Value.pt4Of (ix2 i j) < cfg0.N := by
    rw [show cfg0.N = 384 from N_0]
    show 1 * (i.val / 256 - 0) + 96 * (j.val / 512 - 0) < 384
    omega
  rw [dif_pos hp, ← Value.outsAt0_sweep m c _ hp]
  have h1 : (1 * (i.val / 256 - 0) + 96 * (j.val / 512 - 0)) % 96 = i.val / 256 := by omega
  have h2 : (1 * (i.val / 256 - 0) + 96 * (j.val / 512 - 0)) / 96 = j.val / 512 := by omega
  have hl : Value.loc4Of (ix2 i j) = ix2 ⟨i.val % 256, Nat.mod_lt _ (by decide)⟩ ⟨j.val % 512, Nat.mod_lt _ (by decide)⟩ := by
    funext a; fin_cases a <;> rfl
  rw [hl]
  refine (out_at m c ⟨_, hp⟩ _ _).trans (congrArg₂ (downAt _ _ _ _) (Fin.ext ?_) (Fin.ext ?_))
  · show 256 * ((1 * (i.val / 256 - 0) + 96 * (j.val / 512 - 0)) % 96) + i.val % 256 = i.val
    rw [h1]; omega
  · show 512 * ((1 * (i.val / 256 - 0) + 96 * (j.val / 512 - 0)) / 96) + j.val % 512 = j.val
    rw [h2]; omega

end Cert.DownIdeal.Lin

end
-- ==== Proof.DownReference.lean ====
/- The closing half of the dense feed-forward: the reference at an index, and the two programs' results equal. -/
module

public import proofs.«01_k».proof.Defs
public import proofs.«01_k».proof.Proof.DownKernel
public import proofs.«01_k».proof.Proof.Gen.DownReferenceIdeal.Read
public import proofs.«01_k».proof.Proof.Gen.DownReferenceIdeal.Run

@[expose] public section

set_option maxRecDepth 16384

noncomputable section

namespace Cert.DownReferenceIdeal.Lin

open Cert.DownReferenceIdeal Cert.DownReferenceIdeal.Gen Cert.DownReferenceIdeal.Read Idealize.ShloMosaic
open Cert.DownIdeal.Lin (group group_lt downAt)

/-- The modulation factor of a row, joined from the prompt's group and the four continuation groups. -/
theorem factor_apply (g : Vec Ideal S8x1x2048 .f32) (i : Fin 24576) (j : Fin 2048) :
    val_main_v9 (F := Ideal) g (ix2 i j) = g (ix3 ⟨group i.val, group_lt i⟩ 0 j) := by
  pointwise [val_main_v9, val_main_v8, val_main_v7, val_main_v6, val_main_v5, val_main_v4, val_main_v3]
  split
  · next h => exact congrArg (fun q => g (ix3 q 0 j)) (Fin.ext (by show 0 = group i.val; unfold group; rw [if_pos h]))
  · next h => exact congrArg (fun q => g (ix3 q 0 j)) (Fin.ext (by show 1 + (i.val - 8192) / 4096 = group i.val; unfold group; rw [if_neg h]))

theorem out_apply (a : Vec Ideal S24576x5632 .bf16) (w : Vec Ideal S2x5632x2048 .f32) (x : Vec Ideal S24576x2048 .f32) (g : Vec Ideal S8x1x2048 .f32)
    (i : Fin 24576) (j : Fin 2048) :
    val_main_v11 (F := Ideal) a w x g (ix2 i j) = downAt a w x g i j := by
  unfold downAt
  rw [val_main_v11_apply, val_main_v10_apply, factor_apply, mul_comm]
  pointwise [val_main_v2, val_main_v1, val_main_v0]

end Cert.DownReferenceIdeal.Lin

namespace Cert.Proof

open Idealize.ShloMosaic Idealize.SL.Sem

/-- The closing half of the dense feed-forward, equal to the reference over the extended reals. -/
theorem algebraic_down : Cert.algebraic_DownIdeal_DownReferenceIdeal := by
  intro m g m' g' _ hagree
  refine ⟨fun c => Cert.DownReferenceIdeal.Read.val_main_v11 (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)), ?_, ?_⟩
  · refine (θ_run Cert.DownIdeal.defs _ _).mono (fun r h c => ?_) (Cert.DownIdeal.Value.run_blocks m g)
    obtain ⟨h0, h1⟩ := h c
    refine ⟨?_, h1⟩
    rw [h0]
    funext i
    idx_vars i
    exact (Cert.DownIdeal.Lin.final m c i0 i1).trans (Cert.DownReferenceIdeal.Lin.out_apply _ _ _ _ i0 i1).symm
  · refine (θ_run Cert.DownReferenceIdeal.defs _ _).mono (fun r h c => ?_) (Cert.DownReferenceIdeal.Value.run m' g')
    obtain ⟨h0, h1⟩ := h c
    refine ⟨?_, h1⟩
    rw [h0, Cert.DownReferenceIdeal.Read.val_main_v11_eq, (hagree c).1, (hagree c).2.1, (hagree c).2.2.1, (hagree c).2.2.2]

theorem frame_downReference : Cert.quiescent_DownReferenceIdeal := by
  intro m g _
  exact (θ_run Cert.DownReferenceIdeal.defs _ _).mono (fun r h => ⟨fun c => (h c).2,
      Idealize.ShloMosaic.sem_eq_zero_of_no_sems (by decide) r.2⟩)
    (Cert.DownReferenceIdeal.Value.run (F := Ideal) m g)

end Cert.Proof

end
-- ==== Proof.ExpertUpIdealFrame.lean ====
/- The experts' call, for any tables that keep every block inside its array: the body at a point that is stored and at one
   that is skipped, and the run: what the result holds in the blocks of the points that are stored. -/
module

public import proofs.«01_k».proof.Proof.Gen.ExpertUpIdeal
public import proofs.«01_k».proof.Proof.Gen.ExpertUpIdeal.Skeleton
public import proofs.«01_k».proof.Proof.Gen.ExpertUpIdeal.Launch
public import Idealize.ShloMosaic.Lib.Pipeline.Kit
public import Idealize.ShloMosaic.Lib.Pipeline.DatRel
public import Idealize.ShloMosaic.Lib.Pipeline.ArrRel
public import Idealize.ShloMosaic.Lib.Pipeline.TableIdle
public import Idealize.ShloMosaic.Lib.Pipeline.FrameBody
public import Idealize.ShloMosaic.Lib.Pipeline.Frame
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.ExpertUpIdeal.Moe

open Cert.ExpertUpIdeal Cert.ExpertUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf ΦA ΦT)

variable {F : FTy → Type} [FloatOps F]

local notation "𝕄" => MT nD τ sig Unit (Elt F) ℕ (UR sig nD τ) ℕ

/-- The two tables, whole. -/
abbrev tbE : Memref sig .tc .smem S150 .i32 := Memref.whole main_arg0
abbrev tbV : Memref sig .tc .smem S150 .i32 := Memref.whole main_arg1

/-- The word of the second table that the body reads at a point. -/
abbrev wordAt (i : grid0.Coords) (T1 : S150.Idx → Elt F .i32) : Elt F .i32 :=
  View.readAt (Elt F) tbV.view (Rect.unit (s := S150) (k0_off1 i) S1.size (k0_off1_inb i)).toLoadRect T1 (Shape.Idx.first (numel1_S1.symm ▸ Nat.one_pos))

theorem hz2 : (![0, 0] : Fin 2 → Nat) = fun _ => 0 := funext fun a => by fin_cases a <;> rfl
theorem hz3 : (![0, 0, 0] : Fin 3 → Nat) = fun _ => 0 := funext fun a => by fin_cases a <;> rfl

section Body

variable (c : Dev nD) (i : grid0.Coords)
  (arg4 : Memref sig .tc .vmem S512x2048 .bf16) (harg4 : arg4.IsWhole) (arg5 : Memref sig .tc .vmem S1x2048x1408 .bf16) (harg5 : arg5.IsWhole)
  (arg6 : Memref sig .tc .vmem S1x2048x1408 .bf16) (harg6 : arg6.IsWhole) (arg7 : Memref sig .tc .vmem S512x1408 .bf16) (harg7 : arg7.IsWhole)
  (T0 T1 : S150.Idx → Elt F .i32)
  (x0 : S512x2048.Idx → Elt F .bf16) (x1 : S1x2048x1408.Idx → Elt F .bf16) (x2 : S1x2048x1408.Idx → Elt F .bf16)

set_option maxHeartbeats 8000000 in
/-- The body where the word is positive: the block is stored. -/
theorem body_stored (h1 : k0_cond1 (wordAt i T1) = 1#1) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (tbE.view.loc (c : Thread nD τ) ↦{fullShare.right} T0)
      ∗ (tbV.view.loc (c : Thread nD τ) ↦{fullShare.right} T1)
      ∗ (∃ d, owns (c : Thread nD τ) arg7 fullShare d)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbE.view.loc (c : Thread nD τ) ↦{fullShare.right} T0)
          ∗ (tbV.view.loc (c : Thread nD τ) ↦{fullShare.right} T1)
          ∗ owns (c : Thread nD τ) arg7 fullShare (k0_pay1 x0 x1 x2)) -∗ K ⟨⟩))
    ⊢ wp frame (wpE (defs₀ (F := F)) Variants.none c none) Set.univ
        (cc0__moe_up_kernel i tbE (Memref.isWhole_whole _) tbV (Memref.isWhole_whole _) arg4 harg4 arg5 harg5 arg6 harg6 arg7 harg7) K := by
  unfold owns
  rw [cc0__moe_up_kernel_eq_skeleton]; unfold cc0__moe_up_kernel_skel
  iintro ⟨H0, H1, H2, HT0, HT1, ⟨%d3, %f3, -, HO3⟩, Hk⟩
  have hT0 : tbE.IsWhole := Memref.isWhole_whole _
  have hT1 : tbV.IsWhole := Memref.isWhole_whole _
  sl_exec! (disch := first | (guard_target = k0_cond1 _ = _; exact h1))
  sl_step
  iapply Hk
  isplitl [H0]; · iexact H0
  isplitl [H1]; · iexact H1
  isplitl [H2]; · iexact H2
  isplitl [HT0]; · iexact HT0
  isplitl [HT1]; · iexact HT1
  iexists _; isplitr; swap
  · iexact HO3
  · ipureintro
    sl_unfold_words
    rw [View.read_writes_eq_canon _ _ _ (fun y => View.cover_of_tiledL _ S512x1408.size (by sl_kernel_rfl) y), View.canon_unit_zero hz2]
    simp only [View.readAt_eq_ld, View.read_rep, View.ld_unit_zero (S := S512x2048) hz2, View.ld_unit_zero (S := S1x2048x1408) hz3]

set_option maxHeartbeats 8000000 in
/-- The body where it is not: nothing is stored. -/
theorem body_skipped (h1 : ¬ k0_cond1 (wordAt i T1) = 1#1) (K : PUnit → sProp 𝕄) :
    iprop((tbE.view.loc (c : Thread nD τ) ↦{fullShare.right} T0)
      ∗ (tbV.view.loc (c : Thread nD τ) ↦{fullShare.right} T1)
      ∗ (iprop((tbE.view.loc (c : Thread nD τ) ↦{fullShare.right} T0)
          ∗ (tbV.view.loc (c : Thread nD τ) ↦{fullShare.right} T1)) -∗ K ⟨⟩))
    ⊢ wp frame (wpE (defs₀ (F := F)) Variants.none c none) Set.univ
        (cc0__moe_up_kernel i tbE (Memref.isWhole_whole _) tbV (Memref.isWhole_whole _) arg4 harg4 arg5 harg5 arg6 harg6 arg7 harg7) K := by
  rw [cc0__moe_up_kernel_eq_skeleton]; unfold cc0__moe_up_kernel_skel
  iintro ⟨HT0, HT1, Hk⟩
  have hT0 : tbE.IsWhole := Memref.isWhole_whole _
  have hT1 : tbV.IsWhole := Memref.isWhole_whole _
  sl_exec! (disch := first | (guard_target = ¬ k0_cond1 _ = _; exact h1))
  sl_step
  iapply Hk
  isplitl [HT0]; · iexact HT0
  iexact HT1

end Body

/-! ## The data -/

variable (a : (pcfg0 (F := F)).Adm) (m : (ℓ : Loc nD τ sig) → Buf (Elt F) ℓ) (ρ : Dev nD → PrngReg)

/-- The pipeline at the tables `a`. -/
abbrev cfgA : Cfg sig Λ₀ := cfg0 a

abbrev crd (t : Fin (cfgA a).N) : (cfgA a).grid.Coords := (cfgA a).grid.coords t

abbrev ms0 (t : Fin (cfgA a).N) : Memref sig .tc .vmem S512x2048 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2048x1408 .bf16 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x2048x1408 .bf16 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S512x1408 .bf16 := spec0_3.stage ((cfgA a).slots t (3 : Fin 4))
abbrev hs3 (t : Fin (cfgA a).N) : (ms3 a t).IsWhole := hstage0_3 (((cfgA a).slots t (3 : Fin 4)).cast nbuf0_3)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- What the body leaves in each window where the word is positive, with the tables and the rest carried along. -/
def dat (c : Dev nD) : Dat τ (Elt F) Unit ℕ (UR sig nD τ) ℕ (cfgA a) c where
  A w := m (((cfgA a).win w).arr.view.loc (c : Thread nD τ))
  after w t := match w with
    | ⟨0, _⟩ => iblk a m c (0 : Fin 4) t
    | ⟨1, _⟩ => iblk a m c (1 : Fin 4) t
    | ⟨2, _⟩ => iblk a m c (2 : Fin 4) t
    | ⟨3, _⟩ => k0_pay1 (iblk a m c (0 : Fin 4) t) (iblk a m c (1 : Fin 4) t) (iblk a m c (2 : Fin 4) t)
  Φ t := iprop(ΦA spec0 c ∗ ΦT pre0 a.1 c)
  q _ := fullShare
  owed _ := 0

theorem after0 (c : Dev nD) (t : Fin (cfgA a).N) : (dat a m c).after (0 : Fin 4) t = iblk a m c (0 : Fin 4) t := rfl
theorem after1 (c : Dev nD) (t : Fin (cfgA a).N) : (dat a m c).after (1 : Fin 4) t = iblk a m c (1 : Fin 4) t := rfl
theorem after2 (c : Dev nD) (t : Fin (cfgA a).N) : (dat a m c).after (2 : Fin 4) t = iblk a m c (2 : Fin 4) t := rfl
theorem after3 (c : Dev nD) (t : Fin (cfgA a).N) : (dat a m c).after (3 : Fin 4) t
    = k0_pay1 (iblk a m c (0 : Fin 4) t) (iblk a m c (1 : Fin 4) t) (iblk a m c (2 : Fin 4) t) := rfl

/-- The result's window is the one that only some points store. -/
def fgt : Fin 4 → Bool
  | ⟨3, _⟩ => true
  | _ => false

/-- What is known of it after a point: where the word is positive, the payload. -/
def Rl (c : Dev nD) (w : Fin (cfgA a).W) (t : Fin (cfgA a).N) (X : ((cfgA a).win w).block.Idx → Elt F ((cfgA a).win w).elt) : Prop :=
  k0_cond1 (wordAt (crd a t) (a.1 1)) = 1#1 → X = (dat a m c).after w t

theorem before0 (c : Dev nD) (t : Fin (cfgA a).N) (d) : (dat a m c).before (0 : Fin 4) t d = iblk a m c (0 : Fin 4) t :=
  ((dat a m c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dat a m c).before (1 : Fin 4) t d = iblk a m c (1 : Fin 4) t :=
  ((dat a m c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dat a m c).before (2 : Fin 4) t d = iblk a m c (2 : Fin 4) t :=
  ((dat a m c).before_in_eq_fetched (2 : Fin 4) rfl (fun _ => rfl) (fun _ _ _ => rfl) (fun t => by rw [after2]; unfold Dat.blockOf iblk; rfl) t d).trans
    (by unfold Dat.fetched Dat.blockOf iblk; rfl)

/-- The two tables as the region holds them. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The body as the pipeline calls it. -/
abbrev bodyAt (t : Fin (cfgA a).N) : Prog (TpuEff nD τ sig (Elt F) Λ₀ .tc) PUnit :=
  cc0__moe_up_kernel (crd a t) tbE (Memref.isWhole_whole _) tbV (Memref.isWhole_whole _) (ms0 a t) (hs0 a t) (ms1 a t) (hs1 a t) (ms2 a t) (hs2 a t) (ms3 a t) (hs3 a t)

set_option maxHeartbeats 4000000 in
theorem sound_body (c : Dev nD) (t : Fin (cfgA a).N) :
    iprop((dat a m c).Φ t.castSucc ∗ (dat a m c).owesAt () t.castSucc
        ∗ (∃ d, owns (c : Thread nD τ) (ms0 a t) fullShare ((dat a m c).before (0 : Fin 4) t d))
        ∗ (∃ d, owns (c : Thread nD τ) (ms1 a t) fullShare ((dat a m c).before (1 : Fin 4) t d))
        ∗ (∃ d, owns (c : Thread nD τ) (ms2 a t) fullShare ((dat a m c).before (2 : Fin 4) t d))
        ∗ (∃ Y, ⌜((dat a m c).toRRel fgt (Rl a m c)).Finds (3 : Fin 4) t Y⌝ ∗ owns (c : Thread nD τ) (ms3 a t) fullShare Y))
      ⊢ wp frame (wpE (defs₀ (F := F)) Variants.none c none) Set.univ (bodyAt a t) fun _ =>
          iprop((dat a m c).Φ t.succ ∗ (dat a m c).owesAt () t.succ
            ∗ owns (c : Thread nD τ) (ms0 a t) fullShare ((dat a m c).after (0 : Fin 4) t)
            ∗ owns (c : Thread nD τ) (ms1 a t) fullShare ((dat a m c).after (1 : Fin 4) t)
            ∗ owns (c : Thread nD τ) (ms2 a t) fullShare ((dat a m c).after (2 : Fin 4) t)
            ∗ (∃ X, ⌜Rl a m c (3 : Fin 4) t X⌝ ∗ owns (c : Thread nD τ) (ms3 a t) fullShare X)) := by
  simp only [before0, before1, before2, after0, after1, after2]
  rewrite [show (dat a m c).Φ t.succ = iprop(ΦA spec0 c ∗ ΦT pre0 a.1 c) from rfl, show (dat a m c).Φ t.castSucc = iprop(ΦA spec0 c ∗ ΦT pre0 a.1 c) from rfl,
    show (dat a m c).owesAt () t.succ = (dat a m c).owesAt () t.castSucc from rfl]
  unfold ΦT
  rw [prefHeld_eq]
  by_cases hw : k0_cond1 (wordAt (crd a t) (a.1 1)) = 1#1
  · iintro ⟨⟨HA, HT0, HT1⟩, Ho, ⟨%d0, H0⟩, ⟨%d1, H1⟩, ⟨%d2, H2⟩, ⟨%Y, -, H3⟩⟩
    iapply (body_stored c (crd a t) (ms0 a t) (hs0 a t) (ms1 a t) (hs1 a t) (ms2 a t) (hs2 a t) (ms3 a t) (hs3 a t) (a.1 0) (a.1 1)
      (iblk a m c (0 : Fin 4) t) (iblk a m c (1 : Fin 4) t) (iblk a m c (2 : Fin 4) t) hw)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, H3⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    iexists _; isplitr; swap
    · iexact H3
    · ipureintro; exact fun _ => rfl
  · iintro ⟨⟨HA, HT0, HT1⟩, Ho, ⟨%d0, H0⟩, ⟨%d1, H1⟩, ⟨%d2, H2⟩, ⟨%Y, -, H3⟩⟩
    iapply (body_skipped c (crd a t) (ms0 a t) (hs0 a t) (ms1 a t) (hs1 a t) (ms2 a t) (hs2 a t) (ms3 a t) (hs3 a t) (a.1 0) (a.1 1) hw)
    isplitl [HT0]; · iexact HT0
    isplitl [HT1]; · iexact HT1
    iintro ⟨HT0, HT1⟩
    isplitl [HA HT0 HT1]
    · isplitl [HA]; · iexact HA
      isplitl [HT0]; · iexact HT0
      iexact HT1
    isplitl [Ho]; · iexact Ho
    isplitl [H0]; · iexact H0
    isplitl [H1]; · iexact H1
    isplitl [H2]; · iexact H2
    iexists _; isplitr; swap
    · iexact H3
    · ipureintro; exact fun h => absurd h hw

theorem body_obligation (c : Dev nD) : BodyObligationRel (dat a m c) (defs₀ (F := F)) Variants.none () Set.univ fgt (Rl a m c) := fun t => by
  rw [bigSep_W0, bigSep_W0]
  exact sound_body a m c t

/-- The data, with nothing said of the result where nothing is stored. -/
abbrev rdat (c : Dev nD) : RDat τ (Elt F) Unit ℕ (UR sig nD τ) ℕ (cfgA a) c := (dat a m c).toRRel fgt (Rl a m c)

set_option backward.isDefEq.respectTransparency.types false in
set_option maxHeartbeats 4000000 in
/-- The run, at tables that the launch memory holds. -/
theorem run_main (hpf : ∀ (c : Dev nD) (k : Fin 2), m ((c : Thread nD τ).loc (pre0.ref k)) = a.1 k) :
    θ_run (defs (F := F)) (onTc (τ := τ) (main (F := F))) (s₀ m ρ) (fun r =>
      RDat.FramePost (cfgA a) (rdat a m) (fun c b => m ((c : Thread nD τ).loc b)) r ∧ r.2.sem = fun _ => 0) :=
  Pipeline.RDat.θ_run_frameP (Q' := _) pcfgs (fun _ => a) (0 : Fin 1) launch0 defs₀ Variants.none (rdat a m) m ρ main
    (hbody := fun c => (body_obligation a m c).toRRel)
    (hshare := fun c w => by show (dat a m c).share w = fullShare; unfold Dat.share; split <;> rfl) (howed := fun _ _ => rfl)
    (V := fun c b => m ((c : Thread nD τ).loc b))
    (hmain := Pipeline.hmainP_region pcfgs (0 : Fin 1) defs₀ Variants.none m main (fun c => (main_chain c).trans rfl))
    (hA := fun _ _ => rfl) (hpf := hpf) (hΦ := fun _ _ => rfl)

end Cert.ExpertUpIdeal.Moe

end
-- ==== Proof.ExpertUpIdealRun.lean ====
/- The experts' call under its precondition: every entry of the first table names an expert of the layer, so every block
   of the weights lies inside its array, and the run leaves the arguments as they were. -/
module

public import proofs.«01_k».proof.Proof.ExpertUpIdealFrame
public import proofs.«01_k».proof.Pre_expert_range
public import Idealize.ShloMosaic.Lib.ReduceAll

@[expose] public section

set_option maxRecDepth 16384

noncomputable section

namespace Cert.ExpertUpIdeal.Moe

open Cert.ExpertUpIdeal Cert.ExpertUpIdeal.Gen
open Idealize.ShloMosaic Idealize.ShloMosaic.TcCoe
open Idealize.SL.Sem
open Idealize.ShloMosaic.Pipeline (Dat RDat Cfg Window)

/-- The precondition, read: every entry of the first table is below eight. -/
theorem range_of [Cert.Pre_expert_range.Facts] {F : FTy → Type} [FloatOps F] (te tv : IVec S150 32) (x : FVec F S76800x2048 .bf16) (w1 : FVec F S16x2048x2816 .bf16) (w3 : FVec F S16x2048x2816 .bf16)
    (h : Cert.Pre_expert_range.fn (F := F) te tv x w1 w3 = fun _ => 1#1) (y : S150.Idx) : (te y).toNat < 8 := by
  have e := congrFun h (fun a => a.elim0)
  have e' := Host.reduce_andi_all _ _ _ _ _ e y
  have h0 := IntOp.cmpi_sge.1 (IntOp.andi_eq_one.1 e').1
  have h1 := IntOp.cmpi_slt.1 (IntOp.andi_eq_one.1 e').2
  have h0' : (0 : Int) ≤ (te y).toInt := h0
  have h1' : (te y).toInt < (8 : Int) := h1
  rw [BitVec.toInt_eq_toNat_cond] at h0' h1'
  have := (te y).isLt
  split at h0' <;> omega

variable {F : FTy → Type} [FloatOps F]

/-- An expert below eight and a column block of the grid keep the block inside the weights. -/
theorem block_inside (v : BitVec 32) (hv : v.toNat < 8) (i : grid0.Coords) (a : Fin 3) :
    ((![(Scalar.addi 0#32 v).toNat, (0#32 : BitVec 32).toNat, (BitVec.ofNat 32 (i 0).val).toNat] : Fin 3 → Nat) a + 1) * S1x2048x1408.size a
      ≤ S16x2048x2816.size a := by
  have hi : (i 0).val < 2 := (i 0).isLt
  have hv' : (Scalar.addi 0#32 v).toNat = v.toNat := by
    show (0#32 + v).toNat = v.toNat
    rw [BitVec.zero_add]
  match a with
  | ⟨0, _⟩ => show ((Scalar.addi 0#32 v).toNat + 1) * 1 ≤ 16; omega
  | ⟨1, _⟩ => show ((0#32 : BitVec 32).toNat + 1) * 2048 ≤ 2048; decide
  | ⟨2, _⟩ => show ((BitVec.ofNat 32 (i 0).val).toNat + 1) * 1408 ≤ 2816; rw [BitVec.toNat_ofNat, Nat.mod_eq_of_lt (by omega)]; omega

/-- Tables whose first names experts below eight are admissible. -/
theorem ok_of (pf : pre0.Contents (Elt F)) (h : ∀ y : S150.Idx, BitVec.toNat (w := 32) (pf 0 y) < 8) : ok0 pf :=
  ⟨fun i => ⟨block_inside _ (h _) i, .inr (Affine.block_words_dvd (of_decide_eq_true rfl) (by decide))⟩,
    fun i => ⟨block_inside _ (h _) i, .inr (Affine.block_words_dvd (of_decide_eq_true rfl) (by decide))⟩⟩

variable (m : (ℓ : Loc nD τ sig) → Buf (Elt F) ℓ) (ρ : Dev nD → PrngReg)

/-- The tables as launched. -/
def tabs : pre0.Contents (Elt F) := fun k => m (((0 : Dev nD) : Thread nD τ).loc (pre0.ref k))

/-- The precondition, of the launch memory: the first table names experts below eight. -/
def InRange : Prop := ∀ (c : Dev nD) (y : S150.Idx), BitVec.toNat (w := 32) (m ((c : Thread nD τ).loc main_arg0) y) < 8

/-- The tables as launched, admissible. -/
def adm (h : InRange m) : (pcfg0 (F := F)).Adm := ⟨tabs m, ok_of _ (h 0)⟩

/-- What the run leaves: the arguments as launched, and the result as the data say. -/
theorem run_all (h : InRange m) :
    θ_run (defs (F := F)) (onTc (τ := τ) (main (F := F))) ⟨m, fun _ => 0, ρ⟩ (fun r => (∀ c : Dev nD,
      (∃ X : (w : Fin 4) → Fin (cfgA (adm m h)).N → ((cfgA (adm m h)).win w).block.Idx → Elt F ((cfgA (adm m h)).win w).elt,
        (∀ t, ((cfgA (adm m h)).win (3 : Fin 4)).flush t = true → Rl (adm m h) m c (3 : Fin 4) t (X 3 t))
        ∧ r.2.mem ((c : Thread nD τ).loc main_v0) = ((rdat (adm m h) m c).withAfter X).arrAt (3 : Fin 4) (cfgA (adm m h)).N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run (defs (F := F)) _ _).mono (fun r hr => ⟨fun c => ?_, hr.2⟩)
    (run_main (adm m h) m ρ (fun c k => by rw [Subsingleton.elim c 0]; rfl))
  have hp := hr.1
  refine ⟨?_, (hp c).2 main_arg0 (Pipeline.mem_restRefs_of (win := spec0) main_arg0 (by decide) (by decide)),
    (hp c).2 main_arg1 (Pipeline.mem_restRefs_of (win := spec0) main_arg1 (by decide) (by decide)),
    RDat.FramePost.arr_in hp c (0 : Fin 4) rfl, RDat.FramePost.arr_in hp c (1 : Fin 4) rfl, RDat.FramePost.arr_in hp c (2 : Fin 4) rfl⟩
  obtain ⟨X, hX, hA⟩ := RDat.FramePost.exists_exact hp c
  exact ⟨X, fun t ht => (dat (adm m h) m c).toRRel_leaves (w := (3 : Fin 4)) rfl (hX (3 : Fin 4) t ht), hA (3 : Fin 4)⟩

/-- The run keeps the arguments and ends with every counter at zero. -/
theorem frame_of (h : InRange m) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run (defs (F := F)) _ _).mono (fun r hr => ⟨fun c => (hr.1 c).2, hr.2⟩) (run_all m ρ h)

end Cert.ExpertUpIdeal.Moe

end
-- ==== Proof.ExpertUpValue.lean ====
/- The experts' gated half: what the run leaves in the rows of a block that is stored. -/
module

public import proofs.«01_k».proof.Proof.ExpertUpIdealRun
public import proofs.«01_k».proof.Proof.UpKernel
public import Idealize.ShloMosaic.Lib.Pointwise
public import Idealize.ShloMosaic.PureOps.Ideal.Laws

@[expose] public section

set_option maxRecDepth 16384

noncomputable section

namespace Cert.ExpertUpIdeal.Moe

open Cert.ExpertUpIdeal Cert.ExpertUpIdeal.Gen
open Idealize.ShloMosaic Idealize.ShloMosaic.TcCoe Cert.Linear
open Idealize.ShloMosaic.Pipeline (Dat RDat Cfg Window)

/-- One entry of the result, from the rows, the weights of expert `e` and the index. -/
def upAt (x : Vec Ideal S76800x2048 .bf16) (w1 w3 : Vec Ideal S16x2048x2816 .bf16) (e : Fin 16) (i : Fin 76800) (j : Fin 2816) : EReal :=
  gated (∑ k : Fin 2048, x (ix2 i k) * w1 (ix3 e k j)) (∑ k : Fin 2048, x (ix2 i k) * w3 (ix3 e k j))

theorem pay1_apply (x : Vec Ideal S512x2048 .bf16) (a b : Vec Ideal S1x2048x1408 .bf16) (i : Fin 512) (j : Fin 1408) :
    k0_pay1 x a b (ix2 i j) = gated (∑ k : Fin 2048, x (ix2 i k) * a (ix3 0 k j)) (∑ k : Fin 2048, x (ix2 i k) * b (ix3 0 k j)) := by
  unfold gated
  pointwise [k0_pay1]
  simp only [Ideal.ofBits_one_f32, Ideal.ofBits_zero_f32, zero_sub]

/-- The grid's coordinates at point `t`: row block `t % 150`, column block `t / 150`. -/
theorem coords : ∀ t : Fin grid0.N, ((grid0.coords t) 0).val = t.val / 150 ∧ ((grid0.coords t) 1).val = t.val % 150 := by
  decide +kernel

variable (a : (pcfg0 (F := Ideal)).Adm) (m : (ℓ : Loc nD τ sig) → Buf (Elt Ideal) ℓ) (c : Dev nD)

/-- The entry of the tables that row block `q` reads. -/
def at1 (q : Fin 150) : S150.Idx := fun b => match b with | ⟨0, _⟩ => q

theorem nat32 (n : ℕ) (h : n < 300) : (BitVec.ofNat 32 n).toNat = n := by
  rw [BitVec.toNat_ofNat]; exact Nat.mod_eq_of_lt (by omega)

theorem lt300 (t : Fin (cfgA a).N) : t.val < 300 := lt_of_lt_of_eq t.isLt N_0

/-- The row block of point `t`. -/
def rowOf (t : Fin (cfgA a).N) : Fin 150 := ⟨t.val % 150, Nat.mod_lt _ (by decide)⟩

theorem off1 (t : Fin (cfgA a).N) : k0_off1 (crd a t) = ![t.val % 150] := by
  rw [k0_off1_eq]; exact congrArg (fun n => ![n]) (coords t).2

theorem tab_idx (t : Fin (cfgA a).N) (y : S1.Idx) : (Rect.unit (s := S150) (k0_off1 (crd a t)) S1.size (k0_off1_inb (crd a t))).emb y = at1 (rowOf a t) := by
  funext b
  apply Fin.ext
  have hy : (y b).val < S1.size b := (y b).isLt
  have e := congrFun (off1 a t) b
  match b, hy, e with
  | ⟨0, _⟩, hy, e =>
    have hy' : (y 0).val = 0 := by have : (y 0).val < 1 := hy; omega
    show k0_off1 (crd a t) 0 + 1 * (y 0).val = t.val % 150
    rw [hy']
    exact (congrArg (· + 1 * 0) e).trans (by simp)

theorem word_eq (t : Fin (cfgA a).N) : wordAt (crd a t) (a.1 1) = a.1 1 (at1 (rowOf a t)) :=
  congrArg (a.1 1) (tab_idx a t _)

/-- The expert of point `t`. -/
def expOf (t : Fin (cfgA a).N) : ℕ := BitVec.toNat (w := 32) (a.1 0 (at1 (rowOf a t)))

theorem idx0 (t : Fin (cfgA a).N) : ((cfgA a).win (0 : Fin 4)).index t = ![t.val % 150, 0] := by
  have h : ((grid0.coords t) 1).val = t.val % 150 := (coords t).2
  show ![(BitVec.ofNat 32 ((grid0.coords t) 1).val).toNat, (0#32 : BitVec 32).toNat] = _
  rw [h, nat32 _ (by omega)]
  rfl

theorem idx3 (t : Fin (cfgA a).N) : ((cfgA a).win (3 : Fin 4)).index t = ![t.val % 150, t.val / 150] := by
  have h := coords t
  have ht := lt300 a t
  show ![(BitVec.ofNat 32 ((grid0.coords t) 1).val).toNat, (BitVec.ofNat 32 ((grid0.coords t) 0).val).toNat] = _
  rw [h.1, h.2, nat32 _ (by omega), nat32 _ (by omega)]

theorem idx1 (t : Fin (cfgA a).N) : ((cfgA a).win (1 : Fin 4)).index t = ![expOf a t, 0, t.val / 150] := by
  have h := coords t
  have ht := lt300 a t
  have e : Scalar.addi 0#32 (a.1 0 ((Rect.unit (s := S150) (k0_off1 (crd a t)) S1.size (k0_off1_inb (crd a t))).emb (Shape.Idx.first (numel1_S1.symm ▸ Nat.one_pos))))
      = a.1 0 (at1 (rowOf a t)) := by
    rw [tab_idx]; exact BitVec.zero_add _
  show ![(Scalar.addi 0#32 (a.1 0 ((Rect.unit (s := S150) (k0_off1 (crd a t)) S1.size (k0_off1_inb (crd a t))).emb (Shape.Idx.first (numel1_S1.symm ▸ Nat.one_pos))))).toNat,
    (0#32 : BitVec 32).toNat, (BitVec.ofNat 32 ((grid0.coords t) 0).val).toNat] = _
  rw [e, h.1, nat32 (t.val / 150) (by omega)]
  rfl

theorem idx2 (t : Fin (cfgA a).N) : ((cfgA a).win (2 : Fin 4)).index t = ![expOf a t, 0, t.val / 150] := idx1 a t

theorem exp_lt (t : Fin (cfgA a).N) : expOf a t < 16 := by
  have h := hinb0 a.1 a.2 (1 : Fin 4) (crd a t) (0 : Fin 3)
  have h' : (((cfgA a).win (1 : Fin 4)).index t (0 : Fin 3) + 1) * 1 ≤ 16 := h
  have e : ((cfgA a).win (1 : Fin 4)).index t (0 : Fin 3) = expOf a t := congrFun (idx1 a t) 0
  omega

theorem blk0 (t : Fin (cfgA a).N) (i : Fin 512) (k : Fin 2048) :
    iblk a m c (0 : Fin 4) t (ix2 i k) = m ((c : Thread nD τ).loc main_arg2) (ix2 ⟨512 * (t.val % 150) + i.val, by omega⟩ k) := by
  have e := idx0 a t
  refine congrArg (m ((c : Thread nD τ).loc main_arg2)) (funext fun b => Fin.ext ?_)
  match b with
  | ⟨0, _⟩ => show ((cfgA a).win (0 : Fin 4)).index t (0 : Fin 2) * 512 + 1 * i.val = 512 * (t.val % 150) + i.val
              rw [show ((cfgA a).win (0 : Fin 4)).index t (0 : Fin 2) = t.val % 150 from congrFun e 0]; omega
  | ⟨1, _⟩ => show ((cfgA a).win (0 : Fin 4)).index t (1 : Fin 2) * 2048 + 1 * k.val = k.val
              rw [show ((cfgA a).win (0 : Fin 4)).index t (1 : Fin 2) = 0 from congrFun e 1]; omega

/-- Column `j` of column block `q`. -/
def col (q : ℕ) (hq : q < 2) (j : Fin 1408) : Fin 2816 := ⟨1408 * q + j.val, by omega⟩

theorem div_lt (t : Fin (cfgA a).N) : t.val / 150 < 2 := by have := lt300 a t; omega

theorem blk1 (t : Fin (cfgA a).N) (k : Fin 2048) (j : Fin 1408) :
    iblk a m c (1 : Fin 4) t (ix3 0 k j) = m ((c : Thread nD τ).loc main_arg3) (ix3 ⟨expOf a t, exp_lt a t⟩ k (col (t.val / 150) (div_lt a t) j)) := by
  have e := idx1 a t
  refine congrArg (m ((c : Thread nD τ).loc main_arg3)) (funext fun b => Fin.ext ?_)
  match b with
  | ⟨0, _⟩ => show ((cfgA a).win (1 : Fin 4)).index t (0 : Fin 3) * 1 + 1 * 0 = expOf a t
              rw [show ((cfgA a).win (1 : Fin 4)).index t (0 : Fin 3) = expOf a t from congrFun e 0]; omega
  | ⟨1, _⟩ => show ((cfgA a).win (1 : Fin 4)).index t (1 : Fin 3) * 2048 + 1 * k.val = k.val
              rw [show ((cfgA a).win (1 : Fin 4)).index t (1 : Fin 3) = 0 from congrFun e 1]; omega
  | ⟨2, _⟩ => show ((cfgA a).win (1 : Fin 4)).index t (2 : Fin 3) * 1408 + 1 * j.val = 1408 * (t.val / 150) + j.val
              rw [show ((cfgA a).win (1 : Fin 4)).index t (2 : Fin 3) = t.val / 150 from congrFun e 2]; omega

theorem blk2 (t : Fin (cfgA a).N) (k : Fin 2048) (j : Fin 1408) :
    iblk a m c (2 : Fin 4) t (ix3 0 k j) = m ((c : Thread nD τ).loc main_arg4) (ix3 ⟨expOf a t, exp_lt a t⟩ k (col (t.val / 150) (div_lt a t) j)) := by
  have e := idx2 a t
  refine congrArg (m ((c : Thread nD τ).loc main_arg4)) (funext fun b => Fin.ext ?_)
  match b with
  | ⟨0, _⟩ => show ((cfgA a).win (2 : Fin 4)).index t (0 : Fin 3) * 1 + 1 * 0 = expOf a t
              rw [show ((cfgA a).win (2 : Fin 4)).index t (0 : Fin 3) = expOf a t from congrFun e 0]; omega
  | ⟨1, _⟩ => show ((cfgA a).win (2 : Fin 4)).index t (1 : Fin 3) * 2048 + 1 * k.val = k.val
              rw [show ((cfgA a).win (2 : Fin 4)).index t (1 : Fin 3) = 0 from congrFun e 1]; omega
  | ⟨2, _⟩ => show ((cfgA a).win (2 : Fin 4)).index t (2 : Fin 3) * 1408 + 1 * j.val = 1408 * (t.val / 150) + j.val
              rw [show ((cfgA a).win (2 : Fin 4)).index t (2 : Fin 3) = t.val / 150 from congrFun e 2]; omega

/-- What a point that is stored leaves in its block. -/
theorem out_at (t : Fin (cfgA a).N) (i : Fin 512) (j : Fin 1408) :
    (dat a m c).after (3 : Fin 4) t (ix2 i j)
      = upAt (m ((c : Thread nD τ).loc main_arg2)) (m ((c : Thread nD τ).loc main_arg3)) (m ((c : Thread nD τ).loc main_arg4))
          ⟨expOf a t, exp_lt a t⟩ ⟨512 * (t.val % 150) + i.val, by omega⟩ (col (t.val / 150) (div_lt a t) j) := by
  rw [after3]
  refine (pay1_apply (iblk a m c (0 : Fin 4) t) (iblk a m c (1 : Fin 4) t) (iblk a m c (2 : Fin 4) t) i j).trans ?_
  unfold upAt
  simp only [blk0, blk1, blk2]

/-- Every point writes its block back: the next point's is another. -/
theorem flush3 (t : Fin (cfgA a).N) : ((cfgA a).win (3 : Fin 4)).flush t = true := by
  have h : ∀ t : Fin grid0.N, Window.flushOf grid0 true cc0_transform_3 t = true := by decide +kernel
  exact h t

/-- The point that writes index `(i, j)`. -/
def pt (i : Fin 76800) (j : Fin 2816) : Fin (cfgA a).N :=
  ⟨150 * (j.val / 1408) + i.val / 512, by rw [show (cfgA a).N = 300 from N_0]; omega⟩

/-- What index `i` of the result holds when its block is stored. -/
def Holds (i : S76800x2816.Idx) (v : EReal) : Prop :=
  ∀ (q : Fin 150) (e : Fin 16), q.val = (i 0).val / 512 → k0_cond1 (a.1 1 (at1 q)) = 1#1 → BitVec.toNat (w := 32) (a.1 0 (at1 q)) = e.val →
    v = upAt (m ((c : Thread nD τ).loc main_arg2)) (m ((c : Thread nD τ).loc main_arg3)) (m ((c : Thread nD τ).loc main_arg4)) e (i 0) (i 1)

theorem emb3 (t : Fin (cfgA a).N) (y : S512x1408.Idx) :
    (((cfgA a).win (3 : Fin 4)).blk t).view.emb y = ix2 (⟨512 * (t.val % 150) + (y 0).val, by have : (y 0).val < 512 := (y 0).isLt; omega⟩ : Fin 76800)
      (col (t.val / 150) (div_lt a t) (y 1)) := by
  have e := idx3 a t
  funext b
  apply Fin.ext
  match b with
  | ⟨0, _⟩ => show ((cfgA a).win (3 : Fin 4)).index t (0 : Fin 2) * 512 + 1 * (y 0).val = 512 * (t.val % 150) + (y 0).val
              rw [show ((cfgA a).win (3 : Fin 4)).index t (0 : Fin 2) = t.val % 150 from congrFun e 0]; omega
  | ⟨1, _⟩ => show ((cfgA a).win (3 : Fin 4)).index t (1 : Fin 2) * 1408 + 1 * (y 1).val = 1408 * (t.val / 150) + (y 1).val
              rw [show ((cfgA a).win (3 : Fin 4)).index t (1 : Fin 2) = t.val / 150 from congrFun e 1]; omega

theorem cover3 (i : S76800x2816.Idx) :
    ∃ t : Fin (cfgA a).N, ((cfgA a).win (3 : Fin 4)).flush t = true ∧ i ∈ (((cfgA a).win (3 : Fin 4)).blk t).view.set := by
  have h0 : (i 0).val < 76800 := (i 0).isLt
  have h1 : (i 1).val < 2816 := (i 1).isLt
  have e := emb3 a (pt a (i 0) (i 1)) (ix2 (⟨(i 0).val % 512, Nat.mod_lt _ (by decide)⟩ : Fin 512) (⟨(i 1).val % 1408, Nat.mod_lt _ (by decide)⟩ : Fin 1408))
  have hp : (pt a (i 0) (i 1)).val = 150 * ((i 1).val / 1408) + (i 0).val / 512 := rfl
  have e' : (ix2 (⟨512 * ((pt a (i 0) (i 1)).val % 150) + (i 0).val % 512, by omega⟩ : Fin 76800)
      (col ((pt a (i 0) (i 1)).val / 150) (div_lt a _) (⟨(i 1).val % 1408, Nat.mod_lt _ (by decide)⟩ : Fin 1408)) : S76800x2816.Idx) = i := by
    funext b
    apply Fin.ext
    match b with
    | ⟨0, _⟩ => show 512 * ((pt a (i 0) (i 1)).val % 150) + (i 0).val % 512 = (i 0).val; omega
    | ⟨1, _⟩ => show 1408 * ((pt a (i 0) (i 1)).val / 150) + (i 1).val % 1408 = (i 1).val; omega
  exact ⟨pt a (i 0) (i 1), flush3 a _, Eq.subst (motive := fun z => z ∈ (((cfgA a).win (3 : Fin 4)).blk (pt a (i 0) (i 1))).view.set) (e.trans e') (View.emb_mem_set _ _)⟩

/-- A point that is stored holds the gated product at every index of its block. -/
theorem holds_at (t : Fin (cfgA a).N) (y : S512x1408.Idx) (v : S512x1408.Idx → EReal)
    (hv : k0_cond1 (wordAt (crd a t) (a.1 1)) = 1#1 → v = (dat a m c).after (3 : Fin 4) t) :
    Holds a m c (ix2 (⟨512 * (t.val % 150) + (y 0).val, by have : (y 0).val < 512 := (y 0).isLt; omega⟩ : Fin 76800)
      (col (t.val / 150) (div_lt a t) (y 1))) (v y) := by
  intro q e hq hw he
  have hq' : q = rowOf a t := Fin.ext (by
    rw [hq]
    show (512 * (t.val % 150) + (y 0).val) / 512 = t.val % 150
    have : (y 0).val < 512 := (y 0).isLt
    omega)
  subst hq'
  have he' : e = ⟨expOf a t, exp_lt a t⟩ := Fin.ext he.symm
  subst he'
  refine (congrFun (hv (by rw [word_eq]; exact hw)) y).trans (Eq.trans ?_ (out_at a m c t (y 0) (y 1)))
  exact congrArg ((dat a m c).after (3 : Fin 4) t) (funext fun b => by match b with | ⟨0, _⟩ => rfl | ⟨1, _⟩ => rfl)

/-- The result array: where a row's block is stored, its rows are the gated product with its expert's weights. -/
theorem final (X : (w : Fin 4) → Fin (cfgA a).N → ((cfgA a).win w).block.Idx → Elt Ideal ((cfgA a).win w).elt)
    (hX : ∀ t, ((cfgA a).win (3 : Fin 4)).flush t = true → Rl a m c (3 : Fin 4) t (X 3 t)) (i : S76800x2816.Idx) :
    Holds a m c i (((rdat a m c).withAfter X).arrAt (3 : Fin 4) (cfgA a).N i) :=
  ((rdat a m c).withAfter X).arrAt_forall_of_cover (3 : Fin 4) (Holds a m c)
    (fun t ht y => Eq.subst (motive := fun z => Holds a m c z (X 3 t y)) (emb3 a t y).symm (holds_at a m c t y (X 3 t) (hX t ht)))
    (cover3 a) i

end Cert.ExpertUpIdeal.Moe

end
-- ==== Proof.ExpertUpReference.lean ====
/- The experts' gated half: the reference at an index. -/
module

public import proofs.«01_k».proof.Proof.ExpertUpValue
public import proofs.«01_k».proof.Proof.Gen.ExpertUpReferenceIdeal.Read
public import proofs.«01_k».proof.Proof.Gen.ExpertUpReferenceIdeal.Run

@[expose] public section

set_option maxRecDepth 16384

noncomputable section

namespace Cert.Linear

open Idealize.ShloMosaic

theorem select_same {α : Type} (v w : BitVec 32) (h : v = w) (x y : α) : Scalar.select (IntOp.cmpi .eq v w) x y = x := by
  exact if_pos (IntOp.cmpi_eq.2 h)

theorem select_other {α : Type} (v w : BitVec 32) (h : v ≠ w) (x y : α) : Scalar.select (IntOp.cmpi .eq v w) x y = y := by
  exact if_neg (fun e => h (IntOp.cmpi_eq.1 e))

end Cert.Linear

namespace Cert.ExpertUpReferenceIdeal.Lin

open Cert.ExpertUpReferenceIdeal Cert.ExpertUpReferenceIdeal.Gen Cert.ExpertUpReferenceIdeal.Read Idealize.ShloMosaic Cert.Linear
open Cert.ExpertUpIdeal.Moe (upAt at1)

variable (x0 : IVec S150 32) (x2 : Vec Ideal S76800x2048 .bf16) (x3 x4 : Vec Ideal S16x2048x2816 .bf16) (i : Fin 76800) (j : Fin 2816)

/-- The row block of row `i`. -/
def blockOf (i : Fin 76800) : Fin 150 := ⟨i.val / 512, by omega⟩

theorem table_at : val_main_v4 (F := Ideal) x0 (ix1 i) = x0 (at1 (blockOf i)) := by
  pointwise [val_main_v4, val_main_v3]
  exact congrArg x0 (funext fun b => Fin.ext (by match b with | ⟨0, _⟩ => rfl))

theorem cond0 : val_main_call1_v0 (F := Ideal) x0 (ix2 i j) = IntOp.cmpi .eq (x0 (at1 (blockOf i))) 0#32 := by
  rw [← table_at x0 i]
  pointwise [val_main_call1_v0, val_main_v8, val_main_v7, val_main_c, val_main_v6]

theorem gate0 : val_main_v16 (F := Ideal) x2 x3 x4 (ix2 i j) = upAt x2 x3 x4 0 i j := by
  unfold upAt gated
  pointwise [val_main_v16, val_main_v15, val_main_v14, val_main_v13, val_main_v12, val_main_call0_v5, val_main_call0_v4, val_main_call0_cst_0, val_main_call0_v3, val_main_call0_v2, val_main_call0_cst, val_main_call0_v1, val_main_call0_v0, val_main_v11, val_main_v10, val_main_v9, val_main_v2, val_main_v1, val_main_v0]

theorem cond1 : val_main_call3_v0 (F := Ideal) x0 (ix2 i j) = IntOp.cmpi .eq (x0 (at1 (blockOf i))) 1#32 := by
  rw [← table_at x0 i]
  pointwise [val_main_call3_v0, val_main_v20, val_main_v19, val_main_c_0, val_main_v18]

theorem gate1 : val_main_v28 (F := Ideal) x2 x3 x4 (ix2 i j) = upAt x2 x3 x4 1 i j := by
  unfold upAt gated
  pointwise [val_main_v28, val_main_v27, val_main_v26, val_main_v25, val_main_v24, val_main_call2_v5, val_main_call2_v4, val_main_call2_cst_0, val_main_call2_v3, val_main_call2_v2, val_main_call2_cst, val_main_call2_v1, val_main_call2_v0, val_main_v23, val_main_v22, val_main_v21, val_main_v2, val_main_v1, val_main_v0]

theorem cond2 : val_main_call5_v0 (F := Ideal) x0 (ix2 i j) = IntOp.cmpi .eq (x0 (at1 (blockOf i))) 2#32 := by
  rw [← table_at x0 i]
  pointwise [val_main_call5_v0, val_main_v32, val_main_v31, val_main_c_1, val_main_v30]

theorem gate2 : val_main_v40 (F := Ideal) x2 x3 x4 (ix2 i j) = upAt x2 x3 x4 2 i j := by
  unfold upAt gated
  pointwise [val_main_v40, val_main_v39, val_main_v38, val_main_v37, val_main_v36, val_main_call4_v5, val_main_call4_v4, val_main_call4_cst_0, val_main_call4_v3, val_main_call4_v2, val_main_call4_cst, val_main_call4_v1, val_main_call4_v0, val_main_v35, val_main_v34, val_main_v33, val_main_v2, val_main_v1, val_main_v0]

theorem cond3 : val_main_call7_v0 (F := Ideal) x0 (ix2 i j) = IntOp.cmpi .eq (x0 (at1 (blockOf i))) 3#32 := by
  rw [← table_at x0 i]
  pointwise [val_main_call7_v0, val_main_v44, val_main_v43, val_main_c_2, val_main_v42]

theorem gate3 : val_main_v52 (F := Ideal) x2 x3 x4 (ix2 i j) = upAt x2 x3 x4 3 i j := by
  unfold upAt gated
  pointwise [val_main_v52, val_main_v51, val_main_v50, val_main_v49, val_main_v48, val_main_call6_v5, val_main_call6_v4, val_main_call6_cst_0, val_main_call6_v3, val_main_call6_v2, val_main_call6_cst, val_main_call6_v1, val_main_call6_v0, val_main_v47, val_main_v46, val_main_v45, val_main_v2, val_main_v1, val_main_v0]

theorem cond4 : val_main_call9_v0 (F := Ideal) x0 (ix2 i j) = IntOp.cmpi .eq (x0 (at1 (blockOf i))) 4#32 := by
  rw [← table_at x0 i]
  pointwise [val_main_call9_v0, val_main_v56, val_main_v55, val_main_c_3, val_main_v54]

theorem gate4 : val_main_v64 (F := Ideal) x2 x3 x4 (ix2 i j) = upAt x2 x3 x4 4 i j := by
  unfold upAt gated
  pointwise [val_main_v64, val_main_v63, val_main_v62, val_main_v61, val_main_v60, val_main_call8_v5, val_main_call8_v4, val_main_call8_cst_0, val_main_call8_v3, val_main_call8_v2, val_main_call8_cst, val_main_call8_v1, val_main_call8_v0, val_main_v59, val_main_v58, val_main_v57, val_main_v2, val_main_v1, val_main_v0]

theorem cond5 : val_main_call11_v0 (F := Ideal) x0 (ix2 i j) = IntOp.cmpi .eq (x0 (at1 (blockOf i))) 5#32 := by
  rw [← table_at x0 i]
  pointwise [val_main_call11_v0, val_main_v68, val_main_v67, val_main_c_4, val_main_v66]

theorem gate5 : val_main_v76 (F := Ideal) x2 x3 x4 (ix2 i j) = upAt x2 x3 x4 5 i j := by
  unfold upAt gated
  pointwise [val_main_v76, val_main_v75, val_main_v74, val_main_v73, val_main_v72, val_main_call10_v5, val_main_call10_v4, val_main_call10_cst_0, val_main_call10_v3, val_main_call10_v2, val_main_call10_cst, val_main_call10_v1, val_main_call10_v0, val_main_v71, val_main_v70, val_main_v69, val_main_v2, val_main_v1, val_main_v0]

theorem cond6 : val_main_call13_v0 (F := Ideal) x0 (ix2 i j) = IntOp.cmpi .eq (x0 (at1 (blockOf i))) 6#32 := by
  rw [← table_at x0 i]
  pointwise [val_main_call13_v0, val_main_v80, val_main_v79, val_main_c_5, val_main_v78]

theorem gate6 : val_main_v88 (F := Ideal) x2 x3 x4 (ix2 i j) = upAt x2 x3 x4 6 i j := by
  unfold upAt gated
  pointwise [val_main_v88, val_main_v87, val_main_v86, val_main_v85, val_main_v84, val_main_call12_v5, val_main_call12_v4, val_main_call12_cst_0, val_main_call12_v3, val_main_call12_v2, val_main_call12_cst, val_main_call12_v1, val_main_call12_v0, val_main_v83, val_main_v82, val_main_v81, val_main_v2, val_main_v1, val_main_v0]

theorem cond7 : val_main_call15_v0 (F := Ideal) x0 (ix2 i j) = IntOp.cmpi .eq (x0 (at1 (blockOf i))) 7#32 := by
  rw [← table_at x0 i]
  pointwise [val_main_call15_v0, val_main_v92, val_main_v91, val_main_c_6, val_main_v90]

theorem gate7 : val_main_v100 (F := Ideal) x2 x3 x4 (ix2 i j) = upAt x2 x3 x4 7 i j := by
  unfold upAt gated
  pointwise [val_main_v100, val_main_v99, val_main_v98, val_main_v97, val_main_v96, val_main_call14_v5, val_main_call14_v4, val_main_call14_cst_0, val_main_call14_v3, val_main_call14_v2, val_main_call14_cst, val_main_call14_v1, val_main_call14_v0, val_main_v95, val_main_v94, val_main_v93, val_main_v2, val_main_v1, val_main_v0]

/-- The reference at an index: the gated product with the weights of the row's expert. -/
theorem out_apply (e : Fin 16) (he : e.val < 8) (h : (x0 (at1 (blockOf i))).toNat = e.val) :
    val_main_v102 (F := Ideal) x0 x2 x3 x4 (ix2 i j) = upAt x2 x3 x4 e i j := by
  have hx : x0 (at1 (blockOf i)) = BitVec.ofNat 32 e.val := by rw [← h, BitVec.ofNat_toNat, BitVec.setWidth_eq]
  refine (val_main_v102_apply (F := Ideal) x0 x2 x3 x4 (ix2 i j)).trans ?_
  refine Eq.trans (b := val_main_v101 (F := Ideal) x0 x2 x3 x4 (ix2 i j)) rfl ?_
  simp only [val_main_v101_apply, cond7, gate7, val_main_v89_apply, cond6, gate6, val_main_v77_apply, cond5, gate5, val_main_v65_apply, cond4, gate4, val_main_v53_apply, cond3, gate3, val_main_v41_apply, cond2, gate2, val_main_v29_apply, cond1, gate1, val_main_v17_apply, cond0, gate0, hx]
  obtain ⟨n, hn⟩ := e
  dsimp only at he ⊢
  interval_cases n <;> simp (disch := decide) only [select_other, select_same] <;> rfl

end Cert.ExpertUpReferenceIdeal.Lin

end
-- ==== Proof.ExpertUpAlgebraic.lean ====
/- The experts' gated half: the two programs' results equal on the rows of the blocks that hold
   any. -/
module

public import proofs.«01_k».proof.Defs
public import proofs.«01_k».proof.Proof.ExpertUpReference
public import proofs.«01_k».proof.Proof.ExpertUpRun
public import proofs.«01_k».proof.Proof.Gen.ExpertUpReferenceIdeal.Read
public import proofs.«01_k».proof.Proof.Gen.ExpertUpReferenceIdeal.Run
public import proofs.«01_k».proof.Proof.Gen.On_valid_rows
public import proofs.«01_k».proof.Proof.Gen.Pre_expert_range

@[expose] public section

set_option maxRecDepth 16384

noncomputable section

namespace Cert.Proof

open Idealize.ShloMosaic Idealize.ShloMosaic.TcCoe Idealize.SL.Sem
open Cert.ExpertUpIdeal.Moe (upAt at1 InRange)

/-- The mask selects rows of blocks whose word is positive. -/
theorem valid_row (te tv : IVec Cert.On_valid_rows.S150 32) (x : Vec Ideal Cert.On_valid_rows.S76800x2048 .bf16) (w1 w3 : Vec Ideal Cert.On_valid_rows.S16x2048x2816 .bf16)
    (i : Fin 76800) (j : Fin 2816) (hm : Cert.On_valid_rows.fn (F := Ideal) te tv x w1 w3 (ix2 i j) = 1#1) :
    IntOp.cmpi .sgt (tv (at1 (Cert.ExpertUpReferenceIdeal.Lin.blockOf i))) 0#32 = 1#1 := by
  rw [← hm]
  pointwise [Cert.On_valid_rows.fn]
  exact congrArg (fun v => IntOp.cmpi .sgt v 0#32) (congrArg tv (funext fun b => Fin.ext (by match b with | ⟨0, _⟩ => rfl)))

/-- A positive word is the body's condition. -/
theorem stored_of_pos (v : BitVec 32) (h : IntOp.cmpi .sgt v 0#32 = 1#1) : Cert.ExpertUpIdeal.k0_cond1 v = 1#1 := by
  have h' : Scalar.cmpi .sgt v 0#32 = 1#1 := h
  unfold Cert.ExpertUpIdeal.k0_cond1
  dsimp only
  rw [h']
  decide

theorem inRange_ideal (m : (ℓ : Loc Cert.ExpertUpIdeal.nD Cert.ExpertUpIdeal.τ Cert.ExpertUpIdeal.sig) → Buf (Elt Ideal) ℓ) (h : Cert.Pre_ExpertUpIdeal m) : InRange m :=
  fun c y => Cert.ExpertUpIdeal.Moe.range_of _ _ _ _ _ (h c) y

theorem frame_expertUpIdeal : Cert.quiescent_ExpertUpIdeal := fun m g h => Cert.ExpertUpIdeal.Moe.frame_of m g (inRange_ideal m h)

theorem frame_expertUp : Cert.quiescent_ExpertUp := fun m g h =>
  Cert.ExpertUp.Moe.frame_of m g (fun c y => Cert.ExpertUp.Moe.range_of _ _ _ _ _ (h c) y)

theorem frame_expertUpReference : Cert.quiescent_ExpertUpReferenceIdeal := by
  intro m g _
  exact (θ_run Cert.ExpertUpReferenceIdeal.defs _ _).mono (fun r h => ⟨fun c => (h c).2,
      Idealize.ShloMosaic.sem_eq_zero_of_no_sems (by decide) r.2⟩)
    (Cert.ExpertUpReferenceIdeal.Value.run (F := Ideal) m g)

theorem frame_expertUpReference_range : Cert.quiescent_ExpertUpReferenceIdeal_pre_expert_range := fun m g _ => frame_expertUpReference m g trivial

/-- The experts' gated half, equal to the reference over the extended reals on the rows of the blocks that hold any. -/
theorem algebraic_expertUp : Cert.algebraic_ExpertUpIdeal_ExpertUpReferenceIdeal_on_valid_rows := by
  intro m g m' g' hpre hagree
  have hr := inRange_ideal m hpre
  refine ⟨fun c => Cert.ExpertUpReferenceIdeal.Read.val_main_v102 (F := Ideal) (m ((c.tc : Thread Cert.ExpertUpIdeal.nD Cert.ExpertUpIdeal.τ).loc Cert.ExpertUpIdeal.main_arg0)) (m ((c.tc : Thread Cert.ExpertUpIdeal.nD Cert.ExpertUpIdeal.τ).loc Cert.ExpertUpIdeal.main_arg2)) (m ((c.tc : Thread Cert.ExpertUpIdeal.nD Cert.ExpertUpIdeal.τ).loc Cert.ExpertUpIdeal.main_arg3)) (m ((c.tc : Thread Cert.ExpertUpIdeal.nD Cert.ExpertUpIdeal.τ).loc Cert.ExpertUpIdeal.main_arg4)), ?_, ?_⟩
  · refine (θ_run Cert.ExpertUpIdeal.defs _ _).mono (fun r h c => ?_) (Cert.ExpertUpIdeal.Moe.run_all m g hr)
    obtain ⟨⟨X, hX, h0⟩, h1⟩ := h.1 c
    refine ⟨fun i hm => ?_, h1⟩
    rw [h0]
    idx_vars i
    have hc : c = 0 := Subsingleton.elim c 0
    subst hc
    have hp := stored_of_pos _ (valid_row _ _ _ _ _ i0 i1 hm)
    have hlt := hr 0 (at1 (Cert.ExpertUpReferenceIdeal.Lin.blockOf i0))
    exact (Cert.ExpertUpIdeal.Moe.final (Cert.ExpertUpIdeal.Moe.adm m hr) m 0 X hX (ix2 i0 i1) (Cert.ExpertUpReferenceIdeal.Lin.blockOf i0) ⟨_, Nat.lt_trans hlt (by decide)⟩ rfl hp rfl).trans
      (Cert.ExpertUpReferenceIdeal.Lin.out_apply _ _ _ _ i0 i1 ⟨_, Nat.lt_trans hlt (by decide)⟩ hlt rfl).symm
  · refine (θ_run Cert.ExpertUpReferenceIdeal.defs _ _).mono (fun r h c => ?_) (Cert.ExpertUpReferenceIdeal.Value.run m' g')
    obtain ⟨h0, h1⟩ := h c
    obtain ⟨a0, _, a2, a3, a4⟩ := hagree c
    refine ⟨fun i _ => congrFun (h0.trans ((Cert.ExpertUpReferenceIdeal.Read.val_main_v102_eq (F := Ideal) (StableHlo.launchContents m' c)).trans ?_)) i, h1⟩
    exact congr (congr (congr (congrArg (Cert.ExpertUpReferenceIdeal.Read.val_main_v102 (F := Ideal)) a0) a2) a3) a4

end Cert.Proof

end
-- ==== Proof.ExpertDownIdealFrame.lean ====
/- The experts' call, for any tables that keep every block inside its array: the body at a point that is stored and at one
   that is skipped, and the run: what the result holds in the blocks of the points that are stored. -/
module

public import proofs.«01_k».proof.Proof.Gen.ExpertDownIdeal
public import proofs.«01_k».proof.Proof.Gen.ExpertDownIdeal.Skeleton
public import proofs.«01_k».proof.Proof.Gen.ExpertDownIdeal.Launch
public import Idealize.ShloMosaic.Lib.Pipeline.Kit
public import Idealize.ShloMosaic.Lib.Pipeline.DatRel
public import Idealize.ShloMosaic.Lib.Pipeline.ArrRel
public import Idealize.ShloMosaic.Lib.Pipeline.TableIdle
public import Idealize.ShloMosaic.Lib.Pipeline.FrameBody
public import Idealize.ShloMosaic.Lib.Pipeline.Frame
public import Idealize.ShloMosaic.Lib.Pipeline.ValueKit
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.ExpertDownIdeal.Moe

open Cert.ExpertDownIdeal Cert.ExpertDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf ΦA ΦT)

variable {F : FTy → Type} [FloatOps F]

local notation "𝕄" => MT nD τ sig Unit (Elt F) ℕ (UR sig nD τ) ℕ

/-- The two tables, whole. -/
abbrev tbE : Memref sig .tc .smem S150 .i32 := Memref.whole main_arg0
abbrev tbV : Memref sig .tc .smem S150 .i32 := Memref.whole main_arg1

/-- The word of the second table that the body reads at a point. -/
abbrev wordAt (i : grid0.Coords) (T1 : S150.Idx → Elt F .i32) : Elt F .i32 :=
  View.readAt (Elt F) tbV.view (Rect.unit (s := S150) (k0_off1 i) S1.size (k0_off1_inb i)).toLoadRect T1 (Shape.Idx.first (numel1_S1.symm ▸ Nat.one_pos))

theorem hz2 : (![0, 0] : Fin 2 → Nat) = fun _ => 0 := funext fun a => by fin_cases a <;> rfl
theorem hz3 : (![0, 0, 0] : Fin 3 → Nat) = fun _ => 0 := funext fun a => by fin_cases a <;> rfl

/-- The column of gates that the body loads. -/
def gcol (x2 : S512x128.Idx → Elt F .f32) : S512x1.Idx → Elt F .f32 :=
  View.ld x2 (Rect.unit (s := S512x128) ![0, 0] S512x1.size inb_S512x128_S512x1_0_0)

section Body

variable (c : Dev nD) (i : grid0.Coords)
  (arg4 : Memref sig .tc .vmem S512x2816 .bf16) (harg4 : arg4.IsWhole) (arg5 : Memref sig .tc .vmem S1x2816x1024 .bf16) (harg5 : arg5.IsWhole)
  (arg6 : Memref sig .tc .vmem S512x128 .f32) (harg6 : arg6.IsWhole) (arg7 : Memref sig .tc .vmem S512x1024 .bf16) (harg7 : arg7.IsWhole)
  (T0 T1 : S150.Idx → Elt F .i32)
  (x0 : S512x2816.Idx → Elt F .bf16) (x1 : S1x2816x1024.Idx → Elt F .bf16) (x2 : S512x128.Idx → Elt F .f32)

set_option maxHeartbeats 8000000 in
/-- The body where the word is positive: the block is stored. -/
theorem body_stored (h1 : k0_cond1 (wordAt i T1) = 1#1) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (arg6.view.loc (c : Thread nD τ) ↦[arg6.view.set]{fullShare} arg6.view.rep x2)
      ∗ (tbE.view.loc (c : Thread nD τ) ↦{fullShare.right} T0)
      ∗ (tbV.view.loc (c : Thread nD τ) ↦{fullShare.right} T1)
      ∗ (∃ d, owns (c : Thread nD τ) arg7 fullShare d)
      ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbE.view.loc (c : Thread nD τ) ↦{fullShare.right} T0)
          ∗ (tbV.view.loc (c : Thread nD τ) ↦{fullShare.right} T1)
          ∗ owns (c : Thread nD τ) arg7 fullShare (k0_pay1 x0 x1 (gcol x2))) -∗ K ⟨⟩))
    ⊢ wp frame (wpE (defs₀ (F := F)) Variants.none c none) Set.univ
        (cc0__moe_down_kernel i tbE (Memref.isWhole_whole _) tbV (Memref.isWhole_whole _) arg4 harg4 arg5 harg5 arg6 harg6 arg7 harg7) K := by
  unfold owns
  rw [cc0__moe_down_kernel_eq_skeleton]; unfold cc0__moe_down_kernel_skel
  iintro ⟨H0, H1, H2, HT0, HT1, ⟨%d3, %f3, -, HO3⟩, Hk⟩
  have hT0 : tbE.IsWhole := Memref.isWhole_whole _
  have hT1 : tbV.IsWhole := Memref.isWhole_whole _
  sl_exec! (disch := first | (guard_target = k0_cond1 _ = _; exact h1))
  sl_step
  iapply Hk
  isplitl [H0]; · iexact H0
  isplitl [H1]; · iexact H1
  isplitl [H2]; · iexact H2
  isplitl [HT0]; · iexact HT0
  isplitl [HT1]; · iexact HT1
  iexists _; isplitr; swap
  · iexact HO3
  · ipureintro
    sl_unfold_words
    rw [View.read_writes_eq_canon _ _ _ (fun y => View.cover_of_tiledL _ S512x1024.size (by sl_kernel_rfl) y), View.canon_unit_zero hz2]
    simp only [View.readAt_eq_ld, View.read_rep, View.ld_unit_zero (S := S512x2816) hz2, View.ld_unit_zero (S := S1x2816x1024) hz3]
    rfl

set_option maxHeartbeats 8000000 in
/-- The body where it is not: nothing is stored. -/
theorem body_skipped (h1 : ¬ k0_cond1 (wordAt i T1) = 1#1) (K : PUnit → sProp 𝕄) :
    iprop((tbE.view.loc (c : Thread nD τ) ↦{fullShare.right} T0)
      ∗ (tbV.view.loc (c : Thread nD τ) ↦{fullShare.right} T1)
      ∗ (iprop((tbE.view.loc (c : Thread nD τ) ↦{fullShare.right} T0)
          ∗ (tbV.view.loc (c : Thread nD τ) ↦{fullShare.right} T1)) -∗ K ⟨⟩))
    ⊢ wp frame (wpE (defs₀ (F := F)) Variants.none c none) Set.univ
        (cc0__moe_down_kernel i tbE (Memref.isWhole_whole _) tbV (Memref.isWhole_whole _) arg4 harg4 arg5 harg5 arg6 harg6 arg7 harg7) K := by
  rw [cc0__moe_down_kernel_eq_skeleton]; unfold cc0__moe_down_kernel_skel
  iintro ⟨HT0, HT1, Hk⟩
  have hT0 : tbE.IsWhole := Memref.isWhole_whole _
  have hT1 : tbV.IsWhole := Memref.isWhole_whole _
  sl_exec! (disch := first | (guard_target = ¬ k0_cond1 _ = _; exact h1))
  sl_step
  iapply Hk
  isplitl [HT0]; · iexact HT0
  iexact HT1

end Body

/-! ## The data -/

variable (a : (pcfg0 (F := F)).Adm) (m : (ℓ : Loc nD τ sig) → Buf (Elt F) ℓ) (ρ : Dev nD → PrngReg)

/-- The pipeline at the tables `a`. -/
abbrev cfgA : Cfg sig Λ₀ := cfg0 a

abbrev crd (t : Fin (cfgA a).N) : (cfgA a).grid.Coords := (cfgA a).grid.coords t

abbrev ms0 (t : Fin (cfgA a).N) : Memref sig .tc .vmem S512x2816 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2816x1024 .bf16 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S512x128 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S512x1024 .bf16 := spec0_3.stage ((cfgA a).slots t (3 : Fin 4))
abbrev hs3 (t : Fin (cfgA a).N) : (ms3 a t).IsWhole := hstage0_3 (((cfgA a).slots t (3 : Fin 4)).cast nbuf0_3)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- What the body leaves in each window where the word is positive, with the tables and the rest carried along. -/
def dat (c : Dev nD) : Dat τ (Elt F) Unit ℕ (UR sig nD τ) ℕ (cfgA a) c where
  A w := m (((cfgA a).win w).arr.view.loc (c : Thread nD τ))
  after w t := match w with
    | ⟨0, _⟩ => iblk a m c (0 : Fin 4) t
    | ⟨1, _⟩ => iblk a m c (1 : Fin 4) t
    | ⟨2, _⟩ => iblk a m c (2 : Fin 4) t
    | ⟨3, _⟩ => k0_pay1 (iblk a m c (0 : Fin 4) t) (iblk a m c (1 : Fin 4) t) (gcol (iblk a m c (2 : Fin 4) t))
  Φ t := iprop(ΦA spec0 c ∗ ΦT pre0 a.1 c)
  q _ := fullShare
  owed _ := 0

theorem after0 (c : Dev nD) (t : Fin (cfgA a).N) : (dat a m c).after (0 : Fin 4) t = iblk a m c (0 : Fin 4) t := rfl
theorem after1 (c : Dev nD) (t : Fin (cfgA a).N) : (dat a m c).after (1 : Fin 4) t = iblk a m c (1 : Fin 4) t := rfl
theorem after2 (c : Dev nD) (t : Fin (cfgA a).N) : (dat a m c).after (2 : Fin 4) t = iblk a m c (2 : Fin 4) t := rfl
theorem after3 (c : Dev nD) (t : Fin (cfgA a).N) : (dat a m c).after (3 : Fin 4) t
    = k0_pay1 (iblk a m c (0 : Fin 4) t) (iblk a m c (1 : Fin 4) t) (gcol (iblk a m c (2 : Fin 4) t)) := rfl

/-- The result's window is the one that only some points store. -/
def fgt : Fin 4 → Bool
  | ⟨3, _⟩ => true
  | _ => false

/-- What is known of it after a point: where the word is positive, the payload. -/
def Rl (c : Dev nD) (w : Fin (cfgA a).W) (t : Fin (cfgA a).N) (X : ((cfgA a).win w).block.Idx → Elt F ((cfgA a).win w).elt) : Prop :=
  k0_cond1 (wordAt (crd a t) (a.1 1)) = 1#1 → X = (dat a m c).after w t

theorem before0 (c : Dev nD) (t : Fin (cfgA a).N) (d) : (dat a m c).before (0 : Fin 4) t d = iblk a m c (0 : Fin 4) t :=
  ((dat a m c).before_in_eq_fetched (0 : Fin 4) rfl (fun _ => rfl) (fun _ _ _ => rfl) (fun t => by rw [after0]; unfold Dat.blockOf iblk; rfl) t d).trans
    (by unfold Dat.fetched Dat.blockOf iblk; rfl)
theorem before1 (c : Dev nD) (t : Fin (cfgA a).N) (d) : (dat a m c).before (1 : Fin 4) t d = iblk a m c (1 : Fin 4) t :=
  ((dat a m c).before_in_eq_fetched (1 : Fin 4) rfl (fun _ => rfl) (fun _ _ _ => rfl) (fun t => by rw [after1]; unfold Dat.blockOf iblk; rfl) t d).trans
    (by unfold Dat.fetched Dat.blockOf iblk; rfl)
theorem before2 (c : Dev nD) (t : Fin (cfgA a).N) (d) : (dat a m c).before (2 : Fin 4) t d = iblk a m c (2 : Fin 4) t :=
  ((dat a m c).before_in_eq_fetched (2 : Fin 4) rfl (fun _ => rfl) (fun _ _ _ => rfl) (fun t => by rw [after2]; unfold Dat.blockOf iblk; rfl) t d).trans
    (by unfold Dat.fetched Dat.blockOf iblk; rfl)

/-- The two tables as the region holds them. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The body as the pipeline calls it. -/
abbrev bodyAt (t : Fin (cfgA a).N) : Prog (TpuEff nD τ sig (Elt F) Λ₀ .tc) PUnit :=
  cc0__moe_down_kernel (crd a t) tbE (Memref.isWhole_whole _) tbV (Memref.isWhole_whole _) (ms0 a t) (hs0 a t) (ms1 a t) (hs1 a t) (ms2 a t) (hs2 a t) (ms3 a t) (hs3 a t)

set_option maxHeartbeats 4000000 in
theorem sound_body (c : Dev nD) (t : Fin (cfgA a).N) :
    iprop((dat a m c).Φ t.castSucc ∗ (dat a m c).owesAt () t.castSucc
        ∗ (∃ d, owns (c : Thread nD τ) (ms0 a t) fullShare ((dat a m c).before (0 : Fin 4) t d))
        ∗ (∃ d, owns (c : Thread nD τ) (ms1 a t) fullShare ((dat a m c).before (1 : Fin 4) t d))
        ∗ (∃ d, owns (c : Thread nD τ) (ms2 a t) fullShare ((dat a m c).before (2 : Fin 4) t d))
        ∗ (∃ Y, ⌜((dat a m c).toRRel fgt (Rl a m c)).Finds (3 : Fin 4) t Y⌝ ∗ owns (c : Thread nD τ) (ms3 a t) fullShare Y))
      ⊢ wp frame (wpE (defs₀ (F := F)) Variants.none c none) Set.univ (bodyAt a t) fun _ =>
          iprop((dat a m c).Φ t.succ ∗ (dat a m c).owesAt () t.succ
            ∗ owns (c : Thread nD τ) (ms0 a t) fullShare ((dat a m c).after (0 : Fin 4) t)
            ∗ owns (c : Thread nD τ) (ms1 a t) fullShare ((dat a m c).after (1 : Fin 4) t)
            ∗ owns (c : Thread nD τ) (ms2 a t) fullShare ((dat a m c).after (2 : Fin 4) t)
            ∗ (∃ X, ⌜Rl a m c (3 : Fin 4) t X⌝ ∗ owns (c : Thread nD τ) (ms3 a t) fullShare X)) := by
  simp only [before0, before1, before2, after0, after1, after2]
  rewrite [show (dat a m c).Φ t.succ = iprop(ΦA spec0 c ∗ ΦT pre0 a.1 c) from rfl, show (dat a m c).Φ t.castSucc = iprop(ΦA spec0 c ∗ ΦT pre0 a.1 c) from rfl,
    show (dat a m c).owesAt () t.succ = (dat a m c).owesAt () t.castSucc from rfl]
  unfold ΦT
  rw [prefHeld_eq]
  by_cases hw : k0_cond1 (wordAt (crd a t) (a.1 1)) = 1#1
  · iintro ⟨⟨HA, HT0, HT1⟩, Ho, ⟨%d0, H0⟩, ⟨%d1, H1⟩, ⟨%d2, H2⟩, ⟨%Y, -, H3⟩⟩
    iapply (body_stored c (crd a t) (ms0 a t) (hs0 a t) (ms1 a t) (hs1 a t) (ms2 a t) (hs2 a t) (ms3 a t) (hs3 a t) (a.1 0) (a.1 1)
      (iblk a m c (0 : Fin 4) t) (iblk a m c (1 : Fin 4) t) (iblk a m c (2 : Fin 4) t) hw)
    isplitl [H0]; · iapply rep_of_owns; iexact H0
    isplitl [H1]; · iapply rep_of_owns; iexact H1
    isplitl [H2]; · iapply rep_of_owns; iexact H2
    isplitl [HT0]; · iexact HT0
    isplitl [HT1]; · iexact HT1
    isplitl [H3]; · iexists _; iexact H3
    iintro ⟨H0, H1, H2, HT0, HT1, H3⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    iexists _; isplitr; swap
    · iexact H3
    · ipureintro; exact fun _ => rfl
  · iintro ⟨⟨HA, HT0, HT1⟩, Ho, ⟨%d0, H0⟩, ⟨%d1, H1⟩, ⟨%d2, H2⟩, ⟨%Y, -, H3⟩⟩
    iapply (body_skipped c (crd a t) (ms0 a t) (hs0 a t) (ms1 a t) (hs1 a t) (ms2 a t) (hs2 a t) (ms3 a t) (hs3 a t) (a.1 0) (a.1 1) hw)
    isplitl [HT0]; · iexact HT0
    isplitl [HT1]; · iexact HT1
    iintro ⟨HT0, HT1⟩
    isplitl [HA HT0 HT1]
    · isplitl [HA]; · iexact HA
      isplitl [HT0]; · iexact HT0
      iexact HT1
    isplitl [Ho]; · iexact Ho
    isplitl [H0]; · iexact H0
    isplitl [H1]; · iexact H1
    isplitl [H2]; · iexact H2
    iexists _; isplitr; swap
    · iexact H3
    · ipureintro; exact fun h => absurd h hw

theorem body_obligation (c : Dev nD) : BodyObligationRel (dat a m c) (defs₀ (F := F)) Variants.none () Set.univ fgt (Rl a m c) := fun t => by
  rw [bigSep_W0, bigSep_W0]
  exact sound_body a m c t

/-- The data, with nothing said of the result where nothing is stored. -/
abbrev rdat (c : Dev nD) : RDat τ (Elt F) Unit ℕ (UR sig nD τ) ℕ (cfgA a) c := (dat a m c).toRRel fgt (Rl a m c)

set_option backward.isDefEq.respectTransparency.types false in
set_option maxHeartbeats 4000000 in
/-- The run, at tables that the launch memory holds. -/
theorem run_main (hpf : ∀ (c : Dev nD) (k : Fin 2), m ((c : Thread nD τ).loc (pre0.ref k)) = a.1 k) :
    θ_run (defs (F := F)) (onTc (τ := τ) (main (F := F))) (s₀ m ρ) (fun r =>
      RDat.FramePost (cfgA a) (rdat a m) (fun c b => m ((c : Thread nD τ).loc b)) r ∧ r.2.sem = fun _ => 0) :=
  Pipeline.RDat.θ_run_frameP (Q' := _) pcfgs (fun _ => a) (0 : Fin 1) launch0 defs₀ Variants.none (rdat a m) m ρ main
    (hbody := fun c => (body_obligation a m c).toRRel)
    (hshare := fun c w => by show (dat a m c).share w = fullShare; unfold Dat.share; split <;> rfl) (howed := fun _ _ => rfl)
    (V := fun c b => m ((c : Thread nD τ).loc b))
    (hmain := Pipeline.hmainP_region pcfgs (0 : Fin 1) defs₀ Variants.none m main (fun c => (main_chain c).trans rfl))
    (hA := fun _ _ => rfl) (hpf := hpf) (hΦ := fun _ _ => rfl)

end Cert.ExpertDownIdeal.Moe

end
-- ==== Proof.ExpertDownIdealRun.lean ====
/- The experts' call under its precondition: every entry of the first table names an expert of the layer, so every block
   of the weights lies inside its array, and the run leaves the arguments as they were. -/
module

public import proofs.«01_k».proof.Proof.ExpertDownIdealFrame
public import proofs.«01_k».proof.Pre_down_range
public import Idealize.ShloMosaic.Lib.ReduceAll

@[expose] public section

set_option maxRecDepth 16384

noncomputable section

namespace Cert.ExpertDownIdeal.Moe

open Cert.ExpertDownIdeal Cert.ExpertDownIdeal.Gen
open Idealize.ShloMosaic Idealize.ShloMosaic.TcCoe
open Idealize.SL.Sem
open Idealize.ShloMosaic.Pipeline (Dat RDat Cfg Window)

/-- The precondition, read: every entry of the first table is below eight. -/
theorem range_of [Cert.Pre_down_range.Facts] {F : FTy → Type} [FloatOps F] (te tv : IVec S150 32) (x : FVec F S76800x2816 .bf16) (w : FVec F S16x2816x2048 .bf16) (gs : FVec F S76800x128 .f32)
    (h : Cert.Pre_down_range.fn (F := F) te tv x w gs = fun _ => 1#1) (y : S150.Idx) : (te y).toNat < 8 := by
  have e := congrFun h (fun a => a.elim0)
  have e' := Host.reduce_andi_all _ _ _ _ _ e y
  have h0 := IntOp.cmpi_sge.1 (IntOp.andi_eq_one.1 e').1
  have h1 := IntOp.cmpi_slt.1 (IntOp.andi_eq_one.1 e').2
  have h0' : (0 : Int) ≤ (te y).toInt := h0
  have h1' : (te y).toInt < (8 : Int) := h1
  rw [BitVec.toInt_eq_toNat_cond] at h0' h1'
  have := (te y).isLt
  split at h0' <;> omega

variable {F : FTy → Type} [FloatOps F]

/-- An expert below eight and a column block of the grid keep the block inside the weights. -/
theorem block_inside (v : BitVec 32) (hv : v.toNat < 8) (i : grid0.Coords) (a : Fin 3) :
    ((![(Scalar.addi 0#32 v).toNat, (0#32 : BitVec 32).toNat, (BitVec.ofNat 32 (i 0).val).toNat] : Fin 3 → Nat) a + 1) * S1x2816x1024.size a
      ≤ S16x2816x2048.size a := by
  have hi : (i 0).val < 2 := (i 0).isLt
  have hv' : (Scalar.addi 0#32 v).toNat = v.toNat := by
    show (0#32 + v).toNat = v.toNat
    rw [BitVec.zero_add]
  match a with
  | ⟨0, _⟩ => show ((Scalar.addi 0#32 v).toNat + 1) * 1 ≤ 16; omega
  | ⟨1, _⟩ => show ((0#32 : BitVec 32).toNat + 1) * 2816 ≤ 2816; decide
  | ⟨2, _⟩ => show ((BitVec.ofNat 32 (i 0).val).toNat + 1) * 1024 ≤ 2048; rw [BitVec.toNat_ofNat, Nat.mod_eq_of_lt (by omega)]; omega

/-- Tables whose first names experts below eight are admissible. -/
theorem ok_of (pf : pre0.Contents (Elt F)) (h : ∀ y : S150.Idx, BitVec.toNat (w := 32) (pf 0 y) < 8) : ok0 pf :=
  fun i => ⟨block_inside _ (h _) i, .inr (Affine.block_words_dvd (of_decide_eq_true rfl) (by decide))⟩

variable (m : (ℓ : Loc nD τ sig) → Buf (Elt F) ℓ) (ρ : Dev nD → PrngReg)

/-- The tables as launched. -/
def tabs : pre0.Contents (Elt F) := fun k => m (((0 : Dev nD) : Thread nD τ).loc (pre0.ref k))

/-- The precondition, of the launch memory: the first table names experts below eight. -/
def InRange : Prop := ∀ (c : Dev nD) (y : S150.Idx), BitVec.toNat (w := 32) (m ((c : Thread nD τ).loc main_arg0) y) < 8

/-- The tables as launched, admissible. -/
def adm (h : InRange m) : (pcfg0 (F := F)).Adm := ⟨tabs m, ok_of _ (h 0)⟩

/-- What the run leaves: the arguments as launched, and the result as the data say. -/
theorem run_all (h : InRange m) :
    θ_run (defs (F := F)) (onTc (τ := τ) (main (F := F))) ⟨m, fun _ => 0, ρ⟩ (fun r => (∀ c : Dev nD,
      (∃ X : (w : Fin 4) → Fin (cfgA (adm m h)).N → ((cfgA (adm m h)).win w).block.Idx → Elt F ((cfgA (adm m h)).win w).elt,
        (∀ t, ((cfgA (adm m h)).win (3 : Fin 4)).flush t = true → Rl (adm m h) m c (3 : Fin 4) t (X 3 t))
        ∧ r.2.mem ((c : Thread nD τ).loc main_v0) = ((rdat (adm m h) m c).withAfter X).arrAt (3 : Fin 4) (cfgA (adm m h)).N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run (defs (F := F)) _ _).mono (fun r hr => ⟨fun c => ?_, hr.2⟩)
    (run_main (adm m h) m ρ (fun c k => by rw [Subsingleton.elim c 0]; rfl))
  have hp := hr.1
  refine ⟨?_, (hp c).2 main_arg0 (Pipeline.mem_restRefs_of (win := spec0) main_arg0 (by decide) (by decide)),
    (hp c).2 main_arg1 (Pipeline.mem_restRefs_of (win := spec0) main_arg1 (by decide) (by decide)),
    RDat.FramePost.arr_in hp c (0 : Fin 4) rfl, RDat.FramePost.arr_in hp c (1 : Fin 4) rfl, RDat.FramePost.arr_in hp c (2 : Fin 4) rfl⟩
  obtain ⟨X, hX, hA⟩ := RDat.FramePost.exists_exact hp c
  exact ⟨X, fun t ht => (dat (adm m h) m c).toRRel_leaves (w := (3 : Fin 4)) rfl (hX (3 : Fin 4) t ht), hA (3 : Fin 4)⟩

/-- The run keeps the arguments and ends with every counter at zero. -/
theorem frame_of (h : InRange m) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run (defs (F := F)) _ _).mono (fun r hr => ⟨fun c => (hr.1 c).2, hr.2⟩) (run_all m ρ h)

end Cert.ExpertDownIdeal.Moe

end
-- ==== Proof.ExpertDownValue.lean ====
/- The experts' second half: what the run leaves in the rows of a block that is stored. -/
module

public import proofs.«01_k».proof.Proof.ExpertDownIdealRun
public import proofs.«01_k».proof.Proof.Gen.ExpertDownIdeal
public import Idealize.ShloMosaic.Lib.Pointwise
public import Idealize.ShloMosaic.PureOps.Ideal.Laws

@[expose] public section

set_option maxRecDepth 16384

noncomputable section

namespace Cert.ExpertDownIdeal.Moe

open Cert.ExpertDownIdeal Cert.ExpertDownIdeal.Gen
open Idealize.ShloMosaic Idealize.ShloMosaic.TcCoe
open Idealize.ShloMosaic.Pipeline (Dat RDat Cfg Window)

/-- One entry of the result, from the rows, the weights of expert `e`, the gates and the index. -/
def downAt (x : Vec Ideal S76800x2816 .bf16) (w : Vec Ideal S16x2816x2048 .bf16) (gs : Vec Ideal S76800x128 .f32) (e : Fin 16) (i : Fin 76800) (j : Fin 2048) : EReal :=
  gs (ix2 i 0) * ∑ k : Fin 2816, x (ix2 i k) * w (ix3 e k j)

theorem gcol_apply (g : Vec Ideal S512x128 .f32) (i : Fin 512) : gcol (F := Ideal) g (ix2 i 0) = g (ix2 i 0) := by
  unfold gcol
  pointwise

theorem pay1_apply (x : Vec Ideal S512x2816 .bf16) (a : Vec Ideal S1x2816x1024 .bf16) (g : Vec Ideal S512x1 .f32) (i : Fin 512) (j : Fin 1024) :
    k0_pay1 x a g (ix2 i j) = g (ix2 i 0) * ∑ k : Fin 2816, x (ix2 i k) * a (ix3 0 k j) := by
  rw [mul_comm]
  pointwise [k0_pay1]

/-- The grid's coordinates at point `t`: row block `t % 150`, column block `t / 150`. -/
theorem coords : ∀ t : Fin grid0.N, ((grid0.coords t) 0).val = t.val / 150 ∧ ((grid0.coords t) 1).val = t.val % 150 := by
  decide +kernel

variable (a : (pcfg0 (F := Ideal)).Adm) (m : (ℓ : Loc nD τ sig) → Buf (Elt Ideal) ℓ) (c : Dev nD)

/-- The entry of the tables that row block `q` reads. -/
def at1 (q : Fin 150) : S150.Idx := fun b => match b with | ⟨0, _⟩ => q

theorem nat32 (n : ℕ) (h : n < 300) : (BitVec.ofNat 32 n).toNat = n := by
  rw [BitVec.toNat_ofNat]; exact Nat.mod_eq_of_lt (by omega)

theorem lt300 (t : Fin (cfgA a).N) : t.val < 300 := lt_of_lt_of_eq t.isLt N_0

/-- The row block of point `t`. -/
def rowOf (t : Fin (cfgA a).N) : Fin 150 := ⟨t.val % 150, Nat.mod_lt _ (by decide)⟩

theorem off1 (t : Fin (cfgA a).N) : k0_off1 (crd a t) = ![t.val % 150] := by
  rw [k0_off1_eq]; exact congrArg (fun n => ![n]) (coords t).2

theorem tab_idx (t : Fin (cfgA a).N) (y : S1.Idx) : (Rect.unit (s := S150) (k0_off1 (crd a t)) S1.size (k0_off1_inb (crd a t))).emb y = at1 (rowOf a t) := by
  funext b
  apply Fin.ext
  have hy : (y b).val < S1.size b := (y b).isLt
  have e := congrFun (off1 a t) b
  match b, hy, e with
  | ⟨0, _⟩, hy, e =>
    have hy' : (y 0).val = 0 := by have : (y 0).val < 1 := hy; omega
    show k0_off1 (crd a t) 0 + 1 * (y 0).val = t.val % 150
    rw [hy']
    exact (congrArg (· + 1 * 0) e).trans (by simp)

theorem word_eq (t : Fin (cfgA a).N) : wordAt (crd a t) (a.1 1) = a.1 1 (at1 (rowOf a t)) :=
  congrArg (a.1 1) (tab_idx a t _)

/-- The expert of point `t`. -/
def expOf (t : Fin (cfgA a).N) : ℕ := BitVec.toNat (w := 32) (a.1 0 (at1 (rowOf a t)))

theorem idx0 (t : Fin (cfgA a).N) : ((cfgA a).win (0 : Fin 4)).index t = ![t.val % 150, 0] := by
  have h : ((grid0.coords t) 1).val = t.val % 150 := (coords t).2
  show ![(BitVec.ofNat 32 ((grid0.coords t) 1).val).toNat, (0#32 : BitVec 32).toNat] = _
  rw [h, nat32 _ (by omega)]
  rfl

theorem idx3 (t : Fin (cfgA a).N) : ((cfgA a).win (3 : Fin 4)).index t = ![t.val % 150, t.val / 150] := by
  have h := coords t
  have ht := lt300 a t
  show ![(BitVec.ofNat 32 ((grid0.coords t) 1).val).toNat, (BitVec.ofNat 32 ((grid0.coords t) 0).val).toNat] = _
  rw [h.1, h.2, nat32 _ (by omega), nat32 _ (by omega)]

theorem idx1 (t : Fin (cfgA a).N) : ((cfgA a).win (1 : Fin 4)).index t = ![expOf a t, 0, t.val / 150] := by
  have h := coords t
  have ht := lt300 a t
  have e : Scalar.addi 0#32 (a.1 0 ((Rect.unit (s := S150) (k0_off1 (crd a t)) S1.size (k0_off1_inb (crd a t))).emb (Shape.Idx.first (numel1_S1.symm ▸ Nat.one_pos))))
      = a.1 0 (at1 (rowOf a t)) := by
    rw [tab_idx]; exact BitVec.zero_add _
  show ![(Scalar.addi 0#32 (a.1 0 ((Rect.unit (s := S150) (k0_off1 (crd a t)) S1.size (k0_off1_inb (crd a t))).emb (Shape.Idx.first (numel1_S1.symm ▸ Nat.one_pos))))).toNat,
    (0#32 : BitVec 32).toNat, (BitVec.ofNat 32 ((grid0.coords t) 0).val).toNat] = _
  rw [e, h.1, nat32 (t.val / 150) (by omega)]
  rfl

theorem idx2 (t : Fin (cfgA a).N) : ((cfgA a).win (2 : Fin 4)).index t = ![t.val % 150, 0] := idx0 a t

theorem exp_lt (t : Fin (cfgA a).N) : expOf a t < 16 := by
  have h := hinb0 a.1 a.2 (1 : Fin 4) (crd a t) (0 : Fin 3)
  have h' : (((cfgA a).win (1 : Fin 4)).index t (0 : Fin 3) + 1) * 1 ≤ 16 := h
  have e : ((cfgA a).win (1 : Fin 4)).index t (0 : Fin 3) = expOf a t := congrFun (idx1 a t) 0
  omega

theorem blk0 (t : Fin (cfgA a).N) (i : Fin 512) (k : Fin 2816) :
    iblk a m c (0 : Fin 4) t (ix2 i k) = m ((c : Thread nD τ).loc main_arg2) (ix2 ⟨512 * (t.val % 150) + i.val, by omega⟩ k) := by
  have e := idx0 a t
  refine congrArg (m ((c : Thread nD τ).loc main_arg2)) (funext fun b => Fin.ext ?_)
  match b with
  | ⟨0, _⟩ => show ((cfgA a).win (0 : Fin 4)).index t (0 : Fin 2) * 512 + 1 * i.val = 512 * (t.val % 150) + i.val
              rw [show ((cfgA a).win (0 : Fin 4)).index t (0 : Fin 2) = t.val % 150 from congrFun e 0]; omega
  | ⟨1, _⟩ => show ((cfgA a).win (0 : Fin 4)).index t (1 : Fin 2) * 2816 + 1 * k.val = k.val
              rw [show ((cfgA a).win (0 : Fin 4)).index t (1 : Fin 2) = 0 from congrFun e 1]; omega

/-- Column `j` of column block `q`. -/
def col (q : ℕ) (hq : q < 2) (j : Fin 1024) : Fin 2048 := ⟨1024 * q + j.val, by omega⟩

theorem div_lt (t : Fin (cfgA a).N) : t.val / 150 < 2 := by have := lt300 a t; omega

theorem blk1 (t : Fin (cfgA a).N) (k : Fin 2816) (j : Fin 1024) :
    iblk a m c (1 : Fin 4) t (ix3 0 k j) = m ((c : Thread nD τ).loc main_arg3) (ix3 ⟨expOf a t, exp_lt a t⟩ k (col (t.val / 150) (div_lt a t) j)) := by
  have e := idx1 a t
  refine congrArg (m ((c : Thread nD τ).loc main_arg3)) (funext fun b => Fin.ext ?_)
  match b with
  | ⟨0, _⟩ => show ((cfgA a).win (1 : Fin 4)).index t (0 : Fin 3) * 1 + 1 * 0 = expOf a t
              rw [show ((cfgA a).win (1 : Fin 4)).index t (0 : Fin 3) = expOf a t from congrFun e 0]; omega
  | ⟨1, _⟩ => show ((cfgA a).win (1 : Fin 4)).index t (1 : Fin 3) * 2816 + 1 * k.val = k.val
              rw [show ((cfgA a).win (1 : Fin 4)).index t (1 : Fin 3) = 0 from congrFun e 1]; omega
  | ⟨2, _⟩ => show ((cfgA a).win (1 : Fin 4)).index t (2 : Fin 3) * 1024 + 1 * j.val = 1024 * (t.val / 150) + j.val
              rw [show ((cfgA a).win (1 : Fin 4)).index t (2 : Fin 3) = t.val / 150 from congrFun e 2]; omega

theorem blk2 (t : Fin (cfgA a).N) (i : Fin 512) (k : Fin 128) :
    iblk a m c (2 : Fin 4) t (ix2 i k) = m ((c : Thread nD τ).loc main_arg4) (ix2 ⟨512 * (t.val % 150) + i.val, by omega⟩ k) := by
  have e := idx2 a t
  refine congrArg (m ((c : Thread nD τ).loc main_arg4)) (funext fun b => Fin.ext ?_)
  match b with
  | ⟨0, _⟩ => show ((cfgA a).win (2 : Fin 4)).index t (0 : Fin 2) * 512 + 1 * i.val = 512 * (t.val % 150) + i.val
              rw [show ((cfgA a).win (2 : Fin 4)).index t (0 : Fin 2) = t.val % 150 from congrFun e 0]; omega
  | ⟨1, _⟩ => show ((cfgA a).win (2 : Fin 4)).index t (1 : Fin 2) * 128 + 1 * k.val = k.val
              rw [show ((cfgA a).win (2 : Fin 4)).index t (1 : Fin 2) = 0 from congrFun e 1]; omega

/-- What a point that is stored leaves in its block. -/
theorem out_at (t : Fin (cfgA a).N) (i : Fin 512) (j : Fin 1024) :
    (dat a m c).after (3 : Fin 4) t (ix2 i j)
      = downAt (m ((c : Thread nD τ).loc main_arg2)) (m ((c : Thread nD τ).loc main_arg3)) (m ((c : Thread nD τ).loc main_arg4))
          ⟨expOf a t, exp_lt a t⟩ ⟨512 * (t.val % 150) + i.val, by omega⟩ (col (t.val / 150) (div_lt a t) j) := by
  rw [after3]
  refine (pay1_apply (iblk a m c (0 : Fin 4) t) (iblk a m c (1 : Fin 4) t) (gcol (iblk a m c (2 : Fin 4) t)) i j).trans ?_
  unfold downAt
  rw [gcol_apply (iblk a m c (2 : Fin 4) t), blk2]
  simp only [blk0, blk1]

/-- Every point writes its block back: the next point's is another. -/
theorem flush3 (t : Fin (cfgA a).N) : ((cfgA a).win (3 : Fin 4)).flush t = true := by
  have h : ∀ t : Fin grid0.N, Window.flushOf grid0 true cc0_transform_3 t = true := by decide +kernel
  exact h t

/-- The point that writes index `(i, j)`. -/
def pt (i : Fin 76800) (j : Fin 2048) : Fin (cfgA a).N :=
  ⟨150 * (j.val / 1024) + i.val / 512, by rw [show (cfgA a).N = 300 from N_0]; omega⟩

/-- What index `i` of the result holds when its block is stored. -/
def Holds (i : S76800x2048.Idx) (v : EReal) : Prop :=
  ∀ (q : Fin 150) (e : Fin 16), q.val = (i 0).val / 512 → k0_cond1 (a.1 1 (at1 q)) = 1#1 → BitVec.toNat (w := 32) (a.1 0 (at1 q)) = e.val →
    v = downAt (m ((c : Thread nD τ).loc main_arg2)) (m ((c : Thread nD τ).loc main_arg3)) (m ((c : Thread nD τ).loc main_arg4)) e (i 0) (i 1)

theorem emb3 (t : Fin (cfgA a).N) (y : S512x1024.Idx) :
    (((cfgA a).win (3 : Fin 4)).blk t).view.emb y = ix2 (⟨512 * (t.val % 150) + (y 0).val, by have : (y 0).val < 512 := (y 0).isLt; omega⟩ : Fin 76800)
      (col (t.val / 150) (div_lt a t) (y 1)) := by
  have e := idx3 a t
  funext b
  apply Fin.ext
  match b with
  | ⟨0, _⟩ => show ((cfgA a).win (3 : Fin 4)).index t (0 : Fin 2) * 512 + 1 * (y 0).val = 512 * (t.val % 150) + (y 0).val
              rw [show ((cfgA a).win (3 : Fin 4)).index t (0 : Fin 2) = t.val % 150 from congrFun e 0]; omega
  | ⟨1, _⟩ => show ((cfgA a).win (3 : Fin 4)).index t (1 : Fin 2) * 1024 + 1 * (y 1).val = 1024 * (t.val / 150) + (y 1).val
              rw [show ((cfgA a).win (3 : Fin 4)).index t (1 : Fin 2) = t.val / 150 from congrFun e 1]; omega

theorem cover3 (i : S76800x2048.Idx) :
    ∃ t : Fin (cfgA a).N, ((cfgA a).win (3 : Fin 4)).flush t = true ∧ i ∈ (((cfgA a).win (3 : Fin 4)).blk t).view.set := by
  have h0 : (i 0).val < 76800 := (i 0).isLt
  have h1 : (i 1).val < 2048 := (i 1).isLt
  have e := emb3 a (pt a (i 0) (i 1)) (ix2 (⟨(i 0).val % 512, Nat.mod_lt _ (by decide)⟩ : Fin 512) (⟨(i 1).val % 1024, Nat.mod_lt _ (by decide)⟩ : Fin 1024))
  have hp : (pt a (i 0) (i 1)).val = 150 * ((i 1).val / 1024) + (i 0).val / 512 := rfl
  have e' : (ix2 (⟨512 * ((pt a (i 0) (i 1)).val % 150) + (i 0).val % 512, by omega⟩ : Fin 76800)
      (col ((pt a (i 0) (i 1)).val / 150) (div_lt a _) (⟨(i 1).val % 1024, Nat.mod_lt _ (by decide)⟩ : Fin 1024)) : S76800x2048.Idx) = i := by
    funext b
    apply Fin.ext
    match b with
    | ⟨0, _⟩ => show 512 * ((pt a (i 0) (i 1)).val % 150) + (i 0).val % 512 = (i 0).val; omega
    | ⟨1, _⟩ => show 1024 * ((pt a (i 0) (i 1)).val / 150) + (i 1).val % 1024 = (i 1).val; omega
  exact ⟨pt a (i 0) (i 1), flush3 a _, Eq.subst (motive := fun z => z ∈ (((cfgA a).win (3 : Fin 4)).blk (pt a (i 0) (i 1))).view.set) (e.trans e') (View.emb_mem_set _ _)⟩

/-- A point that is stored holds the gated sum at every index of its block. -/
theorem holds_at (t : Fin (cfgA a).N) (y : S512x1024.Idx) (v : S512x1024.Idx → EReal)
    (hv : k0_cond1 (wordAt (crd a t) (a.1 1)) = 1#1 → v = (dat a m c).after (3 : Fin 4) t) :
    Holds a m c (ix2 (⟨512 * (t.val % 150) + (y 0).val, by have : (y 0).val < 512 := (y 0).isLt; omega⟩ : Fin 76800)
      (col (t.val / 150) (div_lt a t) (y 1))) (v y) := by
  intro q e hq hw he
  have hq' : q = rowOf a t := Fin.ext (by
    rw [hq]
    show (512 * (t.val % 150) + (y 0).val) / 512 = t.val % 150
    have : (y 0).val < 512 := (y 0).isLt
    omega)
  subst hq'
  have he' : e = ⟨expOf a t, exp_lt a t⟩ := Fin.ext he.symm
  subst he'
  refine (congrFun (hv (by rw [word_eq]; exact hw)) y).trans (Eq.trans ?_ (out_at a m c t (y 0) (y 1)))
  exact congrArg ((dat a m c).after (3 : Fin 4) t) (funext fun b => by match b with | ⟨0, _⟩ => rfl | ⟨1, _⟩ => rfl)

/-- The result array: where a row's block is stored, its rows are the gated sum with its expert's weights. -/
theorem final (X : (w : Fin 4) → Fin (cfgA a).N → ((cfgA a).win w).block.Idx → Elt Ideal ((cfgA a).win w).elt)
    (hX : ∀ t, ((cfgA a).win (3 : Fin 4)).flush t = true → Rl a m c (3 : Fin 4) t (X 3 t)) (i : S76800x2048.Idx) :
    Holds a m c i (((rdat a m c).withAfter X).arrAt (3 : Fin 4) (cfgA a).N i) :=
  ((rdat a m c).withAfter X).arrAt_forall_of_cover (3 : Fin 4) (Holds a m c)
    (fun t ht y => Eq.subst (motive := fun z => Holds a m c z (X 3 t y)) (emb3 a t y).symm (holds_at a m c t y (X 3 t) (hX t ht)))
    (cover3 a) i

end Cert.ExpertDownIdeal.Moe

end
-- ==== Proof.ExpertDownReference.lean ====
/- The experts' second half: the reference at an index. -/
module

public import proofs.«01_k».proof.Proof.ExpertDownValue
public import proofs.«01_k».proof.Proof.ExpertUpReference
public import proofs.«01_k».proof.Proof.Gen.ExpertDownReferenceIdeal.Read
public import proofs.«01_k».proof.Proof.Gen.ExpertDownReferenceIdeal.Run

@[expose] public section

set_option maxRecDepth 16384

noncomputable section

namespace Cert.ExpertDownReferenceIdeal.Lin

open Cert.ExpertDownReferenceIdeal Cert.ExpertDownReferenceIdeal.Gen Cert.ExpertDownReferenceIdeal.Read Idealize.ShloMosaic Cert.Linear
open Cert.ExpertDownIdeal.Moe (downAt at1)

variable (x0 : IVec S150 32) (x2 : Vec Ideal S76800x2816 .bf16) (x3 : Vec Ideal S16x2816x2048 .bf16) (x4 : Vec Ideal S76800x128 .f32) (i : Fin 76800) (j : Fin 2048)

/-- The row block of row `i`. -/
def blockOf (i : Fin 76800) : Fin 150 := ⟨i.val / 512, by omega⟩

theorem table_at : val_main_v3 (F := Ideal) x0 (ix1 i) = x0 (at1 (blockOf i)) := by
  pointwise [val_main_v3, val_main_v2]
  exact congrArg x0 (funext fun b => Fin.ext (by match b with | ⟨0, _⟩ => rfl))

/-- The sum of expert `e` at an index. -/
def dotAt (e : Fin 16) : EReal := ∑ k : Fin 2816, x2 (ix2 i k) * x3 (ix3 e k j)

theorem cond0 : val_main_call0_v0 (F := Ideal) x0 (ix2 i j) = IntOp.cmpi .eq (x0 (at1 (blockOf i))) 0#32 := by
  rw [← table_at x0 i]
  pointwise [val_main_call0_v0, val_main_v7, val_main_v6, val_main_c, val_main_v5]

theorem dot0 : val_main_v10 (F := Ideal) x2 x3 (ix2 i j) = dotAt x2 x3 i j 0 := by
  unfold dotAt
  pointwise [val_main_v10, val_main_v9, val_main_v8, val_main_v1, val_main_v0]

theorem cond1 : val_main_call1_v0 (F := Ideal) x0 (ix2 i j) = IntOp.cmpi .eq (x0 (at1 (blockOf i))) 1#32 := by
  rw [← table_at x0 i]
  pointwise [val_main_call1_v0, val_main_v14, val_main_v13, val_main_c_0, val_main_v12]

theorem dot1 : val_main_v17 (F := Ideal) x2 x3 (ix2 i j) = dotAt x2 x3 i j 1 := by
  unfold dotAt
  pointwise [val_main_v17, val_main_v16, val_main_v15, val_main_v1, val_main_v0]

theorem cond2 : val_main_call2_v0 (F := Ideal) x0 (ix2 i j) = IntOp.cmpi .eq (x0 (at1 (blockOf i))) 2#32 := by
  rw [← table_at x0 i]
  pointwise [val_main_call2_v0, val_main_v21, val_main_v20, val_main_c_1, val_main_v19]

theorem dot2 : val_main_v24 (F := Ideal) x2 x3 (ix2 i j) = dotAt x2 x3 i j 2 := by
  unfold dotAt
  pointwise [val_main_v24, val_main_v23, val_main_v22, val_main_v1, val_main_v0]

theorem cond3 : val_main_call3_v0 (F := Ideal) x0 (ix2 i j) = IntOp.cmpi .eq (x0 (at1 (blockOf i))) 3#32 := by
  rw [← table_at x0 i]
  pointwise [val_main_call3_v0, val_main_v28, val_main_v27, val_main_c_2, val_main_v26]

theorem dot3 : val_main_v31 (F := Ideal) x2 x3 (ix2 i j) = dotAt x2 x3 i j 3 := by
  unfold dotAt
  pointwise [val_main_v31, val_main_v30, val_main_v29, val_main_v1, val_main_v0]

theorem cond4 : val_main_call4_v0 (F := Ideal) x0 (ix2 i j) = IntOp.cmpi .eq (x0 (at1 (blockOf i))) 4#32 := by
  rw [← table_at x0 i]
  pointwise [val_main_call4_v0, val_main_v35, val_main_v34, val_main_c_3, val_main_v33]

theorem dot4 : val_main_v38 (F := Ideal) x2 x3 (ix2 i j) = dotAt x2 x3 i j 4 := by
  unfold dotAt
  pointwise [val_main_v38, val_main_v37, val_main_v36, val_main_v1, val_main_v0]

theorem cond5 : val_main_call5_v0 (F := Ideal) x0 (ix2 i j) = IntOp.cmpi .eq (x0 (at1 (blockOf i))) 5#32 := by
  rw [← table_at x0 i]
  pointwise [val_main_call5_v0, val_main_v42, val_main_v41, val_main_c_4, val_main_v40]

theorem dot5 : val_main_v45 (F := Ideal) x2 x3 (ix2 i j) = dotAt x2 x3 i j 5 := by
  unfold dotAt
  pointwise [val_main_v45, val_main_v44, val_main_v43, val_main_v1, val_main_v0]

theorem cond6 : val_main_call6_v0 (F := Ideal) x0 (ix2 i j) = IntOp.cmpi .eq (x0 (at1 (blockOf i))) 6#32 := by
  rw [← table_at x0 i]
  pointwise [val_main_call6_v0, val_main_v49, val_main_v48, val_main_c_5, val_main_v47]

theorem dot6 : val_main_v52 (F := Ideal) x2 x3 (ix2 i j) = dotAt x2 x3 i j 6 := by
  unfold dotAt
  pointwise [val_main_v52, val_main_v51, val_main_v50, val_main_v1, val_main_v0]

theorem cond7 : val_main_call7_v0 (F := Ideal) x0 (ix2 i j) = IntOp.cmpi .eq (x0 (at1 (blockOf i))) 7#32 := by
  rw [← table_at x0 i]
  pointwise [val_main_call7_v0, val_main_v56, val_main_v55, val_main_c_6, val_main_v54]

theorem dot7 : val_main_v59 (F := Ideal) x2 x3 (ix2 i j) = dotAt x2 x3 i j 7 := by
  unfold dotAt
  pointwise [val_main_v59, val_main_v58, val_main_v57, val_main_v1, val_main_v0]

theorem gate_apply : val_main_v62 (F := Ideal) x4 (ix2 i j) = x4 (ix2 i 0) := by
  pointwise [val_main_v62, val_main_v61]

theorem sum_apply (e : Fin 16) (he : e.val < 8) (h : (x0 (at1 (blockOf i))).toNat = e.val) :
    val_main_v60 (F := Ideal) x0 x2 x3 (ix2 i j) = dotAt x2 x3 i j e := by
  have hx : x0 (at1 (blockOf i)) = BitVec.ofNat 32 e.val := by rw [← h, BitVec.ofNat_toNat, BitVec.setWidth_eq]
  simp only [val_main_v60_apply, cond7, dot7, val_main_v53_apply, cond6, dot6, val_main_v46_apply, cond5, dot5, val_main_v39_apply, cond4, dot4, val_main_v32_apply, cond3, dot3, val_main_v25_apply, cond2, dot2, val_main_v18_apply, cond1, dot1, val_main_v11_apply, cond0, dot0, hx]
  obtain ⟨n, hn⟩ := e
  dsimp only at he ⊢
  interval_cases n <;> simp (disch := decide) only [select_other, select_same] <;> rfl

/-- The reference at an index: the gate times the sum with the weights of the row's expert. -/
theorem out_apply (e : Fin 16) (he : e.val < 8) (h : (x0 (at1 (blockOf i))).toNat = e.val) :
    val_main_v64 (F := Ideal) x0 x2 x3 x4 (ix2 i j) = downAt x2 x3 x4 e i j := by
  refine (val_main_v64_apply (F := Ideal) x0 x2 x3 x4 (ix2 i j)).trans ?_
  refine Eq.trans (b := val_main_v63 (F := Ideal) x0 x2 x3 x4 (ix2 i j)) rfl ?_
  refine (val_main_v63_apply (F := Ideal) x0 x2 x3 x4 (ix2 i j)).trans ?_
  rw [gate_apply, sum_apply x0 x2 x3 i j e he h]
  rfl

end Cert.ExpertDownReferenceIdeal.Lin

end
-- ==== Proof.ExpertDownAlgebraic.lean ====
/- The experts' second half: the two programs' results equal on the rows of the blocks that hold
   any. -/
module

public import proofs.«01_k».proof.Defs
public import proofs.«01_k».proof.Proof.ExpertDownReference
public import proofs.«01_k».proof.Proof.ExpertUpAlgebraic
public import proofs.«01_k».proof.Proof.ExpertDownRun
public import proofs.«01_k».proof.Proof.Gen.ExpertDownReferenceIdeal.Read
public import proofs.«01_k».proof.Proof.Gen.ExpertDownReferenceIdeal.Run
public import proofs.«01_k».proof.Proof.Gen.On_down_rows
public import proofs.«01_k».proof.Proof.Gen.Pre_down_range

@[expose] public section

set_option maxRecDepth 16384

noncomputable section

namespace Cert.Proof

open Idealize.ShloMosaic Idealize.ShloMosaic.TcCoe Idealize.SL.Sem
open Cert.ExpertDownIdeal.Moe (downAt at1 InRange)

/-- The mask selects rows of blocks whose word is positive. -/
theorem down_row (te tv : IVec Cert.On_down_rows.S150 32) (x : Vec Ideal Cert.On_down_rows.S76800x2816 .bf16) (w : Vec Ideal Cert.On_down_rows.S16x2816x2048 .bf16) (gs : Vec Ideal Cert.On_down_rows.S76800x128 .f32)
    (i : Fin 76800) (j : Fin 2048) (hm : Cert.On_down_rows.fn (F := Ideal) te tv x w gs (ix2 i j) = 1#1) :
    IntOp.cmpi .sgt (tv (at1 (Cert.ExpertDownReferenceIdeal.Lin.blockOf i))) 0#32 = 1#1 := by
  rw [← hm]
  pointwise [Cert.On_down_rows.fn]
  exact congrArg (fun v => IntOp.cmpi .sgt v 0#32) (congrArg tv (funext fun b => Fin.ext (by match b with | ⟨0, _⟩ => rfl)))

theorem inRange_down (m : (ℓ : Loc Cert.ExpertDownIdeal.nD Cert.ExpertDownIdeal.τ Cert.ExpertDownIdeal.sig) → Buf (Elt Ideal) ℓ) (h : Cert.Pre_ExpertDownIdeal m) : InRange m :=
  fun c y => Cert.ExpertDownIdeal.Moe.range_of _ _ _ _ _ (h c) y

theorem frame_expertDownIdeal : Cert.quiescent_ExpertDownIdeal := fun m g h => Cert.ExpertDownIdeal.Moe.frame_of m g (inRange_down m h)

theorem frame_expertDown : Cert.quiescent_ExpertDown := fun m g h =>
  Cert.ExpertDown.Moe.frame_of m g (fun c y => Cert.ExpertDown.Moe.range_of _ _ _ _ _ (h c) y)

theorem frame_expertDownReference : Cert.quiescent_ExpertDownReferenceIdeal := by
  intro m g _
  exact (θ_run Cert.ExpertDownReferenceIdeal.defs _ _).mono (fun r h => ⟨fun c => (h c).2,
      Idealize.ShloMosaic.sem_eq_zero_of_no_sems (by decide) r.2⟩)
    (Cert.ExpertDownReferenceIdeal.Value.run (F := Ideal) m g)

theorem frame_expertDownReference_range : Cert.quiescent_ExpertDownReferenceIdeal_pre_down_range := fun m g _ => frame_expertDownReference m g trivial

/-- The experts' second half, equal to the reference over the extended reals on the rows of the blocks that hold any. -/
theorem algebraic_expertDown : Cert.algebraic_ExpertDownIdeal_ExpertDownReferenceIdeal_on_down_rows := by
  intro m g m' g' hpre hagree
  have hr := inRange_down m hpre
  refine ⟨fun c => Cert.ExpertDownReferenceIdeal.Read.val_main_v64 (F := Ideal) (m ((c.tc : Thread Cert.ExpertDownIdeal.nD Cert.ExpertDownIdeal.τ).loc Cert.ExpertDownIdeal.main_arg0)) (m ((c.tc : Thread Cert.ExpertDownIdeal.nD Cert.ExpertDownIdeal.τ).loc Cert.ExpertDownIdeal.main_arg2)) (m ((c.tc : Thread Cert.ExpertDownIdeal.nD Cert.ExpertDownIdeal.τ).loc Cert.ExpertDownIdeal.main_arg3)) (m ((c.tc : Thread Cert.ExpertDownIdeal.nD Cert.ExpertDownIdeal.τ).loc Cert.ExpertDownIdeal.main_arg4)), ?_, ?_⟩
  · refine (θ_run Cert.ExpertDownIdeal.defs _ _).mono (fun r h c => ?_) (Cert.ExpertDownIdeal.Moe.run_all m g hr)
    obtain ⟨⟨X, hX, h0⟩, h1⟩ := h.1 c
    refine ⟨fun i hm => ?_, h1⟩
    rw [h0]
    idx_vars i
    have hc : c = 0 := Subsingleton.elim c 0
    subst hc
    have hp : Cert.ExpertDownIdeal.k0_cond1 _ = 1#1 := stored_of_pos _ (down_row _ _ _ _ _ i0 i1 hm)
    have hlt := hr 0 (at1 (Cert.ExpertDownReferenceIdeal.Lin.blockOf i0))
    exact (Cert.ExpertDownIdeal.Moe.final (Cert.ExpertDownIdeal.Moe.adm m hr) m 0 X hX (ix2 i0 i1) (Cert.ExpertDownReferenceIdeal.Lin.blockOf i0) ⟨_, Nat.lt_trans hlt (by decide)⟩ rfl hp rfl).trans
      (Cert.ExpertDownReferenceIdeal.Lin.out_apply _ _ _ _ i0 i1 ⟨_, Nat.lt_trans hlt (by decide)⟩ hlt rfl).symm
  · refine (θ_run Cert.ExpertDownReferenceIdeal.defs _ _).mono (fun r h c => ?_) (Cert.ExpertDownReferenceIdeal.Value.run m' g')
    obtain ⟨h0, h1⟩ := h c
    obtain ⟨a0, _, a2, a3, a4⟩ := hagree c
    refine ⟨fun i _ => congrFun (h0.trans ((Cert.ExpertDownReferenceIdeal.Read.val_main_v64_eq (F := Ideal) m' c).trans ?_)) i, h1⟩
    exact congr (congr (congr (congrArg (Cert.ExpertDownReferenceIdeal.Read.val_main_v64 (F := Ideal)) a0) a2) a3) a4

end Cert.Proof

end
-- ==== Proof.InProjKernel.lean ====
/- The input projection of the gated-linear-attention and the Hyena layer: what the kernel leaves at an index. -/
module

public import proofs.«01_k».proof.Proof.Gen.InProjIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.InProjIdeal.Lin

open Cert.InProjIdeal Cert.InProjIdeal.Gen Idealize.ShloMosaic Idealize.ShloMosaic.TcCoe
open Idealize.ShloMosaic.Pipeline (Dat)

/-- One entry of the result, from the arguments. -/
def entryAt (a : Vec Ideal S24576x2048 .bf16) (w : Vec Ideal S2048x6144 .f32) (i : Fin 24576) (j : Fin 6144) : EReal :=
  ∑ k : Fin 2048, a (ix2 i k) * w (ix2 k j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x1024 .f32) (k : Fin 2048) (j : Fin 1024) : k0_pay1 w (ix2 k j) = w (ix2 k j) := by
  pointwise [k0_pay1]

theorem pay2_apply (a : Vec Ideal S512x2048 .bf16) (w : Vec Ideal S2048x1024 .bf16)
    (i : Fin 512) (j : Fin 1024) :
    k0_pay2 a w (ix2 i j) = ∑ k : Fin 2048, a (ix2 i k) * w (ix2 k j) := by
  pointwise [k0_pay2]
  try simp only [Ideal.ofBits_zero_f32, zero_add]

section
variable (x0 : Vec Ideal S512x2048 .bf16) (x1 : Vec Ideal S2048x1024 .f32)
variable (c : Dev nD) (i : grid0.Coords)
    (a2 : Memref sig .tc .vmem S512x2048 .bf16) (h2 : a2.IsWhole)
    (a3 : Memref sig .tc .vmem S2048x1024 .f32) (h3 : a3.IsWhole)
    (a4 : Memref sig .tc .vmem S512x1024 .f32) (h4 : a4.IsWhole)
    (a5 : Memref sig .tc .vmem S2048x1024 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S2048x1024) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S2048x1024) hz2, View.ld_unit_zero (S := S512x2048) hz2, View.readCov_unit_zero (S := S2048x1024) _ hz2]

theorem outB_eq (hc0) (s0 : Vec Ideal S2048x1024 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S2048x1024) hz2, View.ld_unit_zero (S := S512x2048) hz2]
end

variable (m : (ℓ : Loc nD τ sig) → Buf (Elt Ideal) ℓ) (c : Dev nD)

/-- The windows' block indices at point `t`: row block `t % 48`, column block `t / 48`. -/
theorem idx : ∀ t : Fin grid0.N, win0_0.index t = ![t.val % 48, 0] ∧ win0_1.index t = ![0, t.val / 48] := by
  decide +kernel

/-- Column `j` of column block `q`. -/
def col (q : ℕ) (hq : q < 6) (j : Fin 1024) : Fin 6144 := ⟨1024 * q + j.val, by omega⟩

theorem col_congr {q q' : ℕ} (h : q = q') (hq : q < 6) (hq' : q' < 6) (j : Fin 1024) : col q hq j = col q' hq' j := by
  subst h; rfl

theorem div_lt {n : ℕ} (h : n < cfg0.N) : n / 48 < 6 := by
  have : n < 288 := lt_of_lt_of_eq h N_0
  omega

theorem blk0 (t : Fin cfg0.N) (i : Fin 512) (k : Fin 2048) :
    iblk m c 0 t (ix2 i k) = m ((c : Thread nD τ).loc main_arg0) (ix2 ⟨512 * (t.val % 48) + i.val, by omega⟩ k) := by
  have hi := idx t
  blk_simp [iblk, hi.1]
  entry_read
  pointwise
  blk_ext [hi.1]

theorem blk1 (t : Fin cfg0.N) (k : Fin 2048) (j : Fin 1024) :
    iblk m c 1 t (ix2 k j) = m ((c : Thread nD τ).loc main_arg1) (ix2 k (col (t.val / 48) (div_lt t.isLt) j)) := by
  have hi := idx t
  unfold col
  blk_simp [iblk, hi.2]
  entry_read
  pointwise
  blk_ext [hi.2]

theorem scratch_A (t : Fin cfg0.N) (h0 : t.val % 48 = 0) (k : Fin 2048) (j : Fin 1024) :
    (outsAt0 m c t.val t.isLt).2 (ix2 k j) = m ((c : Thread nD τ).loc main_arg1) (ix2 k (col (t.val / 48) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 1024),
    (outsAt0 m c n hn).2 (ix2 k j) = m ((c : Thread nD τ).loc main_arg1) (ix2 k (col (n / 48) (div_lt hn) j)) := by
  induction n using Nat.strong_induction_on with
  | _ n ih =>
    intro hn k j
    by_cases h0 : n % 48 = 0
    · exact scratch_A m c ⟨n, hn⟩ h0 k j
    · have e : n / 48 = (n - 1) / 48 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 48 = 0
  · rw [outsAt0_A m c t h0, scr0_eq, outA_eq]
  · rw [outsAt0_B m c t h0, outB_eq]
    rfl

/-- What point `t` leaves in its output block. -/
theorem out_at (t : Fin cfg0.N) (i : Fin 512) (j : Fin 1024) :
    (outsAt0 m c t.val t.isLt).1 (ix2 i j)
      = entryAt (m ((c : Thread nD τ).loc main_arg0)) (m ((c : Thread nD τ).loc main_arg1))
          ⟨512 * (t.val % 48) + i.val, by omega⟩ (col (t.val / 48) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 6144) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 288 from N_0]
    show 1 * (i.val / 512 - 0) + 48 * (j.val / 1024 - 0) < 288
    omega
  rw [dif_pos hp, ← Value.outsAt0_sweep m c _ hp]
  have h1 : (1 * (i.val / 512 - 0) + 48 * (j.val / 1024 - 0)) % 48 = i.val / 512 := by omega
  have h2 : (1 * (i.val / 512 - 0) + 48 * (j.val / 1024 - 0)) / 48 = j.val / 1024 := by omega
  have hl : Value.loc2Of (ix2 i j) = ix2 ⟨i.val % 512, Nat.mod_lt _ (by decide)⟩ ⟨j.val % 1024, Nat.mod_lt _ (by decide)⟩ := by
    funext a; fin_cases a <;> rfl
  rw [hl]
  refine (out_at m c ⟨_, hp⟩ _ _).trans (congrArg₂ (entryAt _ _) (Fin.ext ?_) (Fin.ext ?_))
  · show 512 * ((1 * (i.val / 512 - 0) + 48 * (j.val / 1024 - 0)) % 48) + i.val % 512 = i.val
    rw [h1]; omega
  · show 1024 * ((1 * (i.val / 512 - 0) + 48 * (j.val / 1024 - 0)) / 48) + j.val % 1024 = j.val
    rw [h2]; omega

end Cert.InProjIdeal.Lin

end
-- ==== Proof.InProjReference.lean ====
/- The input projection of the gated-linear-attention and the Hyena layer: the reference at an index, and the two programs' results equal. -/
module

public import proofs.«01_k».proof.Defs
public import proofs.«01_k».proof.Proof.InProjKernel
public import proofs.«01_k».proof.Proof.Gen.InProjReferenceIdeal.Read
public import proofs.«01_k».proof.Proof.Gen.InProjReferenceIdeal.Run

@[expose] public section

set_option maxRecDepth 16384

noncomputable section

namespace Cert.InProjReferenceIdeal.Lin

open Cert.InProjReferenceIdeal Cert.InProjReferenceIdeal.Gen Cert.InProjReferenceIdeal.Read Idealize.ShloMosaic
open Cert.InProjIdeal.Lin (entryAt)

theorem out_apply (a : Vec Ideal S24576x2048 .bf16) (w : Vec Ideal S2048x6144 .f32) (i : Fin 24576) (j : Fin 6144) :
    val_main_v0 (F := Ideal) a w (ix2 i j) = entryAt a w i j := by
  unfold entryAt
  pointwise [val_main_v0]

end Cert.InProjReferenceIdeal.Lin

namespace Cert.Proof

open Idealize.ShloMosaic Idealize.SL.Sem

/-- The input projection of the gated-linear-attention and the Hyena layer, equal to the reference over the extended reals. -/
theorem algebraic_inProj : Cert.algebraic_InProjIdeal_InProjReferenceIdeal := by
  intro m g m' g' _ hagree
  refine ⟨fun c => Cert.InProjReferenceIdeal.Read.val_main_v0 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)), ?_, ?_⟩
  · refine (θ_run Cert.InProjIdeal.defs _ _).mono (fun r h c => ?_) (Cert.InProjIdeal.Value.run_blocks m g)
    obtain ⟨h0, h1⟩ := h c
    refine ⟨?_, h1⟩
    rw [h0]
    funext i
    idx_vars i
    exact (Cert.InProjIdeal.Lin.final m c i0 i1).trans (Cert.InProjReferenceIdeal.Lin.out_apply _ _ i0 i1).symm
  · refine (θ_run Cert.InProjReferenceIdeal.defs _ _).mono (fun r h c => ?_) (Cert.InProjReferenceIdeal.Value.run m' g')
    obtain ⟨h0, h1⟩ := h c
    refine ⟨?_, h1⟩
    rw [h0, Cert.InProjReferenceIdeal.Read.val_main_v0_eq, (hagree c).1, (hagree c).2]

theorem frame_inProjReference : Cert.quiescent_InProjReferenceIdeal := by
  intro m g _
  exact (θ_run Cert.InProjReferenceIdeal.defs _ _).mono (fun r h => ⟨fun c => (h c).2,
      Idealize.ShloMosaic.sem_eq_zero_of_no_sems (by decide) r.2⟩)
    (Cert.InProjReferenceIdeal.Value.run (F := Ideal) m g)

end Cert.Proof

end
-- ==== Proof.WideProjKernel.lean ====
/- The input projection of the HGRN2 layer: what the kernel leaves at an index. -/
module

public import proofs.«01_k».proof.Proof.Gen.WideProjIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.WideProjIdeal.Lin

open Cert.WideProjIdeal Cert.WideProjIdeal.Gen Idealize.ShloMosaic Idealize.ShloMosaic.TcCoe
open Idealize.ShloMosaic.Pipeline (Dat)

/-- One entry of the result, from the arguments. -/
def entryAt (a : Vec Ideal S24576x2048 .bf16) (w : Vec Ideal S2048x10240 .f32) (i : Fin 24576) (j : Fin 10240) : EReal :=
  ∑ k : Fin 2048, a (ix2 i k) * w (ix2 k j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x1024 .f32) (k : Fin 2048) (j : Fin 1024) : k0_pay1 w (ix2 k j) = w (ix2 k j) := by
  pointwise [k0_pay1]

theorem pay2_apply (a : Vec Ideal S512x2048 .bf16) (w : Vec Ideal S2048x1024 .bf16)
    (i : Fin 512) (j : Fin 1024) :
    k0_pay2 a w (ix2 i j) = ∑ k : Fin 2048, a (ix2 i k) * w (ix2 k j) := by
  pointwise [k0_pay2]
  try simp only [Ideal.ofBits_zero_f32, zero_add]

section
variable (x0 : Vec Ideal S512x2048 .bf16) (x1 : Vec Ideal S2048x1024 .f32)
variable (c : Dev nD) (i : grid0.Coords)
    (a2 : Memref sig .tc .vmem S512x2048 .bf16) (h2 : a2.IsWhole)
    (a3 : Memref sig .tc .vmem S2048x1024 .f32) (h3 : a3.IsWhole)
    (a4 : Memref sig .tc .vmem S512x1024 .f32) (h4 : a4.IsWhole)
    (a5 : Memref sig .tc .vmem S2048x1024 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S2048x1024) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S2048x1024) hz2, View.ld_unit_zero (S := S512x2048) hz2, View.readCov_unit_zero (S := S2048x1024) _ hz2]

theorem outB_eq (hc0) (s0 : Vec Ideal S2048x1024 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S2048x1024) hz2, View.ld_unit_zero (S := S512x2048) hz2]
end

variable (m : (ℓ : Loc nD τ sig) → Buf (Elt Ideal) ℓ) (c : Dev nD)

/-- The windows' block indices at point `t`: row block `t % 48`, column block `t / 48`. -/
theorem idx : ∀ t : Fin grid0.N, win0_0.index t = ![t.val % 48, 0] ∧ win0_1.index t = ![0, t.val / 48] := by
  decide +kernel

/-- Column `j` of column block `q`. -/
def col (q : ℕ) (hq : q < 10) (j : Fin 1024) : Fin 10240 := ⟨1024 * q + j.val, by omega⟩

theorem col_congr {q q' : ℕ} (h : q = q') (hq : q < 10) (hq' : q' < 10) (j : Fin 1024) : col q hq j = col q' hq' j := by
  subst h; rfl

theorem div_lt {n : ℕ} (h : n < cfg0.N) : n / 48 < 10 := by
  have : n < 480 := lt_of_lt_of_eq h N_0
  omega

theorem blk0 (t : Fin cfg0.N) (i : Fin 512) (k : Fin 2048) :
    iblk m c 0 t (ix2 i k) = m ((c : Thread nD τ).loc main_arg0) (ix2 ⟨512 * (t.val % 48) + i.val, by omega⟩ k) := by
  have hi := idx t
  blk_simp [iblk, hi.1]
  entry_read
  pointwise
  blk_ext [hi.1]

theorem blk1 (t : Fin cfg0.N) (k : Fin 2048) (j : Fin 1024) :
    iblk m c 1 t (ix2 k j) = m ((c : Thread nD τ).loc main_arg1) (ix2 k (col (t.val / 48) (div_lt t.isLt) j)) := by
  have hi := idx t
  unfold col
  blk_simp [iblk, hi.2]
  entry_read
  pointwise
  blk_ext [hi.2]

theorem scratch_A (t : Fin cfg0.N) (h0 : t.val % 48 = 0) (k : Fin 2048) (j : Fin 1024) :
    (outsAt0 m c t.val t.isLt).2 (ix2 k j) = m ((c : Thread nD τ).loc main_arg1) (ix2 k (col (t.val / 48) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 1024),
    (outsAt0 m c n hn).2 (ix2 k j) = m ((c : Thread nD τ).loc main_arg1) (ix2 k (col (n / 48) (div_lt hn) j)) := by
  induction n using Nat.strong_induction_on with
  | _ n ih =>
    intro hn k j
    by_cases h0 : n % 48 = 0
    · exact scratch_A m c ⟨n, hn⟩ h0 k j
    · have e : n / 48 = (n - 1) / 48 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 48 = 0
  · rw [outsAt0_A m c t h0, scr0_eq, outA_eq]
  · rw [outsAt0_B m c t h0, outB_eq]
    rfl

/-- What point `t` leaves in its output block. -/
theorem out_at (t : Fin cfg0.N) (i : Fin 512) (j : Fin 1024) :
    (outsAt0 m c t.val t.isLt).1 (ix2 i j)
      = entryAt (m ((c : Thread nD τ).loc main_arg0)) (m ((c : Thread nD τ).loc main_arg1))
          ⟨512 * (t.val % 48) + i.val, by omega⟩ (col (t.val / 48) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 10240) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 480 from N_0]
    show 1 * (i.val / 512 - 0) + 48 * (j.val / 1024 - 0) < 480
    omega
  rw [dif_pos hp, ← Value.outsAt0_sweep m c _ hp]
  have h1 : (1 * (i.val / 512 - 0) + 48 * (j.val / 1024 - 0)) % 48 = i.val / 512 := by omega
  have h2 : (1 * (i.val / 512 - 0) + 48 * (j.val / 1024 - 0)) / 48 = j.val / 1024 := by omega
  have hl : Value.loc2Of (ix2 i j) = ix2 ⟨i.val % 512, Nat.mod_lt _ (by decide)⟩ ⟨j.val % 1024, Nat.mod_lt _ (by decide)⟩ := by
    funext a; fin_cases a <;> rfl
  rw [hl]
  refine (out_at m c ⟨_, hp⟩ _ _).trans (congrArg₂ (entryAt _ _) (Fin.ext ?_) (Fin.ext ?_))
  · show 512 * ((1 * (i.val / 512 - 0) + 48 * (j.val / 1024 - 0)) % 48) + i.val % 512 = i.val
    rw [h1]; omega
  · show 1024 * ((1 * (i.val / 512 - 0) + 48 * (j.val / 1024 - 0)) / 48) + j.val % 1024 = j.val
    rw [h2]; omega

end Cert.WideProjIdeal.Lin

end
-- ==== Proof.WideProjReference.lean ====
/- The input projection of the HGRN2 layer: the reference at an index, and the two programs' results equal. -/
module

public import proofs.«01_k».proof.Defs
public import proofs.«01_k».proof.Proof.WideProjKernel
public import proofs.«01_k».proof.Proof.Gen.WideProjReferenceIdeal.Read
public import proofs.«01_k».proof.Proof.Gen.WideProjReferenceIdeal.Run

@[expose] public section

set_option maxRecDepth 16384

noncomputable section

namespace Cert.WideProjReferenceIdeal.Lin

open Cert.WideProjReferenceIdeal Cert.WideProjReferenceIdeal.Gen Cert.WideProjReferenceIdeal.Read Idealize.ShloMosaic
open Cert.WideProjIdeal.Lin (entryAt)

theorem out_apply (a : Vec Ideal S24576x2048 .bf16) (w : Vec Ideal S2048x10240 .f32) (i : Fin 24576) (j : Fin 10240) :
    val_main_v0 (F := Ideal) a w (ix2 i j) = entryAt a w i j := by
  unfold entryAt
  pointwise [val_main_v0]

end Cert.WideProjReferenceIdeal.Lin

namespace Cert.Proof

open Idealize.ShloMosaic Idealize.SL.Sem

/-- The input projection of the HGRN2 layer, equal to the reference over the extended reals. -/
theorem algebraic_wideProj : Cert.algebraic_WideProjIdeal_WideProjReferenceIdeal := by
  intro m g m' g' _ hagree
  refine ⟨fun c => Cert.WideProjReferenceIdeal.Read.val_main_v0 (F := Ideal) (m ((c.tc : Thread Cert.WideProjIdeal.nD Cert.WideProjIdeal.τ).loc Cert.WideProjIdeal.main_arg0)) (m ((c.tc : Thread Cert.WideProjIdeal.nD Cert.WideProjIdeal.τ).loc Cert.WideProjIdeal.main_arg1)), ?_, ?_⟩
  · refine (θ_run Cert.WideProjIdeal.defs _ _).mono (fun r h c => ?_) (Cert.WideProjIdeal.Value.run_blocks m g)
    obtain ⟨h0, h1⟩ := h c
    refine ⟨?_, h1⟩
    rw [h0]
    funext i
    idx_vars i
    exact (Cert.WideProjIdeal.Lin.final m c i0 i1).trans (Cert.WideProjReferenceIdeal.Lin.out_apply _ _ i0 i1).symm
  · refine (θ_run Cert.WideProjReferenceIdeal.defs _ _).mono (fun r h c => ?_) (Cert.WideProjReferenceIdeal.Value.run m' g')
    obtain ⟨h0, h1⟩ := h c
    refine ⟨?_, h1⟩
    rw [h0, Cert.WideProjReferenceIdeal.Read.val_main_v0_eq, (hagree c).1, (hagree c).2]

theorem frame_wideProjReference : Cert.quiescent_WideProjReferenceIdeal := by
  intro m g _
  exact (θ_run Cert.WideProjReferenceIdeal.defs _ _).mono (fun r h => ⟨fun c => (h c).2,
      Idealize.ShloMosaic.sem_eq_zero_of_no_sems (by decide) r.2⟩)
    (Cert.WideProjReferenceIdeal.Value.run (F := Ideal) m g)

end Cert.Proof

end
-- ==== Proof.OutProjKernel.lean ====
/- The output projection with the gated residual add: what the kernel leaves at an index. -/
module

public import proofs.«01_k».proof.Proof.Gen.OutProjIdeal.Value
public import proofs.«01_k».proof.Proof.DownKernel
public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.OutProjIdeal.Lin

open Cert.OutProjIdeal Cert.OutProjIdeal.Gen Idealize.ShloMosaic Idealize.ShloMosaic.TcCoe
open Idealize.ShloMosaic.Pipeline (Dat)
open Cert.DownIdeal.Lin (group group_lt)

/-- One entry of the result, from the arguments. -/
def entryAt (a : Vec Ideal S24576x2048 .bf16) (w : Vec Ideal S2048x2048 .f32) (x : Vec Ideal S24576x2048 .f32) (g : Vec Ideal S8x1x2048 .f32) (i : Fin 24576) (j : Fin 2048) : EReal :=
  x (ix2 i j) + (∑ k : Fin 2048, a (ix2 i k) * w (ix2 k j)) * g (ix3 ⟨group i.val, group_lt i⟩ 0 j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x1024 .f32) (k : Fin 2048) (j : Fin 1024) : k0_pay1 w (ix2 k j) = w (ix2 k j) := by
  pointwise [k0_pay1]

theorem pay2_apply (a : Vec Ideal S512x2048 .bf16) (w : Vec Ideal S2048x1024 .bf16) (g : Vec Ideal S1x1x1024 .f32) (x : Vec Ideal S512x1024 .f32)
    (i : Fin 512) (j : Fin 1024) :
    k0_pay2 a w g x (ix2 i j) = x (ix2 i j) + (∑ k : Fin 2048, a (ix2 i k) * w (ix2 k j)) * g (ix3 0 0 j) := by
  pointwise [k0_pay2]
  try simp only [Ideal.ofBits_zero_f32, zero_add]

section
variable (x0 : Vec Ideal S512x2048 .bf16) (x1 : Vec Ideal S2048x1024 .f32) (x2 : Vec Ideal S512x1024 .f32) (x3 : Vec Ideal S1x1x1024 .f32)
variable (c : Dev nD) (i : grid0.Coords)
    (a2 : Memref sig .tc .vmem S512x2048 .bf16) (h2 : a2.IsWhole)
    (a3 : Memref sig .tc .vmem S2048x1024 .f32) (h3 : a3.IsWhole)
    (a4 : Memref sig .tc .vmem S512x1024 .f32) (h4 : a4.IsWhole)
    (a5 : Memref sig .tc .vmem S1x1x1024 .f32) (h5 : a5.IsWhole)
    (a6 : Memref sig .tc .vmem S512x1024 .f32) (h6 : a6.IsWhole)
    (a7 : Memref sig .tc .vmem S2048x1024 .bf16) (h7 : a7.IsWhole)

theorem scr0_eq (hc0) : sout0_A_0 c i a2 h2 a3 h3 a4 h4 a5 h5 a6 h6 a7 h7 hc0 x0 x1 x2 x3 = k0_pay1 x1 := by
  unfold sout0_A_0
  rw [View.read_writes_eq_canon _ _ _ (scover0_A_0 c i a2 h2 a3 h3 a4 h4 a5 h5 a6 h6 a7 h7 hc0 x0 x1 x2 x3)]
  unfold kernelRun0_A
  dsimp only
  sl_unfold_words
  rw [View.canon_unit_zero hz2]
  simp only [View.readAt_eq_ld, h2.read_unread, h3.read_unread, h4.read_unread, h5.read_unread, View.ld_unit_zero (S := S2048x1024) hz2]

theorem outA_eq (hc0) : out0_A_4 c i a2 h2 a3 h3 a4 h4 a5 h5 a6 h6 a7 h7 hc0 x0 x1 x2 x3 = k0_pay2 x0 (k0_pay1 x1) x3 x2 := by
  unfold out0_A_4
  rw [View.read_writes_eq_canon _ _ _ (cover0_A_4 c i a2 h2 a3 h3 a4 h4 a5 h5 a6 h6 a7 h7 hc0 x0 x1 x2 x3)]
  unfold kernelRun0_A
  dsimp only
  sl_unfold_words
  rw [View.canon_unit_zero hz2]
  simp only [View.readCov_cons_toLoadRect, View.readAt_eq_ld, h2.read_unread, h3.read_unread, h4.read_unread, h5.read_unread, View.ld_unit_zero (S := S2048x1024) hz2, View.ld_unit_zero (S := S512x1024) hz2, View.ld_unit_zero (S := S512x2048) hz2, View.ld_unit_zero (S := S1x1x1024) hz3, View.readCov_unit_zero (S := S2048x1024) _ hz2]

theorem outB_eq (hc0) (s0 : Vec Ideal S2048x1024 .bf16) : out0_B_4 c i a2 h2 a3 h3 a4 h4 a5 h5 a6 h6 a7 h7 hc0 x0 x1 x2 x3 s0 = k0_pay2 x0 s0 x3 x2 := by
  unfold out0_B_4
  rw [View.read_writes_eq_canon _ _ _ (cover0_B_4 c i a2 h2 a3 h3 a4 h4 a5 h5 a6 h6 a7 h7 hc0 x0 x1 x2 x3 s0)]
  unfold kernelRun0_B
  dsimp only
  sl_unfold_words
  rw [View.canon_unit_zero hz2]
  simp only [View.readAt_eq_ld, h2.read_unread, h3.read_unread, h4.read_unread, h5.read_unread, h7.read_unread, View.ld_unit_zero (S := S2048x1024) hz2, View.ld_unit_zero (S := S512x1024) hz2, View.ld_unit_zero (S := S512x2048) hz2, View.ld_unit_zero (S := S1x1x1024) hz3]
end

variable (m : (ℓ : Loc nD τ sig) → Buf (Elt Ideal) ℓ) (c : Dev nD)

/-- The windows' block indices at point `t`: row block `t % 48`, column block `t / 48`. -/
theorem idx : ∀ t : Fin grid0.N, win0_0.index t = ![t.val % 48, 0] ∧ win0_1.index t = ![0, t.val / 48]
    ∧ win0_2.index t = ![t.val % 48, t.val / 48] ∧ win0_3.index t = ![group (512 * (t.val % 48)), 0, t.val / 48] := by
  decide +kernel

/-- Column `j` of column block `q`. -/
def col (q : ℕ) (hq : q < 2) (j : Fin 1024) : Fin 2048 := ⟨1024 * q + j.val, by omega⟩

theorem col_congr {q q' : ℕ} (h : q = q') (hq : q < 2) (hq' : q' < 2) (j : Fin 1024) : col q hq j = col q' hq' j := by
  subst h; rfl

theorem div_lt {n : ℕ} (h : n < cfg0.N) : n / 48 < 2 := by
  have : n < 96 := lt_of_lt_of_eq h N_0
  omega

theorem blk0 (t : Fin cfg0.N) (i : Fin 512) (k : Fin 2048) :
    iblk m c 0 t (ix2 i k) = m ((c : Thread nD τ).loc main_arg0) (ix2 ⟨512 * (t.val % 48) + i.val, by omega⟩ k) := by
  have hi := idx t
  blk_simp [iblk, hi.1]
  entry_read
  pointwise
  blk_ext [hi.1]

theorem blk1 (t : Fin cfg0.N) (k : Fin 2048) (j : Fin 1024) :
    iblk m c 1 t (ix2 k j) = m ((c : Thread nD τ).loc main_arg1) (ix2 k (col (t.val / 48) (div_lt t.isLt) j)) := by
  have hi := idx t
  unfold col
  blk_simp [iblk, hi.2.1]
  entry_read
  pointwise
  blk_ext [hi.2.1]

theorem blk2 (t : Fin cfg0.N) (i : Fin 512) (j : Fin 1024) :
    iblk m c 2 t (ix2 i j) = m ((c : Thread nD τ).loc main_arg2) (ix2 ⟨512 * (t.val % 48) + i.val, by omega⟩ (col (t.val / 48) (div_lt t.isLt) j)) := by
  have hi := idx t
  unfold col
  blk_simp [iblk, hi.2.2.1]
  entry_read
  pointwise
  blk_ext [hi.2.2.1]

theorem group_row (q : ℕ) (hq : q < 48) (i : ℕ) (hi : i < 512) : group (512 * q) = group (512 * q + i) := by
  unfold group
  split <;> split <;> omega

theorem blk3 (t : Fin cfg0.N) (i : Fin 512) (j : Fin 1024) :
    iblk m c 3 t (ix3 0 0 j) = m ((c : Thread nD τ).loc main_arg3)
      (ix3 ⟨group (512 * (t.val % 48) + i.val), group_lt ⟨512 * (t.val % 48) + i.val, by omega⟩⟩ 0 (col (t.val / 48) (div_lt t.isLt) j)) := by
  have hi := idx t
  have hg := group_row (t.val % 48) (Nat.mod_lt _ (by decide)) i.val i.isLt
  unfold col
  blk_simp [iblk, hi.2.2.2]
  entry_read
  pointwise
  blk_ext [hi.2.2.2, hg]

theorem scratch_A (t : Fin cfg0.N) (h0 : t.val % 48 = 0) (k : Fin 2048) (j : Fin 1024) :
    (outsAt0 m c t.val t.isLt).2 (ix2 k j) = m ((c : Thread nD τ).loc main_arg1) (ix2 k (col (t.val / 48) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 1024),
    (outsAt0 m c n hn).2 (ix2 k j) = m ((c : Thread nD τ).loc main_arg1) (ix2 k (col (n / 48) (div_lt hn) j)) := by
  induction n using Nat.strong_induction_on with
  | _ n ih =>
    intro hn k j
    by_cases h0 : n % 48 = 0
    · exact scratch_A m c ⟨n, hn⟩ h0 k j
    · have e : n / 48 = (n - 1) / 48 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2 (iblk m c 3 t) (iblk m c 2 t) := by
  by_cases h0 : t.val % 48 = 0
  · rw [outsAt0_A m c t h0, scr0_eq, outA_eq]
  · rw [outsAt0_B m c t h0, outB_eq]
    rfl

/-- What point `t` leaves in its output block. -/
theorem out_at (t : Fin cfg0.N) (i : Fin 512) (j : Fin 1024) :
    (outsAt0 m c t.val t.isLt).1 (ix2 i j)
      = entryAt (m ((c : Thread nD τ).loc main_arg0)) (m ((c : Thread nD τ).loc main_arg1)) (m ((c : Thread nD τ).loc main_arg2)) (m ((c : Thread nD τ).loc main_arg3))
          ⟨512 * (t.val % 48) + i.val, by omega⟩ (col (t.val / 48) (div_lt t.isLt) j) := by
  have hs := scratch m c t.val t.isLt
  rw [out_eq]
  refine (pay2_apply (iblk m c 0 t) _ (iblk m c 3 t) (iblk m c 2 t) i j).trans ?_
  unfold entryAt
  rw [blk3 m c t i j, blk2 m c t i j]
  simp only [hs, blk0]

/-- The result array. -/
theorem final (i : Fin 24576) (j : Fin 2048) :
    (dats m 0 c).arrAt 4 cfg0.N (ix2 i j)
      = entryAt (m ((c : Thread nD τ).loc main_arg0)) (m ((c : Thread nD τ).loc main_arg1)) (m ((c : Thread nD τ).loc main_arg2)) (m ((c : Thread nD τ).loc main_arg3)) i j := by
  rw [Value.final4]
  unfold Value.G4
  have hp : Value.pt4Of (ix2 i j) < cfg0.N := by
    rw [show cfg0.N = 96 from N_0]
    show 1 * (i.val / 512 - 0) + 48 * (j.val / 1024 - 0) < 96
    omega
  rw [dif_pos hp, ← Value.outsAt0_sweep m c _ hp]
  have h1 : (1 * (i.val / 512 - 0) + 48 * (j.val / 1024 - 0)) % 48 = i.val / 512 := by omega
  have h2 : (1 * (i.val / 512 - 0) + 48 * (j.val / 1024 - 0)) / 48 = j.val / 1024 := by omega
  have hl : Value.loc4Of (ix2 i j) = ix2 ⟨i.val % 512, Nat.mod_lt _ (by decide)⟩ ⟨j.val % 1024, Nat.mod_lt _ (by decide)⟩ := by
    funext a; fin_cases a <;> rfl
  rw [hl]
  refine (out_at m c ⟨_, hp⟩ _ _).trans (congrArg₂ (entryAt _ _ _ _) (Fin.ext ?_) (Fin.ext ?_))
  · show 512 * ((1 * (i.val / 512 - 0) + 48 * (j.val / 1024 - 0)) % 48) + i.val % 512 = i.val
    rw [h1]; omega
  · show 1024 * ((1 * (i.val / 512 - 0) + 48 * (j.val / 1024 - 0)) / 48) + j.val % 1024 = j.val
    rw [h2]; omega

end Cert.OutProjIdeal.Lin

end
-- ==== Proof.OutProjReference.lean ====
/- The output projection with the gated residual add: the reference at an index, and the two programs' results equal. -/
module

public import proofs.«01_k».proof.Defs
public import proofs.«01_k».proof.Proof.OutProjKernel
public import proofs.«01_k».proof.Proof.Gen.OutProjReferenceIdeal.Read
public import proofs.«01_k».proof.Proof.Gen.OutProjReferenceIdeal.Run

@[expose] public section

set_option maxRecDepth 16384

noncomputable section

namespace Cert.OutProjReferenceIdeal.Lin

open Cert.OutProjReferenceIdeal Cert.OutProjReferenceIdeal.Gen Cert.OutProjReferenceIdeal.Read Idealize.ShloMosaic
open Cert.OutProjIdeal.Lin (entryAt)
open Cert.DownIdeal.Lin (group group_lt)

/-- The modulation factor of a row, joined from the prompt's group and the four continuation groups. -/
theorem factor_apply (g : Vec Ideal S8x1x2048 .f32) (i : Fin 24576) (j : Fin 2048) :
    val_main_v6 (F := Ideal) g (ix2 i j) = g (ix3 ⟨group i.val, group_lt i⟩ 0 j) := by
  pointwise [val_main_v6, val_main_v5, val_main_v4, val_main_v3, val_main_v2, val_main_v1, val_main_v0]
  split
  · next h => exact congrArg (fun q => g (ix3 q 0 j)) (Fin.ext (by show 0 = group i.val; unfold group; rw [if_pos h]))
  · next h => exact congrArg (fun q => g (ix3 q 0 j)) (Fin.ext (by show 1 + (i.val - 8192) / 4096 = group i.val; unfold group; rw [if_neg h]))

theorem out_apply (a : Vec Ideal S24576x2048 .bf16) (w : Vec Ideal S2048x2048 .f32) (x : Vec Ideal S24576x2048 .f32) (g : Vec Ideal S8x1x2048 .f32) (i : Fin 24576) (j : Fin 2048) :
    val_main_v9 (F := Ideal) a w x g (ix2 i j) = entryAt a w x g i j := by
  unfold entryAt
  rw [val_main_v9_apply, val_main_v8_apply, factor_apply, mul_comm]
  pointwise [val_main_v7]

end Cert.OutProjReferenceIdeal.Lin

namespace Cert.Proof

open Idealize.ShloMosaic Idealize.SL.Sem

/-- The output projection with the gated residual add, equal to the reference over the extended reals. -/
theorem algebraic_outProj : Cert.algebraic_OutProjIdeal_OutProjReferenceIdeal := by
  intro m g m' g' _ hagree
  refine ⟨fun c => Cert.OutProjReferenceIdeal.Read.val_main_v9 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)), ?_, ?_⟩
  · refine (θ_run Cert.OutProjIdeal.defs _ _).mono (fun r h c => ?_) (Cert.OutProjIdeal.Value.run_blocks m g)
    obtain ⟨h0, h1⟩ := h c
    refine ⟨?_, h1⟩
    rw [h0]
    funext i
    idx_vars i
    exact (Cert.OutProjIdeal.Lin.final m c i0 i1).trans (Cert.OutProjReferenceIdeal.Lin.out_apply _ _ _ _ i0 i1).symm
  · refine (θ_run Cert.OutProjReferenceIdeal.defs _ _).mono (fun r h c => ?_) (Cert.OutProjReferenceIdeal.Value.run m' g')
    obtain ⟨h0, h1⟩ := h c
    refine ⟨?_, h1⟩
    rw [h0, Cert.OutProjReferenceIdeal.Read.val_main_v9_eq, (hagree c).1, (hagree c).2.1, (hagree c).2.2.1, (hagree c).2.2.2]

theorem frame_outProjReference : Cert.quiescent_OutProjReferenceIdeal := by
  intro m g _
  exact (θ_run Cert.OutProjReferenceIdeal.defs _ _).mono (fun r h => ⟨fun c => (h c).2,
      Idealize.ShloMosaic.sem_eq_zero_of_no_sems (by decide) r.2⟩)
    (Cert.OutProjReferenceIdeal.Value.run (F := Ideal) m g)

end Cert.Proof

end
-- ==== Proof.HyenaOutKernel.lean ====
/- The output projection of the Hyena layer: what the kernel leaves at an index. -/
module

public import proofs.«01_k».proof.Proof.Gen.HyenaOutIdeal.Value
public import proofs.«01_k».proof.Proof.DownKernel
public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.HyenaOutIdeal.Lin

open Cert.HyenaOutIdeal Cert.HyenaOutIdeal.Gen Idealize.ShloMosaic Idealize.ShloMosaic.TcCoe
open Idealize.ShloMosaic.Pipeline (Dat)
open Cert.DownIdeal.Lin (group group_lt)

/-- One entry of the result, from the arguments. -/
def entryAt (a : Vec Ideal S24576x2048 .f32) (w : Vec Ideal S2048x2048 .f32) (x : Vec Ideal S24576x2048 .f32) (g : Vec Ideal S8x1x2048 .f32) (i : Fin 24576) (j : Fin 2048) : EReal :=
  x (ix2 i j) + (∑ k : Fin 2048, a (ix2 i k) * w (ix2 k j)) * g (ix3 ⟨group i.val, group_lt i⟩ 0 j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x1024 .f32) (k : Fin 2048) (j : Fin 1024) : k0_pay1 w (ix2 k j) = w (ix2 k j) := by
  pointwise [k0_pay1]

theorem pay2_apply (a : Vec Ideal S512x2048 .f32) (w : Vec Ideal S2048x1024 .bf16) (g : Vec Ideal S1x1x1024 .f32) (x : Vec Ideal S512x1024 .f32)
    (i : Fin 512) (j : Fin 1024) :
    k0_pay2 a w g x (ix2 i j) = x (ix2 i j) + (∑ k : Fin 2048, a (ix2 i k) * w (ix2 k j)) * g (ix3 0 0 j) := by
  pointwise [k0_pay2]
  try simp only [Ideal.ofBits_zero_f32, zero_add]

section
variable (x0 : Vec Ideal S512x2048 .f32) (x1 : Vec Ideal S2048x1024 .f32) (x2 : Vec Ideal S512x1024 .f32) (x3 : Vec Ideal S1x1x1024 .f32)
variable (c : Dev nD) (i : grid0.Coords)
    (a2 : Memref sig .tc .vmem S512x2048 .f32) (h2 : a2.IsWhole)
    (a3 : Memref sig .tc .vmem S2048x1024 .f32) (h3 : a3.IsWhole)
    (a4 : Memref sig .tc .vmem S512x1024 .f32) (h4 : a4.IsWhole)
    (a5 : Memref sig .tc .vmem S1x1x1024 .f32) (h5 : a5.IsWhole)
    (a6 : Memref sig .tc .vmem S512x1024 .f32) (h6 : a6.IsWhole)
    (a7 : Memref sig .tc .vmem S2048x1024 .bf16) (h7 : a7.IsWhole)

theorem scr0_eq (hc0) : sout0_A_0 c i a2 h2 a3 h3 a4 h4 a5 h5 a6 h6 a7 h7 hc0 x0 x1 x2 x3 = k0_pay1 x1 := by
  unfold sout0_A_0
  rw [View.read_writes_eq_canon _ _ _ (scover0_A_0 c i a2 h2 a3 h3 a4 h4 a5 h5 a6 h6 a7 h7 hc0 x0 x1 x2 x3)]
  unfold kernelRun0_A
  dsimp only
  sl_unfold_words
  rw [View.canon_unit_zero hz2]
  simp only [View.readAt_eq_ld, h2.read_unread, h3.read_unread, h4.read_unread, h5.read_unread, View.ld_unit_zero (S := S2048x1024) hz2]

theorem outA_eq (hc0) : out0_A_4 c i a2 h2 a3 h3 a4 h4 a5 h5 a6 h6 a7 h7 hc0 x0 x1 x2 x3 = k0_pay2 x0 (k0_pay1 x1) x3 x2 := by
  unfold out0_A_4
  rw [View.read_writes_eq_canon _ _ _ (cover0_A_4 c i a2 h2 a3 h3 a4 h4 a5 h5 a6 h6 a7 h7 hc0 x0 x1 x2 x3)]
  unfold kernelRun0_A
  dsimp only
  sl_unfold_words
  rw [View.canon_unit_zero hz2]
  simp only [View.readCov_cons_toLoadRect, View.readAt_eq_ld, h2.read_unread, h3.read_unread, h4.read_unread, h5.read_unread, View.ld_unit_zero (S := S2048x1024) hz2, View.ld_unit_zero (S := S512x1024) hz2, View.ld_unit_zero (S := S512x2048) hz2, View.ld_unit_zero (S := S1x1x1024) hz3, View.readCov_unit_zero (S := S2048x1024) _ hz2]

theorem outB_eq (hc0) (s0 : Vec Ideal S2048x1024 .bf16) : out0_B_4 c i a2 h2 a3 h3 a4 h4 a5 h5 a6 h6 a7 h7 hc0 x0 x1 x2 x3 s0 = k0_pay2 x0 s0 x3 x2 := by
  unfold out0_B_4
  rw [View.read_writes_eq_canon _ _ _ (cover0_B_4 c i a2 h2 a3 h3 a4 h4 a5 h5 a6 h6 a7 h7 hc0 x0 x1 x2 x3 s0)]
  unfold kernelRun0_B
  dsimp only
  sl_unfold_words
  rw [View.canon_unit_zero hz2]
  simp only [View.readAt_eq_ld, h2.read_unread, h3.read_unread, h4.read_unread, h5.read_unread, h7.read_unread, View.ld_unit_zero (S := S2048x1024) hz2, View.ld_unit_zero (S := S512x1024) hz2, View.ld_unit_zero (S := S512x2048) hz2, View.ld_unit_zero (S := S1x1x1024) hz3]
end

variable (m : (ℓ : Loc nD τ sig) → Buf (Elt Ideal) ℓ) (c : Dev nD)

/-- The windows' block indices at point `t`: row block `t % 48`, column block `t / 48`. -/
theorem idx : ∀ t : Fin grid0.N, win0_0.index t = ![t.val % 48, 0] ∧ win0_1.index t = ![0, t.val / 48]
    ∧ win0_2.index t = ![t.val % 48, t.val / 48] ∧ win0_3.index t = ![group (512 * (t.val % 48)), 0, t.val / 48] := by
  decide +kernel

/-- Column `j` of column block `q`. -/
def col (q : ℕ) (hq : q < 2) (j : Fin 1024) : Fin 2048 := ⟨1024 * q + j.val, by omega⟩

theorem col_congr {q q' : ℕ} (h : q = q') (hq : q < 2) (hq' : q' < 2) (j : Fin 1024) : col q hq j = col q' hq' j := by
  subst h; rfl

theorem div_lt {n : ℕ} (h : n < cfg0.N) : n / 48 < 2 := by
  have : n < 96 := lt_of_lt_of_eq h N_0
  omega

theorem blk0 (t : Fin cfg0.N) (i : Fin 512) (k : Fin 2048) :
    iblk m c 0 t (ix2 i k) = m ((c : Thread nD τ).loc main_arg0) (ix2 ⟨512 * (t.val % 48) + i.val, by omega⟩ k) := by
  have hi := idx t
  blk_simp [iblk, hi.1]
  entry_read
  pointwise
  blk_ext [hi.1]

theorem blk1 (t : Fin cfg0.N) (k : Fin 2048) (j : Fin 1024) :
    iblk m c 1 t (ix2 k j) = m ((c : Thread nD τ).loc main_arg1) (ix2 k (col (t.val / 48) (div_lt t.isLt) j)) := by
  have hi := idx t
  unfold col
  blk_simp [iblk, hi.2.1]
  entry_read
  pointwise
  blk_ext [hi.2.1]

theorem blk2 (t : Fin cfg0.N) (i : Fin 512) (j : Fin 1024) :
    iblk m c 2 t (ix2 i j) = m ((c : Thread nD τ).loc main_arg2) (ix2 ⟨512 * (t.val % 48) + i.val, by omega⟩ (col (t.val / 48) (div_lt t.isLt) j)) := by
  have hi := idx t
  unfold col
  blk_simp [iblk, hi.2.2.1]
  entry_read
  pointwise
  blk_ext [hi.2.2.1]

theorem group_row (q : ℕ) (hq : q < 48) (i : ℕ) (hi : i < 512) : group (512 * q) = group (512 * q + i) := by
  unfold group
  split <;> split <;> omega

theorem blk3 (t : Fin cfg0.N) (i : Fin 512) (j : Fin 1024) :
    iblk m c 3 t (ix3 0 0 j) = m ((c : Thread nD τ).loc main_arg3)
      (ix3 ⟨group (512 * (t.val % 48) + i.val), group_lt ⟨512 * (t.val % 48) + i.val, by omega⟩⟩ 0 (col (t.val / 48) (div_lt t.isLt) j)) := by
  have hi := idx t
  have hg := group_row (t.val % 48) (Nat.mod_lt _ (by decide)) i.val i.isLt
  unfold col
  blk_simp [iblk, hi.2.2.2]
  entry_read
  pointwise
  blk_ext [hi.2.2.2, hg]

theorem scratch_A (t : Fin cfg0.N) (h0 : t.val % 48 = 0) (k : Fin 2048) (j : Fin 1024) :
    (outsAt0 m c t.val t.isLt).2 (ix2 k j) = m ((c : Thread nD τ).loc main_arg1) (ix2 k (col (t.val / 48) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 1024),
    (outsAt0 m c n hn).2 (ix2 k j) = m ((c : Thread nD τ).loc main_arg1) (ix2 k (col (n / 48) (div_lt hn) j)) := by
  induction n using Nat.strong_induction_on with
  | _ n ih =>
    intro hn k j
    by_cases h0 : n % 48 = 0
    · exact scratch_A m c ⟨n, hn⟩ h0 k j
    · have e : n / 48 = (n - 1) / 48 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2 (iblk m c 3 t) (iblk m c 2 t) := by
  by_cases h0 : t.val % 48 = 0
  · rw [outsAt0_A m c t h0, scr0_eq, outA_eq]
  · rw [outsAt0_B m c t h0, outB_eq]
    rfl

/-- What point `t` leaves in its output block. -/
theorem out_at (t : Fin cfg0.N) (i : Fin 512) (j : Fin 1024) :
    (outsAt0 m c t.val t.isLt).1 (ix2 i j)
      = entryAt (m ((c : Thread nD τ).loc main_arg0)) (m ((c : Thread nD τ).loc main_arg1)) (m ((c : Thread nD τ).loc main_arg2)) (m ((c : Thread nD τ).loc main_arg3))
          ⟨512 * (t.val % 48) + i.val, by omega⟩ (col (t.val / 48) (div_lt t.isLt) j) := by
  have hs := scratch m c t.val t.isLt
  rw [out_eq]
  refine (pay2_apply (iblk m c 0 t) _ (iblk m c 3 t) (iblk m c 2 t) i j).trans ?_
  unfold entryAt
  rw [blk3 m c t i j, blk2 m c t i j]
  simp only [hs, blk0]

/-- The result array. -/
theorem final (i : Fin 24576) (j : Fin 2048) :
    (dats m 0 c).arrAt 4 cfg0.N (ix2 i j)
      = entryAt (m ((c : Thread nD τ).loc main_arg0)) (m ((c : Thread nD τ).loc main_arg1)) (m ((c : Thread nD τ).loc main_arg2)) (m ((c : Thread nD τ).loc main_arg3)) i j := by
  rw [Value.final4]
  unfold Value.G4
  have hp : Value.pt4Of (ix2 i j) < cfg0.N := by
    rw [show cfg0.N = 96 from N_0]
    show 1 * (i.val / 512 - 0) + 48 * (j.val / 1024 - 0) < 96
    omega
  rw [dif_pos hp, ← Value.outsAt0_sweep m c _ hp]
  have h1 : (1 * (i.val / 512 - 0) + 48 * (j.val / 1024 - 0)) % 48 = i.val / 512 := by omega
  have h2 : (1 * (i.val / 512 - 0) + 48 * (j.val / 1024 - 0)) / 48 = j.val / 1024 := by omega
  have hl : Value.loc4Of (ix2 i j) = ix2 ⟨i.val % 512, Nat.mod_lt _ (by decide)⟩ ⟨j.val % 1024, Nat.mod_lt _ (by decide)⟩ := by
    funext a; fin_cases a <;> rfl
  rw [hl]
  refine (out_at m c ⟨_, hp⟩ _ _).trans (congrArg₂ (entryAt _ _ _ _) (Fin.ext ?_) (Fin.ext ?_))
  · show 512 * ((1 * (i.val / 512 - 0) + 48 * (j.val / 1024 - 0)) % 48) + i.val % 512 = i.val
    rw [h1]; omega
  · show 1024 * ((1 * (i.val / 512 - 0) + 48 * (j.val / 1024 - 0)) / 48) + j.val % 1024 = j.val
    rw [h2]; omega

end Cert.HyenaOutIdeal.Lin

end
-- ==== Proof.HyenaOutReference.lean ====
/- The output projection of the Hyena layer: the reference at an index, and the two programs' results equal. -/
module

public import proofs.«01_k».proof.Defs
public import proofs.«01_k».proof.Proof.HyenaOutKernel
public import proofs.«01_k».proof.Proof.Gen.HyenaOutReferenceIdeal.Read
public import proofs.«01_k».proof.Proof.Gen.HyenaOutReferenceIdeal.Run

@[expose] public section

set_option maxRecDepth 16384

noncomputable section

namespace Cert.HyenaOutReferenceIdeal.Lin

open Cert.HyenaOutReferenceIdeal Cert.HyenaOutReferenceIdeal.Gen Cert.HyenaOutReferenceIdeal.Read Idealize.ShloMosaic
open Cert.HyenaOutIdeal.Lin (entryAt)
open Cert.DownIdeal.Lin (group group_lt)

/-- The modulation factor of a row, joined from the prompt's group and the four continuation groups. -/
theorem factor_apply (g : Vec Ideal S8x1x2048 .f32) (i : Fin 24576) (j : Fin 2048) :
    val_main_v6 (F := Ideal) g (ix2 i j) = g (ix3 ⟨group i.val, group_lt i⟩ 0 j) := by
  pointwise [val_main_v6, val_main_v5, val_main_v4, val_main_v3, val_main_v2, val_main_v1, val_main_v0]
  split
  · next h => exact congrArg (fun q => g (ix3 q 0 j)) (Fin.ext (by show 0 = group i.val; unfold group; rw [if_pos h]))
  · next h => exact congrArg (fun q => g (ix3 q 0 j)) (Fin.ext (by show 1 + (i.val - 8192) / 4096 = group i.val; unfold group; rw [if_neg h]))

theorem out_apply (a : Vec Ideal S24576x2048 .f32) (w : Vec Ideal S2048x2048 .f32) (x : Vec Ideal S24576x2048 .f32) (g : Vec Ideal S8x1x2048 .f32) (i : Fin 24576) (j : Fin 2048) :
    val_main_v9 (F := Ideal) a w x g (ix2 i j) = entryAt a w x g i j := by
  unfold entryAt
  rw [val_main_v9_apply, val_main_v8_apply, factor_apply, mul_comm]
  pointwise [val_main_v7]

end Cert.HyenaOutReferenceIdeal.Lin

namespace Cert.Proof

open Idealize.ShloMosaic Idealize.SL.Sem

/-- The output projection of the Hyena layer, equal to the reference over the extended reals. -/
theorem algebraic_hyenaOut : Cert.algebraic_HyenaOutIdeal_HyenaOutReferenceIdeal := by
  intro m g m' g' _ hagree
  refine ⟨fun c => Cert.HyenaOutReferenceIdeal.Read.val_main_v9 (F := Ideal) (m ((c.tc : Thread Cert.HyenaOutIdeal.nD Cert.HyenaOutIdeal.τ).loc Cert.HyenaOutIdeal.main_arg0)) (m ((c.tc : Thread Cert.HyenaOutIdeal.nD Cert.HyenaOutIdeal.τ).loc Cert.HyenaOutIdeal.main_arg1)) (m ((c.tc : Thread Cert.HyenaOutIdeal.nD Cert.HyenaOutIdeal.τ).loc Cert.HyenaOutIdeal.main_arg2)) (m ((c.tc : Thread Cert.HyenaOutIdeal.nD Cert.HyenaOutIdeal.τ).loc Cert.HyenaOutIdeal.main_arg3)), ?_, ?_⟩
  · refine (θ_run Cert.HyenaOutIdeal.defs _ _).mono (fun r h c => ?_) (Cert.HyenaOutIdeal.Value.run_blocks m g)
    obtain ⟨h0, h1⟩ := h c
    refine ⟨?_, h1⟩
    rw [h0]
    funext i
    idx_vars i
    exact (Cert.HyenaOutIdeal.Lin.final m c i0 i1).trans (Cert.HyenaOutReferenceIdeal.Lin.out_apply _ _ _ _ i0 i1).symm
  · refine (θ_run Cert.HyenaOutReferenceIdeal.defs _ _).mono (fun r h c => ?_) (Cert.HyenaOutReferenceIdeal.Value.run m' g')
    obtain ⟨h0, h1⟩ := h c
    refine ⟨?_, h1⟩
    rw [h0, Cert.HyenaOutReferenceIdeal.Read.val_main_v9_eq, (hagree c).1, (hagree c).2.1, (hagree c).2.2.1, (hagree c).2.2.2]

theorem frame_hyenaOutReference : Cert.quiescent_HyenaOutReferenceIdeal := by
  intro m g _
  exact (θ_run Cert.HyenaOutReferenceIdeal.defs _ _).mono (fun r h => ⟨fun c => (h c).2,
      Idealize.ShloMosaic.sem_eq_zero_of_no_sems (by decide) r.2⟩)
    (Cert.HyenaOutReferenceIdeal.Value.run (F := Ideal) m g)

end Cert.Proof

end
-- ==== Proof.RProjKernel.lean ====
/- The receptance projection of the RWKV7 layer: what the kernel leaves at an index. -/
module

public import proofs.«01_k».proof.Proof.Gen.RProjIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.RProjIdeal.Lin

open Cert.RProjIdeal Cert.RProjIdeal.Gen Idealize.ShloMosaic Idealize.ShloMosaic.TcCoe
open Idealize.ShloMosaic.Pipeline (Dat)

/-- One entry of the result, from the arguments. -/
def entryAt (a : Vec Ideal S6x24576x2048 .bf16) (w : Vec Ideal S2048x2048 .f32) (i : Fin 24576) (j : Fin 2048) : EReal :=
  ∑ k : Fin 2048, a (ix3 0 i k) * w (ix2 k j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x1024 .f32) (k : Fin 2048) (j : Fin 1024) : k0_pay1 w (ix2 k j) = w (ix2 k j) := by
  pointwise [k0_pay1]

theorem pay2_apply (a : Vec Ideal S1x512x2048 .bf16) (w : Vec Ideal S2048x1024 .bf16)
    (i : Fin 512) (j : Fin 1024) :
    k0_pay2 a w (ix2 i j) = ∑ k : Fin 2048, a (ix3 0 i k) * w (ix2 k j) := by
  pointwise [k0_pay2]
  try simp only [Ideal.ofBits_zero_f32, zero_add]

section
variable (x0 : Vec Ideal S1x512x2048 .bf16) (x1 : Vec Ideal S2048x1024 .f32)
variable (c : Dev nD) (i : grid0.Coords)
    (a2 : Memref sig .tc .vmem S1x512x2048 .bf16) (h2 : a2.IsWhole)
    (a3 : Memref sig .tc .vmem S2048x1024 .f32) (h3 : a3.IsWhole)
    (a4 : Memref sig .tc .vmem S512x1024 .f32) (h4 : a4.IsWhole)
    (a5 : Memref sig .tc .vmem S2048x1024 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S2048x1024) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S2048x1024) hz2, View.ld_unit_zero (S := S1x512x2048) hz3, View.readCov_unit_zero (S := S2048x1024) _ hz2]

theorem outB_eq (hc0) (s0 : Vec Ideal S2048x1024 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S2048x1024) hz2, View.ld_unit_zero (S := S1x512x2048) hz3]
end

variable (m : (ℓ : Loc nD τ sig) → Buf (Elt Ideal) ℓ) (c : Dev nD)

/-- The windows' block indices at point `t`: row block `t % 48`, column block `t / 48`. -/
theorem idx : ∀ t : Fin grid0.N, win0_0.index t = ![0, t.val % 48, 0] ∧ win0_1.index t = ![0, t.val / 48] := by
  decide +kernel

/-- Column `j` of column block `q`. -/
def col (q : ℕ) (hq : q < 2) (j : Fin 1024) : Fin 2048 := ⟨1024 * q + j.val, by omega⟩

theorem col_congr {q q' : ℕ} (h : q = q') (hq : q < 2) (hq' : q' < 2) (j : Fin 1024) : col q hq j = col q' hq' j := by
  subst h; rfl

theorem div_lt {n : ℕ} (h : n < cfg0.N) : n / 48 < 2 := by
  have : n < 96 := lt_of_lt_of_eq h N_0
  omega

theorem blk0 (t : Fin cfg0.N) (i : Fin 512) (k : Fin 2048) :
    iblk m c 0 t (ix3 0 i k) = m ((c : Thread nD τ).loc main_arg0) (ix3 0 ⟨512 * (t.val % 48) + i.val, by omega⟩ k) := by
  have hi := idx t
  blk_simp [iblk, hi.1]
  entry_read
  pointwise
  blk_ext [hi.1]

theorem blk1 (t : Fin cfg0.N) (k : Fin 2048) (j : Fin 1024) :
    iblk m c 1 t (ix2 k j) = m ((c : Thread nD τ).loc main_arg1) (ix2 k (col (t.val / 48) (div_lt t.isLt) j)) := by
  have hi := idx t
  unfold col
  blk_simp [iblk, hi.2]
  entry_read
  pointwise
  blk_ext [hi.2]

theorem scratch_A (t : Fin cfg0.N) (h0 : t.val % 48 = 0) (k : Fin 2048) (j : Fin 1024) :
    (outsAt0 m c t.val t.isLt).2 (ix2 k j) = m ((c : Thread nD τ).loc main_arg1) (ix2 k (col (t.val / 48) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 1024),
    (outsAt0 m c n hn).2 (ix2 k j) = m ((c : Thread nD τ).loc main_arg1) (ix2 k (col (n / 48) (div_lt hn) j)) := by
  induction n using Nat.strong_induction_on with
  | _ n ih =>
    intro hn k j
    by_cases h0 : n % 48 = 0
    · exact scratch_A m c ⟨n, hn⟩ h0 k j
    · have e : n / 48 = (n - 1) / 48 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 48 = 0
  · rw [outsAt0_A m c t h0, scr0_eq, outA_eq]
  · rw [outsAt0_B m c t h0, outB_eq]
    rfl

/-- What point `t` leaves in its output block. -/
theorem out_at (t : Fin cfg0.N) (i : Fin 512) (j : Fin 1024) :
    (outsAt0 m c t.val t.isLt).1 (ix2 i j)
      = entryAt (m ((c : Thread nD τ).loc main_arg0)) (m ((c : Thread nD τ).loc main_arg1))
          ⟨512 * (t.val % 48) + i.val, by omega⟩ (col (t.val / 48) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 2048) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 96 from N_0]
    show 1 * (i.val / 512 - 0) + 48 * (j.val / 1024 - 0) < 96
    omega
  rw [dif_pos hp, ← Value.outsAt0_sweep m c _ hp]
  have h1 : (1 * (i.val / 512 - 0) + 48 * (j.val / 1024 - 0)) % 48 = i.val / 512 := by omega
  have h2 : (1 * (i.val / 512 - 0) + 48 * (j.val / 1024 - 0)) / 48 = j.val / 1024 := by omega
  have hl : Value.loc2Of (ix2 i j) = ix2 ⟨i.val % 512, Nat.mod_lt _ (by decide)⟩ ⟨j.val % 1024, Nat.mod_lt _ (by decide)⟩ := by
    funext a; fin_cases a <;> rfl
  rw [hl]
  refine (out_at m c ⟨_, hp⟩ _ _).trans (congrArg₂ (entryAt _ _) (Fin.ext ?_) (Fin.ext ?_))
  · show 512 * ((1 * (i.val / 512 - 0) + 48 * (j.val / 1024 - 0)) % 48) + i.val % 512 = i.val
    rw [h1]; omega
  · show 1024 * ((1 * (i.val / 512 - 0) + 48 * (j.val / 1024 - 0)) / 48) + j.val % 1024 = j.val
    rw [h2]; omega

end Cert.RProjIdeal.Lin

end
-- ==== Proof.RProjReference.lean ====
/- The receptance projection of the RWKV7 layer: the reference at an index, and the two programs' results equal. -/
module

public import proofs.«01_k».proof.Defs
public import proofs.«01_k».proof.Proof.RProjKernel
public import proofs.«01_k».proof.Proof.Gen.RProjReferenceIdeal.Read
public import proofs.«01_k».proof.Proof.Gen.RProjReferenceIdeal.Run

@[expose] public section

set_option maxRecDepth 16384

noncomputable section

namespace Cert.RProjReferenceIdeal.Lin

open Cert.RProjReferenceIdeal Cert.RProjReferenceIdeal.Gen Cert.RProjReferenceIdeal.Read Idealize.ShloMosaic
open Cert.RProjIdeal.Lin (entryAt)

theorem out_apply (a : Vec Ideal S6x24576x2048 .bf16) (w : Vec Ideal S2048x2048 .f32) (i : Fin 24576) (j : Fin 2048) :
    val_main_v2 (F := Ideal) a w (ix2 i j) = entryAt a w i j := by
  unfold entryAt
  pointwise [val_main_v2, val_main_v1, val_main_v0]

end Cert.RProjReferenceIdeal.Lin

namespace Cert.Proof

open Idealize.ShloMosaic Idealize.SL.Sem

/-- The receptance projection of the RWKV7 layer, equal to the reference over the extended reals. -/
theorem algebraic_rProj : Cert.algebraic_RProjIdeal_RProjReferenceIdeal := by
  intro m g m' g' _ hagree
  refine ⟨fun c => Cert.RProjReferenceIdeal.Read.val_main_v2 (F := Ideal) (m ((c.tc : Thread Cert.RProjIdeal.nD Cert.RProjIdeal.τ).loc Cert.RProjIdeal.main_arg0)) (m ((c.tc : Thread Cert.RProjIdeal.nD Cert.RProjIdeal.τ).loc Cert.RProjIdeal.main_arg1)), ?_, ?_⟩
  · refine (θ_run Cert.RProjIdeal.defs _ _).mono (fun r h c => ?_) (Cert.RProjIdeal.Value.run_blocks m g)
    obtain ⟨h0, h1⟩ := h c
    refine ⟨?_, h1⟩
    rw [h0]
    funext i
    idx_vars i
    exact (Cert.RProjIdeal.Lin.final m c i0 i1).trans (Cert.RProjReferenceIdeal.Lin.out_apply _ _ i0 i1).symm
  · refine (θ_run Cert.RProjReferenceIdeal.defs _ _).mono (fun r h c => ?_) (Cert.RProjReferenceIdeal.Value.run m' g')
    obtain ⟨h0, h1⟩ := h c
    refine ⟨?_, h1⟩
    rw [h0, Cert.RProjReferenceIdeal.Read.val_main_v2_eq, (hagree c).1, (hagree c).2]

theorem frame_rProjReference : Cert.quiescent_RProjReferenceIdeal := by
  intro m g _
  exact (θ_run Cert.RProjReferenceIdeal.defs _ _).mono (fun r h => ⟨fun c => (h c).2,
      Idealize.ShloMosaic.sem_eq_zero_of_no_sems (by decide) r.2⟩)
    (Cert.RProjReferenceIdeal.Value.run (F := Ideal) m g)

end Cert.Proof

end
-- ==== Proof.KeyProjKernel.lean ====
/- The key projection of the RWKV7 layer: what the kernel leaves at an index. -/
module

public import proofs.«01_k».proof.Proof.Gen.KeyProjIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.KeyProjIdeal.Lin

open Cert.KeyProjIdeal Cert.KeyProjIdeal.Gen Idealize.ShloMosaic Idealize.ShloMosaic.TcCoe
open Idealize.ShloMosaic.Pipeline (Dat)

/-- One entry of the result, from the arguments. -/
def entryAt (a : Vec Ideal S6x24576x2048 .bf16) (w : Vec Ideal S2048x2048 .f32) (i : Fin 24576) (j : Fin 2048) : EReal :=
  ∑ k : Fin 2048, a (ix3 2 i k) * w (ix2 k j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x1024 .f32) (k : Fin 2048) (j : Fin 1024) : k0_pay1 w (ix2 k j) = w (ix2 k j) := by
  pointwise [k0_pay1]

theorem pay2_apply (a : Vec Ideal S1x512x2048 .bf16) (w : Vec Ideal S2048x1024 .bf16)
    (i : Fin 512) (j : Fin 1024) :
    k0_pay2 a w (ix2 i j) = ∑ k : Fin 2048, a (ix3 0 i k) * w (ix2 k j) := by
  pointwise [k0_pay2]
  try simp only [Ideal.ofBits_zero_f32, zero_add]

section
variable (x0 : Vec Ideal S1x512x2048 .bf16) (x1 : Vec Ideal S2048x1024 .f32)
variable (c : Dev nD) (i : grid0.Coords)
    (a2 : Memref sig .tc .vmem S1x512x2048 .bf16) (h2 : a2.IsWhole)
    (a3 : Memref sig .tc .vmem S2048x1024 .f32) (h3 : a3.IsWhole)
    (a4 : Memref sig .tc .vmem S512x1024 .f32) (h4 : a4.IsWhole)
    (a5 : Memref sig .tc .vmem S2048x1024 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S2048x1024) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S2048x1024) hz2, View.ld_unit_zero (S := S1x512x2048) hz3, View.readCov_unit_zero (S := S2048x1024) _ hz2]

theorem outB_eq (hc0) (s0 : Vec Ideal S2048x1024 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S2048x1024) hz2, View.ld_unit_zero (S := S1x512x2048) hz3]
end

variable (m : (ℓ : Loc nD τ sig) → Buf (Elt Ideal) ℓ) (c : Dev nD)

/-- The windows' block indices at point `t`: row block `t % 48`, column block `t / 48`. -/
theorem idx : ∀ t : Fin grid0.N, win0_0.index t = ![2, t.val % 48, 0] ∧ win0_1.index t = ![0, t.val / 48] := by
  decide +kernel

/-- Column `j` of column block `q`. -/
def col (q : ℕ) (hq : q < 2) (j : Fin 1024) : Fin 2048 := ⟨1024 * q + j.val, by omega⟩

theorem col_congr {q q' : ℕ} (h : q = q') (hq : q < 2) (hq' : q' < 2) (j : Fin 1024) : col q hq j = col q' hq' j := by
  subst h; rfl

theorem div_lt {n : ℕ} (h : n < cfg0.N) : n / 48 < 2 := by
  have : n < 96 := lt_of_lt_of_eq h N_0
  omega

theorem blk0 (t : Fin cfg0.N) (i : Fin 512) (k : Fin 2048) :
    iblk m c 0 t (ix3 0 i k) = m ((c : Thread nD τ).loc main_arg0) (ix3 2 ⟨512 * (t.val % 48) + i.val, by omega⟩ k) := by
  have hi := idx t
  blk_simp [iblk, hi.1]
  entry_read
  pointwise
  blk_ext [hi.1]

theorem blk1 (t : Fin cfg0.N) (k : Fin 2048) (j : Fin 1024) :
    iblk m c 1 t (ix2 k j) = m ((c : Thread nD τ).loc main_arg1) (ix2 k (col (t.val / 48) (div_lt t.isLt) j)) := by
  have hi := idx t
  unfold col
  blk_simp [iblk, hi.2]
  entry_read
  pointwise
  blk_ext [hi.2]

theorem scratch_A (t : Fin cfg0.N) (h0 : t.val % 48 = 0) (k : Fin 2048) (j : Fin 1024) :
    (outsAt0 m c t.val t.isLt).2 (ix2 k j) = m ((c : Thread nD τ).loc main_arg1) (ix2 k (col (t.val / 48) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 1024),
    (outsAt0 m c n hn).2 (ix2 k j) = m ((c : Thread nD τ).loc main_arg1) (ix2 k (col (n / 48) (div_lt hn) j)) := by
  induction n using Nat.strong_induction_on with
  | _ n ih =>
    intro hn k j
    by_cases h0 : n % 48 = 0
    · exact scratch_A m c ⟨n, hn⟩ h0 k j
    · have e : n / 48 = (n - 1) / 48 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 48 = 0
  · rw [outsAt0_A m c t h0, scr0_eq, outA_eq]
  · rw [outsAt0_B m c t h0, outB_eq]
    rfl

/-- What point `t` leaves in its output block. -/
theorem out_at (t : Fin cfg0.N) (i : Fin 512) (j : Fin 1024) :
    (outsAt0 m c t.val t.isLt).1 (ix2 i j)
      = entryAt (m ((c : Thread nD τ).loc main_arg0)) (m ((c : Thread nD τ).loc main_arg1))
          ⟨512 * (t.val % 48) + i.val, by omega⟩ (col (t.val / 48) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 2048) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 96 from N_0]
    show 1 * (i.val / 512 - 0) + 48 * (j.val / 1024 - 0) < 96
    omega
  rw [dif_pos hp, ← Value.outsAt0_sweep m c _ hp]
  have h1 : (1 * (i.val / 512 - 0) + 48 * (j.val / 1024 - 0)) % 48 = i.val / 512 := by omega
  have h2 : (1 * (i.val / 512 - 0) + 48 * (j.val / 1024 - 0)) / 48 = j.val / 1024 := by omega
  have hl : Value.loc2Of (ix2 i j) = ix2 ⟨i.val % 512, Nat.mod_lt _ (by decide)⟩ ⟨j.val % 1024, Nat.mod_lt _ (by decide)⟩ := by
    funext a; fin_cases a <;> rfl
  rw [hl]
  refine (out_at m c ⟨_, hp⟩ _ _).trans (congrArg₂ (entryAt _ _) (Fin.ext ?_) (Fin.ext ?_))
  · show 512 * ((1 * (i.val / 512 - 0) + 48 * (j.val / 1024 - 0)) % 48) + i.val % 512 = i.val
    rw [h1]; omega
  · show 1024 * ((1 * (i.val / 512 - 0) + 48 * (j.val / 1024 - 0)) / 48) + j.val % 1024 = j.val
    rw [h2]; omega

end Cert.KeyProjIdeal.Lin

end
-- ==== Proof.KeyProjReference.lean ====
/- The key projection of the RWKV7 layer: the reference at an index, and the two programs' results equal. -/
module

public import proofs.«01_k».proof.Defs
public import proofs.«01_k».proof.Proof.KeyProjKernel
public import proofs.«01_k».proof.Proof.Gen.KeyProjReferenceIdeal.Read
public import proofs.«01_k».proof.Proof.Gen.KeyProjReferenceIdeal.Run

@[expose] public section

set_option maxRecDepth 16384

noncomputable section

namespace Cert.KeyProjReferenceIdeal.Lin

open Cert.KeyProjReferenceIdeal Cert.KeyProjReferenceIdeal.Gen Cert.KeyProjReferenceIdeal.Read Idealize.ShloMosaic
open Cert.KeyProjIdeal.Lin (entryAt)

theorem out_apply (a : Vec Ideal S6x24576x2048 .bf16) (w : Vec Ideal S2048x2048 .f32) (i : Fin 24576) (j : Fin 2048) :
    val_main_v2 (F := Ideal) a w (ix2 i j) = entryAt a w i j := by
  unfold entryAt
  pointwise [val_main_v2, val_main_v1, val_main_v0]

end Cert.KeyProjReferenceIdeal.Lin

namespace Cert.Proof

open Idealize.ShloMosaic Idealize.SL.Sem

/-- The key projection of the RWKV7 layer, equal to the reference over the extended reals. -/
theorem algebraic_keyProj : Cert.algebraic_KeyProjIdeal_KeyProjReferenceIdeal := by
  intro m g m' g' _ hagree
  refine ⟨fun c => Cert.KeyProjReferenceIdeal.Read.val_main_v2 (F := Ideal) (m ((c.tc : Thread Cert.KeyProjIdeal.nD Cert.KeyProjIdeal.τ).loc Cert.KeyProjIdeal.main_arg0)) (m ((c.tc : Thread Cert.KeyProjIdeal.nD Cert.KeyProjIdeal.τ).loc Cert.KeyProjIdeal.main_arg1)), ?_, ?_⟩
  · refine (θ_run Cert.KeyProjIdeal.defs _ _).mono (fun r h c => ?_) (Cert.KeyProjIdeal.Value.run_blocks m g)
    obtain ⟨h0, h1⟩ := h c
    refine ⟨?_, h1⟩
    rw [h0]
    funext i
    idx_vars i
    exact (Cert.KeyProjIdeal.Lin.final m c i0 i1).trans (Cert.KeyProjReferenceIdeal.Lin.out_apply _ _ i0 i1).symm
  · refine (θ_run Cert.KeyProjReferenceIdeal.defs _ _).mono (fun r h c => ?_) (Cert.KeyProjReferenceIdeal.Value.run m' g')
    obtain ⟨h0, h1⟩ := h c
    refine ⟨?_, h1⟩
    rw [h0, Cert.KeyProjReferenceIdeal.Read.val_main_v2_eq, (hagree c).1, (hagree c).2]

theorem frame_keyProjReference : Cert.quiescent_KeyProjReferenceIdeal := by
  intro m g _
  exact (θ_run Cert.KeyProjReferenceIdeal.defs _ _).mono (fun r h => ⟨fun c => (h c).2,
      Idealize.ShloMosaic.sem_eq_zero_of_no_sems (by decide) r.2⟩)
    (Cert.KeyProjReferenceIdeal.Value.run (F := Ideal) m g)

end Cert.Proof

end
-- ==== Proof.ValProjKernel.lean ====
/- The value projection of the RWKV7 layer: what the kernel leaves at an index. -/
module

public import proofs.«01_k».proof.Proof.Gen.ValProjIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.ValProjIdeal.Lin

open Cert.ValProjIdeal Cert.ValProjIdeal.Gen Idealize.ShloMosaic Idealize.ShloMosaic.TcCoe
open Idealize.ShloMosaic.Pipeline (Dat)

/-- One entry of the result, from the arguments. -/
def entryAt (a : Vec Ideal S6x24576x2048 .bf16) (w : Vec Ideal S2048x2048 .f32) (i : Fin 24576) (j : Fin 2048) : EReal :=
  ∑ k : Fin 2048, a (ix3 3 i k) * w (ix2 k j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x1024 .f32) (k : Fin 2048) (j : Fin 1024) : k0_pay1 w (ix2 k j) = w (ix2 k j) := by
  pointwise [k0_pay1]

theorem pay2_apply (a : Vec Ideal S1x512x2048 .bf16) (w : Vec Ideal S2048x1024 .bf16)
    (i : Fin 512) (j : Fin 1024) :
    k0_pay2 a w (ix2 i j) = ∑ k : Fin 2048, a (ix3 0 i k) * w (ix2 k j) := by
  pointwise [k0_pay2]
  try simp only [Ideal.ofBits_zero_f32, zero_add]

section
variable (x0 : Vec Ideal S1x512x2048 .bf16) (x1 : Vec Ideal S2048x1024 .f32)
variable (c : Dev nD) (i : grid0.Coords)
    (a2 : Memref sig .tc .vmem S1x512x2048 .bf16) (h2 : a2.IsWhole)
    (a3 : Memref sig .tc .vmem S2048x1024 .f32) (h3 : a3.IsWhole)
    (a4 : Memref sig .tc .vmem S512x1024 .f32) (h4 : a4.IsWhole)
    (a5 : Memref sig .tc .vmem S2048x1024 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S2048x1024) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S2048x1024) hz2, View.ld_unit_zero (S := S1x512x2048) hz3, View.readCov_unit_zero (S := S2048x1024) _ hz2]

theorem outB_eq (hc0) (s0 : Vec Ideal S2048x1024 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S2048x1024) hz2, View.ld_unit_zero (S := S1x512x2048) hz3]
end

variable (m : (ℓ : Loc nD τ sig) → Buf (Elt Ideal) ℓ) (c : Dev nD)

/-- The windows' block indices at point `t`: row block `t % 48`, column block `t / 48`. -/
theorem idx : ∀ t : Fin grid0.N, win0_0.index t = ![3, t.val % 48, 0] ∧ win0_1.index t = ![0, t.val / 48] := by
  decide +kernel

/-- Column `j` of column block `q`. -/
def col (q : ℕ) (hq : q < 2) (j : Fin 1024) : Fin 2048 := ⟨1024 * q + j.val, by omega⟩

theorem col_congr {q q' : ℕ} (h : q = q') (hq : q < 2) (hq' : q' < 2) (j : Fin 1024) : col q hq j = col q' hq' j := by
  subst h; rfl

theorem div_lt {n : ℕ} (h : n < cfg0.N) : n / 48 < 2 := by
  have : n < 96 := lt_of_lt_of_eq h N_0
  omega

theorem blk0 (t : Fin cfg0.N) (i : Fin 512) (k : Fin 2048) :
    iblk m c 0 t (ix3 0 i k) = m ((c : Thread nD τ).loc main_arg0) (ix3 3 ⟨512 * (t.val % 48) + i.val, by omega⟩ k) := by
  have hi := idx t
  blk_simp [iblk, hi.1]
  entry_read
  pointwise
  blk_ext [hi.1]

theorem blk1 (t : Fin cfg0.N) (k : Fin 2048) (j : Fin 1024) :
    iblk m c 1 t (ix2 k j) = m ((c : Thread nD τ).loc main_arg1) (ix2 k (col (t.val / 48) (div_lt t.isLt) j)) := by
  have hi := idx t
  unfold col
  blk_simp [iblk, hi.2]
  entry_read
  pointwise
  blk_ext [hi.2]

theorem scratch_A (t : Fin cfg0.N) (h0 : t.val % 48 = 0) (k : Fin 2048) (j : Fin 1024) :
    (outsAt0 m c t.val t.isLt).2 (ix2 k j) = m ((c : Thread nD τ).loc main_arg1) (ix2 k (col (t.val / 48) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 1024),
    (outsAt0 m c n hn).2 (ix2 k j) = m ((c : Thread nD τ).loc main_arg1) (ix2 k (col (n / 48) (div_lt hn) j)) := by
  induction n using Nat.strong_induction_on with
  | _ n ih =>
    intro hn k j
    by_cases h0 : n % 48 = 0
    · exact scratch_A m c ⟨n, hn⟩ h0 k j
    · have e : n / 48 = (n - 1) / 48 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 48 = 0
  · rw [outsAt0_A m c t h0, scr0_eq, outA_eq]
  · rw [outsAt0_B m c t h0, outB_eq]
    rfl

/-- What point `t` leaves in its output block. -/
theorem out_at (t : Fin cfg0.N) (i : Fin 512) (j : Fin 1024) :
    (outsAt0 m c t.val t.isLt).1 (ix2 i j)
      = entryAt (m ((c : Thread nD τ).loc main_arg0)) (m ((c : Thread nD τ).loc main_arg1))
          ⟨512 * (t.val % 48) + i.val, by omega⟩ (col (t.val / 48) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 2048) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 96 from N_0]
    show 1 * (i.val / 512 - 0) + 48 * (j.val / 1024 - 0) < 96
    omega
  rw [dif_pos hp, ← Value.outsAt0_sweep m c _ hp]
  have h1 : (1 * (i.val / 512 - 0) + 48 * (j.val / 1024 - 0)) % 48 = i.val / 512 := by omega
  have h2 : (1 * (i.val / 512 - 0) + 48 * (j.val / 1024 - 0)) / 48 = j.val / 1024 := by omega
  have hl : Value.loc2Of (ix2 i j) = ix2 ⟨i.val % 512, Nat.mod_lt _ (by decide)⟩ ⟨j.val % 1024, Nat.mod_lt _ (by decide)⟩ := by
    funext a; fin_cases a <;> rfl
  rw [hl]
  refine (out_at m c ⟨_, hp⟩ _ _).trans (congrArg₂ (entryAt _ _) (Fin.ext ?_) (Fin.ext ?_))
  · show 512 * ((1 * (i.val / 512 - 0) + 48 * (j.val / 1024 - 0)) % 48) + i.val % 512 = i.val
    rw [h1]; omega
  · show 1024 * ((1 * (i.val / 512 - 0) + 48 * (j.val / 1024 - 0)) / 48) + j.val % 1024 = j.val
    rw [h2]; omega

end Cert.ValProjIdeal.Lin

end
-- ==== Proof.ValProjReference.lean ====
/- The value projection of the RWKV7 layer: the reference at an index, and the two programs' results equal. -/
module

public import proofs.«01_k».proof.Defs
public import proofs.«01_k».proof.Proof.ValProjKernel
public import proofs.«01_k».proof.Proof.Gen.ValProjReferenceIdeal.Read
public import proofs.«01_k».proof.Proof.Gen.ValProjReferenceIdeal.Run

@[expose] public section

set_option maxRecDepth 16384

noncomputable section

namespace Cert.ValProjReferenceIdeal.Lin

open Cert.ValProjReferenceIdeal Cert.ValProjReferenceIdeal.Gen Cert.ValProjReferenceIdeal.Read Idealize.ShloMosaic
open Cert.ValProjIdeal.Lin (entryAt)

theorem out_apply (a : Vec Ideal S6x24576x2048 .bf16) (w : Vec Ideal S2048x2048 .f32) (i : Fin 24576) (j : Fin 2048) :
    val_main_v2 (F := Ideal) a w (ix2 i j) = entryAt a w i j := by
  unfold entryAt
  pointwise [val_main_v2, val_main_v1, val_main_v0]

end Cert.ValProjReferenceIdeal.Lin

namespace Cert.Proof

open Idealize.ShloMosaic Idealize.SL.Sem

/-- The value projection of the RWKV7 layer, equal to the reference over the extended reals. -/
theorem algebraic_valProj : Cert.algebraic_ValProjIdeal_ValProjReferenceIdeal := by
  intro m g m' g' _ hagree
  refine ⟨fun c => Cert.ValProjReferenceIdeal.Read.val_main_v2 (F := Ideal) (m ((c.tc : Thread Cert.ValProjIdeal.nD Cert.ValProjIdeal.τ).loc Cert.ValProjIdeal.main_arg0)) (m ((c.tc : Thread Cert.ValProjIdeal.nD Cert.ValProjIdeal.τ).loc Cert.ValProjIdeal.main_arg1)), ?_, ?_⟩
  · refine (θ_run Cert.ValProjIdeal.defs _ _).mono (fun r h c => ?_) (Cert.ValProjIdeal.Value.run_blocks m g)
    obtain ⟨h0, h1⟩ := h c
    refine ⟨?_, h1⟩
    rw [h0]
    funext i
    idx_vars i
    exact (Cert.ValProjIdeal.Lin.final m c i0 i1).trans (Cert.ValProjReferenceIdeal.Lin.out_apply _ _ i0 i1).symm
  · refine (θ_run Cert.ValProjReferenceIdeal.defs _ _).mono (fun r h c => ?_) (Cert.ValProjReferenceIdeal.Value.run m' g')
    obtain ⟨h0, h1⟩ := h c
    refine ⟨?_, h1⟩
    rw [h0, Cert.ValProjReferenceIdeal.Read.val_main_v2_eq, (hagree c).1, (hagree c).2]

theorem frame_valProjReference : Cert.quiescent_ValProjReferenceIdeal := by
  intro m g _
  exact (θ_run Cert.ValProjReferenceIdeal.defs _ _).mono (fun r h => ⟨fun c => (h c).2,
      Idealize.ShloMosaic.sem_eq_zero_of_no_sems (by decide) r.2⟩)
    (Cert.ValProjReferenceIdeal.Value.run (F := Ideal) m g)

end Cert.Proof

end
-- ==== Proof.LowProjKernel.lean ====
/- The low-rank gate projection of the gated-linear-attention layer: what the kernel leaves at an index. -/
module

public import proofs.«01_k».proof.Proof.Gen.LowProjIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.LowProjIdeal.Lin

open Cert.LowProjIdeal Cert.LowProjIdeal.Gen Idealize.ShloMosaic Idealize.ShloMosaic.TcCoe
open Idealize.ShloMosaic.Pipeline (Dat)

/-- One entry of the result, from the arguments. -/
def entryAt (a : Vec Ideal S24576x2048 .bf16) (w : Vec Ideal S2048x128 .f32) (i : Fin 24576) (j : Fin 128) : EReal :=
  ∑ k : Fin 2048, a (ix2 i k) * w (ix2 k j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x128 .f32) (k : Fin 2048) (j : Fin 128) : k0_pay1 w (ix2 k j) = w (ix2 k j) := by
  pointwise [k0_pay1]

theorem pay2_apply (a : Vec Ideal S1024x2048 .bf16) (w : Vec Ideal S2048x128 .bf16)
    (i : Fin 1024) (j : Fin 128) :
    k0_pay2 a w (ix2 i j) = ∑ k : Fin 2048, a (ix2 i k) * w (ix2 k j) := by
  pointwise [k0_pay2]
  try simp only [Ideal.ofBits_zero_f32, Ideal.ofBits_one_f32, zero_add, zero_sub]

section
variable (x0 : Vec Ideal S1024x2048 .bf16) (x1 : Vec Ideal S2048x128 .f32)
variable (c : Dev nD) (i : grid0.Coords)
    (a2 : Memref sig .tc .vmem S1024x2048 .bf16) (h2 : a2.IsWhole)
    (a3 : Memref sig .tc .vmem S2048x128 .f32) (h3 : a3.IsWhole)
    (a4 : Memref sig .tc .vmem S1024x128 .f32) (h4 : a4.IsWhole)
    (a5 : Memref sig .tc .vmem S2048x128 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S2048x128) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S1024x2048) hz2, View.ld_unit_zero (S := S2048x128) hz2, View.readCov_unit_zero (S := S2048x128) _ hz2]

theorem outB_eq (hc0) (s0 : Vec Ideal S2048x128 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S1024x2048) hz2, View.ld_unit_zero (S := S2048x128) hz2]
end

variable (m : (ℓ : Loc nD τ sig) → Buf (Elt Ideal) ℓ) (c : Dev nD)

/-- The windows' block indices at point `t`: row block `t % 24`, column block `t / 24`. -/
theorem idx : ∀ t : Fin grid0.N, win0_0.index t = ![t.val % 24, 0] ∧ win0_1.index t = ![0, t.val / 24] := by
  decide +kernel

/-- Column `j` of column block `q`. -/
def col (q : ℕ) (hq : q < 1) (j : Fin 128) : Fin 128 := ⟨128 * q + j.val, by omega⟩

theorem col_congr {q q' : ℕ} (h : q = q') (hq : q < 1) (hq' : q' < 1) (j : Fin 128) : col q hq j = col q' hq' j := by
  subst h; rfl

theorem div_lt {n : ℕ} (h : n < cfg0.N) : n / 24 < 1 := by
  have : n < 24 := lt_of_lt_of_eq h N_0
  omega

theorem blk0 (t : Fin cfg0.N) (i : Fin 1024) (k : Fin 2048) :
    iblk m c 0 t (ix2 i k) = m ((c : Thread nD τ).loc main_arg0) (ix2 ⟨1024 * (t.val % 24) + i.val, by omega⟩ k) := by
  have hi := idx t
  blk_simp [iblk, hi.1]
  entry_read
  pointwise
  blk_ext [hi.1]

theorem blk1 (t : Fin cfg0.N) (k : Fin 2048) (j : Fin 128) :
    iblk m c 1 t (ix2 k j) = m ((c : Thread nD τ).loc main_arg1) (ix2 k (col (t.val / 24) (div_lt t.isLt) j)) := by
  have hi := idx t
  unfold col
  blk_simp [iblk, hi.2]
  entry_read
  pointwise
  blk_ext [hi.2]

theorem scratch_A (t : Fin cfg0.N) (h0 : t.val % 24 = 0) (k : Fin 2048) (j : Fin 128) :
    (outsAt0 m c t.val t.isLt).2 (ix2 k j) = m ((c : Thread nD τ).loc main_arg1) (ix2 k (col (t.val / 24) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 128),
    (outsAt0 m c n hn).2 (ix2 k j) = m ((c : Thread nD τ).loc main_arg1) (ix2 k (col (n / 24) (div_lt hn) j)) := by
  induction n using Nat.strong_induction_on with
  | _ n ih =>
    intro hn k j
    by_cases h0 : n % 24 = 0
    · exact scratch_A m c ⟨n, hn⟩ h0 k j
    · have e : n / 24 = (n - 1) / 24 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 24 = 0
  · rw [outsAt0_A m c t h0, scr0_eq, outA_eq]
  · rw [outsAt0_B m c t h0, outB_eq]
    rfl

/-- What point `t` leaves in its output block. -/
theorem out_at (t : Fin cfg0.N) (i : Fin 1024) (j : Fin 128) :
    (outsAt0 m c t.val t.isLt).1 (ix2 i j)
      = entryAt (m ((c : Thread nD τ).loc main_arg0)) (m ((c : Thread nD τ).loc main_arg1))
          ⟨1024 * (t.val % 24) + i.val, by omega⟩ (col (t.val / 24) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 128) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 24 from N_0]
    show 1 * (i.val / 1024 - 0) + 1 * (j.val / 128 - 0) < 24
    omega
  rw [dif_pos hp, ← Value.outsAt0_sweep m c _ hp]
  have h1 : (1 * (i.val / 1024 - 0) + 1 * (j.val / 128 - 0)) % 24 = i.val / 1024 := by omega
  have h2 : (1 * (i.val / 1024 - 0) + 1 * (j.val / 128 - 0)) / 24 = j.val / 128 := by omega
  have hl : Value.loc2Of (ix2 i j) = ix2 ⟨i.val % 1024, Nat.mod_lt _ (by decide)⟩ ⟨j.val % 128, Nat.mod_lt _ (by decide)⟩ := by
    funext a; fin_cases a <;> rfl
  rw [hl]
  refine (out_at m c ⟨_, hp⟩ _ _).trans (congrArg₂ (entryAt _ _) (Fin.ext ?_) (Fin.ext ?_))
  · show 1024 * ((1 * (i.val / 1024 - 0) + 1 * (j.val / 128 - 0)) % 24) + i.val % 1024 = i.val
    rw [h1]; omega
  · show 128 * ((1 * (i.val / 1024 - 0) + 1 * (j.val / 128 - 0)) / 24) + j.val % 128 = j.val
    rw [h2]; omega

end Cert.LowProjIdeal.Lin

end
-- ==== Proof.LowProjReference.lean ====
/- The low-rank gate projection of the gated-linear-attention layer: the reference at an index, and the two programs' results equal. -/
module

public import proofs.«01_k».proof.Defs
public import proofs.«01_k».proof.Proof.LowProjKernel
public import proofs.«01_k».proof.Proof.Gen.LowProjReferenceIdeal.Read
public import proofs.«01_k».proof.Proof.Gen.LowProjReferenceIdeal.Run

@[expose] public section

set_option maxRecDepth 16384

noncomputable section

namespace Cert.LowProjReferenceIdeal.Lin

open Cert.LowProjReferenceIdeal Cert.LowProjReferenceIdeal.Gen Cert.LowProjReferenceIdeal.Read Idealize.ShloMosaic
open Cert.LowProjIdeal.Lin (entryAt)

theorem out_apply (a : Vec Ideal S24576x2048 .bf16) (w : Vec Ideal S2048x128 .f32) (i : Fin 24576) (j : Fin 128) :
    val_main_v0 (F := Ideal) a w (ix2 i j) = entryAt a w i j := by
  unfold entryAt
  pointwise [val_main_v0]

end Cert.LowProjReferenceIdeal.Lin

namespace Cert.Proof

open Idealize.ShloMosaic Idealize.SL.Sem

/-- The low-rank gate projection of the gated-linear-attention layer, equal to the reference over the extended reals. -/
theorem algebraic_lowProj : Cert.algebraic_LowProjIdeal_LowProjReferenceIdeal := by
  intro m g m' g' _ hagree
  refine ⟨fun c => Cert.LowProjReferenceIdeal.Read.val_main_v0 (F := Ideal) (m ((c.tc : Thread Cert.LowProjIdeal.nD Cert.LowProjIdeal.τ).loc Cert.LowProjIdeal.main_arg0)) (m ((c.tc : Thread Cert.LowProjIdeal.nD Cert.LowProjIdeal.τ).loc Cert.LowProjIdeal.main_arg1)), ?_, ?_⟩
  · refine (θ_run Cert.LowProjIdeal.defs _ _).mono (fun r h c => ?_) (Cert.LowProjIdeal.Value.run_blocks m g)
    obtain ⟨h0, h1⟩ := h c
    refine ⟨?_, h1⟩
    rw [h0]
    funext i
    idx_vars i
    exact (Cert.LowProjIdeal.Lin.final m c i0 i1).trans (Cert.LowProjReferenceIdeal.Lin.out_apply _ _ i0 i1).symm
  · refine (θ_run Cert.LowProjReferenceIdeal.defs _ _).mono (fun r h c => ?_) (Cert.LowProjReferenceIdeal.Value.run m' g')
    obtain ⟨h0, h1⟩ := h c
    refine ⟨?_, h1⟩
    rw [h0, Cert.LowProjReferenceIdeal.Read.val_main_v0_eq, (hagree c).1, (hagree c).2]

theorem frame_lowProjReference : Cert.quiescent_LowProjReferenceIdeal := by
  intro m g _
  exact (θ_run Cert.LowProjReferenceIdeal.defs _ _).mono (fun r h => ⟨fun c => (h c).2,
      Idealize.ShloMosaic.sem_eq_zero_of_no_sems (by decide) r.2⟩)
    (Cert.LowProjReferenceIdeal.Value.run (F := Ideal) m g)

end Cert.Proof

end
-- ==== Proof.GkProjKernel.lean ====
/- The expansion of the gate of the gated-linear-attention layer: what the kernel leaves at an index. -/
module

public import proofs.«01_k».proof.Proof.Gen.GkProjIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.GkProjIdeal.Lin

open Cert.GkProjIdeal Cert.GkProjIdeal.Gen Idealize.ShloMosaic Idealize.ShloMosaic.TcCoe
open Idealize.ShloMosaic.Pipeline (Dat)

/-- One entry of the result, from the arguments. -/
def entryAt (a : Vec Ideal S24576x128 .f32) (w : Vec Ideal S128x2048 .f32) (b : Vec Ideal S2048 .f32) (i : Fin 24576) (j : Fin 2048) : EReal :=
  (∑ k : Fin 128, a (ix2 i k) * w (ix2 k j)) + b (ix1 j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S128x1024 .f32) (k : Fin 128) (j : Fin 1024) : k0_pay1 w (ix2 k j) = w (ix2 k j) := by
  pointwise [k0_pay1]

theorem pay2_apply (a : Vec Ideal S1024x128 .f32) (w : Vec Ideal S128x1024 .bf16) (b : Vec Ideal S1x1024 .f32)
    (i : Fin 1024) (j : Fin 1024) :
    k0_pay2 a w b (ix2 i j) = (∑ k : Fin 128, a (ix2 i k) * w (ix2 k j)) + b (ix2 0 j) := by
  pointwise [k0_pay2]
  try simp only [Ideal.ofBits_zero_f32, Ideal.ofBits_one_f32, zero_add, zero_sub]

section
variable (x0 : Vec Ideal S1024x128 .f32) (x1 : Vec Ideal S128x1024 .f32) (x2 : Vec Ideal S1x1024 .f32)
variable (c : Dev nD) (i : grid0.Coords)
    (a2 : Memref sig .tc .vmem S1024x128 .f32) (h2 : a2.IsWhole)
    (a3 : Memref sig .tc .vmem S128x1024 .f32) (h3 : a3.IsWhole)
    (a4 : Memref sig .tc .vmem S1x1024 .f32) (h4 : a4.IsWhole)
    (a5 : Memref sig .tc .vmem S1024x1024 .f32) (h5 : a5.IsWhole)
    (a6 : Memref sig .tc .vmem S128x1024 .bf16) (h6 : a6.IsWhole)

theorem scr0_eq (hc0) : sout0_A_0 c i a2 h2 a3 h3 a4 h4 a5 h5 a6 h6 hc0 x0 x1 x2 = k0_pay1 x1 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  rw [View.canon_unit_zero hz2]
  simp only [View.readAt_eq_ld, h2.read_unread, h3.read_unread, h4.read_unread, View.ld_unit_zero (S := S128x1024) hz2]

theorem outA_eq (hc0) : out0_A_3 c i a2 h2 a3 h3 a4 h4 a5 h5 a6 h6 hc0 x0 x1 x2 = k0_pay2 x0 (k0_pay1 x1) x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  rw [View.canon_unit_zero hz2]
  simp only [View.readCov_cons_toLoadRect, View.readAt_eq_ld, h2.read_unread, h3.read_unread, h4.read_unread, View.ld_unit_zero (S := S1024x128) hz2, View.ld_unit_zero (S := S128x1024) hz2, View.ld_unit_zero (S := S1x1024) hz2, View.readCov_unit_zero (S := S128x1024) _ hz2]

theorem outB_eq (hc0) (s0 : Vec Ideal S128x1024 .bf16) : out0_B_3 c i a2 h2 a3 h3 a4 h4 a5 h5 a6 h6 hc0 x0 x1 x2 s0 = k0_pay2 x0 s0 x2 := by
  unfold out0_B_3
  rw [View.read_writes_eq_canon _ _ _ (cover0_B_3 c i a2 h2 a3 h3 a4 h4 a5 h5 a6 h6 hc0 x0 x1 x2 s0)]
  unfold kernelRun0_B
  dsimp only
  sl_unfold_words
  rw [View.canon_unit_zero hz2]
  simp only [View.readAt_eq_ld, h2.read_unread, h3.read_unread, h4.read_unread, h6.read_unread, View.ld_unit_zero (S := S1024x128) hz2, View.ld_unit_zero (S := S128x1024) hz2, View.ld_unit_zero (S := S1x1024) hz2]
end

variable (m : (ℓ : Loc nD τ sig) → Buf (Elt Ideal) ℓ) (c : Dev nD)

/-- The windows' block indices at point `t`: row block `t % 24`, column block `t / 24`. -/
theorem idx : ∀ t : Fin grid0.N, win0_0.index t = ![t.val % 24, 0] ∧ win0_1.index t = ![0, t.val / 24]
    ∧ win0_2.index t = ![0, t.val / 24] := by
  decide +kernel

/-- Column `j` of column block `q`. -/
def col (q : ℕ) (hq : q < 2) (j : Fin 1024) : Fin 2048 := ⟨1024 * q + j.val, by omega⟩

theorem col_congr {q q' : ℕ} (h : q = q') (hq : q < 2) (hq' : q' < 2) (j : Fin 1024) : col q hq j = col q' hq' j := by
  subst h; rfl

theorem div_lt {n : ℕ} (h : n < cfg0.N) : n / 24 < 2 := by
  have : n < 48 := lt_of_lt_of_eq h N_0
  omega

theorem blk0 (t : Fin cfg0.N) (i : Fin 1024) (k : Fin 128) :
    iblk m c 0 t (ix2 i k) = m ((c : Thread nD τ).loc main_arg0) (ix2 ⟨1024 * (t.val % 24) + i.val, by omega⟩ k) := by
  have hi := idx t
  blk_simp [iblk, hi.1]
  entry_read
  pointwise
  blk_ext [hi.1]

theorem blk1 (t : Fin cfg0.N) (k : Fin 128) (j : Fin 1024) :
    iblk m c 1 t (ix2 k j) = m ((c : Thread nD τ).loc main_arg1) (ix2 k (col (t.val / 24) (div_lt t.isLt) j)) := by
  have hi := idx t
  unfold col
  blk_simp [iblk, hi.2.1]
  entry_read
  pointwise
  blk_ext [hi.2.1]

theorem blk2 (t : Fin cfg0.N) (j : Fin 1024) :
    iblk m c 2 t (ix2 0 j) = m ((c : Thread nD τ).loc main_arg2) (ix1 (col (t.val / 24) (div_lt t.isLt) j)) := by
  have hi := idx t
  unfold col
  blk_simp [iblk, hi.2.2]
  entry_read
  pointwise
  blk_ext [hi.2.2]

theorem scratch_A (t : Fin cfg0.N) (h0 : t.val % 24 = 0) (k : Fin 128) (j : Fin 1024) :
    (outsAt0 m c t.val t.isLt).2 (ix2 k j) = m ((c : Thread nD τ).loc main_arg1) (ix2 k (col (t.val / 24) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 128) (j : Fin 1024),
    (outsAt0 m c n hn).2 (ix2 k j) = m ((c : Thread nD τ).loc main_arg1) (ix2 k (col (n / 24) (div_lt hn) j)) := by
  induction n using Nat.strong_induction_on with
  | _ n ih =>
    intro hn k j
    by_cases h0 : n % 24 = 0
    · exact scratch_A m c ⟨n, hn⟩ h0 k j
    · have e : n / 24 = (n - 1) / 24 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2 (iblk m c 2 t) := by
  by_cases h0 : t.val % 24 = 0
  · rw [outsAt0_A m c t h0, scr0_eq, outA_eq]
  · rw [outsAt0_B m c t h0, outB_eq]
    rfl

/-- What point `t` leaves in its output block. -/
theorem out_at (t : Fin cfg0.N) (i : Fin 1024) (j : Fin 1024) :
    (outsAt0 m c t.val t.isLt).1 (ix2 i j)
      = entryAt (m ((c : Thread nD τ).loc main_arg0)) (m ((c : Thread nD τ).loc main_arg1)) (m ((c : Thread nD τ).loc main_arg2))
          ⟨1024 * (t.val % 24) + i.val, by omega⟩ (col (t.val / 24) (div_lt t.isLt) j) := by
  have hs := scratch m c t.val t.isLt
  rw [out_eq]
  refine (pay2_apply (iblk m c 0 t) _ (iblk m c 2 t) i j).trans ?_
  unfold entryAt
  rw [blk2 m c t j]
  simp only [hs, blk0]

/-- The result array. -/
theorem final (i : Fin 24576) (j : Fin 2048) :
    (dats m 0 c).arrAt 3 cfg0.N (ix2 i j)
      = entryAt (m ((c : Thread nD τ).loc main_arg0)) (m ((c : Thread nD τ).loc main_arg1)) (m ((c : Thread nD τ).loc main_arg2)) i j := by
  rw [Value.final3]
  unfold Value.G3
  have hp : Value.pt3Of (ix2 i j) < cfg0.N := by
    rw [show cfg0.N = 48 from N_0]
    show 1 * (i.val / 1024 - 0) + 24 * (j.val / 1024 - 0) < 48
    omega
  rw [dif_pos hp, ← Value.outsAt0_sweep m c _ hp]
  have h1 : (1 * (i.val / 1024 - 0) + 24 * (j.val / 1024 - 0)) % 24 = i.val / 1024 := by omega
  have h2 : (1 * (i.val / 1024 - 0) + 24 * (j.val / 1024 - 0)) / 24 = j.val / 1024 := by omega
  have hl : Value.loc3Of (ix2 i j) = ix2 ⟨i.val % 1024, Nat.mod_lt _ (by decide)⟩ ⟨j.val % 1024, Nat.mod_lt _ (by decide)⟩ := by
    funext a; fin_cases a <;> rfl
  rw [hl]
  refine (out_at m c ⟨_, hp⟩ _ _).trans (congrArg₂ (entryAt _ _ _) (Fin.ext ?_) (Fin.ext ?_))
  · show 1024 * ((1 * (i.val / 1024 - 0) + 24 * (j.val / 1024 - 0)) % 24) + i.val % 1024 = i.val
    rw [h1]; omega
  · show 1024 * ((1 * (i.val / 1024 - 0) + 24 * (j.val / 1024 - 0)) / 24) + j.val % 1024 = j.val
    rw [h2]; omega

end Cert.GkProjIdeal.Lin

end
-- ==== Proof.GkProjReference.lean ====
/- The expansion of the gate of the gated-linear-attention layer: the reference at an index, and the two programs' results equal. -/
module

public import proofs.«01_k».proof.Defs
public import proofs.«01_k».proof.Proof.GkProjKernel
public import proofs.«01_k».proof.Proof.Gen.GkProjReferenceIdeal.Read
public import proofs.«01_k».proof.Proof.Gen.GkProjReferenceIdeal.Run

@[expose] public section

set_option maxRecDepth 16384

noncomputable section

namespace Cert.GkProjReferenceIdeal.Lin

open Cert.GkProjReferenceIdeal Cert.GkProjReferenceIdeal.Gen Cert.GkProjReferenceIdeal.Read Idealize.ShloMosaic
open Cert.GkProjIdeal.Lin (entryAt)

theorem out_apply (a : Vec Ideal S24576x128 .f32) (w : Vec Ideal S128x2048 .f32) (b : Vec Ideal S2048 .f32) (i : Fin 24576) (j : Fin 2048) :
    val_main_v3 (F := Ideal) a w b (ix2 i j) = entryAt a w b i j := by
  unfold entryAt
  pointwise [val_main_v3, val_main_v2, val_main_v1, val_main_v0]

end Cert.GkProjReferenceIdeal.Lin

namespace Cert.Proof

open Idealize.ShloMosaic Idealize.SL.Sem

/-- The expansion of the gate of the gated-linear-attention layer, equal to the reference over the extended reals. -/
theorem algebraic_gkProj : Cert.algebraic_GkProjIdeal_GkProjReferenceIdeal := by
  intro m g m' g' _ hagree
  refine ⟨fun c => Cert.GkProjReferenceIdeal.Read.val_main_v3 (F := Ideal) (m ((c.tc : Thread Cert.GkProjIdeal.nD Cert.GkProjIdeal.τ).loc Cert.GkProjIdeal.main_arg0)) (m ((c.tc : Thread Cert.GkProjIdeal.nD Cert.GkProjIdeal.τ).loc Cert.GkProjIdeal.main_arg1)) (m ((c.tc : Thread Cert.GkProjIdeal.nD Cert.GkProjIdeal.τ).loc Cert.GkProjIdeal.main_arg2)), ?_, ?_⟩
  · refine (θ_run Cert.GkProjIdeal.defs _ _).mono (fun r h c => ?_) (Cert.GkProjIdeal.Value.run_blocks m g)
    obtain ⟨h0, h1⟩ := h c
    refine ⟨?_, h1⟩
    rw [h0]
    funext i
    idx_vars i
    exact (Cert.GkProjIdeal.Lin.final m c i0 i1).trans (Cert.GkProjReferenceIdeal.Lin.out_apply _ _ _ i0 i1).symm
  · refine (θ_run Cert.GkProjReferenceIdeal.defs _ _).mono (fun r h c => ?_) (Cert.GkProjReferenceIdeal.Value.run m' g')
    obtain ⟨h0, h1⟩ := h c
    refine ⟨?_, h1⟩
    rw [h0, Cert.GkProjReferenceIdeal.Read.val_main_v3_eq, (hagree c).1, (hagree c).2.1, (hagree c).2.2]

theorem frame_gkProjReference : Cert.quiescent_GkProjReferenceIdeal := by
  intro m g _
  exact (θ_run Cert.GkProjReferenceIdeal.defs _ _).mono (fun r h => ⟨fun c => (h c).2,
      Idealize.ShloMosaic.sem_eq_zero_of_no_sems (by decide) r.2⟩)
    (Cert.GkProjReferenceIdeal.Value.run (F := Ideal) m g)

end Cert.Proof

end
-- ==== Proof.GateInKernel.lean ====
/- The low-rank gate of the RWKV7 layer: what the kernel leaves at an index. -/
module

public import proofs.«01_k».proof.Proof.Gen.GateInIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.GateInIdeal.Lin

open Cert.GateInIdeal Cert.GateInIdeal.Gen Idealize.ShloMosaic Idealize.ShloMosaic.TcCoe
open Idealize.ShloMosaic.Pipeline (Dat)

/-- One entry of the result, from the arguments. -/
def entryAt (a : Vec Ideal S6x24576x2048 .bf16) (w : Vec Ideal S2048x256 .f32) (i : Fin 24576) (j : Fin 256) : EReal :=
  Ideal.div (1 : EReal) (1 + Ideal.exp (-(∑ k : Fin 2048, a (ix3 5 i k) * w (ix2 k j))))

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x256 .f32) (k : Fin 2048) (j : Fin 256) : k0_pay1 w (ix2 k j) = w (ix2 k j) := by
  pointwise [k0_pay1]

theorem pay2_apply (a : Vec Ideal S1x1024x2048 .bf16) (w : Vec Ideal S2048x256 .bf16)
    (i : Fin 1024) (j : Fin 256) :
    k0_pay2 a w (ix2 i j) = Ideal.div (1 : EReal) (1 + Ideal.exp (-(∑ k : Fin 2048, a (ix3 0 i k) * w (ix2 k j)))) := by
  pointwise [k0_pay2]
  try simp only [Ideal.ofBits_zero_f32, Ideal.ofBits_one_f32, zero_add, zero_sub]

section
variable (x0 : Vec Ideal S1x1024x2048 .bf16) (x1 : Vec Ideal S2048x256 .f32)
variable (c : Dev nD) (i : grid0.Coords)
    (a2 : Memref sig .tc .vmem S1x1024x2048 .bf16) (h2 : a2.IsWhole)
    (a3 : Memref sig .tc .vmem S2048x256 .f32) (h3 : a3.IsWhole)
    (a4 : Memref sig .tc .vmem S1024x256 .bf16) (h4 : a4.IsWhole)
    (a5 : Memref sig .tc .vmem S2048x256 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S2048x256) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S2048x256) hz2, View.ld_unit_zero (S := S1x1024x2048) hz3, View.readCov_unit_zero (S := S2048x256) _ hz2]

theorem outB_eq (hc0) (s0 : Vec Ideal S2048x256 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S2048x256) hz2, View.ld_unit_zero (S := S1x1024x2048) hz3]
end

variable (m : (ℓ : Loc nD τ sig) → Buf (Elt Ideal) ℓ) (c : Dev nD)

/-- The windows' block indices at point `t`: row block `t % 24`, column block `t / 24`. -/
theorem idx : ∀ t : Fin grid0.N, win0_0.index t = ![5, t.val % 24, 0] ∧ win0_1.index t = ![0, t.val / 24] := by
  decide +kernel

/-- Column `j` of column block `q`. -/
def col (q : ℕ) (hq : q < 1) (j : Fin 256) : Fin 256 := ⟨256 * q + j.val, by omega⟩

theorem col_congr {q q' : ℕ} (h : q = q') (hq : q < 1) (hq' : q' < 1) (j : Fin 256) : col q hq j = col q' hq' j := by
  subst h; rfl

theorem div_lt {n : ℕ} (h : n < cfg0.N) : n / 24 < 1 := by
  have : n < 24 := lt_of_lt_of_eq h N_0
  omega

theorem blk0 (t : Fin cfg0.N) (i : Fin 1024) (k : Fin 2048) :
    iblk m c 0 t (ix3 0 i k) = m ((c : Thread nD τ).loc main_arg0) (ix3 5 ⟨1024 * (t.val % 24) + i.val, by omega⟩ k) := by
  have hi := idx t
  blk_simp [iblk, hi.1]
  entry_read
  pointwise
  blk_ext [hi.1]

theorem blk1 (t : Fin cfg0.N) (k : Fin 2048) (j : Fin 256) :
    iblk m c 1 t (ix2 k j) = m ((c : Thread nD τ).loc main_arg1) (ix2 k (col (t.val / 24) (div_lt t.isLt) j)) := by
  have hi := idx t
  unfold col
  blk_simp [iblk, hi.2]
  entry_read
  pointwise
  blk_ext [hi.2]

theorem scratch_A (t : Fin cfg0.N) (h0 : t.val % 24 = 0) (k : Fin 2048) (j : Fin 256) :
    (outsAt0 m c t.val t.isLt).2 (ix2 k j) = m ((c : Thread nD τ).loc main_arg1) (ix2 k (col (t.val / 24) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 256),
    (outsAt0 m c n hn).2 (ix2 k j) = m ((c : Thread nD τ).loc main_arg1) (ix2 k (col (n / 24) (div_lt hn) j)) := by
  induction n using Nat.strong_induction_on with
  | _ n ih =>
    intro hn k j
    by_cases h0 : n % 24 = 0
    · exact scratch_A m c ⟨n, hn⟩ h0 k j
    · have e : n / 24 = (n - 1) / 24 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 24 = 0
  · rw [outsAt0_A m c t h0, scr0_eq, outA_eq]
  · rw [outsAt0_B m c t h0, outB_eq]
    rfl

/-- What point `t` leaves in its output block. -/
theorem out_at (t : Fin cfg0.N) (i : Fin 1024) (j : Fin 256) :
    (outsAt0 m c t.val t.isLt).1 (ix2 i j)
      = entryAt (m ((c : Thread nD τ).loc main_arg0)) (m ((c : Thread nD τ).loc main_arg1))
          ⟨1024 * (t.val % 24) + i.val, by omega⟩ (col (t.val / 24) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 256) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 24 from N_0]
    show 1 * (i.val / 1024 - 0) + 1 * (j.val / 256 - 0) < 24
    omega
  rw [dif_pos hp, ← Value.outsAt0_sweep m c _ hp]
  have h1 : (1 * (i.val / 1024 - 0) + 1 * (j.val / 256 - 0)) % 24 = i.val / 1024 := by omega
  have h2 : (1 * (i.val / 1024 - 0) + 1 * (j.val / 256 - 0)) / 24 = j.val / 256 := by omega
  have hl : Value.loc2Of (ix2 i j) = ix2 ⟨i.val % 1024, Nat.mod_lt _ (by decide)⟩ ⟨j.val % 256, Nat.mod_lt _ (by decide)⟩ := by
    funext a; fin_cases a <;> rfl
  rw [hl]
  refine (out_at m c ⟨_, hp⟩ _ _).trans (congrArg₂ (entryAt _ _) (Fin.ext ?_) (Fin.ext ?_))
  · show 1024 * ((1 * (i.val / 1024 - 0) + 1 * (j.val / 256 - 0)) % 24) + i.val % 1024 = i.val
    rw [h1]; omega
  · show 256 * ((1 * (i.val / 1024 - 0) + 1 * (j.val / 256 - 0)) / 24) + j.val % 256 = j.val
    rw [h2]; omega

end Cert.GateInIdeal.Lin

end
-- ==== Proof.GateInReference.lean ====
/- The low-rank gate of the RWKV7 layer: the reference at an index, and the two programs' results equal. -/
module

public import proofs.«01_k».proof.Defs
public import proofs.«01_k».proof.Proof.GateInKernel
public import proofs.«01_k».proof.Proof.Gen.GateInReferenceIdeal.Read
public import proofs.«01_k».proof.Proof.Gen.GateInReferenceIdeal.Run

@[expose] public section

set_option maxRecDepth 16384

noncomputable section

namespace Cert.GateInReferenceIdeal.Lin

open Cert.GateInReferenceIdeal Cert.GateInReferenceIdeal.Gen Cert.GateInReferenceIdeal.Read Idealize.ShloMosaic
open Cert.GateInIdeal.Lin (entryAt)

theorem out_apply (a : Vec Ideal S6x24576x2048 .bf16) (w : Vec Ideal S2048x256 .f32) (i : Fin 24576) (j : Fin 256) :
    val_main_v9 (F := Ideal) a w (ix2 i j) = entryAt a w i j := by
  unfold entryAt
  pointwise [val_main_v9, val_main_v8, val_main_v7, val_main_cst_0, val_main_v6, val_main_v5, val_main_cst, val_main_v4, val_main_v3, val_main_v2, val_main_v1, val_main_v0]

end Cert.GateInReferenceIdeal.Lin

namespace Cert.Proof

open Idealize.ShloMosaic Idealize.SL.Sem

/-- The low-rank gate of the RWKV7 layer, equal to the reference over the extended reals. -/
theorem algebraic_gateIn : Cert.algebraic_GateInIdeal_GateInReferenceIdeal := by
  intro m g m' g' _ hagree
  refine ⟨fun c => Cert.GateInReferenceIdeal.Read.val_main_v9 (F := Ideal) (m ((c.tc : Thread Cert.GateInIdeal.nD Cert.GateInIdeal.τ).loc Cert.GateInIdeal.main_arg0)) (m ((c.tc : Thread Cert.GateInIdeal.nD Cert.GateInIdeal.τ).loc Cert.GateInIdeal.main_arg1)), ?_, ?_⟩
  · refine (θ_run Cert.GateInIdeal.defs _ _).mono (fun r h c => ?_) (Cert.GateInIdeal.Value.run_blocks m g)
    obtain ⟨h0, h1⟩ := h c
    refine ⟨?_, h1⟩
    rw [h0]
    funext i
    idx_vars i
    exact (Cert.GateInIdeal.Lin.final m c i0 i1).trans (Cert.GateInReferenceIdeal.Lin.out_apply _ _ i0 i1).symm
  · refine (θ_run Cert.GateInReferenceIdeal.defs _ _).mono (fun r h c => ?_) (Cert.GateInReferenceIdeal.Value.run m' g')
    obtain ⟨h0, h1⟩ := h c
    refine ⟨?_, h1⟩
    rw [h0, Cert.GateInReferenceIdeal.Read.val_main_v9_eq, (hagree c).1, (hagree c).2]

theorem frame_gateInReference : Cert.quiescent_GateInReferenceIdeal := by
  intro m g _
  exact (θ_run Cert.GateInReferenceIdeal.defs _ _).mono (fun r h => ⟨fun c => (h c).2,
      Idealize.ShloMosaic.sem_eq_zero_of_no_sems (by decide) r.2⟩)
    (Cert.GateInReferenceIdeal.Value.run (F := Ideal) m g)

end Cert.Proof

end
-- ==== Proof.GateOutKernel.lean ====
/- The expansion of the gate of the RWKV7 layer: what the kernel leaves at an index. -/
module

public import proofs.«01_k».proof.Proof.Gen.GateOutIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.GateOutIdeal.Lin

open Cert.GateOutIdeal Cert.GateOutIdeal.Gen Idealize.ShloMosaic Idealize.ShloMosaic.TcCoe
open Idealize.ShloMosaic.Pipeline (Dat)

/-- One entry of the result, from the arguments. -/
def entryAt (a : Vec Ideal S24576x256 .bf16) (w : Vec Ideal S256x2048 .f32) (i : Fin 24576) (j : Fin 2048) : EReal :=
  ∑ k : Fin 256, a (ix2 i k) * w (ix2 k j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S256x1024 .f32) (k : Fin 256) (j : Fin 1024) : k0_pay1 w (ix2 k j) = w (ix2 k j) := by
  pointwise [k0_pay1]

theorem pay2_apply (a : Vec Ideal S1024x256 .bf16) (w : Vec Ideal S256x1024 .bf16)
    (i : Fin 1024) (j : Fin 1024) :
    k0_pay2 a w (ix2 i j) = ∑ k : Fin 256, a (ix2 i k) * w (ix2 k j) := by
  pointwise [k0_pay2]
  try simp only [Ideal.ofBits_zero_f32, Ideal.ofBits_one_f32, zero_add, zero_sub]

section
variable (x0 : Vec Ideal S1024x256 .bf16) (x1 : Vec Ideal S256x1024 .f32)
variable (c : Dev nD) (i : grid0.Coords)
    (a2 : Memref sig .tc .vmem S1024x256 .bf16) (h2 : a2.IsWhole)
    (a3 : Memref sig .tc .vmem S256x1024 .f32) (h3 : a3.IsWhole)
    (a4 : Memref sig .tc .vmem S1024x1024 .f32) (h4 : a4.IsWhole)
    (a5 : Memref sig .tc .vmem S256x1024 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S256x1024) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S1024x256) hz2, View.ld_unit_zero (S := S256x1024) hz2, View.readCov_unit_zero (S := S256x1024) _ hz2]

theorem outB_eq (hc0) (s0 : Vec Ideal S256x1024 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S1024x256) hz2, View.ld_unit_zero (S := S256x1024) hz2]
end

variable (m : (ℓ : Loc nD τ sig) → Buf (Elt Ideal) ℓ) (c : Dev nD)

/-- The windows' block indices at point `t`: row block `t % 24`, column block `t / 24`. -/
theorem idx : ∀ t : Fin grid0.N, win0_0.index t = ![t.val % 24, 0] ∧ win0_1.index t = ![0, t.val / 24] := by
  decide +kernel

/-- Column `j` of column block `q`. -/
def col (q : ℕ) (hq : q < 2) (j : Fin 1024) : Fin 2048 := ⟨1024 * q + j.val, by omega⟩

theorem col_congr {q q' : ℕ} (h : q = q') (hq : q < 2) (hq' : q' < 2) (j : Fin 1024) : col q hq j = col q' hq' j := by
  subst h; rfl

theorem div_lt {n : ℕ} (h : n < cfg0.N) : n / 24 < 2 := by
  have : n < 48 := lt_of_lt_of_eq h N_0
  omega

theorem blk0 (t : Fin cfg0.N) (i : Fin 1024) (k : Fin 256) :
    iblk m c 0 t (ix2 i k) = m ((c : Thread nD τ).loc main_arg0) (ix2 ⟨1024 * (t.val % 24) + i.val, by omega⟩ k) := by
  have hi := idx t
  blk_simp [iblk, hi.1]
  entry_read
  pointwise
  blk_ext [hi.1]

theorem blk1 (t : Fin cfg0.N) (k : Fin 256) (j : Fin 1024) :
    iblk m c 1 t (ix2 k j) = m ((c : Thread nD τ).loc main_arg1) (ix2 k (col (t.val / 24) (div_lt t.isLt) j)) := by
  have hi := idx t
  unfold col
  blk_simp [iblk, hi.2]
  entry_read
  pointwise
  blk_ext [hi.2]

theorem scratch_A (t : Fin cfg0.N) (h0 : t.val % 24 = 0) (k : Fin 256) (j : Fin 1024) :
    (outsAt0 m c t.val t.isLt).2 (ix2 k j) = m ((c : Thread nD τ).loc main_arg1) (ix2 k (col (t.val / 24) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 256) (j : Fin 1024),
    (outsAt0 m c n hn).2 (ix2 k j) = m ((c : Thread nD τ).loc main_arg1) (ix2 k (col (n / 24) (div_lt hn) j)) := by
  induction n using Nat.strong_induction_on with
  | _ n ih =>
    intro hn k j
    by_cases h0 : n % 24 = 0
    · exact scratch_A m c ⟨n, hn⟩ h0 k j
    · have e : n / 24 = (n - 1) / 24 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 24 = 0
  · rw [outsAt0_A m c t h0, scr0_eq, outA_eq]
  · rw [outsAt0_B m c t h0, outB_eq]
    rfl

/-- What point `t` leaves in its output block. -/
theorem out_at (t : Fin cfg0.N) (i : Fin 1024) (j : Fin 1024) :
    (outsAt0 m c t.val t.isLt).1 (ix2 i j)
      = entryAt (m ((c : Thread nD τ).loc main_arg0)) (m ((c : Thread nD τ).loc main_arg1))
          ⟨1024 * (t.val % 24) + i.val, by omega⟩ (col (t.val / 24) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 2048) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 48 from N_0]
    show 1 * (i.val / 1024 - 0) + 24 * (j.val / 1024 - 0) < 48
    omega
  rw [dif_pos hp, ← Value.outsAt0_sweep m c _ hp]
  have h1 : (1 * (i.val / 1024 - 0) + 24 * (j.val / 1024 - 0)) % 24 = i.val / 1024 := by omega
  have h2 : (1 * (i.val / 1024 - 0) + 24 * (j.val / 1024 - 0)) / 24 = j.val / 1024 := by omega
  have hl : Value.loc2Of (ix2 i j) = ix2 ⟨i.val % 1024, Nat.mod_lt _ (by decide)⟩ ⟨j.val % 1024, Nat.mod_lt _ (by decide)⟩ := by
    funext a; fin_cases a <;> rfl
  rw [hl]
  refine (out_at m c ⟨_, hp⟩ _ _).trans (congrArg₂ (entryAt _ _) (Fin.ext ?_) (Fin.ext ?_))
  · show 1024 * ((1 * (i.val / 1024 - 0) + 24 * (j.val / 1024 - 0)) % 24) + i.val % 1024 = i.val
    rw [h1]; omega
  · show 1024 * ((1 * (i.val / 1024 - 0) + 24 * (j.val / 1024 - 0)) / 24) + j.val % 1024 = j.val
    rw [h2]; omega

end Cert.GateOutIdeal.Lin

end
-- ==== Proof.GateOutReference.lean ====
/- The expansion of the gate of the RWKV7 layer: the reference at an index, and the two programs' results equal. -/
module

public import proofs.«01_k».proof.Defs
public import proofs.«01_k».proof.Proof.GateOutKernel
public import proofs.«01_k».proof.Proof.Gen.GateOutReferenceIdeal.Read
public import proofs.«01_k».proof.Proof.Gen.GateOutReferenceIdeal.Run

@[expose] public section

set_option maxRecDepth 16384

noncomputable section

namespace Cert.GateOutReferenceIdeal.Lin

open Cert.GateOutReferenceIdeal Cert.GateOutReferenceIdeal.Gen Cert.GateOutReferenceIdeal.Read Idealize.ShloMosaic
open Cert.GateOutIdeal.Lin (entryAt)

theorem out_apply (a : Vec Ideal S24576x256 .bf16) (w : Vec Ideal S256x2048 .f32) (i : Fin 24576) (j : Fin 2048) :
    val_main_v0 (F := Ideal) a w (ix2 i j) = entryAt a w i j := by
  unfold entryAt
  pointwise [val_main_v0]

end Cert.GateOutReferenceIdeal.Lin

namespace Cert.Proof

open Idealize.ShloMosaic Idealize.SL.Sem

/-- The expansion of the gate of the RWKV7 layer, equal to the reference over the extended reals. -/
theorem algebraic_gateOut : Cert.algebraic_GateOutIdeal_GateOutReferenceIdeal := by
  intro m g m' g' _ hagree
  refine ⟨fun c => Cert.GateOutReferenceIdeal.Read.val_main_v0 (F := Ideal) (m ((c.tc : Thread Cert.GateOutIdeal.nD Cert.GateOutIdeal.τ).loc Cert.GateOutIdeal.main_arg0)) (m ((c.tc : Thread Cert.GateOutIdeal.nD Cert.GateOutIdeal.τ).loc Cert.GateOutIdeal.main_arg1)), ?_, ?_⟩
  · refine (θ_run Cert.GateOutIdeal.defs _ _).mono (fun r h c => ?_) (Cert.GateOutIdeal.Value.run_blocks m g)
    obtain ⟨h0, h1⟩ := h c
    refine ⟨?_, h1⟩
    rw [h0]
    funext i
    idx_vars i
    exact (Cert.GateOutIdeal.Lin.final m c i0 i1).trans (Cert.GateOutReferenceIdeal.Lin.out_apply _ _ i0 i1).symm
  · refine (θ_run Cert.GateOutReferenceIdeal.defs _ _).mono (fun r h c => ?_) (Cert.GateOutReferenceIdeal.Value.run m' g')
    obtain ⟨h0, h1⟩ := h c
    refine ⟨?_, h1⟩
    rw [h0, Cert.GateOutReferenceIdeal.Read.val_main_v0_eq, (hagree c).1, (hagree c).2]

theorem frame_gateOutReference : Cert.quiescent_GateOutReferenceIdeal := by
  intro m g _
  exact (θ_run Cert.GateOutReferenceIdeal.defs _ _).mono (fun r h => ⟨fun c => (h c).2,
      Idealize.ShloMosaic.sem_eq_zero_of_no_sems (by decide) r.2⟩)
    (Cert.GateOutReferenceIdeal.Value.run (F := Ideal) m g)

end Cert.Proof

end
-- ==== Proof.DecayInKernel.lean ====
/- The low-rank decay of the RWKV7 layer: what the kernel leaves at an index. -/
module

public import proofs.«01_k».proof.Proof.Gen.DecayInIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.DecayInIdeal.Lin

open Cert.DecayInIdeal Cert.DecayInIdeal.Gen Idealize.ShloMosaic Idealize.ShloMosaic.TcCoe
open Idealize.ShloMosaic.Pipeline (Dat)

/-- One entry of the result, from the arguments. -/
def entryAt (a : Vec Ideal S6x24576x2048 .bf16) (w : Vec Ideal S2048x256 .f32) (i : Fin 24576) (j : Fin 256) : EReal :=
  Ideal.tanh (∑ k : Fin 2048, a (ix3 1 i k) * w (ix2 k j))

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x256 .f32) (k : Fin 2048) (j : Fin 256) : k0_pay1 w (ix2 k j) = w (ix2 k j) := by
  pointwise [k0_pay1]

theorem pay2_apply (a : Vec Ideal S1x1024x2048 .bf16) (w : Vec Ideal S2048x256 .bf16)
    (i : Fin 1024) (j : Fin 256) :
    k0_pay2 a w (ix2 i j) = Ideal.tanh (∑ k : Fin 2048, a (ix3 0 i k) * w (ix2 k j)) := by
  pointwise [k0_pay2]
  try simp only [Ideal.ofBits_zero_f32, Ideal.ofBits_one_f32, zero_add, zero_sub]

section
variable (x0 : Vec Ideal S1x1024x2048 .bf16) (x1 : Vec Ideal S2048x256 .f32)
variable (c : Dev nD) (i : grid0.Coords)
    (a2 : Memref sig .tc .vmem S1x1024x2048 .bf16) (h2 : a2.IsWhole)
    (a3 : Memref sig .tc .vmem S2048x256 .f32) (h3 : a3.IsWhole)
    (a4 : Memref sig .tc .vmem S1024x256 .bf16) (h4 : a4.IsWhole)
    (a5 : Memref sig .tc .vmem S2048x256 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S2048x256) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S2048x256) hz2, View.ld_unit_zero (S := S1x1024x2048) hz3, View.readCov_unit_zero (S := S2048x256) _ hz2]

theorem outB_eq (hc0) (s0 : Vec Ideal S2048x256 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S2048x256) hz2, View.ld_unit_zero (S := S1x1024x2048) hz3]
end

variable (m : (ℓ : Loc nD τ sig) → Buf (Elt Ideal) ℓ) (c : Dev nD)

/-- The windows' block indices at point `t`: row block `t % 24`, column block `t / 24`. -/
theorem idx : ∀ t : Fin grid0.N, win0_0.index t = ![1, t.val % 24, 0] ∧ win0_1.index t = ![0, t.val / 24] := by
  decide +kernel

/-- Column `j` of column block `q`. -/
def col (q : ℕ) (hq : q < 1) (j : Fin 256) : Fin 256 := ⟨256 * q + j.val, by omega⟩

theorem col_congr {q q' : ℕ} (h : q = q') (hq : q < 1) (hq' : q' < 1) (j : Fin 256) : col q hq j = col q' hq' j := by
  subst h; rfl

theorem div_lt {n : ℕ} (h : n < cfg0.N) : n / 24 < 1 := by
  have : n < 24 := lt_of_lt_of_eq h N_0
  omega

theorem blk0 (t : Fin cfg0.N) (i : Fin 1024) (k : Fin 2048) :
    iblk m c 0 t (ix3 0 i k) = m ((c : Thread nD τ).loc main_arg0) (ix3 1 ⟨1024 * (t.val % 24) + i.val, by omega⟩ k) := by
  have hi := idx t
  blk_simp [iblk, hi.1]
  entry_read
  pointwise
  blk_ext [hi.1]

theorem blk1 (t : Fin cfg0.N) (k : Fin 2048) (j : Fin 256) :
    iblk m c 1 t (ix2 k j) = m ((c : Thread nD τ).loc main_arg1) (ix2 k (col (t.val / 24) (div_lt t.isLt) j)) := by
  have hi := idx t
  unfold col
  blk_simp [iblk, hi.2]
  entry_read
  pointwise
  blk_ext [hi.2]

theorem scratch_A (t : Fin cfg0.N) (h0 : t.val % 24 = 0) (k : Fin 2048) (j : Fin 256) :
    (outsAt0 m c t.val t.isLt).2 (ix2 k j) = m ((c : Thread nD τ).loc main_arg1) (ix2 k (col (t.val / 24) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 256),
    (outsAt0 m c n hn).2 (ix2 k j) = m ((c : Thread nD τ).loc main_arg1) (ix2 k (col (n / 24) (div_lt hn) j)) := by
  induction n using Nat.strong_induction_on with
  | _ n ih =>
    intro hn k j
    by_cases h0 : n % 24 = 0
    · exact scratch_A m c ⟨n, hn⟩ h0 k j
    · have e : n / 24 = (n - 1) / 24 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 24 = 0
  · rw [outsAt0_A m c t h0, scr0_eq, outA_eq]
  · rw [outsAt0_B m c t h0, outB_eq]
    rfl

/-- What point `t` leaves in its output block. -/
theorem out_at (t : Fin cfg0.N) (i : Fin 1024) (j : Fin 256) :
    (outsAt0 m c t.val t.isLt).1 (ix2 i j)
      = entryAt (m ((c : Thread nD τ).loc main_arg0)) (m ((c : Thread nD τ).loc main_arg1))
          ⟨1024 * (t.val % 24) + i.val, by omega⟩ (col (t.val / 24) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 256) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 24 from N_0]
    show 1 * (i.val / 1024 - 0) + 1 * (j.val / 256 - 0) < 24
    omega
  rw [dif_pos hp, ← Value.outsAt0_sweep m c _ hp]
  have h1 : (1 * (i.val / 1024 - 0) + 1 * (j.val / 256 - 0)) % 24 = i.val / 1024 := by omega
  have h2 : (1 * (i.val / 1024 - 0) + 1 * (j.val / 256 - 0)) / 24 = j.val / 256 := by omega
  have hl : Value.loc2Of (ix2 i j) = ix2 ⟨i.val % 1024, Nat.mod_lt _ (by decide)⟩ ⟨j.val % 256, Nat.mod_lt _ (by decide)⟩ := by
    funext a; fin_cases a <;> rfl
  rw [hl]
  refine (out_at m c ⟨_, hp⟩ _ _).trans (congrArg₂ (entryAt _ _) (Fin.ext ?_) (Fin.ext ?_))
  · show 1024 * ((1 * (i.val / 1024 - 0) + 1 * (j.val / 256 - 0)) % 24) + i.val % 1024 = i.val
    rw [h1]; omega
  · show 256 * ((1 * (i.val / 1024 - 0) + 1 * (j.val / 256 - 0)) / 24) + j.val % 256 = j.val
    rw [h2]; omega

end Cert.DecayInIdeal.Lin

end
-- ==== Proof.DecayInReference.lean ====
/- The low-rank decay of the RWKV7 layer: the reference at an index, and the two programs' results equal. -/
module

public import proofs.«01_k».proof.Defs
public import proofs.«01_k».proof.Proof.DecayInKernel
public import proofs.«01_k».proof.Proof.Gen.DecayInReferenceIdeal.Read
public import proofs.«01_k».proof.Proof.Gen.DecayInReferenceIdeal.Run

@[expose] public section

set_option maxRecDepth 16384

noncomputable section

namespace Cert.DecayInReferenceIdeal.Lin

open Cert.DecayInReferenceIdeal Cert.DecayInReferenceIdeal.Gen Cert.DecayInReferenceIdeal.Read Idealize.ShloMosaic
open Cert.DecayInIdeal.Lin (entryAt)

theorem out_apply (a : Vec Ideal S6x24576x2048 .bf16) (w : Vec Ideal S2048x256 .f32) (i : Fin 24576) (j : Fin 256) :
    val_main_v4 (F := Ideal) a w (ix2 i j) = entryAt a w i j := by
  unfold entryAt
  pointwise [val_main_v4, val_main_v3, val_main_v2, val_main_v1, val_main_v0]

end Cert.DecayInReferenceIdeal.Lin

namespace Cert.Proof

open Idealize.ShloMosaic Idealize.SL.Sem

/-- The low-rank decay of the RWKV7 layer, equal to the reference over the extended reals. -/
theorem algebraic_decayIn : Cert.algebraic_DecayInIdeal_DecayInReferenceIdeal := by
  intro m g m' g' _ hagree
  refine ⟨fun c => Cert.DecayInReferenceIdeal.Read.val_main_v4 (F := Ideal) (m ((c.tc : Thread Cert.DecayInIdeal.nD Cert.DecayInIdeal.τ).loc Cert.DecayInIdeal.main_arg0)) (m ((c.tc : Thread Cert.DecayInIdeal.nD Cert.DecayInIdeal.τ).loc Cert.DecayInIdeal.main_arg1)), ?_, ?_⟩
  · refine (θ_run Cert.DecayInIdeal.defs _ _).mono (fun r h c => ?_) (Cert.DecayInIdeal.Value.run_blocks m g)
    obtain ⟨h0, h1⟩ := h c
    refine ⟨?_, h1⟩
    rw [h0]
    funext i
    idx_vars i
    exact (Cert.DecayInIdeal.Lin.final m c i0 i1).trans (Cert.DecayInReferenceIdeal.Lin.out_apply _ _ i0 i1).symm
  · refine (θ_run Cert.DecayInReferenceIdeal.defs _ _).mono (fun r h c => ?_) (Cert.DecayInReferenceIdeal.Value.run m' g')
    obtain ⟨h0, h1⟩ := h c
    refine ⟨?_, h1⟩
    rw [h0, Cert.DecayInReferenceIdeal.Read.val_main_v4_eq, (hagree c).1, (hagree c).2]

theorem frame_decayInReference : Cert.quiescent_DecayInReferenceIdeal := by
  intro m g _
  exact (θ_run Cert.DecayInReferenceIdeal.defs _ _).mono (fun r h => ⟨fun c => (h c).2,
      Idealize.ShloMosaic.sem_eq_zero_of_no_sems (by decide) r.2⟩)
    (Cert.DecayInReferenceIdeal.Value.run (F := Ideal) m g)

end Cert.Proof

end
-- ==== Proof.RateInKernel.lean ====
/- The low-rank rate of the RWKV7 layer: what the kernel leaves at an index. -/
module

public import proofs.«01_k».proof.Proof.Gen.RateInIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.RateInIdeal.Lin

open Cert.RateInIdeal Cert.RateInIdeal.Gen Idealize.ShloMosaic Idealize.ShloMosaic.TcCoe
open Idealize.ShloMosaic.Pipeline (Dat)

/-- One entry of the result, from the arguments. -/
def entryAt (a : Vec Ideal S6x24576x2048 .bf16) (w : Vec Ideal S2048x256 .f32) (i : Fin 24576) (j : Fin 256) : EReal :=
  ∑ k : Fin 2048, a (ix3 4 i k) * w (ix2 k j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S2048x256 .f32) (k : Fin 2048) (j : Fin 256) : k0_pay1 w (ix2 k j) = w (ix2 k j) := by
  pointwise [k0_pay1]

theorem pay2_apply (a : Vec Ideal S1x1024x2048 .bf16) (w : Vec Ideal S2048x256 .bf16)
    (i : Fin 1024) (j : Fin 256) :
    k0_pay2 a w (ix2 i j) = ∑ k : Fin 2048, a (ix3 0 i k) * w (ix2 k j) := by
  pointwise [k0_pay2]
  try simp only [Ideal.ofBits_zero_f32, Ideal.ofBits_one_f32, zero_add, zero_sub]

section
variable (x0 : Vec Ideal S1x1024x2048 .bf16) (x1 : Vec Ideal S2048x256 .f32)
variable (c : Dev nD) (i : grid0.Coords)
    (a2 : Memref sig .tc .vmem S1x1024x2048 .bf16) (h2 : a2.IsWhole)
    (a3 : Memref sig .tc .vmem S2048x256 .f32) (h3 : a3.IsWhole)
    (a4 : Memref sig .tc .vmem S1024x256 .f32) (h4 : a4.IsWhole)
    (a5 : Memref sig .tc .vmem S2048x256 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S2048x256) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S2048x256) hz2, View.ld_unit_zero (S := S1x1024x2048) hz3, View.readCov_unit_zero (S := S2048x256) _ hz2]

theorem outB_eq (hc0) (s0 : Vec Ideal S2048x256 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S2048x256) hz2, View.ld_unit_zero (S := S1x1024x2048) hz3]
end

variable (m : (ℓ : Loc nD τ sig) → Buf (Elt Ideal) ℓ) (c : Dev nD)

/-- The windows' block indices at point `t`: row block `t % 24`, column block `t / 24`. -/
theorem idx : ∀ t : Fin grid0.N, win0_0.index t = ![4, t.val % 24, 0] ∧ win0_1.index t = ![0, t.val / 24] := by
  decide +kernel

/-- Column `j` of column block `q`. -/
def col (q : ℕ) (hq : q < 1) (j : Fin 256) : Fin 256 := ⟨256 * q + j.val, by omega⟩

theorem col_congr {q q' : ℕ} (h : q = q') (hq : q < 1) (hq' : q' < 1) (j : Fin 256) : col q hq j = col q' hq' j := by
  subst h; rfl

theorem div_lt {n : ℕ} (h : n < cfg0.N) : n / 24 < 1 := by
  have : n < 24 := lt_of_lt_of_eq h N_0
  omega

theorem blk0 (t : Fin cfg0.N) (i : Fin 1024) (k : Fin 2048) :
    iblk m c 0 t (ix3 0 i k) = m ((c : Thread nD τ).loc main_arg0) (ix3 4 ⟨1024 * (t.val % 24) + i.val, by omega⟩ k) := by
  have hi := idx t
  blk_simp [iblk, hi.1]
  entry_read
  pointwise
  blk_ext [hi.1]

theorem blk1 (t : Fin cfg0.N) (k : Fin 2048) (j : Fin 256) :
    iblk m c 1 t (ix2 k j) = m ((c : Thread nD τ).loc main_arg1) (ix2 k (col (t.val / 24) (div_lt t.isLt) j)) := by
  have hi := idx t
  unfold col
  blk_simp [iblk, hi.2]
  entry_read
  pointwise
  blk_ext [hi.2]

theorem scratch_A (t : Fin cfg0.N) (h0 : t.val % 24 = 0) (k : Fin 2048) (j : Fin 256) :
    (outsAt0 m c t.val t.isLt).2 (ix2 k j) = m ((c : Thread nD τ).loc main_arg1) (ix2 k (col (t.val / 24) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 2048) (j : Fin 256),
    (outsAt0 m c n hn).2 (ix2 k j) = m ((c : Thread nD τ).loc main_arg1) (ix2 k (col (n / 24) (div_lt hn) j)) := by
  induction n using Nat.strong_induction_on with
  | _ n ih =>
    intro hn k j
    by_cases h0 : n % 24 = 0
    · exact scratch_A m c ⟨n, hn⟩ h0 k j
    · have e : n / 24 = (n - 1) / 24 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 24 = 0
  · rw [outsAt0_A m c t h0, scr0_eq, outA_eq]
  · rw [outsAt0_B m c t h0, outB_eq]
    rfl

/-- What point `t` leaves in its output block. -/
theorem out_at (t : Fin cfg0.N) (i : Fin 1024) (j : Fin 256) :
    (outsAt0 m c t.val t.isLt).1 (ix2 i j)
      = entryAt (m ((c : Thread nD τ).loc main_arg0)) (m ((c : Thread nD τ).loc main_arg1))
          ⟨1024 * (t.val % 24) + i.val, by omega⟩ (col (t.val / 24) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 256) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 24 from N_0]
    show 1 * (i.val / 1024 - 0) + 1 * (j.val / 256 - 0) < 24
    omega
  rw [dif_pos hp, ← Value.outsAt0_sweep m c _ hp]
  have h1 : (1 * (i.val / 1024 - 0) + 1 * (j.val / 256 - 0)) % 24 = i.val / 1024 := by omega
  have h2 : (1 * (i.val / 1024 - 0) + 1 * (j.val / 256 - 0)) / 24 = j.val / 256 := by omega
  have hl : Value.loc2Of (ix2 i j) = ix2 ⟨i.val % 1024, Nat.mod_lt _ (by decide)⟩ ⟨j.val % 256, Nat.mod_lt _ (by decide)⟩ := by
    funext a; fin_cases a <;> rfl
  rw [hl]
  refine (out_at m c ⟨_, hp⟩ _ _).trans (congrArg₂ (entryAt _ _) (Fin.ext ?_) (Fin.ext ?_))
  · show 1024 * ((1 * (i.val / 1024 - 0) + 1 * (j.val / 256 - 0)) % 24) + i.val % 1024 = i.val
    rw [h1]; omega
  · show 256 * ((1 * (i.val / 1024 - 0) + 1 * (j.val / 256 - 0)) / 24) + j.val % 256 = j.val
    rw [h2]; omega

end Cert.RateInIdeal.Lin

end
-- ==== Proof.RateInReference.lean ====
/- The low-rank rate of the RWKV7 layer: the reference at an index, and the two programs' results equal. -/
module

public import proofs.«01_k».proof.Defs
public import proofs.«01_k».proof.Proof.RateInKernel
public import proofs.«01_k».proof.Proof.Gen.RateInReferenceIdeal.Read
public import proofs.«01_k».proof.Proof.Gen.RateInReferenceIdeal.Run

@[expose] public section

set_option maxRecDepth 16384

noncomputable section

namespace Cert.RateInReferenceIdeal.Lin

open Cert.RateInReferenceIdeal Cert.RateInReferenceIdeal.Gen Cert.RateInReferenceIdeal.Read Idealize.ShloMosaic
open Cert.RateInIdeal.Lin (entryAt)

theorem out_apply (a : Vec Ideal S6x24576x2048 .bf16) (w : Vec Ideal S2048x256 .f32) (i : Fin 24576) (j : Fin 256) :
    val_main_v2 (F := Ideal) a w (ix2 i j) = entryAt a w i j := by
  unfold entryAt
  pointwise [val_main_v2, val_main_v1, val_main_v0]

end Cert.RateInReferenceIdeal.Lin

namespace Cert.Proof

open Idealize.ShloMosaic Idealize.SL.Sem

/-- The low-rank rate of the RWKV7 layer, equal to the reference over the extended reals. -/
theorem algebraic_rateIn : Cert.algebraic_RateInIdeal_RateInReferenceIdeal := by
  intro m g m' g' _ hagree
  refine ⟨fun c => Cert.RateInReferenceIdeal.Read.val_main_v2 (F := Ideal) (m ((c.tc : Thread Cert.RateInIdeal.nD Cert.RateInIdeal.τ).loc Cert.RateInIdeal.main_arg0)) (m ((c.tc : Thread Cert.RateInIdeal.nD Cert.RateInIdeal.τ).loc Cert.RateInIdeal.main_arg1)), ?_, ?_⟩
  · refine (θ_run Cert.RateInIdeal.defs _ _).mono (fun r h c => ?_) (Cert.RateInIdeal.Value.run_blocks m g)
    obtain ⟨h0, h1⟩ := h c
    refine ⟨?_, h1⟩
    rw [h0]
    funext i
    idx_vars i
    exact (Cert.RateInIdeal.Lin.final m c i0 i1).trans (Cert.RateInReferenceIdeal.Lin.out_apply _ _ i0 i1).symm
  · refine (θ_run Cert.RateInReferenceIdeal.defs _ _).mono (fun r h c => ?_) (Cert.RateInReferenceIdeal.Value.run m' g')
    obtain ⟨h0, h1⟩ := h c
    refine ⟨?_, h1⟩
    rw [h0, Cert.RateInReferenceIdeal.Read.val_main_v2_eq, (hagree c).1, (hagree c).2]

theorem frame_rateInReference : Cert.quiescent_RateInReferenceIdeal := by
  intro m g _
  exact (θ_run Cert.RateInReferenceIdeal.defs _ _).mono (fun r h => ⟨fun c => (h c).2,
      Idealize.ShloMosaic.sem_eq_zero_of_no_sems (by decide) r.2⟩)
    (Cert.RateInReferenceIdeal.Value.run (F := Ideal) m g)

end Cert.Proof

end
-- ==== Proof.RateOutKernel.lean ====
/- The expansion of the rate of the RWKV7 layer: what the kernel leaves at an index. -/
module

public import proofs.«01_k».proof.Proof.Gen.RateOutIdeal.Value

public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.RateOutIdeal.Lin

open Cert.RateOutIdeal Cert.RateOutIdeal.Gen Idealize.ShloMosaic Idealize.ShloMosaic.TcCoe
open Idealize.ShloMosaic.Pipeline (Dat)

/-- One entry of the result, from the arguments. -/
def entryAt (a : Vec Ideal S24576x256 .f32) (w : Vec Ideal S256x2048 .f32) (i : Fin 24576) (j : Fin 2048) : EReal :=
  ∑ k : Fin 256, a (ix2 i k) * w (ix2 k j)

theorem hz2 : (![0, 0] : Fin 2 → Nat) = fun _ => 0 := funext fun a => by fin_cases a <;> rfl
theorem hz3 : (![0, 0, 0] : Fin 3 → Nat) = fun _ => 0 := funext fun a => by fin_cases a <;> rfl

theorem pay1_apply (w : Vec Ideal S256x1024 .f32) (k : Fin 256) (j : Fin 1024) : k0_pay1 w (ix2 k j) = w (ix2 k j) := by
  pointwise [k0_pay1]

theorem pay2_apply (a : Vec Ideal S1024x256 .f32) (w : Vec Ideal S256x1024 .bf16)
    (i : Fin 1024) (j : Fin 1024) :
    k0_pay2 a w (ix2 i j) = ∑ k : Fin 256, a (ix2 i k) * w (ix2 k j) := by
  pointwise [k0_pay2]
  try simp only [Ideal.ofBits_zero_f32, Ideal.ofBits_one_f32, zero_add, zero_sub]

section
variable (x0 : Vec Ideal S1024x256 .f32) (x1 : Vec Ideal S256x1024 .f32)
variable (c : Dev nD) (i : grid0.Coords)
    (a2 : Memref sig .tc .vmem S1024x256 .f32) (h2 : a2.IsWhole)
    (a3 : Memref sig .tc .vmem S256x1024 .f32) (h3 : a3.IsWhole)
    (a4 : Memref sig .tc .vmem S1024x1024 .f32) (h4 : a4.IsWhole)
    (a5 : Memref sig .tc .vmem S256x1024 .bf16) (h5 : a5.IsWhole)

theorem scr0_eq (hc0) : sout0_A_0 c i a2 h2 a3 h3 a4 h4 a5 h5 hc0 x0 x1 = k0_pay1 x1 := by
  unfold sout0_A_0
  rw [View.read_writes_eq_canon _ _ _ (scover0_A_0 c i a2 h2 a3 h3 a4 h4 a5 h5 hc0 x0 x1)]
  unfold kernelRun0_A
  dsimp only
  sl_unfold_words
  rw [View.canon_unit_zero hz2]
  simp only [View.readAt_eq_ld, h2.read_unread, h3.read_unread, View.ld_unit_zero (S := S256x1024) hz2]

theorem outA_eq (hc0) : out0_A_2 c i a2 h2 a3 h3 a4 h4 a5 h5 hc0 x0 x1 = k0_pay2 x0 (k0_pay1 x1) := by
  unfold out0_A_2
  rw [View.read_writes_eq_canon _ _ _ (cover0_A_2 c i a2 h2 a3 h3 a4 h4 a5 h5 hc0 x0 x1)]
  unfold kernelRun0_A
  dsimp only
  sl_unfold_words
  rw [View.canon_unit_zero hz2]
  simp only [View.readCov_cons_toLoadRect, View.readAt_eq_ld, h2.read_unread, h3.read_unread, View.ld_unit_zero (S := S1024x256) hz2, View.ld_unit_zero (S := S256x1024) hz2, View.readCov_unit_zero (S := S256x1024) _ hz2]

theorem outB_eq (hc0) (s0 : Vec Ideal S256x1024 .bf16) : out0_B_2 c i a2 h2 a3 h3 a4 h4 a5 h5 hc0 x0 x1 s0 = k0_pay2 x0 s0 := by
  unfold out0_B_2
  rw [View.read_writes_eq_canon _ _ _ (cover0_B_2 c i a2 h2 a3 h3 a4 h4 a5 h5 hc0 x0 x1 s0)]
  unfold kernelRun0_B
  dsimp only
  sl_unfold_words
  rw [View.canon_unit_zero hz2]
  simp only [View.readAt_eq_ld, h2.read_unread, h3.read_unread, h5.read_unread, View.ld_unit_zero (S := S1024x256) hz2, View.ld_unit_zero (S := S256x1024) hz2]
end

variable (m : (ℓ : Loc nD τ sig) → Buf (Elt Ideal) ℓ) (c : Dev nD)

/-- The windows' block indices at point `t`: row block `t % 24`, column block `t / 24`. -/
theorem idx : ∀ t : Fin grid0.N, win0_0.index t = ![t.val % 24, 0] ∧ win0_1.index t = ![0, t.val / 24] := by
  decide +kernel

/-- Column `j` of column block `q`. -/
def col (q : ℕ) (hq : q < 2) (j : Fin 1024) : Fin 2048 := ⟨1024 * q + j.val, by omega⟩

theorem col_congr {q q' : ℕ} (h : q = q') (hq : q < 2) (hq' : q' < 2) (j : Fin 1024) : col q hq j = col q' hq' j := by
  subst h; rfl

theorem div_lt {n : ℕ} (h : n < cfg0.N) : n / 24 < 2 := by
  have : n < 48 := lt_of_lt_of_eq h N_0
  omega

theorem blk0 (t : Fin cfg0.N) (i : Fin 1024) (k : Fin 256) :
    iblk m c 0 t (ix2 i k) = m ((c : Thread nD τ).loc main_arg0) (ix2 ⟨1024 * (t.val % 24) + i.val, by omega⟩ k) := by
  have hi := idx t
  blk_simp [iblk, hi.1]
  entry_read
  pointwise
  blk_ext [hi.1]

theorem blk1 (t : Fin cfg0.N) (k : Fin 256) (j : Fin 1024) :
    iblk m c 1 t (ix2 k j) = m ((c : Thread nD τ).loc main_arg1) (ix2 k (col (t.val / 24) (div_lt t.isLt) j)) := by
  have hi := idx t
  unfold col
  blk_simp [iblk, hi.2]
  entry_read
  pointwise
  blk_ext [hi.2]

theorem scratch_A (t : Fin cfg0.N) (h0 : t.val % 24 = 0) (k : Fin 256) (j : Fin 1024) :
    (outsAt0 m c t.val t.isLt).2 (ix2 k j) = m ((c : Thread nD τ).loc main_arg1) (ix2 k (col (t.val / 24) (div_lt t.isLt) j)) := by
  rw [outsAt0_A m c t h0, scr0_eq]
  exact (pay1_apply (iblk m c 1 t) k j).trans (blk1 m c t k j)

/-- The scratch buffer holds the weights' column block of the run of points that share it. -/
theorem scratch (n : ℕ) : ∀ (hn : n < cfg0.N) (k : Fin 256) (j : Fin 1024),
    (outsAt0 m c n hn).2 (ix2 k j) = m ((c : Thread nD τ).loc main_arg1) (ix2 k (col (n / 24) (div_lt hn) j)) := by
  induction n using Nat.strong_induction_on with
  | _ n ih =>
    intro hn k j
    by_cases h0 : n % 24 = 0
    · exact scratch_A m c ⟨n, hn⟩ h0 k j
    · have e : n / 24 = (n - 1) / 24 := by omega
      have hn' : n - 1 < cfg0.N := Nat.lt_of_le_of_lt (Nat.sub_le _ _) hn
      have hp := ih (n - 1) (by omega) hn' k j
      rw [col_congr e (div_lt hn) (div_lt hn') j]
      have hB := outsAt0_B m c ⟨n, hn⟩ h0
      have h1 : (outsAt0 m c n hn).2 = (outsAt0 m c (n - 1) hn').2 := congrArg (fun z => z.2) hB
      rw [h1]
      exact hp

/-- What point `t` leaves in its output block, from the blocks it reads and the scratch after it. -/
theorem out_eq (t : Fin cfg0.N) :
    (outsAt0 m c t.val t.isLt).1 = k0_pay2 (iblk m c 0 t) (outsAt0 m c t.val t.isLt).2  := by
  by_cases h0 : t.val % 24 = 0
  · rw [outsAt0_A m c t h0, scr0_eq, outA_eq]
  · rw [outsAt0_B m c t h0, outB_eq]
    rfl

/-- What point `t` leaves in its output block. -/
theorem out_at (t : Fin cfg0.N) (i : Fin 1024) (j : Fin 1024) :
    (outsAt0 m c t.val t.isLt).1 (ix2 i j)
      = entryAt (m ((c : Thread nD τ).loc main_arg0)) (m ((c : Thread nD τ).loc main_arg1))
          ⟨1024 * (t.val % 24) + i.val, by omega⟩ (col (t.val / 24) (div_lt t.isLt) j) := by
  have hs := scratch m c t.val t.isLt
  rw [out_eq]
  refine (pay2_apply (iblk m c 0 t) _  i j).trans ?_
  unfold entryAt

  simp only [hs, blk0]

/-- The result array. -/
theorem final (i : Fin 24576) (j : Fin 2048) :
    (dats m 0 c).arrAt 2 cfg0.N (ix2 i j)
      = entryAt (m ((c : Thread nD τ).loc main_arg0)) (m ((c : Thread nD τ).loc main_arg1)) i j := by
  rw [Value.final2]
  unfold Value.G2
  have hp : Value.pt2Of (ix2 i j) < cfg0.N := by
    rw [show cfg0.N = 48 from N_0]
    show 1 * (i.val / 1024 - 0) + 24 * (j.val / 1024 - 0) < 48
    omega
  rw [dif_pos hp, ← Value.outsAt0_sweep m c _ hp]
  have h1 : (1 * (i.val / 1024 - 0) + 24 * (j.val / 1024 - 0)) % 24 = i.val / 1024 := by omega
  have h2 : (1 * (i.val / 1024 - 0) + 24 * (j.val / 1024 - 0)) / 24 = j.val / 1024 := by omega
  have hl : Value.loc2Of (ix2 i j) = ix2 ⟨i.val % 1024, Nat.mod_lt _ (by decide)⟩ ⟨j.val % 1024, Nat.mod_lt _ (by decide)⟩ := by
    funext a; fin_cases a <;> rfl
  rw [hl]
  refine (out_at m c ⟨_, hp⟩ _ _).trans (congrArg₂ (entryAt _ _) (Fin.ext ?_) (Fin.ext ?_))
  · show 1024 * ((1 * (i.val / 1024 - 0) + 24 * (j.val / 1024 - 0)) % 24) + i.val % 1024 = i.val
    rw [h1]; omega
  · show 1024 * ((1 * (i.val / 1024 - 0) + 24 * (j.val / 1024 - 0)) / 24) + j.val % 1024 = j.val
    rw [h2]; omega

end Cert.RateOutIdeal.Lin

end
-- ==== Proof.RateOutReference.lean ====
/- The expansion of the rate of the RWKV7 layer: the reference at an index, and the two programs' results equal. -/
module

public import proofs.«01_k».proof.Defs
public import proofs.«01_k».proof.Proof.RateOutKernel
public import proofs.«01_k».proof.Proof.Gen.RateOutReferenceIdeal.Read
public import proofs.«01_k».proof.Proof.Gen.RateOutReferenceIdeal.Run

@[expose] public section

set_option maxRecDepth 16384

noncomputable section

namespace Cert.RateOutReferenceIdeal.Lin

open Cert.RateOutReferenceIdeal Cert.RateOutReferenceIdeal.Gen Cert.RateOutReferenceIdeal.Read Idealize.ShloMosaic
open Cert.RateOutIdeal.Lin (entryAt)

theorem out_apply (a : Vec Ideal S24576x256 .f32) (w : Vec Ideal S256x2048 .f32) (i : Fin 24576) (j : Fin 2048) :
    val_main_v0 (F := Ideal) a w (ix2 i j) = entryAt a w i j := by
  unfold entryAt
  pointwise [val_main_v0]

end Cert.RateOutReferenceIdeal.Lin

namespace Cert.Proof

open Idealize.ShloMosaic Idealize.SL.Sem

/-- The expansion of the rate of the RWKV7 layer, equal to the reference over the extended reals. -/
theorem algebraic_rateOut : Cert.algebraic_RateOutIdeal_RateOutReferenceIdeal := by
  intro m g m' g' _ hagree
  refine ⟨fun c => Cert.RateOutReferenceIdeal.Read.val_main_v0 (F := Ideal) (m ((c.tc : Thread Cert.RateOutIdeal.nD Cert.RateOutIdeal.τ).loc Cert.RateOutIdeal.main_arg0)) (m ((c.tc : Thread Cert.RateOutIdeal.nD Cert.RateOutIdeal.τ).loc Cert.RateOutIdeal.main_arg1)), ?_, ?_⟩
  · refine (θ_run Cert.RateOutIdeal.defs _ _).mono (fun r h c => ?_) (Cert.RateOutIdeal.Value.run_blocks m g)
    obtain ⟨h0, h1⟩ := h c
    refine ⟨?_, h1⟩
    rw [h0]
    funext i
    idx_vars i
    exact (Cert.RateOutIdeal.Lin.final m c i0 i1).trans (Cert.RateOutReferenceIdeal.Lin.out_apply _ _ i0 i1).symm
  · refine (θ_run Cert.RateOutReferenceIdeal.defs _ _).mono (fun r h c => ?_) (Cert.RateOutReferenceIdeal.Value.run m' g')
    obtain ⟨h0, h1⟩ := h c
    refine ⟨?_, h1⟩
    rw [h0, Cert.RateOutReferenceIdeal.Read.val_main_v0_eq, (hagree c).1, (hagree c).2]

theorem frame_rateOutReference : Cert.quiescent_RateOutReferenceIdeal := by
  intro m g _
  exact (θ_run Cert.RateOutReferenceIdeal.defs _ _).mono (fun r h => ⟨fun c => (h c).2,
      Idealize.ShloMosaic.sem_eq_zero_of_no_sems (by decide) r.2⟩)
    (Cert.RateOutReferenceIdeal.Value.run (F := Ideal) m g)

end Cert.Proof

end
-- ==== Proof.NormSpec.lean ====
/- The root-mean-square norm of a row, at one entry. -/
module

public import Idealize.ShloMosaic.PureOps.Ideal.Laws

@[expose] public section

noncomputable section

namespace Cert.Norm

open Idealize.ShloMosaic

/-- Entry `j` of a row over the root of its mean square, times the gain. -/
def normAt (row : Fin 2048 → EReal) (g : Fin 2048 → EReal) (j : Fin 2048) : EReal :=
  row j * Ideal.rsqrt (Ideal.div (∑ k : Fin 2048, row k * row k) (Ideal.ofBits .f32 0x45000000#32)
    + Ideal.ofBits .f32 0x358637BD#32) * g j

end Cert.Norm

end
-- ==== Proof.NormPromptKernel.lean ====
/- The final norm of the prompt rows: what the kernel leaves at an index. -/
module

public import proofs.«01_k».proof.Proof.Gen.NormPromptIdeal.Value
public import proofs.«01_k».proof.Proof.NormSpec
public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.NormPromptIdeal.Lin

open Cert.NormPromptIdeal Cert.NormPromptIdeal.Gen Idealize.ShloMosaic Idealize.ShloMosaic.TcCoe
open Idealize.ShloMosaic.Pipeline (Dat)
open Cert.Norm (normAt)

/-- One entry of the result, from the arguments. -/
def entryAt (x : Vec Ideal S24576x2048 .f32) (g : Vec Ideal S2048 .f32) (i : Fin 8192) (j : Fin 2048) : EReal :=
  normAt (fun k => x (ix2 ⟨i.val, by omega⟩ k)) (fun k => g (ix1 k)) j

theorem pay1_apply (x : Vec Ideal S512x2048 .f32) (g : Vec Ideal S1x2048 .f32) (i : Fin 512) (j : Fin 2048) :
    k0_pay1 x g (ix2 i j) = normAt (fun k => x (ix2 i k)) (fun k => g (ix2 0 k)) j := by
  unfold normAt
  pointwise [k0_pay1]
  try simp only [Ideal.ofBits_zero_f32, Ideal.ofBits_one_f32, zero_add]

variable (m : (ℓ : Loc nD τ sig) → Buf (Elt Ideal) ℓ) (c : Dev nD)

theorem tlt (t : Fin cfg0.N) : t.val < 16 := lt_of_lt_of_eq t.isLt N_0

/-- The windows' block indices at point `t`. -/
theorem idx : ∀ t : Fin grid0.N, win0_0.index t = ![t.val, 0] ∧ win0_1.index t = ![0, 0] ∧ win0_2.index t = ![t.val, 0] := by
  decide +kernel

theorem blk0 (t : Fin cfg0.N) (i : Fin 512) (k : Fin 2048) :
    iblk m c 0 t (ix2 i k) = m ((c : Thread nD τ).loc main_arg0) (ix2 ⟨512 * t.val + i.val, by have := tlt t; omega⟩ k) := by
  have hi := idx t
  blk_simp [iblk, hi.1]
  entry_read
  pointwise
  blk_ext [hi.1]

theorem blk1 (t : Fin cfg0.N) (j : Fin 2048) :
    iblk m c 1 t (ix2 0 j) = m ((c : Thread nD τ).loc main_arg1) (ix1 j) := by
  have hi := idx t
  blk_simp [iblk, hi.2.1]
  entry_read
  pointwise
  blk_ext [hi.2.1]

/-- What point `t` leaves in its output block. -/
theorem out_at (t : Fin cfg0.N) (i : Fin 512) (j : Fin 2048) :
    k0_pay1 (iblk m c 0 t) (iblk m c 1 t) (ix2 i j)
      = entryAt (m ((c : Thread nD τ).loc main_arg0)) (m ((c : Thread nD τ).loc main_arg1)) ⟨512 * t.val + i.val, by have := tlt t; omega⟩ j := by
  refine (pay1_apply (iblk m c 0 t) (iblk m c 1 t) i j).trans ?_
  unfold entryAt
  simp only [blk0, blk1]

/-- The result array. -/
theorem final (i : Fin 8192) (j : Fin 2048) :
    (dats m 0 c).arrAt 2 cfg0.N (ix2 i j) = entryAt (m ((c : Thread nD τ).loc main_arg0)) (m ((c : Thread nD τ).loc main_arg1)) i j := by
  have e : (dats m 0 c).arrAt 2 cfg0.N = fun y => entryAt (m ((c : Thread nD τ).loc main_arg0)) (m ((c : Thread nD τ).loc main_arg1)) (y 0) (y 1) := by
    refine (dats m 0 c).arrAt_eq_of_covers 2 _ (by decide +kernel) fun t hf y => ?_
    have hi := idx t
    idx_vars y
    blk_simp
    rw [after0_2]
    frame_out
    refine (out_at m c t y0 y1).trans (congrArg₂ (entryAt _ _) (Fin.ext ?_) (Fin.ext ?_))
    · blk_simp [hi.2.2]
      show 512 * t.val + y0.val = t.val * 512 + y0.val
      omega
    · blk_simp [hi.2.2]
  rw [e]
  rfl

end Cert.NormPromptIdeal.Lin

end
-- ==== Proof.NormPromptReference.lean ====
/- The final norm of the prompt rows: the reference at an index, and the two programs' results equal. -/
module

public import proofs.«01_k».proof.Defs
public import proofs.«01_k».proof.Proof.NormPromptKernel
public import proofs.«01_k».proof.Proof.Gen.NormPromptReferenceIdeal.Read
public import proofs.«01_k».proof.Proof.Gen.NormPromptReferenceIdeal.Run

@[expose] public section

set_option maxRecDepth 16384

noncomputable section

namespace Cert.NormPromptReferenceIdeal.Lin

open Cert.NormPromptReferenceIdeal Cert.NormPromptReferenceIdeal.Gen Cert.NormPromptReferenceIdeal.Read Idealize.ShloMosaic
open Cert.NormPromptIdeal.Lin (entryAt)
open Cert.Norm (normAt)

theorem out_apply (x : Vec Ideal S24576x2048 .f32) (g : Vec Ideal S2048 .f32) (i : Fin 8192) (j : Fin 2048) :
    val_main_v13 (F := Ideal) x g (ix2 i j) = entryAt x g i j := by
  unfold entryAt normAt
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  try simp only [Ideal.ofBits_zero_f32, zero_add]

end Cert.NormPromptReferenceIdeal.Lin

namespace Cert.Proof

open Idealize.ShloMosaic Idealize.SL.Sem

/-- The final norm of the prompt rows, equal to the reference over the extended reals. -/
theorem algebraic_normPrompt : Cert.algebraic_NormPromptIdeal_NormPromptReferenceIdeal := by
  intro m g m' g' _ hagree
  refine ⟨fun c => Cert.NormPromptReferenceIdeal.Read.val_main_v13 (F := Ideal) (m ((c.tc : Thread Cert.NormPromptIdeal.nD Cert.NormPromptIdeal.τ).loc Cert.NormPromptIdeal.main_arg0)) (m ((c.tc : Thread Cert.NormPromptIdeal.nD Cert.NormPromptIdeal.τ).loc Cert.NormPromptIdeal.main_arg1)), ?_, ?_⟩
  · refine (θ_run Cert.NormPromptIdeal.defs _ _).mono (fun r h c => ?_) (Cert.NormPromptIdeal.Value.run_blocks m g)
    obtain ⟨h0, h1⟩ := h c
    refine ⟨?_, h1⟩
    rw [h0]
    funext i
    idx_vars i
    exact (Cert.NormPromptIdeal.Lin.final m c i0 i1).trans (Cert.NormPromptReferenceIdeal.Lin.out_apply _ _ i0 i1).symm
  · refine (θ_run Cert.NormPromptReferenceIdeal.defs _ _).mono (fun r h c => ?_) (Cert.NormPromptReferenceIdeal.Value.run m' g')
    obtain ⟨h0, h1⟩ := h c
    refine ⟨?_, h1⟩
    rw [h0, Cert.NormPromptReferenceIdeal.Read.val_main_v13_eq, (hagree c).1, (hagree c).2]

theorem frame_normPromptReference : Cert.quiescent_NormPromptReferenceIdeal := by
  intro m g _
  exact (θ_run Cert.NormPromptReferenceIdeal.defs _ _).mono (fun r h => ⟨fun c => (h c).2,
      Idealize.ShloMosaic.sem_eq_zero_of_no_sems (by decide) r.2⟩)
    (Cert.NormPromptReferenceIdeal.Value.run (F := Ideal) m g)

end Cert.Proof

end
-- ==== Proof.NormSampleKernel.lean ====
/- The final norm of the continuation rows: what the kernel leaves at an index. -/
module

public import proofs.«01_k».proof.Proof.Gen.NormSampleIdeal.Value
public import proofs.«01_k».proof.Proof.NormSpec
public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.NormSampleIdeal.Lin

open Cert.NormSampleIdeal Cert.NormSampleIdeal.Gen Idealize.ShloMosaic Idealize.ShloMosaic.TcCoe
open Idealize.ShloMosaic.Pipeline (Dat)
open Cert.Norm (normAt)

/-- One entry of the result, from the arguments. -/
def entryAt (x : Vec Ideal S24576x2048 .f32) (g : Vec Ideal S2048 .f32) (i : Fin 16384) (j : Fin 2048) : EReal :=
  normAt (fun k => x (ix2 ⟨8192 + i.val, by omega⟩ k)) (fun k => g (ix1 k)) j

theorem pay1_apply (x : Vec Ideal S512x2048 .f32) (g : Vec Ideal S1x2048 .f32) (i : Fin 512) (j : Fin 2048) :
    k0_pay1 x g (ix2 i j) = normAt (fun k => x (ix2 i k)) (fun k => g (ix2 0 k)) j := by
  unfold normAt
  pointwise [k0_pay1]
  try simp only [Ideal.ofBits_zero_f32, Ideal.ofBits_one_f32, zero_add]

variable (m : (ℓ : Loc nD τ sig) → Buf (Elt Ideal) ℓ) (c : Dev nD)

theorem tlt (t : Fin cfg0.N) : t.val < 32 := lt_of_lt_of_eq t.isLt N_0

/-- The windows' block indices at point `t`. -/
theorem idx : ∀ t : Fin grid0.N, win0_0.index t = ![t.val + 16, 0] ∧ win0_1.index t = ![0, 0] ∧ win0_2.index t = ![t.val, 0] := by
  decide +kernel

theorem blk0 (t : Fin cfg0.N) (i : Fin 512) (k : Fin 2048) :
    iblk m c 0 t (ix2 i k) = m ((c : Thread nD τ).loc main_arg0) (ix2 ⟨8192 + (512 * t.val + i.val), by have := tlt t; omega⟩ k) := by
  have hi := idx t
  blk_simp [iblk, hi.1]
  entry_read
  pointwise
  blk_ext [hi.1]

theorem blk1 (t : Fin cfg0.N) (j : Fin 2048) :
    iblk m c 1 t (ix2 0 j) = m ((c : Thread nD τ).loc main_arg1) (ix1 j) := by
  have hi := idx t
  blk_simp [iblk, hi.2.1]
  entry_read
  pointwise
  blk_ext [hi.2.1]

/-- What point `t` leaves in its output block. -/
theorem out_at (t : Fin cfg0.N) (i : Fin 512) (j : Fin 2048) :
    k0_pay1 (iblk m c 0 t) (iblk m c 1 t) (ix2 i j)
      = entryAt (m ((c : Thread nD τ).loc main_arg0)) (m ((c : Thread nD τ).loc main_arg1)) ⟨512 * t.val + i.val, by have := tlt t; omega⟩ j := by
  refine (pay1_apply (iblk m c 0 t) (iblk m c 1 t) i j).trans ?_
  unfold entryAt
  simp only [blk0, blk1]

/-- The result array. -/
theorem final (i : Fin 16384) (j : Fin 2048) :
    (dats m 0 c).arrAt 2 cfg0.N (ix2 i j) = entryAt (m ((c : Thread nD τ).loc main_arg0)) (m ((c : Thread nD τ).loc main_arg1)) i j := by
  have e : (dats m 0 c).arrAt 2 cfg0.N = fun y => entryAt (m ((c : Thread nD τ).loc main_arg0)) (m ((c : Thread nD τ).loc main_arg1)) (y 0) (y 1) := by
    refine (dats m 0 c).arrAt_eq_of_covers 2 _ (by decide +kernel) fun t hf y => ?_
    have hi := idx t
    idx_vars y
    blk_simp
    rw [after0_2]
    frame_out
    refine (out_at m c t y0 y1).trans (congrArg₂ (entryAt _ _) (Fin.ext ?_) (Fin.ext ?_))
    · blk_simp [hi.2.2]
      show 512 * t.val + y0.val = t.val * 512 + y0.val
      omega
    · blk_simp [hi.2.2]
  rw [e]
  rfl

end Cert.NormSampleIdeal.Lin

end
-- ==== Proof.NormSampleReference.lean ====
/- The final norm of the continuation rows: the reference at an index, and the two programs' results equal. -/
module

public import proofs.«01_k».proof.Defs
public import proofs.«01_k».proof.Proof.NormSampleKernel
public import proofs.«01_k».proof.Proof.Gen.NormSampleReferenceIdeal.Read
public import proofs.«01_k».proof.Proof.Gen.NormSampleReferenceIdeal.Run

@[expose] public section

set_option maxRecDepth 16384

noncomputable section

namespace Cert.NormSampleReferenceIdeal.Lin

open Cert.NormSampleReferenceIdeal Cert.NormSampleReferenceIdeal.Gen Cert.NormSampleReferenceIdeal.Read Idealize.ShloMosaic
open Cert.NormSampleIdeal.Lin (entryAt)
open Cert.Norm (normAt)

theorem out_apply (x : Vec Ideal S24576x2048 .f32) (g : Vec Ideal S2048 .f32) (i : Fin 16384) (j : Fin 2048) :
    val_main_v13 (F := Ideal) x g (ix2 i j) = entryAt x g i j := by
  unfold entryAt normAt
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  try simp only [Ideal.ofBits_zero_f32, zero_add]

end Cert.NormSampleReferenceIdeal.Lin

namespace Cert.Proof

open Idealize.ShloMosaic Idealize.SL.Sem

/-- The final norm of the continuation rows, equal to the reference over the extended reals. -/
theorem algebraic_normSample : Cert.algebraic_NormSampleIdeal_NormSampleReferenceIdeal := by
  intro m g m' g' _ hagree
  refine ⟨fun c => Cert.NormSampleReferenceIdeal.Read.val_main_v13 (F := Ideal) (m ((c.tc : Thread Cert.NormSampleIdeal.nD Cert.NormSampleIdeal.τ).loc Cert.NormSampleIdeal.main_arg0)) (m ((c.tc : Thread Cert.NormSampleIdeal.nD Cert.NormSampleIdeal.τ).loc Cert.NormSampleIdeal.main_arg1)), ?_, ?_⟩
  · refine (θ_run Cert.NormSampleIdeal.defs _ _).mono (fun r h c => ?_) (Cert.NormSampleIdeal.Value.run_blocks m g)
    obtain ⟨h0, h1⟩ := h c
    refine ⟨?_, h1⟩
    rw [h0]
    funext i
    idx_vars i
    exact (Cert.NormSampleIdeal.Lin.final m c i0 i1).trans (Cert.NormSampleReferenceIdeal.Lin.out_apply _ _ i0 i1).symm
  · refine (θ_run Cert.NormSampleReferenceIdeal.defs _ _).mono (fun r h c => ?_) (Cert.NormSampleReferenceIdeal.Value.run m' g')
    obtain ⟨h0, h1⟩ := h c
    refine ⟨?_, h1⟩
    rw [h0, Cert.NormSampleReferenceIdeal.Read.val_main_v13_eq, (hagree c).1, (hagree c).2]

theorem frame_normSampleReference : Cert.quiescent_NormSampleReferenceIdeal := by
  intro m g _
  exact (θ_run Cert.NormSampleReferenceIdeal.defs _ _).mono (fun r h => ⟨fun c => (h c).2,
      Idealize.ShloMosaic.sem_eq_zero_of_no_sems (by decide) r.2⟩)
    (Cert.NormSampleReferenceIdeal.Value.run (F := Ideal) m g)

end Cert.Proof

end
-- ==== Proof.NormModKernel.lean ====
/- The norm with the shift and the scale of a row: what the kernel leaves at an index. -/
module

public import proofs.«01_k».proof.Proof.Gen.NormModIdeal.Value
public import proofs.«01_k».proof.Proof.NormSpec
public import proofs.«01_k».proof.Proof.DownKernel
public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.NormModIdeal.Lin

open Cert.NormModIdeal Cert.NormModIdeal.Gen Idealize.ShloMosaic Idealize.ShloMosaic.TcCoe
open Idealize.ShloMosaic.Pipeline (Dat)
open Cert.Norm (normAt)
open Cert.DownIdeal.Lin (group group_lt)

/-- One entry of the result, from the arguments. -/
def entryAt (x : Vec Ideal S24576x2048 .f32) (g : Vec Ideal S2048 .f32) (sh sc : Vec Ideal S8x1x2048 .f32) (i : Fin 24576) (j : Fin 2048) : EReal :=
  normAt (fun k => x (ix2 i k)) (fun k => g (ix1 k)) j * (1 + sc (ix3 ⟨group i.val, group_lt i⟩ 0 j)) + sh (ix3 ⟨group i.val, group_lt i⟩ 0 j)

theorem pay1_apply (x : Vec Ideal S512x2048 .f32) (g : Vec Ideal S1x2048 .f32) (sc sh : Vec Ideal S1x1x2048 .f32) (i : Fin 512) (j : Fin 2048) :
    k0_pay1 x g sc sh (ix2 i j) = normAt (fun k => x (ix2 i k)) (fun k => g (ix2 0 k)) j * (1 + sc (ix3 0 0 j)) + sh (ix3 0 0 j) := by
  unfold normAt
  pointwise [k0_pay1]
  try simp only [Ideal.ofBits_zero_f32, Ideal.ofBits_one_f32, zero_add]

variable (m : (ℓ : Loc nD τ sig) → Buf (Elt Ideal) ℓ) (c : Dev nD)

theorem tlt (t : Fin cfg0.N) : t.val < 48 := lt_of_lt_of_eq t.isLt N_0

/-- The windows' block indices at point `t`. -/
theorem idx : ∀ t : Fin grid0.N, win0_0.index t = ![t.val, 0] ∧ win0_1.index t = ![0, 0] ∧ win0_4.index t = ![t.val, 0]
    ∧ win0_2.index t = ![group (512 * t.val), 0, 0] ∧ win0_3.index t = ![group (512 * t.val), 0, 0] := by
  decide +kernel

theorem blk0 (t : Fin cfg0.N) (i : Fin 512) (k : Fin 2048) :
    iblk m c 0 t (ix2 i k) = m ((c : Thread nD τ).loc main_arg0) (ix2 ⟨512 * t.val + i.val, by have := tlt t; omega⟩ k) := by
  have hi := idx t
  blk_simp [iblk, hi.1]
  entry_read
  pointwise
  blk_ext [hi.1]

theorem blk1 (t : Fin cfg0.N) (j : Fin 2048) :
    iblk m c 1 t (ix2 0 j) = m ((c : Thread nD τ).loc main_arg1) (ix1 j) := by
  have hi := idx t
  blk_simp [iblk, hi.2.1]
  entry_read
  pointwise
  blk_ext [hi.2.1]

theorem group_row (q : ℕ) (i : ℕ) (hi : i < 512) : group (512 * q) = group (512 * q + i) := by
  unfold group
  split <;> split <;> omega

theorem blk2 (t : Fin cfg0.N) (i : Fin 512) (j : Fin 2048) :
    iblk m c 2 t (ix3 0 0 j) = m ((c : Thread nD τ).loc main_arg2)
      (ix3 ⟨group (512 * t.val + i.val), group_lt ⟨512 * t.val + i.val, by have := tlt t; omega⟩⟩ 0 j) := by
  have hi := idx t
  have hg := group_row t.val i.val i.isLt
  blk_simp [iblk, hi.2.2.2.1]
  entry_read
  pointwise
  blk_ext [hi.2.2.2.1, hg]

theorem blk3 (t : Fin cfg0.N) (i : Fin 512) (j : Fin 2048) :
    iblk m c 3 t (ix3 0 0 j) = m ((c : Thread nD τ).loc main_arg3)
      (ix3 ⟨group (512 * t.val + i.val), group_lt ⟨512 * t.val + i.val, by have := tlt t; omega⟩⟩ 0 j) := by
  have hi := idx t
  have hg := group_row t.val i.val i.isLt
  blk_simp [iblk, hi.2.2.2.2]
  entry_read
  pointwise
  blk_ext [hi.2.2.2.2, hg]

/-- What point `t` leaves in its output block. -/
theorem out_at (t : Fin cfg0.N) (i : Fin 512) (j : Fin 2048) :
    k0_pay1 (iblk m c 0 t) (iblk m c 1 t) (iblk m c 3 t) (iblk m c 2 t) (ix2 i j)
      = entryAt (m ((c : Thread nD τ).loc main_arg0)) (m ((c : Thread nD τ).loc main_arg1)) (m ((c : Thread nD τ).loc main_arg2)) (m ((c : Thread nD τ).loc main_arg3)) ⟨512 * t.val + i.val, by have := tlt t; omega⟩ j := by
  refine (pay1_apply (iblk m c 0 t) (iblk m c 1 t) (iblk m c 3 t) (iblk m c 2 t) i j).trans ?_
  unfold entryAt
  rw [blk2 m c t i j, blk3 m c t i j]
  simp only [blk0, blk1]

/-- The result array. -/
theorem final (i : Fin 24576) (j : Fin 2048) :
    (dats m 0 c).arrAt 4 cfg0.N (ix2 i j) = entryAt (m ((c : Thread nD τ).loc main_arg0)) (m ((c : Thread nD τ).loc main_arg1)) (m ((c : Thread nD τ).loc main_arg2)) (m ((c : Thread nD τ).loc main_arg3)) i j := by
  have e : (dats m 0 c).arrAt 4 cfg0.N = fun y => entryAt (m ((c : Thread nD τ).loc main_arg0)) (m ((c : Thread nD τ).loc main_arg1)) (m ((c : Thread nD τ).loc main_arg2)) (m ((c : Thread nD τ).loc main_arg3)) (y 0) (y 1) := by
    refine (dats m 0 c).arrAt_eq_of_covers 4 _ (by decide +kernel) fun t hf y => ?_
    have hi := idx t
    idx_vars y
    blk_simp
    rw [after0_4]
    frame_out
    refine (out_at m c t y0 y1).trans (congrArg₂ (entryAt _ _ _ _) (Fin.ext ?_) (Fin.ext ?_))
    · blk_simp [hi.2.2.1]
      show 512 * t.val + y0.val = t.val * 512 + y0.val
      omega
    · blk_simp [hi.2.2.1]
  rw [e]
  rfl

end Cert.NormModIdeal.Lin

end
-- ==== Proof.NormModReference.lean ====
/- The norm with the shift and the scale of a row: the reference at an index, and the two programs' results equal. -/
module

public import proofs.«01_k».proof.Defs
public import proofs.«01_k».proof.Proof.NormModKernel
public import proofs.«01_k».proof.Proof.Gen.NormModReferenceIdeal.Read
public import proofs.«01_k».proof.Proof.Gen.NormModReferenceIdeal.Run

@[expose] public section

set_option maxRecDepth 16384

noncomputable section

namespace Cert.NormModReferenceIdeal.Lin

open Cert.NormModReferenceIdeal Cert.NormModReferenceIdeal.Gen Cert.NormModReferenceIdeal.Read Idealize.ShloMosaic
open Cert.NormModIdeal.Lin (entryAt)
open Cert.Norm (normAt)
open Cert.DownIdeal.Lin (group group_lt)

/-- The scale of a row, joined from the prompt's group and the four continuation groups. -/
theorem scale_apply (g : Vec Ideal S8x1x2048 .f32) (i : Fin 24576) (j : Fin 2048) :
    val_main_v19 (F := Ideal) g (ix2 i j) = g (ix3 ⟨group i.val, group_lt i⟩ 0 j) := by
  pointwise [val_main_v19, val_main_v18, val_main_v17, val_main_v16, val_main_v15, val_main_v14, val_main_v13]
  split
  · next h => exact congrArg (fun q => g (ix3 q 0 j)) (Fin.ext (by show 0 = group i.val; unfold group; rw [if_pos h]))
  · next h => exact congrArg (fun q => g (ix3 q 0 j)) (Fin.ext (by show 1 + (i.val - 8192) / 4096 = group i.val; unfold group; rw [if_neg h]))

/-- The shift of a row, joined from the prompt's group and the four continuation groups. -/
theorem shift_apply (g : Vec Ideal S8x1x2048 .f32) (i : Fin 24576) (j : Fin 2048) :
    val_main_v29 (F := Ideal) g (ix2 i j) = g (ix3 ⟨group i.val, group_lt i⟩ 0 j) := by
  pointwise [val_main_v29, val_main_v28, val_main_v27, val_main_v26, val_main_v25, val_main_v24, val_main_v23]
  split
  · next h => exact congrArg (fun q => g (ix3 q 0 j)) (Fin.ext (by show 0 = group i.val; unfold group; rw [if_pos h]))
  · next h => exact congrArg (fun q => g (ix3 q 0 j)) (Fin.ext (by show 1 + (i.val - 8192) / 4096 = group i.val; unfold group; rw [if_neg h]))

theorem norm_apply (x : Vec Ideal S24576x2048 .f32) (g : Vec Ideal S2048 .f32) (i : Fin 24576) (j : Fin 2048) :
    val_main_v12 (F := Ideal) x g (ix2 i j) = normAt (fun k => x (ix2 i k)) (fun k => g (ix1 k)) j := by
  unfold normAt
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  try simp only [Ideal.ofBits_zero_f32, zero_add]

theorem one_apply (i : Fin 24576) (j : Fin 2048) : val_main_v20 (F := Ideal) (ix2 i j) = 1 := by
  pointwise [val_main_v20, val_main_cst_2]
  try simp only [Ideal.ofBits_one_f32]

theorem out_apply (x : Vec Ideal S24576x2048 .f32) (g : Vec Ideal S2048 .f32) (sh sc : Vec Ideal S8x1x2048 .f32) (i : Fin 24576) (j : Fin 2048) :
    val_main_v31 (F := Ideal) x g sh sc (ix2 i j) = entryAt x g sh sc i j := by
  unfold entryAt
  rw [← norm_apply, ← scale_apply sc i j, ← shift_apply sh i j, ← one_apply i j]
  rfl

end Cert.NormModReferenceIdeal.Lin

namespace Cert.Proof

open Idealize.ShloMosaic Idealize.SL.Sem

/-- The norm with the shift and the scale of a row, equal to the reference over the extended reals. -/
theorem algebraic_normMod : Cert.algebraic_NormModIdeal_NormModReferenceIdeal := by
  intro m g m' g' _ hagree
  refine ⟨fun c => Cert.NormModReferenceIdeal.Read.val_main_v31 (F := Ideal) (m ((c.tc : Thread Cert.NormModIdeal.nD Cert.NormModIdeal.τ).loc Cert.NormModIdeal.main_arg0)) (m ((c.tc : Thread Cert.NormModIdeal.nD Cert.NormModIdeal.τ).loc Cert.NormModIdeal.main_arg1)) (m ((c.tc : Thread Cert.NormModIdeal.nD Cert.NormModIdeal.τ).loc Cert.NormModIdeal.main_arg2)) (m ((c.tc : Thread Cert.NormModIdeal.nD Cert.NormModIdeal.τ).loc Cert.NormModIdeal.main_arg3)), ?_, ?_⟩
  · refine (θ_run Cert.NormModIdeal.defs _ _).mono (fun r h c => ?_) (Cert.NormModIdeal.Value.run_blocks m g)
    obtain ⟨h0, h1⟩ := h c
    refine ⟨?_, h1⟩
    rw [h0]
    funext i
    idx_vars i
    exact (Cert.NormModIdeal.Lin.final m c i0 i1).trans (Cert.NormModReferenceIdeal.Lin.out_apply _ _ _ _ i0 i1).symm
  · refine (θ_run Cert.NormModReferenceIdeal.defs _ _).mono (fun r h c => ?_) (Cert.NormModReferenceIdeal.Value.run m' g')
    obtain ⟨h0, h1⟩ := h c
    refine ⟨?_, h1⟩
    rw [h0, Cert.NormModReferenceIdeal.Read.val_main_v31_eq, (hagree c).1, (hagree c).2.1, (hagree c).2.2.1, (hagree c).2.2.2]

theorem frame_normModReference : Cert.quiescent_NormModReferenceIdeal := by
  intro m g _
  exact (θ_run Cert.NormModReferenceIdeal.defs _ _).mono (fun r h => ⟨fun c => (h c).2,
      Idealize.ShloMosaic.sem_eq_zero_of_no_sems (by decide) r.2⟩)
    (Cert.NormModReferenceIdeal.Value.run (F := Ideal) m g)

end Cert.Proof

end
-- ==== Proof.NormRwKernel.lean ====
/- The norm before the RWKV7 layer with the shift and the scale of a row: what the kernel leaves at an index. -/
module

public import proofs.«01_k».proof.Proof.Gen.NormRwIdeal.Value
public import proofs.«01_k».proof.Proof.NormSpec
public import proofs.«01_k».proof.Proof.DownKernel
public import Idealize.ShloMosaic.Lib.Claim
public import Idealize.ShloMosaic.Lib.Pointwise
public import Idealize.ShloMosaic.Lib.Pipeline.ValueKit
public import Idealize.ShloMosaic.PureOps.Ideal.Laws

@[expose] public section

set_option maxRecDepth 16384

noncomputable section

namespace Cert.NormRwIdeal.Lin

open Cert.NormRwIdeal Cert.NormRwIdeal.Gen Idealize.ShloMosaic Idealize.ShloMosaic.TcCoe
open Idealize.ShloMosaic.Pipeline (Dat)
open Cert.Norm (normAt)
open Cert.DownIdeal.Lin (group group_lt)

/-- One entry of the result, from the arguments. -/
def entryAt (x : Vec Ideal S24576x2048 .f32) (g : Vec Ideal S2048 .f32) (sh sc : Vec Ideal S8x1x2048 .f32) (i : Fin 24576) (j : Fin 2048) : EReal :=
  normAt (fun k => x (ix2 i k)) (fun k => g (ix1 k)) j * (1 + sc (ix3 ⟨group i.val, group_lt i⟩ 0 j)) + sh (ix3 ⟨group i.val, group_lt i⟩ 0 j)

theorem pay1_apply (x : Vec Ideal S512x2048 .f32) (g : Vec Ideal S1x2048 .f32) (sc sh : Vec Ideal S1x1x2048 .f32) (i : Fin 512) (j : Fin 2048) :
    k0_pay1 x g sc sh (ix2 i j) = normAt (fun k => x (ix2 i k)) (fun k => g (ix2 0 k)) j * (1 + sc (ix3 0 0 j)) + sh (ix3 0 0 j) := by
  unfold normAt
  pointwise [k0_pay1]
  try simp only [Ideal.ofBits_zero_f32, Ideal.ofBits_one_f32, zero_add]

variable (m : (ℓ : Loc nD τ sig) → Buf (Elt Ideal) ℓ) (c : Dev nD)

theorem tlt (t : Fin cfg0.N) : t.val < 48 := lt_of_lt_of_eq t.isLt N_0

/-- The windows' block indices at point `t`. -/
theorem idx : ∀ t : Fin grid0.N, win0_0.index t = ![t.val, 0] ∧ win0_1.index t = ![0, 0] ∧ win0_4.index t = ![t.val, 0]
    ∧ win0_2.index t = ![group (512 * t.val), 0, 0] ∧ win0_3.index t = ![group (512 * t.val), 0, 0] := by
  decide +kernel

theorem blk0 (t : Fin cfg0.N) (i : Fin 512) (k : Fin 2048) :
    iblk m c 0 t (ix2 i k) = m ((c : Thread nD τ).loc main_arg0) (ix2 ⟨512 * t.val + i.val, by have := tlt t; omega⟩ k) := by
  have hi := idx t
  blk_simp [iblk, hi.1]
  entry_read
  pointwise
  blk_ext [hi.1]

theorem blk1 (t : Fin cfg0.N) (j : Fin 2048) :
    iblk m c 1 t (ix2 0 j) = m ((c : Thread nD τ).loc main_arg1) (ix1 j) := by
  have hi := idx t
  blk_simp [iblk, hi.2.1]
  entry_read
  pointwise
  blk_ext [hi.2.1]

theorem group_row (q : ℕ) (i : ℕ) (hi : i < 512) : group (512 * q) = group (512 * q + i) := by
  unfold group
  split <;> split <;> omega

theorem blk2 (t : Fin cfg0.N) (i : Fin 512) (j : Fin 2048) :
    iblk m c 2 t (ix3 0 0 j) = m ((c : Thread nD τ).loc main_arg2)
      (ix3 ⟨group (512 * t.val + i.val), group_lt ⟨512 * t.val + i.val, by have := tlt t; omega⟩⟩ 0 j) := by
  have hi := idx t
  have hg := group_row t.val i.val i.isLt
  blk_simp [iblk, hi.2.2.2.1]
  entry_read
  pointwise
  blk_ext [hi.2.2.2.1, hg]

theorem blk3 (t : Fin cfg0.N) (i : Fin 512) (j : Fin 2048) :
    iblk m c 3 t (ix3 0 0 j) = m ((c : Thread nD τ).loc main_arg3)
      (ix3 ⟨group (512 * t.val + i.val), group_lt ⟨512 * t.val + i.val, by have := tlt t; omega⟩⟩ 0 j) := by
  have hi := idx t
  have hg := group_row t.val i.val i.isLt
  blk_simp [iblk, hi.2.2.2.2]
  entry_read
  pointwise
  blk_ext [hi.2.2.2.2, hg]

/-- What point `t` leaves in its output block. -/
theorem out_at (t : Fin cfg0.N) (i : Fin 512) (j : Fin 2048) :
    k0_pay1 (iblk m c 0 t) (iblk m c 1 t) (iblk m c 3 t) (iblk m c 2 t) (ix2 i j)
      = entryAt (m ((c : Thread nD τ).loc main_arg0)) (m ((c : Thread nD τ).loc main_arg1)) (m ((c : Thread nD τ).loc main_arg2)) (m ((c : Thread nD τ).loc main_arg3)) ⟨512 * t.val + i.val, by have := tlt t; omega⟩ j := by
  refine (pay1_apply (iblk m c 0 t) (iblk m c 1 t) (iblk m c 3 t) (iblk m c 2 t) i j).trans ?_
  unfold entryAt
  rw [blk2 m c t i j, blk3 m c t i j]
  simp only [blk0, blk1]

/-- The result array. -/
theorem final (i : Fin 24576) (j : Fin 2048) :
    (dats m 0 c).arrAt 4 cfg0.N (ix2 i j) = entryAt (m ((c : Thread nD τ).loc main_arg0)) (m ((c : Thread nD τ).loc main_arg1)) (m ((c : Thread nD τ).loc main_arg2)) (m ((c : Thread nD τ).loc main_arg3)) i j := by
  have e : (dats m 0 c).arrAt 4 cfg0.N = fun y => entryAt (m ((c : Thread nD τ).loc main_arg0)) (m ((c : Thread nD τ).loc main_arg1)) (m ((c : Thread nD τ).loc main_arg2)) (m ((c : Thread nD τ).loc main_arg3)) (y 0) (y 1) := by
    refine (dats m 0 c).arrAt_eq_of_covers 4 _ (by decide +kernel) fun t hf y => ?_
    have hi := idx t
    idx_vars y
    blk_simp
    rw [after0_4]
    frame_out
    refine (out_at m c t y0 y1).trans (congrArg₂ (entryAt _ _ _ _) (Fin.ext ?_) (Fin.ext ?_))
    · blk_simp [hi.2.2.1]
      show 512 * t.val + y0.val = t.val * 512 + y0.val
      omega
    · blk_simp [hi.2.2.1]
  rw [e]
  rfl

end Cert.NormRwIdeal.Lin

end
-- ==== Proof.NormRwReference.lean ====
/- The norm before the RWKV7 layer with the shift and the scale of a row: the reference at an index, and the two programs' results equal. -/
module

public import proofs.«01_k».proof.Defs
public import proofs.«01_k».proof.Proof.NormRwKernel
public import proofs.«01_k».proof.Proof.Gen.NormRwReferenceIdeal.Read
public import proofs.«01_k».proof.Proof.Gen.NormRwReferenceIdeal.Run

@[expose] public section

set_option maxRecDepth 16384

noncomputable section

namespace Cert.NormRwReferenceIdeal.Lin

open Cert.NormRwReferenceIdeal Cert.NormRwReferenceIdeal.Gen Cert.NormRwReferenceIdeal.Read Idealize.ShloMosaic
open Cert.NormRwIdeal.Lin (entryAt)
open Cert.Norm (normAt)
open Cert.DownIdeal.Lin (group group_lt)

/-- The scale of a row, joined from the prompt's group and the four continuation groups. -/
theorem scale_apply (g : Vec Ideal S8x1x2048 .f32) (i : Fin 24576) (j : Fin 2048) :
    val_main_v19 (F := Ideal) g (ix2 i j) = g (ix3 ⟨group i.val, group_lt i⟩ 0 j) := by
  pointwise [val_main_v19, val_main_v18, val_main_v17, val_main_v16, val_main_v15, val_main_v14, val_main_v13]
  split
  · next h => exact congrArg (fun q => g (ix3 q 0 j)) (Fin.ext (by show 0 = group i.val; unfold group; rw [if_pos h]))
  · next h => exact congrArg (fun q => g (ix3 q 0 j)) (Fin.ext (by show 1 + (i.val - 8192) / 4096 = group i.val; unfold group; rw [if_neg h]))

/-- The shift of a row, joined from the prompt's group and the four continuation groups. -/
theorem shift_apply (g : Vec Ideal S8x1x2048 .f32) (i : Fin 24576) (j : Fin 2048) :
    val_main_v29 (F := Ideal) g (ix2 i j) = g (ix3 ⟨group i.val, group_lt i⟩ 0 j) := by
  pointwise [val_main_v29, val_main_v28, val_main_v27, val_main_v26, val_main_v25, val_main_v24, val_main_v23]
  split
  · next h => exact congrArg (fun q => g (ix3 q 0 j)) (Fin.ext (by show 0 = group i.val; unfold group; rw [if_pos h]))
  · next h => exact congrArg (fun q => g (ix3 q 0 j)) (Fin.ext (by show 1 + (i.val - 8192) / 4096 = group i.val; unfold group; rw [if_neg h]))

theorem norm_apply (x : Vec Ideal S24576x2048 .f32) (g : Vec Ideal S2048 .f32) (i : Fin 24576) (j : Fin 2048) :
    val_main_v12 (F := Ideal) x g (ix2 i j) = normAt (fun k => x (ix2 i k)) (fun k => g (ix1 k)) j := by
  unfold normAt
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  try simp only [Ideal.ofBits_zero_f32, zero_add]

theorem one_apply (i : Fin 24576) (j : Fin 2048) : val_main_v20 (F := Ideal) (ix2 i j) = 1 := by
  pointwise [val_main_v20, val_main_cst_2]
  try simp only [Ideal.ofBits_one_f32]

theorem out_apply (x : Vec Ideal S24576x2048 .f32) (g : Vec Ideal S2048 .f32) (sh sc : Vec Ideal S8x1x2048 .f32) (i : Fin 24576) (j : Fin 2048) :
    val_main_v30 (F := Ideal) x g sh sc (ix2 i j) = entryAt x g sh sc i j := by
  unfold entryAt
  rw [← norm_apply, ← scale_apply sc i j, ← shift_apply sh i j, ← one_apply i j]
  rfl

end Cert.NormRwReferenceIdeal.Lin

namespace Cert.Proof

open Idealize.ShloMosaic Idealize.SL.Sem

/-- The norm before the RWKV7 layer with the shift and the scale of a row, equal to the reference over the extended reals. -/
theorem algebraic_normRw : Cert.algebraic_NormRwIdeal_NormRwReferenceIdeal := by
  intro m g m' g' _ hagree
  refine ⟨fun c => Cert.NormRwReferenceIdeal.Read.val_main_v30 (F := Ideal) (m ((c.tc : Thread Cert.NormRwIdeal.nD Cert.NormRwIdeal.τ).loc Cert.NormRwIdeal.main_arg0)) (m ((c.tc : Thread Cert.NormRwIdeal.nD Cert.NormRwIdeal.τ).loc Cert.NormRwIdeal.main_arg1)) (m ((c.tc : Thread Cert.NormRwIdeal.nD Cert.NormRwIdeal.τ).loc Cert.NormRwIdeal.main_arg2)) (m ((c.tc : Thread Cert.NormRwIdeal.nD Cert.NormRwIdeal.τ).loc Cert.NormRwIdeal.main_arg3)), ?_, ?_⟩
  · refine (θ_run Cert.NormRwIdeal.defs _ _).mono (fun r h c => ?_) (Cert.NormRwIdeal.Value.run_blocks m g)
    obtain ⟨h0, h1⟩ := h c
    refine ⟨?_, h1⟩
    rw [h0]
    funext i
    idx_vars i
    exact (Cert.NormRwIdeal.Lin.final m c i0 i1).trans (Cert.NormRwReferenceIdeal.Lin.out_apply _ _ _ _ i0 i1).symm
  · refine (θ_run Cert.NormRwReferenceIdeal.defs _ _).mono (fun r h c => ?_) (Cert.NormRwReferenceIdeal.Value.run m' g')
    obtain ⟨h0, h1⟩ := h c
    refine ⟨?_, h1⟩
    rw [h0, Cert.NormRwReferenceIdeal.Read.val_main_v30_eq, (hagree c).1, (hagree c).2.1, (hagree c).2.2.1, (hagree c).2.2.2]

theorem frame_normRwReference : Cert.quiescent_NormRwReferenceIdeal := by
  intro m g _
  exact (θ_run Cert.NormRwReferenceIdeal.defs _ _).mono (fun r h => ⟨fun c => (h c).2,
      Idealize.ShloMosaic.sem_eq_zero_of_no_sems (by decide) r.2⟩)
    (Cert.NormRwReferenceIdeal.Value.run (F := Ideal) m g)

end Cert.Proof

end
-- ==== Proof.BackChunk.lean ====
/- The backward scan's chunk function read at an index: the chunk's rows are taken from the last to the first, so that row
   `i` of a chunk is position `Fin.rev i` of the recurrence of `Cert.Scan`. -/
module

public import proofs.«01_k».proof.Proof.KernelChunk
public import proofs.«01_k».proof.Proof.Gen.BackIdeal.Skeleton
public import Idealize.ShloMosaic.Lib.Pointwise
public import Idealize.ShloMosaic.PureOps.Ideal.Laws

@[expose] public section

set_option maxRecDepth 16384

noncomputable section

namespace Cert.BackIdeal.Chunk

open Cert.BackIdeal Cert.BackIdeal.Gen Idealize.ShloMosaic Cert.Scan

/-- A chunk's contribution to its own output. -/
def intraK (q k g : Vec Ideal S1x64x256 .f32) (v : Vec Ideal S1x64x512 .f32) : FVec Ideal S64x512 .f32 :=
  k0_pay48 k0_pay2 (k0_pay9 q g) (k0_pay11 (k0_pay4 k) (k0_pay10 g)) (k0_pay15 v)

/-- The state after a chunk, from the state `S` before it; the state is held transposed. -/
def stepK (k g : Vec Ideal S1x64x256 .f32) (v : Vec Ideal S1x64x512 .f32) (S : FVec Ideal S512x256 .f32) : FVec Ideal S512x256 .f32 :=
  addf (mulf S (broadcastTo S512x256 (k0_pay14 (k0_pay8 g)) broadcasts_S1x256_S512x256))
    (k0_pay52 (k0_pay13 (k0_pay4 k) (k0_pay6 g) (k0_pay8 g)) (k0_pay15 v))

/-- What the state before a chunk contributes to the chunk's output. -/
def interK (q g : Vec Ideal S1x64x256 .f32) (S : FVec Ideal S512x256 .f32) : FVec Ideal S64x512 .f32 :=
  matmul dot_S64x256_S512x256_S64x512_1_1_0_0_n_n none (k0_pay12 (k0_pay5 q) (k0_pay6 g)) (truncf .bf16 S bitsLt_bf16_f32)
    (constant S64x512 .f32 0x00000000#32)

theorem le_bit : ∀ i j : Fin 64, IntOp.cmpi CmpIPredicate.sle (BitVec.ofNat 32 i.val) (BitVec.ofNat 32 j.val) = if Fin.rev j ≤ Fin.rev i then 1#1 else 0#1 := by
  decide +kernel

/-- The triangle of ones the running sum is taken with. -/
theorem tri_apply (i j : Fin 64) :
    FloatOps.sitofp (F := Ideal) FTy.f32 (BitVec.setWidth 32 (IntOp.cmpi CmpIPredicate.sle (BitVec.ofNat 32 i.val) (BitVec.ofNat 32 j.val)))
      = (if Fin.rev j ≤ Fin.rev i then (1 : EReal) else 0) := by
  rw [le_bit]
  split
  · show (((BitVec.setWidth 32 1#1).toInt : ℝ) : EReal) = 1
    rw [show (BitVec.setWidth 32 1#1).toInt = 1 from by decide]; simp
  · show (((BitVec.setWidth 32 0#1).toInt : ℝ) : EReal) = 0
    rw [show (BitVec.setWidth 32 0#1).toInt = 0 from by decide]; simp

/-- A sum over a chunk's rows, taken from the last to the first. -/
theorem sum_rev (f : Fin 64 → EReal) : ∑ j, f j = ∑ j, f (Fin.rev j) := (Equiv.sum_comp Fin.revPerm f).symm

variable (q k g : Vec Ideal S1x64x256 .f32) (v : Vec Ideal S1x64x512 .f32)
variable (Q K L : ℕ → Fin 64 → Fin 256 → EReal) (V : ℕ → Fin 64 → Fin 512 → EReal) (n : ℕ)

theorem cumK_apply (hl : ∀ i d, logDecay (g (ix3 0 i d)) = L n (Fin.rev i) d) (i : Fin 64) (d : Fin 256) :
    k0_pay6 g (ix2 i d) = cum L n (Fin.rev i) d := by
  pointwise [k0_pay6, k0_pay3, k0_pay2]
  unfold cum
  refine Eq.trans ?_ (sum_rev fun j => if j ≤ Fin.rev i then L n j d else 0).symm
  refine Finset.sum_congr rfl fun j _ => ?_
  rw [tri_apply, ← hl]
  by_cases h : Fin.rev j ≤ Fin.rev i
  · rw [if_pos h, if_pos h, one_mul]; rfl
  · rw [if_neg h, if_neg h, zero_mul]

theorem intraK_apply (hq : ∀ i d, q (ix3 0 i d) * Ideal.ofBits .f32 0x3D800000#32 = Q n (Fin.rev i) d) (hk : ∀ i d, k (ix3 0 i d) = K n (Fin.rev i) d)
    (hl : ∀ i d, logDecay (g (ix3 0 i d)) = L n (Fin.rev i) d) (hv : ∀ i e, v (ix3 0 i e) = V n (Fin.rev i) e) (i : Fin 64) (e : Fin 512) :
    intraK q k g v (ix2 i e) = intra Q K L V n (Fin.rev i) e := by
  pointwise [intraK, k0_pay48, k0_pay2, k0_pay9, k0_pay11, k0_pay4, k0_pay10, k0_pay15, k0_pay5, k0_pay7]
  unfold intra
  refine Eq.trans ?_ (sum_rev fun j => (if j ≤ Fin.rev i then score Q K L n (Fin.rev i) j else 0) * V n j e).symm
  unfold score
  refine Finset.sum_congr rfl fun j _ => ?_
  simp only [hq, hk, hv, cumK_apply g L n hl]
  rw [le_bit]
  by_cases h : Fin.rev j ≤ Fin.rev i
  · rw [if_pos h, if_pos h]; rfl
  · rw [if_neg h, if_neg h, zero_mul]; rfl

theorem stepK_apply (hk : ∀ i d, k (ix3 0 i d) = K n (Fin.rev i) d) (hl : ∀ i d, logDecay (g (ix3 0 i d)) = L n (Fin.rev i) d)
    (hv : ∀ i e, v (ix3 0 i e) = V n (Fin.rev i) e) (S : FVec Ideal S512x256 .f32) (s : Fin 256 → Fin 512 → EReal)
    (hS : ∀ d e, S (ix2 e d) = state K L V s n d e) (d : Fin 256) (e : Fin 512) :
    stepK k g v S (ix2 e d) = state K L V s (n + 1) d e := by
  pointwise [stepK, k0_pay14, k0_pay8, k0_pay52, k0_pay13, k0_pay4, k0_pay15]
  simp only [hS, hk, hv, cumK_apply g L n hl, state]
  refine congrArg₂ (· + ·) rfl (Eq.trans ?_ (sum_rev fun j => (K n j d * Ideal.exp (cum L n 63 d - cum L n j d)) * V n j e).symm)
  exact Finset.sum_congr rfl fun j _ => mul_comm _ _

theorem interK_apply (hq : ∀ i d, q (ix3 0 i d) * Ideal.ofBits .f32 0x3D800000#32 = Q n (Fin.rev i) d) (hl : ∀ i d, logDecay (g (ix3 0 i d)) = L n (Fin.rev i) d)
    (S : FVec Ideal S512x256 .f32) (s : Fin 256 → Fin 512 → EReal)
    (hS : ∀ d e, S (ix2 e d) = state K L V s n d e) (i : Fin 64) (e : Fin 512) :
    interK q g S (ix2 i e) = inter Q K L V s n (Fin.rev i) e := by
  pointwise [interK, k0_pay12, k0_pay5]
  simp only [hS, hq, cumK_apply g L n hl, inter]

/-! ## The whole block -/

/-- The 64 rows of a 256-row block that chunk `n` reads. -/
def part256 (x : Vec Ideal S1x256x256 .f32) (n : ℕ) (h : ∀ a, (![0, n, 0] : Fin 3 → ℕ) a + S1x64x256.size a ≤ S1x256x256.size a) :
    Vec Ideal S1x64x256 .f32 :=
  View.ld x (Rect.unit (s := S1x256x256) ![0, n, 0] S1x64x256.size h)

/-- The same of a block of 512 columns. -/
def part512 (x : Vec Ideal S1x256x512 .f32) (n : ℕ) (h : ∀ a, (![0, n, 0] : Fin 3 → ℕ) a + S1x64x512.size a ≤ S1x256x512.size a) :
    Vec Ideal S1x64x512 .f32 :=
  View.ld x (Rect.unit (s := S1x256x512) ![0, n, 0] S1x64x512.size h)

theorem part256_apply (x : Vec Ideal S1x256x256 .f32) (n h) (i : Fin 64) (d : Fin 256) (hi : n + i.val < 256) :
    part256 x n h (ix3 0 i d) = x (ix3 0 ⟨n + i.val, hi⟩ d) := by
  pointwise [part256]

end Cert.BackIdeal.Chunk

end
-- ==== Proof.BackBlock.lean ====
/- What the backward scan's body leaves in its two output blocks: the chunk function applied to the four chunks from the last
   rows to the first, and those blocks read at an index. -/
module

public import proofs.«01_k».proof.Proof.BackChunk
public import proofs.«01_k».proof.Proof.Gen.BackIdeal.Value
public import Idealize.ShloMosaic.Lib.Tactic

@[expose] public section

set_option maxRecDepth 16384

noncomputable section

namespace Cert.BackIdeal.Chunk

open Cert.BackIdeal Cert.BackIdeal.Gen Idealize.ShloMosaic Idealize.ShloMosaic.TcCoe Cert.Scan
open Idealize.ShloMosaic.Pipeline (Dat)

variable (x0 x1 x2 : Vec Ideal S1x256x256 .f32) (x3 : Vec Ideal S1x256x512 .f32)

/-- The state before the first chunk: zero. -/
def S0 : FVec Ideal S512x256 .f32 := k0_pay53 (k0_pay1 (F := Ideal))

def S1 : FVec Ideal S512x256 .f32 :=
  stepK (part256 x1 192 inb_S1x256x256_S1x64x256_0_192_0) (part256 x2 192 inb_S1x256x256_S1x64x256_0_192_0) (part512 x3 192 inb_S1x256x512_S1x64x512_0_192_0) S0

def S2 : FVec Ideal S512x256 .f32 :=
  stepK (part256 x1 128 inb_S1x256x256_S1x64x256_0_128_0) (part256 x2 128 inb_S1x256x256_S1x64x256_0_128_0) (part512 x3 128 inb_S1x256x512_S1x64x512_0_128_0) (S1 x1 x2 x3)

def S3 : FVec Ideal S512x256 .f32 :=
  stepK (part256 x1 64 inb_S1x256x256_S1x64x256_0_64_0) (part256 x2 64 inb_S1x256x256_S1x64x256_0_64_0) (part512 x3 64 inb_S1x256x512_S1x64x512_0_64_0) (S2 x1 x2 x3)

def S4 : FVec Ideal S512x256 .f32 :=
  stepK (part256 x1 0 inb_S1x256x256_S1x64x256_0_0_0) (part256 x2 0 inb_S1x256x256_S1x64x256_0_0_0) (part512 x3 0 inb_S1x256x512_S1x64x512_0_0_0) (S3 x1 x2 x3)

/-- One chunk's output from the state before it. -/
def outK (q k g : Vec Ideal S1x64x256 .f32) (v : Vec Ideal S1x64x512 .f32) (S : FVec Ideal S512x256 .f32) : FVec Ideal S64x512 .f32 :=
  addf (intraK q k g v) (interK q g S)

/-- The output block: the four chunks' outputs, one below the other. -/
def blockO : Vec Ideal S1x256x512 .f32 :=
  shapeCast S1x256x512 (concatenate S256x512 0
    [⟨S64x512, outK (part256 x0 0 inb_S1x256x256_S1x64x256_0_0_0) (part256 x1 0 inb_S1x256x256_S1x64x256_0_0_0) (part256 x2 0 inb_S1x256x256_S1x64x256_0_0_0) (part512 x3 0 inb_S1x256x512_S1x64x512_0_0_0) (S3 x1 x2 x3)⟩,
     ⟨S64x512, outK (part256 x0 64 inb_S1x256x256_S1x64x256_0_64_0) (part256 x1 64 inb_S1x256x256_S1x64x256_0_64_0) (part256 x2 64 inb_S1x256x256_S1x64x256_0_64_0) (part512 x3 64 inb_S1x256x512_S1x64x512_0_64_0) (S2 x1 x2 x3)⟩,
     ⟨S64x512, outK (part256 x0 128 inb_S1x256x256_S1x64x256_0_128_0) (part256 x1 128 inb_S1x256x256_S1x64x256_0_128_0) (part256 x2 128 inb_S1x256x256_S1x64x256_0_128_0) (part512 x3 128 inb_S1x256x512_S1x64x512_0_128_0) (S1 x1 x2 x3)⟩,
     ⟨S64x512, outK (part256 x0 192 inb_S1x256x256_S1x64x256_0_192_0) (part256 x1 192 inb_S1x256x256_S1x64x256_0_192_0) (part256 x2 192 inb_S1x256x256_S1x64x256_0_192_0) (part512 x3 192 inb_S1x256x512_S1x64x512_0_192_0) S0⟩]
    concatenates_S64x512_S64x512_S64x512_S64x512_S256x512_d0) shapeCasts_S256x512_S1x256x512

/-- The state block: the state after the fourth chunk. -/
def blockS : Vec Ideal S1x1x256x512 .f32 :=
  k0_pay59 (F := Ideal) (shapeCast S1x512x256 (S4 x1 x2 x3) shapeCasts_S512x256_S1x512x256)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

set_option maxHeartbeats 4000000 in
theorem outO_eq (c : Dev nD) (i : grid0.Coords) (a3 : Memref sig .tc .vmem S1x256x256 .f32) (h3 : a3.IsWhole)
    (a4 : Memref sig .tc .vmem S1x256x256 .f32) (h4 : a4.IsWhole) (a5 : Memref sig .tc .vmem S1x256x256 .f32) (h5 : a5.IsWhole)
    (a6 : Memref sig .tc .vmem S1x256x512 .f32) (h6 : a6.IsWhole) (a7 : Memref sig .tc .vmem S1x256x512 .f32) (h7 : a7.IsWhole)
    (a8 : Memref sig .tc .vmem S1x1x256x512 .f32) (h8 : a8.IsWhole) (a9 : Memref sig .tc .vmem S1x512x256 .f32) (h9 : a9.IsWhole)
    (hc0 : _) (hc1 : _) :
    out0_A_4 c i a3 h3 a4 h4 a5 h5 a6 h6 a7 h7 a8 h8 a9 h9 hc0 hc1 x0 x1 x2 x3 = blockO x0 x1 x2 x3 := by
  unfold out0_A_4
  rw [View.read_writes_eq_canon _ _ _ (cover0_A_4 c i a3 h3 a4 h4 a5 h5 a6 h6 a7 h7 a8 h8 a9 h9 hc0 hc1 x0 x1 x2 x3)]
  unfold kernelRun0_A
  dsimp only
  sl_unfold_words
  rw [View.canon_unit_zero hz3]
  simp only [View.readAt_eq_ld, h3.read_unread, h4.read_unread, h5.read_unread, h6.read_unread, View.readCov_unit_zero (S := S1x512x256) _ hz3]
  rfl

set_option maxHeartbeats 4000000 in
theorem outS_eq (c : Dev nD) (i : grid0.Coords) (a3 : Memref sig .tc .vmem S1x256x256 .f32) (h3 : a3.IsWhole)
    (a4 : Memref sig .tc .vmem S1x256x256 .f32) (h4 : a4.IsWhole) (a5 : Memref sig .tc .vmem S1x256x256 .f32) (h5 : a5.IsWhole)
    (a6 : Memref sig .tc .vmem S1x256x512 .f32) (h6 : a6.IsWhole) (a7 : Memref sig .tc .vmem S1x256x512 .f32) (h7 : a7.IsWhole)
    (a8 : Memref sig .tc .vmem S1x1x256x512 .f32) (h8 : a8.IsWhole) (a9 : Memref sig .tc .vmem S1x512x256 .f32) (h9 : a9.IsWhole)
    (hc0 : _) (hc1 : _) :
    out0_A_5 c i a3 h3 a4 h4 a5 h5 a6 h6 a7 h7 a8 h8 a9 h9 hc0 hc1 x0 x1 x2 x3 = blockS x1 x2 x3 := by
  unfold out0_A_5
  rw [View.read_writes_eq_canon _ _ _ (cover0_A_5 c i a3 h3 a4 h4 a5 h5 a6 h6 a7 h7 a8 h8 a9 h9 hc0 hc1 x0 x1 x2 x3)]
  unfold kernelRun0_A
  dsimp only
  sl_unfold_words
  rw [View.canon_unit_zero hz4]
  simp only [View.readCov_cons_toLoadRect, View.readAt_eq_ld, h3.read_unread, h4.read_unread, h5.read_unread, h6.read_unread, View.readCov_unit_zero (S := S1x512x256) _ hz3]
  rfl

/-! ## The blocks at an index -/

section
variable (Q K L : ℕ → Fin 64 → Fin 256 → EReal) (V : ℕ → Fin 64 → Fin 512 → EReal)
variable (hq : ∀ n i d, x0 (ix3 0 (Fin.rev (pos 256 n i)) d) * Ideal.ofBits .f32 0x3D800000#32 = Q n i d)
variable (hk : ∀ n i d, x1 (ix3 0 (Fin.rev (pos 256 n i)) d) = K n i d)
variable (hl : ∀ n i d, logDecay (x2 (ix3 0 (Fin.rev (pos 256 n i)) d)) = L n i d)
variable (hv : ∀ n i e, x3 (ix3 0 (Fin.rev (pos 256 n i)) e) = V n i e)

theorem part256_pos (x : Vec Ideal S1x256x256 .f32) (n : ℕ) (hn : n < 4) (h) (i : Fin 64) (d : Fin 256) :
    part256 x (64 * (3 - n)) h (ix3 0 i d) = x (ix3 0 (Fin.rev (pos 256 n (Fin.rev i))) d) := by
  rw [part256_apply x _ h i d (by omega), pos_eq 256 n (Fin.rev i) (by omega)]
  exact congrArg (fun p => x (ix3 0 p d)) (Fin.ext (by simp only [Fin.val_rev]; omega))

theorem part512_pos (x : Vec Ideal S1x256x512 .f32) (n : ℕ) (hn : n < 4) (h) (i : Fin 64) (d : Fin 512) :
    part512 x (64 * (3 - n)) h (ix3 0 i d) = x (ix3 0 (Fin.rev (pos 256 n (Fin.rev i))) d) := by
  have e : part512 x (64 * (3 - n)) h (ix3 0 i d) = x (ix3 0 ⟨64 * (3 - n) + i.val, by omega⟩ d) := by pointwise [part512]
  rw [e, pos_eq 256 n (Fin.rev i) (by omega)]
  exact congrArg (fun p => x (ix3 0 p d)) (Fin.ext (by simp only [Fin.val_rev]; omega))

include hk hl hv

theorem step_apply (n : ℕ) (hn : n < 4) (h h1 h2) (S : FVec Ideal S512x256 .f32)
    (hS : ∀ d e, S (ix2 e d) = state K L V (fun _ _ => 0) n d e) (d : Fin 256) (e : Fin 512) :
    stepK (part256 x1 (64 * (3 - n)) h) (part256 x2 (64 * (3 - n)) h1) (part512 x3 (64 * (3 - n)) h2) S (ix2 e d) = state K L V (fun _ _ => 0) (n + 1) d e :=
  stepK_apply _ _ _ K L V n (fun i d => by rw [part256_pos x1 n hn, hk]) (fun i d => by rw [part256_pos x2 n hn, hl])
    (fun i e => by rw [part512_pos x3 n hn, hv]) S _ hS d e

omit hk hl hv in
theorem S0_apply (d : Fin 256) (e : Fin 512) : S0 (ix2 e d) = state K L V (fun _ _ => 0) 0 d e := by
  pointwise [S0, k0_pay53, k0_pay1, state]

theorem S1_apply (d : Fin 256) (e : Fin 512) : S1 x1 x2 x3 (ix2 e d) = state K L V (fun _ _ => 0) 1 d e :=
  step_apply x1 x2 x3 K L V hk hl hv 0 (by decide) _ _ _ _ (S0_apply K L V) d e

theorem S2_apply (d : Fin 256) (e : Fin 512) : S2 x1 x2 x3 (ix2 e d) = state K L V (fun _ _ => 0) 2 d e :=
  step_apply x1 x2 x3 K L V hk hl hv 1 (by decide) _ _ _ _ (S1_apply x1 x2 x3 K L V hk hl hv) d e

theorem S3_apply (d : Fin 256) (e : Fin 512) : S3 x1 x2 x3 (ix2 e d) = state K L V (fun _ _ => 0) 3 d e :=
  step_apply x1 x2 x3 K L V hk hl hv 2 (by decide) _ _ _ _ (S2_apply x1 x2 x3 K L V hk hl hv) d e

theorem S4_apply (d : Fin 256) (e : Fin 512) : S4 x1 x2 x3 (ix2 e d) = state K L V (fun _ _ => 0) 4 d e :=
  step_apply x1 x2 x3 K L V hk hl hv 3 (by decide) _ _ _ _ (S3_apply x1 x2 x3 K L V hk hl hv) d e

/-- The state block holds the state after the four chunks. -/
theorem blockS_apply (d : Fin 256) (e : Fin 512) :
    blockS x1 x2 x3 (ix4 0 0 d e) = state K L V (fun _ _ => 0) 4 d e := by
  rw [← S4_apply x1 x2 x3 K L V hk hl hv]
  pointwise [blockS, k0_pay59]

include hq

theorem outK_apply (n : ℕ) (hn : n < 4) (h h1 h2 h3) (S : FVec Ideal S512x256 .f32)
    (hS : ∀ d e, S (ix2 e d) = state K L V (fun _ _ => 0) n d e) (i : Fin 64) (e : Fin 512) :
    outK (part256 x0 (64 * (3 - n)) h) (part256 x1 (64 * (3 - n)) h1) (part256 x2 (64 * (3 - n)) h2) (part512 x3 (64 * (3 - n)) h3) S (ix2 i e)
      = out Q K L V (fun _ _ => 0) n (Fin.rev i) e := by
  have e0 : ∀ i d, part256 x0 (64 * (3 - n)) h (ix3 0 i d) * Ideal.ofBits .f32 0x3D800000#32 = Q n (Fin.rev i) d :=
    fun i d => by rw [part256_pos x0 n hn, hq]
  have e1 : ∀ i d, part256 x1 (64 * (3 - n)) h1 (ix3 0 i d) = K n (Fin.rev i) d := fun i d => by rw [part256_pos x1 n hn, hk]
  have e2 : ∀ i d, logDecay (part256 x2 (64 * (3 - n)) h2 (ix3 0 i d)) = L n (Fin.rev i) d := fun i d => by rw [part256_pos x2 n hn, hl]
  have e3 : ∀ i e, part512 x3 (64 * (3 - n)) h3 (ix3 0 i e) = V n (Fin.rev i) e := fun i e => by rw [part512_pos x3 n hn, hv]
  show intraK _ _ _ _ (ix2 i e) + interK _ _ _ (ix2 i e) = _
  rw [intraK_apply _ _ _ _ Q K L V n e0 e1 e2 e3, interK_apply _ _ Q K L V n e0 e2 S _ hS]
  rfl

/-- The output block holds the four chunks' outputs, from the last rows to the first. -/
theorem blockO_apply (n : Fin 4) (i : Fin 64) (e : Fin 512) :
    blockO x0 x1 x2 x3 (ix3 0 (Fin.rev (pos 256 n.val (Fin.rev i))) e) = out Q K L V (fun _ _ => 0) n.val (Fin.rev i) e := by
  have e' : Fin.rev (pos 256 n.val (Fin.rev i)) = (⟨64 * (3 - n.val) + i.val, by omega⟩ : Fin 256) := by
    rw [pos_eq 256 n.val (Fin.rev i) (by omega)]
    exact Fin.ext (by simp only [Fin.val_rev]; omega)
  rw [e']
  unfold blockO
  match n with
  | 0 =>
    refine Eq.trans ?_ (outK_apply x0 x1 x2 x3 Q K L V hq hk hl hv 0 (by decide) inb_S1x256x256_S1x64x256_0_192_0 inb_S1x256x256_S1x64x256_0_192_0 inb_S1x256x256_S1x64x256_0_192_0 inb_S1x256x512_S1x64x512_0_192_0 _ (S0_apply K L V) i e)
    pointwise
    split_ifs <;> first | omega | skip
    exact congrArg (fun r => outK _ _ _ _ _ (ix2 r e)) (Fin.ext (by dsimp; omega))
  | 1 =>
    refine Eq.trans ?_ (outK_apply x0 x1 x2 x3 Q K L V hq hk hl hv 1 (by decide) inb_S1x256x256_S1x64x256_0_128_0 inb_S1x256x256_S1x64x256_0_128_0 inb_S1x256x256_S1x64x256_0_128_0 inb_S1x256x512_S1x64x512_0_128_0 _ (S1_apply x1 x2 x3 K L V hk hl hv) i e)
    pointwise
    split_ifs <;> first | omega | skip
    exact congrArg (fun r => outK _ _ _ _ _ (ix2 r e)) (Fin.ext (by dsimp; omega))
  | 2 =>
    refine Eq.trans ?_ (outK_apply x0 x1 x2 x3 Q K L V hq hk hl hv 2 (by decide) inb_S1x256x256_S1x64x256_0_64_0 inb_S1x256x256_S1x64x256_0_64_0 inb_S1x256x256_S1x64x256_0_64_0 inb_S1x256x512_S1x64x512_0_64_0 _ (S2_apply x1 x2 x3 K L V hk hl hv) i e)
    pointwise
  | 3 =>
    refine Eq.trans ?_ (outK_apply x0 x1 x2 x3 Q K L V hq hk hl hv 3 (by decide) inb_S1x256x256_S1x64x256_0_0_0 inb_S1x256x256_S1x64x256_0_0_0 inb_S1x256x256_S1x64x256_0_0_0 inb_S1x256x512_S1x64x512_0_0_0 _ (S3_apply x1 x2 x3 K L V hk hl hv) i e)
    pointwise

/-- The same at the position itself. -/
theorem blockO_pos (n : Fin 4) (i : Fin 64) (e : Fin 512) :
    blockO x0 x1 x2 x3 (ix3 0 (Fin.rev (pos 256 n.val i)) e) = out Q K L V (fun _ _ => 0) n.val i e := by
  have h := blockO_apply x0 x1 x2 x3 Q K L V hq hk hl hv n (Fin.rev i) e
  rw [Fin.rev_rev] at h
  exact h
end

end Cert.BackIdeal.Chunk

end
-- ==== Proof.BackValue.lean ====
/- The backward scan's two result arrays at an index, from the arguments. -/
module

public import proofs.«01_k».proof.Proof.BackBlock
public import Idealize.ShloMosaic.Lib.Claim
public import Idealize.ShloMosaic.Lib.Pointwise
public import Idealize.ShloMosaic.Lib.Pipeline.ValueKit

@[expose] public section

set_option maxRecDepth 16384

noncomputable section

namespace Cert.BackIdeal.Chunk

open Cert.BackIdeal Cert.BackIdeal.Gen Idealize.ShloMosaic Idealize.ShloMosaic.TcCoe Cert.Scan
open Idealize.ShloMosaic.Pipeline (Dat)

variable (m : (ℓ : Loc nD τ sig) → Buf (Elt Ideal) ℓ) (c : Dev nD)

/-- The windows' block indices: sequence `t / 4`, head `t % 4`, the head's columns counted in each window's own blocks. -/
theorem idx (t : Fin grid0.N) : win0_0.index t = ![t.val / 4, 0, t.val % 4] ∧ win0_1.index t = ![t.val / 4, 0, 4 + t.val % 4]
    ∧ win0_2.index t = ![t.val / 4, 0, 4 + t.val % 4] ∧ win0_3.index t = ![t.val / 4, 0, 4 + t.val % 4]
    ∧ win0_4.index t = ![t.val / 4, 0, t.val % 4] ∧ win0_5.index t = ![t.val / 4, t.val % 4, 0, 0] :=
  (by decide +kernel : ∀ t : Fin grid0.N, win0_0.index t = ![t.val / 4, 0, t.val % 4] ∧ win0_1.index t = ![t.val / 4, 0, 4 + t.val % 4]
    ∧ win0_2.index t = ![t.val / 4, 0, 4 + t.val % 4] ∧ win0_3.index t = ![t.val / 4, 0, 4 + t.val % 4]
    ∧ win0_4.index t = ![t.val / 4, 0, t.val % 4] ∧ win0_5.index t = ![t.val / 4, t.val % 4, 0, 0]) t

/-- The grid point of a sequence and a head. -/
def pt (b : Fin 32) (h : Fin 4) : Fin cfg0.N := ⟨4 * b.val + h.val, by rw [show cfg0.N = 128 from N_0]; omega⟩

theorem idx_pt (b : Fin 32) (h : Fin 4) : win0_0.index (pt b h) = ![b.val, 0, h.val] ∧ win0_1.index (pt b h) = ![b.val, 0, 4 + h.val]
    ∧ win0_2.index (pt b h) = ![b.val, 0, 4 + h.val] ∧ win0_3.index (pt b h) = ![b.val, 0, 4 + h.val]
    ∧ win0_4.index (pt b h) = ![b.val, 0, h.val] ∧ win0_5.index (pt b h) = ![b.val, h.val, 0, 0] := by
  have hi := idx (pt b h)
  have h1 : (pt b h).val / 4 = b.val := by show (4 * b.val + h.val) / 4 = _; omega
  have h2 : (pt b h).val % 4 = h.val := by show (4 * b.val + h.val) % 4 = _; omega
  rw [h1, h2] at hi
  exact hi

theorem blk0 (b : Fin 32) (h : Fin 4) (p : Fin 256) (d : Fin 256) :
    iblk m c 0 (pt b h) (ix3 0 p d) = qIn (m ((c : Thread nD τ).loc main_arg0)) b h p d := by
  have hi := idx_pt b h
  unfold qIn row
  blk_simp [iblk, hi.1]
  entry_read
  pointwise
  blk_ext [hi.1]

theorem blk1 (b : Fin 32) (h : Fin 4) (p : Fin 256) (d : Fin 256) :
    iblk m c 1 (pt b h) (ix3 0 p d) = kIn (m ((c : Thread nD τ).loc main_arg0)) b h p d := by
  have hi := idx_pt b h
  unfold kIn row
  blk_simp [iblk, hi.2.1]
  entry_read
  pointwise
  blk_ext [hi.2.1]

theorem blk2 (b : Fin 32) (h : Fin 4) (p : Fin 256) (d : Fin 256) :
    iblk m c 2 (pt b h) (ix3 0 p d) = gBackIn (m ((c : Thread nD τ).loc main_arg1)) b h p d := by
  have hi := idx_pt b h
  unfold gBackIn row
  blk_simp [iblk, hi.2.2.1]
  entry_read
  pointwise
  blk_ext [hi.2.2.1]

theorem blk3 (b : Fin 32) (h : Fin 4) (p : Fin 256) (d : Fin 512) :
    iblk m c 3 (pt b h) (ix3 0 p d) = vIn (m ((c : Thread nD τ).loc main_arg0)) b h p d := by
  have hi := idx_pt b h
  unfold vIn row
  blk_simp [iblk, hi.2.2.2.1]
  entry_read
  pointwise
  blk_ext [hi.2.2.2.1]

variable (b : Fin 32) (h : Fin 4)

/-- The first result at position `i` of chunk `n` of sequence `b`, in the head's column `e`. -/
theorem o_apply (n : Fin 4) (i : Fin 64) (e : Fin 512) :
    (dats m 0 c).arrAt 4 cfg0.N (ix3 ⟨b.val, by omega⟩ (Fin.rev (pos 256 n.val i)) ⟨512 * h.val + e.val, by omega⟩)
      = backOut (m ((c : Thread nD τ).loc main_arg0)) (m ((c : Thread nD τ).loc main_arg1)) b h n.val i e := by
  have hi := idx_pt b h
  have key := (dats m 0 c).arrAt_emb_eq_flushed 4 Value.disjoint4 (pt b h) (flush0_4 _) (ix3 0 (Fin.rev (pos 256 n.val i)) e)
  rw [Value.flushed4_A, outO_eq] at key
  refine Eq.trans (congrArg _ ?_) (key.trans ?_)
  · blk_ext [hi.2.2.2.2.1]
  · refine Eq.trans ?_ (blockO_pos (iblk m c 0 (pt b h)) (iblk m c 1 (pt b h)) (iblk m c 2 (pt b h)) (iblk m c 3 (pt b h)) (backQ _ b h) (backK _ b h) (backL _ b h) (backV _ b h) ?_ ?_ ?_ ?_ n i e)
    · rfl
    · intro n i d; rw [blk0]; rfl
    · intro n i d; rw [blk1]; rfl
    · intro n i d; rw [blk2]; rfl
    · intro n i d; rw [blk3]; rfl

/-- The second result: the state of sequence `b` and head `h` after the four chunks. -/
theorem s_apply (d : Fin 256) (e : Fin 512) :
    (dats m 0 c).arrAt 5 cfg0.N (ix4 b h d e)
      = backState (m ((c : Thread nD τ).loc main_arg0)) (m ((c : Thread nD τ).loc main_arg1)) b h 4 d e := by
  have hi := idx_pt b h
  have key := (dats m 0 c).arrAt_emb_eq_flushed 5 Value.disjoint5 (pt b h) (flush0_5 _) (ix4 0 0 d e)
  rw [Value.flushed5_A, outS_eq] at key
  refine Eq.trans (congrArg _ ?_) (key.trans ?_)
  · blk_ext [hi.2.2.2.2.2]
  · refine Eq.trans ?_ (blockS_apply (iblk m c 1 (pt b h)) (iblk m c 2 (pt b h)) (iblk m c 3 (pt b h)) (backK _ b h) (backL _ b h) (backV _ b h) ?_ ?_ ?_ d e)
    · rfl
    · intro n i d; rw [blk1]; rfl
    · intro n i d; rw [blk2]; rfl
    · intro n i d; rw [blk3]; rfl

end Cert.BackIdeal.Chunk

end
-- ==== Proof.BackRefBase.lean ====
/- The backward scan's reference before the recurrence, at an index: the sequences flipped and cut into chunks. -/
module

public import proofs.«01_k».proof.Proof.RefBase
public import proofs.«01_k».proof.Proof.Gen.BackReferenceIdeal.Read
public import Idealize.ShloMosaic.Lib.Pointwise

@[expose] public section

set_option maxRecDepth 16384

noncomputable section

namespace Cert.BackReferenceIdeal.Chunk

open Cert.BackReferenceIdeal Cert.BackReferenceIdeal.Gen Cert.BackReferenceIdeal.Read Idealize.ShloMosaic Cert.Scan

variable (x0 : Vec Ideal S24576x6144 .f32) (x1 : Vec Ideal S24576x2048 .f32)
variable (b : Fin 32) (h n : Fin 4) (i : Fin 64)

theorem q_apply (d : Fin 256) : val_main_v26 (F := Ideal) x0 (ix5 b h n i d) = backQ x0 b h n.val i d := by
  unfold backQ qIn row
  rw [pos_eq 256 n.val i (by omega)]
  pointwise [val_main_v26, val_main_v17, val_main_v16, val_main_v15, val_main_cst_0, val_main_v14, val_main_v13, val_main_v4, val_main_v1, val_main_v0]
  exact congrArg (· * _) (congrArg x0 (congrArg₂ ix2 (Fin.ext (by first | (simp [Fin.val_rev]; omega) | simp [Fin.val_rev])) (Fin.ext (by first | (simp [Fin.val_rev]; omega) | simp [Fin.val_rev]))))
theorem k_apply (d : Fin 256) : val_main_v27 (F := Ideal) x0 (ix5 b h n i d) = backK x0 b h n.val i d := by
  unfold backK kIn row
  rw [pos_eq 256 n.val i (by omega)]
  pointwise [val_main_v27, val_main_v20, val_main_v19, val_main_v18, val_main_v5, val_main_v1, val_main_v0]
  exact congrArg x0 (congrArg₂ ix2 (Fin.ext (by first | (simp [Fin.val_rev]; omega) | simp [Fin.val_rev])) (Fin.ext (by first | (simp [Fin.val_rev]; omega) | simp [Fin.val_rev])))
theorem v_apply (d : Fin 512) : val_main_v28 (F := Ideal) x0 (ix5 b h n i d) = backV x0 b h n.val i d := by
  unfold backV vIn row
  rw [pos_eq 256 n.val i (by omega)]
  pointwise [val_main_v28, val_main_v23, val_main_v22, val_main_v21, val_main_v6, val_main_v1, val_main_v0]
  exact congrArg x0 (congrArg₂ ix2 (Fin.ext (by first | (simp [Fin.val_rev]; omega) | simp [Fin.val_rev])) (Fin.ext (by first | (simp [Fin.val_rev]; omega) | simp [Fin.val_rev])))
theorem l_apply (d : Fin 256) : val_main_v29 (F := Ideal) x1 (ix5 b h n i d) = backL x1 b h n.val i d := by
  unfold backL gBackIn row
  rw [pos_eq 256 n.val i (by omega)]
  pointwise [val_main_v29, val_main_v24, val_main_v12, val_main_v11, val_main_v10, val_main_v9, val_main_v8, val_main_cst, val_main_v3, val_main_v2, val_main_call0_v1, val_main_call0_v0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst]
  rw [Cert.ReferenceIdeal.Chunk.logSigmoid_div]
  exact congrArg logDecay (congrArg x1 (congrArg₂ ix2 (Fin.ext (by first | (simp [Fin.val_rev]; omega) | simp [Fin.val_rev])) (Fin.ext (by first | (simp [Fin.val_rev]; omega) | simp [Fin.val_rev]))))

theorem cum_apply (d : Fin 256) : val_main_v30 (F := Ideal) x1 (ix5 b h n i d) = cum (backL x1 b h) n.val i d := by
  have h0 : val_main_call5_call0_v0 (F := Ideal) (Shape.Idx.first h_S_) = 0 := by
    rw [show Shape.Idx.first h_S_ = ix0 from funext fun a => a.elim0]
    pointwise [val_main_call5_call0_v0, val_main_call5_call0_cst]
  unfold val_main_v30 Host.reduceWindowAdd
  rw [Ideal.hostReduceWindowAdd_def, h0]
  refine (cumsum5 (M := 63) rfl _ _ b h n i d).trans (Finset.sum_congr rfl fun j _ => ?_)
  rw [l_apply]

end Cert.BackReferenceIdeal.Chunk

end
-- ==== Proof.BackRefValue.lean ====
/- The backward scan's reference's outputs and final state, at an index. -/
module

public import proofs.«01_k».proof.Proof.BackRefBase
public import proofs.«01_k».proof.Proof.RefValue

@[expose] public section

set_option maxRecDepth 16384

noncomputable section

namespace Cert.BackReferenceIdeal.Chunk

open Cert.BackReferenceIdeal Cert.BackReferenceIdeal.Gen Cert.BackReferenceIdeal.Read Idealize.ShloMosaic Cert.Scan

variable (x0 : Vec Ideal S24576x6144 .f32) (x1 : Vec Ideal S24576x2048 .f32)
variable (b : Fin 32) (h n : Fin 4) (i : Fin 64)

theorem score_apply (j : Fin 64) : val_main_v41 (F := Ideal) x0 x1 (ix5 b h n i j) = score (backQ x0 b h) (backK x0 b h) (backL x1 b h) n.val i j := by
  pointwise [val_main_v41, val_main_v40, val_main_v39, val_main_v38, val_main_v37, val_main_v31, val_main_v36, val_main_v35, val_main_v34, val_main_v33]
  simp only [q_apply, k_apply, cum_apply]
  rfl

theorem mask_apply (j : Fin 64) : val_main_v43 (F := Ideal) (ix2 i j) = if j ≤ i then 1#1 else 0#1 := by
  pointwise [val_main_v43, val_main_v42, val_main_c, val_main_call6_v0, val_main_call6_v1, val_main_call6_v2, val_main_call6_v3, val_main_call6_v4, val_main_call6_v5, val_main_call6_c, val_main_call6_c_0]
  exact Cert.ReferenceIdeal.Chunk.ge_word i j

theorem intra_apply (e : Fin 512) :
    val_main_v45 (F := Ideal) x0 x1 (ix5 b h n i e) = intra (backQ x0 b h) (backK x0 b h) (backL x1 b h) (backV x0 b h) n.val i e := by
  pointwise [val_main_v45, val_main_v44, val_main_call7_v1, val_main_call7_v2, val_main_call7_v0, val_main_cst_2]
  simp only [v_apply, mask_apply, score_apply]
  unfold intra
  refine Finset.sum_congr rfl fun j _ => ?_
  have hz : id (constant (F := Ideal) S_ .f32 0#32) ix0 = 0 := Ideal.ofBits_zero_f32
  rw [hz]
  by_cases hj : j ≤ i
  · rw [if_pos hj, if_pos hj]; rfl
  · rw [if_neg hj, if_neg hj]; rfl

theorem qInter_apply (d : Fin 256) :
    val_main_v47 (F := Ideal) x0 x1 (ix5 b h n i d) = backQ x0 b h n.val i d * Ideal.exp (cum (backL x1 b h) n.val i d) := by
  pointwise [val_main_v47, val_main_v46]
  simp only [q_apply, cum_apply]

theorem kUpd_apply (d : Fin 256) :
    val_main_v51 (F := Ideal) x0 x1 (ix5 b h n i d)
      = backK x0 b h n.val i d * Ideal.exp (cum (backL x1 b h) n.val 63 d - cum (backL x1 b h) n.val i d) := by
  pointwise [val_main_v51, val_main_v50, val_main_v49, val_main_v48, val_main_v32]
  simp only [k_apply, cum_apply]

theorem decay_apply (d : Fin 256) : val_main_v53 (F := Ideal) x1 (ix4 b h n d) = Ideal.exp (cum (backL x1 b h) n.val 63 d) := by
  pointwise [val_main_v53, val_main_v52, val_main_v32]
  simp only [cum_apply]

theorem state0_apply (d : Fin 256) (e : Fin 512) : val_main_v25 (F := Ideal) (ix4 b h d e) = backState x0 x1 b h 0 d e := by
  pointwise [backState, state, val_main_v25, val_main_cst_1]

theorem state1_apply (d : Fin 256) (e : Fin 512) : val_main_v67 (F := Ideal) x0 x1 (ix4 b h d e) = backState x0 x1 b h 1 d e := by
  pointwise [val_main_v57, val_main_v58, val_main_v59, val_main_v60, val_main_v61, val_main_v62, val_main_v63, val_main_v64, val_main_v65, val_main_v66, val_main_v67]
  simp only [state0_apply x0 x1, decay_apply, kUpd_apply, v_apply]
  rfl

theorem inter0_apply (e : Fin 512) :
    val_main_v56 (F := Ideal) x0 x1 (ix4 b h i e)
      = inter (backQ x0 b h) (backK x0 b h) (backL x1 b h) (backV x0 b h) (fun _ _ => 0) 0 i e := by
  pointwise [val_main_v54, val_main_v55, val_main_v56]
  simp only [state0_apply x0 x1, qInter_apply]
  rfl

theorem state2_apply (d : Fin 256) (e : Fin 512) : val_main_v81 (F := Ideal) x0 x1 (ix4 b h d e) = backState x0 x1 b h 2 d e := by
  pointwise [val_main_v71, val_main_v72, val_main_v73, val_main_v74, val_main_v75, val_main_v76, val_main_v77, val_main_v78, val_main_v79, val_main_v80, val_main_v81]
  simp only [state1_apply x0 x1, decay_apply, kUpd_apply, v_apply]
  rfl

theorem inter1_apply (e : Fin 512) :
    val_main_v70 (F := Ideal) x0 x1 (ix4 b h i e)
      = inter (backQ x0 b h) (backK x0 b h) (backL x1 b h) (backV x0 b h) (fun _ _ => 0) 1 i e := by
  pointwise [val_main_v68, val_main_v69, val_main_v70]
  simp only [state1_apply x0 x1, qInter_apply]
  rfl

theorem state3_apply (d : Fin 256) (e : Fin 512) : val_main_v95 (F := Ideal) x0 x1 (ix4 b h d e) = backState x0 x1 b h 3 d e := by
  pointwise [val_main_v85, val_main_v86, val_main_v87, val_main_v88, val_main_v89, val_main_v90, val_main_v91, val_main_v92, val_main_v93, val_main_v94, val_main_v95]
  simp only [state2_apply x0 x1, decay_apply, kUpd_apply, v_apply]
  rfl

theorem inter2_apply (e : Fin 512) :
    val_main_v84 (F := Ideal) x0 x1 (ix4 b h i e)
      = inter (backQ x0 b h) (backK x0 b h) (backL x1 b h) (backV x0 b h) (fun _ _ => 0) 2 i e := by
  pointwise [val_main_v82, val_main_v83, val_main_v84]
  simp only [state2_apply x0 x1, qInter_apply]
  rfl

theorem state4_apply (d : Fin 256) (e : Fin 512) : val_main_v109 (F := Ideal) x0 x1 (ix4 b h d e) = backState x0 x1 b h 4 d e := by
  pointwise [val_main_v99, val_main_v100, val_main_v101, val_main_v102, val_main_v103, val_main_v104, val_main_v105, val_main_v106, val_main_v107, val_main_v108, val_main_v109]
  simp only [state3_apply x0 x1, decay_apply, kUpd_apply, v_apply]
  rfl

theorem inter3_apply (e : Fin 512) :
    val_main_v98 (F := Ideal) x0 x1 (ix4 b h i e)
      = inter (backQ x0 b h) (backK x0 b h) (backL x1 b h) (backV x0 b h) (fun _ _ => 0) 3 i e := by
  pointwise [val_main_v96, val_main_v97, val_main_v98]
  simp only [state3_apply x0 x1, qInter_apply]
  rfl

theorem interAll_apply (e : Fin 512) :
    val_main_v114 (F := Ideal) x0 x1 (ix5 b h n i e)
      = inter (backQ x0 b h) (backK x0 b h) (backL x1 b h) (backV x0 b h) (fun _ _ => 0) n.val i e := by
  match n with
  | 0 =>
    refine Eq.trans ?_ (inter0_apply x0 x1 b h i e)
    pointwise [val_main_v114, val_main_v110, val_main_v111, val_main_v112, val_main_v113]
  | 1 =>
    refine Eq.trans ?_ (inter1_apply x0 x1 b h i e)
    pointwise [val_main_v114, val_main_v110, val_main_v111, val_main_v112, val_main_v113]
  | 2 =>
    refine Eq.trans ?_ (inter2_apply x0 x1 b h i e)
    pointwise [val_main_v114, val_main_v110, val_main_v111, val_main_v112, val_main_v113]
  | 3 =>
    refine Eq.trans ?_ (inter3_apply x0 x1 b h i e)
    pointwise [val_main_v114, val_main_v110, val_main_v111, val_main_v112, val_main_v113]

/-- The reference's output at position `i` of chunk `n` of sequence `b`, in the head's column `e`. -/
theorem out_apply (e : Fin 512) :
    val_main_v120 (F := Ideal) x0 x1 (ix3 ⟨b.val, by omega⟩ (Fin.rev (pos 256 n.val i)) ⟨512 * h.val + e.val, by omega⟩) = backOut x0 x1 b h n.val i e := by
  rw [pos_eq 256 n.val i (by omega)]
  have key : val_main_v115 (F := Ideal) x0 x1 (ix5 b h n i e) = backOut x0 x1 b h n.val i e := by
    pointwise [val_main_v115]
    rw [intra_apply, interAll_apply]
    rfl
  rw [← key]
  pointwise [val_main_v120, val_main_v119, val_main_v118, val_main_v117, val_main_v116, val_main_call9_v0, val_main_c_3]
  have e1 : ∀ p, (⟨(64 * n.val + i.val) / 64, p⟩ : Fin 4) = n := fun p => Fin.ext (by dsimp; omega)
  have e2 : ∀ p, (⟨i.val % 64, p⟩ : Fin 64) = i := fun p => Fin.ext (by dsimp; omega)
  have e3 : 512 * h.val + e.val < 2048 := by omega
  simp [Fin.rev_rev, e1, e2, e3]

end Cert.BackReferenceIdeal.Chunk

end
-- ==== Proof.BackAlgebraic.lean ====
/- The backward scan's results, equal over the extended reals on the prompt's rows. -/
module

public import proofs.«01_k».proof.Defs
public import proofs.«01_k».proof.Proof.Algebraic
public import proofs.«01_k».proof.Proof.BackValue
public import proofs.«01_k».proof.Proof.BackRefValue
public import proofs.«01_k».proof.Proof.Gen.BackReferenceIdeal.Run
public import proofs.«01_k».proof.Proof.Gen.On_prompt_rows

@[expose] public section

set_option maxRecDepth 16384

noncomputable section

namespace Cert.Back

open Idealize.ShloMosaic Idealize.SL.Sem Cert.Scan

/-- Row `p` of a sequence, counted from the last. -/
theorem rev_divmod (p : Fin 256) : Fin.rev (pos 256 ((Fin.rev p).val / 64) ⟨(Fin.rev p).val % 64, Nat.mod_lt _ (by decide)⟩) = p := by
  rw [Cert.Proof.pos_divmod, Fin.rev_rev]

section
variable (m : (ℓ : Loc Cert.BackIdeal.nD Cert.BackIdeal.τ Cert.BackIdeal.sig) → Buf (Elt Ideal) ℓ) (c : Dev Cert.BackIdeal.nD)

theorem o_eq (i : (⟨3, ![96, 256, 2048]⟩ : Shape).Idx)
    (hm : (Cert.On_prompt_rows.fn (F := Ideal) (m ((c.tc : Thread Cert.BackIdeal.nD Cert.BackIdeal.τ).loc Cert.BackIdeal.main_arg0)) (m ((c.tc : Thread Cert.BackIdeal.nD Cert.BackIdeal.τ).loc Cert.BackIdeal.main_arg1))).1 i = 1#1) :
    (Cert.BackIdeal.Gen.dats m 0 c).arrAt 4 Cert.BackIdeal.cfg0.N i
      = Cert.BackReferenceIdeal.Read.val_main_v120 (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) i := by
  idx_vars i
  have h0 := Cert.Proof.mask_lt _ _ _ _ _ hm
  have e2 : i2 = ⟨512 * (i2.val / 512) + i2.val % 512, by omega⟩ := Fin.ext (by dsimp; omega)
  have hk := Cert.BackIdeal.Chunk.o_apply m c ⟨i0.val, h0⟩ ⟨i2.val / 512, by omega⟩ ⟨(Fin.rev i1).val / 64, by omega⟩ ⟨(Fin.rev i1).val % 64, Nat.mod_lt _ (by decide)⟩ ⟨i2.val % 512, Nat.mod_lt _ (by decide)⟩
  have hr := Cert.BackReferenceIdeal.Chunk.out_apply (m ((c.tc : Thread Cert.BackIdeal.nD Cert.BackIdeal.τ).loc Cert.BackIdeal.main_arg0)) (m ((c.tc : Thread Cert.BackIdeal.nD Cert.BackIdeal.τ).loc Cert.BackIdeal.main_arg1)) ⟨i0.val, h0⟩ ⟨i2.val / 512, by omega⟩ ⟨(Fin.rev i1).val / 64, by omega⟩ ⟨(Fin.rev i1).val % 64, Nat.mod_lt _ (by decide)⟩ ⟨i2.val % 512, Nat.mod_lt _ (by decide)⟩
  dsimp only at hk hr
  rw [rev_divmod i1, ← e2] at hk hr
  exact hk.trans hr.symm

theorem s_eq (i : (⟨4, ![32, 4, 256, 512]⟩ : Shape).Idx) :
    (Cert.BackIdeal.Gen.dats m 0 c).arrAt 5 Cert.BackIdeal.cfg0.N i
      = Cert.BackReferenceIdeal.Read.val_main_v109 (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)) i := by
  idx_vars i
  exact (Cert.BackIdeal.Chunk.s_apply m c i0 i1 i2 i3).trans (Cert.BackReferenceIdeal.Chunk.state4_apply (m ((c.tc : Thread Cert.BackIdeal.nD Cert.BackIdeal.τ).loc Cert.BackIdeal.main_arg0)) (m ((c.tc : Thread Cert.BackIdeal.nD Cert.BackIdeal.τ).loc Cert.BackIdeal.main_arg1)) i0 i1 i2 i3).symm
end

theorem algebraic : Cert.algebraic_BackIdeal_BackReferenceIdeal_on_prompt_rows := by
  intro m g m' g' _ hagree
  refine ⟨fun c => Cert.BackReferenceIdeal.Read.val_main_v120 (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)),
    fun c => Cert.BackReferenceIdeal.Read.val_main_v109 (F := Ideal) (m ((c.tc : Thread Cert.BackIdeal.nD Cert.BackIdeal.τ).loc Cert.BackIdeal.main_arg0)) (m ((c.tc : Thread Cert.BackIdeal.nD Cert.BackIdeal.τ).loc Cert.BackIdeal.main_arg1)), ?_, ?_⟩
  · refine (θ_run Cert.BackIdeal.defs _ _).mono (fun r h c => ?_) (Cert.BackIdeal.Value.run_blocks m g)
    obtain ⟨h0, h1, h2, h3⟩ := h c
    refine ⟨fun i hm => ?_, fun i _ => ?_, h2, h3⟩
    · rw [h0]; exact o_eq m c i hm
    · rw [h1]; exact s_eq m c i
  · refine (θ_run Cert.BackReferenceIdeal.defs _ _).mono (fun r h c => ?_) (Cert.BackReferenceIdeal.Value.run m' g')
    obtain ⟨h0, h1, h2, h3⟩ := h c
    refine ⟨fun i _ => ?_, fun i _ => ?_, h2, h3⟩
    · rw [h0, Cert.BackReferenceIdeal.Read.val_main_v120_eq, (hagree c).1, (hagree c).2]
    · rw [h1, Cert.BackReferenceIdeal.Read.val_main_v109_eq, (hagree c).1, (hagree c).2]

end Cert.Back

namespace Cert.Proof

open Idealize.ShloMosaic Idealize.SL.Sem

theorem algebraic_back : Cert.algebraic_BackIdeal_BackReferenceIdeal_on_prompt_rows := Cert.Back.algebraic

/-- The backward scan's reference is a straight-line host program without semaphores: its run keeps the arguments. -/
theorem frame_backReference : Cert.quiescent_BackReferenceIdeal := by
  intro m g _
  exact (θ_run Cert.BackReferenceIdeal.defs _ _).mono (fun r h => ⟨fun c => (h c).2.2,
      Idealize.ShloMosaic.sem_eq_zero_of_no_sems (by decide) r.2⟩)
    (Cert.BackReferenceIdeal.Value.run (F := Ideal) m g)

end Cert.Proof

end
-- ==== Proof.HgrnSpec.lean ====
/- The gated recurrence with a forget gate, for one sequence and one head, as an instance of the recurrence of `Cert.Scan`:
   the gate lies between its lower bound and one, the key is one minus the gate, and the query passes through the
   product with its logistic function. -/
module

public import proofs.«01_k».proof.Proof.Spec

@[expose] public section

noncomputable section

namespace Cert.Scan

open Idealize.ShloMosaic

/-- The number one. -/
abbrev one : EReal := Ideal.ofBits .f32 0x3F800000#32

/-- The logistic function. -/
def logi (z : EReal) : EReal := Ideal.div one (one + Ideal.exp (-z))

/-- The forget gate of logit `z` with lower bound `l`. -/
def forget (l z : EReal) : EReal := l + (one - l) * logi z

/-- The scaled query of the projection's entry `z`. -/
def query (z : EReal) : EReal := z * logi z * Ideal.ofBits .f32 0x3DB504F3#32

section
variable (x : (⟨2, ![24576, 10240]⟩ : Shape).Idx → EReal) (lb : (⟨3, ![2, 1, 2048]⟩ : Shape).Idx → EReal)
variable (b : Fin 32) (h : Fin 16)

/-- Column `d` of head `h`. -/
def hcol (d : Fin 128) : Fin 2048 := ⟨128 * h.val + d.val, by omega⟩

/-- The query's projection in column `c`. -/
def hqIn (p : Fin 256) (c : Fin 2048) : EReal := x (ix2 (row b p) ⟨c.val, by omega⟩)

/-- The gate's logit in column `c`. -/
def hfIn (p : Fin 256) (c : Fin 2048) : EReal := x (ix2 (row b p) ⟨2048 + c.val, by omega⟩)

/-- The value in column `c`. -/
def hvIn (p : Fin 256) (c : Fin 2048) : EReal := x (ix2 (row b p) ⟨6144 + c.val, by omega⟩)

/-- The gate's lower bound in column `c`. -/
def hbIn (c : Fin 2048) : EReal := lb (ix3 0 0 c)

/-- The scaled queries. -/
def hgQ (n : ℕ) (i : Fin 64) (d : Fin 128) : EReal := query (hqIn x b (pos 256 n i) (hcol h d))

/-- The keys. -/
def hgK (n : ℕ) (i : Fin 64) (d : Fin 128) : EReal := one - forget (hbIn lb (hcol h d)) (hfIn x b (pos 256 n i) (hcol h d))

/-- The log decays. -/
def hgL (n : ℕ) (i : Fin 64) (d : Fin 128) : EReal := Ideal.log (forget (hbIn lb (hcol h d)) (hfIn x b (pos 256 n i) (hcol h d)))

/-- The values. -/
def hgV (n : ℕ) (i : Fin 64) (e : Fin 128) : EReal := hvIn x b (pos 256 n i) (hcol h e)

/-- The recurrence's output at position `i` of chunk `n`. -/
def hgOut (n : ℕ) (i : Fin 64) (e : Fin 128) : EReal :=
  out (hgQ x b h) (hgK x lb b h) (hgL x lb b h) (hgV x b h) (fun _ _ => 0) n i e

/-- The recurrence's state after `n` chunks. -/
def hgState (n : ℕ) (d : Fin 128) (e : Fin 128) : EReal := state (hgK x lb b h) (hgL x lb b h) (hgV x b h) (fun _ _ => 0) n d e
end

end Cert.Scan

end
-- ==== Proof.HgrnChunk.lean ====
/- The chunk functions of the recurrence with a forget gate, for one head, read at an index: they are the recurrence of
   `Cert.Scan`. A block holds four heads of 128 columns; `o` is the head's first column in the block. -/
module

public import proofs.«01_k».proof.Proof.HgrnSpec
public import proofs.«01_k».proof.Proof.Gen.HgrnIdeal.Skeleton
public import proofs.«01_k».proof.Proof.KernelChunk
public import Idealize.ShloMosaic.Lib.Pointwise
public import Idealize.ShloMosaic.PureOps.Ideal.Laws

@[expose] public section

set_option maxRecDepth 16384

noncomputable section

namespace Cert.HgrnIdeal.Chunk

open Cert.HgrnIdeal Cert.HgrnIdeal.Gen Idealize.ShloMosaic Cert.Scan
open Cert.KernelIdeal.Chunk (ge_bit tri_apply)

variable (o : ℕ) (hs : S64x512.Slices ![0, o] S64x128) (h1 : S1x512.Slices ![0, o] S1x128)

/-- A chunk's contribution to its own output. -/
def intraH (q f v : Vec Ideal S1x64x512 .f32) (lb : Vec Ideal S1x1x512 .f32) : FVec Ideal S64x128 .f32 :=
  matmul dot_S64x64_S64x128_S64x128_1_0_0_1_n_n none
    (truncf .bf16 (select k0_pay5 (matmul dot_S64x128_S64x128_S64x64_1_1_0_0_n_n none
      (extractStridedSlice S64x128 ![0, o] (k0_pay16 k0_pay6 (k0_pay7 q) (k0_pay10 f lb) (k0_pay11 q)) hs)
      (extractStridedSlice S64x128 ![0, o] (k0_pay17 k0_pay6 (k0_pay9 f lb) (k0_pay10 f lb)) hs)
      (constant S64x64 .f32 0x00000000#32)) (broadcast S64x64 (Scalar.ofBits .f32 0x00000000#32))) bitsLt_bf16_f32)
    (extractStridedSlice S64x128 ![0, o] (k0_pay21 v) hs) (constant S64x128 .f32 0x00000000#32)

/-- The state after a chunk, from the state `S` before it; the state is held transposed. -/
def stepH (f v : Vec Ideal S1x64x512 .f32) (lb : Vec Ideal S1x1x512 .f32) (S : FVec Ideal S128x128 .f32) : FVec Ideal S128x128 .f32 :=
  addf (mulf S (broadcastTo S128x128 (extractStridedSlice S1x128 ![0, o] (k0_pay20 k0_pay6 (k0_pay10 f lb)) h1) broadcasts_S1x128_S128x128))
    (matmul dot_S64x128_S64x128_S128x128_0_0_1_1_n_n none (extractStridedSlice S64x128 ![0, o] (k0_pay21 v) hs)
      (extractStridedSlice S64x128 ![0, o] (k0_pay19 k0_pay6 (k0_pay9 f lb) (k0_pay10 f lb)) hs) (constant S128x128 .f32 0x00000000#32))

/-- What the state before a chunk contributes to the chunk's output. -/
def interH (q f : Vec Ideal S1x64x512 .f32) (lb : Vec Ideal S1x1x512 .f32) (S : FVec Ideal S128x128 .f32) : FVec Ideal S64x128 .f32 :=
  matmul dot_S64x128_S128x128_S64x128_1_1_0_0_n_n none
    (extractStridedSlice S64x128 ![0, o] (k0_pay18 k0_pay6 (k0_pay7 q) (k0_pay10 f lb) (k0_pay11 q)) hs) (truncf .bf16 S bitsLt_bf16_f32)
    (constant S64x128 .f32 0x00000000#32)

/-- One chunk's output from the state before it. -/
def outH (q f v : Vec Ideal S1x64x512 .f32) (lb : Vec Ideal S1x1x512 .f32) (S : FVec Ideal S128x128 .f32) : FVec Ideal S64x128 .f32 :=
  addf (intraH o hs q f v lb) (interH o hs q f lb S)

/-- Column `d` of the head in the block. -/
def col (ho : o ≤ 384) (d : Fin 128) : Fin 512 := ⟨o + d.val, by omega⟩

section
variable {et : EltTy}
theorem slice_apply (ho : o ≤ 384) (x : S64x512.Idx → Elt Ideal et) (i : Fin 64) (d : Fin 128) :
    extractStridedSlice S64x128 ![0, o] x hs (ix2 i d) = x (ix2 i (col o ho d)) := by
  pointwise [col]

theorem slice1_apply (ho : o ≤ 384) (x : S1x512.Idx → Elt Ideal et) (d : Fin 128) :
    extractStridedSlice S1x128 ![0, o] x h1 (ix2 0 d) = x (ix2 0 (col o ho d)) := by
  pointwise [col]
end

variable (q f v : Vec Ideal S1x64x512 .f32) (lb : Vec Ideal S1x1x512 .f32)

theorem forget_apply (i : Fin 64) (c : Fin 512) : k0_pay8 f lb (ix2 i c) = forget (lb (ix3 0 0 c)) (f (ix3 0 i c)) := by
  pointwise [k0_pay8, forget, logi, zero_sub, Ideal.ofBits_one_f32]

theorem key_apply (i : Fin 64) (c : Fin 512) : k0_pay9 f lb (ix2 i c) = one - forget (lb (ix3 0 0 c)) (f (ix3 0 i c)) := by
  rw [← forget_apply]
  pointwise [k0_pay9]

theorem log_apply (i : Fin 64) (c : Fin 512) : k0_pay10 f lb (ix2 i c) = Ideal.log (forget (lb (ix3 0 0 c)) (f (ix3 0 i c))) := by
  rw [← forget_apply]
  pointwise [k0_pay10]

theorem query_apply (i : Fin 64) (c : Fin 512) : k0_pay12 (k0_pay7 q) (k0_pay11 q) (ix2 i c) = query (q (ix3 0 i c)) := by
  pointwise [k0_pay12, k0_pay7, k0_pay11, query, logi, zero_sub, Ideal.ofBits_one_f32]

variable (ho : o ≤ 384)
variable (Q K L V : ℕ → Fin 64 → Fin 128 → EReal) (n : ℕ)

theorem cumH_apply (hl : ∀ i d, Ideal.log (forget (lb (ix3 0 0 (col o ho d))) (f (ix3 0 i (col o ho d)))) = L n i d) (i : Fin 64) (d : Fin 128) :
    k0_pay13 k0_pay6 (k0_pay10 f lb) (ix2 i (col o ho d)) = cum L n i d := by
  have e : ∀ j, k0_pay10 f lb (ix2 j (col o ho d)) = L n j d := fun j => by rw [log_apply, hl]
  generalize k0_pay10 f lb = y at e
  pointwise [k0_pay13, k0_pay6, k0_pay5]
  refine Finset.sum_congr rfl fun j _ => ?_
  rw [tri_apply, e]
  by_cases h : j ≤ i
  · rw [if_pos h, if_pos h, one_mul]
  · rw [if_neg h, if_neg h, zero_mul]

theorem qe_apply (hq : ∀ i d, query (q (ix3 0 i (col o ho d))) = Q n i d)
    (hl : ∀ i d, Ideal.log (forget (lb (ix3 0 0 (col o ho d))) (f (ix3 0 i (col o ho d)))) = L n i d) (i : Fin 64) (d : Fin 128) :
    k0_pay16 k0_pay6 (k0_pay7 q) (k0_pay10 f lb) (k0_pay11 q) (ix2 i (col o ho d)) = Q n i d * Ideal.exp (cum L n i d - cum L n 32 d) := by
  rw [← cumH_apply o f lb ho L n hl, ← cumH_apply o f lb ho L n hl, ← hq, ← query_apply]
  generalize k0_pay10 f lb = y
  generalize col o ho d = c
  pointwise [k0_pay16, k0_pay14]

theorem ke_apply (hk : ∀ i d, one - forget (lb (ix3 0 0 (col o ho d))) (f (ix3 0 i (col o ho d))) = K n i d)
    (hl : ∀ i d, Ideal.log (forget (lb (ix3 0 0 (col o ho d))) (f (ix3 0 i (col o ho d)))) = L n i d) (i : Fin 64) (d : Fin 128) :
    k0_pay17 k0_pay6 (k0_pay9 f lb) (k0_pay10 f lb) (ix2 i (col o ho d)) = K n i d * Ideal.exp (cum L n 32 d - cum L n i d) := by
  rw [← cumH_apply o f lb ho L n hl, ← cumH_apply o f lb ho L n hl, ← hk, ← key_apply]
  generalize k0_pay10 f lb = y
  generalize k0_pay9 f lb = z
  generalize col o ho d = c
  pointwise [k0_pay17, k0_pay14]

theorem qi_apply (hq : ∀ i d, query (q (ix3 0 i (col o ho d))) = Q n i d)
    (hl : ∀ i d, Ideal.log (forget (lb (ix3 0 0 (col o ho d))) (f (ix3 0 i (col o ho d)))) = L n i d) (i : Fin 64) (d : Fin 128) :
    k0_pay18 k0_pay6 (k0_pay7 q) (k0_pay10 f lb) (k0_pay11 q) (ix2 i (col o ho d)) = Q n i d * Ideal.exp (cum L n i d) := by
  rw [← cumH_apply o f lb ho L n hl, ← hq, ← query_apply]
  generalize k0_pay10 f lb = y
  generalize col o ho d = c
  pointwise [k0_pay18]

theorem ku_apply (hk : ∀ i d, one - forget (lb (ix3 0 0 (col o ho d))) (f (ix3 0 i (col o ho d))) = K n i d)
    (hl : ∀ i d, Ideal.log (forget (lb (ix3 0 0 (col o ho d))) (f (ix3 0 i (col o ho d)))) = L n i d) (i : Fin 64) (d : Fin 128) :
    k0_pay19 k0_pay6 (k0_pay9 f lb) (k0_pay10 f lb) (ix2 i (col o ho d)) = K n i d * Ideal.exp (cum L n 63 d - cum L n i d) := by
  rw [← cumH_apply o f lb ho L n hl, ← cumH_apply o f lb ho L n hl, ← hk, ← key_apply]
  generalize k0_pay10 f lb = y
  generalize k0_pay9 f lb = z
  generalize col o ho d = c
  pointwise [k0_pay19, k0_pay15]

theorem dec_apply (hl : ∀ i d, Ideal.log (forget (lb (ix3 0 0 (col o ho d))) (f (ix3 0 i (col o ho d)))) = L n i d) (d : Fin 128) :
    k0_pay20 k0_pay6 (k0_pay10 f lb) (ix2 0 (col o ho d)) = Ideal.exp (cum L n 63 d) := by
  rw [← cumH_apply o f lb ho L n hl]
  generalize k0_pay10 f lb = y
  generalize col o ho d = c
  pointwise [k0_pay20, k0_pay15]

theorem val_apply (hv : ∀ i e, v (ix3 0 i (col o ho e)) = V n i e) (i : Fin 64) (e : Fin 128) :
    k0_pay21 v (ix2 i (col o ho e)) = V n i e := by
  rw [← hv]
  generalize col o ho e = c
  pointwise [k0_pay21]

theorem intraH_apply (hq : ∀ i d, query (q (ix3 0 i (col o ho d))) = Q n i d)
    (hk : ∀ i d, one - forget (lb (ix3 0 0 (col o ho d))) (f (ix3 0 i (col o ho d))) = K n i d)
    (hl : ∀ i d, Ideal.log (forget (lb (ix3 0 0 (col o ho d))) (f (ix3 0 i (col o ho d)))) = L n i d)
    (hv : ∀ i e, v (ix3 0 i (col o ho e)) = V n i e) (i : Fin 64) (e : Fin 128) :
    intraH o hs q f v lb (ix2 i e) = intra Q K L V n i e := by
  have e1 : ∀ i d, extractStridedSlice S64x128 ![0, o] (k0_pay16 k0_pay6 (k0_pay7 q) (k0_pay10 f lb) (k0_pay11 q)) hs (ix2 i d) = Q n i d * Ideal.exp (cum L n i d - cum L n 32 d) :=
    fun i d => (slice_apply (et := .bf16) o hs ho _ i d).trans (qe_apply o q f lb ho Q L n hq hl i d)
  have e2 : ∀ i d, extractStridedSlice S64x128 ![0, o] (k0_pay17 k0_pay6 (k0_pay9 f lb) (k0_pay10 f lb)) hs (ix2 i d) = K n i d * Ideal.exp (cum L n 32 d - cum L n i d) :=
    fun i d => (slice_apply (et := .bf16) o hs ho _ i d).trans (ke_apply o f lb ho K L n hk hl i d)
  have e3 : ∀ i d, extractStridedSlice S64x128 ![0, o] (k0_pay21 v) hs (ix2 i d) = V n i d :=
    fun i d => (slice_apply (et := .bf16) o hs ho _ i d).trans (val_apply o v ho V n hv i d)
  unfold intraH
  generalize extractStridedSlice S64x128 ![0, o] (k0_pay16 k0_pay6 (k0_pay7 q) (k0_pay10 f lb) (k0_pay11 q)) hs = y1 at e1
  generalize extractStridedSlice S64x128 ![0, o] (k0_pay17 k0_pay6 (k0_pay9 f lb) (k0_pay10 f lb)) hs = y2 at e2
  generalize extractStridedSlice S64x128 ![0, o] (k0_pay21 v) hs = y3 at e3
  pointwise [k0_pay5]
  unfold intra score
  refine Finset.sum_congr rfl fun j _ => ?_
  simp only [e1, e2, e3]
  rw [ge_bit]
  by_cases h : j ≤ i
  · rw [if_pos h, if_pos h]; rfl
  · rw [if_neg h, if_neg h, zero_mul]; rfl

theorem stepH_apply (hk : ∀ i d, one - forget (lb (ix3 0 0 (col o ho d))) (f (ix3 0 i (col o ho d))) = K n i d)
    (hl : ∀ i d, Ideal.log (forget (lb (ix3 0 0 (col o ho d))) (f (ix3 0 i (col o ho d)))) = L n i d)
    (hv : ∀ i e, v (ix3 0 i (col o ho e)) = V n i e) (S : FVec Ideal S128x128 .f32) (s : Fin 128 → Fin 128 → EReal)
    (hS : ∀ d e, S (ix2 e d) = state K L V s n d e) (d : Fin 128) (e : Fin 128) :
    stepH o hs h1 f v lb S (ix2 e d) = state K L V s (n + 1) d e := by
  have e1 : ∀ d, extractStridedSlice S1x128 ![0, o] (k0_pay20 k0_pay6 (k0_pay10 f lb)) h1 (ix2 0 d) = Ideal.exp (cum L n 63 d) :=
    fun d => (slice1_apply (et := .f32) o h1 ho _ d).trans (dec_apply o f lb ho L n hl d)
  have e2 : ∀ i d, extractStridedSlice S64x128 ![0, o] (k0_pay19 k0_pay6 (k0_pay9 f lb) (k0_pay10 f lb)) hs (ix2 i d) = K n i d * Ideal.exp (cum L n 63 d - cum L n i d) :=
    fun i d => (slice_apply (et := .bf16) o hs ho _ i d).trans (ku_apply o f lb ho K L n hk hl i d)
  have e3 : ∀ i d, extractStridedSlice S64x128 ![0, o] (k0_pay21 v) hs (ix2 i d) = V n i d :=
    fun i d => (slice_apply (et := .bf16) o hs ho _ i d).trans (val_apply o v ho V n hv i d)
  unfold stepH
  generalize extractStridedSlice S1x128 ![0, o] (k0_pay20 k0_pay6 (k0_pay10 f lb)) h1 = y1 at e1
  generalize extractStridedSlice S64x128 ![0, o] (k0_pay19 k0_pay6 (k0_pay9 f lb) (k0_pay10 f lb)) hs = y2 at e2
  generalize extractStridedSlice S64x128 ![0, o] (k0_pay21 v) hs = y3 at e3
  pointwise
  simp only [hS, e1, e2, e3, state]
  exact congrArg _ (Finset.sum_congr rfl fun j _ => mul_comm _ _)

theorem interH_apply (hq : ∀ i d, query (q (ix3 0 i (col o ho d))) = Q n i d)
    (hl : ∀ i d, Ideal.log (forget (lb (ix3 0 0 (col o ho d))) (f (ix3 0 i (col o ho d)))) = L n i d)
    (S : FVec Ideal S128x128 .f32) (s : Fin 128 → Fin 128 → EReal)
    (hS : ∀ d e, S (ix2 e d) = state K L V s n d e) (i : Fin 64) (e : Fin 128) :
    interH o hs q f lb S (ix2 i e) = inter Q K L V s n i e := by
  have e1 : ∀ i d, extractStridedSlice S64x128 ![0, o] (k0_pay18 k0_pay6 (k0_pay7 q) (k0_pay10 f lb) (k0_pay11 q)) hs (ix2 i d) = Q n i d * Ideal.exp (cum L n i d) :=
    fun i d => (slice_apply (et := .bf16) o hs ho _ i d).trans (qi_apply o q f lb ho Q L n hq hl i d)
  unfold interH
  generalize extractStridedSlice S64x128 ![0, o] (k0_pay18 k0_pay6 (k0_pay7 q) (k0_pay10 f lb) (k0_pay11 q)) hs = y1 at e1
  pointwise
  simp only [hS, e1, inter]

end Cert.HgrnIdeal.Chunk

end
-- ==== Proof.HgrnBlock.lean ====
/- What the kernel's body leaves in its two output blocks, as the chunk functions of `HgrnChunk` applied to four chunks and
   four heads, and those blocks read at an index. -/
module

public import proofs.«01_k».proof.Proof.HgrnChunk
public import proofs.«01_k».proof.Proof.Gen.HgrnIdeal.Value
public import Idealize.ShloMosaic.Lib.Tactic

@[expose] public section

set_option maxRecDepth 16384

noncomputable section

namespace Cert.HgrnIdeal.Chunk

open Cert.HgrnIdeal Cert.HgrnIdeal.Gen Idealize.ShloMosaic Idealize.ShloMosaic.TcCoe Cert.Scan
open Idealize.ShloMosaic.Pipeline (Dat)

/-- The 64 rows of a block that start at row `n`. -/
def part (x : Vec Ideal S1x256x512 .f32) (n : ℕ) (h : ∀ a, (![0, n, 0] : Fin 3 → ℕ) a + S1x64x512.size a ≤ S1x256x512.size a) :
    Vec Ideal S1x64x512 .f32 :=
  View.ld x (Rect.unit (s := S1x256x512) ![0, n, 0] S1x64x512.size h)

theorem part_pos (x : Vec Ideal S1x256x512 .f32) (n : ℕ) (hn : n < 4) (h) (i : Fin 64) (d : Fin 512) :
    part x (64 * n) h (ix3 0 i d) = x (ix3 0 (pos 256 n i) d) := by
  rw [pos_eq 256 n i (by omega)]
  pointwise [part]

/-- The state before the first chunk: zero. -/
def S0 : FVec Ideal S128x128 .f32 := shapeCast S128x128 (k0_pay1 (F := Ideal)) shapeCasts_S1x128x128_S128x128

section
variable (o : ℕ) (hs : S64x512.Slices ![0, o] S64x128) (h1 : S1x512.Slices ![0, o] S1x128)
variable (x0 x1 x2 : Vec Ideal S1x256x512 .f32) (x3 : Vec Ideal S1x1x512 .f32)

/-- The head's state after 1 chunk. -/
def S1 : FVec Ideal S128x128 .f32 := stepH o hs h1 (part x1 0 inb_S1x256x512_S1x64x512_0_0_0) (part x2 0 inb_S1x256x512_S1x64x512_0_0_0) x3 S0

/-- The head's state after 2 chunks. -/
def S2 : FVec Ideal S128x128 .f32 := stepH o hs h1 (part x1 64 inb_S1x256x512_S1x64x512_0_64_0) (part x2 64 inb_S1x256x512_S1x64x512_0_64_0) x3 (S1 o hs h1 x1 x2 x3)

/-- The head's state after 3 chunks. -/
def S3 : FVec Ideal S128x128 .f32 := stepH o hs h1 (part x1 128 inb_S1x256x512_S1x64x512_0_128_0) (part x2 128 inb_S1x256x512_S1x64x512_0_128_0) x3 (S2 o hs h1 x1 x2 x3)

/-- The head's state after 4 chunks. -/
def S4 : FVec Ideal S128x128 .f32 := stepH o hs h1 (part x1 192 inb_S1x256x512_S1x64x512_0_192_0) (part x2 192 inb_S1x256x512_S1x64x512_0_192_0) x3 (S3 o hs h1 x1 x2 x3)

/-- The head's output in chunk 0. -/
def O0 : FVec Ideal S64x128 .f32 := outH o hs (part x0 0 inb_S1x256x512_S1x64x512_0_0_0) (part x1 0 inb_S1x256x512_S1x64x512_0_0_0) (part x2 0 inb_S1x256x512_S1x64x512_0_0_0) x3 S0

/-- The head's output in chunk 1. -/
def O1 : FVec Ideal S64x128 .f32 := outH o hs (part x0 64 inb_S1x256x512_S1x64x512_0_64_0) (part x1 64 inb_S1x256x512_S1x64x512_0_64_0) (part x2 64 inb_S1x256x512_S1x64x512_0_64_0) x3 (S1 o hs h1 x1 x2 x3)

/-- The head's output in chunk 2. -/
def O2 : FVec Ideal S64x128 .f32 := outH o hs (part x0 128 inb_S1x256x512_S1x64x512_0_128_0) (part x1 128 inb_S1x256x512_S1x64x512_0_128_0) (part x2 128 inb_S1x256x512_S1x64x512_0_128_0) x3 (S2 o hs h1 x1 x2 x3)

/-- The head's output in chunk 3. -/
def O3 : FVec Ideal S64x128 .f32 := outH o hs (part x0 192 inb_S1x256x512_S1x64x512_0_192_0) (part x1 192 inb_S1x256x512_S1x64x512_0_192_0) (part x2 192 inb_S1x256x512_S1x64x512_0_192_0) x3 (S3 o hs h1 x1 x2 x3)

end

variable (x0 x1 x2 : Vec Ideal S1x256x512 .f32) (x3 : Vec Ideal S1x1x512 .f32)

/-- Four heads' outputs side by side. -/
def side (y0 y1 y2 y3 : FVec Ideal S64x128 .f32) : FVec Ideal S64x512 .f32 :=
  concatenate S64x512 1 [⟨S64x128, y0⟩, ⟨S64x128, y1⟩, ⟨S64x128, y2⟩, ⟨S64x128, y3⟩] concatenates_S64x128_S64x128_S64x128_S64x128_S64x512_d1

/-- The four heads' outputs in chunk 0, side by side. -/
def C0 : FVec Ideal S64x512 .f32 := side (O0 0 slices_S64x512_o0_0_S64x128 x0 x1 x2 x3)
  (O0 128 slices_S64x512_o0_128_S64x128 x0 x1 x2 x3)
  (O0 256 slices_S64x512_o0_256_S64x128 x0 x1 x2 x3)
  (O0 384 slices_S64x512_o0_384_S64x128 x0 x1 x2 x3)

/-- The four heads' outputs in chunk 1, side by side. -/
def C1 : FVec Ideal S64x512 .f32 := side (O1 0 slices_S64x512_o0_0_S64x128 slices_S1x512_o0_0_S1x128 x0 x1 x2 x3)
  (O1 128 slices_S64x512_o0_128_S64x128 slices_S1x512_o0_128_S1x128 x0 x1 x2 x3)
  (O1 256 slices_S64x512_o0_256_S64x128 slices_S1x512_o0_256_S1x128 x0 x1 x2 x3)
  (O1 384 slices_S64x512_o0_384_S64x128 slices_S1x512_o0_384_S1x128 x0 x1 x2 x3)

/-- The four heads' outputs in chunk 2, side by side. -/
def C2 : FVec Ideal S64x512 .f32 := side (O2 0 slices_S64x512_o0_0_S64x128 slices_S1x512_o0_0_S1x128 x0 x1 x2 x3)
  (O2 128 slices_S64x512_o0_128_S64x128 slices_S1x512_o0_128_S1x128 x0 x1 x2 x3)
  (O2 256 slices_S64x512_o0_256_S64x128 slices_S1x512_o0_256_S1x128 x0 x1 x2 x3)
  (O2 384 slices_S64x512_o0_384_S64x128 slices_S1x512_o0_384_S1x128 x0 x1 x2 x3)

/-- The four heads' outputs in chunk 3, side by side. -/
def C3 : FVec Ideal S64x512 .f32 := side (O3 0 slices_S64x512_o0_0_S64x128 slices_S1x512_o0_0_S1x128 x0 x1 x2 x3)
  (O3 128 slices_S64x512_o0_128_S64x128 slices_S1x512_o0_128_S1x128 x0 x1 x2 x3)
  (O3 256 slices_S64x512_o0_256_S64x128 slices_S1x512_o0_256_S1x128 x0 x1 x2 x3)
  (O3 384 slices_S64x512_o0_384_S64x128 slices_S1x512_o0_384_S1x128 x0 x1 x2 x3)

/-- The output block: the four chunks' outputs, one below the other. -/
def blockO : Vec Ideal S1x256x512 .f32 :=
  shapeCast S1x256x512 (concatenate S256x512 0 [⟨S64x512, C0 x0 x1 x2 x3⟩, ⟨S64x512, C1 x0 x1 x2 x3⟩, ⟨S64x512, C2 x0 x1 x2 x3⟩, ⟨S64x512, C3 x0 x1 x2 x3⟩]
    concatenates_S64x512_S64x512_S64x512_S64x512_S256x512_d0) shapeCasts_S256x512_S1x256x512

/-- One head's state as the body stores it. -/
def stored (S : FVec Ideal S128x128 .f32) : FVec Ideal S1x1x128x128 .f32 :=
  k0_pay172 (F := Ideal) (shapeCast S1x128x128 S shapeCasts_S128x128_S1x128x128)

/-- The state block: the four heads' states after the fourth chunk. -/
def blockS : Vec Ideal S1x4x128x128 .f32 :=
  View.canon (Val := Elt Ideal) (s := S1x4x128x128) (e := .f32)
    [⟨Rect.unit (s := S1x4x128x128) ![0, 3, 0, 0] S1x1x128x128.size inb_S1x4x128x128_S1x1x128x128_0_3_0_0, stored (S4 384 slices_S64x512_o0_384_S64x128 slices_S1x512_o0_384_S1x128 x1 x2 x3)⟩,
     ⟨Rect.unit (s := S1x4x128x128) ![0, 2, 0, 0] S1x1x128x128.size inb_S1x4x128x128_S1x1x128x128_0_2_0_0, stored (S4 256 slices_S64x512_o0_256_S64x128 slices_S1x512_o0_256_S1x128 x1 x2 x3)⟩,
     ⟨Rect.unit (s := S1x4x128x128) ![0, 1, 0, 0] S1x1x128x128.size inb_S1x4x128x128_S1x1x128x128_0_1_0_0, stored (S4 128 slices_S64x512_o0_128_S64x128 slices_S1x512_o0_128_S1x128 x1 x2 x3)⟩,
     ⟨Rect.unit (s := S1x4x128x128) ![0, 0, 0, 0] S1x1x128x128.size inb_S1x4x128x128_S1x1x128x128_0_0_0_0, stored (S4 0 slices_S64x512_o0_0_S64x128 slices_S1x512_o0_0_S1x128 x1 x2 x3)⟩]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable {sg : RefSig} {κ : Kind} {sp : Space} (w : View sg κ sp S4x128x128 .f32)

/-- A head's state read back past the store of another head's. -/
theorem read_past (a a' : ℕ) (h : a ≠ a') (inb : ∀ i, (![a, 0, 0] : Fin 3 → ℕ) i + S1x128x128.size i ≤ S4x128x128.size i)
    (inb' : ∀ i, (![a', 0, 0] : Fin 3 → ℕ) i + S1x128x128.size i ≤ S4x128x128.size i) (y : S1x128x128.Idx → Elt Ideal .f32)
    (L : List (View.Piece (Elt Ideal) S4x128x128 .f32)) :
    w.readCov ((⟨Rect.unit (s := S4x128x128) ![a, 0, 0] S1x128x128.size inb, y⟩ : View.Piece (Elt Ideal) S4x128x128 .f32) :: L)
      (Rect.unit (s := S4x128x128) ![a', 0, 0] S1x128x128.size inb').toLoadRect
      = w.readCov L (Rect.unit (s := S4x128x128) ![a', 0, 0] S1x128x128.size inb').toLoadRect :=
  View.readCov_cons_of_disjoint w _ L _ (Rect.unit_disjoint (inb := inb) (inb' := inb') 0 (by
    show a + 1 ≤ a' ∨ a' + 1 ≤ a
    omega))

end

set_option maxHeartbeats 8000000 in
theorem out_eq (c : Dev nD) (i : grid0.Coords) (a3 : Memref sig .tc .vmem S1x256x512 .f32) (h3 : a3.IsWhole)
    (a4 : Memref sig .tc .vmem S1x256x512 .f32) (h4 : a4.IsWhole) (a5 : Memref sig .tc .vmem S1x256x512 .f32) (h5 : a5.IsWhole)
    (a6 : Memref sig .tc .vmem S1x1x512 .f32) (h6 : a6.IsWhole) (a7 : Memref sig .tc .vmem S1x256x512 .f32) (h7 : a7.IsWhole)
    (a8 : Memref sig .tc .vmem S1x4x128x128 .f32) (h8 : a8.IsWhole) (a9 : Memref sig .tc .vmem S4x128x128 .f32) (h9 : a9.IsWhole)
    (hc0 : _) (hc1 : _) :
    out0_A_4 c i a3 h3 a4 h4 a5 h5 a6 h6 a7 h7 a8 h8 a9 h9 hc0 hc1 x0 x1 x2 x3 = blockO x0 x1 x2 x3 ∧ out0_A_5 c i a3 h3 a4 h4 a5 h5 a6 h6 a7 h7 a8 h8 a9 h9 hc0 hc1 x0 x1 x2 x3 = blockS x1 x2 x3 := by
  refine ⟨?_, ?_⟩
  on_goal 1 =>
    unfold out0_A_4
    rw [View.read_writes_eq_canon _ _ _ (cover0_A_4 c i a3 h3 a4 h4 a5 h5 a6 h6 a7 h7 a8 h8 a9 h9 hc0 hc1 x0 x1 x2 x3)]
    unfold kernelRun0_A
    dsimp only
    sl_unfold_words
    rw [View.canon_unit_zero hz3]
  on_goal 2 =>
    unfold out0_A_5
    rw [View.read_writes_eq_canon _ _ _ (cover0_A_5 c i a3 h3 a4 h4 a5 h5 a6 h6 a7 h7 a8 h8 a9 h9 hc0 hc1 x0 x1 x2 x3)]
    unfold kernelRun0_A
    dsimp only
    sl_unfold_words
  all_goals
    simp only [View.readCov_cons_toLoadRect, read_past _ 3 2 (by decide), read_past _ 3 1 (by decide), read_past _ 3 0 (by decide), read_past _ 2 1 (by decide),
      read_past _ 2 0 (by decide), read_past _ 1 0 (by decide), View.readAt_eq_ld, h3.read_unread, h4.read_unread, h5.read_unread, h6.read_unread,
      View.ld_unit_zero (S := S1x1x512) hz3]
    simp only [blockO, blockS, stored, side, C0, O0, S0, C1, O1, S1, C2, O2, S2, C3, O3, S3, S4, outH, intraH, interH, stepH, part,
      k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175]

/-! ## The blocks at an index -/

section
variable (o : ℕ) (hs : S64x512.Slices ![0, o] S64x128) (h1 : S1x512.Slices ![0, o] S1x128) (ho : o ≤ 384)
variable (Q K L V : ℕ → Fin 64 → Fin 128 → EReal)
variable (hq : ∀ n i d, query (x0 (ix3 0 (pos 256 n i) (col o ho d))) = Q n i d)
variable (hk : ∀ n i d, one - forget (x3 (ix3 0 0 (col o ho d))) (x1 (ix3 0 (pos 256 n i) (col o ho d))) = K n i d)
variable (hl : ∀ n i d, Ideal.log (forget (x3 (ix3 0 0 (col o ho d))) (x1 (ix3 0 (pos 256 n i) (col o ho d)))) = L n i d)
variable (hv : ∀ n i e, x2 (ix3 0 (pos 256 n i) (col o ho e)) = V n i e)

include hk hl hv

theorem step_apply (n : ℕ) (hn : n < 4) (h h') (S : FVec Ideal S128x128 .f32)
    (hS : ∀ d e, S (ix2 e d) = state K L V (fun _ _ => 0) n d e) (d e : Fin 128) :
    stepH o hs h1 (part x1 (64 * n) h) (part x2 (64 * n) h') x3 S (ix2 e d) = state K L V (fun _ _ => 0) (n + 1) d e :=
  stepH_apply o hs h1 _ _ x3 ho K L V n (fun i d => by rw [part_pos x1 n hn, hk]) (fun i d => by rw [part_pos x1 n hn, hl])
    (fun i e => by rw [part_pos x2 n hn, hv]) S _ hS d e

omit hk hl hv in
theorem S0_apply (d e : Fin 128) : S0 (ix2 e d) = state K L V (fun _ _ => 0) 0 d e := by
  pointwise [S0, k0_pay1, state]

theorem S1_apply (d e : Fin 128) : S1 o hs h1 x1 x2 x3 (ix2 e d) = state K L V (fun _ _ => 0) 1 d e :=
  step_apply x1 x2 x3 o hs h1 ho K L V hk hl hv 0 (by decide) _ _ _ (S0_apply K L V) d e

theorem S2_apply (d e : Fin 128) : S2 o hs h1 x1 x2 x3 (ix2 e d) = state K L V (fun _ _ => 0) 2 d e :=
  step_apply x1 x2 x3 o hs h1 ho K L V hk hl hv 1 (by decide) _ _ _ (S1_apply x1 x2 x3 o hs h1 ho K L V hk hl hv) d e

theorem S3_apply (d e : Fin 128) : S3 o hs h1 x1 x2 x3 (ix2 e d) = state K L V (fun _ _ => 0) 3 d e :=
  step_apply x1 x2 x3 o hs h1 ho K L V hk hl hv 2 (by decide) _ _ _ (S2_apply x1 x2 x3 o hs h1 ho K L V hk hl hv) d e

theorem S4_apply (d e : Fin 128) : S4 o hs h1 x1 x2 x3 (ix2 e d) = state K L V (fun _ _ => 0) 4 d e :=
  step_apply x1 x2 x3 o hs h1 ho K L V hk hl hv 3 (by decide) _ _ _ (S3_apply x1 x2 x3 o hs h1 ho K L V hk hl hv) d e

include hq

theorem outH_apply (n : ℕ) (hn : n < 4) (h h' h'') (S : FVec Ideal S128x128 .f32)
    (hS : ∀ d e, S (ix2 e d) = state K L V (fun _ _ => 0) n d e) (i : Fin 64) (e : Fin 128) :
    outH o hs (part x0 (64 * n) h) (part x1 (64 * n) h') (part x2 (64 * n) h'') x3 S (ix2 i e) = out Q K L V (fun _ _ => 0) n i e := by
  have e0 : ∀ i d, query (part x0 (64 * n) h (ix3 0 i (col o ho d))) = Q n i d := fun i d => by rw [part_pos x0 n hn, hq]
  have e1 : ∀ i d, one - forget (x3 (ix3 0 0 (col o ho d))) (part x1 (64 * n) h' (ix3 0 i (col o ho d))) = K n i d :=
    fun i d => by rw [part_pos x1 n hn, hk]
  have e2 : ∀ i d, Ideal.log (forget (x3 (ix3 0 0 (col o ho d))) (part x1 (64 * n) h' (ix3 0 i (col o ho d)))) = L n i d :=
    fun i d => by rw [part_pos x1 n hn, hl]
  have e3 : ∀ i e, part x2 (64 * n) h'' (ix3 0 i (col o ho e)) = V n i e := fun i e => by rw [part_pos x2 n hn, hv]
  show intraH _ _ _ _ _ _ (ix2 i e) + interH _ _ _ _ _ _ (ix2 i e) = _
  rw [intraH_apply o hs _ _ _ x3 ho Q K L V n e0 e1 e2 e3, interH_apply o hs _ _ x3 ho Q K L V n e0 e2 S _ hS]
  rfl

theorem O0_apply (i : Fin 64) (e : Fin 128) : O0 o hs x0 x1 x2 x3 (ix2 i e) = out Q K L V (fun _ _ => 0) 0 i e :=
  outH_apply x0 x1 x2 x3 o hs ho Q K L V hq hk hl hv 0 (by decide) _ _ _ _ (S0_apply K L V) i e

theorem O1_apply (i : Fin 64) (e : Fin 128) : O1 o hs h1 x0 x1 x2 x3 (ix2 i e) = out Q K L V (fun _ _ => 0) 1 i e :=
  outH_apply x0 x1 x2 x3 o hs ho Q K L V hq hk hl hv 1 (by decide) _ _ _ _ (S1_apply x1 x2 x3 o hs h1 ho K L V hk hl hv) i e

theorem O2_apply (i : Fin 64) (e : Fin 128) : O2 o hs h1 x0 x1 x2 x3 (ix2 i e) = out Q K L V (fun _ _ => 0) 2 i e :=
  outH_apply x0 x1 x2 x3 o hs ho Q K L V hq hk hl hv 2 (by decide) _ _ _ _ (S2_apply x1 x2 x3 o hs h1 ho K L V hk hl hv) i e

theorem O3_apply (i : Fin 64) (e : Fin 128) : O3 o hs h1 x0 x1 x2 x3 (ix2 i e) = out Q K L V (fun _ _ => 0) 3 i e :=
  outH_apply x0 x1 x2 x3 o hs ho Q K L V hq hk hl hv 3 (by decide) _ _ _ _ (S3_apply x1 x2 x3 o hs h1 ho K L V hk hl hv) i e

end

theorem blockO_0 (i : Fin 64) (c : Fin 512) : blockO x0 x1 x2 x3 (ix3 0 ⟨0 + i.val, by omega⟩ c) = C0 x0 x1 x2 x3 (ix2 i c) := by
  unfold blockO
  generalize C0 x0 x1 x2 x3 = y0
  generalize C1 x0 x1 x2 x3 = y1
  generalize C2 x0 x1 x2 x3 = y2
  generalize C3 x0 x1 x2 x3 = y3
  pointwise

theorem blockO_1 (i : Fin 64) (c : Fin 512) : blockO x0 x1 x2 x3 (ix3 0 ⟨64 + i.val, by omega⟩ c) = C1 x0 x1 x2 x3 (ix2 i c) := by
  unfold blockO
  generalize C0 x0 x1 x2 x3 = y0
  generalize C1 x0 x1 x2 x3 = y1
  generalize C2 x0 x1 x2 x3 = y2
  generalize C3 x0 x1 x2 x3 = y3
  pointwise

theorem blockO_2 (i : Fin 64) (c : Fin 512) : blockO x0 x1 x2 x3 (ix3 0 ⟨128 + i.val, by omega⟩ c) = C2 x0 x1 x2 x3 (ix2 i c) := by
  unfold blockO
  generalize C0 x0 x1 x2 x3 = y0
  generalize C1 x0 x1 x2 x3 = y1
  generalize C2 x0 x1 x2 x3 = y2
  generalize C3 x0 x1 x2 x3 = y3
  pointwise
  split_ifs <;> first | omega | skip
  exact congrArg (fun r => y2 (ix2 r c)) (Fin.ext (by dsimp; omega))

theorem blockO_3 (i : Fin 64) (c : Fin 512) : blockO x0 x1 x2 x3 (ix3 0 ⟨192 + i.val, by omega⟩ c) = C3 x0 x1 x2 x3 (ix2 i c) := by
  unfold blockO
  generalize C0 x0 x1 x2 x3 = y0
  generalize C1 x0 x1 x2 x3 = y1
  generalize C2 x0 x1 x2 x3 = y2
  generalize C3 x0 x1 x2 x3 = y3
  pointwise
  split_ifs <;> first | omega | skip
  exact congrArg (fun r => y3 (ix2 r c)) (Fin.ext (by dsimp; omega))

theorem side_0 (y0 y1 y2 y3 : FVec Ideal S64x128 .f32) (i : Fin 64) (e : Fin 128) :
    side y0 y1 y2 y3 (ix2 i (col 0 (by decide) e)) = y0 (ix2 i e) := by
  unfold side col
  pointwise

theorem side_1 (y0 y1 y2 y3 : FVec Ideal S64x128 .f32) (i : Fin 64) (e : Fin 128) :
    side y0 y1 y2 y3 (ix2 i (col 128 (by decide) e)) = y1 (ix2 i e) := by
  unfold side col
  pointwise

theorem side_2 (y0 y1 y2 y3 : FVec Ideal S64x128 .f32) (i : Fin 64) (e : Fin 128) :
    side y0 y1 y2 y3 (ix2 i (col 256 (by decide) e)) = y2 (ix2 i e) := by
  unfold side col
  pointwise
  split_ifs <;> first | omega | skip
  exact congrArg (fun r => y2 (ix2 i r)) (Fin.ext (by dsimp; omega))

theorem side_3 (y0 y1 y2 y3 : FVec Ideal S64x128 .f32) (i : Fin 64) (e : Fin 128) :
    side y0 y1 y2 y3 (ix2 i (col 384 (by decide) e)) = y3 (ix2 i e) := by
  unfold side col
  pointwise
  split_ifs <;> first | omega | skip
  exact congrArg (fun r => y3 (ix2 i r)) (Fin.ext (by dsimp; omega))

end Cert.HgrnIdeal.Chunk

end
-- ==== Proof.HgrnHeads.lean ====
/- The kernel's two output blocks at an index, head by head. -/
module

public import proofs.«01_k».proof.Proof.HgrnBlock

@[expose] public section

set_option maxRecDepth 16384

noncomputable section

namespace Cert.HgrnIdeal.Chunk

open Cert.HgrnIdeal Cert.HgrnIdeal.Gen Idealize.ShloMosaic Cert.Scan

variable (x0 x1 x2 : Vec Ideal S1x256x512 .f32) (x3 : Vec Ideal S1x1x512 .f32)
variable (Q K L V : ℕ → Fin 64 → Fin 128 → EReal)

/-- The output block in head `hh`. -/
theorem blockO_apply (n hh : Fin 4) (ho : 128 * hh.val ≤ 384)
    (hq : ∀ n i d, query (x0 (ix3 0 (pos 256 n i) (col (128 * hh.val) ho d))) = Q n i d)
    (hk : ∀ n i d, one - forget (x3 (ix3 0 0 (col (128 * hh.val) ho d))) (x1 (ix3 0 (pos 256 n i) (col (128 * hh.val) ho d))) = K n i d)
    (hl : ∀ n i d, Ideal.log (forget (x3 (ix3 0 0 (col (128 * hh.val) ho d))) (x1 (ix3 0 (pos 256 n i) (col (128 * hh.val) ho d)))) = L n i d)
    (hv : ∀ n i e, x2 (ix3 0 (pos 256 n i) (col (128 * hh.val) ho e)) = V n i e) (i : Fin 64) (e : Fin 128) :
    blockO x0 x1 x2 x3 (ix3 0 (pos 256 n.val i) (col (128 * hh.val) ho e)) = out Q K L V (fun _ _ => 0) n.val i e := by
  rw [pos_eq 256 n.val i (by omega)]
  match n, hh, ho, hq, hk, hl, hv with
  | 0, 0, ho, hq, hk, hl, hv =>
    exact (blockO_0 x0 x1 x2 x3 i _).trans ((side_0 _ _ _ _ i e).trans
      (O0_apply x0 x1 x2 x3 0 _ (by decide) Q K L V hq hk hl hv i e))
  | 0, 1, ho, hq, hk, hl, hv =>
    exact (blockO_0 x0 x1 x2 x3 i _).trans ((side_1 _ _ _ _ i e).trans
      (O0_apply x0 x1 x2 x3 128 _ (by decide) Q K L V hq hk hl hv i e))
  | 0, 2, ho, hq, hk, hl, hv =>
    exact (blockO_0 x0 x1 x2 x3 i _).trans ((side_2 _ _ _ _ i e).trans
      (O0_apply x0 x1 x2 x3 256 _ (by decide) Q K L V hq hk hl hv i e))
  | 0, 3, ho, hq, hk, hl, hv =>
    exact (blockO_0 x0 x1 x2 x3 i _).trans ((side_3 _ _ _ _ i e).trans
      (O0_apply x0 x1 x2 x3 384 _ (by decide) Q K L V hq hk hl hv i e))
  | 1, 0, ho, hq, hk, hl, hv =>
    exact (blockO_1 x0 x1 x2 x3 i _).trans ((side_0 _ _ _ _ i e).trans
      (O1_apply x0 x1 x2 x3 0 _ _ (by decide) Q K L V hq hk hl hv i e))
  | 1, 1, ho, hq, hk, hl, hv =>
    exact (blockO_1 x0 x1 x2 x3 i _).trans ((side_1 _ _ _ _ i e).trans
      (O1_apply x0 x1 x2 x3 128 _ _ (by decide) Q K L V hq hk hl hv i e))
  | 1, 2, ho, hq, hk, hl, hv =>
    exact (blockO_1 x0 x1 x2 x3 i _).trans ((side_2 _ _ _ _ i e).trans
      (O1_apply x0 x1 x2 x3 256 _ _ (by decide) Q K L V hq hk hl hv i e))
  | 1, 3, ho, hq, hk, hl, hv =>
    exact (blockO_1 x0 x1 x2 x3 i _).trans ((side_3 _ _ _ _ i e).trans
      (O1_apply x0 x1 x2 x3 384 _ _ (by decide) Q K L V hq hk hl hv i e))
  | 2, 0, ho, hq, hk, hl, hv =>
    exact (blockO_2 x0 x1 x2 x3 i _).trans ((side_0 _ _ _ _ i e).trans
      (O2_apply x0 x1 x2 x3 0 _ _ (by decide) Q K L V hq hk hl hv i e))
  | 2, 1, ho, hq, hk, hl, hv =>
    exact (blockO_2 x0 x1 x2 x3 i _).trans ((side_1 _ _ _ _ i e).trans
      (O2_apply x0 x1 x2 x3 128 _ _ (by decide) Q K L V hq hk hl hv i e))
  | 2, 2, ho, hq, hk, hl, hv =>
    exact (blockO_2 x0 x1 x2 x3 i _).trans ((side_2 _ _ _ _ i e).trans
      (O2_apply x0 x1 x2 x3 256 _ _ (by decide) Q K L V hq hk hl hv i e))
  | 2, 3, ho, hq, hk, hl, hv =>
    exact (blockO_2 x0 x1 x2 x3 i _).trans ((side_3 _ _ _ _ i e).trans
      (O2_apply x0 x1 x2 x3 384 _ _ (by decide) Q K L V hq hk hl hv i e))
  | 3, 0, ho, hq, hk, hl, hv =>
    exact (blockO_3 x0 x1 x2 x3 i _).trans ((side_0 _ _ _ _ i e).trans
      (O3_apply x0 x1 x2 x3 0 _ _ (by decide) Q K L V hq hk hl hv i e))
  | 3, 1, ho, hq, hk, hl, hv =>
    exact (blockO_3 x0 x1 x2 x3 i _).trans ((side_1 _ _ _ _ i e).trans
      (O3_apply x0 x1 x2 x3 128 _ _ (by decide) Q K L V hq hk hl hv i e))
  | 3, 2, ho, hq, hk, hl, hv =>
    exact (blockO_3 x0 x1 x2 x3 i _).trans ((side_2 _ _ _ _ i e).trans
      (O3_apply x0 x1 x2 x3 256 _ _ (by decide) Q K L V hq hk hl hv i e))
  | 3, 3, ho, hq, hk, hl, hv =>
    exact (blockO_3 x0 x1 x2 x3 i _).trans ((side_3 _ _ _ _ i e).trans
      (O3_apply x0 x1 x2 x3 384 _ _ (by decide) Q K L V hq hk hl hv i e))

theorem stored_apply (S : FVec Ideal S128x128 .f32) (d e : Fin 128) : stored S (ix4 0 0 d e) = S (ix2 e d) := by
  pointwise [stored, k0_pay172]

theorem off (a a' : ℕ) (h : a ≠ a') (inb : ∀ i, (![0, a, 0, 0] : Fin 4 → ℕ) i + S1x1x128x128.size i ≤ S1x4x128x128.size i)
    (inb' : ∀ i, (![0, a', 0, 0] : Fin 4 → ℕ) i + S1x1x128x128.size i ≤ S1x4x128x128.size i) (x : S1x1x128x128.Idx) :
    (Rect.unit (s := S1x4x128x128) ![0, a', 0, 0] S1x1x128x128.size inb').emb x
      ∉ (Rect.unit (s := S1x4x128x128) ![0, a, 0, 0] S1x1x128x128.size inb).set :=
  Finset.disjoint_right.mp (Rect.unit_disjoint (inb := inb) (inb' := inb') 1 (by
    show a + 1 ≤ a' ∨ a' + 1 ≤ a
    omega)) ((by rw [← Rect.map_emb_univ]; exact Finset.mem_map_of_mem _ (Finset.mem_univ x)))

theorem canon_past (a a' : ℕ) (h : a ≠ a') (inb : ∀ i, (![0, a, 0, 0] : Fin 4 → ℕ) i + S1x1x128x128.size i ≤ S1x4x128x128.size i)
    (inb' : ∀ i, (![0, a', 0, 0] : Fin 4 → ℕ) i + S1x1x128x128.size i ≤ S1x4x128x128.size i) (w : S1x1x128x128.Idx → Elt Ideal .f32)
    (L : List (View.Piece (Elt Ideal) S1x4x128x128 .f32)) (x : S1x1x128x128.Idx) :
    View.canon ((⟨Rect.unit (s := S1x4x128x128) ![0, a, 0, 0] S1x1x128x128.size inb, w⟩ : View.Piece (Elt Ideal) S1x4x128x128 .f32) :: L)
      ((Rect.unit (s := S1x4x128x128) ![0, a', 0, 0] S1x1x128x128.size inb').emb x)
      = View.canon L ((Rect.unit (s := S1x4x128x128) ![0, a', 0, 0] S1x1x128x128.size inb').emb x) :=
  View.canon_cons_of_not_mem _ L (off a a' h inb inb' x)

theorem at_head (a : ℕ) (ha : a < 4) (inb : ∀ i, (![0, a, 0, 0] : Fin 4 → ℕ) i + S1x1x128x128.size i ≤ S1x4x128x128.size i) (d e : Fin 128) :
    (ix4 0 ⟨a, ha⟩ d e : S1x4x128x128.Idx) = (Rect.unit (s := S1x4x128x128) ![0, a, 0, 0] S1x1x128x128.size inb).emb (ix4 0 0 d e) := by
  funext c
  match c with
  | 0 => exact Fin.ext rfl
  | 1 => exact Fin.ext rfl
  | 2 => exact Fin.ext (by show d.val = 0 + 1 * d.val; omega)
  | 3 => exact Fin.ext (by show e.val = 0 + 1 * e.val; omega)

theorem blockS_0 (d e : Fin 128) : blockS x1 x2 x3 (ix4 0 0 d e) = S4 0 slices_S64x512_o0_0_S64x128 slices_S1x512_o0_0_S1x128 x1 x2 x3 (ix2 e d) := by
  refine Eq.trans ?_ (stored_apply (S4 0 slices_S64x512_o0_0_S64x128 slices_S1x512_o0_0_S1x128 x1 x2 x3) d e)
  unfold blockS
  rw [show (ix4 0 0 d e : S1x4x128x128.Idx) = _ from at_head 0 (by decide) inb_S1x4x128x128_S1x1x128x128_0_0_0_0 d e]
  rw [canon_past 3 0 (by decide)]
  rw [canon_past 2 0 (by decide)]
  rw [canon_past 1 0 (by decide)]
  exact View.canon_cons_emb _ _ _ _

theorem blockS_1 (d e : Fin 128) : blockS x1 x2 x3 (ix4 0 1 d e) = S4 128 slices_S64x512_o0_128_S64x128 slices_S1x512_o0_128_S1x128 x1 x2 x3 (ix2 e d) := by
  refine Eq.trans ?_ (stored_apply (S4 128 slices_S64x512_o0_128_S64x128 slices_S1x512_o0_128_S1x128 x1 x2 x3) d e)
  unfold blockS
  rw [show (ix4 0 1 d e : S1x4x128x128.Idx) = _ from at_head 1 (by decide) inb_S1x4x128x128_S1x1x128x128_0_1_0_0 d e]
  rw [canon_past 3 1 (by decide)]
  rw [canon_past 2 1 (by decide)]
  exact View.canon_cons_emb _ _ _ _

theorem blockS_2 (d e : Fin 128) : blockS x1 x2 x3 (ix4 0 2 d e) = S4 256 slices_S64x512_o0_256_S64x128 slices_S1x512_o0_256_S1x128 x1 x2 x3 (ix2 e d) := by
  refine Eq.trans ?_ (stored_apply (S4 256 slices_S64x512_o0_256_S64x128 slices_S1x512_o0_256_S1x128 x1 x2 x3) d e)
  unfold blockS
  rw [show (ix4 0 2 d e : S1x4x128x128.Idx) = _ from at_head 2 (by decide) inb_S1x4x128x128_S1x1x128x128_0_2_0_0 d e]
  rw [canon_past 3 2 (by decide)]
  exact View.canon_cons_emb _ _ _ _

theorem blockS_3 (d e : Fin 128) : blockS x1 x2 x3 (ix4 0 3 d e) = S4 384 slices_S64x512_o0_384_S64x128 slices_S1x512_o0_384_S1x128 x1 x2 x3 (ix2 e d) := by
  refine Eq.trans ?_ (stored_apply (S4 384 slices_S64x512_o0_384_S64x128 slices_S1x512_o0_384_S1x128 x1 x2 x3) d e)
  unfold blockS
  rw [show (ix4 0 3 d e : S1x4x128x128.Idx) = _ from at_head 3 (by decide) inb_S1x4x128x128_S1x1x128x128_0_3_0_0 d e]
  exact View.canon_cons_emb _ _ _ _

/-- The state block in head `hh`. -/
theorem blockS_apply (hh : Fin 4) (ho : 128 * hh.val ≤ 384)
    (hk : ∀ n i d, one - forget (x3 (ix3 0 0 (col (128 * hh.val) ho d))) (x1 (ix3 0 (pos 256 n i) (col (128 * hh.val) ho d))) = K n i d)
    (hl : ∀ n i d, Ideal.log (forget (x3 (ix3 0 0 (col (128 * hh.val) ho d))) (x1 (ix3 0 (pos 256 n i) (col (128 * hh.val) ho d)))) = L n i d)
    (hv : ∀ n i e, x2 (ix3 0 (pos 256 n i) (col (128 * hh.val) ho e)) = V n i e) (d e : Fin 128) :
    blockS x1 x2 x3 (ix4 0 hh d e) = state K L V (fun _ _ => 0) 4 d e := by
  match hh, ho, hk, hl, hv with
  | 0, ho, hk, hl, hv =>
    exact (blockS_0 x1 x2 x3 d e).trans (S4_apply x1 x2 x3 0 _ _ (by decide) K L V hk hl hv d e)
  | 1, ho, hk, hl, hv =>
    exact (blockS_1 x1 x2 x3 d e).trans (S4_apply x1 x2 x3 128 _ _ (by decide) K L V hk hl hv d e)
  | 2, ho, hk, hl, hv =>
    exact (blockS_2 x1 x2 x3 d e).trans (S4_apply x1 x2 x3 256 _ _ (by decide) K L V hk hl hv d e)
  | 3, ho, hk, hl, hv =>
    exact (blockS_3 x1 x2 x3 d e).trans (S4_apply x1 x2 x3 384 _ _ (by decide) K L V hk hl hv d e)

end Cert.HgrnIdeal.Chunk

end
-- ==== Proof.HgrnValue.lean ====
/- The kernel's two result arrays at an index, from the arguments. -/
module

public import proofs.«01_k».proof.Proof.HgrnHeads
public import Idealize.ShloMosaic.Lib.Claim
public import Idealize.ShloMosaic.Lib.Pointwise
public import Idealize.ShloMosaic.Lib.Pipeline.ValueKit

@[expose] public section

set_option maxRecDepth 16384

noncomputable section

namespace Cert.HgrnIdeal.Chunk

open Cert.HgrnIdeal Cert.HgrnIdeal.Gen Idealize.ShloMosaic Idealize.ShloMosaic.TcCoe Cert.Scan
open Idealize.ShloMosaic.Pipeline (Dat)

variable (m : (ℓ : Loc nD τ sig) → Buf (Elt Ideal) ℓ) (c : Dev nD)

/-- The windows' block indices: sequence `t / 4`, group of heads `t % 4`, counted in each window's own blocks. -/
theorem idx (t : Fin grid0.N) : win0_0.index t = ![t.val / 4, 0, t.val % 4] ∧ win0_1.index t = ![t.val / 4, 0, 4 + t.val % 4] ∧ win0_2.index t = ![t.val / 4, 0, 12 + t.val % 4]
    ∧ win0_3.index t = ![0, 0, t.val % 4] ∧ win0_4.index t = ![t.val / 4, 0, t.val % 4] ∧ win0_5.index t = ![t.val / 4, t.val % 4, 0, 0] :=
  (by decide +kernel : ∀ t : Fin grid0.N, win0_0.index t = ![t.val / 4, 0, t.val % 4] ∧ win0_1.index t = ![t.val / 4, 0, 4 + t.val % 4] ∧ win0_2.index t = ![t.val / 4, 0, 12 + t.val % 4]
    ∧ win0_3.index t = ![0, 0, t.val % 4] ∧ win0_4.index t = ![t.val / 4, 0, t.val % 4] ∧ win0_5.index t = ![t.val / 4, t.val % 4, 0, 0]) t

/-- The grid point of a sequence and a group of four heads. -/
def pt (b : Fin 32) (h : Fin 4) : Fin cfg0.N := ⟨4 * b.val + h.val, by rw [show cfg0.N = 128 from N_0]; omega⟩

theorem idx_pt (b : Fin 32) (h : Fin 4) : win0_0.index (pt b h) = ![b.val, 0, h.val] ∧ win0_1.index (pt b h) = ![b.val, 0, 4 + h.val] ∧ win0_2.index (pt b h) = ![b.val, 0, 12 + h.val]
    ∧ win0_3.index (pt b h) = ![0, 0, h.val] ∧ win0_4.index (pt b h) = ![b.val, 0, h.val] ∧ win0_5.index (pt b h) = ![b.val, h.val, 0, 0] := by
  have hi := idx (pt b h)
  have h1 : (pt b h).val / 4 = b.val := by show (4 * b.val + h.val) / 4 = _; omega
  have h2 : (pt b h).val % 4 = h.val := by show (4 * b.val + h.val) % 4 = _; omega
  rw [h1, h2] at hi
  exact hi

/-- Column `c` of the group's block among all columns. -/
def gcol (h : Fin 4) (c : Fin 512) : Fin 2048 := ⟨512 * h.val + c.val, by omega⟩

/-- Head `hh` of the group. -/
def hd (h hh : Fin 4) : Fin 16 := ⟨4 * h.val + hh.val, by omega⟩

theorem gcol_col (h hh : Fin 4) (ho : 128 * hh.val ≤ 384) (d : Fin 128) : gcol h (col (128 * hh.val) ho d) = hcol (hd h hh) d :=
  Fin.ext (by show 512 * h.val + (128 * hh.val + d.val) = 128 * (4 * h.val + hh.val) + d.val; omega)

theorem blk0 (b : Fin 32) (h : Fin 4) (p : Fin 256) (d : Fin 512) :
    iblk m c 0 (pt b h) (ix3 0 p d) = hqIn (m ((c : Thread nD τ).loc main_arg0)) b p (gcol h d) := by
  have hi := idx_pt b h
  unfold hqIn row gcol
  blk_simp [iblk, hi.1]
  entry_read
  pointwise
  blk_ext [hi.1]

theorem blk1 (b : Fin 32) (h : Fin 4) (p : Fin 256) (d : Fin 512) :
    iblk m c 1 (pt b h) (ix3 0 p d) = hfIn (m ((c : Thread nD τ).loc main_arg0)) b p (gcol h d) := by
  have hi := idx_pt b h
  unfold hfIn row gcol
  blk_simp [iblk, hi.2.1]
  entry_read
  pointwise
  blk_ext [hi.2.1]

theorem blk2 (b : Fin 32) (h : Fin 4) (p : Fin 256) (d : Fin 512) :
    iblk m c 2 (pt b h) (ix3 0 p d) = hvIn (m ((c : Thread nD τ).loc main_arg0)) b p (gcol h d) := by
  have hi := idx_pt b h
  unfold hvIn row gcol
  blk_simp [iblk, hi.2.2.1]
  entry_read
  pointwise
  blk_ext [hi.2.2.1]

theorem blk3 (b : Fin 32) (h : Fin 4) (d : Fin 512) :
    iblk m c 3 (pt b h) (ix3 0 0 d) = hbIn (m ((c : Thread nD τ).loc main_arg1)) (gcol h d) := by
  have hi := idx_pt b h
  unfold hbIn gcol
  blk_simp [iblk, hi.2.2.2.1]
  entry_read
  pointwise
  blk_ext [hi.2.2.2.1]

variable (b : Fin 32) (h hh : Fin 4)

/-- The first result at position `i` of chunk `n` of sequence `b`, in the head's column `e`. -/
theorem o_apply (n : Fin 4) (i : Fin 64) (e : Fin 128) :
    (dats m 0 c).arrAt 4 cfg0.N (ix3 ⟨b.val, by omega⟩ (pos 256 n.val i) (hcol (hd h hh) e))
      = hgOut (m ((c : Thread nD τ).loc main_arg0)) (m ((c : Thread nD τ).loc main_arg1)) b (hd h hh) n.val i e := by
  have hi := idx_pt b h
  have ho : 128 * hh.val ≤ 384 := by omega
  have key := (dats m 0 c).arrAt_emb_eq_flushed 4 Value.disjoint4 (pt b h) (flush0_4 _) (ix3 0 (pos 256 n.val i) (col (128 * hh.val) ho e))
  rw [Value.flushed4_A, (out_eq ..).1] at key
  rw [← gcol_col h hh ho]
  refine Eq.trans (congrArg _ ?_) (key.trans ?_)
  · unfold gcol
    blk_ext [hi.2.2.2.2.1]
  · refine Eq.trans ?_ (blockO_apply (iblk m c 0 (pt b h)) (iblk m c 1 (pt b h)) (iblk m c 2 (pt b h)) (iblk m c 3 (pt b h)) (hgQ _ b (hd h hh)) (hgK _ _ b (hd h hh)) (hgL _ _ b (hd h hh)) (hgV _ b (hd h hh)) n hh ho ?_ ?_ ?_ ?_ i e)
    · rfl
    · intro n i d; rw [blk0, gcol_col]; rfl
    · intro n i d; rw [blk3, blk1, gcol_col]; rfl
    · intro n i d; rw [blk3, blk1, gcol_col]; rfl
    · intro n i d; rw [blk2, gcol_col]; rfl

/-- The second result: the state of sequence `b` and the head after the four chunks. -/
theorem s_apply (d e : Fin 128) :
    (dats m 0 c).arrAt 5 cfg0.N (ix4 b (hd h hh) d e)
      = hgState (m ((c : Thread nD τ).loc main_arg0)) (m ((c : Thread nD τ).loc main_arg1)) b (hd h hh) 4 d e := by
  have hi := idx_pt b h
  have ho : 128 * hh.val ≤ 384 := by omega
  have key := (dats m 0 c).arrAt_emb_eq_flushed 5 Value.disjoint5 (pt b h) (flush0_5 _) (ix4 0 hh d e)
  have hb : blockS (iblk m c 1 (pt b h)) (iblk m c 2 (pt b h)) (iblk m c 3 (pt b h)) (ix4 0 hh d e)
      = hgState (m ((c : Thread nD τ).loc main_arg0)) (m ((c : Thread nD τ).loc main_arg1)) b (hd h hh) 4 d e := by
    refine blockS_apply (iblk m c 1 (pt b h)) (iblk m c 2 (pt b h)) (iblk m c 3 (pt b h)) (hgK _ _ b (hd h hh)) (hgL _ _ b (hd h hh)) (hgV _ b (hd h hh)) hh ho ?_ ?_ ?_ d e
    · intro n i d; rw [blk3, blk1, gcol_col]; rfl
    · intro n i d; rw [blk3, blk1, gcol_col]; rfl
    · intro n i d; rw [blk2, gcol_col]; rfl
  rw [Value.flushed5_A, (out_eq ..).2] at key
  generalize blockS (iblk m c 1 (pt b h)) (iblk m c 2 (pt b h)) (iblk m c 3 (pt b h)) = B at key hb
  refine Eq.trans (congrArg _ ?_) (key.trans (Eq.trans ?_ hb))
  · unfold hd
    blk_ext [hi.2.2.2.2.2]
  · rfl

end Cert.HgrnIdeal.Chunk

end
-- ==== Proof.HgrnRefBase.lean ====
/- The reference's arrays before the recurrence, at an index: scaled queries, keys, values and log decays cut into chunks. -/
module

public import proofs.«01_k».proof.Proof.HgrnSpec
public import proofs.«01_k».proof.Proof.Cumsum
public import proofs.«01_k».proof.Proof.Gen.HgrnReferenceIdeal.Read
public import Idealize.ShloMosaic.Lib.Pointwise

@[expose] public section

set_option maxRecDepth 16384

noncomputable section

namespace Cert.HgrnReferenceIdeal.Chunk

open Cert.HgrnReferenceIdeal Cert.HgrnReferenceIdeal.Gen Cert.HgrnReferenceIdeal.Read Idealize.ShloMosaic Cert.Scan

variable (x0 : Vec Ideal S24576x10240 .f32) (x1 : Vec Ideal S2x1x2048 .f32)
variable (b : Fin 32) (h : Fin 16) (n : Fin 4) (i : Fin 64)

theorem xq_apply (p : Fin 256) (c : Fin 2048) : val_main_v2 (F := Ideal) x0 (ix3 b p c) = hqIn x0 b p c := by
  unfold hqIn row
  pointwise [val_main_v2, val_main_v1, val_main_v0]
  exact congrArg x0 (congrArg₂ ix2 (Fin.ext (by dsimp <;> omega)) (Fin.ext (by dsimp <;> omega)))

theorem xf_apply (p : Fin 256) (c : Fin 2048) : val_main_v3 (F := Ideal) x0 (ix3 b p c) = hfIn x0 b p c := by
  unfold hfIn row
  pointwise [val_main_v3, val_main_v1, val_main_v0]
  exact congrArg x0 (congrArg₂ ix2 (Fin.ext (by dsimp <;> omega)) (Fin.ext (by dsimp <;> omega)))

theorem xv_apply (p : Fin 256) (c : Fin 2048) : val_main_v5 (F := Ideal) x0 (ix3 b p c) = hvIn x0 b p c := by
  unfold hvIn row
  pointwise [val_main_v5, val_main_v1, val_main_v0]
  exact congrArg x0 (congrArg₂ ix2 (Fin.ext (by dsimp <;> omega)) (Fin.ext (by dsimp <;> omega)))

theorem gate_apply (p : Fin 256) (c : Fin 2048) :
    val_main_v24 (F := Ideal) x0 x1 (ix3 b p c) = forget (hbIn x1 c) (hfIn x0 b p c) := by
  rw [← xf_apply]
  generalize hy : val_main_v3 (F := Ideal) x0 = y
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, hy, forget, logi, hbIn, Ideal.ofBits_one_f32]

theorem silu_apply (p : Fin 256) (c : Fin 2048) :
    val_main_v25 (F := Ideal) x0 (ix3 b p c) = hqIn x0 b p c * logi (hqIn x0 b p c) := by
  rw [← xq_apply]
  generalize hy : val_main_v2 (F := Ideal) x0 = y
  pointwise [val_main_v25, val_main_call0_v5, val_main_call0_v4, val_main_call0_v3, val_main_call0_v2, val_main_call0_v1, val_main_call0_v0, val_main_call0_cst, val_main_call0_cst_0, hy, logi, Ideal.ofBits_one_f32]

theorem q_apply (d : Fin 128) : val_main_v40 (F := Ideal) x0 (ix5 b h n i d) = hgQ x0 b h n.val i d := by
  unfold hgQ query
  rw [pos_eq 256 n.val i (by omega), ← silu_apply]
  unfold hcol
  pointwise [val_main_v40, val_main_v29, val_main_v28, val_main_cst_2, val_main_v27, val_main_v26]
  exact congrArg (· * _) (congrArg (val_main_v25 (F := Ideal) x0) (congrArg₂ (ix3 b) (Fin.ext (by dsimp; omega)) (Fin.ext (by dsimp; omega))))

theorem k_apply (d : Fin 128) : val_main_v41 (F := Ideal) x0 x1 (ix5 b h n i d) = hgK x0 x1 b h n.val i d := by
  unfold hgK
  rw [pos_eq 256 n.val i (by omega), ← gate_apply]
  unfold hcol
  pointwise [val_main_v41, val_main_v33, val_main_v32, val_main_v31, val_main_v30, val_main_cst_3]
  try rw [Ideal.ofBits_one_f32]
  exact congrArg (1 - ·) (congrArg (val_main_v24 (F := Ideal) x0 x1) (congrArg₂ (ix3 b) (Fin.ext (by dsimp; omega)) (Fin.ext (by dsimp; omega))))

theorem v_apply (d : Fin 128) : val_main_v42 (F := Ideal) x0 (ix5 b h n i d) = hgV x0 b h n.val i d := by
  unfold hgV
  rw [pos_eq 256 n.val i (by omega), ← xv_apply]
  unfold hcol
  pointwise [val_main_v42, val_main_v35, val_main_v34]
  exact congrArg (val_main_v5 (F := Ideal) x0) (congrArg₂ (ix3 b) (Fin.ext (by dsimp; omega)) (Fin.ext (by dsimp; omega)))

theorem l_apply (d : Fin 128) : val_main_v43 (F := Ideal) x0 x1 (ix5 b h n i d) = hgL x0 x1 b h n.val i d := by
  unfold hgL
  rw [pos_eq 256 n.val i (by omega), ← gate_apply]
  unfold hcol
  pointwise [val_main_v43, val_main_v38, val_main_v37, val_main_v36]
  exact congrArg Ideal.log (congrArg (val_main_v24 (F := Ideal) x0 x1) (congrArg₂ (ix3 b) (Fin.ext (by dsimp; omega)) (Fin.ext (by dsimp; omega))))

theorem cum_apply (d : Fin 128) : val_main_v44 (F := Ideal) x0 x1 (ix5 b h n i d) = cum (hgL x0 x1 b h) n.val i d := by
  have h0 : val_main_call1_call0_v0 (F := Ideal) (Shape.Idx.first h_S_) = 0 := by
    rw [show Shape.Idx.first h_S_ = ix0 from funext fun a => a.elim0]
    pointwise [val_main_call1_call0_v0, val_main_call1_call0_cst]
  unfold val_main_v44 Host.reduceWindowAdd
  rw [Ideal.hostReduceWindowAdd_def, h0]
  refine (cumsum5 (M := 63) rfl _ _ b h n i d).trans (Finset.sum_congr rfl fun j _ => ?_)
  rw [l_apply]

end Cert.HgrnReferenceIdeal.Chunk

end
-- ==== Proof.HgrnRefValue.lean ====
/- The reference's outputs and final state, at an index. -/
module

public import proofs.«01_k».proof.Proof.HgrnRefBase
public import proofs.«01_k».proof.Proof.RefValue

@[expose] public section

set_option maxRecDepth 16384

noncomputable section

namespace Cert.HgrnReferenceIdeal.Chunk

open Cert.HgrnReferenceIdeal Cert.HgrnReferenceIdeal.Gen Cert.HgrnReferenceIdeal.Read Idealize.ShloMosaic Cert.Scan

variable (x0 : Vec Ideal S24576x10240 .f32) (x1 : Vec Ideal S2x1x2048 .f32)
variable (b : Fin 32) (h : Fin 16) (n : Fin 4) (i : Fin 64)

theorem score_apply (j : Fin 64) : val_main_v55 (F := Ideal) x0 x1 (ix5 b h n i j) = score (hgQ x0 b h) (hgK x0 x1 b h) (hgL x0 x1 b h) n.val i j := by
  pointwise [val_main_v55, val_main_v54, val_main_v53, val_main_v52, val_main_v51, val_main_v45, val_main_v50, val_main_v49, val_main_v48, val_main_v47]
  simp only [q_apply, k_apply, cum_apply]
  rfl

theorem mask_apply (j : Fin 64) : val_main_v57 (F := Ideal) (ix2 i j) = if j ≤ i then 1#1 else 0#1 := by
  pointwise [val_main_v57, val_main_v56, val_main_c, val_main_call2_v0, val_main_call2_v1, val_main_call2_v2, val_main_call2_v3, val_main_call2_v4, val_main_call2_v5, val_main_call2_c, val_main_call2_c_0]
  exact Cert.ReferenceIdeal.Chunk.ge_word i j

theorem intra_apply (e : Fin 128) :
    val_main_v59 (F := Ideal) x0 x1 (ix5 b h n i e) = intra (hgQ x0 b h) (hgK x0 x1 b h) (hgL x0 x1 b h) (hgV x0 b h) n.val i e := by
  pointwise [val_main_v59, val_main_v58, val_main_call3_v1, val_main_call3_v2, val_main_call3_v0, val_main_cst_5]
  simp only [v_apply, mask_apply, score_apply]
  unfold intra
  refine Finset.sum_congr rfl fun j _ => ?_
  have hz : id (constant (F := Ideal) S_ .f32 0#32) ix0 = 0 := Ideal.ofBits_zero_f32
  rw [hz]
  by_cases hj : j ≤ i
  · rw [if_pos hj, if_pos hj]; rfl
  · rw [if_neg hj, if_neg hj]; rfl

theorem qInter_apply (d : Fin 128) :
    val_main_v61 (F := Ideal) x0 x1 (ix5 b h n i d) = hgQ x0 b h n.val i d * Ideal.exp (cum (hgL x0 x1 b h) n.val i d) := by
  pointwise [val_main_v61, val_main_v60]
  simp only [q_apply, cum_apply]

theorem kUpd_apply (d : Fin 128) :
    val_main_v65 (F := Ideal) x0 x1 (ix5 b h n i d)
      = hgK x0 x1 b h n.val i d * Ideal.exp (cum (hgL x0 x1 b h) n.val 63 d - cum (hgL x0 x1 b h) n.val i d) := by
  pointwise [val_main_v65, val_main_v64, val_main_v63, val_main_v62, val_main_v46]
  simp only [k_apply, cum_apply]

theorem decay_apply (d : Fin 128) : val_main_v67 (F := Ideal) x0 x1 (ix4 b h n d) = Ideal.exp (cum (hgL x0 x1 b h) n.val 63 d) := by
  pointwise [val_main_v67, val_main_v66, val_main_v46]
  simp only [cum_apply]

theorem state0_apply (d : Fin 128) (e : Fin 128) : val_main_v39 (F := Ideal) (ix4 b h d e) = hgState x0 x1 b h 0 d e := by
  pointwise [hgState, state, val_main_v39, val_main_cst_4]

theorem state1_apply (d : Fin 128) (e : Fin 128) : val_main_v81 (F := Ideal) x0 x1 (ix4 b h d e) = hgState x0 x1 b h 1 d e := by
  pointwise [val_main_v71, val_main_v72, val_main_v73, val_main_v74, val_main_v75, val_main_v76, val_main_v77, val_main_v78, val_main_v79, val_main_v80, val_main_v81]
  simp only [state0_apply x0 x1, decay_apply, kUpd_apply, v_apply]
  rfl

theorem inter0_apply (e : Fin 128) :
    val_main_v70 (F := Ideal) x0 x1 (ix4 b h i e)
      = inter (hgQ x0 b h) (hgK x0 x1 b h) (hgL x0 x1 b h) (hgV x0 b h) (fun _ _ => 0) 0 i e := by
  pointwise [val_main_v68, val_main_v69, val_main_v70]
  simp only [state0_apply x0 x1, qInter_apply]
  rfl

theorem state2_apply (d : Fin 128) (e : Fin 128) : val_main_v95 (F := Ideal) x0 x1 (ix4 b h d e) = hgState x0 x1 b h 2 d e := by
  pointwise [val_main_v85, val_main_v86, val_main_v87, val_main_v88, val_main_v89, val_main_v90, val_main_v91, val_main_v92, val_main_v93, val_main_v94, val_main_v95]
  simp only [state1_apply x0 x1, decay_apply, kUpd_apply, v_apply]
  rfl

theorem inter1_apply (e : Fin 128) :
    val_main_v84 (F := Ideal) x0 x1 (ix4 b h i e)
      = inter (hgQ x0 b h) (hgK x0 x1 b h) (hgL x0 x1 b h) (hgV x0 b h) (fun _ _ => 0) 1 i e := by
  pointwise [val_main_v82, val_main_v83, val_main_v84]
  simp only [state1_apply x0 x1, qInter_apply]
  rfl

theorem state3_apply (d : Fin 128) (e : Fin 128) : val_main_v109 (F := Ideal) x0 x1 (ix4 b h d e) = hgState x0 x1 b h 3 d e := by
  pointwise [val_main_v99, val_main_v100, val_main_v101, val_main_v102, val_main_v103, val_main_v104, val_main_v105, val_main_v106, val_main_v107, val_main_v108, val_main_v109]
  simp only [state2_apply x0 x1, decay_apply, kUpd_apply, v_apply]
  rfl

theorem inter2_apply (e : Fin 128) :
    val_main_v98 (F := Ideal) x0 x1 (ix4 b h i e)
      = inter (hgQ x0 b h) (hgK x0 x1 b h) (hgL x0 x1 b h) (hgV x0 b h) (fun _ _ => 0) 2 i e := by
  pointwise [val_main_v96, val_main_v97, val_main_v98]
  simp only [state2_apply x0 x1, qInter_apply]
  rfl

theorem state4_apply (d : Fin 128) (e : Fin 128) : val_main_v123 (F := Ideal) x0 x1 (ix4 b h d e) = hgState x0 x1 b h 4 d e := by
  pointwise [val_main_v113, val_main_v114, val_main_v115, val_main_v116, val_main_v117, val_main_v118, val_main_v119, val_main_v120, val_main_v121, val_main_v122, val_main_v123]
  simp only [state3_apply x0 x1, decay_apply, kUpd_apply, v_apply]
  rfl

theorem inter3_apply (e : Fin 128) :
    val_main_v112 (F := Ideal) x0 x1 (ix4 b h i e)
      = inter (hgQ x0 b h) (hgK x0 x1 b h) (hgL x0 x1 b h) (hgV x0 b h) (fun _ _ => 0) 3 i e := by
  pointwise [val_main_v110, val_main_v111, val_main_v112]
  simp only [state3_apply x0 x1, qInter_apply]
  rfl

theorem interAll_apply (e : Fin 128) :
    val_main_v128 (F := Ideal) x0 x1 (ix5 b h n i e)
      = inter (hgQ x0 b h) (hgK x0 x1 b h) (hgL x0 x1 b h) (hgV x0 b h) (fun _ _ => 0) n.val i e := by
  match n with
  | 0 =>
    refine Eq.trans ?_ (inter0_apply x0 x1 b h i e)
    pointwise [val_main_v128, val_main_v124, val_main_v125, val_main_v126, val_main_v127]
  | 1 =>
    refine Eq.trans ?_ (inter1_apply x0 x1 b h i e)
    pointwise [val_main_v128, val_main_v124, val_main_v125, val_main_v126, val_main_v127]
  | 2 =>
    refine Eq.trans ?_ (inter2_apply x0 x1 b h i e)
    pointwise [val_main_v128, val_main_v124, val_main_v125, val_main_v126, val_main_v127]
  | 3 =>
    refine Eq.trans ?_ (inter3_apply x0 x1 b h i e)
    pointwise [val_main_v128, val_main_v124, val_main_v125, val_main_v126, val_main_v127]

/-- The reference's output at position `i` of chunk `n` of sequence `b`, in the head's column `e`. -/
theorem out_apply (e : Fin 128) :
    val_main_v133 (F := Ideal) x0 x1 (ix3 ⟨b.val, by omega⟩ (pos 256 n.val i) (hcol h e)) = hgOut x0 x1 b h n.val i e := by
  rw [pos_eq 256 n.val i (by omega)]
  have key : val_main_v129 (F := Ideal) x0 x1 (ix5 b h n i e) = hgOut x0 x1 b h n.val i e := by
    pointwise [val_main_v129]
    rw [intra_apply, interAll_apply]
    rfl
  rw [← key]
  pointwise [val_main_v133, val_main_v132, val_main_v131, val_main_v130, val_main_call4_v0, val_main_c_6]
  rw [dif_pos (show 64 * n.val + i.val < 256 by omega)]
  exact congrArg₂ (fun h e => val_main_v129 (F := Ideal) x0 x1 (ix5 b h n i e)) (Fin.ext (show (128 * h.val + e.val) / 128 = h.val by omega))
    (Fin.ext (show (128 * h.val + e.val) % 128 = e.val by omega))

end Cert.HgrnReferenceIdeal.Chunk

end
-- ==== Proof.HgrnAlgebraic.lean ====
/- The HGRN scan's results, equal over the extended reals on the prompt's rows. -/
module

public import proofs.«01_k».proof.Defs
public import proofs.«01_k».proof.Proof.Algebraic
public import proofs.«01_k».proof.Proof.HgrnValue
public import proofs.«01_k».proof.Proof.HgrnRefValue
public import proofs.«01_k».proof.Proof.Gen.HgrnReferenceIdeal.Run
public import proofs.«01_k».proof.Proof.Gen.On_hgrn_rows

@[expose] public section

set_option maxRecDepth 16384

noncomputable section

namespace Cert.HgrnScan

open Idealize.ShloMosaic Idealize.SL.Sem Cert.Scan

/-- The mask admits no row past the prompt. -/
theorem mask_lt (a0 : Vec Ideal Cert.On_hgrn_rows.S24576x10240 .f32) (a1 : Vec Ideal Cert.On_hgrn_rows.S2x1x2048 .f32) (a : Fin 96) (p : Fin 256)
    (j : Fin 2048) (hm : (Cert.On_hgrn_rows.fn (F := Ideal) a0 a1).1 (ix3 a p j) = 1#1) : a.val < 32 := by
  have h : IntOp.cmpi .slt (BitVec.ofNat 32 a.val) 32#32 = 1#1 := hm
  revert h
  exact (by decide +kernel : ∀ a : Fin 96, IntOp.cmpi .slt (BitVec.ofNat 32 a.val) 32#32 = 1#1 → a.val < 32) a

/-- Column `j`: its block of heads, its head there, its column there. -/
theorem col_divmod (j : Fin 2048) : hcol (Cert.HgrnIdeal.Chunk.hd ⟨j.val / 512, by omega⟩ ⟨j.val / 128 % 4, Nat.mod_lt _ (by decide)⟩) ⟨j.val % 128, Nat.mod_lt _ (by decide)⟩ = j := by
  apply Fin.ext
  show 128 * (4 * (j.val / 512) + j.val / 128 % 4) + j.val % 128 = j.val
  omega

/-- Head `h`: its block of heads and its place there. -/
theorem head_divmod (h : Fin 16) : Cert.HgrnIdeal.Chunk.hd ⟨h.val / 4, by omega⟩ ⟨h.val % 4, Nat.mod_lt _ (by decide)⟩ = h := by
  apply Fin.ext
  show 4 * (h.val / 4) + h.val % 4 = h.val
  omega

section
variable (m : (ℓ : Loc Cert.HgrnIdeal.nD Cert.HgrnIdeal.τ Cert.HgrnIdeal.sig) → Buf (Elt Ideal) ℓ) (c : Dev Cert.HgrnIdeal.nD)

theorem o_eq (i : (⟨3, ![96, 256, 2048]⟩ : Shape).Idx)
    (hm : (Cert.On_hgrn_rows.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1))).1 i = 1#1) :
    (Cert.HgrnIdeal.Gen.dats m 0 c).arrAt 4 Cert.HgrnIdeal.cfg0.N i
      = Cert.HgrnReferenceIdeal.Read.val_main_v133 (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) i := by
  idx_vars i
  have h0 := mask_lt _ _ _ _ _ hm
  have hk := Cert.HgrnIdeal.Chunk.o_apply m c ⟨i0.val, h0⟩ ⟨i2.val / 512, by omega⟩ ⟨i2.val / 128 % 4, Nat.mod_lt _ (by decide)⟩ ⟨i1.val / 64, by omega⟩ ⟨i1.val % 64, Nat.mod_lt _ (by decide)⟩ ⟨i2.val % 128, Nat.mod_lt _ (by decide)⟩
  have hr := Cert.HgrnReferenceIdeal.Chunk.out_apply (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) ⟨i0.val, h0⟩ (Cert.HgrnIdeal.Chunk.hd ⟨i2.val / 512, by omega⟩ ⟨i2.val / 128 % 4, Nat.mod_lt _ (by decide)⟩) ⟨i1.val / 64, by omega⟩ ⟨i1.val % 64, Nat.mod_lt _ (by decide)⟩ ⟨i2.val % 128, Nat.mod_lt _ (by decide)⟩
  dsimp only at hk hr
  rw [Cert.Proof.pos_divmod i1, col_divmod i2] at hk hr
  exact hk.trans hr.symm

theorem s_eq (i : (⟨4, ![32, 16, 128, 128]⟩ : Shape).Idx) :
    (Cert.HgrnIdeal.Gen.dats m 0 c).arrAt 5 Cert.HgrnIdeal.cfg0.N i
      = Cert.HgrnReferenceIdeal.Read.val_main_v123 (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) i := by
  idx_vars i
  have hk := Cert.HgrnIdeal.Chunk.s_apply m c i0 ⟨i1.val / 4, by omega⟩ ⟨i1.val % 4, Nat.mod_lt _ (by decide)⟩ i2 i3
  have hr := Cert.HgrnReferenceIdeal.Chunk.state4_apply (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) i0 i1 i2 i3
  rw [head_divmod i1] at hk
  exact hk.trans hr.symm
end

theorem algebraic : Cert.algebraic_HgrnIdeal_HgrnReferenceIdeal_on_hgrn_rows := by
  intro m g m' g' _ hagree
  refine ⟨fun c => Cert.HgrnReferenceIdeal.Read.val_main_v133 (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)),
    fun c => Cert.HgrnReferenceIdeal.Read.val_main_v123 (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)), ?_, ?_⟩
  · refine (θ_run Cert.HgrnIdeal.defs _ _).mono (fun r h c => ?_) (Cert.HgrnIdeal.Value.run_blocks m g)
    obtain ⟨h0, h1, h2, h3⟩ := h c
    refine ⟨fun i hm => ?_, fun i _ => ?_, h2, h3⟩
    · rw [h0]; exact o_eq m c i hm
    · rw [h1]; exact s_eq m c i
  · refine (θ_run Cert.HgrnReferenceIdeal.defs _ _).mono (fun r h c => ?_) (Cert.HgrnReferenceIdeal.Value.run m' g')
    obtain ⟨h0, h1, h2, h3⟩ := h c
    refine ⟨fun i _ => ?_, fun i _ => ?_, h2, h3⟩
    · rw [h0, Cert.HgrnReferenceIdeal.Read.val_main_v133_eq, (hagree c).1, (hagree c).2]
    · rw [h1, Cert.HgrnReferenceIdeal.Read.val_main_v123_eq, (hagree c).1, (hagree c).2]

end Cert.HgrnScan

namespace Cert.Proof

open Idealize.ShloMosaic Idealize.SL.Sem

theorem algebraic_hgrn : Cert.algebraic_HgrnIdeal_HgrnReferenceIdeal_on_hgrn_rows := Cert.HgrnScan.algebraic

/-- The HGRN scan's reference is a straight-line host program without semaphores: its run keeps the arguments. -/
theorem frame_hgrnReference : Cert.quiescent_HgrnReferenceIdeal := by
  intro m g _
  exact (θ_run Cert.HgrnReferenceIdeal.defs _ _).mono (fun r h => ⟨fun c => (h c).2.2,
      Idealize.ShloMosaic.sem_eq_zero_of_no_sems (by decide) r.2⟩)
    (Cert.HgrnReferenceIdeal.Value.run (F := Ideal) m g)

end Cert.Proof

end
-- ==== Proof.HgrnBackSpec.lean ====
/- The backward HGRN scan: the recurrence over a sequence read from its last position to its first. -/
module

public import proofs.«01_k».proof.Proof.HgrnSpec

@[expose] public section

noncomputable section

namespace Cert.Scan

open Idealize.ShloMosaic

section
variable (x : (⟨2, ![24576, 10240]⟩ : Shape).Idx → EReal) (lb : (⟨3, ![2, 1, 2048]⟩ : Shape).Idx → EReal)
variable (b : Fin 32) (h : Fin 16)

/-- The gate's logit in column `c`. -/
def hfBackIn (p : Fin 256) (c : Fin 2048) : EReal := x (ix2 (row b p) ⟨4096 + c.val, by omega⟩)

/-- The gate's lower bound in column `c`. -/
def hbBackIn (c : Fin 2048) : EReal := lb (ix3 1 0 c)

/-- The scaled queries. -/
def hgbQ (n : ℕ) (i : Fin 64) (d : Fin 128) : EReal := query (hqIn x b (Fin.rev (pos 256 n i)) (hcol h d))

/-- The keys. -/
def hgbK (n : ℕ) (i : Fin 64) (d : Fin 128) : EReal := one - forget (hbBackIn lb (hcol h d)) (hfBackIn x b (Fin.rev (pos 256 n i)) (hcol h d))

/-- The log decays. -/
def hgbL (n : ℕ) (i : Fin 64) (d : Fin 128) : EReal := Ideal.log (forget (hbBackIn lb (hcol h d)) (hfBackIn x b (Fin.rev (pos 256 n i)) (hcol h d)))

/-- The values. -/
def hgbV (n : ℕ) (i : Fin 64) (e : Fin 128) : EReal := hvIn x b (Fin.rev (pos 256 n i)) (hcol h e)

/-- The recurrence's output at position `i` of chunk `n`. -/
def hgbOut (n : ℕ) (i : Fin 64) (e : Fin 128) : EReal :=
  out (hgbQ x b h) (hgbK x lb b h) (hgbL x lb b h) (hgbV x b h) (fun _ _ => 0) n i e

/-- The recurrence's state after `n` chunks. -/
def hgbState (n : ℕ) (d : Fin 128) (e : Fin 128) : EReal := state (hgbK x lb b h) (hgbL x lb b h) (hgbV x b h) (fun _ _ => 0) n d e
end

end Cert.Scan

end
-- ==== Proof.HgrnBackChunk.lean ====
/- The chunk functions of the backward recurrence with a forget gate, for one head, read at an index: they are the recurrence of
   `Cert.Scan`. A block holds four heads of 128 columns; `o` is the head's first column in the block. -/
module

public import proofs.«01_k».proof.Proof.HgrnBackSpec
public import proofs.«01_k».proof.Proof.Gen.HgrnBackIdeal.Skeleton
public import proofs.«01_k».proof.Proof.BackChunk
public import Idealize.ShloMosaic.Lib.Pointwise
public import Idealize.ShloMosaic.PureOps.Ideal.Laws

@[expose] public section

set_option maxRecDepth 16384

noncomputable section

namespace Cert.HgrnBackIdeal.Chunk

open Cert.HgrnBackIdeal Cert.HgrnBackIdeal.Gen Idealize.ShloMosaic Cert.Scan
open Cert.BackIdeal.Chunk (le_bit tri_apply sum_rev)

variable (o : ℕ) (hs : S64x512.Slices ![0, o] S64x128) (h1 : S1x512.Slices ![0, o] S1x128)

/-- A chunk's contribution to its own output. -/
def intraH (q f v : Vec Ideal S1x64x512 .f32) (lb : Vec Ideal S1x1x512 .f32) : FVec Ideal S64x128 .f32 :=
  matmul dot_S64x64_S64x128_S64x128_1_0_0_1_n_n none
    (truncf .bf16 (select k0_pay5 (matmul dot_S64x128_S64x128_S64x64_1_1_0_0_n_n none
      (extractStridedSlice S64x128 ![0, o] (k0_pay16 k0_pay6 (k0_pay7 q) (k0_pay10 f lb) (k0_pay11 q)) hs)
      (extractStridedSlice S64x128 ![0, o] (k0_pay17 k0_pay6 (k0_pay9 f lb) (k0_pay10 f lb)) hs)
      (constant S64x64 .f32 0x00000000#32)) (broadcast S64x64 (Scalar.ofBits .f32 0x00000000#32))) bitsLt_bf16_f32)
    (extractStridedSlice S64x128 ![0, o] (k0_pay21 v) hs) (constant S64x128 .f32 0x00000000#32)

/-- The state after a chunk, from the state `S` before it; the state is held transposed. -/
def stepH (f v : Vec Ideal S1x64x512 .f32) (lb : Vec Ideal S1x1x512 .f32) (S : FVec Ideal S128x128 .f32) : FVec Ideal S128x128 .f32 :=
  addf (mulf S (broadcastTo S128x128 (extractStridedSlice S1x128 ![0, o] (k0_pay20 k0_pay6 (k0_pay10 f lb)) h1) broadcasts_S1x128_S128x128))
    (matmul dot_S64x128_S64x128_S128x128_0_0_1_1_n_n none (extractStridedSlice S64x128 ![0, o] (k0_pay21 v) hs)
      (extractStridedSlice S64x128 ![0, o] (k0_pay19 k0_pay6 (k0_pay9 f lb) (k0_pay10 f lb)) hs) (constant S128x128 .f32 0x00000000#32))

/-- What the state before a chunk contributes to the chunk's output. -/
def interH (q f : Vec Ideal S1x64x512 .f32) (lb : Vec Ideal S1x1x512 .f32) (S : FVec Ideal S128x128 .f32) : FVec Ideal S64x128 .f32 :=
  matmul dot_S64x128_S128x128_S64x128_1_1_0_0_n_n none
    (extractStridedSlice S64x128 ![0, o] (k0_pay18 k0_pay6 (k0_pay7 q) (k0_pay10 f lb) (k0_pay11 q)) hs) (truncf .bf16 S bitsLt_bf16_f32)
    (constant S64x128 .f32 0x00000000#32)

/-- One chunk's output from the state before it. -/
def outH (q f v : Vec Ideal S1x64x512 .f32) (lb : Vec Ideal S1x1x512 .f32) (S : FVec Ideal S128x128 .f32) : FVec Ideal S64x128 .f32 :=
  addf (intraH o hs q f v lb) (interH o hs q f lb S)

/-- Column `d` of the head in the block. -/
def col (ho : o ≤ 384) (d : Fin 128) : Fin 512 := ⟨o + d.val, by omega⟩

section
variable {et : EltTy}
theorem slice_apply (ho : o ≤ 384) (x : S64x512.Idx → Elt Ideal et) (i : Fin 64) (d : Fin 128) :
    extractStridedSlice S64x128 ![0, o] x hs (ix2 i d) = x (ix2 i (col o ho d)) := by
  pointwise [col]

theorem slice1_apply (ho : o ≤ 384) (x : S1x512.Idx → Elt Ideal et) (d : Fin 128) :
    extractStridedSlice S1x128 ![0, o] x h1 (ix2 0 d) = x (ix2 0 (col o ho d)) := by
  pointwise [col]
end

variable (q f v : Vec Ideal S1x64x512 .f32) (lb : Vec Ideal S1x1x512 .f32)

theorem forget_apply (i : Fin 64) (c : Fin 512) : k0_pay8 f lb (ix2 i c) = forget (lb (ix3 0 0 c)) (f (ix3 0 i c)) := by
  pointwise [k0_pay8, forget, logi, zero_sub, Ideal.ofBits_one_f32]

theorem key_apply (i : Fin 64) (c : Fin 512) : k0_pay9 f lb (ix2 i c) = one - forget (lb (ix3 0 0 c)) (f (ix3 0 i c)) := by
  rw [← forget_apply]
  pointwise [k0_pay9]

theorem log_apply (i : Fin 64) (c : Fin 512) : k0_pay10 f lb (ix2 i c) = Ideal.log (forget (lb (ix3 0 0 c)) (f (ix3 0 i c))) := by
  rw [← forget_apply]
  pointwise [k0_pay10]

theorem query_apply (i : Fin 64) (c : Fin 512) : k0_pay12 (k0_pay7 q) (k0_pay11 q) (ix2 i c) = query (q (ix3 0 i c)) := by
  pointwise [k0_pay12, k0_pay7, k0_pay11, query, logi, zero_sub, Ideal.ofBits_one_f32]

variable (ho : o ≤ 384)
variable (Q K L V : ℕ → Fin 64 → Fin 128 → EReal) (n : ℕ)

theorem cumH_apply (hl : ∀ i d, Ideal.log (forget (lb (ix3 0 0 (col o ho d))) (f (ix3 0 i (col o ho d)))) = L n (Fin.rev i) d) (i : Fin 64) (d : Fin 128) :
    k0_pay13 k0_pay6 (k0_pay10 f lb) (ix2 i (col o ho d)) = cum L n (Fin.rev i) d := by
  have e : ∀ j, k0_pay10 f lb (ix2 j (col o ho d)) = L n (Fin.rev j) d := fun j => by rw [log_apply, hl]
  generalize k0_pay10 f lb = y at e
  pointwise [k0_pay13, k0_pay6, k0_pay5]
  unfold cum
  refine Eq.trans ?_ (sum_rev fun j => if j ≤ Fin.rev i then L n j d else 0).symm
  refine Finset.sum_congr rfl fun j _ => ?_
  rw [tri_apply, e]
  by_cases h : Fin.rev j ≤ Fin.rev i
  · rw [if_pos h, if_pos h, one_mul]
  · rw [if_neg h, if_neg h, zero_mul]

theorem qe_apply (hq : ∀ i d, query (q (ix3 0 i (col o ho d))) = Q n (Fin.rev i) d)
    (hl : ∀ i d, Ideal.log (forget (lb (ix3 0 0 (col o ho d))) (f (ix3 0 i (col o ho d)))) = L n (Fin.rev i) d) (i : Fin 64) (d : Fin 128) :
    k0_pay16 k0_pay6 (k0_pay7 q) (k0_pay10 f lb) (k0_pay11 q) (ix2 i (col o ho d)) = Q n (Fin.rev i) d * Ideal.exp (cum L n (Fin.rev i) d - cum L n 32 d) := by
  rw [show (32 : Fin 64) = Fin.rev 31 from by decide]
  rw [← cumH_apply o f lb ho L n hl, ← cumH_apply o f lb ho L n hl, ← hq, ← query_apply]
  generalize k0_pay10 f lb = y
  generalize col o ho d = c
  pointwise [k0_pay16, k0_pay14]

theorem ke_apply (hk : ∀ i d, one - forget (lb (ix3 0 0 (col o ho d))) (f (ix3 0 i (col o ho d))) = K n (Fin.rev i) d)
    (hl : ∀ i d, Ideal.log (forget (lb (ix3 0 0 (col o ho d))) (f (ix3 0 i (col o ho d)))) = L n (Fin.rev i) d) (i : Fin 64) (d : Fin 128) :
    k0_pay17 k0_pay6 (k0_pay9 f lb) (k0_pay10 f lb) (ix2 i (col o ho d)) = K n (Fin.rev i) d * Ideal.exp (cum L n 32 d - cum L n (Fin.rev i) d) := by
  rw [show (32 : Fin 64) = Fin.rev 31 from by decide]
  rw [← cumH_apply o f lb ho L n hl, ← cumH_apply o f lb ho L n hl, ← hk, ← key_apply]
  generalize k0_pay10 f lb = y
  generalize k0_pay9 f lb = z
  generalize col o ho d = c
  pointwise [k0_pay17, k0_pay14]

theorem qi_apply (hq : ∀ i d, query (q (ix3 0 i (col o ho d))) = Q n (Fin.rev i) d)
    (hl : ∀ i d, Ideal.log (forget (lb (ix3 0 0 (col o ho d))) (f (ix3 0 i (col o ho d)))) = L n (Fin.rev i) d) (i : Fin 64) (d : Fin 128) :
    k0_pay18 k0_pay6 (k0_pay7 q) (k0_pay10 f lb) (k0_pay11 q) (ix2 i (col o ho d)) = Q n (Fin.rev i) d * Ideal.exp (cum L n (Fin.rev i) d) := by
  rw [← cumH_apply o f lb ho L n hl, ← hq, ← query_apply]
  generalize k0_pay10 f lb = y
  generalize col o ho d = c
  pointwise [k0_pay18]

theorem ku_apply (hk : ∀ i d, one - forget (lb (ix3 0 0 (col o ho d))) (f (ix3 0 i (col o ho d))) = K n (Fin.rev i) d)
    (hl : ∀ i d, Ideal.log (forget (lb (ix3 0 0 (col o ho d))) (f (ix3 0 i (col o ho d)))) = L n (Fin.rev i) d) (i : Fin 64) (d : Fin 128) :
    k0_pay19 k0_pay6 (k0_pay9 f lb) (k0_pay10 f lb) (ix2 i (col o ho d)) = K n (Fin.rev i) d * Ideal.exp (cum L n 63 d - cum L n (Fin.rev i) d) := by
  rw [show (63 : Fin 64) = Fin.rev 0 from by decide]
  rw [← cumH_apply o f lb ho L n hl, ← cumH_apply o f lb ho L n hl, ← hk, ← key_apply]
  generalize k0_pay10 f lb = y
  generalize k0_pay9 f lb = z
  generalize col o ho d = c
  pointwise [k0_pay19, k0_pay15]

theorem dec_apply (hl : ∀ i d, Ideal.log (forget (lb (ix3 0 0 (col o ho d))) (f (ix3 0 i (col o ho d)))) = L n (Fin.rev i) d) (d : Fin 128) :
    k0_pay20 k0_pay6 (k0_pay10 f lb) (ix2 0 (col o ho d)) = Ideal.exp (cum L n 63 d) := by
  rw [show (63 : Fin 64) = Fin.rev 0 from by decide]
  rw [← cumH_apply o f lb ho L n hl]
  generalize k0_pay10 f lb = y
  generalize col o ho d = c
  pointwise [k0_pay20, k0_pay15]

theorem val_apply (hv : ∀ i e, v (ix3 0 i (col o ho e)) = V n (Fin.rev i) e) (i : Fin 64) (e : Fin 128) :
    k0_pay21 v (ix2 i (col o ho e)) = V n (Fin.rev i) e := by
  rw [← hv]
  generalize col o ho e = c
  pointwise [k0_pay21]

theorem intraH_apply (hq : ∀ i d, query (q (ix3 0 i (col o ho d))) = Q n (Fin.rev i) d)
    (hk : ∀ i d, one - forget (lb (ix3 0 0 (col o ho d))) (f (ix3 0 i (col o ho d))) = K n (Fin.rev i) d)
    (hl : ∀ i d, Ideal.log (forget (lb (ix3 0 0 (col o ho d))) (f (ix3 0 i (col o ho d)))) = L n (Fin.rev i) d)
    (hv : ∀ i e, v (ix3 0 i (col o ho e)) = V n (Fin.rev i) e) (i : Fin 64) (e : Fin 128) :
    intraH o hs q f v lb (ix2 i e) = intra Q K L V n (Fin.rev i) e := by
  have e1 : ∀ i d, extractStridedSlice S64x128 ![0, o] (k0_pay16 k0_pay6 (k0_pay7 q) (k0_pay10 f lb) (k0_pay11 q)) hs (ix2 i d) = Q n (Fin.rev i) d * Ideal.exp (cum L n (Fin.rev i) d - cum L n 32 d) :=
    fun i d => (slice_apply (et := .bf16) o hs ho _ i d).trans (qe_apply o q f lb ho Q L n hq hl i d)
  have e2 : ∀ i d, extractStridedSlice S64x128 ![0, o] (k0_pay17 k0_pay6 (k0_pay9 f lb) (k0_pay10 f lb)) hs (ix2 i d) = K n (Fin.rev i) d * Ideal.exp (cum L n 32 d - cum L n (Fin.rev i) d) :=
    fun i d => (slice_apply (et := .bf16) o hs ho _ i d).trans (ke_apply o f lb ho K L n hk hl i d)
  have e3 : ∀ i d, extractStridedSlice S64x128 ![0, o] (k0_pay21 v) hs (ix2 i d) = V n (Fin.rev i) d :=
    fun i d => (slice_apply (et := .bf16) o hs ho _ i d).trans (val_apply o v ho V n hv i d)
  unfold intraH
  generalize extractStridedSlice S64x128 ![0, o] (k0_pay16 k0_pay6 (k0_pay7 q) (k0_pay10 f lb) (k0_pay11 q)) hs = y1 at e1
  generalize extractStridedSlice S64x128 ![0, o] (k0_pay17 k0_pay6 (k0_pay9 f lb) (k0_pay10 f lb)) hs = y2 at e2
  generalize extractStridedSlice S64x128 ![0, o] (k0_pay21 v) hs = y3 at e3
  pointwise [k0_pay5]
  unfold intra
  refine Eq.trans ?_ (sum_rev fun j => (if j ≤ Fin.rev i then score Q K L n (Fin.rev i) j else 0) * V n j e).symm
  unfold score
  refine Finset.sum_congr rfl fun j _ => ?_
  simp only [e1, e2, e3]
  rw [le_bit]
  by_cases h : Fin.rev j ≤ Fin.rev i
  · rw [if_pos h, if_pos h]; rfl
  · rw [if_neg h, if_neg h, zero_mul]; rfl

theorem stepH_apply (hk : ∀ i d, one - forget (lb (ix3 0 0 (col o ho d))) (f (ix3 0 i (col o ho d))) = K n (Fin.rev i) d)
    (hl : ∀ i d, Ideal.log (forget (lb (ix3 0 0 (col o ho d))) (f (ix3 0 i (col o ho d)))) = L n (Fin.rev i) d)
    (hv : ∀ i e, v (ix3 0 i (col o ho e)) = V n (Fin.rev i) e) (S : FVec Ideal S128x128 .f32) (s : Fin 128 → Fin 128 → EReal)
    (hS : ∀ d e, S (ix2 e d) = state K L V s n d e) (d : Fin 128) (e : Fin 128) :
    stepH o hs h1 f v lb S (ix2 e d) = state K L V s (n + 1) d e := by
  have e1 : ∀ d, extractStridedSlice S1x128 ![0, o] (k0_pay20 k0_pay6 (k0_pay10 f lb)) h1 (ix2 0 d) = Ideal.exp (cum L n 63 d) :=
    fun d => (slice1_apply (et := .f32) o h1 ho _ d).trans (dec_apply o f lb ho L n hl d)
  have e2 : ∀ i d, extractStridedSlice S64x128 ![0, o] (k0_pay19 k0_pay6 (k0_pay9 f lb) (k0_pay10 f lb)) hs (ix2 i d) = K n (Fin.rev i) d * Ideal.exp (cum L n 63 d - cum L n (Fin.rev i) d) :=
    fun i d => (slice_apply (et := .bf16) o hs ho _ i d).trans (ku_apply o f lb ho K L n hk hl i d)
  have e3 : ∀ i d, extractStridedSlice S64x128 ![0, o] (k0_pay21 v) hs (ix2 i d) = V n (Fin.rev i) d :=
    fun i d => (slice_apply (et := .bf16) o hs ho _ i d).trans (val_apply o v ho V n hv i d)
  unfold stepH
  generalize extractStridedSlice S1x128 ![0, o] (k0_pay20 k0_pay6 (k0_pay10 f lb)) h1 = y1 at e1
  generalize extractStridedSlice S64x128 ![0, o] (k0_pay19 k0_pay6 (k0_pay9 f lb) (k0_pay10 f lb)) hs = y2 at e2
  generalize extractStridedSlice S64x128 ![0, o] (k0_pay21 v) hs = y3 at e3
  pointwise
  simp only [hS, e1, e2, e3, state]
  refine congrArg₂ (· + ·) rfl (Eq.trans ?_ (sum_rev fun j => (K n j d * Ideal.exp (cum L n 63 d - cum L n j d)) * V n j e).symm)
  exact Finset.sum_congr rfl fun j _ => mul_comm _ _

theorem interH_apply (hq : ∀ i d, query (q (ix3 0 i (col o ho d))) = Q n (Fin.rev i) d)
    (hl : ∀ i d, Ideal.log (forget (lb (ix3 0 0 (col o ho d))) (f (ix3 0 i (col o ho d)))) = L n (Fin.rev i) d)
    (S : FVec Ideal S128x128 .f32) (s : Fin 128 → Fin 128 → EReal)
    (hS : ∀ d e, S (ix2 e d) = state K L V s n d e) (i : Fin 64) (e : Fin 128) :
    interH o hs q f lb S (ix2 i e) = inter Q K L V s n (Fin.rev i) e := by
  have e1 : ∀ i d, extractStridedSlice S64x128 ![0, o] (k0_pay18 k0_pay6 (k0_pay7 q) (k0_pay10 f lb) (k0_pay11 q)) hs (ix2 i d) = Q n (Fin.rev i) d * Ideal.exp (cum L n (Fin.rev i) d) :=
    fun i d => (slice_apply (et := .bf16) o hs ho _ i d).trans (qi_apply o q f lb ho Q L n hq hl i d)
  unfold interH
  generalize extractStridedSlice S64x128 ![0, o] (k0_pay18 k0_pay6 (k0_pay7 q) (k0_pay10 f lb) (k0_pay11 q)) hs = y1 at e1
  pointwise
  simp only [hS, e1, inter]

end Cert.HgrnBackIdeal.Chunk

end
-- ==== Proof.HgrnBackBlock.lean ====
/- What the kernel's body leaves in its two output blocks, as the chunk functions of `HgrnBackChunk` applied to four chunks and
   four heads, and those blocks read at an index. -/
module

public import proofs.«01_k».proof.Proof.HgrnBackChunk
public import proofs.«01_k».proof.Proof.Gen.HgrnBackIdeal.Value
public import Idealize.ShloMosaic.Lib.Tactic

@[expose] public section

set_option maxRecDepth 16384

noncomputable section

namespace Cert.HgrnBackIdeal.Chunk

open Cert.HgrnBackIdeal Cert.HgrnBackIdeal.Gen Idealize.ShloMosaic Idealize.ShloMosaic.TcCoe Cert.Scan
open Idealize.ShloMosaic.Pipeline (Dat)

/-- The 64 rows of a block that start at row `n`. -/
def part (x : Vec Ideal S1x256x512 .f32) (n : ℕ) (h : ∀ a, (![0, n, 0] : Fin 3 → ℕ) a + S1x64x512.size a ≤ S1x256x512.size a) :
    Vec Ideal S1x64x512 .f32 :=
  View.ld x (Rect.unit (s := S1x256x512) ![0, n, 0] S1x64x512.size h)

theorem part_pos (x : Vec Ideal S1x256x512 .f32) (n : ℕ) (hn : n < 4) (h) (i : Fin 64) (d : Fin 512) :
    part x (64 * (3 - n)) h (ix3 0 i d) = x (ix3 0 (Fin.rev (pos 256 n (Fin.rev i))) d) := by
  have e : part x (64 * (3 - n)) h (ix3 0 i d) = x (ix3 0 ⟨64 * (3 - n) + i.val, by omega⟩ d) := by pointwise [part]
  rw [e, pos_eq 256 n (Fin.rev i) (by omega)]
  exact congrArg (fun p => x (ix3 0 p d)) (Fin.ext (by simp only [Fin.val_rev]; omega))

/-- The state before the first chunk: zero. -/
def S0 : FVec Ideal S128x128 .f32 := shapeCast S128x128 (k0_pay1 (F := Ideal)) shapeCasts_S1x128x128_S128x128

section
variable (o : ℕ) (hs : S64x512.Slices ![0, o] S64x128) (h1 : S1x512.Slices ![0, o] S1x128)
variable (x0 x1 x2 : Vec Ideal S1x256x512 .f32) (x3 : Vec Ideal S1x1x512 .f32)

/-- The head's state after 1 chunk. -/
def S1 : FVec Ideal S128x128 .f32 := stepH o hs h1 (part x1 192 inb_S1x256x512_S1x64x512_0_192_0) (part x2 192 inb_S1x256x512_S1x64x512_0_192_0) x3 S0

/-- The head's state after 2 chunks. -/
def S2 : FVec Ideal S128x128 .f32 := stepH o hs h1 (part x1 128 inb_S1x256x512_S1x64x512_0_128_0) (part x2 128 inb_S1x256x512_S1x64x512_0_128_0) x3 (S1 o hs h1 x1 x2 x3)

/-- The head's state after 3 chunks. -/
def S3 : FVec Ideal S128x128 .f32 := stepH o hs h1 (part x1 64 inb_S1x256x512_S1x64x512_0_64_0) (part x2 64 inb_S1x256x512_S1x64x512_0_64_0) x3 (S2 o hs h1 x1 x2 x3)

/-- The head's state after 4 chunks. -/
def S4 : FVec Ideal S128x128 .f32 := stepH o hs h1 (part x1 0 inb_S1x256x512_S1x64x512_0_0_0) (part x2 0 inb_S1x256x512_S1x64x512_0_0_0) x3 (S3 o hs h1 x1 x2 x3)

/-- The head's output in chunk 0. -/
def O0 : FVec Ideal S64x128 .f32 := outH o hs (part x0 192 inb_S1x256x512_S1x64x512_0_192_0) (part x1 192 inb_S1x256x512_S1x64x512_0_192_0) (part x2 192 inb_S1x256x512_S1x64x512_0_192_0) x3 S0

/-- The head's output in chunk 1. -/
def O1 : FVec Ideal S64x128 .f32 := outH o hs (part x0 128 inb_S1x256x512_S1x64x512_0_128_0) (part x1 128 inb_S1x256x512_S1x64x512_0_128_0) (part x2 128 inb_S1x256x512_S1x64x512_0_128_0) x3 (S1 o hs h1 x1 x2 x3)

/-- The head's output in chunk 2. -/
def O2 : FVec Ideal S64x128 .f32 := outH o hs (part x0 64 inb_S1x256x512_S1x64x512_0_64_0) (part x1 64 inb_S1x256x512_S1x64x512_0_64_0) (part x2 64 inb_S1x256x512_S1x64x512_0_64_0) x3 (S2 o hs h1 x1 x2 x3)

/-- The head's output in chunk 3. -/
def O3 : FVec Ideal S64x128 .f32 := outH o hs (part x0 0 inb_S1x256x512_S1x64x512_0_0_0) (part x1 0 inb_S1x256x512_S1x64x512_0_0_0) (part x2 0 inb_S1x256x512_S1x64x512_0_0_0) x3 (S3 o hs h1 x1 x2 x3)

end

variable (x0 x1 x2 : Vec Ideal S1x256x512 .f32) (x3 : Vec Ideal S1x1x512 .f32)

/-- Four heads' outputs side by side. -/
def side (y0 y1 y2 y3 : FVec Ideal S64x128 .f32) : FVec Ideal S64x512 .f32 :=
  concatenate S64x512 1 [⟨S64x128, y0⟩, ⟨S64x128, y1⟩, ⟨S64x128, y2⟩, ⟨S64x128, y3⟩] concatenates_S64x128_S64x128_S64x128_S64x128_S64x512_d1

/-- The four heads' outputs in chunk 0, side by side. -/
def C0 : FVec Ideal S64x512 .f32 := side (O0 0 slices_S64x512_o0_0_S64x128 x0 x1 x2 x3)
  (O0 128 slices_S64x512_o0_128_S64x128 x0 x1 x2 x3)
  (O0 256 slices_S64x512_o0_256_S64x128 x0 x1 x2 x3)
  (O0 384 slices_S64x512_o0_384_S64x128 x0 x1 x2 x3)

/-- The four heads' outputs in chunk 1, side by side. -/
def C1 : FVec Ideal S64x512 .f32 := side (O1 0 slices_S64x512_o0_0_S64x128 slices_S1x512_o0_0_S1x128 x0 x1 x2 x3)
  (O1 128 slices_S64x512_o0_128_S64x128 slices_S1x512_o0_128_S1x128 x0 x1 x2 x3)
  (O1 256 slices_S64x512_o0_256_S64x128 slices_S1x512_o0_256_S1x128 x0 x1 x2 x3)
  (O1 384 slices_S64x512_o0_384_S64x128 slices_S1x512_o0_384_S1x128 x0 x1 x2 x3)

/-- The four heads' outputs in chunk 2, side by side. -/
def C2 : FVec Ideal S64x512 .f32 := side (O2 0 slices_S64x512_o0_0_S64x128 slices_S1x512_o0_0_S1x128 x0 x1 x2 x3)
  (O2 128 slices_S64x512_o0_128_S64x128 slices_S1x512_o0_128_S1x128 x0 x1 x2 x3)
  (O2 256 slices_S64x512_o0_256_S64x128 slices_S1x512_o0_256_S1x128 x0 x1 x2 x3)
  (O2 384 slices_S64x512_o0_384_S64x128 slices_S1x512_o0_384_S1x128 x0 x1 x2 x3)

/-- The four heads' outputs in chunk 3, side by side. -/
def C3 : FVec Ideal S64x512 .f32 := side (O3 0 slices_S64x512_o0_0_S64x128 slices_S1x512_o0_0_S1x128 x0 x1 x2 x3)
  (O3 128 slices_S64x512_o0_128_S64x128 slices_S1x512_o0_128_S1x128 x0 x1 x2 x3)
  (O3 256 slices_S64x512_o0_256_S64x128 slices_S1x512_o0_256_S1x128 x0 x1 x2 x3)
  (O3 384 slices_S64x512_o0_384_S64x128 slices_S1x512_o0_384_S1x128 x0 x1 x2 x3)

/-- The output block: the four chunks' outputs, one below the other. -/
def blockO : Vec Ideal S1x256x512 .f32 :=
  shapeCast S1x256x512 (concatenate S256x512 0 [⟨S64x512, C3 x0 x1 x2 x3⟩, ⟨S64x512, C2 x0 x1 x2 x3⟩, ⟨S64x512, C1 x0 x1 x2 x3⟩, ⟨S64x512, C0 x0 x1 x2 x3⟩]
    concatenates_S64x512_S64x512_S64x512_S64x512_S256x512_d0) shapeCasts_S256x512_S1x256x512

/-- One head's state as the body stores it. -/
def stored (S : FVec Ideal S128x128 .f32) : FVec Ideal S1x1x128x128 .f32 :=
  k0_pay172 (F := Ideal) (shapeCast S1x128x128 S shapeCasts_S128x128_S1x128x128)

/-- The state block: the four heads' states after the fourth chunk. -/
def blockS : Vec Ideal S1x4x128x128 .f32 :=
  View.canon (Val := Elt Ideal) (s := S1x4x128x128) (e := .f32)
    [⟨Rect.unit (s := S1x4x128x128) ![0, 3, 0, 0] S1x1x128x128.size inb_S1x4x128x128_S1x1x128x128_0_3_0_0, stored (S4 384 slices_S64x512_o0_384_S64x128 slices_S1x512_o0_384_S1x128 x1 x2 x3)⟩,
     ⟨Rect.unit (s := S1x4x128x128) ![0, 2, 0, 0] S1x1x128x128.size inb_S1x4x128x128_S1x1x128x128_0_2_0_0, stored (S4 256 slices_S64x512_o0_256_S64x128 slices_S1x512_o0_256_S1x128 x1 x2 x3)⟩,
     ⟨Rect.unit (s := S1x4x128x128) ![0, 1, 0, 0] S1x1x128x128.size inb_S1x4x128x128_S1x1x128x128_0_1_0_0, stored (S4 128 slices_S64x512_o0_128_S64x128 slices_S1x512_o0_128_S1x128 x1 x2 x3)⟩,
     ⟨Rect.unit (s := S1x4x128x128) ![0, 0, 0, 0] S1x1x128x128.size inb_S1x4x128x128_S1x1x128x128_0_0_0_0, stored (S4 0 slices_S64x512_o0_0_S64x128 slices_S1x512_o0_0_S1x128 x1 x2 x3)⟩]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable {sg : RefSig} {κ : Kind} {sp : Space} (w : View sg κ sp S4x128x128 .f32)

/-- A head's state read back past the store of another head's. -/
theorem read_past (a a' : ℕ) (h : a ≠ a') (inb : ∀ i, (![a, 0, 0] : Fin 3 → ℕ) i + S1x128x128.size i ≤ S4x128x128.size i)
    (inb' : ∀ i, (![a', 0, 0] : Fin 3 → ℕ) i + S1x128x128.size i ≤ S4x128x128.size i) (y : S1x128x128.Idx → Elt Ideal .f32)
    (L : List (View.Piece (Elt Ideal) S4x128x128 .f32)) :
    w.readCov ((⟨Rect.unit (s := S4x128x128) ![a, 0, 0] S1x128x128.size inb, y⟩ : View.Piece (Elt Ideal) S4x128x128 .f32) :: L)
      (Rect.unit (s := S4x128x128) ![a', 0, 0] S1x128x128.size inb').toLoadRect
      = w.readCov L (Rect.unit (s := S4x128x128) ![a', 0, 0] S1x128x128.size inb').toLoadRect :=
  View.readCov_cons_of_disjoint w _ L _ (Rect.unit_disjoint (inb := inb) (inb' := inb') 0 (by
    show a + 1 ≤ a' ∨ a' + 1 ≤ a
    omega))

end

set_option maxHeartbeats 8000000 in
theorem out_eq (c : Dev nD) (i : grid0.Coords) (a3 : Memref sig .tc .vmem S1x256x512 .f32) (h3 : a3.IsWhole)
    (a4 : Memref sig .tc .vmem S1x256x512 .f32) (h4 : a4.IsWhole) (a5 : Memref sig .tc .vmem S1x256x512 .f32) (h5 : a5.IsWhole)
    (a6 : Memref sig .tc .vmem S1x1x512 .f32) (h6 : a6.IsWhole) (a7 : Memref sig .tc .vmem S1x256x512 .f32) (h7 : a7.IsWhole)
    (a8 : Memref sig .tc .vmem S1x4x128x128 .f32) (h8 : a8.IsWhole) (a9 : Memref sig .tc .vmem S4x128x128 .f32) (h9 : a9.IsWhole)
    (hc0 : _) (hc1 : _) :
    out0_A_4 c i a3 h3 a4 h4 a5 h5 a6 h6 a7 h7 a8 h8 a9 h9 hc0 hc1 x0 x1 x2 x3 = blockO x0 x1 x2 x3 ∧ out0_A_5 c i a3 h3 a4 h4 a5 h5 a6 h6 a7 h7 a8 h8 a9 h9 hc0 hc1 x0 x1 x2 x3 = blockS x1 x2 x3 := by
  refine ⟨?_, ?_⟩
  on_goal 1 =>
    unfold out0_A_4
    rw [View.read_writes_eq_canon _ _ _ (cover0_A_4 c i a3 h3 a4 h4 a5 h5 a6 h6 a7 h7 a8 h8 a9 h9 hc0 hc1 x0 x1 x2 x3)]
    unfold kernelRun0_A
    dsimp only
    sl_unfold_words
    rw [View.canon_unit_zero hz3]
  on_goal 2 =>
    unfold out0_A_5
    rw [View.read_writes_eq_canon _ _ _ (cover0_A_5 c i a3 h3 a4 h4 a5 h5 a6 h6 a7 h7 a8 h8 a9 h9 hc0 hc1 x0 x1 x2 x3)]
    unfold kernelRun0_A
    dsimp only
    sl_unfold_words
  all_goals
    simp only [View.readCov_cons_toLoadRect, read_past _ 3 2 (by decide), read_past _ 3 1 (by decide), read_past _ 3 0 (by decide), read_past _ 2 1 (by decide),
      read_past _ 2 0 (by decide), read_past _ 1 0 (by decide), View.readAt_eq_ld, h3.read_unread, h4.read_unread, h5.read_unread, h6.read_unread,
      View.ld_unit_zero (S := S1x1x512) hz3]
    simp only [blockO, blockS, stored, side, C0, O0, S0, C1, O1, S1, C2, O2, S2, C3, O3, S3, S4, outH, intraH, interH, stepH, part,
      k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175]

/-! ## The blocks at an index -/

section
variable (o : ℕ) (hs : S64x512.Slices ![0, o] S64x128) (h1 : S1x512.Slices ![0, o] S1x128) (ho : o ≤ 384)
variable (Q K L V : ℕ → Fin 64 → Fin 128 → EReal)
variable (hq : ∀ n i d, query (x0 (ix3 0 (Fin.rev (pos 256 n i)) (col o ho d))) = Q n i d)
variable (hk : ∀ n i d, one - forget (x3 (ix3 0 0 (col o ho d))) (x1 (ix3 0 (Fin.rev (pos 256 n i)) (col o ho d))) = K n i d)
variable (hl : ∀ n i d, Ideal.log (forget (x3 (ix3 0 0 (col o ho d))) (x1 (ix3 0 (Fin.rev (pos 256 n i)) (col o ho d)))) = L n i d)
variable (hv : ∀ n i e, x2 (ix3 0 (Fin.rev (pos 256 n i)) (col o ho e)) = V n i e)

include hk hl hv

theorem step_apply (n : ℕ) (hn : n < 4) (h h') (S : FVec Ideal S128x128 .f32)
    (hS : ∀ d e, S (ix2 e d) = state K L V (fun _ _ => 0) n d e) (d e : Fin 128) :
    stepH o hs h1 (part x1 (64 * (3 - n)) h) (part x2 (64 * (3 - n)) h') x3 S (ix2 e d) = state K L V (fun _ _ => 0) (n + 1) d e :=
  stepH_apply o hs h1 _ _ x3 ho K L V n (fun i d => by rw [part_pos x1 n hn, hk]) (fun i d => by rw [part_pos x1 n hn, hl])
    (fun i e => by rw [part_pos x2 n hn, hv]) S _ hS d e

omit hk hl hv in
theorem S0_apply (d e : Fin 128) : S0 (ix2 e d) = state K L V (fun _ _ => 0) 0 d e := by
  pointwise [S0, k0_pay1, state]

theorem S1_apply (d e : Fin 128) : S1 o hs h1 x1 x2 x3 (ix2 e d) = state K L V (fun _ _ => 0) 1 d e :=
  step_apply x1 x2 x3 o hs h1 ho K L V hk hl hv 0 (by decide) _ _ _ (S0_apply K L V) d e

theorem S2_apply (d e : Fin 128) : S2 o hs h1 x1 x2 x3 (ix2 e d) = state K L V (fun _ _ => 0) 2 d e :=
  step_apply x1 x2 x3 o hs h1 ho K L V hk hl hv 1 (by decide) _ _ _ (S1_apply x1 x2 x3 o hs h1 ho K L V hk hl hv) d e

theorem S3_apply (d e : Fin 128) : S3 o hs h1 x1 x2 x3 (ix2 e d) = state K L V (fun _ _ => 0) 3 d e :=
  step_apply x1 x2 x3 o hs h1 ho K L V hk hl hv 2 (by decide) _ _ _ (S2_apply x1 x2 x3 o hs h1 ho K L V hk hl hv) d e

theorem S4_apply (d e : Fin 128) : S4 o hs h1 x1 x2 x3 (ix2 e d) = state K L V (fun _ _ => 0) 4 d e :=
  step_apply x1 x2 x3 o hs h1 ho K L V hk hl hv 3 (by decide) _ _ _ (S3_apply x1 x2 x3 o hs h1 ho K L V hk hl hv) d e

include hq

theorem outH_apply (n : ℕ) (hn : n < 4) (h h' h'') (S : FVec Ideal S128x128 .f32)
    (hS : ∀ d e, S (ix2 e d) = state K L V (fun _ _ => 0) n d e) (i : Fin 64) (e : Fin 128) :
    outH o hs (part x0 (64 * (3 - n)) h) (part x1 (64 * (3 - n)) h') (part x2 (64 * (3 - n)) h'') x3 S (ix2 i e) = out Q K L V (fun _ _ => 0) n (Fin.rev i) e := by
  have e0 : ∀ i d, query (part x0 (64 * (3 - n)) h (ix3 0 i (col o ho d))) = Q n (Fin.rev i) d := fun i d => by rw [part_pos x0 n hn, hq]
  have e1 : ∀ i d, one - forget (x3 (ix3 0 0 (col o ho d))) (part x1 (64 * (3 - n)) h' (ix3 0 i (col o ho d))) = K n (Fin.rev i) d :=
    fun i d => by rw [part_pos x1 n hn, hk]
  have e2 : ∀ i d, Ideal.log (forget (x3 (ix3 0 0 (col o ho d))) (part x1 (64 * (3 - n)) h' (ix3 0 i (col o ho d)))) = L n (Fin.rev i) d :=
    fun i d => by rw [part_pos x1 n hn, hl]
  have e3 : ∀ i e, part x2 (64 * (3 - n)) h'' (ix3 0 i (col o ho e)) = V n (Fin.rev i) e := fun i e => by rw [part_pos x2 n hn, hv]
  show intraH _ _ _ _ _ _ (ix2 i e) + interH _ _ _ _ _ _ (ix2 i e) = _
  rw [intraH_apply o hs _ _ _ x3 ho Q K L V n e0 e1 e2 e3, interH_apply o hs _ _ x3 ho Q K L V n e0 e2 S _ hS]
  rfl

theorem O0_apply (i : Fin 64) (e : Fin 128) : O0 o hs x0 x1 x2 x3 (ix2 i e) = out Q K L V (fun _ _ => 0) 0 (Fin.rev i) e :=
  outH_apply x0 x1 x2 x3 o hs ho Q K L V hq hk hl hv 0 (by decide) _ _ _ _ (S0_apply K L V) i e

theorem O1_apply (i : Fin 64) (e : Fin 128) : O1 o hs h1 x0 x1 x2 x3 (ix2 i e) = out Q K L V (fun _ _ => 0) 1 (Fin.rev i) e :=
  outH_apply x0 x1 x2 x3 o hs ho Q K L V hq hk hl hv 1 (by decide) _ _ _ _ (S1_apply x1 x2 x3 o hs h1 ho K L V hk hl hv) i e

theorem O2_apply (i : Fin 64) (e : Fin 128) : O2 o hs h1 x0 x1 x2 x3 (ix2 i e) = out Q K L V (fun _ _ => 0) 2 (Fin.rev i) e :=
  outH_apply x0 x1 x2 x3 o hs ho Q K L V hq hk hl hv 2 (by decide) _ _ _ _ (S2_apply x1 x2 x3 o hs h1 ho K L V hk hl hv) i e

theorem O3_apply (i : Fin 64) (e : Fin 128) : O3 o hs h1 x0 x1 x2 x3 (ix2 i e) = out Q K L V (fun _ _ => 0) 3 (Fin.rev i) e :=
  outH_apply x0 x1 x2 x3 o hs ho Q K L V hq hk hl hv 3 (by decide) _ _ _ _ (S3_apply x1 x2 x3 o hs h1 ho K L V hk hl hv) i e

end

theorem blockO_0 (i : Fin 64) (c : Fin 512) : blockO x0 x1 x2 x3 (ix3 0 ⟨0 + i.val, by omega⟩ c) = C3 x0 x1 x2 x3 (ix2 i c) := by
  unfold blockO
  generalize C0 x0 x1 x2 x3 = y0
  generalize C1 x0 x1 x2 x3 = y1
  generalize C2 x0 x1 x2 x3 = y2
  generalize C3 x0 x1 x2 x3 = y3
  pointwise

theorem blockO_1 (i : Fin 64) (c : Fin 512) : blockO x0 x1 x2 x3 (ix3 0 ⟨64 + i.val, by omega⟩ c) = C2 x0 x1 x2 x3 (ix2 i c) := by
  unfold blockO
  generalize C0 x0 x1 x2 x3 = y0
  generalize C1 x0 x1 x2 x3 = y1
  generalize C2 x0 x1 x2 x3 = y2
  generalize C3 x0 x1 x2 x3 = y3
  pointwise

theorem blockO_2 (i : Fin 64) (c : Fin 512) : blockO x0 x1 x2 x3 (ix3 0 ⟨128 + i.val, by omega⟩ c) = C1 x0 x1 x2 x3 (ix2 i c) := by
  unfold blockO
  generalize C0 x0 x1 x2 x3 = y0
  generalize C1 x0 x1 x2 x3 = y1
  generalize C2 x0 x1 x2 x3 = y2
  generalize C3 x0 x1 x2 x3 = y3
  pointwise
  split_ifs <;> first | omega | skip
  exact congrArg (fun r => y1 (ix2 r c)) (Fin.ext (by dsimp; omega))

theorem blockO_3 (i : Fin 64) (c : Fin 512) : blockO x0 x1 x2 x3 (ix3 0 ⟨192 + i.val, by omega⟩ c) = C0 x0 x1 x2 x3 (ix2 i c) := by
  unfold blockO
  generalize C0 x0 x1 x2 x3 = y0
  generalize C1 x0 x1 x2 x3 = y1
  generalize C2 x0 x1 x2 x3 = y2
  generalize C3 x0 x1 x2 x3 = y3
  pointwise
  split_ifs <;> first | omega | skip
  exact congrArg (fun r => y0 (ix2 r c)) (Fin.ext (by dsimp; omega))

theorem side_0 (y0 y1 y2 y3 : FVec Ideal S64x128 .f32) (i : Fin 64) (e : Fin 128) :
    side y0 y1 y2 y3 (ix2 i (col 0 (by decide) e)) = y0 (ix2 i e) := by
  unfold side col
  pointwise

theorem side_1 (y0 y1 y2 y3 : FVec Ideal S64x128 .f32) (i : Fin 64) (e : Fin 128) :
    side y0 y1 y2 y3 (ix2 i (col 128 (by decide) e)) = y1 (ix2 i e) := by
  unfold side col
  pointwise

theorem side_2 (y0 y1 y2 y3 : FVec Ideal S64x128 .f32) (i : Fin 64) (e : Fin 128) :
    side y0 y1 y2 y3 (ix2 i (col 256 (by decide) e)) = y2 (ix2 i e) := by
  unfold side col
  pointwise
  split_ifs <;> first | omega | skip
  exact congrArg (fun r => y2 (ix2 i r)) (Fin.ext (by dsimp; omega))

theorem side_3 (y0 y1 y2 y3 : FVec Ideal S64x128 .f32) (i : Fin 64) (e : Fin 128) :
    side y0 y1 y2 y3 (ix2 i (col 384 (by decide) e)) = y3 (ix2 i e) := by
  unfold side col
  pointwise
  split_ifs <;> first | omega | skip
  exact congrArg (fun r => y3 (ix2 i r)) (Fin.ext (by dsimp; omega))

end Cert.HgrnBackIdeal.Chunk

end
-- ==== Proof.HgrnBackHeads.lean ====
/- The kernel's two output blocks at an index, head by head. -/
module

public import proofs.«01_k».proof.Proof.HgrnBackBlock

@[expose] public section

set_option maxRecDepth 16384

noncomputable section

namespace Cert.HgrnBackIdeal.Chunk

open Cert.HgrnBackIdeal Cert.HgrnBackIdeal.Gen Idealize.ShloMosaic Cert.Scan

variable (x0 x1 x2 : Vec Ideal S1x256x512 .f32) (x3 : Vec Ideal S1x1x512 .f32)
variable (Q K L V : ℕ → Fin 64 → Fin 128 → EReal)

/-- The output block in head `hh`. -/
theorem blockO_apply (n hh : Fin 4) (ho : 128 * hh.val ≤ 384)
    (hq : ∀ n i d, query (x0 (ix3 0 (Fin.rev (pos 256 n i)) (col (128 * hh.val) ho d))) = Q n i d)
    (hk : ∀ n i d, one - forget (x3 (ix3 0 0 (col (128 * hh.val) ho d))) (x1 (ix3 0 (Fin.rev (pos 256 n i)) (col (128 * hh.val) ho d))) = K n i d)
    (hl : ∀ n i d, Ideal.log (forget (x3 (ix3 0 0 (col (128 * hh.val) ho d))) (x1 (ix3 0 (Fin.rev (pos 256 n i)) (col (128 * hh.val) ho d)))) = L n i d)
    (hv : ∀ n i e, x2 (ix3 0 (Fin.rev (pos 256 n i)) (col (128 * hh.val) ho e)) = V n i e) (i : Fin 64) (e : Fin 128) :
    blockO x0 x1 x2 x3 (ix3 0 (Fin.rev (pos 256 n.val i)) (col (128 * hh.val) ho e)) = out Q K L V (fun _ _ => 0) n.val i e := by
  obtain ⟨j, rfl⟩ : ∃ j, i = Fin.rev j := ⟨Fin.rev i, (Fin.rev_rev i).symm⟩
  have hp : Fin.rev (pos 256 n.val (Fin.rev j)) = ⟨64 * (3 - n.val) + j.val, by omega⟩ := by
    rw [pos_eq 256 n.val (Fin.rev j) (by omega)]
    exact Fin.ext (by simp only [Fin.val_rev]; omega)
  rw [hp]
  match n, hh, ho, hq, hk, hl, hv with
  | 0, 0, ho, hq, hk, hl, hv =>
    exact (blockO_3 x0 x1 x2 x3 j _).trans ((side_0 _ _ _ _ j e).trans
      (O0_apply x0 x1 x2 x3 0 _ (by decide) Q K L V hq hk hl hv j e))
  | 0, 1, ho, hq, hk, hl, hv =>
    exact (blockO_3 x0 x1 x2 x3 j _).trans ((side_1 _ _ _ _ j e).trans
      (O0_apply x0 x1 x2 x3 128 _ (by decide) Q K L V hq hk hl hv j e))
  | 0, 2, ho, hq, hk, hl, hv =>
    exact (blockO_3 x0 x1 x2 x3 j _).trans ((side_2 _ _ _ _ j e).trans
      (O0_apply x0 x1 x2 x3 256 _ (by decide) Q K L V hq hk hl hv j e))
  | 0, 3, ho, hq, hk, hl, hv =>
    exact (blockO_3 x0 x1 x2 x3 j _).trans ((side_3 _ _ _ _ j e).trans
      (O0_apply x0 x1 x2 x3 384 _ (by decide) Q K L V hq hk hl hv j e))
  | 1, 0, ho, hq, hk, hl, hv =>
    exact (blockO_2 x0 x1 x2 x3 j _).trans ((side_0 _ _ _ _ j e).trans
      (O1_apply x0 x1 x2 x3 0 _ _ (by decide) Q K L V hq hk hl hv j e))
  | 1, 1, ho, hq, hk, hl, hv =>
    exact (blockO_2 x0 x1 x2 x3 j _).trans ((side_1 _ _ _ _ j e).trans
      (O1_apply x0 x1 x2 x3 128 _ _ (by decide) Q K L V hq hk hl hv j e))
  | 1, 2, ho, hq, hk, hl, hv =>
    exact (blockO_2 x0 x1 x2 x3 j _).trans ((side_2 _ _ _ _ j e).trans
      (O1_apply x0 x1 x2 x3 256 _ _ (by decide) Q K L V hq hk hl hv j e))
  | 1, 3, ho, hq, hk, hl, hv =>
    exact (blockO_2 x0 x1 x2 x3 j _).trans ((side_3 _ _ _ _ j e).trans
      (O1_apply x0 x1 x2 x3 384 _ _ (by decide) Q K L V hq hk hl hv j e))
  | 2, 0, ho, hq, hk, hl, hv =>
    exact (blockO_1 x0 x1 x2 x3 j _).trans ((side_0 _ _ _ _ j e).trans
      (O2_apply x0 x1 x2 x3 0 _ _ (by decide) Q K L V hq hk hl hv j e))
  | 2, 1, ho, hq, hk, hl, hv =>
    exact (blockO_1 x0 x1 x2 x3 j _).trans ((side_1 _ _ _ _ j e).trans
      (O2_apply x0 x1 x2 x3 128 _ _ (by decide) Q K L V hq hk hl hv j e))
  | 2, 2, ho, hq, hk, hl, hv =>
    exact (blockO_1 x0 x1 x2 x3 j _).trans ((side_2 _ _ _ _ j e).trans
      (O2_apply x0 x1 x2 x3 256 _ _ (by decide) Q K L V hq hk hl hv j e))
  | 2, 3, ho, hq, hk, hl, hv =>
    exact (blockO_1 x0 x1 x2 x3 j _).trans ((side_3 _ _ _ _ j e).trans
      (O2_apply x0 x1 x2 x3 384 _ _ (by decide) Q K L V hq hk hl hv j e))
  | 3, 0, ho, hq, hk, hl, hv =>
    exact (blockO_0 x0 x1 x2 x3 j _).trans ((side_0 _ _ _ _ j e).trans
      (O3_apply x0 x1 x2 x3 0 _ _ (by decide) Q K L V hq hk hl hv j e))
  | 3, 1, ho, hq, hk, hl, hv =>
    exact (blockO_0 x0 x1 x2 x3 j _).trans ((side_1 _ _ _ _ j e).trans
      (O3_apply x0 x1 x2 x3 128 _ _ (by decide) Q K L V hq hk hl hv j e))
  | 3, 2, ho, hq, hk, hl, hv =>
    exact (blockO_0 x0 x1 x2 x3 j _).trans ((side_2 _ _ _ _ j e).trans
      (O3_apply x0 x1 x2 x3 256 _ _ (by decide) Q K L V hq hk hl hv j e))
  | 3, 3, ho, hq, hk, hl, hv =>
    exact (blockO_0 x0 x1 x2 x3 j _).trans ((side_3 _ _ _ _ j e).trans
      (O3_apply x0 x1 x2 x3 384 _ _ (by decide) Q K L V hq hk hl hv j e))

theorem stored_apply (S : FVec Ideal S128x128 .f32) (d e : Fin 128) : stored S (ix4 0 0 d e) = S (ix2 e d) := by
  pointwise [stored, k0_pay172]

theorem off (a a' : ℕ) (h : a ≠ a') (inb : ∀ i, (![0, a, 0, 0] : Fin 4 → ℕ) i + S1x1x128x128.size i ≤ S1x4x128x128.size i)
    (inb' : ∀ i, (![0, a', 0, 0] : Fin 4 → ℕ) i + S1x1x128x128.size i ≤ S1x4x128x128.size i) (x : S1x1x128x128.Idx) :
    (Rect.unit (s := S1x4x128x128) ![0, a', 0, 0] S1x1x128x128.size inb').emb x
      ∉ (Rect.unit (s := S1x4x128x128) ![0, a, 0, 0] S1x1x128x128.size inb).set :=
  Finset.disjoint_right.mp (Rect.unit_disjoint (inb := inb) (inb' := inb') 1 (by
    show a + 1 ≤ a' ∨ a' + 1 ≤ a
    omega)) ((by rw [← Rect.map_emb_univ]; exact Finset.mem_map_of_mem _ (Finset.mem_univ x)))

theorem canon_past (a a' : ℕ) (h : a ≠ a') (inb : ∀ i, (![0, a, 0, 0] : Fin 4 → ℕ) i + S1x1x128x128.size i ≤ S1x4x128x128.size i)
    (inb' : ∀ i, (![0, a', 0, 0] : Fin 4 → ℕ) i + S1x1x128x128.size i ≤ S1x4x128x128.size i) (w : S1x1x128x128.Idx → Elt Ideal .f32)
    (L : List (View.Piece (Elt Ideal) S1x4x128x128 .f32)) (x : S1x1x128x128.Idx) :
    View.canon ((⟨Rect.unit (s := S1x4x128x128) ![0, a, 0, 0] S1x1x128x128.size inb, w⟩ : View.Piece (Elt Ideal) S1x4x128x128 .f32) :: L)
      ((Rect.unit (s := S1x4x128x128) ![0, a', 0, 0] S1x1x128x128.size inb').emb x)
      = View.canon L ((Rect.unit (s := S1x4x128x128) ![0, a', 0, 0] S1x1x128x128.size inb').emb x) :=
  View.canon_cons_of_not_mem _ L (off a a' h inb inb' x)

theorem at_head (a : ℕ) (ha : a < 4) (inb : ∀ i, (![0, a, 0, 0] : Fin 4 → ℕ) i + S1x1x128x128.size i ≤ S1x4x128x128.size i) (d e : Fin 128) :
    (ix4 0 ⟨a, ha⟩ d e : S1x4x128x128.Idx) = (Rect.unit (s := S1x4x128x128) ![0, a, 0, 0] S1x1x128x128.size inb).emb (ix4 0 0 d e) := by
  funext c
  match c with
  | 0 => exact Fin.ext rfl
  | 1 => exact Fin.ext rfl
  | 2 => exact Fin.ext (by show d.val = 0 + 1 * d.val; omega)
  | 3 => exact Fin.ext (by show e.val = 0 + 1 * e.val; omega)

theorem blockS_0 (d e : Fin 128) : blockS x1 x2 x3 (ix4 0 0 d e) = S4 0 slices_S64x512_o0_0_S64x128 slices_S1x512_o0_0_S1x128 x1 x2 x3 (ix2 e d) := by
  refine Eq.trans ?_ (stored_apply (S4 0 slices_S64x512_o0_0_S64x128 slices_S1x512_o0_0_S1x128 x1 x2 x3) d e)
  unfold blockS
  rw [show (ix4 0 0 d e : S1x4x128x128.Idx) = _ from at_head 0 (by decide) inb_S1x4x128x128_S1x1x128x128_0_0_0_0 d e]
  rw [canon_past 3 0 (by decide)]
  rw [canon_past 2 0 (by decide)]
  rw [canon_past 1 0 (by decide)]
  exact View.canon_cons_emb _ _ _ _

theorem blockS_1 (d e : Fin 128) : blockS x1 x2 x3 (ix4 0 1 d e) = S4 128 slices_S64x512_o0_128_S64x128 slices_S1x512_o0_128_S1x128 x1 x2 x3 (ix2 e d) := by
  refine Eq.trans ?_ (stored_apply (S4 128 slices_S64x512_o0_128_S64x128 slices_S1x512_o0_128_S1x128 x1 x2 x3) d e)
  unfold blockS
  rw [show (ix4 0 1 d e : S1x4x128x128.Idx) = _ from at_head 1 (by decide) inb_S1x4x128x128_S1x1x128x128_0_1_0_0 d e]
  rw [canon_past 3 1 (by decide)]
  rw [canon_past 2 1 (by decide)]
  exact View.canon_cons_emb _ _ _ _

theorem blockS_2 (d e : Fin 128) : blockS x1 x2 x3 (ix4 0 2 d e) = S4 256 slices_S64x512_o0_256_S64x128 slices_S1x512_o0_256_S1x128 x1 x2 x3 (ix2 e d) := by
  refine Eq.trans ?_ (stored_apply (S4 256 slices_S64x512_o0_256_S64x128 slices_S1x512_o0_256_S1x128 x1 x2 x3) d e)
  unfold blockS
  rw [show (ix4 0 2 d e : S1x4x128x128.Idx) = _ from at_head 2 (by decide) inb_S1x4x128x128_S1x1x128x128_0_2_0_0 d e]
  rw [canon_past 3 2 (by decide)]
  exact View.canon_cons_emb _ _ _ _

theorem blockS_3 (d e : Fin 128) : blockS x1 x2 x3 (ix4 0 3 d e) = S4 384 slices_S64x512_o0_384_S64x128 slices_S1x512_o0_384_S1x128 x1 x2 x3 (ix2 e d) := by
  refine Eq.trans ?_ (stored_apply (S4 384 slices_S64x512_o0_384_S64x128 slices_S1x512_o0_384_S1x128 x1 x2 x3) d e)
  unfold blockS
  rw [show (ix4 0 3 d e : S1x4x128x128.Idx) = _ from at_head 3 (by decide) inb_S1x4x128x128_S1x1x128x128_0_3_0_0 d e]
  exact View.canon_cons_emb _ _ _ _

/-- The state block in head `hh`. -/
theorem blockS_apply (hh : Fin 4) (ho : 128 * hh.val ≤ 384)
    (hk : ∀ n i d, one - forget (x3 (ix3 0 0 (col (128 * hh.val) ho d))) (x1 (ix3 0 (Fin.rev (pos 256 n i)) (col (128 * hh.val) ho d))) = K n i d)
    (hl : ∀ n i d, Ideal.log (forget (x3 (ix3 0 0 (col (128 * hh.val) ho d))) (x1 (ix3 0 (Fin.rev (pos 256 n i)) (col (128 * hh.val) ho d)))) = L n i d)
    (hv : ∀ n i e, x2 (ix3 0 (Fin.rev (pos 256 n i)) (col (128 * hh.val) ho e)) = V n i e) (d e : Fin 128) :
    blockS x1 x2 x3 (ix4 0 hh d e) = state K L V (fun _ _ => 0) 4 d e := by
  match hh, ho, hk, hl, hv with
  | 0, ho, hk, hl, hv =>
    exact (blockS_0 x1 x2 x3 d e).trans (S4_apply x1 x2 x3 0 _ _ (by decide) K L V hk hl hv d e)
  | 1, ho, hk, hl, hv =>
    exact (blockS_1 x1 x2 x3 d e).trans (S4_apply x1 x2 x3 128 _ _ (by decide) K L V hk hl hv d e)
  | 2, ho, hk, hl, hv =>
    exact (blockS_2 x1 x2 x3 d e).trans (S4_apply x1 x2 x3 256 _ _ (by decide) K L V hk hl hv d e)
  | 3, ho, hk, hl, hv =>
    exact (blockS_3 x1 x2 x3 d e).trans (S4_apply x1 x2 x3 384 _ _ (by decide) K L V hk hl hv d e)

end Cert.HgrnBackIdeal.Chunk

end
-- ==== Proof.HgrnBackValue.lean ====
/- The kernel's two result arrays at an index, from the arguments. -/
module

public import proofs.«01_k».proof.Proof.HgrnBackHeads
public import proofs.«01_k».proof.Proof.HgrnValue
public import Idealize.ShloMosaic.Lib.Claim
public import Idealize.ShloMosaic.Lib.Pointwise
public import Idealize.ShloMosaic.Lib.Pipeline.ValueKit

@[expose] public section

set_option maxRecDepth 16384

noncomputable section

namespace Cert.HgrnBackIdeal.Chunk

open Cert.HgrnIdeal.Chunk (hd)
open Cert.HgrnBackIdeal Cert.HgrnBackIdeal.Gen Idealize.ShloMosaic Idealize.ShloMosaic.TcCoe Cert.Scan
open Idealize.ShloMosaic.Pipeline (Dat)

variable (m : (ℓ : Loc nD τ sig) → Buf (Elt Ideal) ℓ) (c : Dev nD)

/-- The windows' block indices: sequence `t / 4`, group of heads `t % 4`, counted in each window's own blocks. -/
theorem idx (t : Fin grid0.N) : win0_0.index t = ![t.val / 4, 0, t.val % 4] ∧ win0_1.index t = ![t.val / 4, 0, 8 + t.val % 4] ∧ win0_2.index t = ![t.val / 4, 0, 12 + t.val % 4]
    ∧ win0_3.index t = ![1, 0, t.val % 4] ∧ win0_4.index t = ![t.val / 4, 0, t.val % 4] ∧ win0_5.index t = ![t.val / 4, t.val % 4, 0, 0] :=
  (by decide +kernel : ∀ t : Fin grid0.N, win0_0.index t = ![t.val / 4, 0, t.val % 4] ∧ win0_1.index t = ![t.val / 4, 0, 8 + t.val % 4] ∧ win0_2.index t = ![t.val / 4, 0, 12 + t.val % 4]
    ∧ win0_3.index t = ![1, 0, t.val % 4] ∧ win0_4.index t = ![t.val / 4, 0, t.val % 4] ∧ win0_5.index t = ![t.val / 4, t.val % 4, 0, 0]) t

/-- The grid point of a sequence and a group of four heads. -/
def pt (b : Fin 32) (h : Fin 4) : Fin cfg0.N := ⟨4 * b.val + h.val, by rw [show cfg0.N = 128 from N_0]; omega⟩

theorem idx_pt (b : Fin 32) (h : Fin 4) : win0_0.index (pt b h) = ![b.val, 0, h.val] ∧ win0_1.index (pt b h) = ![b.val, 0, 8 + h.val] ∧ win0_2.index (pt b h) = ![b.val, 0, 12 + h.val]
    ∧ win0_3.index (pt b h) = ![1, 0, h.val] ∧ win0_4.index (pt b h) = ![b.val, 0, h.val] ∧ win0_5.index (pt b h) = ![b.val, h.val, 0, 0] := by
  have hi := idx (pt b h)
  have h1 : (pt b h).val / 4 = b.val := by show (4 * b.val + h.val) / 4 = _; omega
  have h2 : (pt b h).val % 4 = h.val := by show (4 * b.val + h.val) % 4 = _; omega
  rw [h1, h2] at hi
  exact hi

/-- Column `c` of the group's block among all columns. -/
def gcol (h : Fin 4) (c : Fin 512) : Fin 2048 := ⟨512 * h.val + c.val, by omega⟩

theorem gcol_col (h hh : Fin 4) (ho : 128 * hh.val ≤ 384) (d : Fin 128) : gcol h (col (128 * hh.val) ho d) = hcol (hd h hh) d :=
  Fin.ext (by show 512 * h.val + (128 * hh.val + d.val) = 128 * (4 * h.val + hh.val) + d.val; omega)

theorem blk0 (b : Fin 32) (h : Fin 4) (p : Fin 256) (d : Fin 512) :
    iblk m c 0 (pt b h) (ix3 0 p d) = hqIn (m ((c : Thread nD τ).loc main_arg0)) b p (gcol h d) := by
  have hi := idx_pt b h
  unfold hqIn row gcol
  blk_simp [iblk, hi.1]
  entry_read
  pointwise
  blk_ext [hi.1]

theorem blk1 (b : Fin 32) (h : Fin 4) (p : Fin 256) (d : Fin 512) :
    iblk m c 1 (pt b h) (ix3 0 p d) = hfBackIn (m ((c : Thread nD τ).loc main_arg0)) b p (gcol h d) := by
  have hi := idx_pt b h
  unfold hfBackIn row gcol
  blk_simp [iblk, hi.2.1]
  entry_read
  pointwise
  blk_ext [hi.2.1]

theorem blk2 (b : Fin 32) (h : Fin 4) (p : Fin 256) (d : Fin 512) :
    iblk m c 2 (pt b h) (ix3 0 p d) = hvIn (m ((c : Thread nD τ).loc main_arg0)) b p (gcol h d) := by
  have hi := idx_pt b h
  unfold hvIn row gcol
  blk_simp [iblk, hi.2.2.1]
  entry_read
  pointwise
  blk_ext [hi.2.2.1]

theorem blk3 (b : Fin 32) (h : Fin 4) (d : Fin 512) :
    iblk m c 3 (pt b h) (ix3 0 0 d) = hbBackIn (m ((c : Thread nD τ).loc main_arg1)) (gcol h d) := by
  have hi := idx_pt b h
  unfold hbBackIn gcol
  blk_simp [iblk, hi.2.2.2.1]
  entry_read
  pointwise
  blk_ext [hi.2.2.2.1]

variable (b : Fin 32) (h hh : Fin 4)

/-- The first result at position `i` of chunk `n` of sequence `b`, in the head's column `e`. -/
theorem o_apply (n : Fin 4) (i : Fin 64) (e : Fin 128) :
    (dats m 0 c).arrAt 4 cfg0.N (ix3 ⟨b.val, by omega⟩ (Fin.rev (pos 256 n.val i)) (hcol (hd h hh) e))
      = hgbOut (m ((c : Thread nD τ).loc main_arg0)) (m ((c : Thread nD τ).loc main_arg1)) b (hd h hh) n.val i e := by
  have hi := idx_pt b h
  have ho : 128 * hh.val ≤ 384 := by omega
  have key := (dats m 0 c).arrAt_emb_eq_flushed 4 Value.disjoint4 (pt b h) (flush0_4 _) (ix3 0 (Fin.rev (pos 256 n.val i)) (col (128 * hh.val) ho e))
  rw [Value.flushed4_A, (out_eq ..).1] at key
  rw [← gcol_col h hh ho]
  refine Eq.trans (congrArg _ ?_) (key.trans ?_)
  · unfold gcol
    blk_ext [hi.2.2.2.2.1]
  · refine Eq.trans ?_ (blockO_apply (iblk m c 0 (pt b h)) (iblk m c 1 (pt b h)) (iblk m c 2 (pt b h)) (iblk m c 3 (pt b h)) (hgbQ _ b (hd h hh)) (hgbK _ _ b (hd h hh)) (hgbL _ _ b (hd h hh)) (hgbV _ b (hd h hh)) n hh ho ?_ ?_ ?_ ?_ i e)
    · rfl
    · intro n i d; rw [blk0, gcol_col]; rfl
    · intro n i d; rw [blk3, blk1, gcol_col]; rfl
    · intro n i d; rw [blk3, blk1, gcol_col]; rfl
    · intro n i d; rw [blk2, gcol_col]; rfl

/-- The second result: the state of sequence `b` and the head after the four chunks. -/
theorem s_apply (d e : Fin 128) :
    (dats m 0 c).arrAt 5 cfg0.N (ix4 b (hd h hh) d e)
      = hgbState (m ((c : Thread nD τ).loc main_arg0)) (m ((c : Thread nD τ).loc main_arg1)) b (hd h hh) 4 d e := by
  have hi := idx_pt b h
  have ho : 128 * hh.val ≤ 384 := by omega
  have key := (dats m 0 c).arrAt_emb_eq_flushed 5 Value.disjoint5 (pt b h) (flush0_5 _) (ix4 0 hh d e)
  have hb : blockS (iblk m c 1 (pt b h)) (iblk m c 2 (pt b h)) (iblk m c 3 (pt b h)) (ix4 0 hh d e)
      = hgbState (m ((c : Thread nD τ).loc main_arg0)) (m ((c : Thread nD τ).loc main_arg1)) b (hd h hh) 4 d e := by
    refine blockS_apply (iblk m c 1 (pt b h)) (iblk m c 2 (pt b h)) (iblk m c 3 (pt b h)) (hgbK _ _ b (hd h hh)) (hgbL _ _ b (hd h hh)) (hgbV _ b (hd h hh)) hh ho ?_ ?_ ?_ d e
    · intro n i d; rw [blk3, blk1, gcol_col]; rfl
    · intro n i d; rw [blk3, blk1, gcol_col]; rfl
    · intro n i d; rw [blk2, gcol_col]; rfl
  rw [Value.flushed5_A, (out_eq ..).2] at key
  generalize blockS (iblk m c 1 (pt b h)) (iblk m c 2 (pt b h)) (iblk m c 3 (pt b h)) = B at key hb
  refine Eq.trans (congrArg _ ?_) (key.trans (Eq.trans ?_ hb))
  · unfold hd
    blk_ext [hi.2.2.2.2.2]
  · rfl

end Cert.HgrnBackIdeal.Chunk

end
-- ==== Proof.HgrnBackRefBase.lean ====
/- The reference's arrays before the recurrence, at an index: scaled queries, keys, values and log decays cut into chunks. -/
module

public import proofs.«01_k».proof.Proof.HgrnBackSpec
public import proofs.«01_k».proof.Proof.Cumsum
public import proofs.«01_k».proof.Proof.Gen.HgrnBackReferenceIdeal.Read
public import Idealize.ShloMosaic.Lib.Pointwise

@[expose] public section

set_option maxRecDepth 16384

noncomputable section

namespace Cert.HgrnBackReferenceIdeal.Chunk

open Cert.HgrnBackReferenceIdeal Cert.HgrnBackReferenceIdeal.Gen Cert.HgrnBackReferenceIdeal.Read Idealize.ShloMosaic Cert.Scan

variable (x0 : Vec Ideal S24576x10240 .f32) (x1 : Vec Ideal S2x1x2048 .f32)
variable (b : Fin 32) (h : Fin 16) (n : Fin 4) (i : Fin 64)

theorem xq_apply (p : Fin 256) (c : Fin 2048) : val_main_v2 (F := Ideal) x0 (ix3 b p c) = hqIn x0 b p c := by
  unfold hqIn row
  pointwise [val_main_v2, val_main_v1, val_main_v0]
  exact congrArg x0 (congrArg₂ ix2 (Fin.ext (by dsimp <;> omega)) (Fin.ext (by dsimp <;> omega)))

theorem xf_apply (p : Fin 256) (c : Fin 2048) : val_main_v4 (F := Ideal) x0 (ix3 b p c) = hfBackIn x0 b p c := by
  unfold hfBackIn row
  pointwise [val_main_v4, val_main_v1, val_main_v0]
  exact congrArg x0 (congrArg₂ ix2 (Fin.ext (by dsimp <;> omega)) (Fin.ext (by dsimp <;> omega)))

theorem xv_apply (p : Fin 256) (c : Fin 2048) : val_main_v5 (F := Ideal) x0 (ix3 b p c) = hvIn x0 b p c := by
  unfold hvIn row
  pointwise [val_main_v5, val_main_v1, val_main_v0]
  exact congrArg x0 (congrArg₂ ix2 (Fin.ext (by dsimp <;> omega)) (Fin.ext (by dsimp <;> omega)))

theorem gate_apply (p : Fin 256) (c : Fin 2048) :
    val_main_v24 (F := Ideal) x0 x1 (ix3 b p c) = forget (hbBackIn x1 c) (hfBackIn x0 b p c) := by
  rw [← xf_apply]
  generalize hy : val_main_v4 (F := Ideal) x0 = y
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst, val_main_cst_0, val_main_cst_1, hy, forget, logi, hbBackIn, Ideal.ofBits_one_f32]

theorem silu_apply (p : Fin 256) (c : Fin 2048) :
    val_main_v25 (F := Ideal) x0 (ix3 b p c) = hqIn x0 b p c * logi (hqIn x0 b p c) := by
  rw [← xq_apply]
  generalize hy : val_main_v2 (F := Ideal) x0 = y
  pointwise [val_main_v25, val_main_call0_v5, val_main_call0_v4, val_main_call0_v3, val_main_call0_v2, val_main_call0_v1, val_main_call0_v0, val_main_call0_cst, val_main_call0_cst_0, hy, logi, Ideal.ofBits_one_f32]

theorem q_apply (d : Fin 128) : val_main_v44 (F := Ideal) x0 (ix5 b h n i d) = hgbQ x0 b h n.val i d := by
  unfold hgbQ query
  rw [pos_eq 256 n.val i (by omega), ← silu_apply]
  unfold hcol
  pointwise [val_main_v44, val_main_v30, val_main_v29, val_main_v28, val_main_cst_2, val_main_v27, val_main_v26]
  exact congrArg (· * _) (congrArg (val_main_v25 (F := Ideal) x0) (congrArg₂ (ix3 b) (Fin.ext (by first | (simp [Fin.val_rev]; omega) | simp [Fin.val_rev])) (Fin.ext (by first | (simp [Fin.val_rev]; omega) | simp [Fin.val_rev]))))

theorem k_apply (d : Fin 128) : val_main_v45 (F := Ideal) x0 x1 (ix5 b h n i d) = hgbK x0 x1 b h n.val i d := by
  unfold hgbK
  rw [pos_eq 256 n.val i (by omega), ← gate_apply]
  unfold hcol
  pointwise [val_main_v45, val_main_v35, val_main_v34, val_main_v33, val_main_v32, val_main_v31, val_main_cst_3]
  try rw [Ideal.ofBits_one_f32]
  exact congrArg (1 - ·) (congrArg (val_main_v24 (F := Ideal) x0 x1) (congrArg₂ (ix3 b) (Fin.ext (by first | (simp [Fin.val_rev]; omega) | simp [Fin.val_rev])) (Fin.ext (by first | (simp [Fin.val_rev]; omega) | simp [Fin.val_rev]))))

theorem v_apply (d : Fin 128) : val_main_v46 (F := Ideal) x0 (ix5 b h n i d) = hgbV x0 b h n.val i d := by
  unfold hgbV
  rw [pos_eq 256 n.val i (by omega), ← xv_apply]
  unfold hcol
  pointwise [val_main_v46, val_main_v38, val_main_v37, val_main_v36]
  exact congrArg (val_main_v5 (F := Ideal) x0) (congrArg₂ (ix3 b) (Fin.ext (by first | (simp [Fin.val_rev]; omega) | simp [Fin.val_rev])) (Fin.ext (by first | (simp [Fin.val_rev]; omega) | simp [Fin.val_rev])))

theorem l_apply (d : Fin 128) : val_main_v47 (F := Ideal) x0 x1 (ix5 b h n i d) = hgbL x0 x1 b h n.val i d := by
  unfold hgbL
  rw [pos_eq 256 n.val i (by omega), ← gate_apply]
  unfold hcol
  pointwise [val_main_v47, val_main_v42, val_main_v41, val_main_v40, val_main_v39]
  exact congrArg Ideal.log (congrArg (val_main_v24 (F := Ideal) x0 x1) (congrArg₂ (ix3 b) (Fin.ext (by first | (simp [Fin.val_rev]; omega) | simp [Fin.val_rev])) (Fin.ext (by first | (simp [Fin.val_rev]; omega) | simp [Fin.val_rev]))))

theorem cum_apply (d : Fin 128) : val_main_v48 (F := Ideal) x0 x1 (ix5 b h n i d) = cum (hgbL x0 x1 b h) n.val i d := by
  have h0 : val_main_call5_call0_v0 (F := Ideal) (Shape.Idx.first h_S_) = 0 := by
    rw [show Shape.Idx.first h_S_ = ix0 from funext fun a => a.elim0]
    pointwise [val_main_call5_call0_v0, val_main_call5_call0_cst]
  unfold val_main_v48 Host.reduceWindowAdd
  rw [Ideal.hostReduceWindowAdd_def, h0]
  refine (cumsum5 (M := 63) rfl _ _ b h n i d).trans (Finset.sum_congr rfl fun j _ => ?_)
  rw [l_apply]

end Cert.HgrnBackReferenceIdeal.Chunk

end
-- ==== Proof.HgrnBackRefValue.lean ====
/- The reference's outputs and final state, at an index. -/
module

public import proofs.«01_k».proof.Proof.HgrnBackRefBase
public import proofs.«01_k».proof.Proof.RefValue

@[expose] public section

set_option maxRecDepth 16384

noncomputable section

namespace Cert.HgrnBackReferenceIdeal.Chunk

open Cert.HgrnBackReferenceIdeal Cert.HgrnBackReferenceIdeal.Gen Cert.HgrnBackReferenceIdeal.Read Idealize.ShloMosaic Cert.Scan

variable (x0 : Vec Ideal S24576x10240 .f32) (x1 : Vec Ideal S2x1x2048 .f32)
variable (b : Fin 32) (h : Fin 16) (n : Fin 4) (i : Fin 64)

theorem score_apply (j : Fin 64) : val_main_v59 (F := Ideal) x0 x1 (ix5 b h n i j) = score (hgbQ x0 b h) (hgbK x0 x1 b h) (hgbL x0 x1 b h) n.val i j := by
  pointwise [val_main_v59, val_main_v58, val_main_v57, val_main_v56, val_main_v55, val_main_v49, val_main_v54, val_main_v53, val_main_v52, val_main_v51]
  simp only [q_apply, k_apply, cum_apply]
  rfl

theorem mask_apply (j : Fin 64) : val_main_v61 (F := Ideal) (ix2 i j) = if j ≤ i then 1#1 else 0#1 := by
  pointwise [val_main_v61, val_main_v60, val_main_c, val_main_call6_v0, val_main_call6_v1, val_main_call6_v2, val_main_call6_v3, val_main_call6_v4, val_main_call6_v5, val_main_call6_c, val_main_call6_c_0]
  exact Cert.ReferenceIdeal.Chunk.ge_word i j

theorem intra_apply (e : Fin 128) :
    val_main_v63 (F := Ideal) x0 x1 (ix5 b h n i e) = intra (hgbQ x0 b h) (hgbK x0 x1 b h) (hgbL x0 x1 b h) (hgbV x0 b h) n.val i e := by
  pointwise [val_main_v63, val_main_v62, val_main_call7_v1, val_main_call7_v2, val_main_call7_v0, val_main_cst_5]
  simp only [v_apply, mask_apply, score_apply]
  unfold intra
  refine Finset.sum_congr rfl fun j _ => ?_
  have hz : id (constant (F := Ideal) S_ .f32 0#32) ix0 = 0 := Ideal.ofBits_zero_f32
  rw [hz]
  by_cases hj : j ≤ i
  · rw [if_pos hj, if_pos hj]; rfl
  · rw [if_neg hj, if_neg hj]; rfl

theorem qInter_apply (d : Fin 128) :
    val_main_v65 (F := Ideal) x0 x1 (ix5 b h n i d) = hgbQ x0 b h n.val i d * Ideal.exp (cum (hgbL x0 x1 b h) n.val i d) := by
  pointwise [val_main_v65, val_main_v64]
  simp only [q_apply, cum_apply]

theorem kUpd_apply (d : Fin 128) :
    val_main_v69 (F := Ideal) x0 x1 (ix5 b h n i d)
      = hgbK x0 x1 b h n.val i d * Ideal.exp (cum (hgbL x0 x1 b h) n.val 63 d - cum (hgbL x0 x1 b h) n.val i d) := by
  pointwise [val_main_v69, val_main_v68, val_main_v67, val_main_v66, val_main_v50]
  simp only [k_apply, cum_apply]

theorem decay_apply (d : Fin 128) : val_main_v71 (F := Ideal) x0 x1 (ix4 b h n d) = Ideal.exp (cum (hgbL x0 x1 b h) n.val 63 d) := by
  pointwise [val_main_v71, val_main_v70, val_main_v50]
  simp only [cum_apply]

theorem state0_apply (d : Fin 128) (e : Fin 128) : val_main_v43 (F := Ideal) (ix4 b h d e) = hgbState x0 x1 b h 0 d e := by
  pointwise [hgbState, state, val_main_v43, val_main_cst_4]

theorem state1_apply (d : Fin 128) (e : Fin 128) : val_main_v85 (F := Ideal) x0 x1 (ix4 b h d e) = hgbState x0 x1 b h 1 d e := by
  pointwise [val_main_v75, val_main_v76, val_main_v77, val_main_v78, val_main_v79, val_main_v80, val_main_v81, val_main_v82, val_main_v83, val_main_v84, val_main_v85]
  simp only [state0_apply x0 x1, decay_apply, kUpd_apply, v_apply]
  rfl

theorem inter0_apply (e : Fin 128) :
    val_main_v74 (F := Ideal) x0 x1 (ix4 b h i e)
      = inter (hgbQ x0 b h) (hgbK x0 x1 b h) (hgbL x0 x1 b h) (hgbV x0 b h) (fun _ _ => 0) 0 i e := by
  pointwise [val_main_v72, val_main_v73, val_main_v74]
  simp only [state0_apply x0 x1, qInter_apply]
  rfl

theorem state2_apply (d : Fin 128) (e : Fin 128) : val_main_v99 (F := Ideal) x0 x1 (ix4 b h d e) = hgbState x0 x1 b h 2 d e := by
  pointwise [val_main_v89, val_main_v90, val_main_v91, val_main_v92, val_main_v93, val_main_v94, val_main_v95, val_main_v96, val_main_v97, val_main_v98, val_main_v99]
  simp only [state1_apply x0 x1, decay_apply, kUpd_apply, v_apply]
  rfl

theorem inter1_apply (e : Fin 128) :
    val_main_v88 (F := Ideal) x0 x1 (ix4 b h i e)
      = inter (hgbQ x0 b h) (hgbK x0 x1 b h) (hgbL x0 x1 b h) (hgbV x0 b h) (fun _ _ => 0) 1 i e := by
  pointwise [val_main_v86, val_main_v87, val_main_v88]
  simp only [state1_apply x0 x1, qInter_apply]
  rfl

theorem state3_apply (d : Fin 128) (e : Fin 128) : val_main_v113 (F := Ideal) x0 x1 (ix4 b h d e) = hgbState x0 x1 b h 3 d e := by
  pointwise [val_main_v103, val_main_v104, val_main_v105, val_main_v106, val_main_v107, val_main_v108, val_main_v109, val_main_v110, val_main_v111, val_main_v112, val_main_v113]
  simp only [state2_apply x0 x1, decay_apply, kUpd_apply, v_apply]
  rfl

theorem inter2_apply (e : Fin 128) :
    val_main_v102 (F := Ideal) x0 x1 (ix4 b h i e)
      = inter (hgbQ x0 b h) (hgbK x0 x1 b h) (hgbL x0 x1 b h) (hgbV x0 b h) (fun _ _ => 0) 2 i e := by
  pointwise [val_main_v100, val_main_v101, val_main_v102]
  simp only [state2_apply x0 x1, qInter_apply]
  rfl

theorem state4_apply (d : Fin 128) (e : Fin 128) : val_main_v127 (F := Ideal) x0 x1 (ix4 b h d e) = hgbState x0 x1 b h 4 d e := by
  pointwise [val_main_v117, val_main_v118, val_main_v119, val_main_v120, val_main_v121, val_main_v122, val_main_v123, val_main_v124, val_main_v125, val_main_v126, val_main_v127]
  simp only [state3_apply x0 x1, decay_apply, kUpd_apply, v_apply]
  rfl

theorem inter3_apply (e : Fin 128) :
    val_main_v116 (F := Ideal) x0 x1 (ix4 b h i e)
      = inter (hgbQ x0 b h) (hgbK x0 x1 b h) (hgbL x0 x1 b h) (hgbV x0 b h) (fun _ _ => 0) 3 i e := by
  pointwise [val_main_v114, val_main_v115, val_main_v116]
  simp only [state3_apply x0 x1, qInter_apply]
  rfl

theorem interAll_apply (e : Fin 128) :
    val_main_v132 (F := Ideal) x0 x1 (ix5 b h n i e)
      = inter (hgbQ x0 b h) (hgbK x0 x1 b h) (hgbL x0 x1 b h) (hgbV x0 b h) (fun _ _ => 0) n.val i e := by
  match n with
  | 0 =>
    refine Eq.trans ?_ (inter0_apply x0 x1 b h i e)
    pointwise [val_main_v132, val_main_v128, val_main_v129, val_main_v130, val_main_v131]
  | 1 =>
    refine Eq.trans ?_ (inter1_apply x0 x1 b h i e)
    pointwise [val_main_v132, val_main_v128, val_main_v129, val_main_v130, val_main_v131]
  | 2 =>
    refine Eq.trans ?_ (inter2_apply x0 x1 b h i e)
    pointwise [val_main_v132, val_main_v128, val_main_v129, val_main_v130, val_main_v131]
  | 3 =>
    refine Eq.trans ?_ (inter3_apply x0 x1 b h i e)
    pointwise [val_main_v132, val_main_v128, val_main_v129, val_main_v130, val_main_v131]

/-- The reference's output at position `i` of chunk `n`, counted from the last, of sequence `b`, in the head's column `e`. -/
theorem out_apply (e : Fin 128) :
    val_main_v138 (F := Ideal) x0 x1 (ix3 ⟨b.val, by omega⟩ (Fin.rev (pos 256 n.val i)) (hcol h e)) = hgbOut x0 x1 b h n.val i e := by
  rw [pos_eq 256 n.val i (by omega)]
  have key : val_main_v133 (F := Ideal) x0 x1 (ix5 b h n i e) = hgbOut x0 x1 b h n.val i e := by
    pointwise [val_main_v133]
    rw [intra_apply, interAll_apply]
    rfl
  rw [← key]
  pointwise [val_main_v138, val_main_v137, val_main_v136, val_main_v135, val_main_v134, val_main_call9_v0, val_main_c_6]
  have e1 : ∀ p, (⟨(64 * n.val + i.val) / 64, p⟩ : Fin 4) = n := fun p => Fin.ext (by dsimp; omega)
  have e2 : ∀ p, (⟨i.val % 64, p⟩ : Fin 64) = i := fun p => Fin.ext (by dsimp; omega)
  have e4 : ∀ p, (⟨(hcol h e).val / 128, p⟩ : Fin 16) = h := fun p => Fin.ext (show (128 * h.val + e.val) / 128 = h.val by omega)
  have e5 : ∀ p, (⟨(hcol h e).val % 128, p⟩ : Fin 128) = e := fun p => Fin.ext (show (128 * h.val + e.val) % 128 = e.val by omega)
  simp [Fin.rev_rev, e1, e2, e4, e5]

end Cert.HgrnBackReferenceIdeal.Chunk

end
-- ==== Proof.HgrnBackAlgebraic.lean ====
/- The backward HGRN scan's results, equal over the extended reals on the prompt's rows. -/
module

public import proofs.«01_k».proof.Defs
public import proofs.«01_k».proof.Proof.HgrnAlgebraic
public import proofs.«01_k».proof.Proof.BackAlgebraic
public import proofs.«01_k».proof.Proof.HgrnBackValue
public import proofs.«01_k».proof.Proof.HgrnBackRefValue
public import proofs.«01_k».proof.Proof.Gen.HgrnBackReferenceIdeal.Run
public import proofs.«01_k».proof.Proof.Gen.On_hgrn_rows

@[expose] public section

set_option maxRecDepth 16384

noncomputable section

namespace Cert.HgrnBackScan

open Idealize.ShloMosaic Idealize.SL.Sem Cert.Scan

section
variable (m : (ℓ : Loc Cert.HgrnBackIdeal.nD Cert.HgrnBackIdeal.τ Cert.HgrnBackIdeal.sig) → Buf (Elt Ideal) ℓ) (c : Dev Cert.HgrnBackIdeal.nD)

theorem o_eq (i : (⟨3, ![96, 256, 2048]⟩ : Shape).Idx)
    (hm : (Cert.On_hgrn_rows.fn (F := Ideal) (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1))).1 i = 1#1) :
    (Cert.HgrnBackIdeal.Gen.dats m 0 c).arrAt 4 Cert.HgrnBackIdeal.cfg0.N i
      = Cert.HgrnBackReferenceIdeal.Read.val_main_v138 (F := Ideal) (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1)) i := by
  idx_vars i
  have h0 := Cert.HgrnScan.mask_lt _ _ _ _ _ hm
  have hk := Cert.HgrnBackIdeal.Chunk.o_apply m c ⟨i0.val, h0⟩ ⟨i2.val / 512, by omega⟩ ⟨i2.val / 128 % 4, Nat.mod_lt _ (by decide)⟩ ⟨(Fin.rev i1).val / 64, by omega⟩ ⟨(Fin.rev i1).val % 64, Nat.mod_lt _ (by decide)⟩ ⟨i2.val % 128, Nat.mod_lt _ (by decide)⟩
  have hr := Cert.HgrnBackReferenceIdeal.Chunk.out_apply (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1)) ⟨i0.val, h0⟩ (Cert.HgrnIdeal.Chunk.hd ⟨i2.val / 512, by omega⟩ ⟨i2.val / 128 % 4, Nat.mod_lt _ (by decide)⟩) ⟨(Fin.rev i1).val / 64, by omega⟩ ⟨(Fin.rev i1).val % 64, Nat.mod_lt _ (by decide)⟩ ⟨i2.val % 128, Nat.mod_lt _ (by decide)⟩
  dsimp only at hk hr
  rw [Cert.Back.rev_divmod i1, Cert.HgrnScan.col_divmod i2] at hk hr
  exact hk.trans hr.symm

theorem s_eq (i : (⟨4, ![32, 16, 128, 128]⟩ : Shape).Idx) :
    (Cert.HgrnBackIdeal.Gen.dats m 0 c).arrAt 5 Cert.HgrnBackIdeal.cfg0.N i
      = Cert.HgrnBackReferenceIdeal.Read.val_main_v127 (F := Ideal) (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1)) i := by
  idx_vars i
  have hk := Cert.HgrnBackIdeal.Chunk.s_apply m c i0 ⟨i1.val / 4, by omega⟩ ⟨i1.val % 4, Nat.mod_lt _ (by decide)⟩ i2 i3
  have hr := Cert.HgrnBackReferenceIdeal.Chunk.state4_apply (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1)) i0 i1 i2 i3
  rw [Cert.HgrnScan.head_divmod i1] at hk
  exact hk.trans hr.symm
end

theorem algebraic : Cert.algebraic_HgrnBackIdeal_HgrnBackReferenceIdeal_on_hgrn_rows := by
  intro m g m' g' _ hagree
  refine ⟨fun c => Cert.HgrnBackReferenceIdeal.Read.val_main_v138 (F := Ideal) (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1)),
    fun c => Cert.HgrnBackReferenceIdeal.Read.val_main_v127 (F := Ideal) (m ((c.tc : Thread Cert.HgrnBackIdeal.nD Cert.HgrnBackIdeal.τ).loc Cert.HgrnBackIdeal.main_arg0)) (m ((c.tc : Thread Cert.HgrnBackIdeal.nD Cert.HgrnBackIdeal.τ).loc Cert.HgrnBackIdeal.main_arg1)), ?_, ?_⟩
  · refine (θ_run Cert.HgrnBackIdeal.defs _ _).mono (fun r h c => ?_) (Cert.HgrnBackIdeal.Value.run_blocks m g)
    obtain ⟨h0, h1, h2, h3⟩ := h c
    refine ⟨fun i hm => ?_, fun i _ => ?_, h2, h3⟩
    · rw [h0]; exact o_eq m c i hm
    · rw [h1]; exact s_eq m c i
  · refine (θ_run Cert.HgrnBackReferenceIdeal.defs _ _).mono (fun r h c => ?_) (Cert.HgrnBackReferenceIdeal.Value.run m' g')
    obtain ⟨h0, h1, h2, h3⟩ := h c
    refine ⟨fun i _ => ?_, fun i _ => ?_, h2, h3⟩
    · rw [h0, Cert.HgrnBackReferenceIdeal.Read.val_main_v138_eq, (hagree c).1, (hagree c).2]
    · rw [h1, Cert.HgrnBackReferenceIdeal.Read.val_main_v127_eq, (hagree c).1, (hagree c).2]

end Cert.HgrnBackScan

namespace Cert.Proof

open Idealize.ShloMosaic Idealize.SL.Sem

theorem algebraic_hgrnBack : Cert.algebraic_HgrnBackIdeal_HgrnBackReferenceIdeal_on_hgrn_rows := Cert.HgrnBackScan.algebraic

/-- The backward HGRN scan's reference is a straight-line host program without semaphores: its run keeps the arguments. -/
theorem frame_hgrnBackReference : Cert.quiescent_HgrnBackReferenceIdeal := by
  intro m g _
  exact (θ_run Cert.HgrnBackReferenceIdeal.defs _ _).mono (fun r h => ⟨fun c => (h c).2.2,
      Idealize.ShloMosaic.sem_eq_zero_of_no_sems (by decide) r.2⟩)
    (Cert.HgrnBackReferenceIdeal.Value.run (F := Ideal) m g)

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.On_prompt_rows
public import proofs.«01_k».proof.Proof.Gen.Up
public import proofs.«01_k».proof.Proof.Gen.UpIdeal
public import proofs.«01_k».proof.Proof.Gen.Down
public import proofs.«01_k».proof.Proof.Gen.DownIdeal
public import proofs.«01_k».proof.Proof.Gen.Up.Frame
public import proofs.«01_k».proof.Proof.Gen.UpIdeal.Frame
public import proofs.«01_k».proof.Proof.Gen.Down.Frame
public import proofs.«01_k».proof.Proof.Gen.DownIdeal.Frame
public import proofs.«01_k».proof.Proof.Gen.UpIdeal.Value
public import proofs.«01_k».proof.Proof.Gen.DownIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.ExpertUp
public import proofs.«01_k».proof.Proof.Gen.ExpertUpIdeal
public import proofs.«01_k».proof.Proof.Gen.ExpertUpReferenceIdeal
public import proofs.«01_k».proof.Proof.Gen.ExpertUpReferenceIdeal.Run
public import proofs.«01_k».proof.Proof.Gen.ExpertUpReferenceIdeal.Read
public import proofs.«01_k».proof.Proof.Gen.ExpertDown
public import proofs.«01_k».proof.Proof.Gen.ExpertDownIdeal
public import proofs.«01_k».proof.Proof.Gen.ExpertDownReferenceIdeal
public import proofs.«01_k».proof.Proof.Gen.ExpertDownReferenceIdeal.Run
public import proofs.«01_k».proof.Proof.Gen.ExpertDownReferenceIdeal.Read
public import proofs.«01_k».proof.Proof.Gen.On_valid_rows
public import proofs.«01_k».proof.Proof.Gen.On_down_rows
public import proofs.«01_k».proof.Proof.Gen.On_hgrn_rows
public import proofs.«01_k».proof.Proof.Gen.Pre_expert_range
public import proofs.«01_k».proof.Proof.Gen.Pre_down_range
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.WideProj
public import proofs.«01_k».proof.Proof.Gen.WideProj.Frame
public import proofs.«01_k».proof.Proof.Gen.WideProjIdeal
public import proofs.«01_k».proof.Proof.Gen.WideProjIdeal.Frame
public import proofs.«01_k».proof.Proof.Gen.WideProjIdeal.Value
public import proofs.«01_k».proof.Proof.Gen.WideProjReferenceIdeal
public import proofs.«01_k».proof.Proof.Gen.WideProjReferenceIdeal.Run
public import proofs.«01_k».proof.Proof.Gen.WideProjReferenceIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.HyenaOut
public import proofs.«01_k».proof.Proof.Gen.HyenaOut.Frame
public import proofs.«01_k».proof.Proof.Gen.HyenaOutIdeal
public import proofs.«01_k».proof.Proof.Gen.HyenaOutIdeal.Frame
public import proofs.«01_k».proof.Proof.Gen.HyenaOutIdeal.Value
public import proofs.«01_k».proof.Proof.Gen.HyenaOutReferenceIdeal
public import proofs.«01_k».proof.Proof.Gen.HyenaOutReferenceIdeal.Run
public import proofs.«01_k».proof.Proof.Gen.HyenaOutReferenceIdeal.Read
public import proofs.«01_k».proof.Proof.Gen.RProj
public import proofs.«01_k».proof.Proof.Gen.RProj.Frame
public import proofs.«01_k».proof.Proof.Gen.RProjIdeal
public import proofs.«01_k».proof.Proof.Gen.RProjIdeal.Frame
public import proofs.«01_k».proof.Proof.Gen.RProjIdeal.Value
public import proofs.«01_k».proof.Proof.Gen.RProjReferenceIdeal
public import proofs.«01_k».proof.Proof.Gen.RProjReferenceIdeal.Run
public import proofs.«01_k».proof.Proof.Gen.RProjReferenceIdeal.Read
public import proofs.«01_k».proof.Proof.Gen.KeyProj
public import proofs.«01_k».proof.Proof.Gen.KeyProj.Frame
public import proofs.«01_k».proof.Proof.Gen.KeyProjIdeal
public import proofs.«01_k».proof.Proof.Gen.KeyProjIdeal.Frame
public import proofs.«01_k».proof.Proof.Gen.KeyProjIdeal.Value
public import proofs.«01_k».proof.Proof.Gen.KeyProjReferenceIdeal
public import proofs.«01_k».proof.Proof.Gen.KeyProjReferenceIdeal.Run
public import proofs.«01_k».proof.Proof.Gen.KeyProjReferenceIdeal.Read
public import proofs.«01_k».proof.Proof.Gen.ValProj
public import proofs.«01_k».proof.Proof.Gen.ValProj.Frame
public import proofs.«01_k».proof.Proof.Gen.ValProjIdeal
public import proofs.«01_k».proof.Proof.Gen.ValProjIdeal.Frame
public import proofs.«01_k».proof.Proof.Gen.ValProjIdeal.Value
public import proofs.«01_k».proof.Proof.Gen.ValProjReferenceIdeal
public import proofs.«01_k».proof.Proof.Gen.ValProjReferenceIdeal.Run
public import proofs.«01_k».proof.Proof.Gen.ValProjReferenceIdeal.Read
public import proofs.«01_k».proof.Proof.Gen.LowProj
public import proofs.«01_k».proof.Proof.Gen.LowProj.Frame
public import proofs.«01_k».proof.Proof.Gen.LowProjIdeal
public import proofs.«01_k».proof.Proof.Gen.LowProjIdeal.Frame
public import proofs.«01_k».proof.Proof.Gen.LowProjIdeal.Value
public import proofs.«01_k».proof.Proof.Gen.LowProjReferenceIdeal
public import proofs.«01_k».proof.Proof.Gen.LowProjReferenceIdeal.Run
public import proofs.«01_k».proof.Proof.Gen.LowProjReferenceIdeal.Read
public import proofs.«01_k».proof.Proof.Gen.GkProj
public import proofs.«01_k».proof.Proof.Gen.GkProj.Frame
public import proofs.«01_k».proof.Proof.Gen.GkProjIdeal
public import proofs.«01_k».proof.Proof.Gen.GkProjIdeal.Frame
public import proofs.«01_k».proof.Proof.Gen.GkProjIdeal.Value
public import proofs.«01_k».proof.Proof.Gen.GkProjReferenceIdeal
public import proofs.«01_k».proof.Proof.Gen.GkProjReferenceIdeal.Run
public import proofs.«01_k».proof.Proof.Gen.GkProjReferenceIdeal.Read
public import proofs.«01_k».proof.Proof.Gen.GateIn
public import proofs.«01_k».proof.Proof.Gen.GateIn.Frame
public import proofs.«01_k».proof.Proof.Gen.GateInIdeal
public import proofs.«01_k».proof.Proof.Gen.GateInIdeal.Frame
public import proofs.«01_k».proof.Proof.Gen.GateInIdeal.Value
public import proofs.«01_k».proof.Proof.Gen.GateInReferenceIdeal
public import proofs.«01_k».proof.Proof.Gen.GateInReferenceIdeal.Run
public import proofs.«01_k».proof.Proof.Gen.GateInReferenceIdeal.Read
public import proofs.«01_k».proof.Proof.Gen.GateOut
public import proofs.«01_k».proof.Proof.Gen.GateOut.Frame
public import proofs.«01_k».proof.Proof.Gen.GateOutIdeal
public import proofs.«01_k».proof.Proof.Gen.GateOutIdeal.Frame
public import proofs.«01_k».proof.Proof.Gen.GateOutIdeal.Value
public import proofs.«01_k».proof.Proof.Gen.GateOutReferenceIdeal
public import proofs.«01_k».proof.Proof.Gen.GateOutReferenceIdeal.Run
public import proofs.«01_k».proof.Proof.Gen.GateOutReferenceIdeal.Read
public import proofs.«01_k».proof.Proof.Gen.DecayIn
public import proofs.«01_k».proof.Proof.Gen.DecayIn.Frame
public import proofs.«01_k».proof.Proof.Gen.DecayInIdeal
public import proofs.«01_k».proof.Proof.Gen.DecayInIdeal.Frame
public import proofs.«01_k».proof.Proof.Gen.DecayInIdeal.Value
public import proofs.«01_k».proof.Proof.Gen.DecayInReferenceIdeal
public import proofs.«01_k».proof.Proof.Gen.DecayInReferenceIdeal.Run
public import proofs.«01_k».proof.Proof.Gen.DecayInReferenceIdeal.Read
public import proofs.«01_k».proof.Proof.Gen.RateIn
public import proofs.«01_k».proof.Proof.Gen.RateIn.Frame
public import proofs.«01_k».proof.Proof.Gen.RateInIdeal
public import proofs.«01_k».proof.Proof.Gen.RateInIdeal.Frame
public import proofs.«01_k».proof.Proof.Gen.RateInIdeal.Value
public import proofs.«01_k».proof.Proof.Gen.RateInReferenceIdeal
public import proofs.«01_k».proof.Proof.Gen.RateInReferenceIdeal.Run
public import proofs.«01_k».proof.Proof.Gen.RateInReferenceIdeal.Read
public import proofs.«01_k».proof.Proof.Gen.RateOut
public import proofs.«01_k».proof.Proof.Gen.RateOut.Frame
public import proofs.«01_k».proof.Proof.Gen.RateOutIdeal
public import proofs.«01_k».proof.Proof.Gen.RateOutIdeal.Frame
public import proofs.«01_k».proof.Proof.Gen.RateOutIdeal.Value
public import proofs.«01_k».proof.Proof.Gen.RateOutReferenceIdeal
public import proofs.«01_k».proof.Proof.Gen.RateOutReferenceIdeal.Run
public import proofs.«01_k».proof.Proof.Gen.RateOutReferenceIdeal.Read
public import proofs.«01_k».proof.Proof.Gen.NormPrompt
public import proofs.«01_k».proof.Proof.Gen.NormPrompt.Frame
public import proofs.«01_k».proof.Proof.Gen.NormPromptIdeal
public import proofs.«01_k».proof.Proof.Gen.NormPromptIdeal.Frame
public import proofs.«01_k».proof.Proof.Gen.NormPromptIdeal.Value
public import proofs.«01_k».proof.Proof.Gen.NormPromptReferenceIdeal
public import proofs.«01_k».proof.Proof.Gen.NormPromptReferenceIdeal.Run
public import proofs.«01_k».proof.Proof.Gen.NormPromptReferenceIdeal.Read
public import proofs.«01_k».proof.Proof.Gen.NormSample
public import proofs.«01_k».proof.Proof.Gen.NormSample.Frame
public import proofs.«01_k».proof.Proof.Gen.NormSampleIdeal
public import proofs.«01_k».proof.Proof.Gen.NormSampleIdeal.Frame
public import proofs.«01_k».proof.Proof.Gen.NormSampleIdeal.Value
public import proofs.«01_k».proof.Proof.Gen.NormSampleReferenceIdeal
public import proofs.«01_k».proof.Proof.Gen.NormSampleReferenceIdeal.Run
public import proofs.«01_k».proof.Proof.Gen.NormSampleReferenceIdeal.Read
public import proofs.«01_k».proof.Proof.Gen.NormMod
public import proofs.«01_k».proof.Proof.Gen.NormMod.Frame
public import proofs.«01_k».proof.Proof.Gen.NormModIdeal
public import proofs.«01_k».proof.Proof.Gen.NormModIdeal.Frame
public import proofs.«01_k».proof.Proof.Gen.NormModIdeal.Value
public import proofs.«01_k».proof.Proof.Gen.NormModReferenceIdeal
public import proofs.«01_k».proof.Proof.Gen.NormModReferenceIdeal.Run
public import proofs.«01_k».proof.Proof.Gen.NormModReferenceIdeal.Read
public import proofs.«01_k».proof.Proof.Gen.NormRw
public import proofs.«01_k».proof.Proof.Gen.NormRw.Frame
public import proofs.«01_k».proof.Proof.Gen.NormRwIdeal
public import proofs.«01_k».proof.Proof.Gen.NormRwIdeal.Frame
public import proofs.«01_k».proof.Proof.Gen.NormRwIdeal.Value
public import proofs.«01_k».proof.Proof.Gen.NormRwReferenceIdeal
public import proofs.«01_k».proof.Proof.Gen.NormRwReferenceIdeal.Run
public import proofs.«01_k».proof.Proof.Gen.NormRwReferenceIdeal.Read
public import proofs.«01_k».proof.Proof.Gen.Back
public import proofs.«01_k».proof.Proof.Gen.Back.Frame
public import proofs.«01_k».proof.Proof.Gen.BackIdeal
public import proofs.«01_k».proof.Proof.Gen.BackIdeal.Frame
public import proofs.«01_k».proof.Proof.Gen.BackIdeal.Value
public import proofs.«01_k».proof.Proof.Gen.BackReferenceIdeal
public import proofs.«01_k».proof.Proof.Gen.BackReferenceIdeal.Run
public import proofs.«01_k».proof.Proof.Gen.BackReferenceIdeal.Read
public import proofs.«01_k».proof.Proof.Gen.Hgrn
public import proofs.«01_k».proof.Proof.Gen.Hgrn.Frame
public import proofs.«01_k».proof.Proof.Gen.HgrnIdeal
public import proofs.«01_k».proof.Proof.Gen.HgrnIdeal.Frame
public import proofs.«01_k».proof.Proof.Gen.HgrnIdeal.Value
public import proofs.«01_k».proof.Proof.Gen.HgrnReferenceIdeal
public import proofs.«01_k».proof.Proof.Gen.HgrnReferenceIdeal.Run
public import proofs.«01_k».proof.Proof.Gen.HgrnReferenceIdeal.Read
public import proofs.«01_k».proof.Proof.Gen.HgrnBack
public import proofs.«01_k».proof.Proof.Gen.HgrnBack.Frame
public import proofs.«01_k».proof.Proof.Gen.HgrnBackIdeal
public import proofs.«01_k».proof.Proof.Gen.HgrnBackIdeal.Frame
public import proofs.«01_k».proof.Proof.Gen.HgrnBackIdeal.Value
public import proofs.«01_k».proof.Proof.Gen.HgrnBackReferenceIdeal
public import proofs.«01_k».proof.Proof.Gen.HgrnBackReferenceIdeal.Run
public import proofs.«01_k».proof.Proof.Gen.HgrnBackReferenceIdeal.Read
public import proofs.«01_k».proof.Proof.Algebraic
public import proofs.«01_k».proof.Proof.UpReference
public import proofs.«01_k».proof.Proof.DownReference
public import proofs.«01_k».proof.Proof.ExpertUpAlgebraic
public import proofs.«01_k».proof.Proof.ExpertDownAlgebraic
public import proofs.«01_k».proof.Proof.InProjReference
public import proofs.«01_k».proof.Proof.WideProjReference
public import proofs.«01_k».proof.Proof.OutProjReference
public import proofs.«01_k».proof.Proof.HyenaOutReference
public import proofs.«01_k».proof.Proof.RProjReference
public import proofs.«01_k».proof.Proof.KeyProjReference
public import proofs.«01_k».proof.Proof.ValProjReference
public import proofs.«01_k».proof.Proof.LowProjReference
public import proofs.«01_k».proof.Proof.GkProjReference
public import proofs.«01_k».proof.Proof.GateInReference
public import proofs.«01_k».proof.Proof.GateOutReference
public import proofs.«01_k».proof.Proof.DecayInReference
public import proofs.«01_k».proof.Proof.RateInReference
public import proofs.«01_k».proof.Proof.RateOutReference
public import proofs.«01_k».proof.Proof.NormPromptReference
public import proofs.«01_k».proof.Proof.NormSampleReference
public import proofs.«01_k».proof.Proof.NormModReference
public import proofs.«01_k».proof.Proof.NormRwReference
public import proofs.«01_k».proof.Proof.BackAlgebraic
public import proofs.«01_k».proof.Proof.HgrnAlgebraic
public import proofs.«01_k».proof.Proof.HgrnBackAlgebraic
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference is a straight-line host program without semaphores: its run keeps the arguments. -/
theorem frame_reference : Cert.quiescent_ReferenceIdeal := by
  intro m g _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts, Cert.Up.Gen.facts,
  Cert.UpIdeal.Gen.facts, Cert.UpReferenceIdeal.Gen.facts, Cert.Down.Gen.facts, Cert.DownIdeal.Gen.facts,
  Cert.DownReferenceIdeal.Gen.facts, Cert.ExpertUp.Gen.facts, Cert.ExpertUpIdeal.Gen.facts, Cert.ExpertUpReferenceIdeal.Gen.facts,
  Cert.ExpertDown.Gen.facts, Cert.ExpertDownIdeal.Gen.facts, Cert.ExpertDownReferenceIdeal.Gen.facts, Cert.InProj.Gen.facts,
  Cert.InProjIdeal.Gen.facts, Cert.InProjReferenceIdeal.Gen.facts, Cert.WideProj.Gen.facts, Cert.WideProjIdeal.Gen.facts,
  Cert.WideProjReferenceIdeal.Gen.facts, Cert.OutProj.Gen.facts, Cert.OutProjIdeal.Gen.facts, Cert.OutProjReferenceIdeal.Gen.facts,
  Cert.HyenaOut.Gen.facts, Cert.HyenaOutIdeal.Gen.facts, Cert.HyenaOutReferenceIdeal.Gen.facts, Cert.RProj.Gen.facts,
  Cert.RProjIdeal.Gen.facts, Cert.RProjReferenceIdeal.Gen.facts, Cert.KeyProj.Gen.facts, Cert.KeyProjIdeal.Gen.facts,
  Cert.KeyProjReferenceIdeal.Gen.facts, Cert.ValProj.Gen.facts, Cert.ValProjIdeal.Gen.facts, Cert.ValProjReferenceIdeal.Gen.facts,
  Cert.LowProj.Gen.facts, Cert.LowProjIdeal.Gen.facts, Cert.LowProjReferenceIdeal.Gen.facts, Cert.GkProj.Gen.facts,
  Cert.GkProjIdeal.Gen.facts, Cert.GkProjReferenceIdeal.Gen.facts, Cert.GateIn.Gen.facts, Cert.GateInIdeal.Gen.facts,
  Cert.GateInReferenceIdeal.Gen.facts, Cert.GateOut.Gen.facts, Cert.GateOutIdeal.Gen.facts, Cert.GateOutReferenceIdeal.Gen.facts,
  Cert.DecayIn.Gen.facts, Cert.DecayInIdeal.Gen.facts, Cert.DecayInReferenceIdeal.Gen.facts, Cert.RateIn.Gen.facts,
  Cert.RateInIdeal.Gen.facts, Cert.RateInReferenceIdeal.Gen.facts, Cert.RateOut.Gen.facts, Cert.RateOutIdeal.Gen.facts,
  Cert.RateOutReferenceIdeal.Gen.facts, Cert.NormPrompt.Gen.facts, Cert.NormPromptIdeal.Gen.facts, Cert.NormPromptReferenceIdeal.Gen.facts,
  Cert.NormSample.Gen.facts, Cert.NormSampleIdeal.Gen.facts, Cert.NormSampleReferenceIdeal.Gen.facts, Cert.NormMod.Gen.facts,
  Cert.NormModIdeal.Gen.facts, Cert.NormModReferenceIdeal.Gen.facts, Cert.NormRw.Gen.facts, Cert.NormRwIdeal.Gen.facts,
  Cert.NormRwReferenceIdeal.Gen.facts, Cert.Back.Gen.facts, Cert.BackIdeal.Gen.facts, Cert.BackReferenceIdeal.Gen.facts,
  Cert.Hgrn.Gen.facts, Cert.HgrnIdeal.Gen.facts, Cert.HgrnReferenceIdeal.Gen.facts, Cert.HgrnBack.Gen.facts,
  Cert.HgrnBackIdeal.Gen.facts, Cert.HgrnBackReferenceIdeal.Gen.facts, Cert.Pre_expert_range.Gen.facts, Cert.Pre_down_range.Gen.facts,
  Cert.On_prompt_rows.Gen.facts, Cert.On_valid_rows.Gen.facts, Cert.On_down_rows.Gen.facts, Cert.On_hgrn_rows.Gen.facts,
  fun m ρ _ => Cert.Kernel.Gen.frame m ρ, fun m ρ _ => Cert.KernelIdeal.Gen.frame m ρ, frame_reference, fun m ρ _ => Cert.Up.Gen.frame m ρ,
  fun m ρ _ => Cert.UpIdeal.Gen.frame m ρ, frame_upReference, fun m ρ _ => Cert.Down.Gen.frame m ρ, fun m ρ _ => Cert.DownIdeal.Gen.frame m ρ,
  frame_downReference, frame_expertUp, frame_expertUpIdeal, frame_expertUpReference,
  frame_expertUpReference_range, frame_expertDown, frame_expertDownIdeal, frame_expertDownReference,
  frame_expertDownReference_range, fun m ρ _ => Cert.InProj.Gen.frame m ρ, fun m ρ _ => Cert.InProjIdeal.Gen.frame m ρ, frame_inProjReference,
  fun m ρ _ => Cert.WideProj.Gen.frame m ρ, fun m ρ _ => Cert.WideProjIdeal.Gen.frame m ρ, frame_wideProjReference, fun m ρ _ => Cert.OutProj.Gen.frame m ρ,
  fun m ρ _ => Cert.OutProjIdeal.Gen.frame m ρ, frame_outProjReference, fun m ρ _ => Cert.HyenaOut.Gen.frame m ρ, fun m ρ _ => Cert.HyenaOutIdeal.Gen.frame m ρ,
  frame_hyenaOutReference, fun m ρ _ => Cert.RProj.Gen.frame m ρ, fun m ρ _ => Cert.RProjIdeal.Gen.frame m ρ, frame_rProjReference,
  fun m ρ _ => Cert.KeyProj.Gen.frame m ρ, fun m ρ _ => Cert.KeyProjIdeal.Gen.frame m ρ, frame_keyProjReference, fun m ρ _ => Cert.ValProj.Gen.frame m ρ,
  fun m ρ _ => Cert.ValProjIdeal.Gen.frame m ρ, frame_valProjReference, fun m ρ _ => Cert.LowProj.Gen.frame m ρ, fun m ρ _ => Cert.LowProjIdeal.Gen.frame m ρ,
  frame_lowProjReference, fun m ρ _ => Cert.GkProj.Gen.frame m ρ, fun m ρ _ => Cert.GkProjIdeal.Gen.frame m ρ, frame_gkProjReference,
  fun m ρ _ => Cert.GateIn.Gen.frame m ρ, fun m ρ _ => Cert.GateInIdeal.Gen.frame m ρ, frame_gateInReference, fun m ρ _ => Cert.GateOut.Gen.frame m ρ,
  fun m ρ _ => Cert.GateOutIdeal.Gen.frame m ρ, frame_gateOutReference, fun m ρ _ => Cert.DecayIn.Gen.frame m ρ, fun m ρ _ => Cert.DecayInIdeal.Gen.frame m ρ,
  frame_decayInReference, fun m ρ _ => Cert.RateIn.Gen.frame m ρ, fun m ρ _ => Cert.RateInIdeal.Gen.frame m ρ, frame_rateInReference,
  fun m ρ _ => Cert.RateOut.Gen.frame m ρ, fun m ρ _ => Cert.RateOutIdeal.Gen.frame m ρ, frame_rateOutReference, fun m ρ _ => Cert.NormPrompt.Gen.frame m ρ,
  fun m ρ _ => Cert.NormPromptIdeal.Gen.frame m ρ, frame_normPromptReference, fun m ρ _ => Cert.NormSample.Gen.frame m ρ, fun m ρ _ => Cert.NormSampleIdeal.Gen.frame m ρ,
  frame_normSampleReference, fun m ρ _ => Cert.NormMod.Gen.frame m ρ, fun m ρ _ => Cert.NormModIdeal.Gen.frame m ρ, frame_normModReference,
  fun m ρ _ => Cert.NormRw.Gen.frame m ρ, fun m ρ _ => Cert.NormRwIdeal.Gen.frame m ρ, frame_normRwReference, fun m ρ _ => Cert.Back.Gen.frame m ρ,
  fun m ρ _ => Cert.BackIdeal.Gen.frame m ρ, frame_backReference, fun m ρ _ => Cert.Hgrn.Gen.frame m ρ, fun m ρ _ => Cert.HgrnIdeal.Gen.frame m ρ,
  frame_hgrnReference, fun m ρ _ => Cert.HgrnBack.Gen.frame m ρ, fun m ρ _ => Cert.HgrnBackIdeal.Gen.frame m ρ, frame_hgrnBackReference,
  trivial, algebraic, trivial, algebraic_up,
  trivial, algebraic_down, trivial, algebraic_expertUp,
  trivial, algebraic_expertDown, trivial, algebraic_inProj,
  trivial, algebraic_wideProj, trivial, algebraic_outProj,
  trivial, algebraic_hyenaOut, trivial, algebraic_rProj,
  trivial, algebraic_keyProj, trivial, algebraic_valProj,
  trivial, algebraic_lowProj, trivial, algebraic_gkProj,
  trivial, algebraic_gateIn, trivial, algebraic_gateOut,
  trivial, algebraic_decayIn, trivial, algebraic_rateIn,
  trivial, algebraic_rateOut, trivial, algebraic_normPrompt,
  trivial, algebraic_normSample, trivial, algebraic_normMod,
  trivial, algebraic_normRw, trivial, algebraic_back,
  trivial, algebraic_hgrn, trivial, algebraic_hgrnBack⟩

end Cert.Proof

end
